-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Kernel28Ideal_finite_scores [hPre_finite_scores : Cert.Pre_finite_scores.Facts] (m : (ℓ : Loc Cert.Kernel28Ideal.nD Cert.Kernel28Ideal.τ Cert.Kernel28Ideal.sig) → Buf (Elt Ideal) ℓ) : Prop :=
  ∀ c : Dev Cert.Kernel28Ideal.nD,
    (Cert.Pre_finite_scores.fn (F := Ideal) (m ((c.tc : Thread Cert.Kernel28Ideal.nD Cert.Kernel28Ideal.τ).loc Cert.Kernel28Ideal.main_arg0)) (m ((c.tc : Thread Cert.Kernel28Ideal.nD Cert.Kernel28Ideal.τ).loc Cert.Kernel28Ideal.main_arg1)) (m ((c.tc : Thread Cert.Kernel28Ideal.nD Cert.Kernel28Ideal.τ).loc Cert.Kernel28Ideal.main_arg2)) (m ((c.tc : Thread Cert.Kernel28Ideal.nD Cert.Kernel28Ideal.τ).loc Cert.Kernel28Ideal.main_arg3)) (m ((c.tc : Thread Cert.Kernel28Ideal.nD Cert.Kernel28Ideal.τ).loc Cert.Kernel28Ideal.main_arg4))) = (fun _ => 1#1)

def Pre_Reference28Ideal (m : (ℓ : Loc Cert.Reference28Ideal.nD Cert.Reference28Ideal.τ Cert.Reference28Ideal.sig) → Buf (Elt Ideal) ℓ) : Prop :=
  True

def Pre_Reference28Ideal_finite_scores [hPre_finite_scores : Cert.Pre_finite_scores.Facts] (m : (ℓ : Loc Cert.Reference28Ideal.nD Cert.Reference28Ideal.τ Cert.Reference28Ideal.sig) → Buf (Elt Ideal) ℓ) : Prop :=
  ∀ c : Dev Cert.Reference28Ideal.nD,
    (Cert.Pre_finite_scores.fn (F := Ideal) (m ((c.tc : Thread Cert.Reference28Ideal.nD Cert.Reference28Ideal.τ).loc Cert.Reference28Ideal.main_arg0)) (m ((c.tc : Thread Cert.Reference28Ideal.nD Cert.Reference28Ideal.τ).loc Cert.Reference28Ideal.main_arg1)) (m ((c.tc : Thread Cert.Reference28Ideal.nD Cert.Reference28Ideal.τ).loc Cert.Reference28Ideal.main_arg2)) (m ((c.tc : Thread Cert.Reference28Ideal.nD Cert.Reference28Ideal.τ).loc Cert.Reference28Ideal.main_arg3)) (m ((c.tc : Thread Cert.Reference28Ideal.nD Cert.Reference28Ideal.τ).loc Cert.Reference28Ideal.main_arg4))) = (fun _ => 1#1)

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Kernel29Ideal_finite_scores [hPre_finite_scores : Cert.Pre_finite_scores.Facts] (m : (ℓ : Loc Cert.Kernel29Ideal.nD Cert.Kernel29Ideal.τ Cert.Kernel29Ideal.sig) → Buf (Elt Ideal) ℓ) : Prop :=
  ∀ c : Dev Cert.Kernel29Ideal.nD,
    (Cert.Pre_finite_scores.fn (F := Ideal) (m ((c.tc : Thread Cert.Kernel29Ideal.nD Cert.Kernel29Ideal.τ).loc Cert.Kernel29Ideal.main_arg0)) (m ((c.tc : Thread Cert.Kernel29Ideal.nD Cert.Kernel29Ideal.τ).loc Cert.Kernel29Ideal.main_arg1)) (m ((c.tc : Thread Cert.Kernel29Ideal.nD Cert.Kernel29Ideal.τ).loc Cert.Kernel29Ideal.main_arg2)) (m ((c.tc : Thread Cert.Kernel29Ideal.nD Cert.Kernel29Ideal.τ).loc Cert.Kernel29Ideal.main_arg3)) (m ((c.tc : Thread Cert.Kernel29Ideal.nD Cert.Kernel29Ideal.τ).loc Cert.Kernel29Ideal.main_arg4))) = (fun _ => 1#1)

def Pre_Reference29Ideal (m : (ℓ : Loc Cert.Reference29Ideal.nD Cert.Reference29Ideal.τ Cert.Reference29Ideal.sig) → Buf (Elt Ideal) ℓ) : Prop :=
  True

def Pre_Reference29Ideal_finite_scores [hPre_finite_scores : Cert.Pre_finite_scores.Facts] (m : (ℓ : Loc Cert.Reference29Ideal.nD Cert.Reference29Ideal.τ Cert.Reference29Ideal.sig) → Buf (Elt Ideal) ℓ) : Prop :=
  ∀ c : Dev Cert.Reference29Ideal.nD,
    (Cert.Pre_finite_scores.fn (F := Ideal) (m ((c.tc : Thread Cert.Reference29Ideal.nD Cert.Reference29Ideal.τ).loc Cert.Reference29Ideal.main_arg0)) (m ((c.tc : Thread Cert.Reference29Ideal.nD Cert.Reference29Ideal.τ).loc Cert.Reference29Ideal.main_arg1)) (m ((c.tc : Thread Cert.Reference29Ideal.nD Cert.Reference29Ideal.τ).loc Cert.Reference29Ideal.main_arg2)) (m ((c.tc : Thread Cert.Reference29Ideal.nD Cert.Reference29Ideal.τ).loc Cert.Reference29Ideal.main_arg3)) (m ((c.tc : Thread Cert.Reference29Ideal.nD Cert.Reference29Ideal.τ).loc Cert.Reference29Ideal.main_arg4))) = (fun _ => 1#1)

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Kernel30Ideal_finite_scores [hPre_finite_scores : Cert.Pre_finite_scores.Facts] (m : (ℓ : Loc Cert.Kernel30Ideal.nD Cert.Kernel30Ideal.τ Cert.Kernel30Ideal.sig) → Buf (Elt Ideal) ℓ) : Prop :=
  ∀ c : Dev Cert.Kernel30Ideal.nD,
    (Cert.Pre_finite_scores.fn (F := Ideal) (m ((c.tc : Thread Cert.Kernel30Ideal.nD Cert.Kernel30Ideal.τ).loc Cert.Kernel30Ideal.main_arg0)) (m ((c.tc : Thread Cert.Kernel30Ideal.nD Cert.Kernel30Ideal.τ).loc Cert.Kernel30Ideal.main_arg1)) (m ((c.tc : Thread Cert.Kernel30Ideal.nD Cert.Kernel30Ideal.τ).loc Cert.Kernel30Ideal.main_arg2)) (m ((c.tc : Thread Cert.Kernel30Ideal.nD Cert.Kernel30Ideal.τ).loc Cert.Kernel30Ideal.main_arg3)) (m ((c.tc : Thread Cert.Kernel30Ideal.nD Cert.Kernel30Ideal.τ).loc Cert.Kernel30Ideal.main_arg4))) = (fun _ => 1#1)

def Pre_Reference30Ideal (m : (ℓ : Loc Cert.Reference30Ideal.nD Cert.Reference30Ideal.τ Cert.Reference30Ideal.sig) → Buf (Elt Ideal) ℓ) : Prop :=
  True

def Pre_Reference30Ideal_finite_scores [hPre_finite_scores : Cert.Pre_finite_scores.Facts] (m : (ℓ : Loc Cert.Reference30Ideal.nD Cert.Reference30Ideal.τ Cert.Reference30Ideal.sig) → Buf (Elt Ideal) ℓ) : Prop :=
  ∀ c : Dev Cert.Reference30Ideal.nD,
    (Cert.Pre_finite_scores.fn (F := Ideal) (m ((c.tc : Thread Cert.Reference30Ideal.nD Cert.Reference30Ideal.τ).loc Cert.Reference30Ideal.main_arg0)) (m ((c.tc : Thread Cert.Reference30Ideal.nD Cert.Reference30Ideal.τ).loc Cert.Reference30Ideal.main_arg1)) (m ((c.tc : Thread Cert.Reference30Ideal.nD Cert.Reference30Ideal.τ).loc Cert.Reference30Ideal.main_arg2)) (m ((c.tc : Thread Cert.Reference30Ideal.nD Cert.Reference30Ideal.τ).loc Cert.Reference30Ideal.main_arg3)) (m ((c.tc : Thread Cert.Reference30Ideal.nD Cert.Reference30Ideal.τ).loc Cert.Reference30Ideal.main_arg4))) = (fun _ => 1#1)

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Kernel31Ideal_finite_scores [hPre_finite_scores : Cert.Pre_finite_scores.Facts] (m : (ℓ : Loc Cert.Kernel31Ideal.nD Cert.Kernel31Ideal.τ Cert.Kernel31Ideal.sig) → Buf (Elt Ideal) ℓ) : Prop :=
  ∀ c : Dev Cert.Kernel31Ideal.nD,
    (Cert.Pre_finite_scores.fn (F := Ideal) (m ((c.tc : Thread Cert.Kernel31Ideal.nD Cert.Kernel31Ideal.τ).loc Cert.Kernel31Ideal.main_arg0)) (m ((c.tc : Thread Cert.Kernel31Ideal.nD Cert.Kernel31Ideal.τ).loc Cert.Kernel31Ideal.main_arg1)) (m ((c.tc : Thread Cert.Kernel31Ideal.nD Cert.Kernel31Ideal.τ).loc Cert.Kernel31Ideal.main_arg2)) (m ((c.tc : Thread Cert.Kernel31Ideal.nD Cert.Kernel31Ideal.τ).loc Cert.Kernel31Ideal.main_arg3)) (m ((c.tc : Thread Cert.Kernel31Ideal.nD Cert.Kernel31Ideal.τ).loc Cert.Kernel31Ideal.main_arg4))) = (fun _ => 1#1)

def Pre_Reference31Ideal (m : (ℓ : Loc Cert.Reference31Ideal.nD Cert.Reference31Ideal.τ Cert.Reference31Ideal.sig) → Buf (Elt Ideal) ℓ) : Prop :=
  True

def Pre_Reference31Ideal_finite_scores [hPre_finite_scores : Cert.Pre_finite_scores.Facts] (m : (ℓ : Loc Cert.Reference31Ideal.nD Cert.Reference31Ideal.τ Cert.Reference31Ideal.sig) → Buf (Elt Ideal) ℓ) : Prop :=
  ∀ c : Dev Cert.Reference31Ideal.nD,
    (Cert.Pre_finite_scores.fn (F := Ideal) (m ((c.tc : Thread Cert.Reference31Ideal.nD Cert.Reference31Ideal.τ).loc Cert.Reference31Ideal.main_arg0)) (m ((c.tc : Thread Cert.Reference31Ideal.nD Cert.Reference31Ideal.τ).loc Cert.Reference31Ideal.main_arg1)) (m ((c.tc : Thread Cert.Reference31Ideal.nD Cert.Reference31Ideal.τ).loc Cert.Reference31Ideal.main_arg2)) (m ((c.tc : Thread Cert.Reference31Ideal.nD Cert.Reference31Ideal.τ).loc Cert.Reference31Ideal.main_arg3)) (m ((c.tc : Thread Cert.Reference31Ideal.nD Cert.Reference31Ideal.τ).loc Cert.Reference31Ideal.main_arg4))) = (fun _ => 1#1)

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Kernel32Ideal_finite_sums [hPre_finite_sums : Cert.Pre_finite_sums.Facts] (m : (ℓ : Loc Cert.Kernel32Ideal.nD Cert.Kernel32Ideal.τ Cert.Kernel32Ideal.sig) → Buf (Elt Ideal) ℓ) : Prop :=
  ∀ c : Dev Cert.Kernel32Ideal.nD,
    (Cert.Pre_finite_sums.fn (F := Ideal) (m ((c.tc : Thread Cert.Kernel32Ideal.nD Cert.Kernel32Ideal.τ).loc Cert.Kernel32Ideal.main_arg0)) (m ((c.tc : Thread Cert.Kernel32Ideal.nD Cert.Kernel32Ideal.τ).loc Cert.Kernel32Ideal.main_arg1)) (m ((c.tc : Thread Cert.Kernel32Ideal.nD Cert.Kernel32Ideal.τ).loc Cert.Kernel32Ideal.main_arg2)) (m ((c.tc : Thread Cert.Kernel32Ideal.nD Cert.Kernel32Ideal.τ).loc Cert.Kernel32Ideal.main_arg3)) (m ((c.tc : Thread Cert.Kernel32Ideal.nD Cert.Kernel32Ideal.τ).loc Cert.Kernel32Ideal.main_arg4)) (m ((c.tc : Thread Cert.Kernel32Ideal.nD Cert.Kernel32Ideal.τ).loc Cert.Kernel32Ideal.main_arg5)) (m ((c.tc : Thread Cert.Kernel32Ideal.nD Cert.Kernel32Ideal.τ).loc Cert.Kernel32Ideal.main_arg6)) (m ((c.tc : Thread Cert.Kernel32Ideal.nD Cert.Kernel32Ideal.τ).loc Cert.Kernel32Ideal.main_arg7)) (m ((c.tc : Thread Cert.Kernel32Ideal.nD Cert.Kernel32Ideal.τ).loc Cert.Kernel32Ideal.main_arg8)) (m ((c.tc : Thread Cert.Kernel32Ideal.nD Cert.Kernel32Ideal.τ).loc Cert.Kernel32Ideal.main_arg9))) = (fun _ => 1#1)

def Pre_Reference32Ideal (m : (ℓ : Loc Cert.Reference32Ideal.nD Cert.Reference32Ideal.τ Cert.Reference32Ideal.sig) → Buf (Elt Ideal) ℓ) : Prop :=
  True

def Pre_Reference32Ideal_finite_sums [hPre_finite_sums : Cert.Pre_finite_sums.Facts] (m : (ℓ : Loc Cert.Reference32Ideal.nD Cert.Reference32Ideal.τ Cert.Reference32Ideal.sig) → Buf (Elt Ideal) ℓ) : Prop :=
  ∀ c : Dev Cert.Reference32Ideal.nD,
    (Cert.Pre_finite_sums.fn (F := Ideal) (m ((c.tc : Thread Cert.Reference32Ideal.nD Cert.Reference32Ideal.τ).loc Cert.Reference32Ideal.main_arg0)) (m ((c.tc : Thread Cert.Reference32Ideal.nD Cert.Reference32Ideal.τ).loc Cert.Reference32Ideal.main_arg1)) (m ((c.tc : Thread Cert.Reference32Ideal.nD Cert.Reference32Ideal.τ).loc Cert.Reference32Ideal.main_arg2)) (m ((c.tc : Thread Cert.Reference32Ideal.nD Cert.Reference32Ideal.τ).loc Cert.Reference32Ideal.main_arg3)) (m ((c.tc : Thread Cert.Reference32Ideal.nD Cert.Reference32Ideal.τ).loc Cert.Reference32Ideal.main_arg4)) (m ((c.tc : Thread Cert.Reference32Ideal.nD Cert.Reference32Ideal.τ).loc Cert.Reference32Ideal.main_arg5)) (m ((c.tc : Thread Cert.Reference32Ideal.nD Cert.Reference32Ideal.τ).loc Cert.Reference32Ideal.main_arg6)) (m ((c.tc : Thread Cert.Reference32Ideal.nD Cert.Reference32Ideal.τ).loc Cert.Reference32Ideal.main_arg7)) (m ((c.tc : Thread Cert.Reference32Ideal.nD Cert.Reference32Ideal.τ).loc Cert.Reference32Ideal.main_arg8)) (m ((c.tc : Thread Cert.Reference32Ideal.nD Cert.Reference32Ideal.τ).loc Cert.Reference32Ideal.main_arg9))) = (fun _ => 1#1)

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Kernel33Ideal_finite_sums_g1 [hPre_finite_sums_g1 : Cert.Pre_finite_sums_g1.Facts] (m : (ℓ : Loc Cert.Kernel33Ideal.nD Cert.Kernel33Ideal.τ Cert.Kernel33Ideal.sig) → Buf (Elt Ideal) ℓ) : Prop :=
  ∀ c : Dev Cert.Kernel33Ideal.nD,
    (Cert.Pre_finite_sums_g1.fn (F := Ideal) (m ((c.tc : Thread Cert.Kernel33Ideal.nD Cert.Kernel33Ideal.τ).loc Cert.Kernel33Ideal.main_arg0)) (m ((c.tc : Thread Cert.Kernel33Ideal.nD Cert.Kernel33Ideal.τ).loc Cert.Kernel33Ideal.main_arg1)) (m ((c.tc : Thread Cert.Kernel33Ideal.nD Cert.Kernel33Ideal.τ).loc Cert.Kernel33Ideal.main_arg2)) (m ((c.tc : Thread Cert.Kernel33Ideal.nD Cert.Kernel33Ideal.τ).loc Cert.Kernel33Ideal.main_arg3)) (m ((c.tc : Thread Cert.Kernel33Ideal.nD Cert.Kernel33Ideal.τ).loc Cert.Kernel33Ideal.main_arg4)) (m ((c.tc : Thread Cert.Kernel33Ideal.nD Cert.Kernel33Ideal.τ).loc Cert.Kernel33Ideal.main_arg5)) (m ((c.tc : Thread Cert.Kernel33Ideal.nD Cert.Kernel33Ideal.τ).loc Cert.Kernel33Ideal.main_arg6)) (m ((c.tc : Thread Cert.Kernel33Ideal.nD Cert.Kernel33Ideal.τ).loc Cert.Kernel33Ideal.main_arg7)) (m ((c.tc : Thread Cert.Kernel33Ideal.nD Cert.Kernel33Ideal.τ).loc Cert.Kernel33Ideal.main_arg8)) (m ((c.tc : Thread Cert.Kernel33Ideal.nD Cert.Kernel33Ideal.τ).loc Cert.Kernel33Ideal.main_arg9))) = (fun _ => 1#1)

def Pre_Reference33Ideal (m : (ℓ : Loc Cert.Reference33Ideal.nD Cert.Reference33Ideal.τ Cert.Reference33Ideal.sig) → Buf (Elt Ideal) ℓ) : Prop :=
  True

def Pre_Reference33Ideal_finite_sums_g1 [hPre_finite_sums_g1 : Cert.Pre_finite_sums_g1.Facts] (m : (ℓ : Loc Cert.Reference33Ideal.nD Cert.Reference33Ideal.τ Cert.Reference33Ideal.sig) → Buf (Elt Ideal) ℓ) : Prop :=
  ∀ c : Dev Cert.Reference33Ideal.nD,
    (Cert.Pre_finite_sums_g1.fn (F := Ideal) (m ((c.tc : Thread Cert.Reference33Ideal.nD Cert.Reference33Ideal.τ).loc Cert.Reference33Ideal.main_arg0)) (m ((c.tc : Thread Cert.Reference33Ideal.nD Cert.Reference33Ideal.τ).loc Cert.Reference33Ideal.main_arg1)) (m ((c.tc : Thread Cert.Reference33Ideal.nD Cert.Reference33Ideal.τ).loc Cert.Reference33Ideal.main_arg2)) (m ((c.tc : Thread Cert.Reference33Ideal.nD Cert.Reference33Ideal.τ).loc Cert.Reference33Ideal.main_arg3)) (m ((c.tc : Thread Cert.Reference33Ideal.nD Cert.Reference33Ideal.τ).loc Cert.Reference33Ideal.main_arg4)) (m ((c.tc : Thread Cert.Reference33Ideal.nD Cert.Reference33Ideal.τ).loc Cert.Reference33Ideal.main_arg5)) (m ((c.tc : Thread Cert.Reference33Ideal.nD Cert.Reference33Ideal.τ).loc Cert.Reference33Ideal.main_arg6)) (m ((c.tc : Thread Cert.Reference33Ideal.nD Cert.Reference33Ideal.τ).loc Cert.Reference33Ideal.main_arg7)) (m ((c.tc : Thread Cert.Reference33Ideal.nD Cert.Reference33Ideal.τ).loc Cert.Reference33Ideal.main_arg8)) (m ((c.tc : Thread Cert.Reference33Ideal.nD Cert.Reference33Ideal.τ).loc Cert.Reference33Ideal.main_arg9))) = (fun _ => 1#1)

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Kernel34Ideal_finite_sums_g0 [hPre_finite_sums_g0 : Cert.Pre_finite_sums_g0.Facts] (m : (ℓ : Loc Cert.Kernel34Ideal.nD Cert.Kernel34Ideal.τ Cert.Kernel34Ideal.sig) → Buf (Elt Ideal) ℓ) : Prop :=
  ∀ c : Dev Cert.Kernel34Ideal.nD,
    (Cert.Pre_finite_sums_g0.fn (F := Ideal) (m ((c.tc : Thread Cert.Kernel34Ideal.nD Cert.Kernel34Ideal.τ).loc Cert.Kernel34Ideal.main_arg0)) (m ((c.tc : Thread Cert.Kernel34Ideal.nD Cert.Kernel34Ideal.τ).loc Cert.Kernel34Ideal.main_arg1)) (m ((c.tc : Thread Cert.Kernel34Ideal.nD Cert.Kernel34Ideal.τ).loc Cert.Kernel34Ideal.main_arg2)) (m ((c.tc : Thread Cert.Kernel34Ideal.nD Cert.Kernel34Ideal.τ).loc Cert.Kernel34Ideal.main_arg3)) (m ((c.tc : Thread Cert.Kernel34Ideal.nD Cert.Kernel34Ideal.τ).loc Cert.Kernel34Ideal.main_arg4)) (m ((c.tc : Thread Cert.Kernel34Ideal.nD Cert.Kernel34Ideal.τ).loc Cert.Kernel34Ideal.main_arg5)) (m ((c.tc : Thread Cert.Kernel34Ideal.nD Cert.Kernel34Ideal.τ).loc Cert.Kernel34Ideal.main_arg6)) (m ((c.tc : Thread Cert.Kernel34Ideal.nD Cert.Kernel34Ideal.τ).loc Cert.Kernel34Ideal.main_arg7)) (m ((c.tc : Thread Cert.Kernel34Ideal.nD Cert.Kernel34Ideal.τ).loc Cert.Kernel34Ideal.main_arg8)) (m ((c.tc : Thread Cert.Kernel34Ideal.nD Cert.Kernel34Ideal.τ).loc Cert.Kernel34Ideal.main_arg9))) = (fun _ => 1#1)

def Pre_Reference34Ideal (m : (ℓ : Loc Cert.Reference34Ideal.nD Cert.Reference34Ideal.τ Cert.Reference34Ideal.sig) → Buf (Elt Ideal) ℓ) : Prop :=
  True

def Pre_Reference34Ideal_finite_sums_g0 [hPre_finite_sums_g0 : Cert.Pre_finite_sums_g0.Facts] (m : (ℓ : Loc Cert.Reference34Ideal.nD Cert.Reference34Ideal.τ Cert.Reference34Ideal.sig) → Buf (Elt Ideal) ℓ) : Prop :=
  ∀ c : Dev Cert.Reference34Ideal.nD,
    (Cert.Pre_finite_sums_g0.fn (F := Ideal) (m ((c.tc : Thread Cert.Reference34Ideal.nD Cert.Reference34Ideal.τ).loc Cert.Reference34Ideal.main_arg0)) (m ((c.tc : Thread Cert.Reference34Ideal.nD Cert.Reference34Ideal.τ).loc Cert.Reference34Ideal.main_arg1)) (m ((c.tc : Thread Cert.Reference34Ideal.nD Cert.Reference34Ideal.τ).loc Cert.Reference34Ideal.main_arg2)) (m ((c.tc : Thread Cert.Reference34Ideal.nD Cert.Reference34Ideal.τ).loc Cert.Reference34Ideal.main_arg3)) (m ((c.tc : Thread Cert.Reference34Ideal.nD Cert.Reference34Ideal.τ).loc Cert.Reference34Ideal.main_arg4)) (m ((c.tc : Thread Cert.Reference34Ideal.nD Cert.Reference34Ideal.τ).loc Cert.Reference34Ideal.main_arg5)) (m ((c.tc : Thread Cert.Reference34Ideal.nD Cert.Reference34Ideal.τ).loc Cert.Reference34Ideal.main_arg6)) (m ((c.tc : Thread Cert.Reference34Ideal.nD Cert.Reference34Ideal.τ).loc Cert.Reference34Ideal.main_arg7)) (m ((c.tc : Thread Cert.Reference34Ideal.nD Cert.Reference34Ideal.τ).loc Cert.Reference34Ideal.main_arg8)) (m ((c.tc : Thread Cert.Reference34Ideal.nD Cert.Reference34Ideal.τ).loc Cert.Reference34Ideal.main_arg9))) = (fun _ => 1#1)

def Pre_Kernel35 (m : (ℓ : Loc Cert.Kernel35.nD Cert.Kernel35.τ Cert.Kernel35.sig) → Buf (Elt Bits) ℓ) : Prop :=
  True

def Pre_Kernel35Ideal (m : (ℓ : Loc Cert.Kernel35Ideal.nD Cert.Kernel35Ideal.τ Cert.Kernel35Ideal.sig) → Buf (Elt Ideal) ℓ) : Prop :=
  True

def Pre_Reference35Ideal (m : (ℓ : Loc Cert.Reference35Ideal.nD Cert.Reference35Ideal.τ Cert.Reference35Ideal.sig) → Buf (Elt Ideal) ℓ) : Prop :=
  True

def Pre_Kernel36 (m : (ℓ : Loc Cert.Kernel36.nD Cert.Kernel36.τ Cert.Kernel36.sig) → Buf (Elt Bits) ℓ) : Prop :=
  True

def Pre_Kernel36Ideal (m : (ℓ : Loc Cert.Kernel36Ideal.nD Cert.Kernel36Ideal.τ Cert.Kernel36Ideal.sig) → Buf (Elt Ideal) ℓ) : Prop :=
  True

def Pre_Reference36Ideal (m : (ℓ : Loc Cert.Reference36Ideal.nD Cert.Reference36Ideal.τ Cert.Reference36Ideal.sig) → Buf (Elt Ideal) ℓ) : Prop :=
  True

def Pre_Kernel37 (m : (ℓ : Loc Cert.Kernel37.nD Cert.Kernel37.τ Cert.Kernel37.sig) → Buf (Elt Bits) ℓ) : Prop :=
  True

def Pre_Kernel37Ideal (m : (ℓ : Loc Cert.Kernel37Ideal.nD Cert.Kernel37Ideal.τ Cert.Kernel37Ideal.sig) → Buf (Elt Ideal) ℓ) : Prop :=
  True

def Pre_Reference37Ideal (m : (ℓ : Loc Cert.Reference37Ideal.nD Cert.Reference37Ideal.τ Cert.Reference37Ideal.sig) → Buf (Elt Ideal) ℓ) : Prop :=
  True

def Pre_Kernel38 (m : (ℓ : Loc Cert.Kernel38.nD Cert.Kernel38.τ Cert.Kernel38.sig) → Buf (Elt Bits) ℓ) : Prop :=
  True

def Pre_Kernel38Ideal (m : (ℓ : Loc Cert.Kernel38Ideal.nD Cert.Kernel38Ideal.τ Cert.Kernel38Ideal.sig) → Buf (Elt Ideal) ℓ) : Prop :=
  True

def Pre_Reference38Ideal (m : (ℓ : Loc Cert.Reference38Ideal.nD Cert.Reference38Ideal.τ Cert.Reference38Ideal.sig) → Buf (Elt Ideal) ℓ) : Prop :=
  True

def Pre_Kernel39 (m : (ℓ : Loc Cert.Kernel39.nD Cert.Kernel39.τ Cert.Kernel39.sig) → Buf (Elt Bits) ℓ) : Prop :=
  True

def Pre_Kernel39Ideal (m : (ℓ : Loc Cert.Kernel39Ideal.nD Cert.Kernel39Ideal.τ Cert.Kernel39Ideal.sig) → Buf (Elt Ideal) ℓ) : Prop :=
  True

def Pre_Reference39Ideal (m : (ℓ : Loc Cert.Reference39Ideal.nD Cert.Reference39Ideal.τ Cert.Reference39Ideal.sig) → Buf (Elt Ideal) ℓ) : Prop :=
  True

def Pre_Kernel40 (m : (ℓ : Loc Cert.Kernel40.nD Cert.Kernel40.τ Cert.Kernel40.sig) → Buf (Elt Bits) ℓ) : Prop :=
  True

def Pre_Kernel40Ideal (m : (ℓ : Loc Cert.Kernel40Ideal.nD Cert.Kernel40Ideal.τ Cert.Kernel40Ideal.sig) → Buf (Elt Ideal) ℓ) : Prop :=
  True

def Pre_Reference40Ideal (m : (ℓ : Loc Cert.Reference40Ideal.nD Cert.Reference40Ideal.τ Cert.Reference40Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3)
      ∧ r.2.mem ((c.tc : Thread Cert.Kernel28.nD Cert.Kernel28.τ).loc Cert.Kernel28.main_arg4) = m ((c.tc : Thread Cert.Kernel28.nD Cert.Kernel28.τ).loc Cert.Kernel28.main_arg4))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3)
      ∧ r.2.mem ((c.tc : Thread Cert.Kernel28Ideal.nD Cert.Kernel28Ideal.τ).loc Cert.Kernel28Ideal.main_arg4) = m ((c.tc : Thread Cert.Kernel28Ideal.nD Cert.Kernel28Ideal.τ).loc Cert.Kernel28Ideal.main_arg4))
      ∧ r.2.sem = fun _ => 0)

def quiescent_Kernel28Ideal_pre_finite_scores [hKernel28Ideal : Cert.Kernel28Ideal.Facts] [hPre_finite_scores : Cert.Pre_finite_scores.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal_finite_scores m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3)
      ∧ r.2.mem ((c.tc : Thread Cert.Kernel28Ideal.nD Cert.Kernel28Ideal.τ).loc Cert.Kernel28Ideal.main_arg4) = m ((c.tc : Thread Cert.Kernel28Ideal.nD Cert.Kernel28Ideal.τ).loc Cert.Kernel28Ideal.main_arg4))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3)
      ∧ r.2.mem ((c.tc : Thread Cert.Reference28Ideal.nD Cert.Reference28Ideal.τ).loc Cert.Reference28Ideal.main_arg4) = m ((c.tc : Thread Cert.Reference28Ideal.nD Cert.Reference28Ideal.τ).loc Cert.Reference28Ideal.main_arg4))
      ∧ r.2.sem = fun _ => 0)

def quiescent_Reference28Ideal_pre_finite_scores [hReference28Ideal : Cert.Reference28Ideal.Facts] [hPre_finite_scores : Cert.Pre_finite_scores.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal_finite_scores m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3)
      ∧ r.2.mem ((c.tc : Thread Cert.Reference28Ideal.nD Cert.Reference28Ideal.τ).loc Cert.Reference28Ideal.main_arg4) = m ((c.tc : Thread Cert.Reference28Ideal.nD Cert.Reference28Ideal.τ).loc Cert.Reference28Ideal.main_arg4))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3)
      ∧ r.2.mem ((c.tc : Thread Cert.Kernel29.nD Cert.Kernel29.τ).loc Cert.Kernel29.main_arg4) = m ((c.tc : Thread Cert.Kernel29.nD Cert.Kernel29.τ).loc Cert.Kernel29.main_arg4))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3)
      ∧ r.2.mem ((c.tc : Thread Cert.Kernel29Ideal.nD Cert.Kernel29Ideal.τ).loc Cert.Kernel29Ideal.main_arg4) = m ((c.tc : Thread Cert.Kernel29Ideal.nD Cert.Kernel29Ideal.τ).loc Cert.Kernel29Ideal.main_arg4))
      ∧ r.2.sem = fun _ => 0)

def quiescent_Kernel29Ideal_pre_finite_scores [hKernel29Ideal : Cert.Kernel29Ideal.Facts] [hPre_finite_scores : Cert.Pre_finite_scores.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal_finite_scores m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3)
      ∧ r.2.mem ((c.tc : Thread Cert.Kernel29Ideal.nD Cert.Kernel29Ideal.τ).loc Cert.Kernel29Ideal.main_arg4) = m ((c.tc : Thread Cert.Kernel29Ideal.nD Cert.Kernel29Ideal.τ).loc Cert.Kernel29Ideal.main_arg4))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3)
      ∧ r.2.mem ((c.tc : Thread Cert.Reference29Ideal.nD Cert.Reference29Ideal.τ).loc Cert.Reference29Ideal.main_arg4) = m ((c.tc : Thread Cert.Reference29Ideal.nD Cert.Reference29Ideal.τ).loc Cert.Reference29Ideal.main_arg4))
      ∧ r.2.sem = fun _ => 0)

def quiescent_Reference29Ideal_pre_finite_scores [hReference29Ideal : Cert.Reference29Ideal.Facts] [hPre_finite_scores : Cert.Pre_finite_scores.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal_finite_scores m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3)
      ∧ r.2.mem ((c.tc : Thread Cert.Reference29Ideal.nD Cert.Reference29Ideal.τ).loc Cert.Reference29Ideal.main_arg4) = m ((c.tc : Thread Cert.Reference29Ideal.nD Cert.Reference29Ideal.τ).loc Cert.Reference29Ideal.main_arg4))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2)
      ∧ r.2.mem ((c.tc : Thread Cert.Kernel30.nD Cert.Kernel30.τ).loc Cert.Kernel30.main_arg3) = m ((c.tc : Thread Cert.Kernel30.nD Cert.Kernel30.τ).loc Cert.Kernel30.main_arg3)
      ∧ r.2.mem ((c.tc : Thread Cert.Kernel30.nD Cert.Kernel30.τ).loc Cert.Kernel30.main_arg4) = m ((c.tc : Thread Cert.Kernel30.nD Cert.Kernel30.τ).loc Cert.Kernel30.main_arg4))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
      ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3)
      ∧ r.2.mem ((c.tc : Thread Cert.Kernel30Ideal.nD Cert.Kernel30Ideal.τ).loc Cert.Kernel30Ideal.main_arg4) = m ((c.tc : Thread Cert.Kernel30Ideal.nD Cert.Kernel30Ideal.τ).loc Cert.Kernel30Ideal.main_arg4))
      ∧ r.2.sem = fun _ => 0)

def quiescent_Kernel30Ideal_pre_finite_scores [hKernel30Ideal : Cert.Kernel30Ideal.Facts] [hPre_finite_scores : Cert.Pre_finite_scores.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal_finite_scores m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
      ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3)
      ∧ r.2.mem ((c.tc : Thread Cert.Kernel30Ideal.nD Cert.Kernel30Ideal.τ).loc Cert.Kernel30Ideal.main_arg4) = m ((c.tc : Thread Cert.Kernel30Ideal.nD Cert.Kernel30Ideal.τ).loc Cert.Kernel30Ideal.main_arg4))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2)
      ∧ r.2.mem ((c.tc : Thread Cert.Reference30Ideal.nD Cert.Reference30Ideal.τ).loc Cert.Reference30Ideal.main_arg3) = m ((c.tc : Thread Cert.Reference30Ideal.nD Cert.Reference30Ideal.τ).loc Cert.Reference30Ideal.main_arg3)
      ∧ r.2.mem ((c.tc : Thread Cert.Reference30Ideal.nD Cert.Reference30Ideal.τ).loc Cert.Reference30Ideal.main_arg4) = m ((c.tc : Thread Cert.Reference30Ideal.nD Cert.Reference30Ideal.τ).loc Cert.Reference30Ideal.main_arg4))
      ∧ r.2.sem = fun _ => 0)

def quiescent_Reference30Ideal_pre_finite_scores [hReference30Ideal : Cert.Reference30Ideal.Facts] [hPre_finite_scores : Cert.Pre_finite_scores.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal_finite_scores m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2)
      ∧ r.2.mem ((c.tc : Thread Cert.Reference30Ideal.nD Cert.Reference30Ideal.τ).loc Cert.Reference30Ideal.main_arg3) = m ((c.tc : Thread Cert.Reference30Ideal.nD Cert.Reference30Ideal.τ).loc Cert.Reference30Ideal.main_arg3)
      ∧ r.2.mem ((c.tc : Thread Cert.Reference30Ideal.nD Cert.Reference30Ideal.τ).loc Cert.Reference30Ideal.main_arg4) = m ((c.tc : Thread Cert.Reference30Ideal.nD Cert.Reference30Ideal.τ).loc Cert.Reference30Ideal.main_arg4))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2)
      ∧ r.2.mem ((c.tc : Thread Cert.Kernel31.nD Cert.Kernel31.τ).loc Cert.Kernel31.main_arg3) = m ((c.tc : Thread Cert.Kernel31.nD Cert.Kernel31.τ).loc Cert.Kernel31.main_arg3)
      ∧ r.2.mem ((c.tc : Thread Cert.Kernel31.nD Cert.Kernel31.τ).loc Cert.Kernel31.main_arg4) = m ((c.tc : Thread Cert.Kernel31.nD Cert.Kernel31.τ).loc Cert.Kernel31.main_arg4))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
      ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3)
      ∧ r.2.mem ((c.tc : Thread Cert.Kernel31Ideal.nD Cert.Kernel31Ideal.τ).loc Cert.Kernel31Ideal.main_arg4) = m ((c.tc : Thread Cert.Kernel31Ideal.nD Cert.Kernel31Ideal.τ).loc Cert.Kernel31Ideal.main_arg4))
      ∧ r.2.sem = fun _ => 0)

def quiescent_Kernel31Ideal_pre_finite_scores [hKernel31Ideal : Cert.Kernel31Ideal.Facts] [hPre_finite_scores : Cert.Pre_finite_scores.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal_finite_scores m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
      ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3)
      ∧ r.2.mem ((c.tc : Thread Cert.Kernel31Ideal.nD Cert.Kernel31Ideal.τ).loc Cert.Kernel31Ideal.main_arg4) = m ((c.tc : Thread Cert.Kernel31Ideal.nD Cert.Kernel31Ideal.τ).loc Cert.Kernel31Ideal.main_arg4))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2)
      ∧ r.2.mem ((c.tc : Thread Cert.Reference31Ideal.nD Cert.Reference31Ideal.τ).loc Cert.Reference31Ideal.main_arg3) = m ((c.tc : Thread Cert.Reference31Ideal.nD Cert.Reference31Ideal.τ).loc Cert.Reference31Ideal.main_arg3)
      ∧ r.2.mem ((c.tc : Thread Cert.Reference31Ideal.nD Cert.Reference31Ideal.τ).loc Cert.Reference31Ideal.main_arg4) = m ((c.tc : Thread Cert.Reference31Ideal.nD Cert.Reference31Ideal.τ).loc Cert.Reference31Ideal.main_arg4))
      ∧ r.2.sem = fun _ => 0)

def quiescent_Reference31Ideal_pre_finite_scores [hReference31Ideal : Cert.Reference31Ideal.Facts] [hPre_finite_scores : Cert.Pre_finite_scores.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal_finite_scores m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2)
      ∧ r.2.mem ((c.tc : Thread Cert.Reference31Ideal.nD Cert.Reference31Ideal.τ).loc Cert.Reference31Ideal.main_arg3) = m ((c.tc : Thread Cert.Reference31Ideal.nD Cert.Reference31Ideal.τ).loc Cert.Reference31Ideal.main_arg3)
      ∧ r.2.mem ((c.tc : Thread Cert.Reference31Ideal.nD Cert.Reference31Ideal.τ).loc Cert.Reference31Ideal.main_arg4) = m ((c.tc : Thread Cert.Reference31Ideal.nD Cert.Reference31Ideal.τ).loc Cert.Reference31Ideal.main_arg4))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1)
      ∧ r.2.mem ((c.tc : Thread Cert.Kernel32.nD Cert.Kernel32.τ).loc Cert.Kernel32.main_arg2) = m ((c.tc : Thread Cert.Kernel32.nD Cert.Kernel32.τ).loc Cert.Kernel32.main_arg2)
      ∧ r.2.mem ((c.tc : Thread Cert.Kernel32.nD Cert.Kernel32.τ).loc Cert.Kernel32.main_arg3) = m ((c.tc : Thread Cert.Kernel32.nD Cert.Kernel32.τ).loc Cert.Kernel32.main_arg3)
      ∧ r.2.mem ((c.tc : Thread Cert.Kernel32.nD Cert.Kernel32.τ).loc Cert.Kernel32.main_arg4) = m ((c.tc : Thread Cert.Kernel32.nD Cert.Kernel32.τ).loc Cert.Kernel32.main_arg4)
      ∧ r.2.mem ((c.tc : Thread Cert.Kernel32.nD Cert.Kernel32.τ).loc Cert.Kernel32.main_arg5) = m ((c.tc : Thread Cert.Kernel32.nD Cert.Kernel32.τ).loc Cert.Kernel32.main_arg5)
      ∧ r.2.mem ((c.tc : Thread Cert.Kernel32.nD Cert.Kernel32.τ).loc Cert.Kernel32.main_arg6) = m ((c.tc : Thread Cert.Kernel32.nD Cert.Kernel32.τ).loc Cert.Kernel32.main_arg6)
      ∧ r.2.mem ((c.tc : Thread Cert.Kernel32.nD Cert.Kernel32.τ).loc Cert.Kernel32.main_arg7) = m ((c.tc : Thread Cert.Kernel32.nD Cert.Kernel32.τ).loc Cert.Kernel32.main_arg7)
      ∧ r.2.mem ((c.tc : Thread Cert.Kernel32.nD Cert.Kernel32.τ).loc Cert.Kernel32.main_arg8) = m ((c.tc : Thread Cert.Kernel32.nD Cert.Kernel32.τ).loc Cert.Kernel32.main_arg8)
      ∧ r.2.mem ((c.tc : Thread Cert.Kernel32.nD Cert.Kernel32.τ).loc Cert.Kernel32.main_arg9) = m ((c.tc : Thread Cert.Kernel32.nD Cert.Kernel32.τ).loc Cert.Kernel32.main_arg9))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
      ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3)
      ∧ r.2.mem ((c.tc : Thread Cert.Kernel32Ideal.nD Cert.Kernel32Ideal.τ).loc Cert.Kernel32Ideal.main_arg4) = m ((c.tc : Thread Cert.Kernel32Ideal.nD Cert.Kernel32Ideal.τ).loc Cert.Kernel32Ideal.main_arg4)
      ∧ r.2.mem ((c.tc : Thread Cert.Kernel32Ideal.nD Cert.Kernel32Ideal.τ).loc Cert.Kernel32Ideal.main_arg5) = m ((c.tc : Thread Cert.Kernel32Ideal.nD Cert.Kernel32Ideal.τ).loc Cert.Kernel32Ideal.main_arg5)
      ∧ r.2.mem ((c.tc : Thread Cert.Kernel32Ideal.nD Cert.Kernel32Ideal.τ).loc Cert.Kernel32Ideal.main_arg6) = m ((c.tc : Thread Cert.Kernel32Ideal.nD Cert.Kernel32Ideal.τ).loc Cert.Kernel32Ideal.main_arg6)
      ∧ r.2.mem ((c.tc : Thread Cert.Kernel32Ideal.nD Cert.Kernel32Ideal.τ).loc Cert.Kernel32Ideal.main_arg7) = m ((c.tc : Thread Cert.Kernel32Ideal.nD Cert.Kernel32Ideal.τ).loc Cert.Kernel32Ideal.main_arg7)
      ∧ r.2.mem ((c.tc : Thread Cert.Kernel32Ideal.nD Cert.Kernel32Ideal.τ).loc Cert.Kernel32Ideal.main_arg8) = m ((c.tc : Thread Cert.Kernel32Ideal.nD Cert.Kernel32Ideal.τ).loc Cert.Kernel32Ideal.main_arg8)
      ∧ r.2.mem ((c.tc : Thread Cert.Kernel32Ideal.nD Cert.Kernel32Ideal.τ).loc Cert.Kernel32Ideal.main_arg9) = m ((c.tc : Thread Cert.Kernel32Ideal.nD Cert.Kernel32Ideal.τ).loc Cert.Kernel32Ideal.main_arg9))
      ∧ r.2.sem = fun _ => 0)

def quiescent_Kernel32Ideal_pre_finite_sums [hKernel32Ideal : Cert.Kernel32Ideal.Facts] [hPre_finite_sums : Cert.Pre_finite_sums.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal_finite_sums m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
      ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3)
      ∧ r.2.mem ((c.tc : Thread Cert.Kernel32Ideal.nD Cert.Kernel32Ideal.τ).loc Cert.Kernel32Ideal.main_arg4) = m ((c.tc : Thread Cert.Kernel32Ideal.nD Cert.Kernel32Ideal.τ).loc Cert.Kernel32Ideal.main_arg4)
      ∧ r.2.mem ((c.tc : Thread Cert.Kernel32Ideal.nD Cert.Kernel32Ideal.τ).loc Cert.Kernel32Ideal.main_arg5) = m ((c.tc : Thread Cert.Kernel32Ideal.nD Cert.Kernel32Ideal.τ).loc Cert.Kernel32Ideal.main_arg5)
      ∧ r.2.mem ((c.tc : Thread Cert.Kernel32Ideal.nD Cert.Kernel32Ideal.τ).loc Cert.Kernel32Ideal.main_arg6) = m ((c.tc : Thread Cert.Kernel32Ideal.nD Cert.Kernel32Ideal.τ).loc Cert.Kernel32Ideal.main_arg6)
      ∧ r.2.mem ((c.tc : Thread Cert.Kernel32Ideal.nD Cert.Kernel32Ideal.τ).loc Cert.Kernel32Ideal.main_arg7) = m ((c.tc : Thread Cert.Kernel32Ideal.nD Cert.Kernel32Ideal.τ).loc Cert.Kernel32Ideal.main_arg7)
      ∧ r.2.mem ((c.tc : Thread Cert.Kernel32Ideal.nD Cert.Kernel32Ideal.τ).loc Cert.Kernel32Ideal.main_arg8) = m ((c.tc : Thread Cert.Kernel32Ideal.nD Cert.Kernel32Ideal.τ).loc Cert.Kernel32Ideal.main_arg8)
      ∧ r.2.mem ((c.tc : Thread Cert.Kernel32Ideal.nD Cert.Kernel32Ideal.τ).loc Cert.Kernel32Ideal.main_arg9) = m ((c.tc : Thread Cert.Kernel32Ideal.nD Cert.Kernel32Ideal.τ).loc Cert.Kernel32Ideal.main_arg9))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2)
      ∧ r.2.mem ((c.tc : Thread Cert.Reference32Ideal.nD Cert.Reference32Ideal.τ).loc Cert.Reference32Ideal.main_arg3) = m ((c.tc : Thread Cert.Reference32Ideal.nD Cert.Reference32Ideal.τ).loc Cert.Reference32Ideal.main_arg3)
      ∧ r.2.mem ((c.tc : Thread Cert.Reference32Ideal.nD Cert.Reference32Ideal.τ).loc Cert.Reference32Ideal.main_arg4) = m ((c.tc : Thread Cert.Reference32Ideal.nD Cert.Reference32Ideal.τ).loc Cert.Reference32Ideal.main_arg4)
      ∧ r.2.mem ((c.tc : Thread Cert.Reference32Ideal.nD Cert.Reference32Ideal.τ).loc Cert.Reference32Ideal.main_arg5) = m ((c.tc : Thread Cert.Reference32Ideal.nD Cert.Reference32Ideal.τ).loc Cert.Reference32Ideal.main_arg5)
      ∧ r.2.mem ((c.tc : Thread Cert.Reference32Ideal.nD Cert.Reference32Ideal.τ).loc Cert.Reference32Ideal.main_arg6) = m ((c.tc : Thread Cert.Reference32Ideal.nD Cert.Reference32Ideal.τ).loc Cert.Reference32Ideal.main_arg6)
      ∧ r.2.mem ((c.tc : Thread Cert.Reference32Ideal.nD Cert.Reference32Ideal.τ).loc Cert.Reference32Ideal.main_arg7) = m ((c.tc : Thread Cert.Reference32Ideal.nD Cert.Reference32Ideal.τ).loc Cert.Reference32Ideal.main_arg7)
      ∧ r.2.mem ((c.tc : Thread Cert.Reference32Ideal.nD Cert.Reference32Ideal.τ).loc Cert.Reference32Ideal.main_arg8) = m ((c.tc : Thread Cert.Reference32Ideal.nD Cert.Reference32Ideal.τ).loc Cert.Reference32Ideal.main_arg8)
      ∧ r.2.mem ((c.tc : Thread Cert.Reference32Ideal.nD Cert.Reference32Ideal.τ).loc Cert.Reference32Ideal.main_arg9) = m ((c.tc : Thread Cert.Reference32Ideal.nD Cert.Reference32Ideal.τ).loc Cert.Reference32Ideal.main_arg9))
      ∧ r.2.sem = fun _ => 0)

def quiescent_Reference32Ideal_pre_finite_sums [hReference32Ideal : Cert.Reference32Ideal.Facts] [hPre_finite_sums : Cert.Pre_finite_sums.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal_finite_sums m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2)
      ∧ r.2.mem ((c.tc : Thread Cert.Reference32Ideal.nD Cert.Reference32Ideal.τ).loc Cert.Reference32Ideal.main_arg3) = m ((c.tc : Thread Cert.Reference32Ideal.nD Cert.Reference32Ideal.τ).loc Cert.Reference32Ideal.main_arg3)
      ∧ r.2.mem ((c.tc : Thread Cert.Reference32Ideal.nD Cert.Reference32Ideal.τ).loc Cert.Reference32Ideal.main_arg4) = m ((c.tc : Thread Cert.Reference32Ideal.nD Cert.Reference32Ideal.τ).loc Cert.Reference32Ideal.main_arg4)
      ∧ r.2.mem ((c.tc : Thread Cert.Reference32Ideal.nD Cert.Reference32Ideal.τ).loc Cert.Reference32Ideal.main_arg5) = m ((c.tc : Thread Cert.Reference32Ideal.nD Cert.Reference32Ideal.τ).loc Cert.Reference32Ideal.main_arg5)
      ∧ r.2.mem ((c.tc : Thread Cert.Reference32Ideal.nD Cert.Reference32Ideal.τ).loc Cert.Reference32Ideal.main_arg6) = m ((c.tc : Thread Cert.Reference32Ideal.nD Cert.Reference32Ideal.τ).loc Cert.Reference32Ideal.main_arg6)
      ∧ r.2.mem ((c.tc : Thread Cert.Reference32Ideal.nD Cert.Reference32Ideal.τ).loc Cert.Reference32Ideal.main_arg7) = m ((c.tc : Thread Cert.Reference32Ideal.nD Cert.Reference32Ideal.τ).loc Cert.Reference32Ideal.main_arg7)
      ∧ r.2.mem ((c.tc : Thread Cert.Reference32Ideal.nD Cert.Reference32Ideal.τ).loc Cert.Reference32Ideal.main_arg8) = m ((c.tc : Thread Cert.Reference32Ideal.nD Cert.Reference32Ideal.τ).loc Cert.Reference32Ideal.main_arg8)
      ∧ r.2.mem ((c.tc : Thread Cert.Reference32Ideal.nD Cert.Reference32Ideal.τ).loc Cert.Reference32Ideal.main_arg9) = m ((c.tc : Thread Cert.Reference32Ideal.nD Cert.Reference32Ideal.τ).loc Cert.Reference32Ideal.main_arg9))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1)
      ∧ r.2.mem ((c.tc : Thread Cert.Kernel33.nD Cert.Kernel33.τ).loc Cert.Kernel33.main_arg2) = m ((c.tc : Thread Cert.Kernel33.nD Cert.Kernel33.τ).loc Cert.Kernel33.main_arg2)
      ∧ r.2.mem ((c.tc : Thread Cert.Kernel33.nD Cert.Kernel33.τ).loc Cert.Kernel33.main_arg3) = m ((c.tc : Thread Cert.Kernel33.nD Cert.Kernel33.τ).loc Cert.Kernel33.main_arg3)
      ∧ r.2.mem ((c.tc : Thread Cert.Kernel33.nD Cert.Kernel33.τ).loc Cert.Kernel33.main_arg4) = m ((c.tc : Thread Cert.Kernel33.nD Cert.Kernel33.τ).loc Cert.Kernel33.main_arg4)
      ∧ r.2.mem ((c.tc : Thread Cert.Kernel33.nD Cert.Kernel33.τ).loc Cert.Kernel33.main_arg5) = m ((c.tc : Thread Cert.Kernel33.nD Cert.Kernel33.τ).loc Cert.Kernel33.main_arg5)
      ∧ r.2.mem ((c.tc : Thread Cert.Kernel33.nD Cert.Kernel33.τ).loc Cert.Kernel33.main_arg6) = m ((c.tc : Thread Cert.Kernel33.nD Cert.Kernel33.τ).loc Cert.Kernel33.main_arg6)
      ∧ r.2.mem ((c.tc : Thread Cert.Kernel33.nD Cert.Kernel33.τ).loc Cert.Kernel33.main_arg7) = m ((c.tc : Thread Cert.Kernel33.nD Cert.Kernel33.τ).loc Cert.Kernel33.main_arg7)
      ∧ r.2.mem ((c.tc : Thread Cert.Kernel33.nD Cert.Kernel33.τ).loc Cert.Kernel33.main_arg8) = m ((c.tc : Thread Cert.Kernel33.nD Cert.Kernel33.τ).loc Cert.Kernel33.main_arg8)
      ∧ r.2.mem ((c.tc : Thread Cert.Kernel33.nD Cert.Kernel33.τ).loc Cert.Kernel33.main_arg9) = m ((c.tc : Thread Cert.Kernel33.nD Cert.Kernel33.τ).loc Cert.Kernel33.main_arg9))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
      ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
      ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3)
      ∧ r.2.mem ((c.tc : Thread Cert.Kernel33Ideal.nD Cert.Kernel33Ideal.τ).loc Cert.Kernel33Ideal.main_arg4) = m ((c.tc : Thread Cert.Kernel33Ideal.nD Cert.Kernel33Ideal.τ).loc Cert.Kernel33Ideal.main_arg4)
      ∧ r.2.mem ((c.tc : Thread Cert.Kernel33Ideal.nD Cert.Kernel33Ideal.τ).loc Cert.Kernel33Ideal.main_arg5) = m ((c.tc : Thread Cert.Kernel33Ideal.nD Cert.Kernel33Ideal.τ).loc Cert.Kernel33Ideal.main_arg5)
      ∧ r.2.mem ((c.tc : Thread Cert.Kernel33Ideal.nD Cert.Kernel33Ideal.τ).loc Cert.Kernel33Ideal.main_arg6) = m ((c.tc : Thread Cert.Kernel33Ideal.nD Cert.Kernel33Ideal.τ).loc Cert.Kernel33Ideal.main_arg6)
      ∧ r.2.mem ((c.tc : Thread Cert.Kernel33Ideal.nD Cert.Kernel33Ideal.τ).loc Cert.Kernel33Ideal.main_arg7) = m ((c.tc : Thread Cert.Kernel33Ideal.nD Cert.Kernel33Ideal.τ).loc Cert.Kernel33Ideal.main_arg7)
      ∧ r.2.mem ((c.tc : Thread Cert.Kernel33Ideal.nD Cert.Kernel33Ideal.τ).loc Cert.Kernel33Ideal.main_arg8) = m ((c.tc : Thread Cert.Kernel33Ideal.nD Cert.Kernel33Ideal.τ).loc Cert.Kernel33Ideal.main_arg8)
      ∧ r.2.mem ((c.tc : Thread Cert.Kernel33Ideal.nD Cert.Kernel33Ideal.τ).loc Cert.Kernel33Ideal.main_arg9) = m ((c.tc : Thread Cert.Kernel33Ideal.nD Cert.Kernel33Ideal.τ).loc Cert.Kernel33Ideal.main_arg9))
      ∧ r.2.sem = fun _ => 0)

def quiescent_Kernel33Ideal_pre_finite_sums_g1 [hKernel33Ideal : Cert.Kernel33Ideal.Facts] [hPre_finite_sums_g1 : Cert.Pre_finite_sums_g1.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal_finite_sums_g1 m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
      ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
      ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3)
      ∧ r.2.mem ((c.tc : Thread Cert.Kernel33Ideal.nD Cert.Kernel33Ideal.τ).loc Cert.Kernel33Ideal.main_arg4) = m ((c.tc : Thread Cert.Kernel33Ideal.nD Cert.Kernel33Ideal.τ).loc Cert.Kernel33Ideal.main_arg4)
      ∧ r.2.mem ((c.tc : Thread Cert.Kernel33Ideal.nD Cert.Kernel33Ideal.τ).loc Cert.Kernel33Ideal.main_arg5) = m ((c.tc : Thread Cert.Kernel33Ideal.nD Cert.Kernel33Ideal.τ).loc Cert.Kernel33Ideal.main_arg5)
      ∧ r.2.mem ((c.tc : Thread Cert.Kernel33Ideal.nD Cert.Kernel33Ideal.τ).loc Cert.Kernel33Ideal.main_arg6) = m ((c.tc : Thread Cert.Kernel33Ideal.nD Cert.Kernel33Ideal.τ).loc Cert.Kernel33Ideal.main_arg6)
      ∧ r.2.mem ((c.tc : Thread Cert.Kernel33Ideal.nD Cert.Kernel33Ideal.τ).loc Cert.Kernel33Ideal.main_arg7) = m ((c.tc : Thread Cert.Kernel33Ideal.nD Cert.Kernel33Ideal.τ).loc Cert.Kernel33Ideal.main_arg7)
      ∧ r.2.mem ((c.tc : Thread Cert.Kernel33Ideal.nD Cert.Kernel33Ideal.τ).loc Cert.Kernel33Ideal.main_arg8) = m ((c.tc : Thread Cert.Kernel33Ideal.nD Cert.Kernel33Ideal.τ).loc Cert.Kernel33Ideal.main_arg8)
      ∧ r.2.mem ((c.tc : Thread Cert.Kernel33Ideal.nD Cert.Kernel33Ideal.τ).loc Cert.Kernel33Ideal.main_arg9) = m ((c.tc : Thread Cert.Kernel33Ideal.nD Cert.Kernel33Ideal.τ).loc Cert.Kernel33Ideal.main_arg9))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1)
      ∧ r.2.mem ((c.tc : Thread Cert.Reference33Ideal.nD Cert.Reference33Ideal.τ).loc Cert.Reference33Ideal.main_arg2) = m ((c.tc : Thread Cert.Reference33Ideal.nD Cert.Reference33Ideal.τ).loc Cert.Reference33Ideal.main_arg2)
      ∧ r.2.mem ((c.tc : Thread Cert.Reference33Ideal.nD Cert.Reference33Ideal.τ).loc Cert.Reference33Ideal.main_arg3) = m ((c.tc : Thread Cert.Reference33Ideal.nD Cert.Reference33Ideal.τ).loc Cert.Reference33Ideal.main_arg3)
      ∧ r.2.mem ((c.tc : Thread Cert.Reference33Ideal.nD Cert.Reference33Ideal.τ).loc Cert.Reference33Ideal.main_arg4) = m ((c.tc : Thread Cert.Reference33Ideal.nD Cert.Reference33Ideal.τ).loc Cert.Reference33Ideal.main_arg4)
      ∧ r.2.mem ((c.tc : Thread Cert.Reference33Ideal.nD Cert.Reference33Ideal.τ).loc Cert.Reference33Ideal.main_arg5) = m ((c.tc : Thread Cert.Reference33Ideal.nD Cert.Reference33Ideal.τ).loc Cert.Reference33Ideal.main_arg5)
      ∧ r.2.mem ((c.tc : Thread Cert.Reference33Ideal.nD Cert.Reference33Ideal.τ).loc Cert.Reference33Ideal.main_arg6) = m ((c.tc : Thread Cert.Reference33Ideal.nD Cert.Reference33Ideal.τ).loc Cert.Reference33Ideal.main_arg6)
      ∧ r.2.mem ((c.tc : Thread Cert.Reference33Ideal.nD Cert.Reference33Ideal.τ).loc Cert.Reference33Ideal.main_arg7) = m ((c.tc : Thread Cert.Reference33Ideal.nD Cert.Reference33Ideal.τ).loc Cert.Reference33Ideal.main_arg7)
      ∧ r.2.mem ((c.tc : Thread Cert.Reference33Ideal.nD Cert.Reference33Ideal.τ).loc Cert.Reference33Ideal.main_arg8) = m ((c.tc : Thread Cert.Reference33Ideal.nD Cert.Reference33Ideal.τ).loc Cert.Reference33Ideal.main_arg8)
      ∧ r.2.mem ((c.tc : Thread Cert.Reference33Ideal.nD Cert.Reference33Ideal.τ).loc Cert.Reference33Ideal.main_arg9) = m ((c.tc : Thread Cert.Reference33Ideal.nD Cert.Reference33Ideal.τ).loc Cert.Reference33Ideal.main_arg9))
      ∧ r.2.sem = fun _ => 0)

def quiescent_Reference33Ideal_pre_finite_sums_g1 [hReference33Ideal : Cert.Reference33Ideal.Facts] [hPre_finite_sums_g1 : Cert.Pre_finite_sums_g1.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal_finite_sums_g1 m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1)
      ∧ r.2.mem ((c.tc : Thread Cert.Reference33Ideal.nD Cert.Reference33Ideal.τ).loc Cert.Reference33Ideal.main_arg2) = m ((c.tc : Thread Cert.Reference33Ideal.nD Cert.Reference33Ideal.τ).loc Cert.Reference33Ideal.main_arg2)
      ∧ r.2.mem ((c.tc : Thread Cert.Reference33Ideal.nD Cert.Reference33Ideal.τ).loc Cert.Reference33Ideal.main_arg3) = m ((c.tc : Thread Cert.Reference33Ideal.nD Cert.Reference33Ideal.τ).loc Cert.Reference33Ideal.main_arg3)
      ∧ r.2.mem ((c.tc : Thread Cert.Reference33Ideal.nD Cert.Reference33Ideal.τ).loc Cert.Reference33Ideal.main_arg4) = m ((c.tc : Thread Cert.Reference33Ideal.nD Cert.Reference33Ideal.τ).loc Cert.Reference33Ideal.main_arg4)
      ∧ r.2.mem ((c.tc : Thread Cert.Reference33Ideal.nD Cert.Reference33Ideal.τ).loc Cert.Reference33Ideal.main_arg5) = m ((c.tc : Thread Cert.Reference33Ideal.nD Cert.Reference33Ideal.τ).loc Cert.Reference33Ideal.main_arg5)
      ∧ r.2.mem ((c.tc : Thread Cert.Reference33Ideal.nD Cert.Reference33Ideal.τ).loc Cert.Reference33Ideal.main_arg6) = m ((c.tc : Thread Cert.Reference33Ideal.nD Cert.Reference33Ideal.τ).loc Cert.Reference33Ideal.main_arg6)
      ∧ r.2.mem ((c.tc : Thread Cert.Reference33Ideal.nD Cert.Reference33Ideal.τ).loc Cert.Reference33Ideal.main_arg7) = m ((c.tc : Thread Cert.Reference33Ideal.nD Cert.Reference33Ideal.τ).loc Cert.Reference33Ideal.main_arg7)
      ∧ r.2.mem ((c.tc : Thread Cert.Reference33Ideal.nD Cert.Reference33Ideal.τ).loc Cert.Reference33Ideal.main_arg8) = m ((c.tc : Thread Cert.Reference33Ideal.nD Cert.Reference33Ideal.τ).loc Cert.Reference33Ideal.main_arg8)
      ∧ r.2.mem ((c.tc : Thread Cert.Reference33Ideal.nD Cert.Reference33Ideal.τ).loc Cert.Reference33Ideal.main_arg9) = m ((c.tc : Thread Cert.Reference33Ideal.nD Cert.Reference33Ideal.τ).loc Cert.Reference33Ideal.main_arg9))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1)
      ∧ r.2.mem ((c.tc : Thread Cert.Kernel34.nD Cert.Kernel34.τ).loc Cert.Kernel34.main_arg2) = m ((c.tc : Thread Cert.Kernel34.nD Cert.Kernel34.τ).loc Cert.Kernel34.main_arg2)
      ∧ r.2.mem ((c.tc : Thread Cert.Kernel34.nD Cert.Kernel34.τ).loc Cert.Kernel34.main_arg3) = m ((c.tc : Thread Cert.Kernel34.nD Cert.Kernel34.τ).loc Cert.Kernel34.main_arg3)
      ∧ r.2.mem ((c.tc : Thread Cert.Kernel34.nD Cert.Kernel34.τ).loc Cert.Kernel34.main_arg4) = m ((c.tc : Thread Cert.Kernel34.nD Cert.Kernel34.τ).loc Cert.Kernel34.main_arg4)
      ∧ r.2.mem ((c.tc : Thread Cert.Kernel34.nD Cert.Kernel34.τ).loc Cert.Kernel34.main_arg5) = m ((c.tc : Thread Cert.Kernel34.nD Cert.Kernel34.τ).loc Cert.Kernel34.main_arg5)
      ∧ r.2.mem ((c.tc : Thread Cert.Kernel34.nD Cert.Kernel34.τ).loc Cert.Kernel34.main_arg6) = m ((c.tc : Thread Cert.Kernel34.nD Cert.Kernel34.τ).loc Cert.Kernel34.main_arg6)
      ∧ r.2.mem ((c.tc : Thread Cert.Kernel34.nD Cert.Kernel34.τ).loc Cert.Kernel34.main_arg7) = m ((c.tc : Thread Cert.Kernel34.nD Cert.Kernel34.τ).loc Cert.Kernel34.main_arg7)
      ∧ r.2.mem ((c.tc : Thread Cert.Kernel34.nD Cert.Kernel34.τ).loc Cert.Kernel34.main_arg8) = m ((c.tc : Thread Cert.Kernel34.nD Cert.Kernel34.τ).loc Cert.Kernel34.main_arg8)
      ∧ r.2.mem ((c.tc : Thread Cert.Kernel34.nD Cert.Kernel34.τ).loc Cert.Kernel34.main_arg9) = m ((c.tc : Thread Cert.Kernel34.nD Cert.Kernel34.τ).loc Cert.Kernel34.main_arg9))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
      ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
      ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3)
      ∧ r.2.mem ((c.tc : Thread Cert.Kernel34Ideal.nD Cert.Kernel34Ideal.τ).loc Cert.Kernel34Ideal.main_arg4) = m ((c.tc : Thread Cert.Kernel34Ideal.nD Cert.Kernel34Ideal.τ).loc Cert.Kernel34Ideal.main_arg4)
      ∧ r.2.mem ((c.tc : Thread Cert.Kernel34Ideal.nD Cert.Kernel34Ideal.τ).loc Cert.Kernel34Ideal.main_arg5) = m ((c.tc : Thread Cert.Kernel34Ideal.nD Cert.Kernel34Ideal.τ).loc Cert.Kernel34Ideal.main_arg5)
      ∧ r.2.mem ((c.tc : Thread Cert.Kernel34Ideal.nD Cert.Kernel34Ideal.τ).loc Cert.Kernel34Ideal.main_arg6) = m ((c.tc : Thread Cert.Kernel34Ideal.nD Cert.Kernel34Ideal.τ).loc Cert.Kernel34Ideal.main_arg6)
      ∧ r.2.mem ((c.tc : Thread Cert.Kernel34Ideal.nD Cert.Kernel34Ideal.τ).loc Cert.Kernel34Ideal.main_arg7) = m ((c.tc : Thread Cert.Kernel34Ideal.nD Cert.Kernel34Ideal.τ).loc Cert.Kernel34Ideal.main_arg7)
      ∧ r.2.mem ((c.tc : Thread Cert.Kernel34Ideal.nD Cert.Kernel34Ideal.τ).loc Cert.Kernel34Ideal.main_arg8) = m ((c.tc : Thread Cert.Kernel34Ideal.nD Cert.Kernel34Ideal.τ).loc Cert.Kernel34Ideal.main_arg8)
      ∧ r.2.mem ((c.tc : Thread Cert.Kernel34Ideal.nD Cert.Kernel34Ideal.τ).loc Cert.Kernel34Ideal.main_arg9) = m ((c.tc : Thread Cert.Kernel34Ideal.nD Cert.Kernel34Ideal.τ).loc Cert.Kernel34Ideal.main_arg9))
      ∧ r.2.sem = fun _ => 0)

def quiescent_Kernel34Ideal_pre_finite_sums_g0 [hKernel34Ideal : Cert.Kernel34Ideal.Facts] [hPre_finite_sums_g0 : Cert.Pre_finite_sums_g0.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal_finite_sums_g0 m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
      ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
      ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3)
      ∧ r.2.mem ((c.tc : Thread Cert.Kernel34Ideal.nD Cert.Kernel34Ideal.τ).loc Cert.Kernel34Ideal.main_arg4) = m ((c.tc : Thread Cert.Kernel34Ideal.nD Cert.Kernel34Ideal.τ).loc Cert.Kernel34Ideal.main_arg4)
      ∧ r.2.mem ((c.tc : Thread Cert.Kernel34Ideal.nD Cert.Kernel34Ideal.τ).loc Cert.Kernel34Ideal.main_arg5) = m ((c.tc : Thread Cert.Kernel34Ideal.nD Cert.Kernel34Ideal.τ).loc Cert.Kernel34Ideal.main_arg5)
      ∧ r.2.mem ((c.tc : Thread Cert.Kernel34Ideal.nD Cert.Kernel34Ideal.τ).loc Cert.Kernel34Ideal.main_arg6) = m ((c.tc : Thread Cert.Kernel34Ideal.nD Cert.Kernel34Ideal.τ).loc Cert.Kernel34Ideal.main_arg6)
      ∧ r.2.mem ((c.tc : Thread Cert.Kernel34Ideal.nD Cert.Kernel34Ideal.τ).loc Cert.Kernel34Ideal.main_arg7) = m ((c.tc : Thread Cert.Kernel34Ideal.nD Cert.Kernel34Ideal.τ).loc Cert.Kernel34Ideal.main_arg7)
      ∧ r.2.mem ((c.tc : Thread Cert.Kernel34Ideal.nD Cert.Kernel34Ideal.τ).loc Cert.Kernel34Ideal.main_arg8) = m ((c.tc : Thread Cert.Kernel34Ideal.nD Cert.Kernel34Ideal.τ).loc Cert.Kernel34Ideal.main_arg8)
      ∧ r.2.mem ((c.tc : Thread Cert.Kernel34Ideal.nD Cert.Kernel34Ideal.τ).loc Cert.Kernel34Ideal.main_arg9) = m ((c.tc : Thread Cert.Kernel34Ideal.nD Cert.Kernel34Ideal.τ).loc Cert.Kernel34Ideal.main_arg9))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1)
      ∧ r.2.mem ((c.tc : Thread Cert.Reference34Ideal.nD Cert.Reference34Ideal.τ).loc Cert.Reference34Ideal.main_arg2) = m ((c.tc : Thread Cert.Reference34Ideal.nD Cert.Reference34Ideal.τ).loc Cert.Reference34Ideal.main_arg2)
      ∧ r.2.mem ((c.tc : Thread Cert.Reference34Ideal.nD Cert.Reference34Ideal.τ).loc Cert.Reference34Ideal.main_arg3) = m ((c.tc : Thread Cert.Reference34Ideal.nD Cert.Reference34Ideal.τ).loc Cert.Reference34Ideal.main_arg3)
      ∧ r.2.mem ((c.tc : Thread Cert.Reference34Ideal.nD Cert.Reference34Ideal.τ).loc Cert.Reference34Ideal.main_arg4) = m ((c.tc : Thread Cert.Reference34Ideal.nD Cert.Reference34Ideal.τ).loc Cert.Reference34Ideal.main_arg4)
      ∧ r.2.mem ((c.tc : Thread Cert.Reference34Ideal.nD Cert.Reference34Ideal.τ).loc Cert.Reference34Ideal.main_arg5) = m ((c.tc : Thread Cert.Reference34Ideal.nD Cert.Reference34Ideal.τ).loc Cert.Reference34Ideal.main_arg5)
      ∧ r.2.mem ((c.tc : Thread Cert.Reference34Ideal.nD Cert.Reference34Ideal.τ).loc Cert.Reference34Ideal.main_arg6) = m ((c.tc : Thread Cert.Reference34Ideal.nD Cert.Reference34Ideal.τ).loc Cert.Reference34Ideal.main_arg6)
      ∧ r.2.mem ((c.tc : Thread Cert.Reference34Ideal.nD Cert.Reference34Ideal.τ).loc Cert.Reference34Ideal.main_arg7) = m ((c.tc : Thread Cert.Reference34Ideal.nD Cert.Reference34Ideal.τ).loc Cert.Reference34Ideal.main_arg7)
      ∧ r.2.mem ((c.tc : Thread Cert.Reference34Ideal.nD Cert.Reference34Ideal.τ).loc Cert.Reference34Ideal.main_arg8) = m ((c.tc : Thread Cert.Reference34Ideal.nD Cert.Reference34Ideal.τ).loc Cert.Reference34Ideal.main_arg8)
      ∧ r.2.mem ((c.tc : Thread Cert.Reference34Ideal.nD Cert.Reference34Ideal.τ).loc Cert.Reference34Ideal.main_arg9) = m ((c.tc : Thread Cert.Reference34Ideal.nD Cert.Reference34Ideal.τ).loc Cert.Reference34Ideal.main_arg9))
      ∧ r.2.sem = fun _ => 0)

def quiescent_Reference34Ideal_pre_finite_sums_g0 [hReference34Ideal : Cert.Reference34Ideal.Facts] [hPre_finite_sums_g0 : Cert.Pre_finite_sums_g0.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal_finite_sums_g0 m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1)
      ∧ r.2.mem ((c.tc : Thread Cert.Reference34Ideal.nD Cert.Reference34Ideal.τ).loc Cert.Reference34Ideal.main_arg2) = m ((c.tc : Thread Cert.Reference34Ideal.nD Cert.Reference34Ideal.τ).loc Cert.Reference34Ideal.main_arg2)
      ∧ r.2.mem ((c.tc : Thread Cert.Reference34Ideal.nD Cert.Reference34Ideal.τ).loc Cert.Reference34Ideal.main_arg3) = m ((c.tc : Thread Cert.Reference34Ideal.nD Cert.Reference34Ideal.τ).loc Cert.Reference34Ideal.main_arg3)
      ∧ r.2.mem ((c.tc : Thread Cert.Reference34Ideal.nD Cert.Reference34Ideal.τ).loc Cert.Reference34Ideal.main_arg4) = m ((c.tc : Thread Cert.Reference34Ideal.nD Cert.Reference34Ideal.τ).loc Cert.Reference34Ideal.main_arg4)
      ∧ r.2.mem ((c.tc : Thread Cert.Reference34Ideal.nD Cert.Reference34Ideal.τ).loc Cert.Reference34Ideal.main_arg5) = m ((c.tc : Thread Cert.Reference34Ideal.nD Cert.Reference34Ideal.τ).loc Cert.Reference34Ideal.main_arg5)
      ∧ r.2.mem ((c.tc : Thread Cert.Reference34Ideal.nD Cert.Reference34Ideal.τ).loc Cert.Reference34Ideal.main_arg6) = m ((c.tc : Thread Cert.Reference34Ideal.nD Cert.Reference34Ideal.τ).loc Cert.Reference34Ideal.main_arg6)
      ∧ r.2.mem ((c.tc : Thread Cert.Reference34Ideal.nD Cert.Reference34Ideal.τ).loc Cert.Reference34Ideal.main_arg7) = m ((c.tc : Thread Cert.Reference34Ideal.nD Cert.Reference34Ideal.τ).loc Cert.Reference34Ideal.main_arg7)
      ∧ r.2.mem ((c.tc : Thread Cert.Reference34Ideal.nD Cert.Reference34Ideal.τ).loc Cert.Reference34Ideal.main_arg8) = m ((c.tc : Thread Cert.Reference34Ideal.nD Cert.Reference34Ideal.τ).loc Cert.Reference34Ideal.main_arg8)
      ∧ r.2.mem ((c.tc : Thread Cert.Reference34Ideal.nD Cert.Reference34Ideal.τ).loc Cert.Reference34Ideal.main_arg9) = m ((c.tc : Thread Cert.Reference34Ideal.nD Cert.Reference34Ideal.τ).loc Cert.Reference34Ideal.main_arg9))
      ∧ r.2.sem = fun _ => 0)

def quiescent_Kernel35 [hKernel35 : Cert.Kernel35.Facts] : Prop :=
  ∀ (m : (ℓ : Loc Cert.Kernel35.nD Cert.Kernel35.τ Cert.Kernel35.sig) → Buf (Elt Bits) ℓ) (g : Dev Cert.Kernel35.nD → PrngReg), Pre_Kernel35 m →
    θ_run (Cert.Kernel35.defs (F := Bits)) (onTc (τ := Cert.Kernel35.τ) (Cert.Kernel35.main (F := Bits))) ⟨m, fun _ => 0, g⟩ (fun r => (∀ c : Dev Cert.Kernel35.nD,
      r.2.mem ((c.tc : Thread Cert.Kernel35.nD Cert.Kernel35.τ).loc Cert.Kernel35.main_arg0) = m ((c.tc : Thread Cert.Kernel35.nD Cert.Kernel35.τ).loc Cert.Kernel35.main_arg0)
      ∧ r.2.mem ((c.tc : Thread Cert.Kernel35.nD Cert.Kernel35.τ).loc Cert.Kernel35.main_arg1) = m ((c.tc : Thread Cert.Kernel35.nD Cert.Kernel35.τ).loc Cert.Kernel35.main_arg1))
      ∧ r.2.sem = fun _ => 0)

def quiescent_Kernel35Ideal [hKernel35Ideal : Cert.Kernel35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg), Pre_Kernel35Ideal m →
    θ_run (Cert.Kernel35Ideal.defs (F := Ideal)) (onTc (τ := Cert.Kernel35Ideal.τ) (Cert.Kernel35Ideal.main (F := Ideal))) ⟨m, fun _ => 0, g⟩ (fun r => (∀ c : Dev Cert.Kernel35Ideal.nD,
      r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
      ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1))
      ∧ r.2.sem = fun _ => 0)

def quiescent_Reference35Ideal [hReference35Ideal : Cert.Reference35Ideal.Facts] : Prop :=
  ∀ (m : (ℓ : Loc Cert.Reference35Ideal.nD Cert.Reference35Ideal.τ Cert.Reference35Ideal.sig) → Buf (Elt Ideal) ℓ) (g : Dev Cert.Reference35Ideal.nD → PrngReg), Pre_Reference35Ideal m →
    θ_run (Cert.Reference35Ideal.defs (F := Ideal)) (onTc (τ := Cert.Reference35Ideal.τ) (Cert.Reference35Ideal.main (F := Ideal))) ⟨m, fun _ => 0, g⟩ (fun r => (∀ c : Dev Cert.Reference35Ideal.nD,
      r.2.mem ((c.tc : Thread Cert.Reference35Ideal.nD Cert.Reference35Ideal.τ).loc Cert.Reference35Ideal.main_arg0) = m ((c.tc : Thread Cert.Reference35Ideal.nD Cert.Reference35Ideal.τ).loc Cert.Reference35Ideal.main_arg0)
      ∧ r.2.mem ((c.tc : Thread Cert.Reference35Ideal.nD Cert.Reference35Ideal.τ).loc Cert.Reference35Ideal.main_arg1) = m ((c.tc : Thread Cert.Reference35Ideal.nD Cert.Reference35Ideal.τ).loc Cert.Reference35Ideal.main_arg1))
      ∧ r.2.sem = fun _ => 0)

def quiescent_Kernel36 [hKernel36 : Cert.Kernel36.Facts] : Prop :=
  ∀ (m : (ℓ : Loc Cert.Kernel36.nD Cert.Kernel36.τ Cert.Kernel36.sig) → Buf (Elt Bits) ℓ) (g : Dev Cert.Kernel36.nD → PrngReg), Pre_Kernel36 m →
    θ_run (Cert.Kernel36.defs (F := Bits)) (onTc (τ := Cert.Kernel36.τ) (Cert.Kernel36.main (F := Bits))) ⟨m, fun _ => 0, g⟩ (fun r => (∀ c : Dev Cert.Kernel36.nD,
      r.2.mem ((c.tc : Thread Cert.Kernel36.nD Cert.Kernel36.τ).loc Cert.Kernel36.main_arg0) = m ((c.tc : Thread Cert.Kernel36.nD Cert.Kernel36.τ).loc Cert.Kernel36.main_arg0)
      ∧ r.2.mem ((c.tc : Thread Cert.Kernel36.nD Cert.Kernel36.τ).loc Cert.Kernel36.main_arg1) = m ((c.tc : Thread Cert.Kernel36.nD Cert.Kernel36.τ).loc Cert.Kernel36.main_arg1)
      ∧ r.2.mem ((c.tc : Thread Cert.Kernel36.nD Cert.Kernel36.τ).loc Cert.Kernel36.main_arg2) = m ((c.tc : Thread Cert.Kernel36.nD Cert.Kernel36.τ).loc Cert.Kernel36.main_arg2)
      ∧ r.2.mem ((c.tc : Thread Cert.Kernel36.nD Cert.Kernel36.τ).loc Cert.Kernel36.main_arg3) = m ((c.tc : Thread Cert.Kernel36.nD Cert.Kernel36.τ).loc Cert.Kernel36.main_arg3))
      ∧ r.2.sem = fun _ => 0)

def quiescent_Kernel36Ideal [hKernel36Ideal : Cert.Kernel36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg), Pre_Kernel36Ideal m →
    θ_run (Cert.Kernel36Ideal.defs (F := Ideal)) (onTc (τ := Cert.Kernel36Ideal.τ) (Cert.Kernel36Ideal.main (F := Ideal))) ⟨m, fun _ => 0, g⟩ (fun r => (∀ c : Dev Cert.Kernel36Ideal.nD,
      r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
      ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
      ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2)
      ∧ r.2.mem ((c.tc : Thread Cert.Kernel36Ideal.nD Cert.Kernel36Ideal.τ).loc Cert.Kernel36Ideal.main_arg3) = m ((c.tc : Thread Cert.Kernel36Ideal.nD Cert.Kernel36Ideal.τ).loc Cert.Kernel36Ideal.main_arg3))
      ∧ r.2.sem = fun _ => 0)

def quiescent_Reference36Ideal [hReference36Ideal : Cert.Reference36Ideal.Facts] : Prop :=
  ∀ (m : (ℓ : Loc Cert.Reference36Ideal.nD Cert.Reference36Ideal.τ Cert.Reference36Ideal.sig) → Buf (Elt Ideal) ℓ) (g : Dev Cert.Reference36Ideal.nD → PrngReg), Pre_Reference36Ideal m →
    θ_run (Cert.Reference36Ideal.defs (F := Ideal)) (onTc (τ := Cert.Reference36Ideal.τ) (Cert.Reference36Ideal.main (F := Ideal))) ⟨m, fun _ => 0, g⟩ (fun r => (∀ c : Dev Cert.Reference36Ideal.nD,
      r.2.mem ((c.tc : Thread Cert.Reference36Ideal.nD Cert.Reference36Ideal.τ).loc Cert.Reference36Ideal.main_arg0) = m ((c.tc : Thread Cert.Reference36Ideal.nD Cert.Reference36Ideal.τ).loc Cert.Reference36Ideal.main_arg0)
      ∧ r.2.mem ((c.tc : Thread Cert.Reference36Ideal.nD Cert.Reference36Ideal.τ).loc Cert.Reference36Ideal.main_arg1) = m ((c.tc : Thread Cert.Reference36Ideal.nD Cert.Reference36Ideal.τ).loc Cert.Reference36Ideal.main_arg1)
      ∧ r.2.mem ((c.tc : Thread Cert.Reference36Ideal.nD Cert.Reference36Ideal.τ).loc Cert.Reference36Ideal.main_arg2) = m ((c.tc : Thread Cert.Reference36Ideal.nD Cert.Reference36Ideal.τ).loc Cert.Reference36Ideal.main_arg2)
      ∧ r.2.mem ((c.tc : Thread Cert.Reference36Ideal.nD Cert.Reference36Ideal.τ).loc Cert.Reference36Ideal.main_arg3) = m ((c.tc : Thread Cert.Reference36Ideal.nD Cert.Reference36Ideal.τ).loc Cert.Reference36Ideal.main_arg3))
      ∧ r.2.sem = fun _ => 0)

def quiescent_Kernel37 [hKernel37 : Cert.Kernel37.Facts] : Prop :=
  ∀ (m : (ℓ : Loc Cert.Kernel37.nD Cert.Kernel37.τ Cert.Kernel37.sig) → Buf (Elt Bits) ℓ) (g : Dev Cert.Kernel37.nD → PrngReg), Pre_Kernel37 m →
    θ_run (Cert.Kernel37.defs (F := Bits)) (onTc (τ := Cert.Kernel37.τ) (Cert.Kernel37.main (F := Bits))) ⟨m, fun _ => 0, g⟩ (fun r => (∀ c : Dev Cert.Kernel37.nD,
      r.2.mem ((c.tc : Thread Cert.Kernel37.nD Cert.Kernel37.τ).loc Cert.Kernel37.main_arg0) = m ((c.tc : Thread Cert.Kernel37.nD Cert.Kernel37.τ).loc Cert.Kernel37.main_arg0)
      ∧ r.2.mem ((c.tc : Thread Cert.Kernel37.nD Cert.Kernel37.τ).loc Cert.Kernel37.main_arg1) = m ((c.tc : Thread Cert.Kernel37.nD Cert.Kernel37.τ).loc Cert.Kernel37.main_arg1)
      ∧ r.2.mem ((c.tc : Thread Cert.Kernel37.nD Cert.Kernel37.τ).loc Cert.Kernel37.main_arg2) = m ((c.tc : Thread Cert.Kernel37.nD Cert.Kernel37.τ).loc Cert.Kernel37.main_arg2))
      ∧ r.2.sem = fun _ => 0)

def quiescent_Kernel37Ideal [hKernel37Ideal : Cert.Kernel37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg), Pre_Kernel37Ideal m →
    θ_run (Cert.Kernel37Ideal.defs (F := Ideal)) (onTc (τ := Cert.Kernel37Ideal.τ) (Cert.Kernel37Ideal.main (F := Ideal))) ⟨m, fun _ => 0, g⟩ (fun r => (∀ c : Dev Cert.Kernel37Ideal.nD,
      r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
      ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
      ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2))
      ∧ r.2.sem = fun _ => 0)

def quiescent_Reference37Ideal [hReference37Ideal : Cert.Reference37Ideal.Facts] : Prop :=
  ∀ (m : (ℓ : Loc Cert.Reference37Ideal.nD Cert.Reference37Ideal.τ Cert.Reference37Ideal.sig) → Buf (Elt Ideal) ℓ) (g : Dev Cert.Reference37Ideal.nD → PrngReg), Pre_Reference37Ideal m →
    θ_run (Cert.Reference37Ideal.defs (F := Ideal)) (onTc (τ := Cert.Reference37Ideal.τ) (Cert.Reference37Ideal.main (F := Ideal))) ⟨m, fun _ => 0, g⟩ (fun r => (∀ c : Dev Cert.Reference37Ideal.nD,
      r.2.mem ((c.tc : Thread Cert.Reference37Ideal.nD Cert.Reference37Ideal.τ).loc Cert.Reference37Ideal.main_arg0) = m ((c.tc : Thread Cert.Reference37Ideal.nD Cert.Reference37Ideal.τ).loc Cert.Reference37Ideal.main_arg0)
      ∧ r.2.mem ((c.tc : Thread Cert.Reference37Ideal.nD Cert.Reference37Ideal.τ).loc Cert.Reference37Ideal.main_arg1) = m ((c.tc : Thread Cert.Reference37Ideal.nD Cert.Reference37Ideal.τ).loc Cert.Reference37Ideal.main_arg1)
      ∧ r.2.mem ((c.tc : Thread Cert.Reference37Ideal.nD Cert.Reference37Ideal.τ).loc Cert.Reference37Ideal.main_arg2) = m ((c.tc : Thread Cert.Reference37Ideal.nD Cert.Reference37Ideal.τ).loc Cert.Reference37Ideal.main_arg2))
      ∧ r.2.sem = fun _ => 0)

def quiescent_Kernel38 [hKernel38 : Cert.Kernel38.Facts] : Prop :=
  ∀ (m : (ℓ : Loc Cert.Kernel38.nD Cert.Kernel38.τ Cert.Kernel38.sig) → Buf (Elt Bits) ℓ) (g : Dev Cert.Kernel38.nD → PrngReg), Pre_Kernel38 m →
    θ_run (Cert.Kernel38.defs (F := Bits)) (onTc (τ := Cert.Kernel38.τ) (Cert.Kernel38.main (F := Bits))) ⟨m, fun _ => 0, g⟩ (fun r => (∀ c : Dev Cert.Kernel38.nD,
      r.2.mem ((c.tc : Thread Cert.Kernel38.nD Cert.Kernel38.τ).loc Cert.Kernel38.main_arg0) = m ((c.tc : Thread Cert.Kernel38.nD Cert.Kernel38.τ).loc Cert.Kernel38.main_arg0)
      ∧ r.2.mem ((c.tc : Thread Cert.Kernel38.nD Cert.Kernel38.τ).loc Cert.Kernel38.main_arg1) = m ((c.tc : Thread Cert.Kernel38.nD Cert.Kernel38.τ).loc Cert.Kernel38.main_arg1)
      ∧ r.2.mem ((c.tc : Thread Cert.Kernel38.nD Cert.Kernel38.τ).loc Cert.Kernel38.main_arg2) = m ((c.tc : Thread Cert.Kernel38.nD Cert.Kernel38.τ).loc Cert.Kernel38.main_arg2)
      ∧ r.2.mem ((c.tc : Thread Cert.Kernel38.nD Cert.Kernel38.τ).loc Cert.Kernel38.main_arg3) = m ((c.tc : Thread Cert.Kernel38.nD Cert.Kernel38.τ).loc Cert.Kernel38.main_arg3))
      ∧ r.2.sem = fun _ => 0)

def quiescent_Kernel38Ideal [hKernel38Ideal : Cert.Kernel38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg), Pre_Kernel38Ideal m →
    θ_run (Cert.Kernel38Ideal.defs (F := Ideal)) (onTc (τ := Cert.Kernel38Ideal.τ) (Cert.Kernel38Ideal.main (F := Ideal))) ⟨m, fun _ => 0, g⟩ (fun r => (∀ c : Dev Cert.Kernel38Ideal.nD,
      r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
      ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1)
      ∧ r.2.mem ((c.tc : Thread Cert.Kernel38Ideal.nD Cert.Kernel38Ideal.τ).loc Cert.Kernel38Ideal.main_arg2) = m ((c.tc : Thread Cert.Kernel38Ideal.nD Cert.Kernel38Ideal.τ).loc Cert.Kernel38Ideal.main_arg2)
      ∧ r.2.mem ((c.tc : Thread Cert.Kernel38Ideal.nD Cert.Kernel38Ideal.τ).loc Cert.Kernel38Ideal.main_arg3) = m ((c.tc : Thread Cert.Kernel38Ideal.nD Cert.Kernel38Ideal.τ).loc Cert.Kernel38Ideal.main_arg3))
      ∧ r.2.sem = fun _ => 0)

def quiescent_Reference38Ideal [hReference38Ideal : Cert.Reference38Ideal.Facts] : Prop :=
  ∀ (m : (ℓ : Loc Cert.Reference38Ideal.nD Cert.Reference38Ideal.τ Cert.Reference38Ideal.sig) → Buf (Elt Ideal) ℓ) (g : Dev Cert.Reference38Ideal.nD → PrngReg), Pre_Reference38Ideal m →
    θ_run (Cert.Reference38Ideal.defs (F := Ideal)) (onTc (τ := Cert.Reference38Ideal.τ) (Cert.Reference38Ideal.main (F := Ideal))) ⟨m, fun _ => 0, g⟩ (fun r => (∀ c : Dev Cert.Reference38Ideal.nD,
      r.2.mem ((c.tc : Thread Cert.Reference38Ideal.nD Cert.Reference38Ideal.τ).loc Cert.Reference38Ideal.main_arg0) = m ((c.tc : Thread Cert.Reference38Ideal.nD Cert.Reference38Ideal.τ).loc Cert.Reference38Ideal.main_arg0)
      ∧ r.2.mem ((c.tc : Thread Cert.Reference38Ideal.nD Cert.Reference38Ideal.τ).loc Cert.Reference38Ideal.main_arg1) = m ((c.tc : Thread Cert.Reference38Ideal.nD Cert.Reference38Ideal.τ).loc Cert.Reference38Ideal.main_arg1)
      ∧ r.2.mem ((c.tc : Thread Cert.Reference38Ideal.nD Cert.Reference38Ideal.τ).loc Cert.Reference38Ideal.main_arg2) = m ((c.tc : Thread Cert.Reference38Ideal.nD Cert.Reference38Ideal.τ).loc Cert.Reference38Ideal.main_arg2)
      ∧ r.2.mem ((c.tc : Thread Cert.Reference38Ideal.nD Cert.Reference38Ideal.τ).loc Cert.Reference38Ideal.main_arg3) = m ((c.tc : Thread Cert.Reference38Ideal.nD Cert.Reference38Ideal.τ).loc Cert.Reference38Ideal.main_arg3))
      ∧ r.2.sem = fun _ => 0)

def quiescent_Kernel39 [hKernel39 : Cert.Kernel39.Facts] : Prop :=
  ∀ (m : (ℓ : Loc Cert.Kernel39.nD Cert.Kernel39.τ Cert.Kernel39.sig) → Buf (Elt Bits) ℓ) (g : Dev Cert.Kernel39.nD → PrngReg), Pre_Kernel39 m →
    θ_run (Cert.Kernel39.defs (F := Bits)) (onTc (τ := Cert.Kernel39.τ) (Cert.Kernel39.main (F := Bits))) ⟨m, fun _ => 0, g⟩ (fun r => (∀ c : Dev Cert.Kernel39.nD,
      r.2.mem ((c.tc : Thread Cert.Kernel39.nD Cert.Kernel39.τ).loc Cert.Kernel39.main_arg0) = m ((c.tc : Thread Cert.Kernel39.nD Cert.Kernel39.τ).loc Cert.Kernel39.main_arg0)
      ∧ r.2.mem ((c.tc : Thread Cert.Kernel39.nD Cert.Kernel39.τ).loc Cert.Kernel39.main_arg1) = m ((c.tc : Thread Cert.Kernel39.nD Cert.Kernel39.τ).loc Cert.Kernel39.main_arg1)
      ∧ r.2.mem ((c.tc : Thread Cert.Kernel39.nD Cert.Kernel39.τ).loc Cert.Kernel39.main_arg2) = m ((c.tc : Thread Cert.Kernel39.nD Cert.Kernel39.τ).loc Cert.Kernel39.main_arg2)
      ∧ r.2.mem ((c.tc : Thread Cert.Kernel39.nD Cert.Kernel39.τ).loc Cert.Kernel39.main_arg3) = m ((c.tc : Thread Cert.Kernel39.nD Cert.Kernel39.τ).loc Cert.Kernel39.main_arg3))
      ∧ r.2.sem = fun _ => 0)

def quiescent_Kernel39Ideal [hKernel39Ideal : Cert.Kernel39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg), Pre_Kernel39Ideal m →
    θ_run (Cert.Kernel39Ideal.defs (F := Ideal)) (onTc (τ := Cert.Kernel39Ideal.τ) (Cert.Kernel39Ideal.main (F := Ideal))) ⟨m, fun _ => 0, g⟩ (fun r => (∀ c : Dev Cert.Kernel39Ideal.nD,
      r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0)
      ∧ r.2.mem ((c.tc : Thread Cert.Kernel39Ideal.nD Cert.Kernel39Ideal.τ).loc Cert.Kernel39Ideal.main_arg1) = m ((c.tc : Thread Cert.Kernel39Ideal.nD Cert.Kernel39Ideal.τ).loc Cert.Kernel39Ideal.main_arg1)
      ∧ r.2.mem ((c.tc : Thread Cert.Kernel39Ideal.nD Cert.Kernel39Ideal.τ).loc Cert.Kernel39Ideal.main_arg2) = m ((c.tc : Thread Cert.Kernel39Ideal.nD Cert.Kernel39Ideal.τ).loc Cert.Kernel39Ideal.main_arg2)
      ∧ r.2.mem ((c.tc : Thread Cert.Kernel39Ideal.nD Cert.Kernel39Ideal.τ).loc Cert.Kernel39Ideal.main_arg3) = m ((c.tc : Thread Cert.Kernel39Ideal.nD Cert.Kernel39Ideal.τ).loc Cert.Kernel39Ideal.main_arg3))
      ∧ r.2.sem = fun _ => 0)

def quiescent_Reference39Ideal [hReference39Ideal : Cert.Reference39Ideal.Facts] : Prop :=
  ∀ (m : (ℓ : Loc Cert.Reference39Ideal.nD Cert.Reference39Ideal.τ Cert.Reference39Ideal.sig) → Buf (Elt Ideal) ℓ) (g : Dev Cert.Reference39Ideal.nD → PrngReg), Pre_Reference39Ideal m →
    θ_run (Cert.Reference39Ideal.defs (F := Ideal)) (onTc (τ := Cert.Reference39Ideal.τ) (Cert.Reference39Ideal.main (F := Ideal))) ⟨m, fun _ => 0, g⟩ (fun r => (∀ c : Dev Cert.Reference39Ideal.nD,
      r.2.mem ((c.tc : Thread Cert.Reference39Ideal.nD Cert.Reference39Ideal.τ).loc Cert.Reference39Ideal.main_arg0) = m ((c.tc : Thread Cert.Reference39Ideal.nD Cert.Reference39Ideal.τ).loc Cert.Reference39Ideal.main_arg0)
      ∧ r.2.mem ((c.tc : Thread Cert.Reference39Ideal.nD Cert.Reference39Ideal.τ).loc Cert.Reference39Ideal.main_arg1) = m ((c.tc : Thread Cert.Reference39Ideal.nD Cert.Reference39Ideal.τ).loc Cert.Reference39Ideal.main_arg1)
      ∧ r.2.mem ((c.tc : Thread Cert.Reference39Ideal.nD Cert.Reference39Ideal.τ).loc Cert.Reference39Ideal.main_arg2) = m ((c.tc : Thread Cert.Reference39Ideal.nD Cert.Reference39Ideal.τ).loc Cert.Reference39Ideal.main_arg2)
      ∧ r.2.mem ((c.tc : Thread Cert.Reference39Ideal.nD Cert.Reference39Ideal.τ).loc Cert.Reference39Ideal.main_arg3) = m ((c.tc : Thread Cert.Reference39Ideal.nD Cert.Reference39Ideal.τ).loc Cert.Reference39Ideal.main_arg3))
      ∧ r.2.sem = fun _ => 0)

def quiescent_Kernel40 [hKernel40 : Cert.Kernel40.Facts] : Prop :=
  ∀ (m : (ℓ : Loc Cert.Kernel40.nD Cert.Kernel40.τ Cert.Kernel40.sig) → Buf (Elt Bits) ℓ) (g : Dev Cert.Kernel40.nD → PrngReg), Pre_Kernel40 m →
    θ_run (Cert.Kernel40.defs (F := Bits)) (onTc (τ := Cert.Kernel40.τ) (Cert.Kernel40.main (F := Bits))) ⟨m, fun _ => 0, g⟩ (fun r => (∀ c : Dev Cert.Kernel40.nD,
      r.2.mem ((c.tc : Thread Cert.Kernel40.nD Cert.Kernel40.τ).loc Cert.Kernel40.main_arg0) = m ((c.tc : Thread Cert.Kernel40.nD Cert.Kernel40.τ).loc Cert.Kernel40.main_arg0)
      ∧ r.2.mem ((c.tc : Thread Cert.Kernel40.nD Cert.Kernel40.τ).loc Cert.Kernel40.main_arg1) = m ((c.tc : Thread Cert.Kernel40.nD Cert.Kernel40.τ).loc Cert.Kernel40.main_arg1)
      ∧ r.2.mem ((c.tc : Thread Cert.Kernel40.nD Cert.Kernel40.τ).loc Cert.Kernel40.main_arg2) = m ((c.tc : Thread Cert.Kernel40.nD Cert.Kernel40.τ).loc Cert.Kernel40.main_arg2)
      ∧ r.2.mem ((c.tc : Thread Cert.Kernel40.nD Cert.Kernel40.τ).loc Cert.Kernel40.main_arg3) = m ((c.tc : Thread Cert.Kernel40.nD Cert.Kernel40.τ).loc Cert.Kernel40.main_arg3)
      ∧ r.2.mem ((c.tc : Thread Cert.Kernel40.nD Cert.Kernel40.τ).loc Cert.Kernel40.main_arg4) = m ((c.tc : Thread Cert.Kernel40.nD Cert.Kernel40.τ).loc Cert.Kernel40.main_arg4))
      ∧ r.2.sem = fun _ => 0)

def quiescent_Kernel40Ideal [hKernel40Ideal : Cert.Kernel40Ideal.Facts] : Prop :=
  ∀ (m : (ℓ : Loc Cert.Kernel40Ideal.nD Cert.Kernel40Ideal.τ Cert.Kernel40Ideal.sig) → Buf (Elt Ideal) ℓ) (g : Dev Cert.Kernel40Ideal.nD → PrngReg), Pre_Kernel40Ideal m →
    θ_run (Cert.Kernel40Ideal.defs (F := Ideal)) (onTc (τ := Cert.Kernel40Ideal.τ) (Cert.Kernel40Ideal.main (F := Ideal))) ⟨m, fun _ => 0, g⟩ (fun r => (∀ c : Dev Cert.Kernel40Ideal.nD,
      r.2.mem ((c.tc : Thread Cert.Kernel40Ideal.nD Cert.Kernel40Ideal.τ).loc Cert.Kernel40Ideal.main_arg0) = m ((c.tc : Thread Cert.Kernel40Ideal.nD Cert.Kernel40Ideal.τ).loc Cert.Kernel40Ideal.main_arg0)
      ∧ r.2.mem ((c.tc : Thread Cert.Kernel40Ideal.nD Cert.Kernel40Ideal.τ).loc Cert.Kernel40Ideal.main_arg1) = m ((c.tc : Thread Cert.Kernel40Ideal.nD Cert.Kernel40Ideal.τ).loc Cert.Kernel40Ideal.main_arg1)
      ∧ r.2.mem ((c.tc : Thread Cert.Kernel40Ideal.nD Cert.Kernel40Ideal.τ).loc Cert.Kernel40Ideal.main_arg2) = m ((c.tc : Thread Cert.Kernel40Ideal.nD Cert.Kernel40Ideal.τ).loc Cert.Kernel40Ideal.main_arg2)
      ∧ r.2.mem ((c.tc : Thread Cert.Kernel40Ideal.nD Cert.Kernel40Ideal.τ).loc Cert.Kernel40Ideal.main_arg3) = m ((c.tc : Thread Cert.Kernel40Ideal.nD Cert.Kernel40Ideal.τ).loc Cert.Kernel40Ideal.main_arg3)
      ∧ r.2.mem ((c.tc : Thread Cert.Kernel40Ideal.nD Cert.Kernel40Ideal.τ).loc Cert.Kernel40Ideal.main_arg4) = m ((c.tc : Thread Cert.Kernel40Ideal.nD Cert.Kernel40Ideal.τ).loc Cert.Kernel40Ideal.main_arg4))
      ∧ r.2.sem = fun _ => 0)

def quiescent_Reference40Ideal [hReference40Ideal : Cert.Reference40Ideal.Facts] : Prop :=
  ∀ (m : (ℓ : Loc Cert.Reference40Ideal.nD Cert.Reference40Ideal.τ Cert.Reference40Ideal.sig) → Buf (Elt Ideal) ℓ) (g : Dev Cert.Reference40Ideal.nD → PrngReg), Pre_Reference40Ideal m →
    θ_run (Cert.Reference40Ideal.defs (F := Ideal)) (onTc (τ := Cert.Reference40Ideal.τ) (Cert.Reference40Ideal.main (F := Ideal))) ⟨m, fun _ => 0, g⟩ (fun r => (∀ c : Dev Cert.Reference40Ideal.nD,
      r.2.mem ((c.tc : Thread Cert.Reference40Ideal.nD Cert.Reference40Ideal.τ).loc Cert.Reference40Ideal.main_arg0) = m ((c.tc : Thread Cert.Reference40Ideal.nD Cert.Reference40Ideal.τ).loc Cert.Reference40Ideal.main_arg0)
      ∧ r.2.mem ((c.tc : Thread Cert.Reference40Ideal.nD Cert.Reference40Ideal.τ).loc Cert.Reference40Ideal.main_arg1) = m ((c.tc : Thread Cert.Reference40Ideal.nD Cert.Reference40Ideal.τ).loc Cert.Reference40Ideal.main_arg1)
      ∧ r.2.mem ((c.tc : Thread Cert.Reference40Ideal.nD Cert.Reference40Ideal.τ).loc Cert.Reference40Ideal.main_arg2) = m ((c.tc : Thread Cert.Reference40Ideal.nD Cert.Reference40Ideal.τ).loc Cert.Reference40Ideal.main_arg2)
      ∧ r.2.mem ((c.tc : Thread Cert.Reference40Ideal.nD Cert.Reference40Ideal.τ).loc Cert.Reference40Ideal.main_arg3) = m ((c.tc : Thread Cert.Reference40Ideal.nD Cert.Reference40Ideal.τ).loc Cert.Reference40Ideal.main_arg3)
      ∧ r.2.mem ((c.tc : Thread Cert.Reference40Ideal.nD Cert.Reference40Ideal.τ).loc Cert.Reference40Ideal.main_arg4) = m ((c.tc : Thread Cert.Reference40Ideal.nD Cert.Reference40Ideal.τ).loc Cert.Reference40Ideal.main_arg4))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)) (v6 : (c : Dev Cert.KernelIdeal.nD) → Buf (Elt Ideal) ((c.tc : Thread Cert.KernelIdeal.nD Cert.KernelIdeal.τ).loc Cert.KernelIdeal.main_v0_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_v0_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_v86) = v1 c
          ∧ r.2.mem ((c.tc : Thread Cert.ReferenceIdeal.nD Cert.ReferenceIdeal.τ).loc Cert.ReferenceIdeal.main_v84) = v2 c
          ∧ r.2.mem ((c.tc : Thread Cert.ReferenceIdeal.nD Cert.ReferenceIdeal.τ).loc Cert.ReferenceIdeal.main_v89) = v3 c
          ∧ r.2.mem ((c.tc : Thread Cert.ReferenceIdeal.nD Cert.ReferenceIdeal.τ).loc Cert.ReferenceIdeal.main_v90) = v4 c
          ∧ r.2.mem ((c.tc : Thread Cert.ReferenceIdeal.nD Cert.ReferenceIdeal.τ).loc Cert.ReferenceIdeal.main_v91) = v5 c
          ∧ r.2.mem ((c.tc : Thread Cert.ReferenceIdeal.nD Cert.ReferenceIdeal.τ).loc Cert.ReferenceIdeal.main_v92) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v7) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v2) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v10) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v11) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v16) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v3) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v5) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v6) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v3) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v4) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v6) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v2) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v4) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v5) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v4) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v6) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v9) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v1)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v1) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v14) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v0)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v3) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)) →
    ∃ (v0 : (c : Dev Cert.Kernel24Ideal.nD) → Buf (Elt Ideal) ((c.tc : Thread Cert.Kernel24Ideal.nD Cert.Kernel24Ideal.τ).loc Cert.Kernel24Ideal.main_v0)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v8) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)) →
    ∃ (v0 : (c : Dev Cert.Kernel25Ideal.nD) → Buf (Elt Ideal) ((c.tc : Thread Cert.Kernel25Ideal.nD Cert.Kernel25Ideal.τ).loc Cert.Kernel25Ideal.main_v0)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v2) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)) →
    ∃ (v0 : (c : Dev Cert.Kernel26Ideal.nD) → Buf (Elt Ideal) ((c.tc : Thread Cert.Kernel26Ideal.nD Cert.Kernel26Ideal.τ).loc Cert.Kernel26Ideal.main_v0)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v5) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)) →
    ∃ (v0 : (c : Dev Cert.Kernel27Ideal.nD) → Buf (Elt Ideal) ((c.tc : Thread Cert.Kernel27Ideal.nD Cert.Kernel27Ideal.τ).loc Cert.Kernel27Ideal.main_v0)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v4) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2))

def preserves_Kernel28_Kernel28Ideal : Prop :=
  IdealRules.named_const.Statement Cert.Kernel28Ideal.κ "mask" .f32 0xF149F2CA#32 ⊥

def algebraic_Kernel28Ideal_Reference28Ideal_pre_finite_scores [hKernel28Ideal : Cert.Kernel28Ideal.Facts] [hReference28Ideal : Cert.Reference28Ideal.Facts] [hPre_finite_scores : Cert.Pre_finite_scores.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal_finite_scores m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)
      ∧ m' ((c.tc : Thread Cert.Reference28Ideal.nD Cert.Reference28Ideal.τ).loc Cert.Reference28Ideal.main_arg4) = m ((c.tc : Thread Cert.Kernel28Ideal.nD Cert.Kernel28Ideal.τ).loc Cert.Kernel28Ideal.main_arg4)) →
    ∃ (v0 : (c : Dev Cert.Kernel28Ideal.nD) → Buf (Elt Ideal) ((c.tc : Thread Cert.Kernel28Ideal.nD Cert.Kernel28Ideal.τ).loc Cert.Kernel28Ideal.main_v0)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0) = v0 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3)
          ∧ r.2.mem ((c.tc : Thread Cert.Kernel28Ideal.nD Cert.Kernel28Ideal.τ).loc Cert.Kernel28Ideal.main_arg4) = m ((c.tc : Thread Cert.Kernel28Ideal.nD Cert.Kernel28Ideal.τ).loc Cert.Kernel28Ideal.main_arg4))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v40) = v0 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3)
          ∧ r.2.mem ((c.tc : Thread Cert.Reference28Ideal.nD Cert.Reference28Ideal.τ).loc Cert.Reference28Ideal.main_arg4) = m' ((c.tc : Thread Cert.Reference28Ideal.nD Cert.Reference28Ideal.τ).loc Cert.Reference28Ideal.main_arg4))

def preserves_Kernel29_Kernel29Ideal : Prop :=
  IdealRules.named_const.Statement Cert.Kernel29Ideal.κ "mask" .f32 0xF149F2CA#32 ⊥

def algebraic_Kernel29Ideal_Reference29Ideal_pre_finite_scores [hKernel29Ideal : Cert.Kernel29Ideal.Facts] [hReference29Ideal : Cert.Reference29Ideal.Facts] [hPre_finite_scores : Cert.Pre_finite_scores.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal_finite_scores m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)
      ∧ m' ((c.tc : Thread Cert.Reference29Ideal.nD Cert.Reference29Ideal.τ).loc Cert.Reference29Ideal.main_arg4) = m ((c.tc : Thread Cert.Kernel29Ideal.nD Cert.Kernel29Ideal.τ).loc Cert.Kernel29Ideal.main_arg4)) →
    ∃ (v0 : (c : Dev Cert.Kernel29Ideal.nD) → Buf (Elt Ideal) ((c.tc : Thread Cert.Kernel29Ideal.nD Cert.Kernel29Ideal.τ).loc Cert.Kernel29Ideal.main_v0)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0) = v0 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3)
          ∧ r.2.mem ((c.tc : Thread Cert.Kernel29Ideal.nD Cert.Kernel29Ideal.τ).loc Cert.Kernel29Ideal.main_arg4) = m ((c.tc : Thread Cert.Kernel29Ideal.nD Cert.Kernel29Ideal.τ).loc Cert.Kernel29Ideal.main_arg4))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v42) = v0 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3)
          ∧ r.2.mem ((c.tc : Thread Cert.Reference29Ideal.nD Cert.Reference29Ideal.τ).loc Cert.Reference29Ideal.main_arg4) = m' ((c.tc : Thread Cert.Reference29Ideal.nD Cert.Reference29Ideal.τ).loc Cert.Reference29Ideal.main_arg4))

def preserves_Kernel30_Kernel30Ideal : Prop :=
  IdealRules.named_const.Statement Cert.Kernel30Ideal.κ "mask" .f32 0xF149F2CA#32 ⊥

def algebraic_Kernel30Ideal_Reference30Ideal_pre_finite_scores [hKernel30Ideal : Cert.Kernel30Ideal.Facts] [hReference30Ideal : Cert.Reference30Ideal.Facts] [hPre_finite_scores : Cert.Pre_finite_scores.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal_finite_scores m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)
      ∧ m' ((c.tc : Thread Cert.Reference30Ideal.nD Cert.Reference30Ideal.τ).loc Cert.Reference30Ideal.main_arg3) = m ((c.tc : Thread Cert.Kernel30Ideal.nD Cert.Kernel30Ideal.τ).loc Cert.Kernel30Ideal.main_arg3)
      ∧ m' ((c.tc : Thread Cert.Reference30Ideal.nD Cert.Reference30Ideal.τ).loc Cert.Reference30Ideal.main_arg4) = m ((c.tc : Thread Cert.Kernel30Ideal.nD Cert.Kernel30Ideal.τ).loc Cert.Kernel30Ideal.main_arg4)) →
    ∃ (v0 : (c : Dev Cert.Kernel30Ideal.nD) → Buf (Elt Ideal) ((c.tc : Thread Cert.Kernel30Ideal.nD Cert.Kernel30Ideal.τ).loc Cert.Kernel30Ideal.main_v0)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0) = v0 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
          ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3)
          ∧ r.2.mem ((c.tc : Thread Cert.Kernel30Ideal.nD Cert.Kernel30Ideal.τ).loc Cert.Kernel30Ideal.main_arg4) = m ((c.tc : Thread Cert.Kernel30Ideal.nD Cert.Kernel30Ideal.τ).loc Cert.Kernel30Ideal.main_arg4))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v42) = v0 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2)
          ∧ r.2.mem ((c.tc : Thread Cert.Reference30Ideal.nD Cert.Reference30Ideal.τ).loc Cert.Reference30Ideal.main_arg3) = m' ((c.tc : Thread Cert.Reference30Ideal.nD Cert.Reference30Ideal.τ).loc Cert.Reference30Ideal.main_arg3)
          ∧ r.2.mem ((c.tc : Thread Cert.Reference30Ideal.nD Cert.Reference30Ideal.τ).loc Cert.Reference30Ideal.main_arg4) = m' ((c.tc : Thread Cert.Reference30Ideal.nD Cert.Reference30Ideal.τ).loc Cert.Reference30Ideal.main_arg4))

def preserves_Kernel31_Kernel31Ideal : Prop :=
  IdealRules.named_const.Statement Cert.Kernel31Ideal.κ "mask" .f32 0xF149F2CA#32 ⊥

def algebraic_Kernel31Ideal_Reference31Ideal_pre_finite_scores [hKernel31Ideal : Cert.Kernel31Ideal.Facts] [hReference31Ideal : Cert.Reference31Ideal.Facts] [hPre_finite_scores : Cert.Pre_finite_scores.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal_finite_scores m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)
      ∧ m' ((c.tc : Thread Cert.Reference31Ideal.nD Cert.Reference31Ideal.τ).loc Cert.Reference31Ideal.main_arg3) = m ((c.tc : Thread Cert.Kernel31Ideal.nD Cert.Kernel31Ideal.τ).loc Cert.Kernel31Ideal.main_arg3)
      ∧ m' ((c.tc : Thread Cert.Reference31Ideal.nD Cert.Reference31Ideal.τ).loc Cert.Reference31Ideal.main_arg4) = m ((c.tc : Thread Cert.Kernel31Ideal.nD Cert.Kernel31Ideal.τ).loc Cert.Kernel31Ideal.main_arg4)) →
    ∃ (v0 : (c : Dev Cert.Kernel31Ideal.nD) → Buf (Elt Ideal) ((c.tc : Thread Cert.Kernel31Ideal.nD Cert.Kernel31Ideal.τ).loc Cert.Kernel31Ideal.main_v0)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0) = v0 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
          ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3)
          ∧ r.2.mem ((c.tc : Thread Cert.Kernel31Ideal.nD Cert.Kernel31Ideal.τ).loc Cert.Kernel31Ideal.main_arg4) = m ((c.tc : Thread Cert.Kernel31Ideal.nD Cert.Kernel31Ideal.τ).loc Cert.Kernel31Ideal.main_arg4))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v40) = v0 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2)
          ∧ r.2.mem ((c.tc : Thread Cert.Reference31Ideal.nD Cert.Reference31Ideal.τ).loc Cert.Reference31Ideal.main_arg3) = m' ((c.tc : Thread Cert.Reference31Ideal.nD Cert.Reference31Ideal.τ).loc Cert.Reference31Ideal.main_arg3)
          ∧ r.2.mem ((c.tc : Thread Cert.Reference31Ideal.nD Cert.Reference31Ideal.τ).loc Cert.Reference31Ideal.main_arg4) = m' ((c.tc : Thread Cert.Reference31Ideal.nD Cert.Reference31Ideal.τ).loc Cert.Reference31Ideal.main_arg4))

def preserves_Kernel32_Kernel32Ideal : Prop :=
  IdealRules.named_const.Statement Cert.Kernel32Ideal.κ "mask" .f32 0xF149F2CA#32 ⊥

def algebraic_Kernel32Ideal_Reference32Ideal_pre_finite_sums [hKernel32Ideal : Cert.Kernel32Ideal.Facts] [hReference32Ideal : Cert.Reference32Ideal.Facts] [hPre_finite_sums : Cert.Pre_finite_sums.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal_finite_sums m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)
      ∧ m' ((c.tc : Thread Cert.Reference32Ideal.nD Cert.Reference32Ideal.τ).loc Cert.Reference32Ideal.main_arg2) = m ((c.tc : Thread Cert.Kernel32Ideal.nD Cert.Kernel32Ideal.τ).loc Cert.Kernel32Ideal.main_arg2)
      ∧ m' ((c.tc : Thread Cert.Reference32Ideal.nD Cert.Reference32Ideal.τ).loc Cert.Reference32Ideal.main_arg3) = m ((c.tc : Thread Cert.Kernel32Ideal.nD Cert.Kernel32Ideal.τ).loc Cert.Kernel32Ideal.main_arg3)
      ∧ m' ((c.tc : Thread Cert.Reference32Ideal.nD Cert.Reference32Ideal.τ).loc Cert.Reference32Ideal.main_arg4) = m ((c.tc : Thread Cert.Kernel32Ideal.nD Cert.Kernel32Ideal.τ).loc Cert.Kernel32Ideal.main_arg4)
      ∧ m' ((c.tc : Thread Cert.Reference32Ideal.nD Cert.Reference32Ideal.τ).loc Cert.Reference32Ideal.main_arg5) = m ((c.tc : Thread Cert.Kernel32Ideal.nD Cert.Kernel32Ideal.τ).loc Cert.Kernel32Ideal.main_arg5)
      ∧ m' ((c.tc : Thread Cert.Reference32Ideal.nD Cert.Reference32Ideal.τ).loc Cert.Reference32Ideal.main_arg6) = m ((c.tc : Thread Cert.Kernel32Ideal.nD Cert.Kernel32Ideal.τ).loc Cert.Kernel32Ideal.main_arg6)
      ∧ m' ((c.tc : Thread Cert.Reference32Ideal.nD Cert.Reference32Ideal.τ).loc Cert.Reference32Ideal.main_arg7) = m ((c.tc : Thread Cert.Kernel32Ideal.nD Cert.Kernel32Ideal.τ).loc Cert.Kernel32Ideal.main_arg7)
      ∧ m' ((c.tc : Thread Cert.Reference32Ideal.nD Cert.Reference32Ideal.τ).loc Cert.Reference32Ideal.main_arg8) = m ((c.tc : Thread Cert.Kernel32Ideal.nD Cert.Kernel32Ideal.τ).loc Cert.Kernel32Ideal.main_arg8)
      ∧ m' ((c.tc : Thread Cert.Reference32Ideal.nD Cert.Reference32Ideal.τ).loc Cert.Reference32Ideal.main_arg9) = m ((c.tc : Thread Cert.Kernel32Ideal.nD Cert.Kernel32Ideal.τ).loc Cert.Kernel32Ideal.main_arg9)) →
    ∃ (v0 : (c : Dev Cert.Kernel32Ideal.nD) → Buf (Elt Ideal) ((c.tc : Thread Cert.Kernel32Ideal.nD Cert.Kernel32Ideal.τ).loc Cert.Kernel32Ideal.main_v0_0)) (v1 : (c : Dev Cert.Kernel32Ideal.nD) → Buf (Elt Ideal) ((c.tc : Thread Cert.Kernel32Ideal.nD Cert.Kernel32Ideal.τ).loc Cert.Kernel32Ideal.main_v0_1)) (v2 : (c : Dev Cert.Kernel32Ideal.nD) → Buf (Elt Ideal) ((c.tc : Thread Cert.Kernel32Ideal.nD Cert.Kernel32Ideal.τ).loc Cert.Kernel32Ideal.main_v0_2)) (v3 : (c : Dev Cert.Kernel32Ideal.nD) → Buf (Elt Ideal) ((c.tc : Thread Cert.Kernel32Ideal.nD Cert.Kernel32Ideal.τ).loc Cert.Kernel32Ideal.main_v0_3)) (v4 : (c : Dev Cert.Kernel32Ideal.nD) → Buf (Elt Ideal) ((c.tc : Thread Cert.Kernel32Ideal.nD Cert.Kernel32Ideal.τ).loc Cert.Kernel32Ideal.main_v0_4)) (v5 : (c : Dev Cert.Kernel32Ideal.nD) → Buf (Elt Ideal) ((c.tc : Thread Cert.Kernel32Ideal.nD Cert.Kernel32Ideal.τ).loc Cert.Kernel32Ideal.main_v0_5)) (v6 : (c : Dev Cert.Kernel32Ideal.nD) → Buf (Elt Ideal) ((c.tc : Thread Cert.Kernel32Ideal.nD Cert.Kernel32Ideal.τ).loc Cert.Kernel32Ideal.main_v0_6)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0_0) = v0 c
          ∧ r.2.mem ((c.tc : Thread Cert.Kernel32Ideal.nD Cert.Kernel32Ideal.τ).loc Cert.Kernel32Ideal.main_v0_1) = v1 c
          ∧ r.2.mem ((c.tc : Thread Cert.Kernel32Ideal.nD Cert.Kernel32Ideal.τ).loc Cert.Kernel32Ideal.main_v0_2) = v2 c
          ∧ r.2.mem ((c.tc : Thread Cert.Kernel32Ideal.nD Cert.Kernel32Ideal.τ).loc Cert.Kernel32Ideal.main_v0_3) = v3 c
          ∧ r.2.mem ((c.tc : Thread Cert.Kernel32Ideal.nD Cert.Kernel32Ideal.τ).loc Cert.Kernel32Ideal.main_v0_4) = v4 c
          ∧ r.2.mem ((c.tc : Thread Cert.Kernel32Ideal.nD Cert.Kernel32Ideal.τ).loc Cert.Kernel32Ideal.main_v0_5) = v5 c
          ∧ r.2.mem ((c.tc : Thread Cert.Kernel32Ideal.nD Cert.Kernel32Ideal.τ).loc Cert.Kernel32Ideal.main_v0_6) = v6 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
          ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
          ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3)
          ∧ r.2.mem ((c.tc : Thread Cert.Kernel32Ideal.nD Cert.Kernel32Ideal.τ).loc Cert.Kernel32Ideal.main_arg4) = m ((c.tc : Thread Cert.Kernel32Ideal.nD Cert.Kernel32Ideal.τ).loc Cert.Kernel32Ideal.main_arg4)
          ∧ r.2.mem ((c.tc : Thread Cert.Kernel32Ideal.nD Cert.Kernel32Ideal.τ).loc Cert.Kernel32Ideal.main_arg5) = m ((c.tc : Thread Cert.Kernel32Ideal.nD Cert.Kernel32Ideal.τ).loc Cert.Kernel32Ideal.main_arg5)
          ∧ r.2.mem ((c.tc : Thread Cert.Kernel32Ideal.nD Cert.Kernel32Ideal.τ).loc Cert.Kernel32Ideal.main_arg6) = m ((c.tc : Thread Cert.Kernel32Ideal.nD Cert.Kernel32Ideal.τ).loc Cert.Kernel32Ideal.main_arg6)
          ∧ r.2.mem ((c.tc : Thread Cert.Kernel32Ideal.nD Cert.Kernel32Ideal.τ).loc Cert.Kernel32Ideal.main_arg7) = m ((c.tc : Thread Cert.Kernel32Ideal.nD Cert.Kernel32Ideal.τ).loc Cert.Kernel32Ideal.main_arg7)
          ∧ r.2.mem ((c.tc : Thread Cert.Kernel32Ideal.nD Cert.Kernel32Ideal.τ).loc Cert.Kernel32Ideal.main_arg8) = m ((c.tc : Thread Cert.Kernel32Ideal.nD Cert.Kernel32Ideal.τ).loc Cert.Kernel32Ideal.main_arg8)
          ∧ r.2.mem ((c.tc : Thread Cert.Kernel32Ideal.nD Cert.Kernel32Ideal.τ).loc Cert.Kernel32Ideal.main_arg9) = m ((c.tc : Thread Cert.Kernel32Ideal.nD Cert.Kernel32Ideal.τ).loc Cert.Kernel32Ideal.main_arg9))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v91) = v0 c
          ∧ r.2.mem ((c.tc : Thread Cert.Reference32Ideal.nD Cert.Reference32Ideal.τ).loc Cert.Reference32Ideal.main_v93) = v1 c
          ∧ r.2.mem ((c.tc : Thread Cert.Reference32Ideal.nD Cert.Reference32Ideal.τ).loc Cert.Reference32Ideal.main_v95) = v2 c
          ∧ r.2.mem ((c.tc : Thread Cert.Reference32Ideal.nD Cert.Reference32Ideal.τ).loc Cert.Reference32Ideal.main_v96) = v3 c
          ∧ r.2.mem ((c.tc : Thread Cert.Reference32Ideal.nD Cert.Reference32Ideal.τ).loc Cert.Reference32Ideal.main_v97) = v4 c
          ∧ r.2.mem ((c.tc : Thread Cert.Reference32Ideal.nD Cert.Reference32Ideal.τ).loc Cert.Reference32Ideal.main_v100) = v5 c
          ∧ r.2.mem ((c.tc : Thread Cert.Reference32Ideal.nD Cert.Reference32Ideal.τ).loc Cert.Reference32Ideal.main_v103) = v6 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1)
          ∧ r.2.mem ((c.tc : Thread Cert.Reference32Ideal.nD Cert.Reference32Ideal.τ).loc Cert.Reference32Ideal.main_arg2) = m' ((c.tc : Thread Cert.Reference32Ideal.nD Cert.Reference32Ideal.τ).loc Cert.Reference32Ideal.main_arg2)
          ∧ r.2.mem ((c.tc : Thread Cert.Reference32Ideal.nD Cert.Reference32Ideal.τ).loc Cert.Reference32Ideal.main_arg3) = m' ((c.tc : Thread Cert.Reference32Ideal.nD Cert.Reference32Ideal.τ).loc Cert.Reference32Ideal.main_arg3)
          ∧ r.2.mem ((c.tc : Thread Cert.Reference32Ideal.nD Cert.Reference32Ideal.τ).loc Cert.Reference32Ideal.main_arg4) = m' ((c.tc : Thread Cert.Reference32Ideal.nD Cert.Reference32Ideal.τ).loc Cert.Reference32Ideal.main_arg4)
          ∧ r.2.mem ((c.tc : Thread Cert.Reference32Ideal.nD Cert.Reference32Ideal.τ).loc Cert.Reference32Ideal.main_arg5) = m' ((c.tc : Thread Cert.Reference32Ideal.nD Cert.Reference32Ideal.τ).loc Cert.Reference32Ideal.main_arg5)
          ∧ r.2.mem ((c.tc : Thread Cert.Reference32Ideal.nD Cert.Reference32Ideal.τ).loc Cert.Reference32Ideal.main_arg6) = m' ((c.tc : Thread Cert.Reference32Ideal.nD Cert.Reference32Ideal.τ).loc Cert.Reference32Ideal.main_arg6)
          ∧ r.2.mem ((c.tc : Thread Cert.Reference32Ideal.nD Cert.Reference32Ideal.τ).loc Cert.Reference32Ideal.main_arg7) = m' ((c.tc : Thread Cert.Reference32Ideal.nD Cert.Reference32Ideal.τ).loc Cert.Reference32Ideal.main_arg7)
          ∧ r.2.mem ((c.tc : Thread Cert.Reference32Ideal.nD Cert.Reference32Ideal.τ).loc Cert.Reference32Ideal.main_arg8) = m' ((c.tc : Thread Cert.Reference32Ideal.nD Cert.Reference32Ideal.τ).loc Cert.Reference32Ideal.main_arg8)
          ∧ r.2.mem ((c.tc : Thread Cert.Reference32Ideal.nD Cert.Reference32Ideal.τ).loc Cert.Reference32Ideal.main_arg9) = m' ((c.tc : Thread Cert.Reference32Ideal.nD Cert.Reference32Ideal.τ).loc Cert.Reference32Ideal.main_arg9))

def preserves_Kernel33_Kernel33Ideal : Prop :=
  IdealRules.named_const.Statement Cert.Kernel33Ideal.κ "mask" .f32 0xF149F2CA#32 ⊥

def algebraic_Kernel33Ideal_Reference33Ideal_pre_finite_sums_g1 [hKernel33Ideal : Cert.Kernel33Ideal.Facts] [hReference33Ideal : Cert.Reference33Ideal.Facts] [hPre_finite_sums_g1 : Cert.Pre_finite_sums_g1.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal_finite_sums_g1 m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)
      ∧ m' ((c.tc : Thread Cert.Reference33Ideal.nD Cert.Reference33Ideal.τ).loc Cert.Reference33Ideal.main_arg2) = m ((c.tc : Thread Cert.Kernel33Ideal.nD Cert.Kernel33Ideal.τ).loc Cert.Kernel33Ideal.main_arg2)
      ∧ m' ((c.tc : Thread Cert.Reference33Ideal.nD Cert.Reference33Ideal.τ).loc Cert.Reference33Ideal.main_arg3) = m ((c.tc : Thread Cert.Kernel33Ideal.nD Cert.Kernel33Ideal.τ).loc Cert.Kernel33Ideal.main_arg3)
      ∧ m' ((c.tc : Thread Cert.Reference33Ideal.nD Cert.Reference33Ideal.τ).loc Cert.Reference33Ideal.main_arg4) = m ((c.tc : Thread Cert.Kernel33Ideal.nD Cert.Kernel33Ideal.τ).loc Cert.Kernel33Ideal.main_arg4)
      ∧ m' ((c.tc : Thread Cert.Reference33Ideal.nD Cert.Reference33Ideal.τ).loc Cert.Reference33Ideal.main_arg5) = m ((c.tc : Thread Cert.Kernel33Ideal.nD Cert.Kernel33Ideal.τ).loc Cert.Kernel33Ideal.main_arg5)
      ∧ m' ((c.tc : Thread Cert.Reference33Ideal.nD Cert.Reference33Ideal.τ).loc Cert.Reference33Ideal.main_arg6) = m ((c.tc : Thread Cert.Kernel33Ideal.nD Cert.Kernel33Ideal.τ).loc Cert.Kernel33Ideal.main_arg6)
      ∧ m' ((c.tc : Thread Cert.Reference33Ideal.nD Cert.Reference33Ideal.τ).loc Cert.Reference33Ideal.main_arg7) = m ((c.tc : Thread Cert.Kernel33Ideal.nD Cert.Kernel33Ideal.τ).loc Cert.Kernel33Ideal.main_arg7)
      ∧ m' ((c.tc : Thread Cert.Reference33Ideal.nD Cert.Reference33Ideal.τ).loc Cert.Reference33Ideal.main_arg8) = m ((c.tc : Thread Cert.Kernel33Ideal.nD Cert.Kernel33Ideal.τ).loc Cert.Kernel33Ideal.main_arg8)
      ∧ m' ((c.tc : Thread Cert.Reference33Ideal.nD Cert.Reference33Ideal.τ).loc Cert.Reference33Ideal.main_arg9) = m ((c.tc : Thread Cert.Kernel33Ideal.nD Cert.Kernel33Ideal.τ).loc Cert.Kernel33Ideal.main_arg9)) →
    ∃ (v0 : (c : Dev Cert.Kernel33Ideal.nD) → Buf (Elt Ideal) ((c.tc : Thread Cert.Kernel33Ideal.nD Cert.Kernel33Ideal.τ).loc Cert.Kernel33Ideal.main_v0_0)) (v1 : (c : Dev Cert.Kernel33Ideal.nD) → Buf (Elt Ideal) ((c.tc : Thread Cert.Kernel33Ideal.nD Cert.Kernel33Ideal.τ).loc Cert.Kernel33Ideal.main_v0_1)) (v2 : (c : Dev Cert.Kernel33Ideal.nD) → Buf (Elt Ideal) ((c.tc : Thread Cert.Kernel33Ideal.nD Cert.Kernel33Ideal.τ).loc Cert.Kernel33Ideal.main_v0_2)) (v3 : (c : Dev Cert.Kernel33Ideal.nD) → Buf (Elt Ideal) ((c.tc : Thread Cert.Kernel33Ideal.nD Cert.Kernel33Ideal.τ).loc Cert.Kernel33Ideal.main_v0_3)) (v4 : (c : Dev Cert.Kernel33Ideal.nD) → Buf (Elt Ideal) ((c.tc : Thread Cert.Kernel33Ideal.nD Cert.Kernel33Ideal.τ).loc Cert.Kernel33Ideal.main_v0_4)) (v5 : (c : Dev Cert.Kernel33Ideal.nD) → Buf (Elt Ideal) ((c.tc : Thread Cert.Kernel33Ideal.nD Cert.Kernel33Ideal.τ).loc Cert.Kernel33Ideal.main_v0_5)) (v6 : (c : Dev Cert.Kernel33Ideal.nD) → Buf (Elt Ideal) ((c.tc : Thread Cert.Kernel33Ideal.nD Cert.Kernel33Ideal.τ).loc Cert.Kernel33Ideal.main_v0_6)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v0_0) = v0 c
          ∧ r.2.mem ((c.tc : Thread Cert.Kernel33Ideal.nD Cert.Kernel33Ideal.τ).loc Cert.Kernel33Ideal.main_v0_1) = v1 c
          ∧ r.2.mem ((c.tc : Thread Cert.Kernel33Ideal.nD Cert.Kernel33Ideal.τ).loc Cert.Kernel33Ideal.main_v0_2) = v2 c
          ∧ r.2.mem ((c.tc : Thread Cert.Kernel33Ideal.nD Cert.Kernel33Ideal.τ).loc Cert.Kernel33Ideal.main_v0_3) = v3 c
          ∧ r.2.mem ((c.tc : Thread Cert.Kernel33Ideal.nD Cert.Kernel33Ideal.τ).loc Cert.Kernel33Ideal.main_v0_4) = v4 c
          ∧ r.2.mem ((c.tc : Thread Cert.Kernel33Ideal.nD Cert.Kernel33Ideal.τ).loc Cert.Kernel33Ideal.main_v0_5) = v5 c
          ∧ r.2.mem ((c.tc : Thread Cert.Kernel33Ideal.nD Cert.Kernel33Ideal.τ).loc Cert.Kernel33Ideal.main_v0_6) = v6 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
          ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
          ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3)
          ∧ r.2.mem ((c.tc : Thread Cert.Kernel33Ideal.nD Cert.Kernel33Ideal.τ).loc Cert.Kernel33Ideal.main_arg4) = m ((c.tc : Thread Cert.Kernel33Ideal.nD Cert.Kernel33Ideal.τ).loc Cert.Kernel33Ideal.main_arg4)
          ∧ r.2.mem ((c.tc : Thread Cert.Kernel33Ideal.nD Cert.Kernel33Ideal.τ).loc Cert.Kernel33Ideal.main_arg5) = m ((c.tc : Thread Cert.Kernel33Ideal.nD Cert.Kernel33Ideal.τ).loc Cert.Kernel33Ideal.main_arg5)
          ∧ r.2.mem ((c.tc : Thread Cert.Kernel33Ideal.nD Cert.Kernel33Ideal.τ).loc Cert.Kernel33Ideal.main_arg6) = m ((c.tc : Thread Cert.Kernel33Ideal.nD Cert.Kernel33Ideal.τ).loc Cert.Kernel33Ideal.main_arg6)
          ∧ r.2.mem ((c.tc : Thread Cert.Kernel33Ideal.nD Cert.Kernel33Ideal.τ).loc Cert.Kernel33Ideal.main_arg7) = m ((c.tc : Thread Cert.Kernel33Ideal.nD Cert.Kernel33Ideal.τ).loc Cert.Kernel33Ideal.main_arg7)
          ∧ r.2.mem ((c.tc : Thread Cert.Kernel33Ideal.nD Cert.Kernel33Ideal.τ).loc Cert.Kernel33Ideal.main_arg8) = m ((c.tc : Thread Cert.Kernel33Ideal.nD Cert.Kernel33Ideal.τ).loc Cert.Kernel33Ideal.main_arg8)
          ∧ r.2.mem ((c.tc : Thread Cert.Kernel33Ideal.nD Cert.Kernel33Ideal.τ).loc Cert.Kernel33Ideal.main_arg9) = m ((c.tc : Thread Cert.Kernel33Ideal.nD Cert.Kernel33Ideal.τ).loc Cert.Kernel33Ideal.main_arg9))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v91) = v0 c
          ∧ r.2.mem ((c.tc : Thread Cert.Reference33Ideal.nD Cert.Reference33Ideal.τ).loc Cert.Reference33Ideal.main_v93) = v1 c
          ∧ r.2.mem ((c.tc : Thread Cert.Reference33Ideal.nD Cert.Reference33Ideal.τ).loc Cert.Reference33Ideal.main_v95) = v2 c
          ∧ r.2.mem ((c.tc : Thread Cert.Reference33Ideal.nD Cert.Reference33Ideal.τ).loc Cert.Reference33Ideal.main_v96) = v3 c
          ∧ r.2.mem ((c.tc : Thread Cert.Reference33Ideal.nD Cert.Reference33Ideal.τ).loc Cert.Reference33Ideal.main_v97) = v4 c
          ∧ r.2.mem ((c.tc : Thread Cert.Reference33Ideal.nD Cert.Reference33Ideal.τ).loc Cert.Reference33Ideal.main_v100) = v5 c
          ∧ r.2.mem ((c.tc : Thread Cert.Reference33Ideal.nD Cert.Reference33Ideal.τ).loc Cert.Reference33Ideal.main_v103) = v6 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1)
          ∧ r.2.mem ((c.tc : Thread Cert.Reference33Ideal.nD Cert.Reference33Ideal.τ).loc Cert.Reference33Ideal.main_arg2) = m' ((c.tc : Thread Cert.Reference33Ideal.nD Cert.Reference33Ideal.τ).loc Cert.Reference33Ideal.main_arg2)
          ∧ r.2.mem ((c.tc : Thread Cert.Reference33Ideal.nD Cert.Reference33Ideal.τ).loc Cert.Reference33Ideal.main_arg3) = m' ((c.tc : Thread Cert.Reference33Ideal.nD Cert.Reference33Ideal.τ).loc Cert.Reference33Ideal.main_arg3)
          ∧ r.2.mem ((c.tc : Thread Cert.Reference33Ideal.nD Cert.Reference33Ideal.τ).loc Cert.Reference33Ideal.main_arg4) = m' ((c.tc : Thread Cert.Reference33Ideal.nD Cert.Reference33Ideal.τ).loc Cert.Reference33Ideal.main_arg4)
          ∧ r.2.mem ((c.tc : Thread Cert.Reference33Ideal.nD Cert.Reference33Ideal.τ).loc Cert.Reference33Ideal.main_arg5) = m' ((c.tc : Thread Cert.Reference33Ideal.nD Cert.Reference33Ideal.τ).loc Cert.Reference33Ideal.main_arg5)
          ∧ r.2.mem ((c.tc : Thread Cert.Reference33Ideal.nD Cert.Reference33Ideal.τ).loc Cert.Reference33Ideal.main_arg6) = m' ((c.tc : Thread Cert.Reference33Ideal.nD Cert.Reference33Ideal.τ).loc Cert.Reference33Ideal.main_arg6)
          ∧ r.2.mem ((c.tc : Thread Cert.Reference33Ideal.nD Cert.Reference33Ideal.τ).loc Cert.Reference33Ideal.main_arg7) = m' ((c.tc : Thread Cert.Reference33Ideal.nD Cert.Reference33Ideal.τ).loc Cert.Reference33Ideal.main_arg7)
          ∧ r.2.mem ((c.tc : Thread Cert.Reference33Ideal.nD Cert.Reference33Ideal.τ).loc Cert.Reference33Ideal.main_arg8) = m' ((c.tc : Thread Cert.Reference33Ideal.nD Cert.Reference33Ideal.τ).loc Cert.Reference33Ideal.main_arg8)
          ∧ r.2.mem ((c.tc : Thread Cert.Reference33Ideal.nD Cert.Reference33Ideal.τ).loc Cert.Reference33Ideal.main_arg9) = m' ((c.tc : Thread Cert.Reference33Ideal.nD Cert.Reference33Ideal.τ).loc Cert.Reference33Ideal.main_arg9))

def preserves_Kernel34_Kernel34Ideal : Prop :=
  IdealRules.named_const.Statement Cert.Kernel34Ideal.κ "mask" .f32 0xF149F2CA#32 ⊥

def algebraic_Kernel34Ideal_Reference34Ideal_pre_finite_sums_g0 [hKernel34Ideal : Cert.Kernel34Ideal.Facts] [hReference34Ideal : Cert.Reference34Ideal.Facts] [hPre_finite_sums_g0 : Cert.Pre_finite_sums_g0.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal_finite_sums_g0 m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)
      ∧ m' ((c.tc : Thread Cert.Reference34Ideal.nD Cert.Reference34Ideal.τ).loc Cert.Reference34Ideal.main_arg2) = m ((c.tc : Thread Cert.Kernel34Ideal.nD Cert.Kernel34Ideal.τ).loc Cert.Kernel34Ideal.main_arg2)
      ∧ m' ((c.tc : Thread Cert.Reference34Ideal.nD Cert.Reference34Ideal.τ).loc Cert.Reference34Ideal.main_arg3) = m ((c.tc : Thread Cert.Kernel34Ideal.nD Cert.Kernel34Ideal.τ).loc Cert.Kernel34Ideal.main_arg3)
      ∧ m' ((c.tc : Thread Cert.Reference34Ideal.nD Cert.Reference34Ideal.τ).loc Cert.Reference34Ideal.main_arg4) = m ((c.tc : Thread Cert.Kernel34Ideal.nD Cert.Kernel34Ideal.τ).loc Cert.Kernel34Ideal.main_arg4)
      ∧ m' ((c.tc : Thread Cert.Reference34Ideal.nD Cert.Reference34Ideal.τ).loc Cert.Reference34Ideal.main_arg5) = m ((c.tc : Thread Cert.Kernel34Ideal.nD Cert.Kernel34Ideal.τ).loc Cert.Kernel34Ideal.main_arg5)
      ∧ m' ((c.tc : Thread Cert.Reference34Ideal.nD Cert.Reference34Ideal.τ).loc Cert.Reference34Ideal.main_arg6) = m ((c.tc : Thread Cert.Kernel34Ideal.nD Cert.Kernel34Ideal.τ).loc Cert.Kernel34Ideal.main_arg6)
      ∧ m' ((c.tc : Thread Cert.Reference34Ideal.nD Cert.Reference34Ideal.τ).loc Cert.Reference34Ideal.main_arg7) = m ((c.tc : Thread Cert.Kernel34Ideal.nD Cert.Kernel34Ideal.τ).loc Cert.Kernel34Ideal.main_arg7)
      ∧ m' ((c.tc : Thread Cert.Reference34Ideal.nD Cert.Reference34Ideal.τ).loc Cert.Reference34Ideal.main_arg8) = m ((c.tc : Thread Cert.Kernel34Ideal.nD Cert.Kernel34Ideal.τ).loc Cert.Kernel34Ideal.main_arg8)
      ∧ m' ((c.tc : Thread Cert.Reference34Ideal.nD Cert.Reference34Ideal.τ).loc Cert.Reference34Ideal.main_arg9) = m ((c.tc : Thread Cert.Kernel34Ideal.nD Cert.Kernel34Ideal.τ).loc Cert.Kernel34Ideal.main_arg9)) →
    ∃ (v0 : (c : Dev Cert.Kernel34Ideal.nD) → Buf (Elt Ideal) ((c.tc : Thread Cert.Kernel34Ideal.nD Cert.Kernel34Ideal.τ).loc Cert.Kernel34Ideal.main_v0_0)) (v1 : (c : Dev Cert.Kernel34Ideal.nD) → Buf (Elt Ideal) ((c.tc : Thread Cert.Kernel34Ideal.nD Cert.Kernel34Ideal.τ).loc Cert.Kernel34Ideal.main_v0_1)) (v2 : (c : Dev Cert.Kernel34Ideal.nD) → Buf (Elt Ideal) ((c.tc : Thread Cert.Kernel34Ideal.nD Cert.Kernel34Ideal.τ).loc Cert.Kernel34Ideal.main_v0_2)) (v3 : (c : Dev Cert.Kernel34Ideal.nD) → Buf (Elt Ideal) ((c.tc : Thread Cert.Kernel34Ideal.nD Cert.Kernel34Ideal.τ).loc Cert.Kernel34Ideal.main_v0_3)) (v4 : (c : Dev Cert.Kernel34Ideal.nD) → Buf (Elt Ideal) ((c.tc : Thread Cert.Kernel34Ideal.nD Cert.Kernel34Ideal.τ).loc Cert.Kernel34Ideal.main_v0_4)) (v5 : (c : Dev Cert.Kernel34Ideal.nD) → Buf (Elt Ideal) ((c.tc : Thread Cert.Kernel34Ideal.nD Cert.Kernel34Ideal.τ).loc Cert.Kernel34Ideal.main_v0_5)) (v6 : (c : Dev Cert.Kernel34Ideal.nD) → Buf (Elt Ideal) ((c.tc : Thread Cert.Kernel34Ideal.nD Cert.Kernel34Ideal.τ).loc Cert.Kernel34Ideal.main_v0_6)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v0_0) = v0 c
          ∧ r.2.mem ((c.tc : Thread Cert.Kernel34Ideal.nD Cert.Kernel34Ideal.τ).loc Cert.Kernel34Ideal.main_v0_1) = v1 c
          ∧ r.2.mem ((c.tc : Thread Cert.Kernel34Ideal.nD Cert.Kernel34Ideal.τ).loc Cert.Kernel34Ideal.main_v0_2) = v2 c
          ∧ r.2.mem ((c.tc : Thread Cert.Kernel34Ideal.nD Cert.Kernel34Ideal.τ).loc Cert.Kernel34Ideal.main_v0_3) = v3 c
          ∧ r.2.mem ((c.tc : Thread Cert.Kernel34Ideal.nD Cert.Kernel34Ideal.τ).loc Cert.Kernel34Ideal.main_v0_4) = v4 c
          ∧ r.2.mem ((c.tc : Thread Cert.Kernel34Ideal.nD Cert.Kernel34Ideal.τ).loc Cert.Kernel34Ideal.main_v0_5) = v5 c
          ∧ r.2.mem ((c.tc : Thread Cert.Kernel34Ideal.nD Cert.Kernel34Ideal.τ).loc Cert.Kernel34Ideal.main_v0_6) = v6 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
          ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
          ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3)
          ∧ r.2.mem ((c.tc : Thread Cert.Kernel34Ideal.nD Cert.Kernel34Ideal.τ).loc Cert.Kernel34Ideal.main_arg4) = m ((c.tc : Thread Cert.Kernel34Ideal.nD Cert.Kernel34Ideal.τ).loc Cert.Kernel34Ideal.main_arg4)
          ∧ r.2.mem ((c.tc : Thread Cert.Kernel34Ideal.nD Cert.Kernel34Ideal.τ).loc Cert.Kernel34Ideal.main_arg5) = m ((c.tc : Thread Cert.Kernel34Ideal.nD Cert.Kernel34Ideal.τ).loc Cert.Kernel34Ideal.main_arg5)
          ∧ r.2.mem ((c.tc : Thread Cert.Kernel34Ideal.nD Cert.Kernel34Ideal.τ).loc Cert.Kernel34Ideal.main_arg6) = m ((c.tc : Thread Cert.Kernel34Ideal.nD Cert.Kernel34Ideal.τ).loc Cert.Kernel34Ideal.main_arg6)
          ∧ r.2.mem ((c.tc : Thread Cert.Kernel34Ideal.nD Cert.Kernel34Ideal.τ).loc Cert.Kernel34Ideal.main_arg7) = m ((c.tc : Thread Cert.Kernel34Ideal.nD Cert.Kernel34Ideal.τ).loc Cert.Kernel34Ideal.main_arg7)
          ∧ r.2.mem ((c.tc : Thread Cert.Kernel34Ideal.nD Cert.Kernel34Ideal.τ).loc Cert.Kernel34Ideal.main_arg8) = m ((c.tc : Thread Cert.Kernel34Ideal.nD Cert.Kernel34Ideal.τ).loc Cert.Kernel34Ideal.main_arg8)
          ∧ r.2.mem ((c.tc : Thread Cert.Kernel34Ideal.nD Cert.Kernel34Ideal.τ).loc Cert.Kernel34Ideal.main_arg9) = m ((c.tc : Thread Cert.Kernel34Ideal.nD Cert.Kernel34Ideal.τ).loc Cert.Kernel34Ideal.main_arg9))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v89) = v0 c
          ∧ r.2.mem ((c.tc : Thread Cert.Reference34Ideal.nD Cert.Reference34Ideal.τ).loc Cert.Reference34Ideal.main_v91) = v1 c
          ∧ r.2.mem ((c.tc : Thread Cert.Reference34Ideal.nD Cert.Reference34Ideal.τ).loc Cert.Reference34Ideal.main_v93) = v2 c
          ∧ r.2.mem ((c.tc : Thread Cert.Reference34Ideal.nD Cert.Reference34Ideal.τ).loc Cert.Reference34Ideal.main_v94) = v3 c
          ∧ r.2.mem ((c.tc : Thread Cert.Reference34Ideal.nD Cert.Reference34Ideal.τ).loc Cert.Reference34Ideal.main_v95) = v4 c
          ∧ r.2.mem ((c.tc : Thread Cert.Reference34Ideal.nD Cert.Reference34Ideal.τ).loc Cert.Reference34Ideal.main_v98) = v5 c
          ∧ r.2.mem ((c.tc : Thread Cert.Reference34Ideal.nD Cert.Reference34Ideal.τ).loc Cert.Reference34Ideal.main_v101) = v6 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1)
          ∧ r.2.mem ((c.tc : Thread Cert.Reference34Ideal.nD Cert.Reference34Ideal.τ).loc Cert.Reference34Ideal.main_arg2) = m' ((c.tc : Thread Cert.Reference34Ideal.nD Cert.Reference34Ideal.τ).loc Cert.Reference34Ideal.main_arg2)
          ∧ r.2.mem ((c.tc : Thread Cert.Reference34Ideal.nD Cert.Reference34Ideal.τ).loc Cert.Reference34Ideal.main_arg3) = m' ((c.tc : Thread Cert.Reference34Ideal.nD Cert.Reference34Ideal.τ).loc Cert.Reference34Ideal.main_arg3)
          ∧ r.2.mem ((c.tc : Thread Cert.Reference34Ideal.nD Cert.Reference34Ideal.τ).loc Cert.Reference34Ideal.main_arg4) = m' ((c.tc : Thread Cert.Reference34Ideal.nD Cert.Reference34Ideal.τ).loc Cert.Reference34Ideal.main_arg4)
          ∧ r.2.mem ((c.tc : Thread Cert.Reference34Ideal.nD Cert.Reference34Ideal.τ).loc Cert.Reference34Ideal.main_arg5) = m' ((c.tc : Thread Cert.Reference34Ideal.nD Cert.Reference34Ideal.τ).loc Cert.Reference34Ideal.main_arg5)
          ∧ r.2.mem ((c.tc : Thread Cert.Reference34Ideal.nD Cert.Reference34Ideal.τ).loc Cert.Reference34Ideal.main_arg6) = m' ((c.tc : Thread Cert.Reference34Ideal.nD Cert.Reference34Ideal.τ).loc Cert.Reference34Ideal.main_arg6)
          ∧ r.2.mem ((c.tc : Thread Cert.Reference34Ideal.nD Cert.Reference34Ideal.τ).loc Cert.Reference34Ideal.main_arg7) = m' ((c.tc : Thread Cert.Reference34Ideal.nD Cert.Reference34Ideal.τ).loc Cert.Reference34Ideal.main_arg7)
          ∧ r.2.mem ((c.tc : Thread Cert.Reference34Ideal.nD Cert.Reference34Ideal.τ).loc Cert.Reference34Ideal.main_arg8) = m' ((c.tc : Thread Cert.Reference34Ideal.nD Cert.Reference34Ideal.τ).loc Cert.Reference34Ideal.main_arg8)
          ∧ r.2.mem ((c.tc : Thread Cert.Reference34Ideal.nD Cert.Reference34Ideal.τ).loc Cert.Reference34Ideal.main_arg9) = m' ((c.tc : Thread Cert.Reference34Ideal.nD Cert.Reference34Ideal.τ).loc Cert.Reference34Ideal.main_arg9))

def preserves_Kernel35_Kernel35Ideal : Prop :=
  True

def algebraic_Kernel35Ideal_Reference35Ideal [hKernel35Ideal : Cert.Kernel35Ideal.Facts] [hReference35Ideal : Cert.Reference35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg)
    (m' : (ℓ : Loc Cert.Reference35Ideal.nD Cert.Reference35Ideal.τ Cert.Reference35Ideal.sig) → Buf (Elt Ideal) ℓ) (g' : Dev Cert.Reference35Ideal.nD → PrngReg), Pre_Kernel35Ideal m →
    (∀ c : Dev Cert.Kernel35Ideal.nD,
      m' ((c.tc : Thread Cert.Reference35Ideal.nD Cert.Reference35Ideal.τ).loc Cert.Reference35Ideal.main_arg0) = m ((c.tc : Thread Cert.Kernel35Ideal.nD Cert.Kernel35Ideal.τ).loc Cert.Kernel35Ideal.main_arg0)
      ∧ m' ((c.tc : Thread Cert.Reference35Ideal.nD Cert.Reference35Ideal.τ).loc Cert.Reference35Ideal.main_arg1) = m ((c.tc : Thread Cert.Kernel35Ideal.nD Cert.Kernel35Ideal.τ).loc Cert.Kernel35Ideal.main_arg1)) →
    ∃ (v0 : (c : Dev Cert.Kernel35Ideal.nD) → Buf (Elt Ideal) ((c.tc : Thread Cert.Kernel35Ideal.nD Cert.Kernel35Ideal.τ).loc Cert.Kernel35Ideal.main_v0)),
      θ_run (Cert.Kernel35Ideal.defs (F := Ideal)) (onTc (τ := Cert.Kernel35Ideal.τ) (Cert.Kernel35Ideal.main (F := Ideal))) ⟨m, fun _ => 0, g⟩ (fun r => ∀ c : Dev Cert.Kernel35Ideal.nD,
          r.2.mem ((c.tc : Thread Cert.Kernel35Ideal.nD Cert.Kernel35Ideal.τ).loc Cert.Kernel35Ideal.main_v0) = v0 c
          ∧ r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
          ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1))
      ∧ θ_run (Cert.Reference35Ideal.defs (F := Ideal)) (onTc (τ := Cert.Reference35Ideal.τ) (Cert.Reference35Ideal.main (F := Ideal))) ⟨m', fun _ => 0, g'⟩ (fun r => ∀ c : Dev Cert.Reference35Ideal.nD,
          r.2.mem ((c.tc : Thread Cert.Reference35Ideal.nD Cert.Reference35Ideal.τ).loc Cert.Reference35Ideal.main_v12) = v0 c
          ∧ r.2.mem ((c.tc : Thread Cert.Reference35Ideal.nD Cert.Reference35Ideal.τ).loc Cert.Reference35Ideal.main_arg0) = m' ((c.tc : Thread Cert.Reference35Ideal.nD Cert.Reference35Ideal.τ).loc Cert.Reference35Ideal.main_arg0)
          ∧ r.2.mem ((c.tc : Thread Cert.Reference35Ideal.nD Cert.Reference35Ideal.τ).loc Cert.Reference35Ideal.main_arg1) = m' ((c.tc : Thread Cert.Reference35Ideal.nD Cert.Reference35Ideal.τ).loc Cert.Reference35Ideal.main_arg1))

def preserves_Kernel36_Kernel36Ideal : Prop :=
  True

def algebraic_Kernel36Ideal_Reference36Ideal [hKernel36Ideal : Cert.Kernel36Ideal.Facts] [hReference36Ideal : Cert.Reference36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg)
    (m' : (ℓ : Loc Cert.Reference36Ideal.nD Cert.Reference36Ideal.τ Cert.Reference36Ideal.sig) → Buf (Elt Ideal) ℓ) (g' : Dev Cert.Reference36Ideal.nD → PrngReg), Pre_Kernel36Ideal m →
    (∀ c : Dev Cert.Kernel36Ideal.nD,
      m' ((c.tc : Thread Cert.Reference36Ideal.nD Cert.Reference36Ideal.τ).loc Cert.Reference36Ideal.main_arg0) = m ((c.tc : Thread Cert.Kernel36Ideal.nD Cert.Kernel36Ideal.τ).loc Cert.Kernel36Ideal.main_arg0)
      ∧ m' ((c.tc : Thread Cert.Reference36Ideal.nD Cert.Reference36Ideal.τ).loc Cert.Reference36Ideal.main_arg1) = m ((c.tc : Thread Cert.Kernel36Ideal.nD Cert.Kernel36Ideal.τ).loc Cert.Kernel36Ideal.main_arg1)
      ∧ m' ((c.tc : Thread Cert.Reference36Ideal.nD Cert.Reference36Ideal.τ).loc Cert.Reference36Ideal.main_arg2) = m ((c.tc : Thread Cert.Kernel36Ideal.nD Cert.Kernel36Ideal.τ).loc Cert.Kernel36Ideal.main_arg2)
      ∧ m' ((c.tc : Thread Cert.Reference36Ideal.nD Cert.Reference36Ideal.τ).loc Cert.Reference36Ideal.main_arg3) = m ((c.tc : Thread Cert.Kernel36Ideal.nD Cert.Kernel36Ideal.τ).loc Cert.Kernel36Ideal.main_arg3)) →
    ∃ (v0 : (c : Dev Cert.Kernel36Ideal.nD) → Buf (Elt Ideal) ((c.tc : Thread Cert.Kernel36Ideal.nD Cert.Kernel36Ideal.τ).loc Cert.Kernel36Ideal.main_v0_0)) (v1 : (c : Dev Cert.Kernel36Ideal.nD) → Buf (Elt Ideal) ((c.tc : Thread Cert.Kernel36Ideal.nD Cert.Kernel36Ideal.τ).loc Cert.Kernel36Ideal.main_v0_1)),
      θ_run (Cert.Kernel36Ideal.defs (F := Ideal)) (onTc (τ := Cert.Kernel36Ideal.τ) (Cert.Kernel36Ideal.main (F := Ideal))) ⟨m, fun _ => 0, g⟩ (fun r => ∀ c : Dev Cert.Kernel36Ideal.nD,
          r.2.mem ((c.tc : Thread Cert.Kernel36Ideal.nD Cert.Kernel36Ideal.τ).loc Cert.Kernel36Ideal.main_v0_0) = v0 c
          ∧ r.2.mem ((c.tc : Thread Cert.Kernel36Ideal.nD Cert.Kernel36Ideal.τ).loc Cert.Kernel36Ideal.main_v0_1) = v1 c
          ∧ r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
          ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
          ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2)
          ∧ r.2.mem ((c.tc : Thread Cert.Kernel36Ideal.nD Cert.Kernel36Ideal.τ).loc Cert.Kernel36Ideal.main_arg3) = m ((c.tc : Thread Cert.Kernel36Ideal.nD Cert.Kernel36Ideal.τ).loc Cert.Kernel36Ideal.main_arg3))
      ∧ θ_run (Cert.Reference36Ideal.defs (F := Ideal)) (onTc (τ := Cert.Reference36Ideal.τ) (Cert.Reference36Ideal.main (F := Ideal))) ⟨m', fun _ => 0, g'⟩ (fun r => ∀ c : Dev Cert.Reference36Ideal.nD,
          r.2.mem ((c.tc : Thread Cert.Reference36Ideal.nD Cert.Reference36Ideal.τ).loc Cert.Reference36Ideal.main_v34) = v0 c
          ∧ r.2.mem ((c.tc : Thread Cert.Reference36Ideal.nD Cert.Reference36Ideal.τ).loc Cert.Reference36Ideal.main_v17) = v1 c
          ∧ r.2.mem ((c.tc : Thread Cert.Reference36Ideal.nD Cert.Reference36Ideal.τ).loc Cert.Reference36Ideal.main_arg0) = m' ((c.tc : Thread Cert.Reference36Ideal.nD Cert.Reference36Ideal.τ).loc Cert.Reference36Ideal.main_arg0)
          ∧ r.2.mem ((c.tc : Thread Cert.Reference36Ideal.nD Cert.Reference36Ideal.τ).loc Cert.Reference36Ideal.main_arg1) = m' ((c.tc : Thread Cert.Reference36Ideal.nD Cert.Reference36Ideal.τ).loc Cert.Reference36Ideal.main_arg1)
          ∧ r.2.mem ((c.tc : Thread Cert.Reference36Ideal.nD Cert.Reference36Ideal.τ).loc Cert.Reference36Ideal.main_arg2) = m' ((c.tc : Thread Cert.Reference36Ideal.nD Cert.Reference36Ideal.τ).loc Cert.Reference36Ideal.main_arg2)
          ∧ r.2.mem ((c.tc : Thread Cert.Reference36Ideal.nD Cert.Reference36Ideal.τ).loc Cert.Reference36Ideal.main_arg3) = m' ((c.tc : Thread Cert.Reference36Ideal.nD Cert.Reference36Ideal.τ).loc Cert.Reference36Ideal.main_arg3))

def preserves_Kernel37_Kernel37Ideal : Prop :=
  True

def algebraic_Kernel37Ideal_Reference37Ideal [hKernel37Ideal : Cert.Kernel37Ideal.Facts] [hReference37Ideal : Cert.Reference37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg)
    (m' : (ℓ : Loc Cert.Reference37Ideal.nD Cert.Reference37Ideal.τ Cert.Reference37Ideal.sig) → Buf (Elt Ideal) ℓ) (g' : Dev Cert.Reference37Ideal.nD → PrngReg), Pre_Kernel37Ideal m →
    (∀ c : Dev Cert.Kernel37Ideal.nD,
      m' ((c.tc : Thread Cert.Reference37Ideal.nD Cert.Reference37Ideal.τ).loc Cert.Reference37Ideal.main_arg0) = m ((c.tc : Thread Cert.Kernel37Ideal.nD Cert.Kernel37Ideal.τ).loc Cert.Kernel37Ideal.main_arg0)
      ∧ m' ((c.tc : Thread Cert.Reference37Ideal.nD Cert.Reference37Ideal.τ).loc Cert.Reference37Ideal.main_arg1) = m ((c.tc : Thread Cert.Kernel37Ideal.nD Cert.Kernel37Ideal.τ).loc Cert.Kernel37Ideal.main_arg1)
      ∧ m' ((c.tc : Thread Cert.Reference37Ideal.nD Cert.Reference37Ideal.τ).loc Cert.Reference37Ideal.main_arg2) = m ((c.tc : Thread Cert.Kernel37Ideal.nD Cert.Kernel37Ideal.τ).loc Cert.Kernel37Ideal.main_arg2)) →
    ∃ (v0 : (c : Dev Cert.Kernel37Ideal.nD) → Buf (Elt Ideal) ((c.tc : Thread Cert.Kernel37Ideal.nD Cert.Kernel37Ideal.τ).loc Cert.Kernel37Ideal.main_v0)),
      θ_run (Cert.Kernel37Ideal.defs (F := Ideal)) (onTc (τ := Cert.Kernel37Ideal.τ) (Cert.Kernel37Ideal.main (F := Ideal))) ⟨m, fun _ => 0, g⟩ (fun r => ∀ c : Dev Cert.Kernel37Ideal.nD,
          r.2.mem ((c.tc : Thread Cert.Kernel37Ideal.nD Cert.Kernel37Ideal.τ).loc Cert.Kernel37Ideal.main_v0) = v0 c
          ∧ r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
          ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
          ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2))
      ∧ θ_run (Cert.Reference37Ideal.defs (F := Ideal)) (onTc (τ := Cert.Reference37Ideal.τ) (Cert.Reference37Ideal.main (F := Ideal))) ⟨m', fun _ => 0, g'⟩ (fun r => ∀ c : Dev Cert.Reference37Ideal.nD,
          r.2.mem ((c.tc : Thread Cert.Reference37Ideal.nD Cert.Reference37Ideal.τ).loc Cert.Reference37Ideal.main_v7) = v0 c
          ∧ r.2.mem ((c.tc : Thread Cert.Reference37Ideal.nD Cert.Reference37Ideal.τ).loc Cert.Reference37Ideal.main_arg0) = m' ((c.tc : Thread Cert.Reference37Ideal.nD Cert.Reference37Ideal.τ).loc Cert.Reference37Ideal.main_arg0)
          ∧ r.2.mem ((c.tc : Thread Cert.Reference37Ideal.nD Cert.Reference37Ideal.τ).loc Cert.Reference37Ideal.main_arg1) = m' ((c.tc : Thread Cert.Reference37Ideal.nD Cert.Reference37Ideal.τ).loc Cert.Reference37Ideal.main_arg1)
          ∧ r.2.mem ((c.tc : Thread Cert.Reference37Ideal.nD Cert.Reference37Ideal.τ).loc Cert.Reference37Ideal.main_arg2) = m' ((c.tc : Thread Cert.Reference37Ideal.nD Cert.Reference37Ideal.τ).loc Cert.Reference37Ideal.main_arg2))

def preserves_Kernel38_Kernel38Ideal : Prop :=
  True

def algebraic_Kernel38Ideal_Reference38Ideal [hKernel38Ideal : Cert.Kernel38Ideal.Facts] [hReference38Ideal : Cert.Reference38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg)
    (m' : (ℓ : Loc Cert.Reference38Ideal.nD Cert.Reference38Ideal.τ Cert.Reference38Ideal.sig) → Buf (Elt Ideal) ℓ) (g' : Dev Cert.Reference38Ideal.nD → PrngReg), Pre_Kernel38Ideal m →
    (∀ c : Dev Cert.Kernel38Ideal.nD,
      m' ((c.tc : Thread Cert.Reference38Ideal.nD Cert.Reference38Ideal.τ).loc Cert.Reference38Ideal.main_arg0) = m ((c.tc : Thread Cert.Kernel38Ideal.nD Cert.Kernel38Ideal.τ).loc Cert.Kernel38Ideal.main_arg0)
      ∧ m' ((c.tc : Thread Cert.Reference38Ideal.nD Cert.Reference38Ideal.τ).loc Cert.Reference38Ideal.main_arg1) = m ((c.tc : Thread Cert.Kernel38Ideal.nD Cert.Kernel38Ideal.τ).loc Cert.Kernel38Ideal.main_arg1)
      ∧ m' ((c.tc : Thread Cert.Reference38Ideal.nD Cert.Reference38Ideal.τ).loc Cert.Reference38Ideal.main_arg2) = m ((c.tc : Thread Cert.Kernel38Ideal.nD Cert.Kernel38Ideal.τ).loc Cert.Kernel38Ideal.main_arg2)
      ∧ m' ((c.tc : Thread Cert.Reference38Ideal.nD Cert.Reference38Ideal.τ).loc Cert.Reference38Ideal.main_arg3) = m ((c.tc : Thread Cert.Kernel38Ideal.nD Cert.Kernel38Ideal.τ).loc Cert.Kernel38Ideal.main_arg3)) →
    ∃ (v0 : (c : Dev Cert.Kernel38Ideal.nD) → Buf (Elt Ideal) ((c.tc : Thread Cert.Kernel38Ideal.nD Cert.Kernel38Ideal.τ).loc Cert.Kernel38Ideal.main_v0_0)) (v1 : (c : Dev Cert.Kernel38Ideal.nD) → Buf (Elt Ideal) ((c.tc : Thread Cert.Kernel38Ideal.nD Cert.Kernel38Ideal.τ).loc Cert.Kernel38Ideal.main_v0_1)),
      θ_run (Cert.Kernel38Ideal.defs (F := Ideal)) (onTc (τ := Cert.Kernel38Ideal.τ) (Cert.Kernel38Ideal.main (F := Ideal))) ⟨m, fun _ => 0, g⟩ (fun r => ∀ c : Dev Cert.Kernel38Ideal.nD,
          r.2.mem ((c.tc : Thread Cert.Kernel38Ideal.nD Cert.Kernel38Ideal.τ).loc Cert.Kernel38Ideal.main_v0_0) = v0 c
          ∧ r.2.mem ((c.tc : Thread Cert.Kernel38Ideal.nD Cert.Kernel38Ideal.τ).loc Cert.Kernel38Ideal.main_v0_1) = v1 c
          ∧ r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
          ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1)
          ∧ r.2.mem ((c.tc : Thread Cert.Kernel38Ideal.nD Cert.Kernel38Ideal.τ).loc Cert.Kernel38Ideal.main_arg2) = m ((c.tc : Thread Cert.Kernel38Ideal.nD Cert.Kernel38Ideal.τ).loc Cert.Kernel38Ideal.main_arg2)
          ∧ r.2.mem ((c.tc : Thread Cert.Kernel38Ideal.nD Cert.Kernel38Ideal.τ).loc Cert.Kernel38Ideal.main_arg3) = m ((c.tc : Thread Cert.Kernel38Ideal.nD Cert.Kernel38Ideal.τ).loc Cert.Kernel38Ideal.main_arg3))
      ∧ θ_run (Cert.Reference38Ideal.defs (F := Ideal)) (onTc (τ := Cert.Reference38Ideal.τ) (Cert.Reference38Ideal.main (F := Ideal))) ⟨m', fun _ => 0, g'⟩ (fun r => ∀ c : Dev Cert.Reference38Ideal.nD,
          r.2.mem ((c.tc : Thread Cert.Reference38Ideal.nD Cert.Reference38Ideal.τ).loc Cert.Reference38Ideal.main_v14) = v0 c
          ∧ r.2.mem ((c.tc : Thread Cert.Reference38Ideal.nD Cert.Reference38Ideal.τ).loc Cert.Reference38Ideal.main_v15) = v1 c
          ∧ r.2.mem ((c.tc : Thread Cert.Reference38Ideal.nD Cert.Reference38Ideal.τ).loc Cert.Reference38Ideal.main_arg0) = m' ((c.tc : Thread Cert.Reference38Ideal.nD Cert.Reference38Ideal.τ).loc Cert.Reference38Ideal.main_arg0)
          ∧ r.2.mem ((c.tc : Thread Cert.Reference38Ideal.nD Cert.Reference38Ideal.τ).loc Cert.Reference38Ideal.main_arg1) = m' ((c.tc : Thread Cert.Reference38Ideal.nD Cert.Reference38Ideal.τ).loc Cert.Reference38Ideal.main_arg1)
          ∧ r.2.mem ((c.tc : Thread Cert.Reference38Ideal.nD Cert.Reference38Ideal.τ).loc Cert.Reference38Ideal.main_arg2) = m' ((c.tc : Thread Cert.Reference38Ideal.nD Cert.Reference38Ideal.τ).loc Cert.Reference38Ideal.main_arg2)
          ∧ r.2.mem ((c.tc : Thread Cert.Reference38Ideal.nD Cert.Reference38Ideal.τ).loc Cert.Reference38Ideal.main_arg3) = m' ((c.tc : Thread Cert.Reference38Ideal.nD Cert.Reference38Ideal.τ).loc Cert.Reference38Ideal.main_arg3))

def preserves_Kernel39_Kernel39Ideal : Prop :=
  True

def algebraic_Kernel39Ideal_Reference39Ideal [hKernel39Ideal : Cert.Kernel39Ideal.Facts] [hReference39Ideal : Cert.Reference39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg)
    (m' : (ℓ : Loc Cert.Reference39Ideal.nD Cert.Reference39Ideal.τ Cert.Reference39Ideal.sig) → Buf (Elt Ideal) ℓ) (g' : Dev Cert.Reference39Ideal.nD → PrngReg), Pre_Kernel39Ideal m →
    (∀ c : Dev Cert.Kernel39Ideal.nD,
      m' ((c.tc : Thread Cert.Reference39Ideal.nD Cert.Reference39Ideal.τ).loc Cert.Reference39Ideal.main_arg0) = m ((c.tc : Thread Cert.Kernel39Ideal.nD Cert.Kernel39Ideal.τ).loc Cert.Kernel39Ideal.main_arg0)
      ∧ m' ((c.tc : Thread Cert.Reference39Ideal.nD Cert.Reference39Ideal.τ).loc Cert.Reference39Ideal.main_arg1) = m ((c.tc : Thread Cert.Kernel39Ideal.nD Cert.Kernel39Ideal.τ).loc Cert.Kernel39Ideal.main_arg1)
      ∧ m' ((c.tc : Thread Cert.Reference39Ideal.nD Cert.Reference39Ideal.τ).loc Cert.Reference39Ideal.main_arg2) = m ((c.tc : Thread Cert.Kernel39Ideal.nD Cert.Kernel39Ideal.τ).loc Cert.Kernel39Ideal.main_arg2)
      ∧ m' ((c.tc : Thread Cert.Reference39Ideal.nD Cert.Reference39Ideal.τ).loc Cert.Reference39Ideal.main_arg3) = m ((c.tc : Thread Cert.Kernel39Ideal.nD Cert.Kernel39Ideal.τ).loc Cert.Kernel39Ideal.main_arg3)) →
    ∃ (v0 : (c : Dev Cert.Kernel39Ideal.nD) → Buf (Elt Ideal) ((c.tc : Thread Cert.Kernel39Ideal.nD Cert.Kernel39Ideal.τ).loc Cert.Kernel39Ideal.main_v0)),
      θ_run (Cert.Kernel39Ideal.defs (F := Ideal)) (onTc (τ := Cert.Kernel39Ideal.τ) (Cert.Kernel39Ideal.main (F := Ideal))) ⟨m, fun _ => 0, g⟩ (fun r => ∀ c : Dev Cert.Kernel39Ideal.nD,
          r.2.mem ((c.tc : Thread Cert.Kernel39Ideal.nD Cert.Kernel39Ideal.τ).loc Cert.Kernel39Ideal.main_v0) = v0 c
          ∧ r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0)
          ∧ r.2.mem ((c.tc : Thread Cert.Kernel39Ideal.nD Cert.Kernel39Ideal.τ).loc Cert.Kernel39Ideal.main_arg1) = m ((c.tc : Thread Cert.Kernel39Ideal.nD Cert.Kernel39Ideal.τ).loc Cert.Kernel39Ideal.main_arg1)
          ∧ r.2.mem ((c.tc : Thread Cert.Kernel39Ideal.nD Cert.Kernel39Ideal.τ).loc Cert.Kernel39Ideal.main_arg2) = m ((c.tc : Thread Cert.Kernel39Ideal.nD Cert.Kernel39Ideal.τ).loc Cert.Kernel39Ideal.main_arg2)
          ∧ r.2.mem ((c.tc : Thread Cert.Kernel39Ideal.nD Cert.Kernel39Ideal.τ).loc Cert.Kernel39Ideal.main_arg3) = m ((c.tc : Thread Cert.Kernel39Ideal.nD Cert.Kernel39Ideal.τ).loc Cert.Kernel39Ideal.main_arg3))
      ∧ θ_run (Cert.Reference39Ideal.defs (F := Ideal)) (onTc (τ := Cert.Reference39Ideal.τ) (Cert.Reference39Ideal.main (F := Ideal))) ⟨m', fun _ => 0, g'⟩ (fun r => ∀ c : Dev Cert.Reference39Ideal.nD,
          r.2.mem ((c.tc : Thread Cert.Reference39Ideal.nD Cert.Reference39Ideal.τ).loc Cert.Reference39Ideal.main_v14) = v0 c
          ∧ r.2.mem ((c.tc : Thread Cert.Reference39Ideal.nD Cert.Reference39Ideal.τ).loc Cert.Reference39Ideal.main_arg0) = m' ((c.tc : Thread Cert.Reference39Ideal.nD Cert.Reference39Ideal.τ).loc Cert.Reference39Ideal.main_arg0)
          ∧ r.2.mem ((c.tc : Thread Cert.Reference39Ideal.nD Cert.Reference39Ideal.τ).loc Cert.Reference39Ideal.main_arg1) = m' ((c.tc : Thread Cert.Reference39Ideal.nD Cert.Reference39Ideal.τ).loc Cert.Reference39Ideal.main_arg1)
          ∧ r.2.mem ((c.tc : Thread Cert.Reference39Ideal.nD Cert.Reference39Ideal.τ).loc Cert.Reference39Ideal.main_arg2) = m' ((c.tc : Thread Cert.Reference39Ideal.nD Cert.Reference39Ideal.τ).loc Cert.Reference39Ideal.main_arg2)
          ∧ r.2.mem ((c.tc : Thread Cert.Reference39Ideal.nD Cert.Reference39Ideal.τ).loc Cert.Reference39Ideal.main_arg3) = m' ((c.tc : Thread Cert.Reference39Ideal.nD Cert.Reference39Ideal.τ).loc Cert.Reference39Ideal.main_arg3))

def preserves_Kernel40_Kernel40Ideal : Prop :=
  True

def algebraic_Kernel40Ideal_Reference40Ideal [hKernel40Ideal : Cert.Kernel40Ideal.Facts] [hReference40Ideal : Cert.Reference40Ideal.Facts] : Prop :=
  ∀ (m : (ℓ : Loc Cert.Kernel40Ideal.nD Cert.Kernel40Ideal.τ Cert.Kernel40Ideal.sig) → Buf (Elt Ideal) ℓ) (g : Dev Cert.Kernel40Ideal.nD → PrngReg)
    (m' : (ℓ : Loc Cert.Reference40Ideal.nD Cert.Reference40Ideal.τ Cert.Reference40Ideal.sig) → Buf (Elt Ideal) ℓ) (g' : Dev Cert.Reference40Ideal.nD → PrngReg), Pre_Kernel40Ideal m →
    (∀ c : Dev Cert.Kernel40Ideal.nD,
      m' ((c.tc : Thread Cert.Reference40Ideal.nD Cert.Reference40Ideal.τ).loc Cert.Reference40Ideal.main_arg0) = m ((c.tc : Thread Cert.Kernel40Ideal.nD Cert.Kernel40Ideal.τ).loc Cert.Kernel40Ideal.main_arg0)
      ∧ m' ((c.tc : Thread Cert.Reference40Ideal.nD Cert.Reference40Ideal.τ).loc Cert.Reference40Ideal.main_arg1) = m ((c.tc : Thread Cert.Kernel40Ideal.nD Cert.Kernel40Ideal.τ).loc Cert.Kernel40Ideal.main_arg1)
      ∧ m' ((c.tc : Thread Cert.Reference40Ideal.nD Cert.Reference40Ideal.τ).loc Cert.Reference40Ideal.main_arg2) = m ((c.tc : Thread Cert.Kernel40Ideal.nD Cert.Kernel40Ideal.τ).loc Cert.Kernel40Ideal.main_arg2)
      ∧ m' ((c.tc : Thread Cert.Reference40Ideal.nD Cert.Reference40Ideal.τ).loc Cert.Reference40Ideal.main_arg3) = m ((c.tc : Thread Cert.Kernel40Ideal.nD Cert.Kernel40Ideal.τ).loc Cert.Kernel40Ideal.main_arg3)
      ∧ m' ((c.tc : Thread Cert.Reference40Ideal.nD Cert.Reference40Ideal.τ).loc Cert.Reference40Ideal.main_arg4) = m ((c.tc : Thread Cert.Kernel40Ideal.nD Cert.Kernel40Ideal.τ).loc Cert.Kernel40Ideal.main_arg4)) →
    ∃ (v0 : (c : Dev Cert.Kernel40Ideal.nD) → Buf (Elt Ideal) ((c.tc : Thread Cert.Kernel40Ideal.nD Cert.Kernel40Ideal.τ).loc Cert.Kernel40Ideal.main_v0_0)) (v1 : (c : Dev Cert.Kernel40Ideal.nD) → Buf (Elt Ideal) ((c.tc : Thread Cert.Kernel40Ideal.nD Cert.Kernel40Ideal.τ).loc Cert.Kernel40Ideal.main_v0_1)) (v2 : (c : Dev Cert.Kernel40Ideal.nD) → Buf (Elt Ideal) ((c.tc : Thread Cert.Kernel40Ideal.nD Cert.Kernel40Ideal.τ).loc Cert.Kernel40Ideal.main_v0_2)) (v3 : (c : Dev Cert.Kernel40Ideal.nD) → Buf (Elt Ideal) ((c.tc : Thread Cert.Kernel40Ideal.nD Cert.Kernel40Ideal.τ).loc Cert.Kernel40Ideal.main_v0_3)) (v4 : (c : Dev Cert.Kernel40Ideal.nD) → Buf (Elt Ideal) ((c.tc : Thread Cert.Kernel40Ideal.nD Cert.Kernel40Ideal.τ).loc Cert.Kernel40Ideal.main_v0_4)) (v5 : (c : Dev Cert.Kernel40Ideal.nD) → Buf (Elt Ideal) ((c.tc : Thread Cert.Kernel40Ideal.nD Cert.Kernel40Ideal.τ).loc Cert.Kernel40Ideal.main_v0_5)),
      θ_run (Cert.Kernel40Ideal.defs (F := Ideal)) (onTc (τ := Cert.Kernel40Ideal.τ) (Cert.Kernel40Ideal.main (F := Ideal))) ⟨m, fun _ => 0, g⟩ (fun r => ∀ c : Dev Cert.Kernel40Ideal.nD,
          r.2.mem ((c.tc : Thread Cert.Kernel40Ideal.nD Cert.Kernel40Ideal.τ).loc Cert.Kernel40Ideal.main_v0_0) = v0 c
          ∧ r.2.mem ((c.tc : Thread Cert.Kernel40Ideal.nD Cert.Kernel40Ideal.τ).loc Cert.Kernel40Ideal.main_v0_1) = v1 c
          ∧ r.2.mem ((c.tc : Thread Cert.Kernel40Ideal.nD Cert.Kernel40Ideal.τ).loc Cert.Kernel40Ideal.main_v0_2) = v2 c
          ∧ r.2.mem ((c.tc : Thread Cert.Kernel40Ideal.nD Cert.Kernel40Ideal.τ).loc Cert.Kernel40Ideal.main_v0_3) = v3 c
          ∧ r.2.mem ((c.tc : Thread Cert.Kernel40Ideal.nD Cert.Kernel40Ideal.τ).loc Cert.Kernel40Ideal.main_v0_4) = v4 c
          ∧ r.2.mem ((c.tc : Thread Cert.Kernel40Ideal.nD Cert.Kernel40Ideal.τ).loc Cert.Kernel40Ideal.main_v0_5) = v5 c
          ∧ r.2.mem ((c.tc : Thread Cert.Kernel40Ideal.nD Cert.Kernel40Ideal.τ).loc Cert.Kernel40Ideal.main_arg0) = m ((c.tc : Thread Cert.Kernel40Ideal.nD Cert.Kernel40Ideal.τ).loc Cert.Kernel40Ideal.main_arg0)
          ∧ r.2.mem ((c.tc : Thread Cert.Kernel40Ideal.nD Cert.Kernel40Ideal.τ).loc Cert.Kernel40Ideal.main_arg1) = m ((c.tc : Thread Cert.Kernel40Ideal.nD Cert.Kernel40Ideal.τ).loc Cert.Kernel40Ideal.main_arg1)
          ∧ r.2.mem ((c.tc : Thread Cert.Kernel40Ideal.nD Cert.Kernel40Ideal.τ).loc Cert.Kernel40Ideal.main_arg2) = m ((c.tc : Thread Cert.Kernel40Ideal.nD Cert.Kernel40Ideal.τ).loc Cert.Kernel40Ideal.main_arg2)
          ∧ r.2.mem ((c.tc : Thread Cert.Kernel40Ideal.nD Cert.Kernel40Ideal.τ).loc Cert.Kernel40Ideal.main_arg3) = m ((c.tc : Thread Cert.Kernel40Ideal.nD Cert.Kernel40Ideal.τ).loc Cert.Kernel40Ideal.main_arg3)
          ∧ r.2.mem ((c.tc : Thread Cert.Kernel40Ideal.nD Cert.Kernel40Ideal.τ).loc Cert.Kernel40Ideal.main_arg4) = m ((c.tc : Thread Cert.Kernel40Ideal.nD Cert.Kernel40Ideal.τ).loc Cert.Kernel40Ideal.main_arg4))
      ∧ θ_run (Cert.Reference40Ideal.defs (F := Ideal)) (onTc (τ := Cert.Reference40Ideal.τ) (Cert.Reference40Ideal.main (F := Ideal))) ⟨m', fun _ => 0, g'⟩ (fun r => ∀ c : Dev Cert.Reference40Ideal.nD,
          r.2.mem ((c.tc : Thread Cert.Reference40Ideal.nD Cert.Reference40Ideal.τ).loc Cert.Reference40Ideal.main_v31) = v0 c
          ∧ r.2.mem ((c.tc : Thread Cert.Reference40Ideal.nD Cert.Reference40Ideal.τ).loc Cert.Reference40Ideal.main_v32) = v1 c
          ∧ r.2.mem ((c.tc : Thread Cert.Reference40Ideal.nD Cert.Reference40Ideal.τ).loc Cert.Reference40Ideal.main_v33) = v2 c
          ∧ r.2.mem ((c.tc : Thread Cert.Reference40Ideal.nD Cert.Reference40Ideal.τ).loc Cert.Reference40Ideal.main_v34) = v3 c
          ∧ r.2.mem ((c.tc : Thread Cert.Reference40Ideal.nD Cert.Reference40Ideal.τ).loc Cert.Reference40Ideal.main_v35) = v4 c
          ∧ r.2.mem ((c.tc : Thread Cert.Reference40Ideal.nD Cert.Reference40Ideal.τ).loc Cert.Reference40Ideal.main_v36) = v5 c
          ∧ r.2.mem ((c.tc : Thread Cert.Reference40Ideal.nD Cert.Reference40Ideal.τ).loc Cert.Reference40Ideal.main_arg0) = m' ((c.tc : Thread Cert.Reference40Ideal.nD Cert.Reference40Ideal.τ).loc Cert.Reference40Ideal.main_arg0)
          ∧ r.2.mem ((c.tc : Thread Cert.Reference40Ideal.nD Cert.Reference40Ideal.τ).loc Cert.Reference40Ideal.main_arg1) = m' ((c.tc : Thread Cert.Reference40Ideal.nD Cert.Reference40Ideal.τ).loc Cert.Reference40Ideal.main_arg1)
          ∧ r.2.mem ((c.tc : Thread Cert.Reference40Ideal.nD Cert.Reference40Ideal.τ).loc Cert.Reference40Ideal.main_arg2) = m' ((c.tc : Thread Cert.Reference40Ideal.nD Cert.Reference40Ideal.τ).loc Cert.Reference40Ideal.main_arg2)
          ∧ r.2.mem ((c.tc : Thread Cert.Reference40Ideal.nD Cert.Reference40Ideal.τ).loc Cert.Reference40Ideal.main_arg3) = m' ((c.tc : Thread Cert.Reference40Ideal.nD Cert.Reference40Ideal.τ).loc Cert.Reference40Ideal.main_arg3)
          ∧ r.2.mem ((c.tc : Thread Cert.Reference40Ideal.nD Cert.Reference40Ideal.τ).loc Cert.Reference40Ideal.main_arg4) = m' ((c.tc : Thread Cert.Reference40Ideal.nD Cert.Reference40Ideal.τ).loc Cert.Reference40Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts) (hKernel35 : Cert.Kernel35.Facts) (hKernel35Ideal : Cert.Kernel35Ideal.Facts) (hReference35Ideal : Cert.Reference35Ideal.Facts) (hKernel36 : Cert.Kernel36.Facts) (hKernel36Ideal : Cert.Kernel36Ideal.Facts) (hReference36Ideal : Cert.Reference36Ideal.Facts) (hKernel37 : Cert.Kernel37.Facts) (hKernel37Ideal : Cert.Kernel37Ideal.Facts) (hReference37Ideal : Cert.Reference37Ideal.Facts) (hKernel38 : Cert.Kernel38.Facts) (hKernel38Ideal : Cert.Kernel38Ideal.Facts) (hReference38Ideal : Cert.Reference38Ideal.Facts) (hKernel39 : Cert.Kernel39.Facts) (hKernel39Ideal : Cert.Kernel39Ideal.Facts) (hReference39Ideal : Cert.Reference39Ideal.Facts) (hKernel40 : Cert.Kernel40.Facts) (hKernel40Ideal : Cert.Kernel40Ideal.Facts) (hReference40Ideal : Cert.Reference40Ideal.Facts) (hPre_finite : Cert.Pre_finite.Facts) (hPre_finite_scores : Cert.Pre_finite_scores.Facts) (hPre_finite_sums : Cert.Pre_finite_sums.Facts) (hPre_finite_sums_g1 : Cert.Pre_finite_sums_g1.Facts) (hPre_finite_sums_g0 : Cert.Pre_finite_sums_g0.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Kernel28Ideal_pre_finite_scores (hKernel28Ideal := hKernel28Ideal) (hPre_finite_scores := hPre_finite_scores)
    ∧ quiescent_Reference28Ideal (hReference28Ideal := hReference28Ideal)
    ∧ quiescent_Reference28Ideal_pre_finite_scores (hReference28Ideal := hReference28Ideal) (hPre_finite_scores := hPre_finite_scores)
    ∧ quiescent_Kernel29 (hKernel29 := hKernel29)
    ∧ quiescent_Kernel29Ideal (hKernel29Ideal := hKernel29Ideal)
    ∧ quiescent_Kernel29Ideal_pre_finite_scores (hKernel29Ideal := hKernel29Ideal) (hPre_finite_scores := hPre_finite_scores)
    ∧ quiescent_Reference29Ideal (hReference29Ideal := hReference29Ideal)
    ∧ quiescent_Reference29Ideal_pre_finite_scores (hReference29Ideal := hReference29Ideal) (hPre_finite_scores := hPre_finite_scores)
    ∧ quiescent_Kernel30 (hKernel30 := hKernel30)
    ∧ quiescent_Kernel30Ideal (hKernel30Ideal := hKernel30Ideal)
    ∧ quiescent_Kernel30Ideal_pre_finite_scores (hKernel30Ideal := hKernel30Ideal) (hPre_finite_scores := hPre_finite_scores)
    ∧ quiescent_Reference30Ideal (hReference30Ideal := hReference30Ideal)
    ∧ quiescent_Reference30Ideal_pre_finite_scores (hReference30Ideal := hReference30Ideal) (hPre_finite_scores := hPre_finite_scores)
    ∧ quiescent_Kernel31 (hKernel31 := hKernel31)
    ∧ quiescent_Kernel31Ideal (hKernel31Ideal := hKernel31Ideal)
    ∧ quiescent_Kernel31Ideal_pre_finite_scores (hKernel31Ideal := hKernel31Ideal) (hPre_finite_scores := hPre_finite_scores)
    ∧ quiescent_Reference31Ideal (hReference31Ideal := hReference31Ideal)
    ∧ quiescent_Reference31Ideal_pre_finite_scores (hReference31Ideal := hReference31Ideal) (hPre_finite_scores := hPre_finite_scores)
    ∧ quiescent_Kernel32 (hKernel32 := hKernel32)
    ∧ quiescent_Kernel32Ideal (hKernel32Ideal := hKernel32Ideal)
    ∧ quiescent_Kernel32Ideal_pre_finite_sums (hKernel32Ideal := hKernel32Ideal) (hPre_finite_sums := hPre_finite_sums)
    ∧ quiescent_Reference32Ideal (hReference32Ideal := hReference32Ideal)
    ∧ quiescent_Reference32Ideal_pre_finite_sums (hReference32Ideal := hReference32Ideal) (hPre_finite_sums := hPre_finite_sums)
    ∧ quiescent_Kernel33 (hKernel33 := hKernel33)
    ∧ quiescent_Kernel33Ideal (hKernel33Ideal := hKernel33Ideal)
    ∧ quiescent_Kernel33Ideal_pre_finite_sums_g1 (hKernel33Ideal := hKernel33Ideal) (hPre_finite_sums_g1 := hPre_finite_sums_g1)
    ∧ quiescent_Reference33Ideal (hReference33Ideal := hReference33Ideal)
    ∧ quiescent_Reference33Ideal_pre_finite_sums_g1 (hReference33Ideal := hReference33Ideal) (hPre_finite_sums_g1 := hPre_finite_sums_g1)
    ∧ quiescent_Kernel34 (hKernel34 := hKernel34)
    ∧ quiescent_Kernel34Ideal (hKernel34Ideal := hKernel34Ideal)
    ∧ quiescent_Kernel34Ideal_pre_finite_sums_g0 (hKernel34Ideal := hKernel34Ideal) (hPre_finite_sums_g0 := hPre_finite_sums_g0)
    ∧ quiescent_Reference34Ideal (hReference34Ideal := hReference34Ideal)
    ∧ quiescent_Reference34Ideal_pre_finite_sums_g0 (hReference34Ideal := hReference34Ideal) (hPre_finite_sums_g0 := hPre_finite_sums_g0)
    ∧ quiescent_Kernel35 (hKernel35 := hKernel35)
    ∧ quiescent_Kernel35Ideal (hKernel35Ideal := hKernel35Ideal)
    ∧ quiescent_Reference35Ideal (hReference35Ideal := hReference35Ideal)
    ∧ quiescent_Kernel36 (hKernel36 := hKernel36)
    ∧ quiescent_Kernel36Ideal (hKernel36Ideal := hKernel36Ideal)
    ∧ quiescent_Reference36Ideal (hReference36Ideal := hReference36Ideal)
    ∧ quiescent_Kernel37 (hKernel37 := hKernel37)
    ∧ quiescent_Kernel37Ideal (hKernel37Ideal := hKernel37Ideal)
    ∧ quiescent_Reference37Ideal (hReference37Ideal := hReference37Ideal)
    ∧ quiescent_Kernel38 (hKernel38 := hKernel38)
    ∧ quiescent_Kernel38Ideal (hKernel38Ideal := hKernel38Ideal)
    ∧ quiescent_Reference38Ideal (hReference38Ideal := hReference38Ideal)
    ∧ quiescent_Kernel39 (hKernel39 := hKernel39)
    ∧ quiescent_Kernel39Ideal (hKernel39Ideal := hKernel39Ideal)
    ∧ quiescent_Reference39Ideal (hReference39Ideal := hReference39Ideal)
    ∧ quiescent_Kernel40 (hKernel40 := hKernel40)
    ∧ quiescent_Kernel40Ideal (hKernel40Ideal := hKernel40Ideal)
    ∧ quiescent_Reference40Ideal (hReference40Ideal := hReference40Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal_pre_finite_scores (hKernel28Ideal := hKernel28Ideal) (hReference28Ideal := hReference28Ideal) (hPre_finite_scores := hPre_finite_scores)
    ∧ preserves_Kernel29_Kernel29Ideal
    ∧ algebraic_Kernel29Ideal_Reference29Ideal_pre_finite_scores (hKernel29Ideal := hKernel29Ideal) (hReference29Ideal := hReference29Ideal) (hPre_finite_scores := hPre_finite_scores)
    ∧ preserves_Kernel30_Kernel30Ideal
    ∧ algebraic_Kernel30Ideal_Reference30Ideal_pre_finite_scores (hKernel30Ideal := hKernel30Ideal) (hReference30Ideal := hReference30Ideal) (hPre_finite_scores := hPre_finite_scores)
    ∧ preserves_Kernel31_Kernel31Ideal
    ∧ algebraic_Kernel31Ideal_Reference31Ideal_pre_finite_scores (hKernel31Ideal := hKernel31Ideal) (hReference31Ideal := hReference31Ideal) (hPre_finite_scores := hPre_finite_scores)
    ∧ preserves_Kernel32_Kernel32Ideal
    ∧ algebraic_Kernel32Ideal_Reference32Ideal_pre_finite_sums (hKernel32Ideal := hKernel32Ideal) (hReference32Ideal := hReference32Ideal) (hPre_finite_sums := hPre_finite_sums)
    ∧ preserves_Kernel33_Kernel33Ideal
    ∧ algebraic_Kernel33Ideal_Reference33Ideal_pre_finite_sums_g1 (hKernel33Ideal := hKernel33Ideal) (hReference33Ideal := hReference33Ideal) (hPre_finite_sums_g1 := hPre_finite_sums_g1)
    ∧ preserves_Kernel34_Kernel34Ideal
    ∧ algebraic_Kernel34Ideal_Reference34Ideal_pre_finite_sums_g0 (hKernel34Ideal := hKernel34Ideal) (hReference34Ideal := hReference34Ideal) (hPre_finite_sums_g0 := hPre_finite_sums_g0)
    ∧ preserves_Kernel35_Kernel35Ideal
    ∧ algebraic_Kernel35Ideal_Reference35Ideal (hKernel35Ideal := hKernel35Ideal) (hReference35Ideal := hReference35Ideal)
    ∧ preserves_Kernel36_Kernel36Ideal
    ∧ algebraic_Kernel36Ideal_Reference36Ideal (hKernel36Ideal := hKernel36Ideal) (hReference36Ideal := hReference36Ideal)
    ∧ preserves_Kernel37_Kernel37Ideal
    ∧ algebraic_Kernel37Ideal_Reference37Ideal (hKernel37Ideal := hKernel37Ideal) (hReference37Ideal := hReference37Ideal)
    ∧ preserves_Kernel38_Kernel38Ideal
    ∧ algebraic_Kernel38Ideal_Reference38Ideal (hKernel38Ideal := hKernel38Ideal) (hReference38Ideal := hReference38Ideal)
    ∧ preserves_Kernel39_Kernel39Ideal
    ∧ algebraic_Kernel39Ideal_Reference39Ideal (hKernel39Ideal := hKernel39Ideal) (hReference39Ideal := hReference39Ideal)
    ∧ preserves_Kernel40_Kernel40Ideal
    ∧ algebraic_Kernel40Ideal_Reference40Ideal (hKernel40Ideal := hKernel40Ideal) (hReference40Ideal := hReference40Ideal)
-- ==== Pre_finite.lean ====
abbrev S2048x512 : Shape := ⟨2, ![2048, 512]⟩
abbrev S2048x8192 : Shape := ⟨2, ![2048, 8192]⟩
abbrev S8x2048x1 : Shape := ⟨3, ![8, 2048, 1]⟩
abbrev S8x1x2048 : Shape := ⟨3, ![8, 1, 2048]⟩
abbrev S_ : Shape := ⟨0, ![]⟩

class Facts : Prop where
  bitsLt_bf16_f32 : FTy.bits .bf16 < FTy.bits .f32
  bcast_S_S2048x512 : S_.BroadcastsInDim S2048x512 (![] : Fin 0 → Fin S2048x512.rank)
  reducesTo_S2048x512_S_d0_1 : S2048x512.ReducesTo [0, 1] S_
  h_S_ : 0 < S_.numel
  bcast_S_S8x2048x1 : S_.BroadcastsInDim S8x2048x1 (![] : Fin 0 → Fin S8x2048x1.rank)
  reducesTo_S8x2048x1_S_d0_1_2 : S8x2048x1.ReducesTo [0, 1, 2] S_
  bcast_S_S8x1x2048 : S_.BroadcastsInDim S8x1x2048 (![] : Fin 0 → Fin S8x1x2048.rank)
  reducesTo_S8x1x2048_S_d0_1_2 : S8x1x2048.ReducesTo [0, 1, 2] S_

variable [Facts]

def fn_part1 {F : FTy → Type} [FloatOps F] (main_v5 : IVec S_ 1) (main_v9 : IVec S_ 1) (main_v13 : IVec S_ 1) (main_v16 : IVec S8x1x2048 1) : IVec S_ 1 :=
  let main_c_5 : IVec S_ 1 := constantI S_ 1 1#1
  let main_v17 : IVec S_ 1 := (fun x v => Host.reduce IntOp.andi x v reducesTo_S8x1x2048_S_d0_1_2 h_S_) main_v16 main_c_5
  let main_v18 : IVec S_ 1 := andi main_v5 main_v9
  let main_v19 : IVec S_ 1 := andi main_v18 main_v13
  let main_v20 : IVec S_ 1 := andi main_v19 main_v17
  main_v20

def fn {F : FTy → Type} [FloatOps F] (main_arg0 : FVec F S2048x512 .bf16) (main_arg1 : FVec F S2048x512 .bf16) (main_arg2 : FVec F S2048x8192 .f32) (main_arg3 : FVec F S8x2048x1 .f32) (main_arg4 : FVec F S8x1x2048 .f32) (main_arg5 : FVec F S2048x512 .f32) : IVec S_ 1 :=
  let main_v0 : FVec F S2048x512 .f32 := (extf .f32 · bitsLt_bf16_f32) main_arg0
  let main_v1 : FVec F S2048x512 .f32 := (extf .f32 · bitsLt_bf16_f32) main_arg1
  let main_v2 : FVec F S2048x512 .f32 := Host.absf main_v0
  let main_cst : FVec F S_ .f32 := constant S_ .f32 0x7F800000#32
  let main_v3 : FVec F S2048x512 .f32 := broadcastInDim S2048x512 ![] bcast_S_S2048x512 main_cst
  let main_v4 : IVec S2048x512 1 := cmpf .olt main_v2 main_v3
  let main_c : IVec S_ 1 := constantI S_ 1 1#1
  let main_v5 : IVec S_ 1 := (fun x v => Host.reduce IntOp.andi x v reducesTo_S2048x512_S_d0_1 h_S_) main_v4 main_c
  let main_v6 : FVec F S2048x512 .f32 := Host.absf main_v1
  let main_cst_0 : FVec F S_ .f32 := constant S_ .f32 0x7F800000#32
  let main_v7 : FVec F S2048x512 .f32 := broadcastInDim S2048x512 ![] bcast_S_S2048x512 main_cst_0
  let main_v8 : IVec S2048x512 1 := cmpf .olt main_v6 main_v7
  let main_c_1 : IVec S_ 1 := constantI S_ 1 1#1
  let main_v9 : IVec S_ 1 := (fun x v => Host.reduce IntOp.andi x v reducesTo_S2048x512_S_d0_1 h_S_) main_v8 main_c_1
  let main_v10 : FVec F S8x2048x1 .f32 := Host.absf main_arg3
  let main_cst_2 : FVec F S_ .f32 := constant S_ .f32 0x7F800000#32
  let main_v11 : FVec F S8x2048x1 .f32 := broadcastInDim S8x2048x1 ![] bcast_S_S8x2048x1 main_cst_2
  let main_v12 : IVec S8x2048x1 1 := cmpf .olt main_v10 main_v11
  let main_c_3 : IVec S_ 1 := constantI S_ 1 1#1
  let main_v13 : IVec S_ 1 := (fun x v => Host.reduce IntOp.andi x v reducesTo_S8x2048x1_S_d0_1_2 h_S_) main_v12 main_c_3
  let main_v14 : FVec F S8x1x2048 .f32 := Host.absf main_arg4
  let main_cst_4 : FVec F S_ .f32 := constant S_ .f32 0x7F800000#32
  let main_v15 : FVec F S8x1x2048 .f32 := broadcastInDim S8x1x2048 ![] bcast_S_S8x1x2048 main_cst_4
  let main_v16 : IVec S8x1x2048 1 := cmpf .olt main_v14 main_v15
  fn_part1 (F := F) main_v5 main_v9 main_v13 main_v16
-- ==== Pre_finite_scores.lean ====
abbrev S2048x512 : Shape := ⟨2, ![2048, 512]⟩
abbrev S2048x8192 : Shape := ⟨2, ![2048, 8192]⟩
abbrev S8x2048x1 : Shape := ⟨3, ![8, 2048, 1]⟩
abbrev S8x1x2048 : Shape := ⟨3, ![8, 1, 2048]⟩
abbrev S_ : Shape := ⟨0, ![]⟩

class Facts : Prop where
  bitsLt_bf16_f32 : FTy.bits .bf16 < FTy.bits .f32
  bcast_S_S2048x512 : S_.BroadcastsInDim S2048x512 (![] : Fin 0 → Fin S2048x512.rank)
  reducesTo_S2048x512_S_d0_1 : S2048x512.ReducesTo [0, 1] S_
  h_S_ : 0 < S_.numel
  bcast_S_S8x2048x1 : S_.BroadcastsInDim S8x2048x1 (![] : Fin 0 → Fin S8x2048x1.rank)
  reducesTo_S8x2048x1_S_d0_1_2 : S8x2048x1.ReducesTo [0, 1, 2] S_
  bcast_S_S8x1x2048 : S_.BroadcastsInDim S8x1x2048 (![] : Fin 0 → Fin S8x1x2048.rank)
  reducesTo_S8x1x2048_S_d0_1_2 : S8x1x2048.ReducesTo [0, 1, 2] S_

variable [Facts]

def fn_part1 {F : FTy → Type} [FloatOps F] (main_v5 : IVec S_ 1) (main_v9 : IVec S_ 1) (main_v13 : IVec S_ 1) (main_v16 : IVec S8x1x2048 1) : IVec S_ 1 :=
  let main_c_5 : IVec S_ 1 := constantI S_ 1 1#1
  let main_v17 : IVec S_ 1 := (fun x v => Host.reduce IntOp.andi x v reducesTo_S8x1x2048_S_d0_1_2 h_S_) main_v16 main_c_5
  let main_v18 : IVec S_ 1 := andi main_v5 main_v9
  let main_v19 : IVec S_ 1 := andi main_v18 main_v13
  let main_v20 : IVec S_ 1 := andi main_v19 main_v17
  main_v20

def fn {F : FTy → Type} [FloatOps F] (main_arg0 : FVec F S2048x512 .bf16) (main_arg1 : FVec F S2048x512 .bf16) (main_arg2 : FVec F S2048x8192 .f32) (main_arg3 : FVec F S8x2048x1 .f32) (main_arg4 : FVec F S8x1x2048 .f32) : IVec S_ 1 :=
  let main_v0 : FVec F S2048x512 .f32 := (extf .f32 · bitsLt_bf16_f32) main_arg0
  let main_v1 : FVec F S2048x512 .f32 := (extf .f32 · bitsLt_bf16_f32) main_arg1
  let main_v2 : FVec F S2048x512 .f32 := Host.absf main_v0
  let main_cst : FVec F S_ .f32 := constant S_ .f32 0x7F800000#32
  let main_v3 : FVec F S2048x512 .f32 := broadcastInDim S2048x512 ![] bcast_S_S2048x512 main_cst
  let main_v4 : IVec S2048x512 1 := cmpf .olt main_v2 main_v3
  let main_c : IVec S_ 1 := constantI S_ 1 1#1
  let main_v5 : IVec S_ 1 := (fun x v => Host.reduce IntOp.andi x v reducesTo_S2048x512_S_d0_1 h_S_) main_v4 main_c
  let main_v6 : FVec F S2048x512 .f32 := Host.absf main_v1
  let main_cst_0 : FVec F S_ .f32 := constant S_ .f32 0x7F800000#32
  let main_v7 : FVec F S2048x512 .f32 := broadcastInDim S2048x512 ![] bcast_S_S2048x512 main_cst_0
  let main_v8 : IVec S2048x512 1 := cmpf .olt main_v6 main_v7
  let main_c_1 : IVec S_ 1 := constantI S_ 1 1#1
  let main_v9 : IVec S_ 1 := (fun x v => Host.reduce IntOp.andi x v reducesTo_S2048x512_S_d0_1 h_S_) main_v8 main_c_1
  let main_v10 : FVec F S8x2048x1 .f32 := Host.absf main_arg3
  let main_cst_2 : FVec F S_ .f32 := constant S_ .f32 0x7F800000#32
  let main_v11 : FVec F S8x2048x1 .f32 := broadcastInDim S8x2048x1 ![] bcast_S_S8x2048x1 main_cst_2
  let main_v12 : IVec S8x2048x1 1 := cmpf .olt main_v10 main_v11
  let main_c_3 : IVec S_ 1 := constantI S_ 1 1#1
  let main_v13 : IVec S_ 1 := (fun x v => Host.reduce IntOp.andi x v reducesTo_S8x2048x1_S_d0_1_2 h_S_) main_v12 main_c_3
  let main_v14 : FVec F S8x1x2048 .f32 := Host.absf main_arg4
  let main_cst_4 : FVec F S_ .f32 := constant S_ .f32 0x7F800000#32
  let main_v15 : FVec F S8x1x2048 .f32 := broadcastInDim S8x1x2048 ![] bcast_S_S8x1x2048 main_cst_4
  let main_v16 : IVec S8x1x2048 1 := cmpf .olt main_v14 main_v15
  fn_part1 (F := F) main_v5 main_v9 main_v13 main_v16
-- ==== Pre_finite_sums.lean ====
abbrev S2048x512 : Shape := ⟨2, ![2048, 512]⟩
abbrev S2048x8192 : Shape := ⟨2, ![2048, 8192]⟩
abbrev S8x2048x1 : Shape := ⟨3, ![8, 2048, 1]⟩
abbrev S8x1x2048 : Shape := ⟨3, ![8, 1, 2048]⟩
abbrev S4x1x2048 : Shape := ⟨3, ![4, 1, 2048]⟩
abbrev S_ : Shape := ⟨0, ![]⟩

class Facts : Prop where
  bitsLt_bf16_f32 : FTy.bits .bf16 < FTy.bits .f32
  bcast_S_S2048x512 : S_.BroadcastsInDim S2048x512 (![] : Fin 0 → Fin S2048x512.rank)
  reducesTo_S2048x512_S_d0_1 : S2048x512.ReducesTo [0, 1] S_
  h_S_ : 0 < S_.numel
  bcast_S_S8x2048x1 : S_.BroadcastsInDim S8x2048x1 (![] : Fin 0 → Fin S8x2048x1.rank)
  reducesTo_S8x2048x1_S_d0_1_2 : S8x2048x1.ReducesTo [0, 1, 2] S_
  bcast_S_S8x1x2048 : S_.BroadcastsInDim S8x1x2048 (![] : Fin 0 → Fin S8x1x2048.rank)
  reducesTo_S8x1x2048_S_d0_1_2 : S8x1x2048.ReducesTo [0, 1, 2] S_

variable [Facts]

def fn_part1 {F : FTy → Type} [FloatOps F] (main_v5 : IVec S_ 1) (main_v9 : IVec S_ 1) (main_v13 : IVec S_ 1) (main_v16 : IVec S8x1x2048 1) : IVec S_ 1 :=
  let main_c_5 : IVec S_ 1 := constantI S_ 1 1#1
  let main_v17 : IVec S_ 1 := (fun x v => Host.reduce IntOp.andi x v reducesTo_S8x1x2048_S_d0_1_2 h_S_) main_v16 main_c_5
  let main_v18 : IVec S_ 1 := andi main_v5 main_v9
  let main_v19 : IVec S_ 1 := andi main_v18 main_v13
  let main_v20 : IVec S_ 1 := andi main_v19 main_v17
  main_v20

def fn {F : FTy → Type} [FloatOps F] (main_arg0 : FVec F S2048x512 .bf16) (main_arg1 : FVec F S2048x512 .bf16) (main_arg2 : FVec F S2048x8192 .f32) (main_arg3 : FVec F S8x2048x1 .f32) (main_arg4 : FVec F S8x1x2048 .f32) (main_arg5 : FVec F S2048x512 .f32) (main_arg6 : FVec F S2048x512 .f32) (main_arg7 : FVec F S2048x512 .f32) (main_arg8 : FVec F S4x1x2048 .f32) (main_arg9 : FVec F S4x1x2048 .f32) : IVec S_ 1 :=
  let main_v0 : FVec F S2048x512 .f32 := (extf .f32 · bitsLt_bf16_f32) main_arg0
  let main_v1 : FVec F S2048x512 .f32 := (extf .f32 · bitsLt_bf16_f32) main_arg1
  let main_v2 : FVec F S2048x512 .f32 := Host.absf main_v0
  let main_cst : FVec F S_ .f32 := constant S_ .f32 0x7F800000#32
  let main_v3 : FVec F S2048x512 .f32 := broadcastInDim S2048x512 ![] bcast_S_S2048x512 main_cst
  let main_v4 : IVec S2048x512 1 := cmpf .olt main_v2 main_v3
  let main_c : IVec S_ 1 := constantI S_ 1 1#1
  let main_v5 : IVec S_ 1 := (fun x v => Host.reduce IntOp.andi x v reducesTo_S2048x512_S_d0_1 h_S_) main_v4 main_c
  let main_v6 : FVec F S2048x512 .f32 := Host.absf main_v1
  let main_cst_0 : FVec F S_ .f32 := constant S_ .f32 0x7F800000#32
  let main_v7 : FVec F S2048x512 .f32 := broadcastInDim S2048x512 ![] bcast_S_S2048x512 main_cst_0
  let main_v8 : IVec S2048x512 1 := cmpf .olt main_v6 main_v7
  let main_c_1 : IVec S_ 1 := constantI S_ 1 1#1
  let main_v9 : IVec S_ 1 := (fun x v => Host.reduce IntOp.andi x v reducesTo_S2048x512_S_d0_1 h_S_) main_v8 main_c_1
  let main_v10 : FVec F S8x2048x1 .f32 := Host.absf main_arg3
  let main_cst_2 : FVec F S_ .f32 := constant S_ .f32 0x7F800000#32
  let main_v11 : FVec F S8x2048x1 .f32 := broadcastInDim S8x2048x1 ![] bcast_S_S8x2048x1 main_cst_2
  let main_v12 : IVec S8x2048x1 1 := cmpf .olt main_v10 main_v11
  let main_c_3 : IVec S_ 1 := constantI S_ 1 1#1
  let main_v13 : IVec S_ 1 := (fun x v => Host.reduce IntOp.andi x v reducesTo_S8x2048x1_S_d0_1_2 h_S_) main_v12 main_c_3
  let main_v14 : FVec F S8x1x2048 .f32 := Host.absf main_arg4
  let main_cst_4 : FVec F S_ .f32 := constant S_ .f32 0x7F800000#32
  let main_v15 : FVec F S8x1x2048 .f32 := broadcastInDim S8x1x2048 ![] bcast_S_S8x1x2048 main_cst_4
  let main_v16 : IVec S8x1x2048 1 := cmpf .olt main_v14 main_v15
  fn_part1 (F := F) main_v5 main_v9 main_v13 main_v16
-- ==== Pre_finite_sums_g0.lean ====
abbrev S2048x512 : Shape := ⟨2, ![2048, 512]⟩
abbrev S2048x8192 : Shape := ⟨2, ![2048, 8192]⟩
abbrev S8x2048x1 : Shape := ⟨3, ![8, 2048, 1]⟩
abbrev S8x1x2048 : Shape := ⟨3, ![8, 1, 2048]⟩
abbrev S1024x512 : Shape := ⟨2, ![1024, 512]⟩
abbrev S4x1x1024 : Shape := ⟨3, ![4, 1, 1024]⟩
abbrev S_ : Shape := ⟨0, ![]⟩

class Facts : Prop where
  bitsLt_bf16_f32 : FTy.bits .bf16 < FTy.bits .f32
  bcast_S_S2048x512 : S_.BroadcastsInDim S2048x512 (![] : Fin 0 → Fin S2048x512.rank)
  reducesTo_S2048x512_S_d0_1 : S2048x512.ReducesTo [0, 1] S_
  h_S_ : 0 < S_.numel
  bcast_S_S8x2048x1 : S_.BroadcastsInDim S8x2048x1 (![] : Fin 0 → Fin S8x2048x1.rank)
  reducesTo_S8x2048x1_S_d0_1_2 : S8x2048x1.ReducesTo [0, 1, 2] S_
  bcast_S_S8x1x2048 : S_.BroadcastsInDim S8x1x2048 (![] : Fin 0 → Fin S8x1x2048.rank)
  reducesTo_S8x1x2048_S_d0_1_2 : S8x1x2048.ReducesTo [0, 1, 2] S_

variable [Facts]

def fn_part1 {F : FTy → Type} [FloatOps F] (main_v5 : IVec S_ 1) (main_v9 : IVec S_ 1) (main_v13 : IVec S_ 1) (main_v16 : IVec S8x1x2048 1) : IVec S_ 1 :=
  let main_c_5 : IVec S_ 1 := constantI S_ 1 1#1
  let main_v17 : IVec S_ 1 := (fun x v => Host.reduce IntOp.andi x v reducesTo_S8x1x2048_S_d0_1_2 h_S_) main_v16 main_c_5
  let main_v18 : IVec S_ 1 := andi main_v5 main_v9
  let main_v19 : IVec S_ 1 := andi main_v18 main_v13
  let main_v20 : IVec S_ 1 := andi main_v19 main_v17
  main_v20

def fn {F : FTy → Type} [FloatOps F] (main_arg0 : FVec F S2048x512 .bf16) (main_arg1 : FVec F S2048x512 .bf16) (main_arg2 : FVec F S2048x8192 .f32) (main_arg3 : FVec F S8x2048x1 .f32) (main_arg4 : FVec F S8x1x2048 .f32) (main_arg5 : FVec F S2048x512 .f32) (main_arg6 : FVec F S1024x512 .f32) (main_arg7 : FVec F S1024x512 .f32) (main_arg8 : FVec F S4x1x1024 .f32) (main_arg9 : FVec F S4x1x1024 .f32) : IVec S_ 1 :=
  let main_v0 : FVec F S2048x512 .f32 := (extf .f32 · bitsLt_bf16_f32) main_arg0
  let main_v1 : FVec F S2048x512 .f32 := (extf .f32 · bitsLt_bf16_f32) main_arg1
  let main_v2 : FVec F S2048x512 .f32 := Host.absf main_v0
  let main_cst : FVec F S_ .f32 := constant S_ .f32 0x7F800000#32
  let main_v3 : FVec F S2048x512 .f32 := broadcastInDim S2048x512 ![] bcast_S_S2048x512 main_cst
  let main_v4 : IVec S2048x512 1 := cmpf .olt main_v2 main_v3
  let main_c : IVec S_ 1 := constantI S_ 1 1#1
  let main_v5 : IVec S_ 1 := (fun x v => Host.reduce IntOp.andi x v reducesTo_S2048x512_S_d0_1 h_S_) main_v4 main_c
  let main_v6 : FVec F S2048x512 .f32 := Host.absf main_v1
  let main_cst_0 : FVec F S_ .f32 := constant S_ .f32 0x7F800000#32
  let main_v7 : FVec F S2048x512 .f32 := broadcastInDim S2048x512 ![] bcast_S_S2048x512 main_cst_0
  let main_v8 : IVec S2048x512 1 := cmpf .olt main_v6 main_v7
  let main_c_1 : IVec S_ 1 := constantI S_ 1 1#1
  let main_v9 : IVec S_ 1 := (fun x v => Host.reduce IntOp.andi x v reducesTo_S2048x512_S_d0_1 h_S_) main_v8 main_c_1
  let main_v10 : FVec F S8x2048x1 .f32 := Host.absf main_arg3
  let main_cst_2 : FVec F S_ .f32 := constant S_ .f32 0x7F800000#32
  let main_v11 : FVec F S8x2048x1 .f32 := broadcastInDim S8x2048x1 ![] bcast_S_S8x2048x1 main_cst_2
  let main_v12 : IVec S8x2048x1 1 := cmpf .olt main_v10 main_v11
  let main_c_3 : IVec S_ 1 := constantI S_ 1 1#1
  let main_v13 : IVec S_ 1 := (fun x v => Host.reduce IntOp.andi x v reducesTo_S8x2048x1_S_d0_1_2 h_S_) main_v12 main_c_3
  let main_v14 : FVec F S8x1x2048 .f32 := Host.absf main_arg4
  let main_cst_4 : FVec F S_ .f32 := constant S_ .f32 0x7F800000#32
  let main_v15 : FVec F S8x1x2048 .f32 := broadcastInDim S8x1x2048 ![] bcast_S_S8x1x2048 main_cst_4
  let main_v16 : IVec S8x1x2048 1 := cmpf .olt main_v14 main_v15
  fn_part1 (F := F) main_v5 main_v9 main_v13 main_v16
-- ==== Pre_finite_sums_g1.lean ====
abbrev S2048x512 : Shape := ⟨2, ![2048, 512]⟩
abbrev S2048x8192 : Shape := ⟨2, ![2048, 8192]⟩
abbrev S8x2048x1 : Shape := ⟨3, ![8, 2048, 1]⟩
abbrev S8x1x2048 : Shape := ⟨3, ![8, 1, 2048]⟩
abbrev S1536x512 : Shape := ⟨2, ![1536, 512]⟩
abbrev S4x1x1536 : Shape := ⟨3, ![4, 1, 1536]⟩
abbrev S_ : Shape := ⟨0, ![]⟩

class Facts : Prop where
  bitsLt_bf16_f32 : FTy.bits .bf16 < FTy.bits .f32
  bcast_S_S2048x512 : S_.BroadcastsInDim S2048x512 (![] : Fin 0 → Fin S2048x512.rank)
  reducesTo_S2048x512_S_d0_1 : S2048x512.ReducesTo [0, 1] S_
  h_S_ : 0 < S_.numel
  bcast_S_S8x2048x1 : S_.BroadcastsInDim S8x2048x1 (![] : Fin 0 → Fin S8x2048x1.rank)
  reducesTo_S8x2048x1_S_d0_1_2 : S8x2048x1.ReducesTo [0, 1, 2] S_
  bcast_S_S8x1x2048 : S_.BroadcastsInDim S8x1x2048 (![] : Fin 0 → Fin S8x1x2048.rank)
  reducesTo_S8x1x2048_S_d0_1_2 : S8x1x2048.ReducesTo [0, 1, 2] S_

variable [Facts]

def fn_part1 {F : FTy → Type} [FloatOps F] (main_v5 : IVec S_ 1) (main_v9 : IVec S_ 1) (main_v13 : IVec S_ 1) (main_v16 : IVec S8x1x2048 1) : IVec S_ 1 :=
  let main_c_5 : IVec S_ 1 := constantI S_ 1 1#1
  let main_v17 : IVec S_ 1 := (fun x v => Host.reduce IntOp.andi x v reducesTo_S8x1x2048_S_d0_1_2 h_S_) main_v16 main_c_5
  let main_v18 : IVec S_ 1 := andi main_v5 main_v9
  let main_v19 : IVec S_ 1 := andi main_v18 main_v13
  let main_v20 : IVec S_ 1 := andi main_v19 main_v17
  main_v20

def fn {F : FTy → Type} [FloatOps F] (main_arg0 : FVec F S2048x512 .bf16) (main_arg1 : FVec F S2048x512 .bf16) (main_arg2 : FVec F S2048x8192 .f32) (main_arg3 : FVec F S8x2048x1 .f32) (main_arg4 : FVec F S8x1x2048 .f32) (main_arg5 : FVec F S2048x512 .f32) (main_arg6 : FVec F S1536x512 .f32) (main_arg7 : FVec F S1536x512 .f32) (main_arg8 : FVec F S4x1x1536 .f32) (main_arg9 : FVec F S4x1x1536 .f32) : IVec S_ 1 :=
  let main_v0 : FVec F S2048x512 .f32 := (extf .f32 · bitsLt_bf16_f32) main_arg0
  let main_v1 : FVec F S2048x512 .f32 := (extf .f32 · bitsLt_bf16_f32) main_arg1
  let main_v2 : FVec F S2048x512 .f32 := Host.absf main_v0
  let main_cst : FVec F S_ .f32 := constant S_ .f32 0x7F800000#32
  let main_v3 : FVec F S2048x512 .f32 := broadcastInDim S2048x512 ![] bcast_S_S2048x512 main_cst
  let main_v4 : IVec S2048x512 1 := cmpf .olt main_v2 main_v3
  let main_c : IVec S_ 1 := constantI S_ 1 1#1
  let main_v5 : IVec S_ 1 := (fun x v => Host.reduce IntOp.andi x v reducesTo_S2048x512_S_d0_1 h_S_) main_v4 main_c
  let main_v6 : FVec F S2048x512 .f32 := Host.absf main_v1
  let main_cst_0 : FVec F S_ .f32 := constant S_ .f32 0x7F800000#32
  let main_v7 : FVec F S2048x512 .f32 := broadcastInDim S2048x512 ![] bcast_S_S2048x512 main_cst_0
  let main_v8 : IVec S2048x512 1 := cmpf .olt main_v6 main_v7
  let main_c_1 : IVec S_ 1 := constantI S_ 1 1#1
  let main_v9 : IVec S_ 1 := (fun x v => Host.reduce IntOp.andi x v reducesTo_S2048x512_S_d0_1 h_S_) main_v8 main_c_1
  let main_v10 : FVec F S8x2048x1 .f32 := Host.absf main_arg3
  let main_cst_2 : FVec F S_ .f32 := constant S_ .f32 0x7F800000#32
  let main_v11 : FVec F S8x2048x1 .f32 := broadcastInDim S8x2048x1 ![] bcast_S_S8x2048x1 main_cst_2
  let main_v12 : IVec S8x2048x1 1 := cmpf .olt main_v10 main_v11
  let main_c_3 : IVec S_ 1 := constantI S_ 1 1#1
  let main_v13 : IVec S_ 1 := (fun x v => Host.reduce IntOp.andi x v reducesTo_S8x2048x1_S_d0_1_2 h_S_) main_v12 main_c_3
  let main_v14 : FVec F S8x1x2048 .f32 := Host.absf main_arg4
  let main_cst_4 : FVec F S_ .f32 := constant S_ .f32 0x7F800000#32
  let main_v15 : FVec F S8x1x2048 .f32 := broadcastInDim S8x1x2048 ![] bcast_S_S8x1x2048 main_cst_4
  let main_v16 : IVec S8x1x2048 1 := cmpf .olt main_v14 main_v15
  fn_part1 (F := F) main_v5 main_v9 main_v13 main_v16
-- ==== Kernel.lean ====
abbrev S2048x512 : Shape := ⟨2, ![2048, 512]⟩
abbrev S2048x8192 : Shape := ⟨2, ![2048, 8192]⟩
abbrev S8x2048x1 : Shape := ⟨3, ![8, 2048, 1]⟩
abbrev S8x1x2048 : Shape := ⟨3, ![8, 1, 2048]⟩
abbrev S512x512 : Shape := ⟨2, ![512, 512]⟩
abbrev S4x512x1 : Shape := ⟨3, ![4, 512, 1]⟩
abbrev S4x1x2048 : Shape := ⟨3, ![4, 1, 2048]⟩
abbrev S128x128 : Shape := ⟨2, ![128, 128]⟩
abbrev S2048x128 : Shape := ⟨2, ![2048, 128]⟩
abbrev S1x128x1 : Shape := ⟨3, ![1, 128, 1]⟩
abbrev S1x1x2048 : Shape := ⟨3, ![1, 1, 2048]⟩
abbrev S128x1 : Shape := ⟨2, ![128, 1]⟩
abbrev S1x2048 : Shape := ⟨2, ![1, 2048]⟩
abbrev S128x2048 : Shape := ⟨2, ![128, 2048]⟩
abbrev S128 : Shape := ⟨1, ![128]⟩
abbrev S2048 : Shape := ⟨1, ![2048]⟩

abbrev nBuf : Space → Nat
  | .hbm => 13
  | .vmem => 30
  | .smem => 0
  | _ => 0

abbrev bufTy : (tb : Table) → Fin (tcTables nBuf tb) → BufTy
  | .hbm, ⟨0, _⟩ => ⟨S2048x512, .bf16⟩
  | .hbm, ⟨1, _⟩ => ⟨S2048x512, .bf16⟩
  | .hbm, ⟨2, _⟩ => ⟨S2048x8192, .f32⟩
  | .hbm, ⟨3, _⟩ => ⟨S8x2048x1, .f32⟩
  | .hbm, ⟨4, _⟩ => ⟨S8x1x2048, .f32⟩
  | .hbm, ⟨5, _⟩ => ⟨S2048x512, .f32⟩
  | .hbm, ⟨6, _⟩ => ⟨S512x512, .f32⟩
  | .hbm, ⟨7, _⟩ => ⟨S2048x512, .f32⟩
  | .hbm, ⟨8, _⟩ => ⟨S2048x512, .f32⟩
  | .hbm, ⟨9, _⟩ => ⟨S4x512x1, .f32⟩
  | .hbm, ⟨10, _⟩ => ⟨S4x512x1, .f32⟩
  | .hbm, ⟨11, _⟩ => ⟨S4x1x2048, .f32⟩
  | .hbm, ⟨12, _⟩ => ⟨S4x1x2048, .f32⟩
  | .local _ .vmem, ⟨0, _⟩ => ⟨S128x128, .bf16⟩
  | .local _ .vmem, ⟨1, _⟩ => ⟨S128x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .f32⟩
  | .local _ .vmem, ⟨5, _⟩ => ⟨S2048x128, .f32⟩
  | .local _ .vmem, ⟨6, _⟩ => ⟨S1x128x1, .f32⟩
  | .local _ .vmem, ⟨7, _⟩ => ⟨S1x128x1, .f32⟩
  | .local _ .vmem, ⟨8, _⟩ => ⟨S1x128x1, .f32⟩
  | .local _ .vmem, ⟨9, _⟩ => ⟨S1x128x1, .f32⟩
  | .local _ .vmem, ⟨10, _⟩ => ⟨S1x1x2048, .f32⟩
  | .local _ .vmem, ⟨11, _⟩ => ⟨S1x1x2048, .f32⟩
  | .local _ .vmem, ⟨12, _⟩ => ⟨S1x1x2048, .f32⟩
  | .local _ .vmem, ⟨13, _⟩ => ⟨S1x1x2048, .f32⟩
  | .local _ .vmem, ⟨14, _⟩ => ⟨S128x128, .f32⟩
  | .local _ .vmem, ⟨15, _⟩ => ⟨S128x128, .f32⟩
  | .local _ .vmem, ⟨16, _⟩ => ⟨S128x128, .f32⟩
  | .local _ .vmem, ⟨17, _⟩ => ⟨S128x128, .f32⟩
  | .local _ .vmem, ⟨18, _⟩ => ⟨S2048x128, .f32⟩
  | .local _ .vmem, ⟨19, _⟩ => ⟨S2048x128, .f32⟩
  | .local _ .vmem, ⟨20, _⟩ => ⟨S2048x128, .f32⟩
  | .local _ .vmem, ⟨21, _⟩ => ⟨S2048x128, .f32⟩
  | .local _ .vmem, ⟨22, _⟩ => ⟨S1x128x1, .f32⟩
  | .local _ .vmem, ⟨23, _⟩ => ⟨S1x128x1, .f32⟩
  | .local _ .vmem, ⟨24, _⟩ => ⟨S1x128x1, .f32⟩
  | .local _ .vmem, ⟨25, _⟩ => ⟨S1x128x1, .f32⟩
  | .local _ .vmem, ⟨26, _⟩ => ⟨S1x1x2048, .f32⟩
  | .local _ .vmem, ⟨27, _⟩ => ⟨S1x1x2048, .f32⟩
  | .local _ .vmem, ⟨28, _⟩ => ⟨S1x1x2048, .f32⟩
  | .local _ .vmem, ⟨29, _⟩ => ⟨S1x1x2048, .f32⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v0_5 : Ref sig .tc := ⟨.hbm, 11, rfl⟩
abbrev main_v0_6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v159 : BitVec 32 := Scalar.extui v0
  let c0_i32_64 : BitVec 32 := 0#32
  let v160 : BitVec 1 := Scalar.cmpi .ne v159 c0_i32_64
  v160

def k0_cond2 (i : grid0.Coords) : BitVec 1 :=
  let arg1 : BitVec 32 := BitVec.ofNat 32 (i 1).val
  let c0_i32 : BitVec 32 := 0#32
  let v0 : BitVec 1 := Scalar.cmpi .eq arg1 c0_i32
  let v_true : BitVec 1 := 1#1
  let v161 : BitVec 1 := Scalar.xori v0 v_true
  let v162 : BitVec 32 := Scalar.extui v161
  let c0_i32_65 : BitVec 32 := 0#32
  let v163 : BitVec 1 := Scalar.cmpi .ne v162 c0_i32_65
  v163

def k0_cond3 (i : grid0.Coords) : BitVec 1 :=
  let arg1 : BitVec 32 := BitVec.ofNat 32 (i 1).val
  let c0_i32_0 : BitVec 32 := 0#32
  let v1 : BitVec 1 := Scalar.cmpi .eq arg1 c0_i32_0
  let v164 : BitVec 32 := Scalar.extui v1
  let c0_i32_66 : BitVec 32 := 0#32
  let v165 : BitVec 1 := Scalar.cmpi .ne v164 c0_i32_66
  v165

def k0_cond4 (i : grid0.Coords) : BitVec 1 :=
  let arg1 : BitVec 32 := BitVec.ofNat 32 (i 1).val
  let c0_i32_0 : BitVec 32 := 0#32
  let v1 : BitVec 1 := Scalar.cmpi .eq arg1 c0_i32_0
  let true_67 : BitVec 1 := 1#1
  let v166 : BitVec 1 := Scalar.xori v1 true_67
  let v167 : BitVec 32 := Scalar.extui v166
  let c0_i32_68 : BitVec 32 := 0#32
  let v168 : BitVec 1 := Scalar.cmpi .ne v167 c0_i32_68
  v168

def k0_cond5 (i : grid0.Coords) : BitVec 1 :=
  let arg1 : BitVec 32 := BitVec.ofNat 32 (i 1).val
  let c0_i32_1 : BitVec 32 := 0#32
  let v2 : BitVec 1 := Scalar.cmpi .eq arg1 c0_i32_1
  let v174 : BitVec 32 := Scalar.extui v2
  let c0_i32_75 : BitVec 32 := 0#32
  let v175 : BitVec 1 := Scalar.cmpi .ne v174 c0_i32_75
  v175

def k0_cond6 (i : grid0.Coords) : BitVec 1 :=
  let arg1 : BitVec 32 := BitVec.ofNat 32 (i 1).val
  let c0_i32_1 : BitVec 32 := 0#32
  let v2 : BitVec 1 := Scalar.cmpi .eq arg1 c0_i32_1
  let true_76 : BitVec 1 := 1#1
  let v176 : BitVec 1 := Scalar.xori v2 true_76
  let v177 : BitVec 32 := Scalar.extui v176
  let c0_i32_77 : BitVec 32 := 0#32
  let v178 : BitVec 1 := Scalar.cmpi .ne v177 c0_i32_77
  v178

def k0_cond7 (i : grid0.Coords) : BitVec 1 :=
  let arg1 : BitVec 32 := BitVec.ofNat 32 (i 1).val
  let c0_i32_2 : BitVec 32 := 0#32
  let v3 : BitVec 1 := Scalar.cmpi .eq arg1 c0_i32_2
  let v180 : BitVec 32 := Scalar.extui v3
  let c0_i32_78 : BitVec 32 := 0#32
  let v181 : BitVec 1 := Scalar.cmpi .ne v180 c0_i32_78
  v181

def k0_cond8 (i : grid0.Coords) : BitVec 1 :=
  let arg1 : BitVec 32 := BitVec.ofNat 32 (i 1).val
  let c0_i32_2 : BitVec 32 := 0#32
  let v3 : BitVec 1 := Scalar.cmpi .eq arg1 c0_i32_2
  let true_79 : BitVec 1 := 1#1
  let v182 : BitVec 1 := Scalar.xori v3 true_79
  let v183 : BitVec 32 := Scalar.extui v182
  let c0_i32_80 : BitVec 32 := 0#32
  let v184 : BitVec 1 := Scalar.cmpi .ne v183 c0_i32_80
  v184

def cc0_transform_0 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c12_i32 : BitVec 32 := 12#32
  let v1 : BitVec 32 := Scalar.addi c12_i32 arg1
  let c0_i32 : BitVec 32 := 0#32
  let c0_i32_0 : BitVec 32 := 0#32
  ![v0.toNat, v1.toNat, c0_i32.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c1_i32 : BitVec 32 := 1#32
  let v1 : BitVec 32 := Scalar.addi v0 c1_i32
  let c12_i32 : BitVec 32 := 12#32
  let v2 : BitVec 32 := Scalar.addi c12_i32 arg1
  let c0_i32 : BitVec 32 := 0#32
  let c0_i32_0 : BitVec 32 := 0#32
  ![v1.toNat, v2.toNat, c0_i32.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c0_i32 : BitVec 32 := 0#32
  let c0_i32_0 : BitVec 32 := 0#32
  let c0_i32_1 : BitVec 32 := 0#32
  ![v0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  let c0_i32_1 : BitVec 32 := 0#32
  ![v1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  ![v0.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2048x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S2048x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x128x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x128x1 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x1x2048 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]
-- ==== KernelIdeal.lean ====
variable {F : FTy → Type} [FloatOps F] [Named F]
def κ : String → Option EReal := fun
  | "mask" => some ⊥
  | _ => none
-- ==== ReferenceIdeal.lean ====
abbrev S2048x512 : Shape := ⟨2, ![2048, 512]⟩
abbrev S2048x8192 : Shape := ⟨2, ![2048, 8192]⟩
abbrev S8x2048x1 : Shape := ⟨3, ![8, 2048, 1]⟩
abbrev S8x1x2048 : Shape := ⟨3, ![8, 1, 2048]⟩
abbrev S512x512 : Shape := ⟨2, ![512, 512]⟩
abbrev S8x512x1 : Shape := ⟨3, ![8, 512, 1]⟩
abbrev S512x8x64 : Shape := ⟨3, ![512, 8, 64]⟩
abbrev S8x512x64 : Shape := ⟨3, ![8, 512, 64]⟩
abbrev S2048x8x64 : Shape := ⟨3, ![2048, 8, 64]⟩
abbrev S8x2048x64 : Shape := ⟨3, ![8, 2048, 64]⟩
abbrev S8x512x2048 : Shape := ⟨3, ![8, 512, 2048]⟩
abbrev S512 : Shape := ⟨1, ![512]⟩
abbrev S_ : Shape := ⟨0, ![]⟩
abbrev S512x1 : Shape := ⟨2, ![512, 1]⟩
abbrev S2048 : Shape := ⟨1, ![2048]⟩
abbrev S1x2048 : Shape := ⟨2, ![1, 2048]⟩
abbrev S512x2048 : Shape := ⟨2, ![512, 2048]⟩
abbrev S8x512 : Shape := ⟨2, ![8, 512]⟩
abbrev S8x64x512 : Shape := ⟨3, ![8, 64, 512]⟩
abbrev S8x64x2048 : Shape := ⟨3, ![8, 64, 2048]⟩
abbrev S8x2048 : Shape := ⟨2, ![8, 2048]⟩
abbrev S4x512x1 : Shape := ⟨3, ![4, 512, 1]⟩
abbrev S4x1x2048 : Shape := ⟨3, ![4, 1, 2048]⟩

abbrev nBuf : Space → Nat
  | .hbm => 122
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S2048x512, .bf16⟩
  | .hbm, ⟨2, _⟩ => ⟨S2048x8192, .f32⟩
  | .hbm, ⟨3, _⟩ => ⟨S8x2048x1, .f32⟩
  | .hbm, ⟨4, _⟩ => ⟨S8x1x2048, .f32⟩
  | .hbm, ⟨5, _⟩ => ⟨S2048x512, .f32⟩
  | .hbm, ⟨6, _⟩ => ⟨S2048x512, .f32⟩
  | .hbm, ⟨7, _⟩ => ⟨S512x512, .bf16⟩
  | .hbm, ⟨8, _⟩ => ⟨S512x512, .f32⟩
  | .hbm, ⟨9, _⟩ => ⟨S2048x512, .f32⟩
  | .hbm, ⟨10, _⟩ => ⟨S8x512x1, .f32⟩
  | .hbm, ⟨11, _⟩ => ⟨S512x8x64, .f32⟩
  | .hbm, ⟨12, _⟩ => ⟨S8x512x64, .f32⟩
  | .hbm, ⟨13, _⟩ => ⟨S2048x8x64, .f32⟩
  | .hbm, ⟨14, _⟩ => ⟨S8x2048x64, .f32⟩
  | .hbm, ⟨15, _⟩ => ⟨S2048x8x64, .f32⟩
  | .hbm, ⟨16, _⟩ => ⟨S8x2048x64, .f32⟩
  | .hbm, ⟨17, _⟩ => ⟨S8x512x2048, .f32⟩
  | .hbm, ⟨18, _⟩ => ⟨S8x512x2048, .f32⟩
  | .hbm, ⟨19, _⟩ => ⟨S8x512x2048, .f32⟩
  | .hbm, ⟨20, _⟩ => ⟨S8x512x2048, .f32⟩
  | .hbm, ⟨21, _⟩ => ⟨S8x512x2048, .f32⟩
  | .hbm, ⟨22, _⟩ => ⟨S512, .i32⟩
  | .hbm, ⟨23, _⟩ => ⟨S_, .i32⟩
  | .hbm, ⟨24, _⟩ => ⟨S512, .i32⟩
  | .hbm, ⟨25, _⟩ => ⟨S512, .i32⟩
  | .hbm, ⟨26, _⟩ => ⟨S512x1, .i32⟩
  | .hbm, ⟨27, _⟩ => ⟨S2048, .i32⟩
  | .hbm, ⟨28, _⟩ => ⟨S1x2048, .i32⟩
  | .hbm, ⟨29, _⟩ => ⟨S512x2048, .i32⟩
  | .hbm, ⟨30, _⟩ => ⟨S512x2048, .i32⟩
  | .hbm, ⟨31, _⟩ => ⟨S512x2048, .i1⟩
  | .hbm, ⟨32, _⟩ => ⟨S_, .f32⟩
  | .hbm, ⟨33, _⟩ => ⟨S_, .f32⟩
  | .hbm, ⟨34, _⟩ => ⟨S8x512x2048, .i1⟩
  | .hbm, ⟨35, _⟩ => ⟨S8x512x2048, .f32⟩
  | .hbm, ⟨36, _⟩ => ⟨S8x512x2048, .f32⟩
  | .hbm, ⟨37, _⟩ => ⟨S_, .f32⟩
  | .hbm, ⟨38, _⟩ => ⟨S8x512x2048, .f32⟩
  | .hbm, ⟨39, _⟩ => ⟨S_, .f32⟩
  | .hbm, ⟨40, _⟩ => ⟨S8x512, .f32⟩
  | .hbm, ⟨41, _⟩ => ⟨S8x512x1, .f32⟩
  | .hbm, ⟨42, _⟩ => ⟨S8x512x2048, .f32⟩
  | .hbm, ⟨43, _⟩ => ⟨S8x512x2048, .i1⟩
  | .hbm, ⟨44, _⟩ => ⟨S8x512x2048, .f32⟩
  | .hbm, ⟨45, _⟩ => ⟨S_, .f32⟩
  | .hbm, ⟨46, _⟩ => ⟨S8x512, .f32⟩
  | .hbm, ⟨47, _⟩ => ⟨S_, .f32⟩
  | .hbm, ⟨48, _⟩ => ⟨S8x512, .f32⟩
  | .hbm, ⟨49, _⟩ => ⟨S8x512, .f32⟩
  | .hbm, ⟨50, _⟩ => ⟨S_, .f32⟩
  | .hbm, ⟨51, _⟩ => ⟨S8x512, .f32⟩
  | .hbm, ⟨52, _⟩ => ⟨S8x512, .i1⟩
  | .hbm, ⟨53, _⟩ => ⟨S_, .f32⟩
  | .hbm, ⟨54, _⟩ => ⟨S8x512, .f32⟩
  | .hbm, ⟨55, _⟩ => ⟨S8x512, .i1⟩
  | .hbm, ⟨56, _⟩ => ⟨S_, .f32⟩
  | .hbm, ⟨57, _⟩ => ⟨S8x512, .f32⟩
  | .hbm, ⟨58, _⟩ => ⟨S_, .f32⟩
  | .hbm, ⟨59, _⟩ => ⟨S8x512, .f32⟩
  | .hbm, ⟨60, _⟩ => ⟨S_, .f32⟩
  | .hbm, ⟨61, _⟩ => ⟨S8x512, .f32⟩
  | .hbm, ⟨62, _⟩ => ⟨S8x512, .f32⟩
  | .hbm, ⟨63, _⟩ => ⟨S8x512, .f32⟩
  | .hbm, ⟨64, _⟩ => ⟨S8x512x1, .f32⟩
  | .hbm, ⟨65, _⟩ => ⟨S8x512x2048, .f32⟩
  | .hbm, ⟨66, _⟩ => ⟨S8x512x2048, .f32⟩
  | .hbm, ⟨67, _⟩ => ⟨S8x512x2048, .f32⟩
  | .hbm, ⟨68, _⟩ => ⟨S_, .f32⟩
  | .hbm, ⟨69, _⟩ => ⟨S8x512, .f32⟩
  | .hbm, ⟨70, _⟩ => ⟨S8x512x1, .f32⟩
  | .hbm, ⟨71, _⟩ => ⟨S8x512x2048, .f32⟩
  | .hbm, ⟨72, _⟩ => ⟨S8x512x2048, .f32⟩
  | .hbm, ⟨73, _⟩ => ⟨S8x512x1, .f32⟩
  | .hbm, ⟨74, _⟩ => ⟨S_, .f32⟩
  | .hbm, ⟨75, _⟩ => ⟨S8x512x1, .f32⟩
  | .hbm, ⟨76, _⟩ => ⟨S8x512x1, .f32⟩
  | .hbm, ⟨77, _⟩ => ⟨S8x64x512, .f32⟩
  | .hbm, ⟨78, _⟩ => ⟨S512x8x64, .f32⟩
  | .hbm, ⟨79, _⟩ => ⟨S512x512, .f32⟩
  | .hbm, ⟨80, _⟩ => ⟨S512x512, .f32⟩
  | .hbm, ⟨81, _⟩ => ⟨S512x8x64, .f32⟩
  | .hbm, ⟨82, _⟩ => ⟨S8x64x512, .f32⟩
  | .hbm, ⟨83, _⟩ => ⟨S8x512x2048, .f32⟩
  | .hbm, ⟨84, _⟩ => ⟨S8x64x2048, .f32⟩
  | .hbm, ⟨85, _⟩ => ⟨S8x2048x64, .f32⟩
  | .hbm, ⟨86, _⟩ => ⟨S8x512x2048, .f32⟩
  | .hbm, ⟨87, _⟩ => ⟨S8x512x2048, .f32⟩
  | .hbm, ⟨88, _⟩ => ⟨S8x512x2048, .f32⟩
  | .hbm, ⟨89, _⟩ => ⟨S_, .f32⟩
  | .hbm, ⟨90, _⟩ => ⟨S8x512, .f32⟩
  | .hbm, ⟨91, _⟩ => ⟨S8x512x1, .f32⟩
  | .hbm, ⟨92, _⟩ => ⟨S8x512x1, .f32⟩
  | .hbm, ⟨93, _⟩ => ⟨S8x512x2048, .f32⟩
  | .hbm, ⟨94, _⟩ => ⟨S8x512x2048, .f32⟩
  | .hbm, ⟨95, _⟩ => ⟨S_, .f32⟩
  | .hbm, ⟨96, _⟩ => ⟨S8x512, .f32⟩
  | .hbm, ⟨97, _⟩ => ⟨S8x512x2048, .f32⟩
  | .hbm, ⟨98, _⟩ => ⟨S8x512x2048, .f32⟩
  | .hbm, ⟨99, _⟩ => ⟨S8x512x2048, .f32⟩
  | .hbm, ⟨100, _⟩ => ⟨S_, .f32⟩
  | .hbm, ⟨101, _⟩ => ⟨S8x512x2048, .f32⟩
  | .hbm, ⟨102, _⟩ => ⟨S8x512x2048, .f32⟩
  | .hbm, ⟨103, _⟩ => ⟨S8x512x2048, .f32⟩
  | .hbm, ⟨104, _⟩ => ⟨S_, .f32⟩
  | .hbm, ⟨105, _⟩ => ⟨S8x2048, .f32⟩
  | .hbm, ⟨106, _⟩ => ⟨S8x1x2048, .f32⟩
  | .hbm, ⟨107, _⟩ => ⟨S_, .f32⟩
  | .hbm, ⟨108, _⟩ => ⟨S8x512, .f32⟩
  | .hbm, ⟨109, _⟩ => ⟨S8x512x1, .f32⟩
  | .hbm, ⟨110, _⟩ => ⟨S8x2048x64, .f32⟩
  | .hbm, ⟨111, _⟩ => ⟨S8x512x64, .f32⟩
  | .hbm, ⟨112, _⟩ => ⟨S2048x8x64, .f32⟩
  | .hbm, ⟨113, _⟩ => ⟨S2048x512, .f32⟩
  | .hbm, ⟨114, _⟩ => ⟨S2048x8x64, .f32⟩
  | .hbm, ⟨115, _⟩ => ⟨S2048x512, .f32⟩
  | .hbm, ⟨116, _⟩ => ⟨S512x8x64, .f32⟩
  | .hbm, ⟨117, _⟩ => ⟨S512x512, .f32⟩
  | .hbm, ⟨118, _⟩ => ⟨S4x512x1, .f32⟩
  | .hbm, ⟨119, _⟩ => ⟨S4x512x1, .f32⟩
  | .hbm, ⟨120, _⟩ => ⟨S4x1x2048, .f32⟩
  | .hbm, ⟨121, _⟩ => ⟨S4x1x2048, .f32⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst : Ref sig .tc := ⟨.hbm, 32, rfl⟩
abbrev main_call0_v0 : Ref sig .tc := ⟨.hbm, 33, rfl⟩
abbrev main_v25_1 : Ref sig .tc := ⟨.hbm, 34, rfl⟩
abbrev main_call0_v2 : Ref sig .tc := ⟨.hbm, 35, rfl⟩
abbrev main_v25_0 : Ref sig .tc := ⟨.hbm, 36, rfl⟩
abbrev main_call0_cst : Ref sig .tc := ⟨.hbm, 37, rfl⟩
abbrev main_v25_2 : Ref sig .tc := ⟨.hbm, 38, rfl⟩
abbrev main_cst_0 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_1 : Ref sig .tc := ⟨.hbm, 45, rfl⟩
abbrev main_v31 : Ref sig .tc := ⟨.hbm, 46, rfl⟩
abbrev main_cst_2 : Ref sig .tc := ⟨.hbm, 47, rfl⟩
abbrev main_v32 : Ref sig .tc := ⟨.hbm, 48, rfl⟩
abbrev main_v33 : Ref sig .tc := ⟨.hbm, 49, rfl⟩
abbrev main_cst_3 : Ref sig .tc := ⟨.hbm, 50, rfl⟩
abbrev main_v34 : Ref sig .tc := ⟨.hbm, 51, rfl⟩
abbrev main_v35 : Ref sig .tc := ⟨.hbm, 52, rfl⟩
abbrev main_cst_4 : Ref sig .tc := ⟨.hbm, 53, rfl⟩
abbrev main_v36 : Ref sig .tc := ⟨.hbm, 54, rfl⟩
abbrev main_v37 : Ref sig .tc := ⟨.hbm, 55, rfl⟩
abbrev main_cst_5 : Ref sig .tc := ⟨.hbm, 56, rfl⟩
abbrev main_v38 : Ref sig .tc := ⟨.hbm, 57, rfl⟩
abbrev main_cst_6 : Ref sig .tc := ⟨.hbm, 58, rfl⟩
abbrev main_v39 : Ref sig .tc := ⟨.hbm, 59, rfl⟩
abbrev main_cst_7 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_8 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_9 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_cst_10 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_cst_11 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_call1_cst : Ref sig .tc := ⟨.hbm, 100, rfl⟩
abbrev main_call1_v0 : Ref sig .tc := ⟨.hbm, 101, rfl⟩
abbrev main_v75 : Ref sig .tc := ⟨.hbm, 102, rfl⟩
abbrev main_v76 : Ref sig .tc := ⟨.hbm, 103, rfl⟩
abbrev main_cst_12 : Ref sig .tc := ⟨.hbm, 104, rfl⟩
abbrev main_v77 : Ref sig .tc := ⟨.hbm, 105, rfl⟩
abbrev main_v78 : Ref sig .tc := ⟨.hbm, 106, rfl⟩
abbrev main_cst_13 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩

abbrev nD : Nat := 1
abbrev τ : Topo := Topo.v7x

variable {F : FTy → Type} [FloatOps F]
-- ==== Kernel2.lean ====
abbrev S2048x8192 : Shape := ⟨2, ![2048, 8192]⟩
abbrev S2048x1024 : Shape := ⟨2, ![2048, 1024]⟩
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x8192, .bf16⟩
  | .hbm, ⟨1, _⟩ => ⟨S2048x1024, .bf16⟩
  | .hbm, ⟨2, _⟩ => ⟨S8192x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S2048x8192 : Shape := ⟨2, ![2048, 8192]⟩
abbrev S2048x1024 : Shape := ⟨2, ![2048, 1024]⟩
abbrev S_ : Shape := ⟨0, ![]⟩
abbrev S1024x8192 : Shape := ⟨2, ![1024, 8192]⟩
abbrev S8192x1024 : Shape := ⟨2, ![8192, 1024]⟩

abbrev nBuf : Space → Nat
  | .hbm => 11
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S2048x1024, .bf16⟩
  | .hbm, ⟨2, _⟩ => ⟨S_, .f32⟩
  | .hbm, ⟨3, _⟩ => ⟨S1024x8192, .f32⟩
  | .hbm, ⟨4, _⟩ => ⟨S2048x1024, .f32⟩
  | .hbm, ⟨5, _⟩ => ⟨S2048x8192, .f32⟩
  | .hbm, ⟨6, _⟩ => ⟨S2048x8192, .bf16⟩
  | .hbm, ⟨7, _⟩ => ⟨S2048x8192, .f32⟩
  | .hbm, ⟨8, _⟩ => ⟨S8192x1024, .f32⟩
  | .hbm, ⟨9, _⟩ => ⟨S1024x8192, .f32⟩
  | .hbm, ⟨10, _⟩ => ⟨S8192x1024, .f32⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel3.lean ====
abbrev S2048x8192 : Shape := ⟨2, ![2048, 8192]⟩
abbrev S1024x8192 : Shape := ⟨2, ![1024, 8192]⟩
abbrev S2048x1024 : Shape := ⟨2, ![2048, 1024]⟩
abbrev S1024x2048 : Shape := ⟨2, ![1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x8192, .bf16⟩
  | .hbm, ⟨1, _⟩ => ⟨S1024x8192, .bf16⟩
  | .hbm, ⟨2, _⟩ => ⟨S2048x1024, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S2048x8192 : Shape := ⟨2, ![2048, 8192]⟩
abbrev S1024x8192 : Shape := ⟨2, ![1024, 8192]⟩
abbrev S_ : Shape := ⟨0, ![]⟩
abbrev S2048x1024 : Shape := ⟨2, ![2048, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S1024x8192, .bf16⟩
  | .hbm, ⟨2, _⟩ => ⟨S_, .f32⟩
  | .hbm, ⟨3, _⟩ => ⟨S2048x1024, .f32⟩
  | .hbm, ⟨4, _⟩ => ⟨S1024x8192, .f32⟩
  | .hbm, ⟨5, _⟩ => ⟨S2048x8192, .f32⟩
  | .hbm, ⟨6, _⟩ => ⟨S2048x8192, .bf16⟩
  | .hbm, ⟨7, _⟩ => ⟨S2048x8192, .f32⟩
  | .hbm, ⟨8, _⟩ => ⟨S2048x1024, .f32⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel4.lean ====
abbrev S2048x1024 : Shape := ⟨2, ![2048, 1024]⟩
abbrev S1024x8192 : Shape := ⟨2, ![1024, 8192]⟩
abbrev S2048x8192 : Shape := ⟨2, ![2048, 8192]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S1024x8192, .bf16⟩
  | .hbm, ⟨2, _⟩ => ⟨S2048x8192, .f32⟩
  | .local _ .vmem, ⟨0, _⟩ => ⟨S2048x1024, .bf16⟩
  | .local _ .vmem, ⟨1, _⟩ => ⟨S1024x1024, .bf16⟩
  | .local _ .vmem, ⟨2, _⟩ => ⟨S1024x1024, .bf16⟩
  | .local _ .vmem, ⟨3, _⟩ => ⟨S2048x1024, .f32⟩
  | .local _ .vmem, ⟨4, _⟩ => ⟨S2048x1024, .f32⟩
  | .local _ .vmem, ⟨5, _⟩ => ⟨S2048x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S2048x1024 : Shape := ⟨2, ![2048, 1024]⟩
abbrev S1024x8192 : Shape := ⟨2, ![1024, 8192]⟩
abbrev S2048x8192 : Shape := ⟨2, ![2048, 8192]⟩

abbrev nBuf : Space → Nat
  | .hbm => 5
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x8192, .bf16⟩
  | .hbm, ⟨2, _⟩ => ⟨S2048x1024, .f32⟩
  | .hbm, ⟨3, _⟩ => ⟨S1024x8192, .f32⟩
  | .hbm, ⟨4, _⟩ => ⟨S2048x8192, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel5.lean ====
abbrev S2048x1024 : Shape := ⟨2, ![2048, 1024]⟩
abbrev S4x1024x1408 : Shape := ⟨3, ![4, 1024, 1408]⟩
abbrev S2048x2816 : Shape := ⟨2, ![2048, 2816]⟩
abbrev S1024x1024 : Shape := ⟨2, ![1024, 1024]⟩
abbrev S1x1024x1408 : Shape := ⟨3, ![1, 1024, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S2048x1024, .bf16⟩
  | .hbm, ⟨1, _⟩ => ⟨S4x1024x1408, .bf16⟩
  | .hbm, ⟨2, _⟩ => ⟨S2048x2816, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def k0_cond3 (i : grid0.Coords) : BitVec 1 :=
  let arg2 : BitVec 32 := BitVec.ofNat 32 (i 2).val
  let c0_i32_7 : BitVec 32 := 0#32
  let v10 : BitVec 1 := Scalar.cmpi .eq arg2 c0_i32_7
  let v11 : BitVec 32 := Scalar.extui v10
  let c0_i32_8 : BitVec 32 := 0#32
  let v12 : BitVec 1 := Scalar.cmpi .ne v11 c0_i32_8
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let v17 : BitVec 32 := Scalar.addi c0_i32_5 v16
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg1 v19
  let c0_i32_9 : BitVec 32 := 0#32
  let v21 : BitVec 1 := Scalar.cmpi .ne v20 c0_i32_9
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let v25 : BitVec 1 := Scalar.andi v24 v21
  let v26 : BitVec 32 := Scalar.addi v20 v19
  let v27 : BitVec 32 := Scalar.select v25 v26 v20
  let c0_i32_12 : BitVec 32 := 0#32
  ![v17.toNat, arg2.toNat, v27.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S2048x1024 : Shape := ⟨2, ![2048, 1024]⟩
abbrev S4x1024x1408 : Shape := ⟨3, ![4, 1024, 1408]⟩
abbrev S1024x4x1408 : Shape := ⟨3, ![1024, 4, 1408]⟩
abbrev S1024x5632 : Shape := ⟨2, ![1024, 5632]⟩
abbrev S2048x5632 : Shape := ⟨2, ![2048, 5632]⟩
abbrev S2048x2816 : Shape := ⟨2, ![2048, 2816]⟩

abbrev nBuf : Space → Nat
  | .hbm => 9
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S4x1024x1408, .bf16⟩
  | .hbm, ⟨2, _⟩ => ⟨S2048x1024, .f32⟩
  | .hbm, ⟨3, _⟩ => ⟨S4x1024x1408, .f32⟩
  | .hbm, ⟨4, _⟩ => ⟨S1024x4x1408, .f32⟩
  | .hbm, ⟨5, _⟩ => ⟨S1024x5632, .f32⟩
  | .hbm, ⟨6, _⟩ => ⟨S2048x5632, .f32⟩
  | .hbm, ⟨7, _⟩ => ⟨S2048x2816, .f32⟩
  | .hbm, ⟨8, _⟩ => ⟨S2048x2816, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Kernel6.lean ====
abbrev S2048x1024 : Shape := ⟨2, ![2048, 1024]⟩
abbrev S4x1024x1408 : Shape := ⟨3, ![4, 1024, 1408]⟩
abbrev S2048x2816 : Shape := ⟨2, ![2048, 2816]⟩
abbrev S1024x1024 : Shape := ⟨2, ![1024, 1024]⟩
abbrev S1x1024x1408 : Shape := ⟨3, ![1, 1024, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S2048x1024, .bf16⟩
  | .hbm, ⟨1, _⟩ => ⟨S4x1024x1408, .bf16⟩
  | .hbm, ⟨2, _⟩ => ⟨S2048x2816, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def k0_cond3 (i : grid0.Coords) : BitVec 1 :=
  let arg2 : BitVec 32 := BitVec.ofNat 32 (i 2).val
  let c0_i32_7 : BitVec 32 := 0#32
  let v10 : BitVec 1 := Scalar.cmpi .eq arg2 c0_i32_7
  let v11 : BitVec 32 := Scalar.extui v10
  let c0_i32_8 : BitVec 32 := 0#32
  let v12 : BitVec 1 := Scalar.cmpi .ne v11 c0_i32_8
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c2_i32 : BitVec 32 := 2#32
  let v17 : BitVec 32 := Scalar.addi c2_i32 v16
  let c1_i32_5 : BitVec 32 := 1#32
  let c0_i32_6 : BitVec 32 := 0#32
  let v18 : BitVec 1 := Scalar.cmpi .eq c1_i32_5 c0_i32_6
  let c1_i32_7 : BitVec 32 := 1#32
  let v19 : BitVec 32 := Scalar.select v18 c1_i32_7 c1_i32_5
  let v20 : BitVec 32 := Scalar.remsi arg1 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  ![v17.toNat, arg2.toNat, v27.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S2048x1024 : Shape := ⟨2, ![2048, 1024]⟩
abbrev S4x1024x1408 : Shape := ⟨3, ![4, 1024, 1408]⟩
abbrev S1024x4x1408 : Shape := ⟨3, ![1024, 4, 1408]⟩
abbrev S1024x5632 : Shape := ⟨2, ![1024, 5632]⟩
abbrev S2048x5632 : Shape := ⟨2, ![2048, 5632]⟩
abbrev S2048x2816 : Shape := ⟨2, ![2048, 2816]⟩

abbrev nBuf : Space → Nat
  | .hbm => 9
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S4x1024x1408, .bf16⟩
  | .hbm, ⟨2, _⟩ => ⟨S2048x1024, .f32⟩
  | .hbm, ⟨3, _⟩ => ⟨S4x1024x1408, .f32⟩
  | .hbm, ⟨4, _⟩ => ⟨S1024x4x1408, .f32⟩
  | .hbm, ⟨5, _⟩ => ⟨S1024x5632, .f32⟩
  | .hbm, ⟨6, _⟩ => ⟨S2048x5632, .f32⟩
  | .hbm, ⟨7, _⟩ => ⟨S2048x2816, .f32⟩
  | .hbm, ⟨8, _⟩ => ⟨S2048x2816, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Kernel7.lean ====
abbrev S2048x2816 : Shape := ⟨2, ![2048, 2816]⟩
abbrev S4x1024x1408 : Shape := ⟨3, ![4, 1024, 1408]⟩
abbrev S2048x1024 : Shape := ⟨2, ![2048, 1024]⟩
abbrev S1024x1408 : Shape := ⟨2, ![1024, 1408]⟩
abbrev S1x1024x1408 : Shape := ⟨3, ![1, 1024, 1408]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x2816, .bf16⟩
  | .hbm, ⟨1, _⟩ => ⟨S4x1024x1408, .bf16⟩
  | .hbm, ⟨2, _⟩ => ⟨S2048x1024, .f32⟩
  | .local _ .vmem, ⟨0, _⟩ => ⟨S1024x1408, .bf16⟩
  | .local _ .vmem, ⟨1, _⟩ => ⟨S1024x1408, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let v17 : BitVec 32 := Scalar.addi c0_i32_5 v16
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg2 v19
  let c0_i32_9 : BitVec 32 := 0#32
  let v21 : BitVec 1 := Scalar.cmpi .ne v20 c0_i32_9
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let v25 : BitVec 1 := Scalar.andi v24 v21
  let v26 : BitVec 32 := Scalar.addi v20 v19
  let v27 : BitVec 32 := Scalar.select v25 v26 v20
  let c0_i32_12 : BitVec 32 := 0#32
  ![v17.toNat, arg1.toNat, v27.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S2048x2816 : Shape := ⟨2, ![2048, 2816]⟩
abbrev S4x1024x1408 : Shape := ⟨3, ![4, 1024, 1408]⟩
abbrev S_ : Shape := ⟨0, ![]⟩
abbrev S2048x1024 : Shape := ⟨2, ![2048, 1024]⟩
abbrev S1024x4x1408 : Shape := ⟨3, ![1024, 4, 1408]⟩
abbrev S1024x5632 : Shape := ⟨2, ![1024, 5632]⟩
abbrev S2048x5632 : Shape := ⟨2, ![2048, 5632]⟩

abbrev nBuf : Space → Nat
  | .hbm => 15
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S4x1024x1408, .bf16⟩
  | .hbm, ⟨2, _⟩ => ⟨S_, .f32⟩
  | .hbm, ⟨3, _⟩ => ⟨S2048x1024, .f32⟩
  | .hbm, ⟨4, _⟩ => ⟨S4x1024x1408, .f32⟩
  | .hbm, ⟨5, _⟩ => ⟨S1024x4x1408, .f32⟩
  | .hbm, ⟨6, _⟩ => ⟨S1024x5632, .f32⟩
  | .hbm, ⟨7, _⟩ => ⟨S2048x5632, .f32⟩
  | .hbm, ⟨8, _⟩ => ⟨S2048x2816, .f32⟩
  | .hbm, ⟨9, _⟩ => ⟨S2048x2816, .f32⟩
  | .hbm, ⟨10, _⟩ => ⟨S2048x2816, .f32⟩
  | .hbm, ⟨11, _⟩ => ⟨S_, .f32⟩
  | .hbm, ⟨12, _⟩ => ⟨S2048x2816, .f32⟩
  | .hbm, ⟨13, _⟩ => ⟨S2048x5632, .f32⟩
  | .hbm, ⟨14, _⟩ => ⟨S2048x1024, .f32⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Kernel8.lean ====
abbrev S2048x2816 : Shape := ⟨2, ![2048, 2816]⟩
abbrev S4x1024x1408 : Shape := ⟨3, ![4, 1024, 1408]⟩
abbrev S2048x1024 : Shape := ⟨2, ![2048, 1024]⟩
abbrev S1024x1408 : Shape := ⟨2, ![1024, 1408]⟩
abbrev S1x1024x1408 : Shape := ⟨3, ![1, 1024, 1408]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S2048x2816, .bf16⟩
  | .hbm, ⟨1, _⟩ => ⟨S4x1024x1408, .bf16⟩
  | .hbm, ⟨2, _⟩ => ⟨S2048x1024, .f32⟩
  | .hbm, ⟨3, _⟩ => ⟨S2048x1024, .f32⟩
  | .local _ .vmem, ⟨0, _⟩ => ⟨S1024x1408, .bf16⟩
  | .local _ .vmem, ⟨1, _⟩ => ⟨S1024x1408, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c2_i32 : BitVec 32 := 2#32
  let v17 : BitVec 32 := Scalar.addi c2_i32 v16
  let c1_i32_5 : BitVec 32 := 1#32
  let c0_i32_6 : BitVec 32 := 0#32
  let v18 : BitVec 1 := Scalar.cmpi .eq c1_i32_5 c0_i32_6
  let c1_i32_7 : BitVec 32 := 1#32
  let v19 : BitVec 32 := Scalar.select v18 c1_i32_7 c1_i32_5
  let v20 : BitVec 32 := Scalar.remsi arg2 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  ![v17.toNat, arg1.toNat, v27.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference8Ideal.lean ====
abbrev S2048x2816 : Shape := ⟨2, ![2048, 2816]⟩
abbrev S4x1024x1408 : Shape := ⟨3, ![4, 1024, 1408]⟩
abbrev S2048x1024 : Shape := ⟨2, ![2048, 1024]⟩
abbrev S_ : Shape := ⟨0, ![]⟩
abbrev S1024x4x1408 : Shape := ⟨3, ![1024, 4, 1408]⟩
abbrev S1024x5632 : Shape := ⟨2, ![1024, 5632]⟩
abbrev S2048x5632 : Shape := ⟨2, ![2048, 5632]⟩

abbrev nBuf : Space → Nat
  | .hbm => 17
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S4x1024x1408, .bf16⟩
  | .hbm, ⟨2, _⟩ => ⟨S2048x1024, .f32⟩
  | .hbm, ⟨3, _⟩ => ⟨S_, .f32⟩
  | .hbm, ⟨4, _⟩ => ⟨S2048x1024, .f32⟩
  | .hbm, ⟨5, _⟩ => ⟨S4x1024x1408, .f32⟩
  | .hbm, ⟨6, _⟩ => ⟨S1024x4x1408, .f32⟩
  | .hbm, ⟨7, _⟩ => ⟨S1024x5632, .f32⟩
  | .hbm, ⟨8, _⟩ => ⟨S2048x5632, .f32⟩
  | .hbm, ⟨9, _⟩ => ⟨S2048x2816, .f32⟩
  | .hbm, ⟨10, _⟩ => ⟨S2048x2816, .f32⟩
  | .hbm, ⟨11, _⟩ => ⟨S2048x2816, .f32⟩
  | .hbm, ⟨12, _⟩ => ⟨S_, .f32⟩
  | .hbm, ⟨13, _⟩ => ⟨S2048x2816, .f32⟩
  | .hbm, ⟨14, _⟩ => ⟨S2048x5632, .f32⟩
  | .hbm, ⟨15, _⟩ => ⟨S2048x1024, .f32⟩
  | .hbm, ⟨16, _⟩ => ⟨S2048x1024, .f32⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== Kernel9.lean ====
abbrev S2048x1024 : Shape := ⟨2, ![2048, 1024]⟩
abbrev S2048x2816 : Shape := ⟨2, ![2048, 2816]⟩
abbrev S4x1024x1408 : Shape := ⟨3, ![4, 1024, 1408]⟩
abbrev S2048x1408 : Shape := ⟨2, ![2048, 1408]⟩
abbrev S1x1024x1408 : Shape := ⟨3, ![1, 1024, 1408]⟩
abbrev S1024x1408 : Shape := ⟨2, ![1024, 1408]⟩

abbrev nBuf : Space → Nat
  | .hbm => 4
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S2048x2816, .bf16⟩
  | .hbm, ⟨2, _⟩ => ⟨S4x1024x1408, .f32⟩
  | .hbm, ⟨3, _⟩ => ⟨S4x1024x1408, .f32⟩
  | .local _ .vmem, ⟨0, _⟩ => ⟨S2048x1024, .bf16⟩
  | .local _ .vmem, ⟨1, _⟩ => ⟨S2048x1408, .bf16⟩
  | .local _ .vmem, ⟨2, _⟩ => ⟨S2048x1408, .bf16⟩
  | .local _ .vmem, ⟨3, _⟩ => ⟨S1x1024x1408, .f32⟩
  | .local _ .vmem, ⟨4, _⟩ => ⟨S1x1024x1408, .f32⟩
  | .local _ .vmem, ⟨5, _⟩ => ⟨S1024x1408, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c2_i32 : BitVec 32 := 2#32
  let v17 : BitVec 32 := Scalar.addi c2_i32 v16
  let c1_i32_5 : BitVec 32 := 1#32
  let c0_i32_6 : BitVec 32 := 0#32
  let v18 : BitVec 1 := Scalar.cmpi .eq c1_i32_5 c0_i32_6
  let c1_i32_7 : BitVec 32 := 1#32
  let v19 : BitVec 32 := Scalar.select v18 c1_i32_7 c1_i32_5
  let v20 : BitVec 32 := Scalar.remsi arg1 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  ![v17.toNat, arg0.toNat, v27.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S2048x1024 : Shape := ⟨2, ![2048, 1024]⟩
abbrev S2048x2816 : Shape := ⟨2, ![2048, 2816]⟩
abbrev S4x1024x1408 : Shape := ⟨3, ![4, 1024, 1408]⟩
abbrev S_ : Shape := ⟨0, ![]⟩
abbrev S1024x4x1408 : Shape := ⟨3, ![1024, 4, 1408]⟩
abbrev S1024x5632 : Shape := ⟨2, ![1024, 5632]⟩
abbrev S2048x5632 : Shape := ⟨2, ![2048, 5632]⟩
abbrev S5632x1024 : Shape := ⟨2, ![5632, 1024]⟩
abbrev S2x1024x1408 : Shape := ⟨3, ![2, 1024, 1408]⟩

abbrev nBuf : Space → Nat
  | .hbm => 22
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x2816, .bf16⟩
  | .hbm, ⟨2, _⟩ => ⟨S4x1024x1408, .f32⟩
  | .hbm, ⟨3, _⟩ => ⟨S_, .f32⟩
  | .hbm, ⟨4, _⟩ => ⟨S4x1024x1408, .f32⟩
  | .hbm, ⟨5, _⟩ => ⟨S2048x1024, .f32⟩
  | .hbm, ⟨6, _⟩ => ⟨S1024x4x1408, .f32⟩
  | .hbm, ⟨7, _⟩ => ⟨S1024x5632, .f32⟩
  | .hbm, ⟨8, _⟩ => ⟨S2048x5632, .f32⟩
  | .hbm, ⟨9, _⟩ => ⟨S2048x2816, .f32⟩
  | .hbm, ⟨10, _⟩ => ⟨S2048x2816, .f32⟩
  | .hbm, ⟨11, _⟩ => ⟨S2048x2816, .f32⟩
  | .hbm, ⟨12, _⟩ => ⟨S_, .f32⟩
  | .hbm, ⟨13, _⟩ => ⟨S2048x2816, .f32⟩
  | .hbm, ⟨14, _⟩ => ⟨S2048x5632, .f32⟩
  | .hbm, ⟨15, _⟩ => ⟨S5632x1024, .f32⟩
  | .hbm, ⟨16, _⟩ => ⟨S1024x5632, .f32⟩
  | .hbm, ⟨17, _⟩ => ⟨S1024x4x1408, .f32⟩
  | .hbm, ⟨18, _⟩ => ⟨S4x1024x1408, .f32⟩
  | .hbm, ⟨19, _⟩ => ⟨S2x1024x1408, .f32⟩
  | .hbm, ⟨20, _⟩ => ⟨S2x1024x1408, .f32⟩
  | .hbm, ⟨21, _⟩ => ⟨S4x1024x1408, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩

abbrev nD : Nat := 1
abbrev τ : Topo := Topo.v7x

variable {F : FTy → Type} [FloatOps F]
-- ==== Kernel10.lean ====
abbrev S2048x2816 : Shape := ⟨2, ![2048, 2816]⟩
abbrev S2816x1024 : Shape := ⟨2, ![2816, 1024]⟩
abbrev S2048x1024 : Shape := ⟨2, ![2048, 1024]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S2048x2816, .bf16⟩
  | .hbm, ⟨1, _⟩ => ⟨S2816x1024, .bf16⟩
  | .hbm, ⟨2, _⟩ => ⟨S2048x1024, .f32⟩
  | .hbm, ⟨3, _⟩ => ⟨S2048x1024, .f32⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference10Ideal.lean ====
abbrev S2048x2816 : Shape := ⟨2, ![2048, 2816]⟩
abbrev S2816x1024 : Shape := ⟨2, ![2816, 1024]⟩
abbrev S2048x1024 : Shape := ⟨2, ![2048, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2816x1024, .bf16⟩
  | .hbm, ⟨2, _⟩ => ⟨S2048x1024, .f32⟩
  | .hbm, ⟨3, _⟩ => ⟨S2048x2816, .f32⟩
  | .hbm, ⟨4, _⟩ => ⟨S2816x1024, .f32⟩
  | .hbm, ⟨5, _⟩ => ⟨S2048x1024, .f32⟩
  | .hbm, ⟨6, _⟩ => ⟨S2048x1024, .f32⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel11.lean ====
abbrev S2048x1024 : Shape := ⟨2, ![2048, 1024]⟩
abbrev S2816x1024 : Shape := ⟨2, ![2816, 1024]⟩
abbrev S2048x2816 : Shape := ⟨2, ![2048, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S2816x1024, .bf16⟩
  | .hbm, ⟨2, _⟩ => ⟨S2048x2816, .f32⟩
  | .local _ .vmem, ⟨0, _⟩ => ⟨S1024x1024, .f32⟩
  | .local _ .vmem, ⟨1, _⟩ => ⟨S1024x1024, .f32⟩
  | .local _ .vmem, ⟨2, _⟩ => ⟨S1408x1024, .bf16⟩
  | .local _ .vmem, ⟨3, _⟩ => ⟨S1408x1024, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def k0_cond3 (i : grid0.Coords) : BitVec 1 :=
  let arg2 : BitVec 32 := BitVec.ofNat 32 (i 2).val
  let c0_i32_6 : BitVec 32 := 0#32
  let v10 : BitVec 1 := Scalar.cmpi .eq arg2 c0_i32_6
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S2048x1024 : Shape := ⟨2, ![2048, 1024]⟩
abbrev S2816x1024 : Shape := ⟨2, ![2816, 1024]⟩
abbrev S_ : Shape := ⟨0, ![]⟩
abbrev S2048x2816 : Shape := ⟨2, ![2048, 2816]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2816x1024, .bf16⟩
  | .hbm, ⟨2, _⟩ => ⟨S_, .f32⟩
  | .hbm, ⟨3, _⟩ => ⟨S2048x2816, .f32⟩
  | .hbm, ⟨4, _⟩ => ⟨S_, .f32⟩
  | .hbm, ⟨5, _⟩ => ⟨S2048x1024, .f32⟩
  | .hbm, ⟨6, _⟩ => ⟨S2816x1024, .f32⟩
  | .hbm, ⟨7, _⟩ => ⟨S2048x1024, .f32⟩
  | .hbm, ⟨8, _⟩ => ⟨S2048x1024, .f32⟩
  | .hbm, ⟨9, _⟩ => ⟨S2048x2816, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel12.lean ====
abbrev S2048x2816 : Shape := ⟨2, ![2048, 2816]⟩
abbrev S2048x1024 : Shape := ⟨2, ![2048, 1024]⟩
abbrev S2816x1024 : Shape := ⟨2, ![2816, 1024]⟩
abbrev S2048x1408 : Shape := ⟨2, ![2048, 1408]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2816, .bf16⟩
  | .hbm, ⟨1, _⟩ => ⟨S2048x1024, .f32⟩
  | .hbm, ⟨2, _⟩ => ⟨S2816x1024, .f32⟩
  | .local _ .vmem, ⟨0, _⟩ => ⟨S2048x1408, .bf16⟩
  | .local _ .vmem, ⟨1, _⟩ => ⟨S2048x1408, .bf16⟩
  | .local _ .vmem, ⟨2, _⟩ => ⟨S2048x1024, .f32⟩
  | .local _ .vmem, ⟨3, _⟩ => ⟨S1408x1024, .f32⟩
  | .local _ .vmem, ⟨4, _⟩ => ⟨S1408x1024, .f32⟩
  | .local _ .vmem, ⟨5, _⟩ => ⟨S1408x1024, .f32⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def k0_cond3 (i : grid0.Coords) : BitVec 1 :=
  let arg2 : BitVec 32 := BitVec.ofNat 32 (i 2).val
  let c0_i32_6 : BitVec 32 := 0#32
  let v10 : BitVec 1 := Scalar.cmpi .eq arg2 c0_i32_6
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S2048x2816 : Shape := ⟨2, ![2048, 2816]⟩
abbrev S2048x1024 : Shape := ⟨2, ![2048, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 11
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2048x1024, .f32⟩
  | .hbm, ⟨2, _⟩ => ⟨S_, .f32⟩
  | .hbm, ⟨3, _⟩ => ⟨S2816x1024, .f32⟩
  | .hbm, ⟨4, _⟩ => ⟨S_, .f32⟩
  | .hbm, ⟨5, _⟩ => ⟨S2048x1024, .f32⟩
  | .hbm, ⟨6, _⟩ => ⟨S2048x2816, .f32⟩
  | .hbm, ⟨7, _⟩ => ⟨S2048x1024, .f32⟩
  | .hbm, ⟨8, _⟩ => ⟨S2048x1024, .f32⟩
  | .hbm, ⟨9, _⟩ => ⟨S1024x2816, .f32⟩
  | .hbm, ⟨10, _⟩ => ⟨S2816x1024, .f32⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel13.lean ====
abbrev S2048x1024 : Shape := ⟨2, ![2048, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .hbm, ⟨3, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![2, 1, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference13Ideal.lean ====
abbrev S2048x1024 : Shape := ⟨2, ![2048, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .hbm, ⟨3, _⟩ => ⟨S2048x1024, .f32⟩
  | .hbm, ⟨4, _⟩ => ⟨S1024x1024, .f32⟩
  | .hbm, ⟨5, _⟩ => ⟨S2048x1024, .f32⟩
  | .hbm, ⟨6, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel14.lean ====
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S1024x1024, .bf16⟩
  | .hbm, ⟨2, _⟩ => ⟨S2048x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def k0_cond3 (i : grid0.Coords) : BitVec 1 :=
  let arg2 : BitVec 32 := BitVec.ofNat 32 (i 2).val
  let c0_i32_6 : BitVec 32 := 0#32
  let v10 : BitVec 1 := Scalar.cmpi .eq arg2 c0_i32_6
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S2048x1024 : Shape := ⟨2, ![2048, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x1024, .bf16⟩
  | .hbm, ⟨2, _⟩ => ⟨S_, .f32⟩
  | .hbm, ⟨3, _⟩ => ⟨S2048x1024, .f32⟩
  | .hbm, ⟨4, _⟩ => ⟨S1024x1024, .f32⟩
  | .hbm, ⟨5, _⟩ => ⟨S2048x1024, .f32⟩
  | .hbm, ⟨6, _⟩ => ⟨S2048x1024, .f32⟩
  | .hbm, ⟨7, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel15.lean ====
abbrev S2048x1024 : Shape := ⟨2, ![2048, 1024]⟩
abbrev S1024x1024 : Shape := ⟨2, ![1024, 1024]⟩

abbrev nBuf : Space → Nat
  | .hbm => 3
  | .vmem => 4
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .f32⟩
  | .hbm, ⟨2, _⟩ => ⟨S1024x1024, .f32⟩
  | .local _ .vmem, ⟨0, _⟩ => ⟨S2048x1024, .bf16⟩
  | .local _ .vmem, ⟨1, _⟩ => ⟨S2048x1024, .f32⟩
  | .local _ .vmem, ⟨2, _⟩ => ⟨S1024x1024, .f32⟩
  | .local _ .vmem, ⟨3, _⟩ => ⟨S1024x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def k0_cond3 (i : grid0.Coords) : BitVec 1 :=
  let arg2 : BitVec 32 := BitVec.ofNat 32 (i 2).val
  let c0_i32_6 : BitVec 32 := 0#32
  let v10 : BitVec 1 := Scalar.cmpi .eq arg2 c0_i32_6
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference15Ideal.lean ====
abbrev S2048x1024 : Shape := ⟨2, ![2048, 1024]⟩
abbrev S_ : Shape := ⟨0, ![]⟩
abbrev S1024x1024 : Shape := ⟨2, ![1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .f32⟩
  | .hbm, ⟨2, _⟩ => ⟨S_, .f32⟩
  | .hbm, ⟨3, _⟩ => ⟨S2048x1024, .f32⟩
  | .hbm, ⟨4, _⟩ => ⟨S_, .f32⟩
  | .hbm, ⟨5, _⟩ => ⟨S1024x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S1024x1024, .f32⟩
  | .hbm, ⟨10, _⟩ => ⟨S1024x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel16.lean ====
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S2048x1024 : Shape := ⟨2, ![2048, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .hbm, ⟨3, _⟩ => ⟨S1024x1024, .f32⟩
  | .hbm, ⟨4, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel17.lean ====
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S2048x1024 : Shape := ⟨2, ![2048, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S_, .f32⟩
  | .hbm, ⟨3, _⟩ => ⟨S2048x1024, .f32⟩
  | .hbm, ⟨4, _⟩ => ⟨S1024x1024, .f32⟩
  | .hbm, ⟨5, _⟩ => ⟨S2048x1024, .f32⟩
  | .hbm, ⟨6, _⟩ => ⟨S2048x1024, .f32⟩
  | .hbm, ⟨7, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel18.lean ====
abbrev S2048x1024 : Shape := ⟨2, ![2048, 1024]⟩
abbrev S1024x1024 : Shape := ⟨2, ![1024, 1024]⟩

abbrev nBuf : Space → Nat
  | .hbm => 3
  | .vmem => 4
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .f32⟩
  | .local _ .vmem, ⟨3, _⟩ => ⟨S1024x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference18Ideal.lean ====
abbrev S2048x1024 : Shape := ⟨2, ![2048, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S_, .f32⟩
  | .hbm, ⟨3, _⟩ => ⟨S1024x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S1024x1024, .f32⟩
  | .hbm, ⟨8, _⟩ => ⟨S1024x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel19.lean ====
abbrev S2048x512 : Shape := ⟨2, ![2048, 512]⟩
abbrev S4x512x256 : Shape := ⟨3, ![4, 512, 256]⟩
abbrev S2048x1024 : Shape := ⟨2, ![2048, 1024]⟩
abbrev S1x512x256 : Shape := ⟨3, ![1, 512, 256]⟩
abbrev S2048x256 : Shape := ⟨2, ![2048, 256]⟩
abbrev S512x256 : Shape := ⟨2, ![512, 256]⟩

abbrev nBuf : Space → Nat
  | .hbm => 3
  | .vmem => 6
  | .smem => 0
  | _ => 0

abbrev bufTy : (tb : Table) → Fin (tcTables nBuf tb) → BufTy
  | .hbm, ⟨0, _⟩ => ⟨S2048x512, .bf16⟩
  | .hbm, ⟨1, _⟩ => ⟨S4x512x256, .bf16⟩
  | .hbm, ⟨2, _⟩ => ⟨S2048x1024, .f32⟩
  | .local _ .vmem, ⟨0, _⟩ => ⟨S2048x512, .bf16⟩
  | .local _ .vmem, ⟨1, _⟩ => ⟨S1x512x256, .bf16⟩
  | .local _ .vmem, ⟨2, _⟩ => ⟨S1x512x256, .bf16⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def k0_cond3 (i : grid0.Coords) : BitVec 1 :=
  let arg2 : BitVec 32 := BitVec.ofNat 32 (i 2).val
  let c0_i32_7 : BitVec 32 := 0#32
  let v10 : BitVec 1 := Scalar.cmpi .eq arg2 c0_i32_7
  let v11 : BitVec 32 := Scalar.extui v10
  let c0_i32_8 : BitVec 32 := 0#32
  let v12 : BitVec 1 := Scalar.cmpi .ne v11 c0_i32_8
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let v17 : BitVec 32 := Scalar.addi c0_i32_5 v16
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg1 v19
  let c0_i32_9 : BitVec 32 := 0#32
  let v21 : BitVec 1 := Scalar.cmpi .ne v20 c0_i32_9
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let v25 : BitVec 1 := Scalar.andi v24 v21
  let v26 : BitVec 32 := Scalar.addi v20 v19
  let v27 : BitVec 32 := Scalar.select v25 v26 v20
  let c0_i32_12 : BitVec 32 := 0#32
  ![v17.toNat, arg2.toNat, v27.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference19Ideal.lean ====
abbrev S2048x512 : Shape := ⟨2, ![2048, 512]⟩
abbrev S4x512x256 : Shape := ⟨3, ![4, 512, 256]⟩
abbrev S512x4x256 : Shape := ⟨3, ![512, 4, 256]⟩
abbrev S512x1024 : Shape := ⟨2, ![512, 1024]⟩
abbrev S2048x1024 : Shape := ⟨2, ![2048, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S4x512x256, .bf16⟩
  | .hbm, ⟨2, _⟩ => ⟨S2048x512, .f32⟩
  | .hbm, ⟨3, _⟩ => ⟨S4x512x256, .f32⟩
  | .hbm, ⟨4, _⟩ => ⟨S512x4x256, .f32⟩
  | .hbm, ⟨5, _⟩ => ⟨S512x1024, .f32⟩
  | .hbm, ⟨6, _⟩ => ⟨S2048x1024, .f32⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel20.lean ====
abbrev S2048x1024 : Shape := ⟨2, ![2048, 1024]⟩
abbrev S4x512x256 : Shape := ⟨3, ![4, 512, 256]⟩
abbrev S2048x512 : Shape := ⟨2, ![2048, 512]⟩
abbrev S2048x256 : Shape := ⟨2, ![2048, 256]⟩
abbrev S1x512x256 : Shape := ⟨3, ![1, 512, 256]⟩
abbrev S512x256 : Shape := ⟨2, ![512, 256]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S4x512x256, .bf16⟩
  | .hbm, ⟨2, _⟩ => ⟨S2048x512, .f32⟩
  | .local _ .vmem, ⟨0, _⟩ => ⟨S2048x256, .bf16⟩
  | .local _ .vmem, ⟨1, _⟩ => ⟨S2048x256, .bf16⟩
  | .local _ .vmem, ⟨2, _⟩ => ⟨S1x512x256, .bf16⟩
  | .local _ .vmem, ⟨3, _⟩ => ⟨S1x512x256, .bf16⟩
  | .local _ .vmem, ⟨4, _⟩ => ⟨S2048x512, .f32⟩
  | .local _ .vmem, ⟨5, _⟩ => ⟨S2048x512, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let v17 : BitVec 32 := Scalar.addi c0_i32_5 v16
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg2 v19
  let c0_i32_9 : BitVec 32 := 0#32
  let v21 : BitVec 1 := Scalar.cmpi .ne v20 c0_i32_9
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let v25 : BitVec 1 := Scalar.andi v24 v21
  let v26 : BitVec 32 := Scalar.addi v20 v19
  let v27 : BitVec 32 := Scalar.select v25 v26 v20
  let c0_i32_12 : BitVec 32 := 0#32
  ![v17.toNat, arg1.toNat, v27.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S2048x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference20Ideal.lean ====
abbrev S2048x1024 : Shape := ⟨2, ![2048, 1024]⟩
abbrev S4x512x256 : Shape := ⟨3, ![4, 512, 256]⟩
abbrev S_ : Shape := ⟨0, ![]⟩
abbrev S2048x512 : Shape := ⟨2, ![2048, 512]⟩
abbrev S512x4x256 : Shape := ⟨3, ![512, 4, 256]⟩
abbrev S512x1024 : Shape := ⟨2, ![512, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S4x512x256, .bf16⟩
  | .hbm, ⟨2, _⟩ => ⟨S_, .f32⟩
  | .hbm, ⟨3, _⟩ => ⟨S2048x512, .f32⟩
  | .hbm, ⟨4, _⟩ => ⟨S4x512x256, .f32⟩
  | .hbm, ⟨5, _⟩ => ⟨S512x4x256, .f32⟩
  | .hbm, ⟨6, _⟩ => ⟨S512x1024, .f32⟩
  | .hbm, ⟨7, _⟩ => ⟨S2048x1024, .f32⟩
  | .hbm, ⟨8, _⟩ => ⟨S2048x1024, .f32⟩
  | .hbm, ⟨9, _⟩ => ⟨S2048x512, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel21.lean ====
abbrev S2048x512 : Shape := ⟨2, ![2048, 512]⟩
abbrev S2048x1024 : Shape := ⟨2, ![2048, 1024]⟩
abbrev S4x512x256 : Shape := ⟨3, ![4, 512, 256]⟩
abbrev S2048x256 : Shape := ⟨2, ![2048, 256]⟩
abbrev S1x512x256 : Shape := ⟨3, ![1, 512, 256]⟩
abbrev S512x256 : Shape := ⟨2, ![512, 256]⟩

abbrev nBuf : Space → Nat
  | .hbm => 3
  | .vmem => 6
  | .smem => 0
  | _ => 0

abbrev bufTy : (tb : Table) → Fin (tcTables nBuf tb) → BufTy
  | .hbm, ⟨0, _⟩ => ⟨S2048x512, .bf16⟩
  | .hbm, ⟨1, _⟩ => ⟨S2048x1024, .bf16⟩
  | .hbm, ⟨2, _⟩ => ⟨S4x512x256, .f32⟩
  | .local _ .vmem, ⟨0, _⟩ => ⟨S2048x512, .bf16⟩
  | .local _ .vmem, ⟨1, _⟩ => ⟨S2048x256, .bf16⟩
  | .local _ .vmem, ⟨2, _⟩ => ⟨S2048x256, .bf16⟩
  | .local _ .vmem, ⟨3, _⟩ => ⟨S1x512x256, .f32⟩
  | .local _ .vmem, ⟨4, _⟩ => ⟨S1x512x256, .f32⟩
  | .local _ .vmem, ⟨5, _⟩ => ⟨S512x256, .f32⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let v17 : BitVec 32 := Scalar.addi c0_i32_5 v16
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg1 v19
  let c0_i32_9 : BitVec 32 := 0#32
  let v21 : BitVec 1 := Scalar.cmpi .ne v20 c0_i32_9
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let v25 : BitVec 1 := Scalar.andi v24 v21
  let v26 : BitVec 32 := Scalar.addi v20 v19
  let v27 : BitVec 32 := Scalar.select v25 v26 v20
  let c0_i32_12 : BitVec 32 := 0#32
  ![v17.toNat, arg0.toNat, v27.toNat]

abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference21Ideal.lean ====
abbrev S2048x512 : Shape := ⟨2, ![2048, 512]⟩
abbrev S2048x1024 : Shape := ⟨2, ![2048, 1024]⟩
abbrev S_ : Shape := ⟨0, ![]⟩
abbrev S4x512x256 : Shape := ⟨3, ![4, 512, 256]⟩
abbrev S512x4x256 : Shape := ⟨3, ![512, 4, 256]⟩
abbrev S512x1024 : Shape := ⟨2, ![512, 1024]⟩
abbrev S1024x512 : Shape := ⟨2, ![1024, 512]⟩

abbrev nBuf : Space → Nat
  | .hbm => 13
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S2048x1024, .bf16⟩
  | .hbm, ⟨2, _⟩ => ⟨S_, .f32⟩
  | .hbm, ⟨3, _⟩ => ⟨S4x512x256, .f32⟩
  | .hbm, ⟨4, _⟩ => ⟨S2048x512, .f32⟩
  | .hbm, ⟨5, _⟩ => ⟨S512x4x256, .f32⟩
  | .hbm, ⟨6, _⟩ => ⟨S512x1024, .f32⟩
  | .hbm, ⟨7, _⟩ => ⟨S2048x1024, .f32⟩
  | .hbm, ⟨8, _⟩ => ⟨S2048x1024, .f32⟩
  | .hbm, ⟨9, _⟩ => ⟨S1024x512, .f32⟩
  | .hbm, ⟨10, _⟩ => ⟨S512x1024, .f32⟩
  | .hbm, ⟨11, _⟩ => ⟨S512x4x256, .f32⟩
  | .hbm, ⟨12, _⟩ => ⟨S4x512x256, .f32⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel22.lean ====
abbrev S2048x1024 : Shape := ⟨2, ![2048, 1024]⟩
abbrev S2048x2816 : Shape := ⟨2, ![2048, 2816]⟩
abbrev S4x1024x1408 : Shape := ⟨3, ![4, 1024, 1408]⟩
abbrev S2048x1408 : Shape := ⟨2, ![2048, 1408]⟩
abbrev S1x1024x1408 : Shape := ⟨3, ![1, 1024, 1408]⟩
abbrev S1024x1408 : Shape := ⟨2, ![1024, 1408]⟩
abbrev S2x1024x1408 : Shape := ⟨3, ![2, 1024, 1408]⟩

abbrev nBuf : Space → Nat
  | .hbm => 4
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S2048x2816, .bf16⟩
  | .hbm, ⟨2, _⟩ => ⟨S4x1024x1408, .f32⟩
  | .hbm, ⟨3, _⟩ => ⟨S2x1024x1408, .f32⟩
  | .local _ .vmem, ⟨0, _⟩ => ⟨S2048x1024, .bf16⟩
  | .local _ .vmem, ⟨1, _⟩ => ⟨S2048x1408, .bf16⟩
  | .local _ .vmem, ⟨2, _⟩ => ⟨S2048x1408, .bf16⟩
  | .local _ .vmem, ⟨3, _⟩ => ⟨S1x1024x1408, .f32⟩
  | .local _ .vmem, ⟨4, _⟩ => ⟨S1x1024x1408, .f32⟩
  | .local _ .vmem, ⟨5, _⟩ => ⟨S1024x1408, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let v17 : BitVec 32 := Scalar.addi c0_i32_5 v16
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg1 v19
  let c0_i32_9 : BitVec 32 := 0#32
  let v21 : BitVec 1 := Scalar.cmpi .ne v20 c0_i32_9
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let v25 : BitVec 1 := Scalar.andi v24 v21
  let v26 : BitVec 32 := Scalar.addi v20 v19
  let v27 : BitVec 32 := Scalar.select v25 v26 v20
  let c0_i32_12 : BitVec 32 := 0#32
  ![v17.toNat, arg0.toNat, v27.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference22Ideal.lean ====
abbrev S2048x1024 : Shape := ⟨2, ![2048, 1024]⟩
abbrev S2048x2816 : Shape := ⟨2, ![2048, 2816]⟩
abbrev S_ : Shape := ⟨0, ![]⟩
abbrev S4x1024x1408 : Shape := ⟨3, ![4, 1024, 1408]⟩
abbrev S1024x4x1408 : Shape := ⟨3, ![1024, 4, 1408]⟩
abbrev S1024x5632 : Shape := ⟨2, ![1024, 5632]⟩
abbrev S2048x5632 : Shape := ⟨2, ![2048, 5632]⟩
abbrev S5632x1024 : Shape := ⟨2, ![5632, 1024]⟩
abbrev S2x1024x1408 : Shape := ⟨3, ![2, 1024, 1408]⟩

abbrev nBuf : Space → Nat
  | .hbm => 19
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x2816, .bf16⟩
  | .hbm, ⟨2, _⟩ => ⟨S_, .f32⟩
  | .hbm, ⟨3, _⟩ => ⟨S4x1024x1408, .f32⟩
  | .hbm, ⟨4, _⟩ => ⟨S2048x1024, .f32⟩
  | .hbm, ⟨5, _⟩ => ⟨S1024x4x1408, .f32⟩
  | .hbm, ⟨6, _⟩ => ⟨S1024x5632, .f32⟩
  | .hbm, ⟨7, _⟩ => ⟨S2048x5632, .f32⟩
  | .hbm, ⟨8, _⟩ => ⟨S2048x2816, .f32⟩
  | .hbm, ⟨9, _⟩ => ⟨S2048x2816, .f32⟩
  | .hbm, ⟨10, _⟩ => ⟨S2048x2816, .f32⟩
  | .hbm, ⟨11, _⟩ => ⟨S_, .f32⟩
  | .hbm, ⟨12, _⟩ => ⟨S2048x2816, .f32⟩
  | .hbm, ⟨13, _⟩ => ⟨S2048x5632, .f32⟩
  | .hbm, ⟨14, _⟩ => ⟨S5632x1024, .f32⟩
  | .hbm, ⟨15, _⟩ => ⟨S1024x5632, .f32⟩
  | .hbm, ⟨16, _⟩ => ⟨S1024x4x1408, .f32⟩
  | .hbm, ⟨17, _⟩ => ⟨S4x1024x1408, .f32⟩
  | .hbm, ⟨18, _⟩ => ⟨S2x1024x1408, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩

abbrev nD : Nat := 1
abbrev τ : Topo := Topo.v7x

variable {F : FTy → Type} [FloatOps F]
-- ==== Kernel23.lean ====
abbrev S2048x256 : Shape := ⟨2, ![2048, 256]⟩
abbrev S4x256x256 : Shape := ⟨3, ![4, 256, 256]⟩
abbrev S2048x1024 : Shape := ⟨2, ![2048, 1024]⟩
abbrev S1x256x256 : Shape := ⟨3, ![1, 256, 256]⟩
abbrev S256x256 : Shape := ⟨2, ![256, 256]⟩

abbrev nBuf : Space → Nat
  | .hbm => 3
  | .vmem => 6
  | .smem => 0
  | _ => 0

abbrev bufTy : (tb : Table) → Fin (tcTables nBuf tb) → BufTy
  | .hbm, ⟨0, _⟩ => ⟨S2048x256, .f32⟩
  | .hbm, ⟨1, _⟩ => ⟨S4x256x256, .bf16⟩
  | .hbm, ⟨2, _⟩ => ⟨S2048x1024, .f32⟩
  | .local _ .vmem, ⟨0, _⟩ => ⟨S2048x256, .f32⟩
  | .local _ .vmem, ⟨1, _⟩ => ⟨S1x256x256, .bf16⟩
  | .local _ .vmem, ⟨2, _⟩ => ⟨S1x256x256, .bf16⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def k0_cond3 (i : grid0.Coords) : BitVec 1 :=
  let arg2 : BitVec 32 := BitVec.ofNat 32 (i 2).val
  let c0_i32_7 : BitVec 32 := 0#32
  let v11 : BitVec 1 := Scalar.cmpi .eq arg2 c0_i32_7
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let v17 : BitVec 32 := Scalar.addi c0_i32_5 v16
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg1 v19
  let c0_i32_9 : BitVec 32 := 0#32
  let v21 : BitVec 1 := Scalar.cmpi .ne v20 c0_i32_9
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let v25 : BitVec 1 := Scalar.andi v24 v21
  let v26 : BitVec 32 := Scalar.addi v20 v19
  let v27 : BitVec 32 := Scalar.select v25 v26 v20
  let c0_i32_12 : BitVec 32 := 0#32
  ![v17.toNat, arg2.toNat, v27.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference23Ideal.lean ====
abbrev S2048x256 : Shape := ⟨2, ![2048, 256]⟩
abbrev S4x256x256 : Shape := ⟨3, ![4, 256, 256]⟩
abbrev S256x4x256 : Shape := ⟨3, ![256, 4, 256]⟩
abbrev S256x1024 : Shape := ⟨2, ![256, 1024]⟩
abbrev S2048x1024 : Shape := ⟨2, ![2048, 1024]⟩

abbrev nBuf : Space → Nat
  | .hbm => 6
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S4x256x256, .bf16⟩
  | .hbm, ⟨2, _⟩ => ⟨S4x256x256, .f32⟩
  | .hbm, ⟨3, _⟩ => ⟨S256x4x256, .f32⟩
  | .hbm, ⟨4, _⟩ => ⟨S256x1024, .f32⟩
  | .hbm, ⟨5, _⟩ => ⟨S2048x1024, .f32⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel24.lean ====
abbrev S2048x256 : Shape := ⟨2, ![2048, 256]⟩
abbrev S2048x1024 : Shape := ⟨2, ![2048, 1024]⟩
abbrev S4x256x256 : Shape := ⟨3, ![4, 256, 256]⟩
abbrev S1x256x256 : Shape := ⟨3, ![1, 256, 256]⟩
abbrev S256x256 : Shape := ⟨2, ![256, 256]⟩

abbrev nBuf : Space → Nat
  | .hbm => 3
  | .vmem => 6
  | .smem => 0
  | _ => 0

abbrev bufTy : (tb : Table) → Fin (tcTables nBuf tb) → BufTy
  | .hbm, ⟨0, _⟩ => ⟨S2048x256, .f32⟩
  | .hbm, ⟨1, _⟩ => ⟨S2048x1024, .bf16⟩
  | .hbm, ⟨2, _⟩ => ⟨S4x256x256, .f32⟩
  | .local _ .vmem, ⟨0, _⟩ => ⟨S2048x256, .f32⟩
  | .local _ .vmem, ⟨1, _⟩ => ⟨S2048x256, .bf16⟩
  | .local _ .vmem, ⟨2, _⟩ => ⟨S2048x256, .bf16⟩
  | .local _ .vmem, ⟨3, _⟩ => ⟨S1x256x256, .f32⟩
  | .local _ .vmem, ⟨4, _⟩ => ⟨S1x256x256, .f32⟩
  | .local _ .vmem, ⟨5, _⟩ => ⟨S256x256, .f32⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def k0_cond3 (i : grid0.Coords) : BitVec 1 :=
  let arg2 : BitVec 32 := BitVec.ofNat 32 (i 2).val
  let c0_i32_6 : BitVec 32 := 0#32
  let v10 : BitVec 1 := Scalar.cmpi .eq arg2 c0_i32_6
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let v17 : BitVec 32 := Scalar.addi c0_i32_5 v16
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg1 v19
  let c0_i32_9 : BitVec 32 := 0#32
  let v21 : BitVec 1 := Scalar.cmpi .ne v20 c0_i32_9
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let v25 : BitVec 1 := Scalar.andi v24 v21
  let v26 : BitVec 32 := Scalar.addi v20 v19
  let v27 : BitVec 32 := Scalar.select v25 v26 v20
  let c0_i32_12 : BitVec 32 := 0#32
  ![v17.toNat, arg0.toNat, v27.toNat]

abbrev stage0_0 : Fin 1 → Memref sig .tc .vmem S2048x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference24Ideal.lean ====
abbrev S2048x256 : Shape := ⟨2, ![2048, 256]⟩
abbrev S2048x1024 : Shape := ⟨2, ![2048, 1024]⟩
abbrev S_ : Shape := ⟨0, ![]⟩
abbrev S4x256x256 : Shape := ⟨3, ![4, 256, 256]⟩
abbrev S256x4x256 : Shape := ⟨3, ![256, 4, 256]⟩
abbrev S256x1024 : Shape := ⟨2, ![256, 1024]⟩
abbrev S1024x256 : Shape := ⟨2, ![1024, 256]⟩

abbrev nBuf : Space → Nat
  | .hbm => 12
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S2048x1024, .bf16⟩
  | .hbm, ⟨2, _⟩ => ⟨S_, .f32⟩
  | .hbm, ⟨3, _⟩ => ⟨S4x256x256, .f32⟩
  | .hbm, ⟨4, _⟩ => ⟨S256x4x256, .f32⟩
  | .hbm, ⟨5, _⟩ => ⟨S256x1024, .f32⟩
  | .hbm, ⟨6, _⟩ => ⟨S2048x1024, .f32⟩
  | .hbm, ⟨7, _⟩ => ⟨S2048x1024, .f32⟩
  | .hbm, ⟨8, _⟩ => ⟨S1024x256, .f32⟩
  | .hbm, ⟨9, _⟩ => ⟨S256x1024, .f32⟩
  | .hbm, ⟨10, _⟩ => ⟨S256x4x256, .f32⟩
  | .hbm, ⟨11, _⟩ => ⟨S4x256x256, .f32⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel25.lean ====
abbrev S2048x1024 : Shape := ⟨2, ![2048, 1024]⟩
abbrev S1024x128 : Shape := ⟨2, ![1024, 128]⟩
abbrev S2048x128 : Shape := ⟨2, ![2048, 128]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S1024x128, .bf16⟩
  | .hbm, ⟨2, _⟩ => ⟨S2048x128, .f32⟩
  | .local _ .vmem, ⟨0, _⟩ => ⟨S1024x1024, .bf16⟩
  | .local _ .vmem, ⟨1, _⟩ => ⟨S1024x1024, .bf16⟩
  | .local _ .vmem, ⟨2, _⟩ => ⟨S1024x128, .bf16⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference25Ideal.lean ====
abbrev S2048x1024 : Shape := ⟨2, ![2048, 1024]⟩
abbrev S1024x128 : Shape := ⟨2, ![1024, 128]⟩
abbrev S2048x128 : Shape := ⟨2, ![2048, 128]⟩

abbrev nBuf : Space → Nat
  | .hbm => 5
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x128, .bf16⟩
  | .hbm, ⟨2, _⟩ => ⟨S2048x1024, .f32⟩
  | .hbm, ⟨3, _⟩ => ⟨S1024x128, .f32⟩
  | .hbm, ⟨4, _⟩ => ⟨S2048x128, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel26.lean ====
abbrev S2048x128 : Shape := ⟨2, ![2048, 128]⟩
abbrev S2048x1024 : Shape := ⟨2, ![2048, 1024]⟩
abbrev S128x1024 : Shape := ⟨2, ![128, 1024]⟩

abbrev nBuf : Space → Nat
  | .hbm => 3
  | .vmem => 4
  | .smem => 0
  | _ => 0

abbrev bufTy : (tb : Table) → Fin (tcTables nBuf tb) → BufTy
  | .hbm, ⟨0, _⟩ => ⟨S2048x128, .f32⟩
  | .hbm, ⟨1, _⟩ => ⟨S2048x1024, .bf16⟩
  | .hbm, ⟨2, _⟩ => ⟨S128x1024, .f32⟩
  | .local _ .vmem, ⟨0, _⟩ => ⟨S2048x128, .f32⟩
  | .local _ .vmem, ⟨1, _⟩ => ⟨S2048x1024, .bf16⟩
  | .local _ .vmem, ⟨2, _⟩ => ⟨S128x1024, .f32⟩
  | .local _ .vmem, ⟨3, _⟩ => ⟨S128x1024, .f32⟩
  | _, _ => ⟨S2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def k0_cond3 (i : grid0.Coords) : BitVec 1 :=
  let arg2 : BitVec 32 := BitVec.ofNat 32 (i 2).val
  let c0_i32_6 : BitVec 32 := 0#32
  let v10 : BitVec 1 := Scalar.cmpi .eq arg2 c0_i32_6
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference26Ideal.lean ====
abbrev S2048x128 : Shape := ⟨2, ![2048, 128]⟩
abbrev S2048x1024 : Shape := ⟨2, ![2048, 1024]⟩
abbrev S_ : Shape := ⟨0, ![]⟩
abbrev S1024x128 : Shape := ⟨2, ![1024, 128]⟩
abbrev S128x1024 : Shape := ⟨2, ![128, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2048x128, .f32⟩
  | .hbm, ⟨1, _⟩ => ⟨S2048x1024, .bf16⟩
  | .hbm, ⟨2, _⟩ => ⟨S_, .f32⟩
  | .hbm, ⟨3, _⟩ => ⟨S1024x128, .f32⟩
  | .hbm, ⟨4, _⟩ => ⟨S2048x1024, .f32⟩
  | .hbm, ⟨5, _⟩ => ⟨S2048x128, .f32⟩
  | .hbm, ⟨6, _⟩ => ⟨S128x1024, .f32⟩
  | .hbm, ⟨7, _⟩ => ⟨S1024x128, .f32⟩
  | .hbm, ⟨8, _⟩ => ⟨S128x1024, .f32⟩
  | _, _ => ⟨S2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel27.lean ====
abbrev S2048x128 : Shape := ⟨2, ![2048, 128]⟩
abbrev S1024x128 : Shape := ⟨2, ![1024, 128]⟩
abbrev S2048x1024 : Shape := ⟨2, ![2048, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S2048x128, .f32⟩
  | .hbm, ⟨1, _⟩ => ⟨S1024x128, .bf16⟩
  | .hbm, ⟨2, _⟩ => ⟨S2048x1024, .f32⟩
  | .hbm, ⟨3, _⟩ => ⟨S2048x1024, .f32⟩
  | .local _ .vmem, ⟨0, _⟩ => ⟨S1024x128, .f32⟩
  | .local _ .vmem, ⟨1, _⟩ => ⟨S1024x128, .f32⟩
  | .local _ .vmem, ⟨2, _⟩ => ⟨S1024x128, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![2, 1, 1], ![false, false, false]⟩

def k0_cond3 (i : grid0.Coords) : BitVec 1 :=
  let arg2 : BitVec 32 := BitVec.ofNat 32 (i 2).val
  let c0_i32_6 : BitVec 32 := 0#32
  let v10 : BitVec 1 := Scalar.cmpi .eq arg2 c0_i32_6
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference27Ideal.lean ====
abbrev S2048x128 : Shape := ⟨2, ![2048, 128]⟩
abbrev S1024x128 : Shape := ⟨2, ![1024, 128]⟩
abbrev S2048x1024 : Shape := ⟨2, ![2048, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S2048x128, .f32⟩
  | .hbm, ⟨1, _⟩ => ⟨S1024x128, .bf16⟩
  | .hbm, ⟨2, _⟩ => ⟨S2048x1024, .f32⟩
  | .hbm, ⟨3, _⟩ => ⟨S_, .f32⟩
  | .hbm, ⟨4, _⟩ => ⟨S2048x1024, .f32⟩
  | .hbm, ⟨5, _⟩ => ⟨S1024x128, .f32⟩
  | .hbm, ⟨6, _⟩ => ⟨S2048x128, .f32⟩
  | .hbm, ⟨7, _⟩ => ⟨S2048x1024, .f32⟩
  | .hbm, ⟨8, _⟩ => ⟨S2048x1024, .f32⟩
  | _, _ => ⟨S2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel28.lean ====
abbrev S2048x512 : Shape := ⟨2, ![2048, 512]⟩
abbrev S2048x8192 : Shape := ⟨2, ![2048, 8192]⟩
abbrev S8x2048x1 : Shape := ⟨3, ![8, 2048, 1]⟩
abbrev S8x1x2048 : Shape := ⟨3, ![8, 1, 2048]⟩
abbrev S512x512 : Shape := ⟨2, ![512, 512]⟩
abbrev S128x128 : Shape := ⟨2, ![128, 128]⟩
abbrev S2048x128 : Shape := ⟨2, ![2048, 128]⟩
abbrev S1x128x1 : Shape := ⟨3, ![1, 128, 1]⟩
abbrev S1x1x2048 : Shape := ⟨3, ![1, 1, 2048]⟩
abbrev S128x1 : Shape := ⟨2, ![128, 1]⟩
abbrev S1x2048 : Shape := ⟨2, ![1, 2048]⟩
abbrev S128x2048 : Shape := ⟨2, ![128, 2048]⟩
abbrev S128 : Shape := ⟨1, ![128]⟩

abbrev nBuf : Space → Nat
  | .hbm => 6
  | .vmem => 16
  | .smem => 0
  | _ => 0

abbrev bufTy : (tb : Table) → Fin (tcTables nBuf tb) → BufTy
  | .hbm, ⟨0, _⟩ => ⟨S2048x512, .bf16⟩
  | .hbm, ⟨1, _⟩ => ⟨S2048x512, .bf16⟩
  | .hbm, ⟨2, _⟩ => ⟨S2048x8192, .f32⟩
  | .hbm, ⟨3, _⟩ => ⟨S8x2048x1, .f32⟩
  | .hbm, ⟨4, _⟩ => ⟨S8x1x2048, .f32⟩
  | .hbm, ⟨5, _⟩ => ⟨S512x512, .bf16⟩
  | .local _ .vmem, ⟨0, _⟩ => ⟨S128x128, .bf16⟩
  | .local _ .vmem, ⟨1, _⟩ => ⟨S128x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .f32⟩
  | .local _ .vmem, ⟨5, _⟩ => ⟨S2048x128, .f32⟩
  | .local _ .vmem, ⟨6, _⟩ => ⟨S1x128x1, .f32⟩
  | .local _ .vmem, ⟨7, _⟩ => ⟨S1x128x1, .f32⟩
  | .local _ .vmem, ⟨8, _⟩ => ⟨S1x128x1, .f32⟩
  | .local _ .vmem, ⟨9, _⟩ => ⟨S1x128x1, .f32⟩
  | .local _ .vmem, ⟨10, _⟩ => ⟨S1x1x2048, .f32⟩
  | .local _ .vmem, ⟨11, _⟩ => ⟨S1x1x2048, .f32⟩
  | .local _ .vmem, ⟨12, _⟩ => ⟨S1x1x2048, .f32⟩
  | .local _ .vmem, ⟨13, _⟩ => ⟨S1x1x2048, .f32⟩
  | .local _ .vmem, ⟨14, _⟩ => ⟨S128x128, .bf16⟩
  | .local _ .vmem, ⟨15, _⟩ => ⟨S128x128, .bf16⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c12_i32 : BitVec 32 := 12#32
  let v1 : BitVec 32 := Scalar.addi c12_i32 arg1
  let c0_i32 : BitVec 32 := 0#32
  let c0_i32_0 : BitVec 32 := 0#32
  ![v0.toNat, v1.toNat, c0_i32.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c1_i32 : BitVec 32 := 1#32
  let v1 : BitVec 32 := Scalar.addi v0 c1_i32
  let c12_i32 : BitVec 32 := 12#32
  let v2 : BitVec 32 := Scalar.addi c12_i32 arg1
  let c0_i32 : BitVec 32 := 0#32
  let c0_i32_0 : BitVec 32 := 0#32
  ![v1.toNat, v2.toNat, c0_i32.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c0_i32 : BitVec 32 := 0#32
  let c0_i32_0 : BitVec 32 := 0#32
  let c0_i32_1 : BitVec 32 := 0#32
  ![v0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  let c0_i32_1 : BitVec 32 := 0#32
  ![v1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S128x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S128x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Kernel28Ideal.lean ====
variable {F : FTy → Type} [FloatOps F] [Named F]
def κ : String → Option EReal := fun
  | "mask" => some ⊥
  | _ => none
-- ==== Reference28Ideal.lean ====
abbrev S2048x512 : Shape := ⟨2, ![2048, 512]⟩
abbrev S2048x8192 : Shape := ⟨2, ![2048, 8192]⟩
abbrev S8x2048x1 : Shape := ⟨3, ![8, 2048, 1]⟩
abbrev S8x1x2048 : Shape := ⟨3, ![8, 1, 2048]⟩
abbrev S512x512 : Shape := ⟨2, ![512, 512]⟩
abbrev S8x512x1 : Shape := ⟨3, ![8, 512, 1]⟩
abbrev S512x8x64 : Shape := ⟨3, ![512, 8, 64]⟩
abbrev S8x512x64 : Shape := ⟨3, ![8, 512, 64]⟩
abbrev S2048x8x64 : Shape := ⟨3, ![2048, 8, 64]⟩
abbrev S8x2048x64 : Shape := ⟨3, ![8, 2048, 64]⟩
abbrev S8x512x2048 : Shape := ⟨3, ![8, 512, 2048]⟩
abbrev S512 : Shape := ⟨1, ![512]⟩
abbrev S_ : Shape := ⟨0, ![]⟩
abbrev S512x1 : Shape := ⟨2, ![512, 1]⟩
abbrev S2048 : Shape := ⟨1, ![2048]⟩
abbrev S1x2048 : Shape := ⟨2, ![1, 2048]⟩
abbrev S512x2048 : Shape := ⟨2, ![512, 2048]⟩
abbrev S8x512 : Shape := ⟨2, ![8, 512]⟩
abbrev S8x64x512 : Shape := ⟨3, ![8, 64, 512]⟩

abbrev nBuf : Space → Nat
  | .hbm => 54
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S2048x512, .bf16⟩
  | .hbm, ⟨2, _⟩ => ⟨S2048x8192, .f32⟩
  | .hbm, ⟨3, _⟩ => ⟨S8x2048x1, .f32⟩
  | .hbm, ⟨4, _⟩ => ⟨S8x1x2048, .f32⟩
  | .hbm, ⟨5, _⟩ => ⟨S512x512, .bf16⟩
  | .hbm, ⟨6, _⟩ => ⟨S512x512, .f32⟩
  | .hbm, ⟨7, _⟩ => ⟨S2048x512, .f32⟩
  | .hbm, ⟨8, _⟩ => ⟨S2048x512, .f32⟩
  | .hbm, ⟨9, _⟩ => ⟨S8x512x1, .f32⟩
  | .hbm, ⟨10, _⟩ => ⟨S512x8x64, .f32⟩
  | .hbm, ⟨11, _⟩ => ⟨S8x512x64, .f32⟩
  | .hbm, ⟨12, _⟩ => ⟨S2048x8x64, .f32⟩
  | .hbm, ⟨13, _⟩ => ⟨S8x2048x64, .f32⟩
  | .hbm, ⟨14, _⟩ => ⟨S2048x8x64, .f32⟩
  | .hbm, ⟨15, _⟩ => ⟨S8x2048x64, .f32⟩
  | .hbm, ⟨16, _⟩ => ⟨S8x512x2048, .f32⟩
  | .hbm, ⟨17, _⟩ => ⟨S8x512x2048, .f32⟩
  | .hbm, ⟨18, _⟩ => ⟨S8x512x2048, .f32⟩
  | .hbm, ⟨19, _⟩ => ⟨S8x512x2048, .f32⟩
  | .hbm, ⟨20, _⟩ => ⟨S8x512x2048, .f32⟩
  | .hbm, ⟨21, _⟩ => ⟨S512, .i32⟩
  | .hbm, ⟨22, _⟩ => ⟨S_, .i32⟩
  | .hbm, ⟨23, _⟩ => ⟨S512, .i32⟩
  | .hbm, ⟨24, _⟩ => ⟨S512, .i32⟩
  | .hbm, ⟨25, _⟩ => ⟨S512x1, .i32⟩
  | .hbm, ⟨26, _⟩ => ⟨S2048, .i32⟩
  | .hbm, ⟨27, _⟩ => ⟨S1x2048, .i32⟩
  | .hbm, ⟨28, _⟩ => ⟨S512x2048, .i32⟩
  | .hbm, ⟨29, _⟩ => ⟨S512x2048, .i32⟩
  | .hbm, ⟨30, _⟩ => ⟨S512x2048, .i1⟩
  | .hbm, ⟨31, _⟩ => ⟨S_, .f32⟩
  | .hbm, ⟨32, _⟩ => ⟨S_, .f32⟩
  | .hbm, ⟨33, _⟩ => ⟨S8x512x2048, .i1⟩
  | .hbm, ⟨34, _⟩ => ⟨S8x512x2048, .f32⟩
  | .hbm, ⟨35, _⟩ => ⟨S8x512x2048, .f32⟩
  | .hbm, ⟨36, _⟩ => ⟨S_, .f32⟩
  | .hbm, ⟨37, _⟩ => ⟨S8x512, .f32⟩
  | .hbm, ⟨38, _⟩ => ⟨S_, .f32⟩
  | .hbm, ⟨39, _⟩ => ⟨S8x512, .f32⟩
  | .hbm, ⟨40, _⟩ => ⟨S8x512, .f32⟩
  | .hbm, ⟨41, _⟩ => ⟨S8x512x1, .f32⟩
  | .hbm, ⟨42, _⟩ => ⟨S8x512x2048, .f32⟩
  | .hbm, ⟨43, _⟩ => ⟨S8x512x2048, .f32⟩
  | .hbm, ⟨44, _⟩ => ⟨S8x512x2048, .f32⟩
  | .hbm, ⟨45, _⟩ => ⟨S_, .f32⟩
  | .hbm, ⟨46, _⟩ => ⟨S8x512, .f32⟩
  | .hbm, ⟨47, _⟩ => ⟨S8x512x1, .f32⟩
  | .hbm, ⟨48, _⟩ => ⟨S8x512x2048, .f32⟩
  | .hbm, ⟨49, _⟩ => ⟨S8x512x2048, .f32⟩
  | .hbm, ⟨50, _⟩ => ⟨S8x64x512, .f32⟩
  | .hbm, ⟨51, _⟩ => ⟨S512x8x64, .f32⟩
  | .hbm, ⟨52, _⟩ => ⟨S512x512, .f32⟩
  | .hbm, ⟨53, _⟩ => ⟨S512x512, .bf16⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_c : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_v25 : Ref sig .tc := ⟨.hbm, 35, rfl⟩
abbrev main_cst_0 : Ref sig .tc := ⟨.hbm, 36, rfl⟩
abbrev main_v26 : Ref sig .tc := ⟨.hbm, 37, rfl⟩
abbrev main_cst_1 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_2 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]
-- ==== Kernel29.lean ====
abbrev S2048x512 : Shape := ⟨2, ![2048, 512]⟩
abbrev S2048x8192 : Shape := ⟨2, ![2048, 8192]⟩
abbrev S8x2048x1 : Shape := ⟨3, ![8, 2048, 1]⟩
abbrev S8x1x2048 : Shape := ⟨3, ![8, 1, 2048]⟩
abbrev S512x512 : Shape := ⟨2, ![512, 512]⟩
abbrev S128x128 : Shape := ⟨2, ![128, 128]⟩
abbrev S1536x128 : Shape := ⟨2, ![1536, 128]⟩
abbrev S1x128x1 : Shape := ⟨3, ![1, 128, 1]⟩
abbrev S1x1x1536 : Shape := ⟨3, ![1, 1, 1536]⟩
abbrev S128x1 : Shape := ⟨2, ![128, 1]⟩
abbrev S1x1536 : Shape := ⟨2, ![1, 1536]⟩
abbrev S128x1536 : Shape := ⟨2, ![128, 1536]⟩
abbrev S128 : Shape := ⟨1, ![128]⟩

abbrev nBuf : Space → Nat
  | .hbm => 6
  | .vmem => 16
  | .smem => 0
  | _ => 0

abbrev bufTy : (tb : Table) → Fin (tcTables nBuf tb) → BufTy
  | .hbm, ⟨0, _⟩ => ⟨S2048x512, .bf16⟩
  | .hbm, ⟨1, _⟩ => ⟨S2048x512, .bf16⟩
  | .hbm, ⟨2, _⟩ => ⟨S2048x8192, .f32⟩
  | .hbm, ⟨3, _⟩ => ⟨S8x2048x1, .f32⟩
  | .hbm, ⟨4, _⟩ => ⟨S8x1x2048, .f32⟩
  | .hbm, ⟨5, _⟩ => ⟨S512x512, .bf16⟩
  | .local _ .vmem, ⟨0, _⟩ => ⟨S128x128, .bf16⟩
  | .local _ .vmem, ⟨1, _⟩ => ⟨S128x128, .bf16⟩
  | .local _ .vmem, ⟨2, _⟩ => ⟨S1536x128, .bf16⟩
  | .local _ .vmem, ⟨3, _⟩ => ⟨S1536x128, .bf16⟩
  | .local _ .vmem, ⟨4, _⟩ => ⟨S1536x128, .f32⟩
  | .local _ .vmem, ⟨5, _⟩ => ⟨S1536x128, .f32⟩
  | .local _ .vmem, ⟨6, _⟩ => ⟨S1x128x1, .f32⟩
  | .local _ .vmem, ⟨7, _⟩ => ⟨S1x128x1, .f32⟩
  | .local _ .vmem, ⟨8, _⟩ => ⟨S1x128x1, .f32⟩
  | .local _ .vmem, ⟨9, _⟩ => ⟨S1x128x1, .f32⟩
  | .local _ .vmem, ⟨10, _⟩ => ⟨S1x1x1536, .f32⟩
  | .local _ .vmem, ⟨11, _⟩ => ⟨S1x1x1536, .f32⟩
  | .local _ .vmem, ⟨12, _⟩ => ⟨S1x1x1536, .f32⟩
  | .local _ .vmem, ⟨13, _⟩ => ⟨S1x1x1536, .f32⟩
  | .local _ .vmem, ⟨14, _⟩ => ⟨S128x128, .bf16⟩
  | .local _ .vmem, ⟨15, _⟩ => ⟨S128x128, .bf16⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c8_i32 : BitVec 32 := 8#32
  let v1 : BitVec 32 := Scalar.addi c8_i32 arg1
  let c0_i32 : BitVec 32 := 0#32
  let c0_i32_0 : BitVec 32 := 0#32
  ![v0.toNat, v1.toNat, c0_i32.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c1_i32 : BitVec 32 := 1#32
  let v1 : BitVec 32 := Scalar.addi v0 c1_i32
  let c8_i32 : BitVec 32 := 8#32
  let v2 : BitVec 32 := Scalar.addi c8_i32 arg1
  let c0_i32 : BitVec 32 := 0#32
  let c0_i32_0 : BitVec 32 := 0#32
  ![v1.toNat, v2.toNat, c0_i32.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c0_i32 : BitVec 32 := 0#32
  let c0_i32_0 : BitVec 32 := 0#32
  let c0_i32_1 : BitVec 32 := 0#32
  ![v0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  let c0_i32_1 : BitVec 32 := 0#32
  ![v1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S128x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1536x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1536x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S128x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Kernel29Ideal.lean ====
variable {F : FTy → Type} [FloatOps F] [Named F]
def κ : String → Option EReal := fun
  | "mask" => some ⊥
  | _ => none
-- ==== Reference29Ideal.lean ====
abbrev S2048x512 : Shape := ⟨2, ![2048, 512]⟩
abbrev S2048x8192 : Shape := ⟨2, ![2048, 8192]⟩
abbrev S8x2048x1 : Shape := ⟨3, ![8, 2048, 1]⟩
abbrev S8x1x2048 : Shape := ⟨3, ![8, 1, 2048]⟩
abbrev S512x512 : Shape := ⟨2, ![512, 512]⟩
abbrev S1536x512 : Shape := ⟨2, ![1536, 512]⟩
abbrev S8x512x1 : Shape := ⟨3, ![8, 512, 1]⟩
abbrev S8x1x1536 : Shape := ⟨3, ![8, 1, 1536]⟩
abbrev S512x8x64 : Shape := ⟨3, ![512, 8, 64]⟩
abbrev S8x512x64 : Shape := ⟨3, ![8, 512, 64]⟩
abbrev S1536x8x64 : Shape := ⟨3, ![1536, 8, 64]⟩
abbrev S8x1536x64 : Shape := ⟨3, ![8, 1536, 64]⟩
abbrev S8x512x1536 : Shape := ⟨3, ![8, 512, 1536]⟩
abbrev S512 : Shape := ⟨1, ![512]⟩
abbrev S_ : Shape := ⟨0, ![]⟩
abbrev S512x1 : Shape := ⟨2, ![512, 1]⟩
abbrev S1536 : Shape := ⟨1, ![1536]⟩
abbrev S1x1536 : Shape := ⟨2, ![1, 1536]⟩
abbrev S512x1536 : Shape := ⟨2, ![512, 1536]⟩
abbrev S8x512 : Shape := ⟨2, ![8, 512]⟩
abbrev S8x64x512 : Shape := ⟨3, ![8, 64, 512]⟩

abbrev nBuf : Space → Nat
  | .hbm => 56
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S2048x512, .bf16⟩
  | .hbm, ⟨2, _⟩ => ⟨S2048x8192, .f32⟩
  | .hbm, ⟨3, _⟩ => ⟨S8x2048x1, .f32⟩
  | .hbm, ⟨4, _⟩ => ⟨S8x1x2048, .f32⟩
  | .hbm, ⟨5, _⟩ => ⟨S512x512, .bf16⟩
  | .hbm, ⟨6, _⟩ => ⟨S512x512, .f32⟩
  | .hbm, ⟨7, _⟩ => ⟨S1536x512, .bf16⟩
  | .hbm, ⟨8, _⟩ => ⟨S1536x512, .f32⟩
  | .hbm, ⟨9, _⟩ => ⟨S1536x512, .f32⟩
  | .hbm, ⟨10, _⟩ => ⟨S8x512x1, .f32⟩
  | .hbm, ⟨11, _⟩ => ⟨S8x1x1536, .f32⟩
  | .hbm, ⟨12, _⟩ => ⟨S512x8x64, .f32⟩
  | .hbm, ⟨13, _⟩ => ⟨S8x512x64, .f32⟩
  | .hbm, ⟨14, _⟩ => ⟨S1536x8x64, .f32⟩
  | .hbm, ⟨15, _⟩ => ⟨S8x1536x64, .f32⟩
  | .hbm, ⟨16, _⟩ => ⟨S1536x8x64, .f32⟩
  | .hbm, ⟨17, _⟩ => ⟨S8x1536x64, .f32⟩
  | .hbm, ⟨18, _⟩ => ⟨S8x512x1536, .f32⟩
  | .hbm, ⟨19, _⟩ => ⟨S8x512x1536, .f32⟩
  | .hbm, ⟨20, _⟩ => ⟨S8x512x1536, .f32⟩
  | .hbm, ⟨21, _⟩ => ⟨S8x512x1536, .f32⟩
  | .hbm, ⟨22, _⟩ => ⟨S8x512x1536, .f32⟩
  | .hbm, ⟨23, _⟩ => ⟨S512, .i32⟩
  | .hbm, ⟨24, _⟩ => ⟨S_, .i32⟩
  | .hbm, ⟨25, _⟩ => ⟨S512, .i32⟩
  | .hbm, ⟨26, _⟩ => ⟨S512, .i32⟩
  | .hbm, ⟨27, _⟩ => ⟨S512x1, .i32⟩
  | .hbm, ⟨28, _⟩ => ⟨S1536, .i32⟩
  | .hbm, ⟨29, _⟩ => ⟨S1x1536, .i32⟩
  | .hbm, ⟨30, _⟩ => ⟨S512x1536, .i32⟩
  | .hbm, ⟨31, _⟩ => ⟨S512x1536, .i32⟩
  | .hbm, ⟨32, _⟩ => ⟨S512x1536, .i1⟩
  | .hbm, ⟨33, _⟩ => ⟨S_, .f32⟩
  | .hbm, ⟨34, _⟩ => ⟨S_, .f32⟩
  | .hbm, ⟨35, _⟩ => ⟨S8x512x1536, .i1⟩
  | .hbm, ⟨36, _⟩ => ⟨S8x512x1536, .f32⟩
  | .hbm, ⟨37, _⟩ => ⟨S8x512x1536, .f32⟩
  | .hbm, ⟨38, _⟩ => ⟨S_, .f32⟩
  | .hbm, ⟨39, _⟩ => ⟨S8x512, .f32⟩
  | .hbm, ⟨40, _⟩ => ⟨S_, .f32⟩
  | .hbm, ⟨41, _⟩ => ⟨S8x512, .f32⟩
  | .hbm, ⟨42, _⟩ => ⟨S8x512, .f32⟩
  | .hbm, ⟨43, _⟩ => ⟨S8x512x1, .f32⟩
  | .hbm, ⟨44, _⟩ => ⟨S8x512x1536, .f32⟩
  | .hbm, ⟨45, _⟩ => ⟨S8x512x1536, .f32⟩
  | .hbm, ⟨46, _⟩ => ⟨S8x512x1536, .f32⟩
  | .hbm, ⟨47, _⟩ => ⟨S_, .f32⟩
  | .hbm, ⟨48, _⟩ => ⟨S8x512, .f32⟩
  | .hbm, ⟨49, _⟩ => ⟨S8x512x1, .f32⟩
  | .hbm, ⟨50, _⟩ => ⟨S8x512x1536, .f32⟩
  | .hbm, ⟨51, _⟩ => ⟨S8x512x1536, .f32⟩
  | .hbm, ⟨52, _⟩ => ⟨S8x64x512, .f32⟩
  | .hbm, ⟨53, _⟩ => ⟨S512x8x64, .f32⟩
  | .hbm, ⟨54, _⟩ => ⟨S512x512, .f32⟩
  | .hbm, ⟨55, _⟩ => ⟨S512x512, .bf16⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_c : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_v27 : Ref sig .tc := ⟨.hbm, 37, rfl⟩
abbrev main_cst_0 : Ref sig .tc := ⟨.hbm, 38, rfl⟩
abbrev main_v28 : Ref sig .tc := ⟨.hbm, 39, rfl⟩
abbrev main_cst_1 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_2 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩

abbrev nD : Nat := 1
abbrev τ : Topo := Topo.v7x

variable {F : FTy → Type} [FloatOps F]
-- ==== Kernel30.lean ====
abbrev S2048x512 : Shape := ⟨2, ![2048, 512]⟩
abbrev S2048x8192 : Shape := ⟨2, ![2048, 8192]⟩
abbrev S8x2048x1 : Shape := ⟨3, ![8, 2048, 1]⟩
abbrev S8x1x2048 : Shape := ⟨3, ![8, 1, 2048]⟩
abbrev S512x512 : Shape := ⟨2, ![512, 512]⟩
abbrev S128x128 : Shape := ⟨2, ![128, 128]⟩
abbrev S1024x128 : Shape := ⟨2, ![1024, 128]⟩
abbrev S1x128x1 : Shape := ⟨3, ![1, 128, 1]⟩
abbrev S1x1x1024 : Shape := ⟨3, ![1, 1, 1024]⟩
abbrev S128x1 : Shape := ⟨2, ![128, 1]⟩
abbrev S1x1024 : Shape := ⟨2, ![1, 1024]⟩
abbrev S128x1024 : Shape := ⟨2, ![128, 1024]⟩
abbrev S128 : Shape := ⟨1, ![128]⟩

abbrev nBuf : Space → Nat
  | .hbm => 6
  | .vmem => 16
  | .smem => 0
  | _ => 0

abbrev bufTy : (tb : Table) → Fin (tcTables nBuf tb) → BufTy
  | .hbm, ⟨0, _⟩ => ⟨S2048x512, .bf16⟩
  | .hbm, ⟨1, _⟩ => ⟨S2048x512, .bf16⟩
  | .hbm, ⟨2, _⟩ => ⟨S2048x8192, .f32⟩
  | .hbm, ⟨3, _⟩ => ⟨S8x2048x1, .f32⟩
  | .hbm, ⟨4, _⟩ => ⟨S8x1x2048, .f32⟩
  | .hbm, ⟨5, _⟩ => ⟨S512x512, .bf16⟩
  | .local _ .vmem, ⟨0, _⟩ => ⟨S128x128, .bf16⟩
  | .local _ .vmem, ⟨1, _⟩ => ⟨S128x128, .bf16⟩
  | .local _ .vmem, ⟨2, _⟩ => ⟨S1024x128, .bf16⟩
  | .local _ .vmem, ⟨3, _⟩ => ⟨S1024x128, .bf16⟩
  | .local _ .vmem, ⟨4, _⟩ => ⟨S1024x128, .f32⟩
  | .local _ .vmem, ⟨5, _⟩ => ⟨S1024x128, .f32⟩
  | .local _ .vmem, ⟨6, _⟩ => ⟨S1x128x1, .f32⟩
  | .local _ .vmem, ⟨7, _⟩ => ⟨S1x128x1, .f32⟩
  | .local _ .vmem, ⟨8, _⟩ => ⟨S1x128x1, .f32⟩
  | .local _ .vmem, ⟨9, _⟩ => ⟨S1x128x1, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S128x128, .bf16⟩
  | .local _ .vmem, ⟨15, _⟩ => ⟨S128x128, .bf16⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c4_i32 : BitVec 32 := 4#32
  let v1 : BitVec 32 := Scalar.addi c4_i32 arg1
  let c0_i32 : BitVec 32 := 0#32
  let c0_i32_0 : BitVec 32 := 0#32
  ![v0.toNat, v1.toNat, c0_i32.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c1_i32 : BitVec 32 := 1#32
  let v1 : BitVec 32 := Scalar.addi v0 c1_i32
  let c4_i32 : BitVec 32 := 4#32
  let v2 : BitVec 32 := Scalar.addi c4_i32 arg1
  let c0_i32 : BitVec 32 := 0#32
  let c0_i32_0 : BitVec 32 := 0#32
  ![v1.toNat, v2.toNat, c0_i32.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c0_i32 : BitVec 32 := 0#32
  let c0_i32_0 : BitVec 32 := 0#32
  let c0_i32_1 : BitVec 32 := 0#32
  ![v0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  let c0_i32_1 : BitVec 32 := 0#32
  ![v1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S128x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S128x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Kernel30Ideal.lean ====
variable {F : FTy → Type} [FloatOps F] [Named F]
def κ : String → Option EReal := fun
  | "mask" => some ⊥
  | _ => none
-- ==== Reference30Ideal.lean ====
abbrev S2048x512 : Shape := ⟨2, ![2048, 512]⟩
abbrev S2048x8192 : Shape := ⟨2, ![2048, 8192]⟩
abbrev S8x2048x1 : Shape := ⟨3, ![8, 2048, 1]⟩
abbrev S8x1x2048 : Shape := ⟨3, ![8, 1, 2048]⟩
abbrev S512x512 : Shape := ⟨2, ![512, 512]⟩
abbrev S1024x512 : Shape := ⟨2, ![1024, 512]⟩
abbrev S8x512x1 : Shape := ⟨3, ![8, 512, 1]⟩
abbrev S8x1x1024 : Shape := ⟨3, ![8, 1, 1024]⟩
abbrev S512x8x64 : Shape := ⟨3, ![512, 8, 64]⟩
abbrev S8x512x64 : Shape := ⟨3, ![8, 512, 64]⟩
abbrev S1024x8x64 : Shape := ⟨3, ![1024, 8, 64]⟩
abbrev S8x1024x64 : Shape := ⟨3, ![8, 1024, 64]⟩
abbrev S8x512x1024 : Shape := ⟨3, ![8, 512, 1024]⟩
abbrev S512 : Shape := ⟨1, ![512]⟩
abbrev S_ : Shape := ⟨0, ![]⟩
abbrev S512x1 : Shape := ⟨2, ![512, 1]⟩
abbrev S1024 : Shape := ⟨1, ![1024]⟩
abbrev S1x1024 : Shape := ⟨2, ![1, 1024]⟩
abbrev S512x1024 : Shape := ⟨2, ![512, 1024]⟩
abbrev S8x512 : Shape := ⟨2, ![8, 512]⟩
abbrev S8x64x512 : Shape := ⟨3, ![8, 64, 512]⟩

abbrev nBuf : Space → Nat
  | .hbm => 56
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S2048x512, .bf16⟩
  | .hbm, ⟨2, _⟩ => ⟨S2048x8192, .f32⟩
  | .hbm, ⟨3, _⟩ => ⟨S8x2048x1, .f32⟩
  | .hbm, ⟨4, _⟩ => ⟨S8x1x2048, .f32⟩
  | .hbm, ⟨5, _⟩ => ⟨S512x512, .bf16⟩
  | .hbm, ⟨6, _⟩ => ⟨S512x512, .f32⟩
  | .hbm, ⟨7, _⟩ => ⟨S1024x512, .bf16⟩
  | .hbm, ⟨8, _⟩ => ⟨S1024x512, .f32⟩
  | .hbm, ⟨9, _⟩ => ⟨S1024x512, .f32⟩
  | .hbm, ⟨10, _⟩ => ⟨S8x512x1, .f32⟩
  | .hbm, ⟨11, _⟩ => ⟨S8x1x1024, .f32⟩
  | .hbm, ⟨12, _⟩ => ⟨S512x8x64, .f32⟩
  | .hbm, ⟨13, _⟩ => ⟨S8x512x64, .f32⟩
  | .hbm, ⟨14, _⟩ => ⟨S1024x8x64, .f32⟩
  | .hbm, ⟨15, _⟩ => ⟨S8x1024x64, .f32⟩
  | .hbm, ⟨16, _⟩ => ⟨S1024x8x64, .f32⟩
  | .hbm, ⟨17, _⟩ => ⟨S8x1024x64, .f32⟩
  | .hbm, ⟨18, _⟩ => ⟨S8x512x1024, .f32⟩
  | .hbm, ⟨19, _⟩ => ⟨S8x512x1024, .f32⟩
  | .hbm, ⟨20, _⟩ => ⟨S8x512x1024, .f32⟩
  | .hbm, ⟨21, _⟩ => ⟨S8x512x1024, .f32⟩
  | .hbm, ⟨22, _⟩ => ⟨S8x512x1024, .f32⟩
  | .hbm, ⟨23, _⟩ => ⟨S512, .i32⟩
  | .hbm, ⟨24, _⟩ => ⟨S_, .i32⟩
  | .hbm, ⟨25, _⟩ => ⟨S512, .i32⟩
  | .hbm, ⟨26, _⟩ => ⟨S512, .i32⟩
  | .hbm, ⟨27, _⟩ => ⟨S512x1, .i32⟩
  | .hbm, ⟨28, _⟩ => ⟨S1024, .i32⟩
  | .hbm, ⟨29, _⟩ => ⟨S1x1024, .i32⟩
  | .hbm, ⟨30, _⟩ => ⟨S512x1024, .i32⟩
  | .hbm, ⟨31, _⟩ => ⟨S512x1024, .i32⟩
  | .hbm, ⟨32, _⟩ => ⟨S512x1024, .i1⟩
  | .hbm, ⟨33, _⟩ => ⟨S_, .f32⟩
  | .hbm, ⟨34, _⟩ => ⟨S_, .f32⟩
  | .hbm, ⟨35, _⟩ => ⟨S8x512x1024, .i1⟩
  | .hbm, ⟨36, _⟩ => ⟨S8x512x1024, .f32⟩
  | .hbm, ⟨37, _⟩ => ⟨S8x512x1024, .f32⟩
  | .hbm, ⟨38, _⟩ => ⟨S_, .f32⟩
  | .hbm, ⟨39, _⟩ => ⟨S8x512, .f32⟩
  | .hbm, ⟨40, _⟩ => ⟨S_, .f32⟩
  | .hbm, ⟨41, _⟩ => ⟨S8x512, .f32⟩
  | .hbm, ⟨42, _⟩ => ⟨S8x512, .f32⟩
  | .hbm, ⟨43, _⟩ => ⟨S8x512x1, .f32⟩
  | .hbm, ⟨44, _⟩ => ⟨S8x512x1024, .f32⟩
  | .hbm, ⟨45, _⟩ => ⟨S8x512x1024, .f32⟩
  | .hbm, ⟨46, _⟩ => ⟨S8x512x1024, .f32⟩
  | .hbm, ⟨47, _⟩ => ⟨S_, .f32⟩
  | .hbm, ⟨48, _⟩ => ⟨S8x512, .f32⟩
  | .hbm, ⟨49, _⟩ => ⟨S8x512x1, .f32⟩
  | .hbm, ⟨50, _⟩ => ⟨S8x512x1024, .f32⟩
  | .hbm, ⟨51, _⟩ => ⟨S8x512x1024, .f32⟩
  | .hbm, ⟨52, _⟩ => ⟨S8x64x512, .f32⟩
  | .hbm, ⟨53, _⟩ => ⟨S512x8x64, .f32⟩
  | .hbm, ⟨54, _⟩ => ⟨S512x512, .f32⟩
  | .hbm, ⟨55, _⟩ => ⟨S512x512, .bf16⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_c : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_v27 : Ref sig .tc := ⟨.hbm, 37, rfl⟩
abbrev main_cst_0 : Ref sig .tc := ⟨.hbm, 38, rfl⟩
abbrev main_v28 : Ref sig .tc := ⟨.hbm, 39, rfl⟩
abbrev main_cst_1 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_2 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩

abbrev nD : Nat := 1
abbrev τ : Topo := Topo.v7x

variable {F : FTy → Type} [FloatOps F]
-- ==== Kernel31.lean ====
abbrev S2048x512 : Shape := ⟨2, ![2048, 512]⟩
abbrev S2048x8192 : Shape := ⟨2, ![2048, 8192]⟩
abbrev S8x2048x1 : Shape := ⟨3, ![8, 2048, 1]⟩
abbrev S8x1x2048 : Shape := ⟨3, ![8, 1, 2048]⟩
abbrev S512x512 : Shape := ⟨2, ![512, 512]⟩
abbrev S128x128 : Shape := ⟨2, ![128, 128]⟩
abbrev S512x128 : Shape := ⟨2, ![512, 128]⟩
abbrev S1x128x1 : Shape := ⟨3, ![1, 128, 1]⟩
abbrev S1x1x512 : Shape := ⟨3, ![1, 1, 512]⟩
abbrev S128x1 : Shape := ⟨2, ![128, 1]⟩
abbrev S1x512 : Shape := ⟨2, ![1, 512]⟩
abbrev S128x512 : Shape := ⟨2, ![128, 512]⟩
abbrev S128 : Shape := ⟨1, ![128]⟩

abbrev nBuf : Space → Nat
  | .hbm => 6
  | .vmem => 16
  | .smem => 0
  | _ => 0

abbrev bufTy : (tb : Table) → Fin (tcTables nBuf tb) → BufTy
  | .hbm, ⟨0, _⟩ => ⟨S2048x512, .bf16⟩
  | .hbm, ⟨1, _⟩ => ⟨S2048x512, .bf16⟩
  | .hbm, ⟨2, _⟩ => ⟨S2048x8192, .f32⟩
  | .hbm, ⟨3, _⟩ => ⟨S8x2048x1, .f32⟩
  | .hbm, ⟨4, _⟩ => ⟨S8x1x2048, .f32⟩
  | .hbm, ⟨5, _⟩ => ⟨S512x512, .bf16⟩
  | .local _ .vmem, ⟨0, _⟩ => ⟨S128x128, .bf16⟩
  | .local _ .vmem, ⟨1, _⟩ => ⟨S128x128, .bf16⟩
  | .local _ .vmem, ⟨2, _⟩ => ⟨S512x128, .bf16⟩
  | .local _ .vmem, ⟨3, _⟩ => ⟨S512x128, .bf16⟩
  | .local _ .vmem, ⟨4, _⟩ => ⟨S512x128, .f32⟩
  | .local _ .vmem, ⟨5, _⟩ => ⟨S512x128, .f32⟩
  | .local _ .vmem, ⟨6, _⟩ => ⟨S1x128x1, .f32⟩
  | .local _ .vmem, ⟨7, _⟩ => ⟨S1x128x1, .f32⟩
  | .local _ .vmem, ⟨8, _⟩ => ⟨S1x128x1, .f32⟩
  | .local _ .vmem, ⟨9, _⟩ => ⟨S1x128x1, .f32⟩
  | .local _ .vmem, ⟨10, _⟩ => ⟨S1x1x512, .f32⟩
  | .local _ .vmem, ⟨11, _⟩ => ⟨S1x1x512, .f32⟩
  | .local _ .vmem, ⟨12, _⟩ => ⟨S1x1x512, .f32⟩
  | .local _ .vmem, ⟨13, _⟩ => ⟨S1x1x512, .f32⟩
  | .local _ .vmem, ⟨14, _⟩ => ⟨S128x128, .bf16⟩
  | .local _ .vmem, ⟨15, _⟩ => ⟨S128x128, .bf16⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c0_i32 : BitVec 32 := 0#32
  let v1 : BitVec 32 := Scalar.addi c0_i32 arg1
  let c0_i32_0 : BitVec 32 := 0#32
  let c0_i32_1 : BitVec 32 := 0#32
  ![v0.toNat, v1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let v2 : BitVec 32 := Scalar.addi c0_i32 arg1
  let c0_i32_0 : BitVec 32 := 0#32
  let c0_i32_1 : BitVec 32 := 0#32
  ![v1.toNat, v2.toNat, c0_i32_0.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c0_i32 : BitVec 32 := 0#32
  let c0_i32_0 : BitVec 32 := 0#32
  let c0_i32_1 : BitVec 32 := 0#32
  ![v0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  let c0_i32_1 : BitVec 32 := 0#32
  ![v1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S128x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S128x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Kernel31Ideal.lean ====
variable {F : FTy → Type} [FloatOps F] [Named F]
def κ : String → Option EReal := fun
  | "mask" => some ⊥
  | _ => none
-- ==== Reference31Ideal.lean ====
abbrev S2048x512 : Shape := ⟨2, ![2048, 512]⟩
abbrev S2048x8192 : Shape := ⟨2, ![2048, 8192]⟩
abbrev S8x2048x1 : Shape := ⟨3, ![8, 2048, 1]⟩
abbrev S8x1x2048 : Shape := ⟨3, ![8, 1, 2048]⟩
abbrev S512x512 : Shape := ⟨2, ![512, 512]⟩
abbrev S8x512x1 : Shape := ⟨3, ![8, 512, 1]⟩
abbrev S8x1x512 : Shape := ⟨3, ![8, 1, 512]⟩
abbrev S512x8x64 : Shape := ⟨3, ![512, 8, 64]⟩
abbrev S8x512x64 : Shape := ⟨3, ![8, 512, 64]⟩
abbrev S8x512x512 : Shape := ⟨3, ![8, 512, 512]⟩
abbrev S512 : Shape := ⟨1, ![512]⟩
abbrev S512x1 : Shape := ⟨2, ![512, 1]⟩
abbrev S1x512 : Shape := ⟨2, ![1, 512]⟩
abbrev S_ : Shape := ⟨0, ![]⟩
abbrev S8x512 : Shape := ⟨2, ![8, 512]⟩
abbrev S8x64x512 : Shape := ⟨3, ![8, 64, 512]⟩

abbrev nBuf : Space → Nat
  | .hbm => 53
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S2048x512, .bf16⟩
  | .hbm, ⟨2, _⟩ => ⟨S2048x8192, .f32⟩
  | .hbm, ⟨3, _⟩ => ⟨S8x2048x1, .f32⟩
  | .hbm, ⟨4, _⟩ => ⟨S8x1x2048, .f32⟩
  | .hbm, ⟨5, _⟩ => ⟨S512x512, .bf16⟩
  | .hbm, ⟨6, _⟩ => ⟨S512x512, .f32⟩
  | .hbm, ⟨7, _⟩ => ⟨S512x512, .bf16⟩
  | .hbm, ⟨8, _⟩ => ⟨S512x512, .f32⟩
  | .hbm, ⟨9, _⟩ => ⟨S512x512, .f32⟩
  | .hbm, ⟨10, _⟩ => ⟨S8x512x1, .f32⟩
  | .hbm, ⟨11, _⟩ => ⟨S8x1x512, .f32⟩
  | .hbm, ⟨12, _⟩ => ⟨S512x8x64, .f32⟩
  | .hbm, ⟨13, _⟩ => ⟨S8x512x64, .f32⟩
  | .hbm, ⟨14, _⟩ => ⟨S512x8x64, .f32⟩
  | .hbm, ⟨15, _⟩ => ⟨S8x512x64, .f32⟩
  | .hbm, ⟨16, _⟩ => ⟨S512x8x64, .f32⟩
  | .hbm, ⟨17, _⟩ => ⟨S8x512x64, .f32⟩
  | .hbm, ⟨18, _⟩ => ⟨S8x512x512, .f32⟩
  | .hbm, ⟨19, _⟩ => ⟨S8x512x512, .f32⟩
  | .hbm, ⟨20, _⟩ => ⟨S8x512x512, .f32⟩
  | .hbm, ⟨21, _⟩ => ⟨S8x512x512, .f32⟩
  | .hbm, ⟨22, _⟩ => ⟨S8x512x512, .f32⟩
  | .hbm, ⟨23, _⟩ => ⟨S512, .i32⟩
  | .hbm, ⟨24, _⟩ => ⟨S512x1, .i32⟩
  | .hbm, ⟨25, _⟩ => ⟨S512, .i32⟩
  | .hbm, ⟨26, _⟩ => ⟨S1x512, .i32⟩
  | .hbm, ⟨27, _⟩ => ⟨S512x512, .i32⟩
  | .hbm, ⟨28, _⟩ => ⟨S512x512, .i32⟩
  | .hbm, ⟨29, _⟩ => ⟨S512x512, .i1⟩
  | .hbm, ⟨30, _⟩ => ⟨S_, .f32⟩
  | .hbm, ⟨31, _⟩ => ⟨S_, .f32⟩
  | .hbm, ⟨32, _⟩ => ⟨S8x512x512, .i1⟩
  | .hbm, ⟨33, _⟩ => ⟨S8x512x512, .f32⟩
  | .hbm, ⟨34, _⟩ => ⟨S8x512x512, .f32⟩
  | .hbm, ⟨35, _⟩ => ⟨S_, .f32⟩
  | .hbm, ⟨36, _⟩ => ⟨S8x512, .f32⟩
  | .hbm, ⟨37, _⟩ => ⟨S_, .f32⟩
  | .hbm, ⟨38, _⟩ => ⟨S8x512, .f32⟩
  | .hbm, ⟨39, _⟩ => ⟨S8x512, .f32⟩
  | .hbm, ⟨40, _⟩ => ⟨S8x512x1, .f32⟩
  | .hbm, ⟨41, _⟩ => ⟨S8x512x512, .f32⟩
  | .hbm, ⟨42, _⟩ => ⟨S8x512x512, .f32⟩
  | .hbm, ⟨43, _⟩ => ⟨S8x512x512, .f32⟩
  | .hbm, ⟨44, _⟩ => ⟨S_, .f32⟩
  | .hbm, ⟨45, _⟩ => ⟨S8x512, .f32⟩
  | .hbm, ⟨46, _⟩ => ⟨S8x512x1, .f32⟩
  | .hbm, ⟨47, _⟩ => ⟨S8x512x512, .f32⟩
  | .hbm, ⟨48, _⟩ => ⟨S8x512x512, .f32⟩
  | .hbm, ⟨49, _⟩ => ⟨S8x64x512, .f32⟩
  | .hbm, ⟨50, _⟩ => ⟨S512x8x64, .f32⟩
  | .hbm, ⟨51, _⟩ => ⟨S512x512, .f32⟩
  | .hbm, ⟨52, _⟩ => ⟨S512x512, .bf16⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_cst : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_v25 : Ref sig .tc := ⟨.hbm, 34, rfl⟩
abbrev main_cst_0 : Ref sig .tc := ⟨.hbm, 35, rfl⟩
abbrev main_v26 : Ref sig .tc := ⟨.hbm, 36, rfl⟩
abbrev main_cst_1 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_2 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩

abbrev nD : Nat := 1
abbrev τ : Topo := Topo.v7x

variable {F : FTy → Type} [FloatOps F]
-- ==== Kernel32.lean ====
abbrev S2048x512 : Shape := ⟨2, ![2048, 512]⟩
abbrev S2048x8192 : Shape := ⟨2, ![2048, 8192]⟩
abbrev S8x2048x1 : Shape := ⟨3, ![8, 2048, 1]⟩
abbrev S8x1x2048 : Shape := ⟨3, ![8, 1, 2048]⟩
abbrev S4x1x2048 : Shape := ⟨3, ![4, 1, 2048]⟩
abbrev S512x512 : Shape := ⟨2, ![512, 512]⟩
abbrev S1536x512 : Shape := ⟨2, ![1536, 512]⟩
abbrev S4x512x1 : Shape := ⟨3, ![4, 512, 1]⟩
abbrev S4x1x1536 : Shape := ⟨3, ![4, 1, 1536]⟩
abbrev S128x128 : Shape := ⟨2, ![128, 128]⟩
abbrev S1536x128 : Shape := ⟨2, ![1536, 128]⟩
abbrev S1x128x1 : Shape := ⟨3, ![1, 128, 1]⟩
abbrev S1x1x1536 : Shape := ⟨3, ![1, 1, 1536]⟩
abbrev S128x1 : Shape := ⟨2, ![128, 1]⟩
abbrev S1x1536 : Shape := ⟨2, ![1, 1536]⟩
abbrev S128x1536 : Shape := ⟨2, ![128, 1536]⟩
abbrev S128 : Shape := ⟨1, ![128]⟩
abbrev S1536 : Shape := ⟨1, ![1536]⟩

abbrev nBuf : Space → Nat
  | .hbm => 17
  | .vmem => 38
  | .smem => 0
  | _ => 0

abbrev bufTy : (tb : Table) → Fin (tcTables nBuf tb) → BufTy
  | .hbm, ⟨0, _⟩ => ⟨S2048x512, .bf16⟩
  | .hbm, ⟨1, _⟩ => ⟨S2048x512, .bf16⟩
  | .hbm, ⟨2, _⟩ => ⟨S2048x8192, .f32⟩
  | .hbm, ⟨3, _⟩ => ⟨S8x2048x1, .f32⟩
  | .hbm, ⟨4, _⟩ => ⟨S8x1x2048, .f32⟩
  | .hbm, ⟨5, _⟩ => ⟨S2048x512, .f32⟩
  | .hbm, ⟨6, _⟩ => ⟨S2048x512, .f32⟩
  | .hbm, ⟨7, _⟩ => ⟨S2048x512, .f32⟩
  | .hbm, ⟨8, _⟩ => ⟨S4x1x2048, .f32⟩
  | .hbm, ⟨9, _⟩ => ⟨S4x1x2048, .f32⟩
  | .hbm, ⟨10, _⟩ => ⟨S512x512, .f32⟩
  | .hbm, ⟨11, _⟩ => ⟨S1536x512, .f32⟩
  | .hbm, ⟨12, _⟩ => ⟨S1536x512, .f32⟩
  | .hbm, ⟨13, _⟩ => ⟨S4x512x1, .f32⟩
  | .hbm, ⟨14, _⟩ => ⟨S4x512x1, .f32⟩
  | .hbm, ⟨15, _⟩ => ⟨S4x1x1536, .f32⟩
  | .hbm, ⟨16, _⟩ => ⟨S4x1x1536, .f32⟩
  | .local _ .vmem, ⟨0, _⟩ => ⟨S128x128, .bf16⟩
  | .local _ .vmem, ⟨1, _⟩ => ⟨S128x128, .bf16⟩
  | .local _ .vmem, ⟨2, _⟩ => ⟨S1536x128, .bf16⟩
  | .local _ .vmem, ⟨3, _⟩ => ⟨S1536x128, .bf16⟩
  | .local _ .vmem, ⟨4, _⟩ => ⟨S1536x128, .f32⟩
  | .local _ .vmem, ⟨5, _⟩ => ⟨S1536x128, .f32⟩
  | .local _ .vmem, ⟨6, _⟩ => ⟨S1x128x1, .f32⟩
  | .local _ .vmem, ⟨7, _⟩ => ⟨S1x128x1, .f32⟩
  | .local _ .vmem, ⟨8, _⟩ => ⟨S1x128x1, .f32⟩
  | .local _ .vmem, ⟨9, _⟩ => ⟨S1x128x1, .f32⟩
  | .local _ .vmem, ⟨10, _⟩ => ⟨S1x1x1536, .f32⟩
  | .local _ .vmem, ⟨11, _⟩ => ⟨S1x1x1536, .f32⟩
  | .local _ .vmem, ⟨12, _⟩ => ⟨S1x1x1536, .f32⟩
  | .local _ .vmem, ⟨13, _⟩ => ⟨S1x1x1536, .f32⟩
  | .local _ .vmem, ⟨14, _⟩ => ⟨S128x128, .f32⟩
  | .local _ .vmem, ⟨15, _⟩ => ⟨S128x128, .f32⟩
  | .local _ .vmem, ⟨16, _⟩ => ⟨S1536x128, .f32⟩
  | .local _ .vmem, ⟨17, _⟩ => ⟨S1536x128, .f32⟩
  | .local _ .vmem, ⟨18, _⟩ => ⟨S1536x128, .f32⟩
  | .local _ .vmem, ⟨19, _⟩ => ⟨S1536x128, .f32⟩
  | .local _ .vmem, ⟨20, _⟩ => ⟨S1x1x1536, .f32⟩
  | .local _ .vmem, ⟨21, _⟩ => ⟨S1x1x1536, .f32⟩
  | .local _ .vmem, ⟨22, _⟩ => ⟨S1x1x1536, .f32⟩
  | .local _ .vmem, ⟨23, _⟩ => ⟨S1x1x1536, .f32⟩
  | .local _ .vmem, ⟨24, _⟩ => ⟨S128x128, .f32⟩
  | .local _ .vmem, ⟨25, _⟩ => ⟨S128x128, .f32⟩
  | .local _ .vmem, ⟨26, _⟩ => ⟨S1536x128, .f32⟩
  | .local _ .vmem, ⟨27, _⟩ => ⟨S1536x128, .f32⟩
  | .local _ .vmem, ⟨28, _⟩ => ⟨S1536x128, .f32⟩
  | .local _ .vmem, ⟨29, _⟩ => ⟨S1536x128, .f32⟩
  | .local _ .vmem, ⟨30, _⟩ => ⟨S1x128x1, .f32⟩
  | .local _ .vmem, ⟨31, _⟩ => ⟨S1x128x1, .f32⟩
  | .local _ .vmem, ⟨32, _⟩ => ⟨S1x128x1, .f32⟩
  | .local _ .vmem, ⟨33, _⟩ => ⟨S1x128x1, .f32⟩
  | .local _ .vmem, ⟨34, _⟩ => ⟨S1x1x1536, .f32⟩
  | .local _ .vmem, ⟨35, _⟩ => ⟨S1x1x1536, .f32⟩
  | .local _ .vmem, ⟨36, _⟩ => ⟨S1x1x1536, .f32⟩
  | .local _ .vmem, ⟨37, _⟩ => ⟨S1x1x1536, .f32⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev main_v0_4 : Ref sig .tc := ⟨.hbm, 14, rfl⟩
abbrev main_v0_5 : Ref sig .tc := ⟨.hbm, 15, rfl⟩
abbrev main_v0_6 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v177 : BitVec 32 := Scalar.extui v0
  let c0_i32_78 : BitVec 32 := 0#32
  let v178 : BitVec 1 := Scalar.cmpi .ne v177 c0_i32_78
  v178

def k0_cond2 (i : grid0.Coords) : BitVec 1 :=
  let arg1 : BitVec 32 := BitVec.ofNat 32 (i 1).val
  let c0_i32 : BitVec 32 := 0#32
  let v0 : BitVec 1 := Scalar.cmpi .eq arg1 c0_i32
  let v_true : BitVec 1 := 1#1
  let v179 : BitVec 1 := Scalar.xori v0 v_true
  let v180 : BitVec 32 := Scalar.extui v179
  let c0_i32_79 : BitVec 32 := 0#32
  let v181 : BitVec 1 := Scalar.cmpi .ne v180 c0_i32_79
  v181

def k0_cond3 (i : grid0.Coords) : BitVec 1 :=
  let arg1 : BitVec 32 := BitVec.ofNat 32 (i 1).val
  let c0_i32_0 : BitVec 32 := 0#32
  let v1 : BitVec 1 := Scalar.cmpi .eq arg1 c0_i32_0
  let v182 : BitVec 32 := Scalar.extui v1
  let c0_i32_80 : BitVec 32 := 0#32
  let v183 : BitVec 1 := Scalar.cmpi .ne v182 c0_i32_80
  v183

def k0_cond4 (i : grid0.Coords) : BitVec 1 :=
  let arg1 : BitVec 32 := BitVec.ofNat 32 (i 1).val
  let c0_i32_0 : BitVec 32 := 0#32
  let v1 : BitVec 1 := Scalar.cmpi .eq arg1 c0_i32_0
  let true_81 : BitVec 1 := 1#1
  let v184 : BitVec 1 := Scalar.xori v1 true_81
  let v185 : BitVec 32 := Scalar.extui v184
  let c0_i32_82 : BitVec 32 := 0#32
  let v186 : BitVec 1 := Scalar.cmpi .ne v185 c0_i32_82
  v186

def k0_cond5 (i : grid0.Coords) : BitVec 1 :=
  let arg1 : BitVec 32 := BitVec.ofNat 32 (i 1).val
  let c0_i32_1 : BitVec 32 := 0#32
  let v2 : BitVec 1 := Scalar.cmpi .eq arg1 c0_i32_1
  let v192 : BitVec 32 := Scalar.extui v2
  let c0_i32_89 : BitVec 32 := 0#32
  let v193 : BitVec 1 := Scalar.cmpi .ne v192 c0_i32_89
  v193

def k0_cond6 (i : grid0.Coords) : BitVec 1 :=
  let arg1 : BitVec 32 := BitVec.ofNat 32 (i 1).val
  let c0_i32_1 : BitVec 32 := 0#32
  let v2 : BitVec 1 := Scalar.cmpi .eq arg1 c0_i32_1
  let true_90 : BitVec 1 := 1#1
  let v194 : BitVec 1 := Scalar.xori v2 true_90
  let v195 : BitVec 32 := Scalar.extui v194
  let c0_i32_91 : BitVec 32 := 0#32
  let v196 : BitVec 1 := Scalar.cmpi .ne v195 c0_i32_91
  v196

def k0_cond7 (i : grid0.Coords) : BitVec 1 :=
  let arg1 : BitVec 32 := BitVec.ofNat 32 (i 1).val
  let c0_i32_2 : BitVec 32 := 0#32
  let v3 : BitVec 1 := Scalar.cmpi .eq arg1 c0_i32_2
  let v198 : BitVec 32 := Scalar.extui v3
  let c0_i32_92 : BitVec 32 := 0#32
  let v199 : BitVec 1 := Scalar.cmpi .ne v198 c0_i32_92
  v199

def k0_cond8 (i : grid0.Coords) : BitVec 1 :=
  let arg1 : BitVec 32 := BitVec.ofNat 32 (i 1).val
  let c0_i32_2 : BitVec 32 := 0#32
  let v3 : BitVec 1 := Scalar.cmpi .eq arg1 c0_i32_2
  let true_93 : BitVec 1 := 1#1
  let v200 : BitVec 1 := Scalar.xori v3 true_93
  let v201 : BitVec 32 := Scalar.extui v200
  let c0_i32_94 : BitVec 32 := 0#32
  let v202 : BitVec 1 := Scalar.cmpi .ne v201 c0_i32_94
  v202

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c8_i32 : BitVec 32 := 8#32
  let v1 : BitVec 32 := Scalar.addi c8_i32 arg1
  let c0_i32 : BitVec 32 := 0#32
  let c0_i32_0 : BitVec 32 := 0#32
  ![v0.toNat, v1.toNat, c0_i32.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c1_i32 : BitVec 32 := 1#32
  let v1 : BitVec 32 := Scalar.addi v0 c1_i32
  let c8_i32 : BitVec 32 := 8#32
  let v2 : BitVec 32 := Scalar.addi c8_i32 arg1
  let c0_i32 : BitVec 32 := 0#32
  let c0_i32_0 : BitVec 32 := 0#32
  ![v1.toNat, v2.toNat, c0_i32.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c0_i32 : BitVec 32 := 0#32
  let c0_i32_0 : BitVec 32 := 0#32
  let c0_i32_1 : BitVec 32 := 0#32
  ![v0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  let c0_i32_1 : BitVec 32 := 0#32
  ![v1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![v0.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1536x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1536x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1536x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1536x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1x1536 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x1x1536 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S128x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1536x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1536x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S1x128x1 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x128x1 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x1x1536 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]

abbrev stage0_18 : Fin 2 → Memref sig .tc .vmem S1x1x1536 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, false]
-- ==== Kernel32Ideal.lean ====
variable {F : FTy → Type} [FloatOps F] [Named F]
def κ : String → Option EReal := fun
  | "mask" => some ⊥
  | _ => none
-- ==== Reference32Ideal.lean ====
abbrev S2048x512 : Shape := ⟨2, ![2048, 512]⟩
abbrev S2048x8192 : Shape := ⟨2, ![2048, 8192]⟩
abbrev S8x2048x1 : Shape := ⟨3, ![8, 2048, 1]⟩
abbrev S8x1x2048 : Shape := ⟨3, ![8, 1, 2048]⟩
abbrev S4x1x2048 : Shape := ⟨3, ![4, 1, 2048]⟩
abbrev S512x512 : Shape := ⟨2, ![512, 512]⟩
abbrev S1536x512 : Shape := ⟨2, ![1536, 512]⟩
abbrev S8x512x1 : Shape := ⟨3, ![8, 512, 1]⟩
abbrev S8x1x1536 : Shape := ⟨3, ![8, 1, 1536]⟩
abbrev S512x8x64 : Shape := ⟨3, ![512, 8, 64]⟩
abbrev S8x512x64 : Shape := ⟨3, ![8, 512, 64]⟩
abbrev S1536x8x64 : Shape := ⟨3, ![1536, 8, 64]⟩
abbrev S8x1536x64 : Shape := ⟨3, ![8, 1536, 64]⟩
abbrev S8x512x1536 : Shape := ⟨3, ![8, 512, 1536]⟩
abbrev S512 : Shape := ⟨1, ![512]⟩
abbrev S_ : Shape := ⟨0, ![]⟩
abbrev S512x1 : Shape := ⟨2, ![512, 1]⟩
abbrev S1536 : Shape := ⟨1, ![1536]⟩
abbrev S1x1536 : Shape := ⟨2, ![1, 1536]⟩
abbrev S512x1536 : Shape := ⟨2, ![512, 1536]⟩
abbrev S8x512 : Shape := ⟨2, ![8, 512]⟩
abbrev S8x64x512 : Shape := ⟨3, ![8, 64, 512]⟩
abbrev S8x64x1536 : Shape := ⟨3, ![8, 64, 1536]⟩
abbrev S8x1536 : Shape := ⟨2, ![8, 1536]⟩
abbrev S4x512x1 : Shape := ⟨3, ![4, 512, 1]⟩
abbrev S4x1x1536 : Shape := ⟨3, ![4, 1, 1536]⟩

abbrev nBuf : Space → Nat
  | .hbm => 137
  | .vmem => 0
  | .smem => 0
  | _ => 0

abbrev hbmTy0_0 (i : Nat) : BufTy := match i % 128 with
  | 0 => ⟨S2048x512, .bf16⟩
  | 1 => ⟨S2048x512, .bf16⟩
  | 2 => ⟨S2048x8192, .f32⟩
  | 3 => ⟨S8x2048x1, .f32⟩
  | 4 => ⟨S8x1x2048, .f32⟩
  | 5 => ⟨S2048x512, .f32⟩
  | 6 => ⟨S2048x512, .f32⟩
  | 7 => ⟨S2048x512, .f32⟩
  | 8 => ⟨S4x1x2048, .f32⟩
  | 9 => ⟨S4x1x2048, .f32⟩
  | 10 => ⟨S2048x512, .f32⟩
  | 11 => ⟨S512x512, .bf16⟩
  | 12 => ⟨S512x512, .f32⟩
  | 13 => ⟨S1536x512, .bf16⟩
  | 14 => ⟨S1536x512, .f32⟩
  | 15 => ⟨S1536x512, .f32⟩
  | 16 => ⟨S8x512x1, .f32⟩
  | 17 => ⟨S8x1x1536, .f32⟩
  | 18 => ⟨S512x8x64, .f32⟩
  | 19 => ⟨S8x512x64, .f32⟩
  | 20 => ⟨S1536x8x64, .f32⟩
  | 21 => ⟨S8x1536x64, .f32⟩
  | 22 => ⟨S1536x8x64, .f32⟩
  | 23 => ⟨S8x1536x64, .f32⟩
  | 24 => ⟨S8x512x1536, .f32⟩
  | 25 => ⟨S8x512x1536, .f32⟩
  | 26 => ⟨S8x512x1536, .f32⟩
  | 27 => ⟨S8x512x1536, .f32⟩
  | 28 => ⟨S8x512x1536, .f32⟩
  | 29 => ⟨S512, .i32⟩
  | 30 => ⟨S_, .i32⟩
  | 31 => ⟨S512, .i32⟩
  | 32 => ⟨S512, .i32⟩
  | 33 => ⟨S512x1, .i32⟩
  | 34 => ⟨S1536, .i32⟩
  | 35 => ⟨S1x1536, .i32⟩
  | 36 => ⟨S512x1536, .i32⟩
  | 37 => ⟨S512x1536, .i32⟩
  | 38 => ⟨S512x1536, .i1⟩
  | 39 => ⟨S_, .f32⟩
  | 40 => ⟨S_, .f32⟩
  | 41 => ⟨S8x512x1536, .i1⟩
  | 42 => ⟨S8x512x1536, .f32⟩
  | 43 => ⟨S8x512x1536, .f32⟩
  | 44 => ⟨S_, .f32⟩
  | 45 => ⟨S8x512x1536, .f32⟩
  | 46 => ⟨S_, .f32⟩
  | 47 => ⟨S8x512, .f32⟩
  | 48 => ⟨S8x512x1, .f32⟩
  | 49 => ⟨S8x512x1536, .f32⟩
  | 50 => ⟨S8x512x1536, .i1⟩
  | 51 => ⟨S8x512x1536, .f32⟩
  | 52 => ⟨S_, .f32⟩
  | 53 => ⟨S8x512, .f32⟩
  | 54 => ⟨S_, .f32⟩
  | 55 => ⟨S8x512, .f32⟩
  | 56 => ⟨S8x512, .f32⟩
  | 57 => ⟨S_, .f32⟩
  | 58 => ⟨S8x512, .f32⟩
  | 59 => ⟨S8x512, .i1⟩
  | 60 => ⟨S_, .f32⟩
  | 61 => ⟨S8x512, .f32⟩
  | 62 => ⟨S8x512, .i1⟩
  | 63 => ⟨S_, .f32⟩
  | 64 => ⟨S8x512, .f32⟩
  | 65 => ⟨S_, .f32⟩
  | 66 => ⟨S8x512, .f32⟩
  | 67 => ⟨S_, .f32⟩
  | 68 => ⟨S8x512, .f32⟩
  | 69 => ⟨S8x512, .f32⟩
  | 70 => ⟨S8x512, .f32⟩
  | 71 => ⟨S8x512x1, .f32⟩
  | 72 => ⟨S8x512x1536, .f32⟩
  | 73 => ⟨S8x512x1536, .f32⟩
  | 74 => ⟨S8x512x1536, .f32⟩
  | 75 => ⟨S_, .f32⟩
  | 76 => ⟨S8x512, .f32⟩
  | 77 => ⟨S8x512x1, .f32⟩
  | 78 => ⟨S8x512x1536, .f32⟩
  | 79 => ⟨S8x512x1536, .f32⟩
  | 80 => ⟨S8x512x1, .f32⟩
  | 81 => ⟨S_, .f32⟩
  | 82 => ⟨S8x512x1, .f32⟩
  | 83 => ⟨S8x512x1, .f32⟩
  | 84 => ⟨S8x64x512, .f32⟩
  | 85 => ⟨S512x8x64, .f32⟩
  | 86 => ⟨S512x512, .f32⟩
  | 87 => ⟨S512x512, .f32⟩
  | 88 => ⟨S512x8x64, .f32⟩
  | 89 => ⟨S8x64x512, .f32⟩
  | 90 => ⟨S8x512x1536, .f32⟩
  | 91 => ⟨S8x64x1536, .f32⟩
  | 92 => ⟨S8x1536x64, .f32⟩
  | 93 => ⟨S8x512x1536, .f32⟩
  | 94 => ⟨S8x512x1536, .f32⟩
  | 95 => ⟨S8x512x1536, .f32⟩
  | 96 => ⟨S_, .f32⟩
  | 97 => ⟨S8x512, .f32⟩
  | 98 => ⟨S8x512x1, .f32⟩
  | 99 => ⟨S8x512x1, .f32⟩
  | 100 => ⟨S8x512x1536, .f32⟩
  | 101 => ⟨S8x512x1536, .f32⟩
  | 102 => ⟨S_, .f32⟩
  | 103 => ⟨S8x512, .f32⟩
  | 104 => ⟨S8x512x1536, .f32⟩
  | 105 => ⟨S8x512x1536, .f32⟩
  | 106 => ⟨S8x512x1536, .f32⟩
  | 107 => ⟨S_, .f32⟩
  | 108 => ⟨S8x512x1536, .f32⟩
  | 109 => ⟨S8x512x1536, .f32⟩
  | 110 => ⟨S8x512x1536, .f32⟩
  | 111 => ⟨S_, .f32⟩
  | 112 => ⟨S8x1536, .f32⟩
  | 113 => ⟨S8x1x1536, .f32⟩
  | 114 => ⟨S_, .f32⟩
  | 115 => ⟨S8x512, .f32⟩
  | 116 => ⟨S8x512x1, .f32⟩
  | 117 => ⟨S8x1536x64, .f32⟩
  | 118 => ⟨S8x512x64, .f32⟩
  | 119 => ⟨S1536x8x64, .f32⟩
  | 120 => ⟨S1536x512, .f32⟩
  | 121 => ⟨S1536x8x64, .f32⟩
  | 122 => ⟨S1536x512, .f32⟩
  | 123 => ⟨S512x8x64, .f32⟩
  | 124 => ⟨S512x512, .f32⟩
  | 125 => ⟨S1536x512, .f32⟩
  | 126 => ⟨S1536x512, .f32⟩
  | 127 => ⟨S1536x512, .f32⟩
  | _ => ⟨S2048x512, .bf16⟩

abbrev hbmTy0_1 (i : Nat) : BufTy := match i % 128 with
  | 0 => ⟨S1536x512, .f32⟩
  | 1 => ⟨S4x512x1, .f32⟩
  | 2 => ⟨S4x512x1, .f32⟩
  | 3 => ⟨S4x1x1536, .f32⟩
  | 4 => ⟨S4x1x1536, .f32⟩
  | 5 => ⟨S4x1x1536, .f32⟩
  | 6 => ⟨S4x1x1536, .f32⟩
  | 7 => ⟨S4x1x1536, .f32⟩
  | 8 => ⟨S4x1x1536, .f32⟩
  | _ => ⟨S2048x512, .bf16⟩

abbrev hbmTy (i : Nat) : BufTy := match i / 128 with
  | 0 => hbmTy0_0 i
  | 1 => hbmTy0_1 i
  | _ => ⟨S2048x512, .bf16⟩

abbrev bufTy : (tb : Table) → Fin (tcTables nBuf tb) → BufTy
  | .hbm, ⟨i, _⟩ => hbmTy i
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst : Ref sig .tc := ⟨.hbm, 39, rfl⟩
abbrev main_call0_v0 : Ref sig .tc := ⟨.hbm, 40, rfl⟩
abbrev main_v28_1 : Ref sig .tc := ⟨.hbm, 41, rfl⟩
abbrev main_call0_v2 : Ref sig .tc := ⟨.hbm, 42, rfl⟩
abbrev main_v28_0 : Ref sig .tc := ⟨.hbm, 43, rfl⟩
abbrev main_call0_cst : Ref sig .tc := ⟨.hbm, 44, rfl⟩
abbrev main_v28_2 : Ref sig .tc := ⟨.hbm, 45, rfl⟩
abbrev main_cst_0 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_1 : Ref sig .tc := ⟨.hbm, 52, rfl⟩
abbrev main_v34 : Ref sig .tc := ⟨.hbm, 53, rfl⟩
abbrev main_cst_2 : Ref sig .tc := ⟨.hbm, 54, rfl⟩
abbrev main_v35 : Ref sig .tc := ⟨.hbm, 55, rfl⟩
abbrev main_v36 : Ref sig .tc := ⟨.hbm, 56, rfl⟩
abbrev main_cst_3 : Ref sig .tc := ⟨.hbm, 57, rfl⟩
abbrev main_v37 : Ref sig .tc := ⟨.hbm, 58, rfl⟩
abbrev main_v38 : Ref sig .tc := ⟨.hbm, 59, rfl⟩
abbrev main_cst_4 : Ref sig .tc := ⟨.hbm, 60, rfl⟩
abbrev main_v39 : Ref sig .tc := ⟨.hbm, 61, rfl⟩
abbrev main_v40 : Ref sig .tc := ⟨.hbm, 62, rfl⟩
abbrev main_cst_5 : Ref sig .tc := ⟨.hbm, 63, rfl⟩
abbrev main_v41 : Ref sig .tc := ⟨.hbm, 64, rfl⟩
abbrev main_cst_6 : Ref sig .tc := ⟨.hbm, 65, rfl⟩
abbrev main_v42 : Ref sig .tc := ⟨.hbm, 66, rfl⟩
abbrev main_cst_7 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_8 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst_9 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_cst_10 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_cst_11 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_call1_cst : Ref sig .tc := ⟨.hbm, 107, rfl⟩
abbrev main_call1_v0 : Ref sig .tc := ⟨.hbm, 108, rfl⟩
abbrev main_v78 : Ref sig .tc := ⟨.hbm, 109, rfl⟩
abbrev main_v79 : Ref sig .tc := ⟨.hbm, 110, rfl⟩
abbrev main_cst_12 : Ref sig .tc := ⟨.hbm, 111, rfl⟩
abbrev main_v80 : Ref sig .tc := ⟨.hbm, 112, rfl⟩
abbrev main_v81 : Ref sig .tc := ⟨.hbm, 113, rfl⟩
abbrev main_cst_13 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩

abbrev nD : Nat := 1
abbrev τ : Topo := Topo.v7x

variable {F : FTy → Type} [FloatOps F]
-- ==== Kernel33.lean ====
abbrev S2048x512 : Shape := ⟨2, ![2048, 512]⟩
abbrev S2048x8192 : Shape := ⟨2, ![2048, 8192]⟩
abbrev S8x2048x1 : Shape := ⟨3, ![8, 2048, 1]⟩
abbrev S8x1x2048 : Shape := ⟨3, ![8, 1, 2048]⟩
abbrev S1536x512 : Shape := ⟨2, ![1536, 512]⟩
abbrev S4x1x1536 : Shape := ⟨3, ![4, 1, 1536]⟩
abbrev S512x512 : Shape := ⟨2, ![512, 512]⟩
abbrev S1024x512 : Shape := ⟨2, ![1024, 512]⟩
abbrev S4x512x1 : Shape := ⟨3, ![4, 512, 1]⟩
abbrev S4x1x1024 : Shape := ⟨3, ![4, 1, 1024]⟩
abbrev S128x128 : Shape := ⟨2, ![128, 128]⟩
abbrev S1024x128 : Shape := ⟨2, ![1024, 128]⟩
abbrev S1x128x1 : Shape := ⟨3, ![1, 128, 1]⟩
abbrev S1x1x1024 : Shape := ⟨3, ![1, 1, 1024]⟩
abbrev S128x1 : Shape := ⟨2, ![128, 1]⟩
abbrev S1x1024 : Shape := ⟨2, ![1, 1024]⟩
abbrev S128x1024 : Shape := ⟨2, ![128, 1024]⟩
abbrev S128 : Shape := ⟨1, ![128]⟩
abbrev S1024 : Shape := ⟨1, ![1024]⟩

abbrev nBuf : Space → Nat
  | .hbm => 17
  | .vmem => 38
  | .smem => 0
  | _ => 0

abbrev bufTy : (tb : Table) → Fin (tcTables nBuf tb) → BufTy
  | .hbm, ⟨0, _⟩ => ⟨S2048x512, .bf16⟩
  | .hbm, ⟨1, _⟩ => ⟨S2048x512, .bf16⟩
  | .hbm, ⟨2, _⟩ => ⟨S2048x8192, .f32⟩
  | .hbm, ⟨3, _⟩ => ⟨S8x2048x1, .f32⟩
  | .hbm, ⟨4, _⟩ => ⟨S8x1x2048, .f32⟩
  | .hbm, ⟨5, _⟩ => ⟨S2048x512, .f32⟩
  | .hbm, ⟨6, _⟩ => ⟨S1536x512, .f32⟩
  | .hbm, ⟨7, _⟩ => ⟨S1536x512, .f32⟩
  | .hbm, ⟨8, _⟩ => ⟨S4x1x1536, .f32⟩
  | .hbm, ⟨9, _⟩ => ⟨S4x1x1536, .f32⟩
  | .hbm, ⟨10, _⟩ => ⟨S512x512, .f32⟩
  | .hbm, ⟨11, _⟩ => ⟨S1024x512, .f32⟩
  | .hbm, ⟨12, _⟩ => ⟨S1024x512, .f32⟩
  | .hbm, ⟨13, _⟩ => ⟨S4x512x1, .f32⟩
  | .hbm, ⟨14, _⟩ => ⟨S4x512x1, .f32⟩
  | .hbm, ⟨15, _⟩ => ⟨S4x1x1024, .f32⟩
  | .hbm, ⟨16, _⟩ => ⟨S4x1x1024, .f32⟩
  | .local _ .vmem, ⟨0, _⟩ => ⟨S128x128, .bf16⟩
  | .local _ .vmem, ⟨1, _⟩ => ⟨S128x128, .bf16⟩
  | .local _ .vmem, ⟨2, _⟩ => ⟨S1024x128, .bf16⟩
  | .local _ .vmem, ⟨3, _⟩ => ⟨S1024x128, .bf16⟩
  | .local _ .vmem, ⟨4, _⟩ => ⟨S1024x128, .f32⟩
  | .local _ .vmem, ⟨5, _⟩ => ⟨S1024x128, .f32⟩
  | .local _ .vmem, ⟨6, _⟩ => ⟨S1x128x1, .f32⟩
  | .local _ .vmem, ⟨7, _⟩ => ⟨S1x128x1, .f32⟩
  | .local _ .vmem, ⟨8, _⟩ => ⟨S1x128x1, .f32⟩
  | .local _ .vmem, ⟨9, _⟩ => ⟨S1x128x1, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S128x128, .f32⟩
  | .local _ .vmem, ⟨15, _⟩ => ⟨S128x128, .f32⟩
  | .local _ .vmem, ⟨16, _⟩ => ⟨S1024x128, .f32⟩
  | .local _ .vmem, ⟨17, _⟩ => ⟨S1024x128, .f32⟩
  | .local _ .vmem, ⟨18, _⟩ => ⟨S1024x128, .f32⟩
  | .local _ .vmem, ⟨19, _⟩ => ⟨S1024x128, .f32⟩
  | .local _ .vmem, ⟨20, _⟩ => ⟨S1x1x1024, .f32⟩
  | .local _ .vmem, ⟨21, _⟩ => ⟨S1x1x1024, .f32⟩
  | .local _ .vmem, ⟨22, _⟩ => ⟨S1x1x1024, .f32⟩
  | .local _ .vmem, ⟨23, _⟩ => ⟨S1x1x1024, .f32⟩
  | .local _ .vmem, ⟨24, _⟩ => ⟨S128x128, .f32⟩
  | .local _ .vmem, ⟨25, _⟩ => ⟨S128x128, .f32⟩
  | .local _ .vmem, ⟨26, _⟩ => ⟨S1024x128, .f32⟩
  | .local _ .vmem, ⟨27, _⟩ => ⟨S1024x128, .f32⟩
  | .local _ .vmem, ⟨28, _⟩ => ⟨S1024x128, .f32⟩
  | .local _ .vmem, ⟨29, _⟩ => ⟨S1024x128, .f32⟩
  | .local _ .vmem, ⟨30, _⟩ => ⟨S1x128x1, .f32⟩
  | .local _ .vmem, ⟨31, _⟩ => ⟨S1x128x1, .f32⟩
  | .local _ .vmem, ⟨32, _⟩ => ⟨S1x128x1, .f32⟩
  | .local _ .vmem, ⟨33, _⟩ => ⟨S1x128x1, .f32⟩
  | .local _ .vmem, ⟨34, _⟩ => ⟨S1x1x1024, .f32⟩
  | .local _ .vmem, ⟨35, _⟩ => ⟨S1x1x1024, .f32⟩
  | .local _ .vmem, ⟨36, _⟩ => ⟨S1x1x1024, .f32⟩
  | .local _ .vmem, ⟨37, _⟩ => ⟨S1x1x1024, .f32⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev main_v0_4 : Ref sig .tc := ⟨.hbm, 14, rfl⟩
abbrev main_v0_5 : Ref sig .tc := ⟨.hbm, 15, rfl⟩
abbrev main_v0_6 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v177 : BitVec 32 := Scalar.extui v0
  let c0_i32_78 : BitVec 32 := 0#32
  let v178 : BitVec 1 := Scalar.cmpi .ne v177 c0_i32_78
  v178

def k0_cond2 (i : grid0.Coords) : BitVec 1 :=
  let arg1 : BitVec 32 := BitVec.ofNat 32 (i 1).val
  let c0_i32 : BitVec 32 := 0#32
  let v0 : BitVec 1 := Scalar.cmpi .eq arg1 c0_i32
  let v_true : BitVec 1 := 1#1
  let v179 : BitVec 1 := Scalar.xori v0 v_true
  let v180 : BitVec 32 := Scalar.extui v179
  let c0_i32_79 : BitVec 32 := 0#32
  let v181 : BitVec 1 := Scalar.cmpi .ne v180 c0_i32_79
  v181

def k0_cond3 (i : grid0.Coords) : BitVec 1 :=
  let arg1 : BitVec 32 := BitVec.ofNat 32 (i 1).val
  let c0_i32_0 : BitVec 32 := 0#32
  let v1 : BitVec 1 := Scalar.cmpi .eq arg1 c0_i32_0
  let v182 : BitVec 32 := Scalar.extui v1
  let c0_i32_80 : BitVec 32 := 0#32
  let v183 : BitVec 1 := Scalar.cmpi .ne v182 c0_i32_80
  v183

def k0_cond4 (i : grid0.Coords) : BitVec 1 :=
  let arg1 : BitVec 32 := BitVec.ofNat 32 (i 1).val
  let c0_i32_0 : BitVec 32 := 0#32
  let v1 : BitVec 1 := Scalar.cmpi .eq arg1 c0_i32_0
  let true_81 : BitVec 1 := 1#1
  let v184 : BitVec 1 := Scalar.xori v1 true_81
  let v185 : BitVec 32 := Scalar.extui v184
  let c0_i32_82 : BitVec 32 := 0#32
  let v186 : BitVec 1 := Scalar.cmpi .ne v185 c0_i32_82
  v186

def k0_cond5 (i : grid0.Coords) : BitVec 1 :=
  let arg1 : BitVec 32 := BitVec.ofNat 32 (i 1).val
  let c0_i32_1 : BitVec 32 := 0#32
  let v2 : BitVec 1 := Scalar.cmpi .eq arg1 c0_i32_1
  let v192 : BitVec 32 := Scalar.extui v2
  let c0_i32_89 : BitVec 32 := 0#32
  let v193 : BitVec 1 := Scalar.cmpi .ne v192 c0_i32_89
  v193

def k0_cond6 (i : grid0.Coords) : BitVec 1 :=
  let arg1 : BitVec 32 := BitVec.ofNat 32 (i 1).val
  let c0_i32_1 : BitVec 32 := 0#32
  let v2 : BitVec 1 := Scalar.cmpi .eq arg1 c0_i32_1
  let true_90 : BitVec 1 := 1#1
  let v194 : BitVec 1 := Scalar.xori v2 true_90
  let v195 : BitVec 32 := Scalar.extui v194
  let c0_i32_91 : BitVec 32 := 0#32
  let v196 : BitVec 1 := Scalar.cmpi .ne v195 c0_i32_91
  v196

def k0_cond7 (i : grid0.Coords) : BitVec 1 :=
  let arg1 : BitVec 32 := BitVec.ofNat 32 (i 1).val
  let c0_i32_2 : BitVec 32 := 0#32
  let v3 : BitVec 1 := Scalar.cmpi .eq arg1 c0_i32_2
  let v198 : BitVec 32 := Scalar.extui v3
  let c0_i32_92 : BitVec 32 := 0#32
  let v199 : BitVec 1 := Scalar.cmpi .ne v198 c0_i32_92
  v199

def k0_cond8 (i : grid0.Coords) : BitVec 1 :=
  let arg1 : BitVec 32 := BitVec.ofNat 32 (i 1).val
  let c0_i32_2 : BitVec 32 := 0#32
  let v3 : BitVec 1 := Scalar.cmpi .eq arg1 c0_i32_2
  let true_93 : BitVec 1 := 1#1
  let v200 : BitVec 1 := Scalar.xori v3 true_93
  let v201 : BitVec 32 := Scalar.extui v200
  let c0_i32_94 : BitVec 32 := 0#32
  let v202 : BitVec 1 := Scalar.cmpi .ne v201 c0_i32_94
  v202

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c4_i32 : BitVec 32 := 4#32
  let v1 : BitVec 32 := Scalar.addi c4_i32 arg1
  let c0_i32 : BitVec 32 := 0#32
  let c0_i32_0 : BitVec 32 := 0#32
  ![v0.toNat, v1.toNat, c0_i32.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c1_i32 : BitVec 32 := 1#32
  let v1 : BitVec 32 := Scalar.addi v0 c1_i32
  let c4_i32 : BitVec 32 := 4#32
  let v2 : BitVec 32 := Scalar.addi c4_i32 arg1
  let c0_i32 : BitVec 32 := 0#32
  let c0_i32_0 : BitVec 32 := 0#32
  ![v1.toNat, v2.toNat, c0_i32.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c0_i32 : BitVec 32 := 0#32
  let c0_i32_0 : BitVec 32 := 0#32
  let c0_i32_1 : BitVec 32 := 0#32
  ![v0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  let c0_i32_1 : BitVec 32 := 0#32
  ![v1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![v0.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x1x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S128x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1024x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1024x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S1x128x1 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x128x1 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x1x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]

abbrev stage0_18 : Fin 2 → Memref sig .tc .vmem S1x1x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, false]
-- ==== Kernel33Ideal.lean ====
variable {F : FTy → Type} [FloatOps F] [Named F]
def κ : String → Option EReal := fun
  | "mask" => some ⊥
  | _ => none
-- ==== Reference33Ideal.lean ====
abbrev S2048x512 : Shape := ⟨2, ![2048, 512]⟩
abbrev S2048x8192 : Shape := ⟨2, ![2048, 8192]⟩
abbrev S8x2048x1 : Shape := ⟨3, ![8, 2048, 1]⟩
abbrev S8x1x2048 : Shape := ⟨3, ![8, 1, 2048]⟩
abbrev S1536x512 : Shape := ⟨2, ![1536, 512]⟩
abbrev S4x1x1536 : Shape := ⟨3, ![4, 1, 1536]⟩
abbrev S512x512 : Shape := ⟨2, ![512, 512]⟩
abbrev S1024x512 : Shape := ⟨2, ![1024, 512]⟩
abbrev S8x512x1 : Shape := ⟨3, ![8, 512, 1]⟩
abbrev S8x1x1024 : Shape := ⟨3, ![8, 1, 1024]⟩
abbrev S512x8x64 : Shape := ⟨3, ![512, 8, 64]⟩
abbrev S8x512x64 : Shape := ⟨3, ![8, 512, 64]⟩
abbrev S1024x8x64 : Shape := ⟨3, ![1024, 8, 64]⟩
abbrev S8x1024x64 : Shape := ⟨3, ![8, 1024, 64]⟩
abbrev S8x512x1024 : Shape := ⟨3, ![8, 512, 1024]⟩
abbrev S512 : Shape := ⟨1, ![512]⟩
abbrev S_ : Shape := ⟨0, ![]⟩
abbrev S512x1 : Shape := ⟨2, ![512, 1]⟩
abbrev S1024 : Shape := ⟨1, ![1024]⟩
abbrev S1x1024 : Shape := ⟨2, ![1, 1024]⟩
abbrev S512x1024 : Shape := ⟨2, ![512, 1024]⟩
abbrev S8x512 : Shape := ⟨2, ![8, 512]⟩
abbrev S8x64x512 : Shape := ⟨3, ![8, 64, 512]⟩
abbrev S8x64x1024 : Shape := ⟨3, ![8, 64, 1024]⟩
abbrev S8x1024 : Shape := ⟨2, ![8, 1024]⟩
abbrev S4x512x1 : Shape := ⟨3, ![4, 512, 1]⟩
abbrev S4x1x1024 : Shape := ⟨3, ![4, 1, 1024]⟩

abbrev nBuf : Space → Nat
  | .hbm => 137
  | .vmem => 0
  | .smem => 0
  | _ => 0

abbrev hbmTy0_0 (i : Nat) : BufTy := match i % 128 with
  | 0 => ⟨S2048x512, .bf16⟩
  | 1 => ⟨S2048x512, .bf16⟩
  | 2 => ⟨S2048x8192, .f32⟩
  | 3 => ⟨S8x2048x1, .f32⟩
  | 4 => ⟨S8x1x2048, .f32⟩
  | 5 => ⟨S2048x512, .f32⟩
  | 6 => ⟨S1536x512, .f32⟩
  | 7 => ⟨S1536x512, .f32⟩
  | 8 => ⟨S4x1x1536, .f32⟩
  | 9 => ⟨S4x1x1536, .f32⟩
  | 10 => ⟨S2048x512, .f32⟩
  | 11 => ⟨S512x512, .bf16⟩
  | 12 => ⟨S512x512, .f32⟩
  | 13 => ⟨S1024x512, .bf16⟩
  | 14 => ⟨S1024x512, .f32⟩
  | 15 => ⟨S1024x512, .f32⟩
  | 16 => ⟨S8x512x1, .f32⟩
  | 17 => ⟨S8x1x1024, .f32⟩
  | 18 => ⟨S512x8x64, .f32⟩
  | 19 => ⟨S8x512x64, .f32⟩
  | 20 => ⟨S1024x8x64, .f32⟩
  | 21 => ⟨S8x1024x64, .f32⟩
  | 22 => ⟨S1024x8x64, .f32⟩
  | 23 => ⟨S8x1024x64, .f32⟩
  | 24 => ⟨S8x512x1024, .f32⟩
  | 25 => ⟨S8x512x1024, .f32⟩
  | 26 => ⟨S8x512x1024, .f32⟩
  | 27 => ⟨S8x512x1024, .f32⟩
  | 28 => ⟨S8x512x1024, .f32⟩
  | 29 => ⟨S512, .i32⟩
  | 30 => ⟨S_, .i32⟩
  | 31 => ⟨S512, .i32⟩
  | 32 => ⟨S512, .i32⟩
  | 33 => ⟨S512x1, .i32⟩
  | 34 => ⟨S1024, .i32⟩
  | 35 => ⟨S1x1024, .i32⟩
  | 36 => ⟨S512x1024, .i32⟩
  | 37 => ⟨S512x1024, .i32⟩
  | 38 => ⟨S512x1024, .i1⟩
  | 39 => ⟨S_, .f32⟩
  | 40 => ⟨S_, .f32⟩
  | 41 => ⟨S8x512x1024, .i1⟩
  | 42 => ⟨S8x512x1024, .f32⟩
  | 43 => ⟨S8x512x1024, .f32⟩
  | 44 => ⟨S_, .f32⟩
  | 45 => ⟨S8x512x1024, .f32⟩
  | 46 => ⟨S_, .f32⟩
  | 47 => ⟨S8x512, .f32⟩
  | 48 => ⟨S8x512x1, .f32⟩
  | 49 => ⟨S8x512x1024, .f32⟩
  | 50 => ⟨S8x512x1024, .i1⟩
  | 51 => ⟨S8x512x1024, .f32⟩
  | 52 => ⟨S_, .f32⟩
  | 53 => ⟨S8x512, .f32⟩
  | 54 => ⟨S_, .f32⟩
  | 55 => ⟨S8x512, .f32⟩
  | 56 => ⟨S8x512, .f32⟩
  | 57 => ⟨S_, .f32⟩
  | 58 => ⟨S8x512, .f32⟩
  | 59 => ⟨S8x512, .i1⟩
  | 60 => ⟨S_, .f32⟩
  | 61 => ⟨S8x512, .f32⟩
  | 62 => ⟨S8x512, .i1⟩
  | 63 => ⟨S_, .f32⟩
  | 64 => ⟨S8x512, .f32⟩
  | 65 => ⟨S_, .f32⟩
  | 66 => ⟨S8x512, .f32⟩
  | 67 => ⟨S_, .f32⟩
  | 68 => ⟨S8x512, .f32⟩
  | 69 => ⟨S8x512, .f32⟩
  | 70 => ⟨S8x512, .f32⟩
  | 71 => ⟨S8x512x1, .f32⟩
  | 72 => ⟨S8x512x1024, .f32⟩
  | 73 => ⟨S8x512x1024, .f32⟩
  | 74 => ⟨S8x512x1024, .f32⟩
  | 75 => ⟨S_, .f32⟩
  | 76 => ⟨S8x512, .f32⟩
  | 77 => ⟨S8x512x1, .f32⟩
  | 78 => ⟨S8x512x1024, .f32⟩
  | 79 => ⟨S8x512x1024, .f32⟩
  | 80 => ⟨S8x512x1, .f32⟩
  | 81 => ⟨S_, .f32⟩
  | 82 => ⟨S8x512x1, .f32⟩
  | 83 => ⟨S8x512x1, .f32⟩
  | 84 => ⟨S8x64x512, .f32⟩
  | 85 => ⟨S512x8x64, .f32⟩
  | 86 => ⟨S512x512, .f32⟩
  | 87 => ⟨S512x512, .f32⟩
  | 88 => ⟨S512x8x64, .f32⟩
  | 89 => ⟨S8x64x512, .f32⟩
  | 90 => ⟨S8x512x1024, .f32⟩
  | 91 => ⟨S8x64x1024, .f32⟩
  | 92 => ⟨S8x1024x64, .f32⟩
  | 93 => ⟨S8x512x1024, .f32⟩
  | 94 => ⟨S8x512x1024, .f32⟩
  | 95 => ⟨S8x512x1024, .f32⟩
  | 96 => ⟨S_, .f32⟩
  | 97 => ⟨S8x512, .f32⟩
  | 98 => ⟨S8x512x1, .f32⟩
  | 99 => ⟨S8x512x1, .f32⟩
  | 100 => ⟨S8x512x1024, .f32⟩
  | 101 => ⟨S8x512x1024, .f32⟩
  | 102 => ⟨S_, .f32⟩
  | 103 => ⟨S8x512, .f32⟩
  | 104 => ⟨S8x512x1024, .f32⟩
  | 105 => ⟨S8x512x1024, .f32⟩
  | 106 => ⟨S8x512x1024, .f32⟩
  | 107 => ⟨S_, .f32⟩
  | 108 => ⟨S8x512x1024, .f32⟩
  | 109 => ⟨S8x512x1024, .f32⟩
  | 110 => ⟨S8x512x1024, .f32⟩
  | 111 => ⟨S_, .f32⟩
  | 112 => ⟨S8x1024, .f32⟩
  | 113 => ⟨S8x1x1024, .f32⟩
  | 114 => ⟨S_, .f32⟩
  | 115 => ⟨S8x512, .f32⟩
  | 116 => ⟨S8x512x1, .f32⟩
  | 117 => ⟨S8x1024x64, .f32⟩
  | 118 => ⟨S8x512x64, .f32⟩
  | 119 => ⟨S1024x8x64, .f32⟩
  | 120 => ⟨S1024x512, .f32⟩
  | 121 => ⟨S1024x8x64, .f32⟩
  | 122 => ⟨S1024x512, .f32⟩
  | 123 => ⟨S512x8x64, .f32⟩
  | 124 => ⟨S512x512, .f32⟩
  | 125 => ⟨S1024x512, .f32⟩
  | 126 => ⟨S1024x512, .f32⟩
  | 127 => ⟨S1024x512, .f32⟩
  | _ => ⟨S2048x512, .bf16⟩

abbrev hbmTy0_1 (i : Nat) : BufTy := match i % 128 with
  | 0 => ⟨S1024x512, .f32⟩
  | 1 => ⟨S4x512x1, .f32⟩
  | 2 => ⟨S4x512x1, .f32⟩
  | 3 => ⟨S4x1x1024, .f32⟩
  | 4 => ⟨S4x1x1024, .f32⟩
  | 5 => ⟨S4x1x1024, .f32⟩
  | 6 => ⟨S4x1x1024, .f32⟩
  | 7 => ⟨S4x1x1024, .f32⟩
  | 8 => ⟨S4x1x1024, .f32⟩
  | _ => ⟨S2048x512, .bf16⟩

abbrev hbmTy (i : Nat) : BufTy := match i / 128 with
  | 0 => hbmTy0_0 i
  | 1 => hbmTy0_1 i
  | _ => ⟨S2048x512, .bf16⟩

abbrev bufTy : (tb : Table) → Fin (tcTables nBuf tb) → BufTy
  | .hbm, ⟨i, _⟩ => hbmTy i
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst : Ref sig .tc := ⟨.hbm, 39, rfl⟩
abbrev main_call0_v0 : Ref sig .tc := ⟨.hbm, 40, rfl⟩
abbrev main_v28_1 : Ref sig .tc := ⟨.hbm, 41, rfl⟩
abbrev main_call0_v2 : Ref sig .tc := ⟨.hbm, 42, rfl⟩
abbrev main_v28_0 : Ref sig .tc := ⟨.hbm, 43, rfl⟩
abbrev main_call0_cst : Ref sig .tc := ⟨.hbm, 44, rfl⟩
abbrev main_v28_2 : Ref sig .tc := ⟨.hbm, 45, rfl⟩
abbrev main_cst_0 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_1 : Ref sig .tc := ⟨.hbm, 52, rfl⟩
abbrev main_v34 : Ref sig .tc := ⟨.hbm, 53, rfl⟩
abbrev main_cst_2 : Ref sig .tc := ⟨.hbm, 54, rfl⟩
abbrev main_v35 : Ref sig .tc := ⟨.hbm, 55, rfl⟩
abbrev main_v36 : Ref sig .tc := ⟨.hbm, 56, rfl⟩
abbrev main_cst_3 : Ref sig .tc := ⟨.hbm, 57, rfl⟩
abbrev main_v37 : Ref sig .tc := ⟨.hbm, 58, rfl⟩
abbrev main_v38 : Ref sig .tc := ⟨.hbm, 59, rfl⟩
abbrev main_cst_4 : Ref sig .tc := ⟨.hbm, 60, rfl⟩
abbrev main_v39 : Ref sig .tc := ⟨.hbm, 61, rfl⟩
abbrev main_v40 : Ref sig .tc := ⟨.hbm, 62, rfl⟩
abbrev main_cst_5 : Ref sig .tc := ⟨.hbm, 63, rfl⟩
abbrev main_v41 : Ref sig .tc := ⟨.hbm, 64, rfl⟩
abbrev main_cst_6 : Ref sig .tc := ⟨.hbm, 65, rfl⟩
abbrev main_v42 : Ref sig .tc := ⟨.hbm, 66, rfl⟩
abbrev main_cst_7 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_8 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst_9 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_cst_10 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_cst_11 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_call1_cst : Ref sig .tc := ⟨.hbm, 107, rfl⟩
abbrev main_call1_v0 : Ref sig .tc := ⟨.hbm, 108, rfl⟩
abbrev main_v78 : Ref sig .tc := ⟨.hbm, 109, rfl⟩
abbrev main_v79 : Ref sig .tc := ⟨.hbm, 110, rfl⟩
abbrev main_cst_12 : Ref sig .tc := ⟨.hbm, 111, rfl⟩
abbrev main_v80 : Ref sig .tc := ⟨.hbm, 112, rfl⟩
abbrev main_v81 : Ref sig .tc := ⟨.hbm, 113, rfl⟩
abbrev main_cst_13 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩

abbrev nD : Nat := 1
abbrev τ : Topo := Topo.v7x

variable {F : FTy → Type} [FloatOps F]
-- ==== Kernel34.lean ====
abbrev S2048x512 : Shape := ⟨2, ![2048, 512]⟩
abbrev S2048x8192 : Shape := ⟨2, ![2048, 8192]⟩
abbrev S8x2048x1 : Shape := ⟨3, ![8, 2048, 1]⟩
abbrev S8x1x2048 : Shape := ⟨3, ![8, 1, 2048]⟩
abbrev S1024x512 : Shape := ⟨2, ![1024, 512]⟩
abbrev S4x1x1024 : Shape := ⟨3, ![4, 1, 1024]⟩
abbrev S512x512 : Shape := ⟨2, ![512, 512]⟩
abbrev S4x512x1 : Shape := ⟨3, ![4, 512, 1]⟩
abbrev S4x1x512 : Shape := ⟨3, ![4, 1, 512]⟩
abbrev S128x128 : Shape := ⟨2, ![128, 128]⟩
abbrev S512x128 : Shape := ⟨2, ![512, 128]⟩
abbrev S1x128x1 : Shape := ⟨3, ![1, 128, 1]⟩
abbrev S1x1x512 : Shape := ⟨3, ![1, 1, 512]⟩
abbrev S128x1 : Shape := ⟨2, ![128, 1]⟩
abbrev S1x512 : Shape := ⟨2, ![1, 512]⟩
abbrev S128x512 : Shape := ⟨2, ![128, 512]⟩
abbrev S128 : Shape := ⟨1, ![128]⟩
abbrev S512 : Shape := ⟨1, ![512]⟩

abbrev nBuf : Space → Nat
  | .hbm => 17
  | .vmem => 38
  | .smem => 0
  | _ => 0

abbrev bufTy : (tb : Table) → Fin (tcTables nBuf tb) → BufTy
  | .hbm, ⟨0, _⟩ => ⟨S2048x512, .bf16⟩
  | .hbm, ⟨1, _⟩ => ⟨S2048x512, .bf16⟩
  | .hbm, ⟨2, _⟩ => ⟨S2048x8192, .f32⟩
  | .hbm, ⟨3, _⟩ => ⟨S8x2048x1, .f32⟩
  | .hbm, ⟨4, _⟩ => ⟨S8x1x2048, .f32⟩
  | .hbm, ⟨5, _⟩ => ⟨S2048x512, .f32⟩
  | .hbm, ⟨6, _⟩ => ⟨S1024x512, .f32⟩
  | .hbm, ⟨7, _⟩ => ⟨S1024x512, .f32⟩
  | .hbm, ⟨8, _⟩ => ⟨S4x1x1024, .f32⟩
  | .hbm, ⟨9, _⟩ => ⟨S4x1x1024, .f32⟩
  | .hbm, ⟨10, _⟩ => ⟨S512x512, .f32⟩
  | .hbm, ⟨11, _⟩ => ⟨S512x512, .f32⟩
  | .hbm, ⟨12, _⟩ => ⟨S512x512, .f32⟩
  | .hbm, ⟨13, _⟩ => ⟨S4x512x1, .f32⟩
  | .hbm, ⟨14, _⟩ => ⟨S4x512x1, .f32⟩
  | .hbm, ⟨15, _⟩ => ⟨S4x1x512, .f32⟩
  | .hbm, ⟨16, _⟩ => ⟨S4x1x512, .f32⟩
  | .local _ .vmem, ⟨0, _⟩ => ⟨S128x128, .bf16⟩
  | .local _ .vmem, ⟨1, _⟩ => ⟨S128x128, .bf16⟩
  | .local _ .vmem, ⟨2, _⟩ => ⟨S512x128, .bf16⟩
  | .local _ .vmem, ⟨3, _⟩ => ⟨S512x128, .bf16⟩
  | .local _ .vmem, ⟨4, _⟩ => ⟨S512x128, .f32⟩
  | .local _ .vmem, ⟨5, _⟩ => ⟨S512x128, .f32⟩
  | .local _ .vmem, ⟨6, _⟩ => ⟨S1x128x1, .f32⟩
  | .local _ .vmem, ⟨7, _⟩ => ⟨S1x128x1, .f32⟩
  | .local _ .vmem, ⟨8, _⟩ => ⟨S1x128x1, .f32⟩
  | .local _ .vmem, ⟨9, _⟩ => ⟨S1x128x1, .f32⟩
  | .local _ .vmem, ⟨10, _⟩ => ⟨S1x1x512, .f32⟩
  | .local _ .vmem, ⟨11, _⟩ => ⟨S1x1x512, .f32⟩
  | .local _ .vmem, ⟨12, _⟩ => ⟨S1x1x512, .f32⟩
  | .local _ .vmem, ⟨13, _⟩ => ⟨S1x1x512, .f32⟩
  | .local _ .vmem, ⟨14, _⟩ => ⟨S128x128, .f32⟩
  | .local _ .vmem, ⟨15, _⟩ => ⟨S128x128, .f32⟩
  | .local _ .vmem, ⟨16, _⟩ => ⟨S512x128, .f32⟩
  | .local _ .vmem, ⟨17, _⟩ => ⟨S512x128, .f32⟩
  | .local _ .vmem, ⟨18, _⟩ => ⟨S512x128, .f32⟩
  | .local _ .vmem, ⟨19, _⟩ => ⟨S512x128, .f32⟩
  | .local _ .vmem, ⟨20, _⟩ => ⟨S1x1x512, .f32⟩
  | .local _ .vmem, ⟨21, _⟩ => ⟨S1x1x512, .f32⟩
  | .local _ .vmem, ⟨22, _⟩ => ⟨S1x1x512, .f32⟩
  | .local _ .vmem, ⟨23, _⟩ => ⟨S1x1x512, .f32⟩
  | .local _ .vmem, ⟨24, _⟩ => ⟨S128x128, .f32⟩
  | .local _ .vmem, ⟨25, _⟩ => ⟨S128x128, .f32⟩
  | .local _ .vmem, ⟨26, _⟩ => ⟨S512x128, .f32⟩
  | .local _ .vmem, ⟨27, _⟩ => ⟨S512x128, .f32⟩
  | .local _ .vmem, ⟨28, _⟩ => ⟨S512x128, .f32⟩
  | .local _ .vmem, ⟨29, _⟩ => ⟨S512x128, .f32⟩
  | .local _ .vmem, ⟨30, _⟩ => ⟨S1x128x1, .f32⟩
  | .local _ .vmem, ⟨31, _⟩ => ⟨S1x128x1, .f32⟩
  | .local _ .vmem, ⟨32, _⟩ => ⟨S1x128x1, .f32⟩
  | .local _ .vmem, ⟨33, _⟩ => ⟨S1x128x1, .f32⟩
  | .local _ .vmem, ⟨34, _⟩ => ⟨S1x1x512, .f32⟩
  | .local _ .vmem, ⟨35, _⟩ => ⟨S1x1x512, .f32⟩
  | .local _ .vmem, ⟨36, _⟩ => ⟨S1x1x512, .f32⟩
  | .local _ .vmem, ⟨37, _⟩ => ⟨S1x1x512, .f32⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev main_v0_4 : Ref sig .tc := ⟨.hbm, 14, rfl⟩
abbrev main_v0_5 : Ref sig .tc := ⟨.hbm, 15, rfl⟩
abbrev main_v0_6 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v177 : BitVec 32 := Scalar.extui v0
  let c0_i32_79 : BitVec 32 := 0#32
  let v178 : BitVec 1 := Scalar.cmpi .ne v177 c0_i32_79
  v178

def k0_cond2 (i : grid0.Coords) : BitVec 1 :=
  let arg1 : BitVec 32 := BitVec.ofNat 32 (i 1).val
  let c0_i32 : BitVec 32 := 0#32
  let v0 : BitVec 1 := Scalar.cmpi .eq arg1 c0_i32
  let v_true : BitVec 1 := 1#1
  let v179 : BitVec 1 := Scalar.xori v0 v_true
  let v180 : BitVec 32 := Scalar.extui v179
  let c0_i32_80 : BitVec 32 := 0#32
  let v181 : BitVec 1 := Scalar.cmpi .ne v180 c0_i32_80
  v181

def k0_cond3 (i : grid0.Coords) : BitVec 1 :=
  let arg1 : BitVec 32 := BitVec.ofNat 32 (i 1).val
  let c0_i32_0 : BitVec 32 := 0#32
  let v1 : BitVec 1 := Scalar.cmpi .eq arg1 c0_i32_0
  let v182 : BitVec 32 := Scalar.extui v1
  let c0_i32_81 : BitVec 32 := 0#32
  let v183 : BitVec 1 := Scalar.cmpi .ne v182 c0_i32_81
  v183

def k0_cond4 (i : grid0.Coords) : BitVec 1 :=
  let arg1 : BitVec 32 := BitVec.ofNat 32 (i 1).val
  let c0_i32_0 : BitVec 32 := 0#32
  let v1 : BitVec 1 := Scalar.cmpi .eq arg1 c0_i32_0
  let true_82 : BitVec 1 := 1#1
  let v184 : BitVec 1 := Scalar.xori v1 true_82
  let v185 : BitVec 32 := Scalar.extui v184
  let c0_i32_83 : BitVec 32 := 0#32
  let v186 : BitVec 1 := Scalar.cmpi .ne v185 c0_i32_83
  v186

def k0_cond5 (i : grid0.Coords) : BitVec 1 :=
  let arg1 : BitVec 32 := BitVec.ofNat 32 (i 1).val
  let c0_i32_1 : BitVec 32 := 0#32
  let v2 : BitVec 1 := Scalar.cmpi .eq arg1 c0_i32_1
  let v192 : BitVec 32 := Scalar.extui v2
  let c0_i32_90 : BitVec 32 := 0#32
  let v193 : BitVec 1 := Scalar.cmpi .ne v192 c0_i32_90
  v193

def k0_cond6 (i : grid0.Coords) : BitVec 1 :=
  let arg1 : BitVec 32 := BitVec.ofNat 32 (i 1).val
  let c0_i32_1 : BitVec 32 := 0#32
  let v2 : BitVec 1 := Scalar.cmpi .eq arg1 c0_i32_1
  let true_91 : BitVec 1 := 1#1
  let v194 : BitVec 1 := Scalar.xori v2 true_91
  let v195 : BitVec 32 := Scalar.extui v194
  let c0_i32_92 : BitVec 32 := 0#32
  let v196 : BitVec 1 := Scalar.cmpi .ne v195 c0_i32_92
  v196

def k0_cond7 (i : grid0.Coords) : BitVec 1 :=
  let arg1 : BitVec 32 := BitVec.ofNat 32 (i 1).val
  let c0_i32_2 : BitVec 32 := 0#32
  let v3 : BitVec 1 := Scalar.cmpi .eq arg1 c0_i32_2
  let v198 : BitVec 32 := Scalar.extui v3
  let c0_i32_93 : BitVec 32 := 0#32
  let v199 : BitVec 1 := Scalar.cmpi .ne v198 c0_i32_93
  v199

def k0_cond8 (i : grid0.Coords) : BitVec 1 :=
  let arg1 : BitVec 32 := BitVec.ofNat 32 (i 1).val
  let c0_i32_2 : BitVec 32 := 0#32
  let v3 : BitVec 1 := Scalar.cmpi .eq arg1 c0_i32_2
  let true_94 : BitVec 1 := 1#1
  let v200 : BitVec 1 := Scalar.xori v3 true_94
  let v201 : BitVec 32 := Scalar.extui v200
  let c0_i32_95 : BitVec 32 := 0#32
  let v202 : BitVec 1 := Scalar.cmpi .ne v201 c0_i32_95
  v202

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c0_i32 : BitVec 32 := 0#32
  let v1 : BitVec 32 := Scalar.addi c0_i32 arg1
  let c0_i32_0 : BitVec 32 := 0#32
  let c0_i32_1 : BitVec 32 := 0#32
  ![v0.toNat, v1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let v2 : BitVec 32 := Scalar.addi c0_i32 arg1
  let c0_i32_0 : BitVec 32 := 0#32
  let c0_i32_1 : BitVec 32 := 0#32
  ![v1.toNat, v2.toNat, c0_i32_0.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c0_i32 : BitVec 32 := 0#32
  let c0_i32_0 : BitVec 32 := 0#32
  let c0_i32_1 : BitVec 32 := 0#32
  ![v0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  let c0_i32_1 : BitVec 32 := 0#32
  ![v1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![v0.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x1x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S128x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S1x128x1 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x128x1 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x1x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]

abbrev stage0_18 : Fin 2 → Memref sig .tc .vmem S1x1x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, false]
-- ==== Kernel34Ideal.lean ====
variable {F : FTy → Type} [FloatOps F] [Named F]
def κ : String → Option EReal := fun
  | "mask" => some ⊥
  | _ => none
-- ==== Reference34Ideal.lean ====
abbrev S2048x512 : Shape := ⟨2, ![2048, 512]⟩
abbrev S2048x8192 : Shape := ⟨2, ![2048, 8192]⟩
abbrev S8x2048x1 : Shape := ⟨3, ![8, 2048, 1]⟩
abbrev S8x1x2048 : Shape := ⟨3, ![8, 1, 2048]⟩
abbrev S1024x512 : Shape := ⟨2, ![1024, 512]⟩
abbrev S4x1x1024 : Shape := ⟨3, ![4, 1, 1024]⟩
abbrev S512x512 : Shape := ⟨2, ![512, 512]⟩
abbrev S8x512x1 : Shape := ⟨3, ![8, 512, 1]⟩
abbrev S8x1x512 : Shape := ⟨3, ![8, 1, 512]⟩
abbrev S512x8x64 : Shape := ⟨3, ![512, 8, 64]⟩
abbrev S8x512x64 : Shape := ⟨3, ![8, 512, 64]⟩
abbrev S8x512x512 : Shape := ⟨3, ![8, 512, 512]⟩
abbrev S512 : Shape := ⟨1, ![512]⟩
abbrev S512x1 : Shape := ⟨2, ![512, 1]⟩
abbrev S1x512 : Shape := ⟨2, ![1, 512]⟩
abbrev S_ : Shape := ⟨0, ![]⟩
abbrev S8x512 : Shape := ⟨2, ![8, 512]⟩
abbrev S8x64x512 : Shape := ⟨3, ![8, 64, 512]⟩
abbrev S4x512x1 : Shape := ⟨3, ![4, 512, 1]⟩
abbrev S4x1x512 : Shape := ⟨3, ![4, 1, 512]⟩

abbrev nBuf : Space → Nat
  | .hbm => 134
  | .vmem => 0
  | .smem => 0
  | _ => 0

abbrev hbmTy0_0 (i : Nat) : BufTy := match i % 128 with
  | 0 => ⟨S2048x512, .bf16⟩
  | 1 => ⟨S2048x512, .bf16⟩
  | 2 => ⟨S2048x8192, .f32⟩
  | 3 => ⟨S8x2048x1, .f32⟩
  | 4 => ⟨S8x1x2048, .f32⟩
  | 5 => ⟨S2048x512, .f32⟩
  | 6 => ⟨S1024x512, .f32⟩
  | 7 => ⟨S1024x512, .f32⟩
  | 8 => ⟨S4x1x1024, .f32⟩
  | 9 => ⟨S4x1x1024, .f32⟩
  | 10 => ⟨S2048x512, .f32⟩
  | 11 => ⟨S512x512, .bf16⟩
  | 12 => ⟨S512x512, .f32⟩
  | 13 => ⟨S512x512, .bf16⟩
  | 14 => ⟨S512x512, .f32⟩
  | 15 => ⟨S512x512, .f32⟩
  | 16 => ⟨S8x512x1, .f32⟩
  | 17 => ⟨S8x1x512, .f32⟩
  | 18 => ⟨S512x8x64, .f32⟩
  | 19 => ⟨S8x512x64, .f32⟩
  | 20 => ⟨S512x8x64, .f32⟩
  | 21 => ⟨S8x512x64, .f32⟩
  | 22 => ⟨S512x8x64, .f32⟩
  | 23 => ⟨S8x512x64, .f32⟩
  | 24 => ⟨S8x512x512, .f32⟩
  | 25 => ⟨S8x512x512, .f32⟩
  | 26 => ⟨S8x512x512, .f32⟩
  | 27 => ⟨S8x512x512, .f32⟩
  | 28 => ⟨S8x512x512, .f32⟩
  | 29 => ⟨S512, .i32⟩
  | 30 => ⟨S512x1, .i32⟩
  | 31 => ⟨S512, .i32⟩
  | 32 => ⟨S1x512, .i32⟩
  | 33 => ⟨S512x512, .i32⟩
  | 34 => ⟨S512x512, .i32⟩
  | 35 => ⟨S512x512, .i1⟩
  | 36 => ⟨S_, .f32⟩
  | 37 => ⟨S_, .f32⟩
  | 38 => ⟨S8x512x512, .i1⟩
  | 39 => ⟨S8x512x512, .f32⟩
  | 40 => ⟨S8x512x512, .f32⟩
  | 41 => ⟨S_, .f32⟩
  | 42 => ⟨S8x512x512, .f32⟩
  | 43 => ⟨S_, .f32⟩
  | 44 => ⟨S8x512, .f32⟩
  | 45 => ⟨S8x512x1, .f32⟩
  | 46 => ⟨S8x512x512, .f32⟩
  | 47 => ⟨S8x512x512, .i1⟩
  | 48 => ⟨S8x512x512, .f32⟩
  | 49 => ⟨S_, .f32⟩
  | 50 => ⟨S8x512, .f32⟩
  | 51 => ⟨S_, .f32⟩
  | 52 => ⟨S8x512, .f32⟩
  | 53 => ⟨S8x512, .f32⟩
  | 54 => ⟨S_, .f32⟩
  | 55 => ⟨S8x512, .f32⟩
  | 56 => ⟨S8x512, .i1⟩
  | 57 => ⟨S_, .f32⟩
  | 58 => ⟨S8x512, .f32⟩
  | 59 => ⟨S8x512, .i1⟩
  | 60 => ⟨S_, .f32⟩
  | 61 => ⟨S8x512, .f32⟩
  | 62 => ⟨S_, .f32⟩
  | 63 => ⟨S8x512, .f32⟩
  | 64 => ⟨S_, .f32⟩
  | 65 => ⟨S8x512, .f32⟩
  | 66 => ⟨S8x512, .f32⟩
  | 67 => ⟨S8x512, .f32⟩
  | 68 => ⟨S8x512x1, .f32⟩
  | 69 => ⟨S8x512x512, .f32⟩
  | 70 => ⟨S8x512x512, .f32⟩
  | 71 => ⟨S8x512x512, .f32⟩
  | 72 => ⟨S_, .f32⟩
  | 73 => ⟨S8x512, .f32⟩
  | 74 => ⟨S8x512x1, .f32⟩
  | 75 => ⟨S8x512x512, .f32⟩
  | 76 => ⟨S8x512x512, .f32⟩
  | 77 => ⟨S8x512x1, .f32⟩
  | 78 => ⟨S_, .f32⟩
  | 79 => ⟨S8x512x1, .f32⟩
  | 80 => ⟨S8x512x1, .f32⟩
  | 81 => ⟨S8x64x512, .f32⟩
  | 82 => ⟨S512x8x64, .f32⟩
  | 83 => ⟨S512x512, .f32⟩
  | 84 => ⟨S512x512, .f32⟩
  | 85 => ⟨S512x8x64, .f32⟩
  | 86 => ⟨S8x64x512, .f32⟩
  | 87 => ⟨S8x512x512, .f32⟩
  | 88 => ⟨S8x64x512, .f32⟩
  | 89 => ⟨S8x512x64, .f32⟩
  | 90 => ⟨S8x512x512, .f32⟩
  | 91 => ⟨S8x512x512, .f32⟩
  | 92 => ⟨S8x512x512, .f32⟩
  | 93 => ⟨S_, .f32⟩
  | 94 => ⟨S8x512, .f32⟩
  | 95 => ⟨S8x512x1, .f32⟩
  | 96 => ⟨S8x512x1, .f32⟩
  | 97 => ⟨S8x512x512, .f32⟩
  | 98 => ⟨S8x512x512, .f32⟩
  | 99 => ⟨S_, .f32⟩
  | 100 => ⟨S8x512, .f32⟩
  | 101 => ⟨S8x512x512, .f32⟩
  | 102 => ⟨S8x512x512, .f32⟩
  | 103 => ⟨S8x512x512, .f32⟩
  | 104 => ⟨S_, .f32⟩
  | 105 => ⟨S8x512x512, .f32⟩
  | 106 => ⟨S8x512x512, .f32⟩
  | 107 => ⟨S8x512x512, .f32⟩
  | 108 => ⟨S_, .f32⟩
  | 109 => ⟨S8x512, .f32⟩
  | 110 => ⟨S8x1x512, .f32⟩
  | 111 => ⟨S_, .f32⟩
  | 112 => ⟨S8x512, .f32⟩
  | 113 => ⟨S8x512x1, .f32⟩
  | 114 => ⟨S8x512x64, .f32⟩
  | 115 => ⟨S8x512x64, .f32⟩
  | 116 => ⟨S512x8x64, .f32⟩
  | 117 => ⟨S512x512, .f32⟩
  | 118 => ⟨S512x8x64, .f32⟩
  | 119 => ⟨S512x512, .f32⟩
  | 120 => ⟨S512x8x64, .f32⟩
  | 121 => ⟨S512x512, .f32⟩
  | 122 => ⟨S512x512, .f32⟩
  | 123 => ⟨S512x512, .f32⟩
  | 124 => ⟨S512x512, .f32⟩
  | 125 => ⟨S512x512, .f32⟩
  | 126 => ⟨S4x512x1, .f32⟩
  | 127 => ⟨S4x512x1, .f32⟩
  | _ => ⟨S2048x512, .bf16⟩

abbrev hbmTy0_1 (i : Nat) : BufTy := match i % 128 with
  | 0 => ⟨S4x1x512, .f32⟩
  | 1 => ⟨S4x1x512, .f32⟩
  | 2 => ⟨S4x1x512, .f32⟩
  | 3 => ⟨S4x1x512, .f32⟩
  | 4 => ⟨S4x1x512, .f32⟩
  | 5 => ⟨S4x1x512, .f32⟩
  | _ => ⟨S2048x512, .bf16⟩

abbrev hbmTy (i : Nat) : BufTy := match i / 128 with
  | 0 => hbmTy0_0 i
  | 1 => hbmTy0_1 i
  | _ => ⟨S2048x512, .bf16⟩

abbrev bufTy : (tb : Table) → Fin (tcTables nBuf tb) → BufTy
  | .hbm, ⟨i, _⟩ => hbmTy i
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst : Ref sig .tc := ⟨.hbm, 36, rfl⟩
abbrev main_call0_v0 : Ref sig .tc := ⟨.hbm, 37, rfl⟩
abbrev main_v26_1 : Ref sig .tc := ⟨.hbm, 38, rfl⟩
abbrev main_call0_v2 : Ref sig .tc := ⟨.hbm, 39, rfl⟩
abbrev main_v26_0 : Ref sig .tc := ⟨.hbm, 40, rfl⟩
abbrev main_call0_cst : Ref sig .tc := ⟨.hbm, 41, rfl⟩
abbrev main_v26_2 : Ref sig .tc := ⟨.hbm, 42, rfl⟩
abbrev main_cst_0 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_1 : Ref sig .tc := ⟨.hbm, 49, rfl⟩
abbrev main_v32 : Ref sig .tc := ⟨.hbm, 50, rfl⟩
abbrev main_cst_2 : Ref sig .tc := ⟨.hbm, 51, rfl⟩
abbrev main_v33 : Ref sig .tc := ⟨.hbm, 52, rfl⟩
abbrev main_v34 : Ref sig .tc := ⟨.hbm, 53, rfl⟩
abbrev main_cst_3 : Ref sig .tc := ⟨.hbm, 54, rfl⟩
abbrev main_v35 : Ref sig .tc := ⟨.hbm, 55, rfl⟩
abbrev main_v36 : Ref sig .tc := ⟨.hbm, 56, rfl⟩
abbrev main_cst_4 : Ref sig .tc := ⟨.hbm, 57, rfl⟩
abbrev main_v37 : Ref sig .tc := ⟨.hbm, 58, rfl⟩
abbrev main_v38 : Ref sig .tc := ⟨.hbm, 59, rfl⟩
abbrev main_cst_5 : Ref sig .tc := ⟨.hbm, 60, rfl⟩
abbrev main_v39 : Ref sig .tc := ⟨.hbm, 61, rfl⟩
abbrev main_cst_6 : Ref sig .tc := ⟨.hbm, 62, rfl⟩
abbrev main_v40 : Ref sig .tc := ⟨.hbm, 63, rfl⟩
abbrev main_cst_7 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_8 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_9 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_cst_10 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_cst_11 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_call1_cst : Ref sig .tc := ⟨.hbm, 104, rfl⟩
abbrev main_call1_v0 : Ref sig .tc := ⟨.hbm, 105, rfl⟩
abbrev main_v76 : Ref sig .tc := ⟨.hbm, 106, rfl⟩
abbrev main_v77 : Ref sig .tc := ⟨.hbm, 107, rfl⟩
abbrev main_cst_12 : Ref sig .tc := ⟨.hbm, 108, rfl⟩
abbrev main_v78 : Ref sig .tc := ⟨.hbm, 109, rfl⟩
abbrev main_v79 : Ref sig .tc := ⟨.hbm, 110, rfl⟩
abbrev main_cst_13 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩

abbrev nD : Nat := 1
abbrev τ : Topo := Topo.v7x

variable {F : FTy → Type} [FloatOps F]
-- ==== Kernel35.lean ====
abbrev S2048x1024 : Shape := ⟨2, ![2048, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference35Ideal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩

abbrev nBuf : Space → Nat
  | .hbm => 18
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x1, .f32⟩
  | .hbm, ⟨13, _⟩ => ⟨S2048x1024, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel36.lean ====
abbrev S2048x1024 : Shape := ⟨2, ![2048, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 6
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v40 : BitVec 32 := Scalar.extui v0
  let c0_i32_16 : BitVec 32 := 0#32
  let v41 : BitVec 1 := Scalar.cmpi .ne v40 c0_i32_16
  v41

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v42 : BitVec 1 := Scalar.xori v0 v_true
  let v43 : BitVec 32 := Scalar.extui v42
  let c0_i32_17 : BitVec 32 := 0#32
  let v44 : BitVec 1 := Scalar.cmpi .ne v43 c0_i32_17
  v44

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference36Ideal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 47
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S2048, .f32⟩
  | .hbm, ⟨32, _⟩ => ⟨S2048x1, .f32⟩
  | .hbm, ⟨33, _⟩ => ⟨S2048x1024, .f32⟩
  | .hbm, ⟨34, _⟩ => ⟨S2048x1024, .f32⟩
  | .hbm, ⟨35, _⟩ => ⟨S2048x1, .f32⟩
  | .hbm, ⟨36, _⟩ => ⟨S_, .f32⟩
  | .hbm, ⟨37, _⟩ => ⟨S2048x1, .f32⟩
  | .hbm, ⟨38, _⟩ => ⟨S2048x1, .f32⟩
  | .hbm, ⟨39, _⟩ => ⟨S_, .f32⟩
  | .hbm, ⟨40, _⟩ => ⟨S2048, .f32⟩
  | .hbm, ⟨41, _⟩ => ⟨S2048x1024, .f32⟩
  | .hbm, ⟨42, _⟩ => ⟨S2048x1024, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Kernel37.lean ====
abbrev S2048x1024 : Shape := ⟨2, ![2048, 1024]⟩
abbrev S512x1024 : Shape := ⟨2, ![512, 1024]⟩

abbrev nBuf : Space → Nat
  | .hbm => 4
  | .vmem => 8
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference37Ideal.lean ====
abbrev S2048x1024 : Shape := ⟨2, ![2048, 1024]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S_, .f32⟩
  | .hbm, ⟨6, _⟩ => ⟨S2048x1024, .f32⟩
  | .hbm, ⟨7, _⟩ => ⟨S2048x1024, .f32⟩
  | .hbm, ⟨8, _⟩ => ⟨S_, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Kernel38.lean ====
abbrev S2048x1024 : Shape := ⟨2, ![2048, 1024]⟩
abbrev S512x1024 : Shape := ⟨2, ![512, 1024]⟩

abbrev nBuf : Space → Nat
  | .hbm => 6
  | .vmem => 12
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S2048x1024, .bf16⟩
  | .hbm, ⟨5, _⟩ => ⟨S2048x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference38Ideal.lean ====
abbrev S2048x1024 : Shape := ⟨2, ![2048, 1024]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S_, .f32⟩
  | .hbm, ⟨7, _⟩ => ⟨S2048x1024, .f32⟩
  | .hbm, ⟨8, _⟩ => ⟨S2048x1024, .f32⟩
  | .hbm, ⟨9, _⟩ => ⟨S_, .f32⟩
  | .hbm, ⟨10, _⟩ => ⟨S2048x1024, .f32⟩
  | .hbm, ⟨11, _⟩ => ⟨S2048x1024, .f32⟩
  | .hbm, ⟨12, _⟩ => ⟨S_, .f32⟩
  | .hbm, ⟨13, _⟩ => ⟨S2048x1024, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S2048x1024, .bf16⟩
  | .hbm, ⟨22, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Kernel39.lean ====
abbrev S2048x1024 : Shape := ⟨2, ![2048, 1024]⟩
abbrev S2048x8192 : Shape := ⟨2, ![2048, 8192]⟩
abbrev S512x1024 : Shape := ⟨2, ![512, 1024]⟩

abbrev nBuf : Space → Nat
  | .hbm => 5
  | .vmem => 14
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x8192, .f32⟩
  | .hbm, ⟨4, _⟩ => ⟨S2048x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_4 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_5 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference39Ideal.lean ====
abbrev S2048x1024 : Shape := ⟨2, ![2048, 1024]⟩
abbrev S2048x8192 : Shape := ⟨2, ![2048, 8192]⟩
abbrev S2048x3072 : Shape := ⟨2, ![2048, 3072]⟩
abbrev S2048x1x1024 : Shape := ⟨3, ![2048, 1, 1024]⟩
abbrev S2048x3x1024 : Shape := ⟨3, ![2048, 3, 1024]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x8192, .f32⟩
  | .hbm, ⟨4, _⟩ => ⟨S2048x3072, .f32⟩
  | .hbm, ⟨5, _⟩ => ⟨S2048x1x1024, .f32⟩
  | .hbm, ⟨6, _⟩ => ⟨S2048x1x1024, .f32⟩
  | .hbm, ⟨7, _⟩ => ⟨S2048x1x1024, .f32⟩
  | .hbm, ⟨8, _⟩ => ⟨S2048x3x1024, .f32⟩
  | .hbm, ⟨9, _⟩ => ⟨S2048x3072, .f32⟩
  | .hbm, ⟨10, _⟩ => ⟨S2048x3072, .f32⟩
  | .hbm, ⟨11, _⟩ => ⟨S_, .f32⟩
  | .hbm, ⟨12, _⟩ => ⟨S2048x3072, .f32⟩
  | .hbm, ⟨13, _⟩ => ⟨S2048x3072, .f32⟩
  | .hbm, ⟨14, _⟩ => ⟨S_, .f32⟩
  | .hbm, ⟨15, _⟩ => ⟨S2048x3072, .f32⟩
  | .hbm, ⟨16, _⟩ => ⟨S2048x3072, .f32⟩
  | .hbm, ⟨17, _⟩ => ⟨S2048x3x1024, .f32⟩
  | .hbm, ⟨18, _⟩ => ⟨S2048x3x1024, .f32⟩
  | .hbm, ⟨19, _⟩ => ⟨S_, .f32⟩
  | .hbm, ⟨20, _⟩ => ⟨S2048x1024, .f32⟩
  | .hbm, ⟨21, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Kernel40.lean ====
abbrev S2048x1024 : Shape := ⟨2, ![2048, 1024]⟩
abbrev S2048x8192 : Shape := ⟨2, ![2048, 8192]⟩
abbrev S256x1024 : Shape := ⟨2, ![256, 1024]⟩

abbrev nBuf : Space → Nat
  | .hbm => 11
  | .vmem => 26
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x8192, .f32⟩
  | .hbm, ⟨4, _⟩ => ⟨S2048x1024, .f32⟩
  | .hbm, ⟨5, _⟩ => ⟨S2048x1024, .bf16⟩
  | .hbm, ⟨6, _⟩ => ⟨S2048x1024, .bf16⟩
  | .hbm, ⟨7, _⟩ => ⟨S2048x1024, .bf16⟩
  | .hbm, ⟨8, _⟩ => ⟨S2048x1024, .bf16⟩
  | .hbm, ⟨9, _⟩ => ⟨S2048x1024, .bf16⟩
  | .hbm, ⟨10, _⟩ => ⟨S2048x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | .local _ .vmem, ⟨22, _⟩ => ⟨S256x1024, .bf16⟩
  | .local _ .vmem, ⟨23, _⟩ => ⟨S256x1024, .bf16⟩
  | .local _ .vmem, ⟨24, _⟩ => ⟨S256x1024, .bf16⟩
  | .local _ .vmem, ⟨25, _⟩ => ⟨S256x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev main_v0_5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_4 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_5 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference40Ideal.lean ====
abbrev S2048x1024 : Shape := ⟨2, ![2048, 1024]⟩
abbrev S2048x8192 : Shape := ⟨2, ![2048, 8192]⟩
abbrev S2048x3072 : Shape := ⟨2, ![2048, 3072]⟩
abbrev S2048x1x1024 : Shape := ⟨3, ![2048, 1, 1024]⟩
abbrev S2048x3x1024 : Shape := ⟨3, ![2048, 3, 1024]⟩
abbrev S_ : Shape := ⟨0, ![]⟩

abbrev nBuf : Space → Nat
  | .hbm => 46
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x8192, .f32⟩
  | .hbm, ⟨4, _⟩ => ⟨S2048x1024, .f32⟩
  | .hbm, ⟨5, _⟩ => ⟨S2048x3072, .f32⟩
  | .hbm, ⟨6, _⟩ => ⟨S2048x1x1024, .f32⟩
  | .hbm, ⟨7, _⟩ => ⟨S2048x1x1024, .f32⟩
  | .hbm, ⟨8, _⟩ => ⟨S2048x1x1024, .f32⟩
  | .hbm, ⟨9, _⟩ => ⟨S2048x3x1024, .f32⟩
  | .hbm, ⟨10, _⟩ => ⟨S2048x3072, .f32⟩
  | .hbm, ⟨11, _⟩ => ⟨S2048x3072, .f32⟩
  | .hbm, ⟨12, _⟩ => ⟨S_, .f32⟩
  | .hbm, ⟨13, _⟩ => ⟨S2048x3072, .f32⟩
  | .hbm, ⟨14, _⟩ => ⟨S2048x3072, .f32⟩
  | .hbm, ⟨15, _⟩ => ⟨S_, .f32⟩
  | .hbm, ⟨16, _⟩ => ⟨S2048x3072, .f32⟩
  | .hbm, ⟨17, _⟩ => ⟨S2048x3072, .f32⟩
  | .hbm, ⟨18, _⟩ => ⟨S_, .f32⟩
  | .hbm, ⟨19, _⟩ => ⟨S2048x3072, .f32⟩
  | .hbm, ⟨20, _⟩ => ⟨S2048x3072, .f32⟩
  | .hbm, ⟨21, _⟩ => ⟨S2048x3072, .f32⟩
  | .hbm, ⟨22, _⟩ => ⟨S2048x3x1024, .f32⟩
  | .hbm, ⟨23, _⟩ => ⟨S2048x3x1024, .f32⟩
  | .hbm, ⟨24, _⟩ => ⟨S_, .f32⟩
  | .hbm, ⟨25, _⟩ => ⟨S2048x1024, .f32⟩
  | .hbm, ⟨26, _⟩ => ⟨S2048x3x1024, .f32⟩
  | .hbm, ⟨27, _⟩ => ⟨S2048x3x1024, .f32⟩
  | .hbm, ⟨28, _⟩ => ⟨S2048x3x1024, .f32⟩
  | .hbm, ⟨29, _⟩ => ⟨S2048x3072, .f32⟩
  | .hbm, ⟨30, _⟩ => ⟨S2048x3072, .f32⟩
  | .hbm, ⟨31, _⟩ => ⟨S2048x1x1024, .f32⟩
  | .hbm, ⟨32, _⟩ => ⟨S2048x1024, .f32⟩
  | .hbm, ⟨33, _⟩ => ⟨S2048x1x1024, .f32⟩
  | .hbm, ⟨34, _⟩ => ⟨S2048x1024, .f32⟩
  | .hbm, ⟨35, _⟩ => ⟨S2048x1x1024, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S2048x1024, .bf16⟩
  | .hbm, ⟨41, _⟩ => ⟨S2048x1024, .bf16⟩
  | .hbm, ⟨42, _⟩ => ⟨S2048x1024, .bf16⟩
  | .hbm, ⟨43, _⟩ => ⟨S2048x1024, .bf16⟩
  | .hbm, ⟨44, _⟩ => ⟨S2048x1024, .bf16⟩
  | .hbm, ⟨45, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩

abbrev nD : Nat := 1
abbrev τ : Topo := Topo.v7x

variable {F : FTy → Type} [FloatOps F]
-- ==== Proof.Row.lean ====
module

public import Idealize.ShloMosaic.PureOps.Ideal.Laws
public import Idealize.ShloMosaic.PureOps.Ideal

/-!
# One query's row of the forgetting attention, and of its gradient

A query scores every key it may see, `q·k + c_q − c_k`, and keys after it count as `−∞`. Its weights are the exponentials
of the scores less the greatest score, and the attention's probabilities are the weights over their total. The gradient
of the scores comes from the probabilities and from the products of the value rows with the output's gradient.

`Row` holds what one query sees of one head; `Row.prob` and `Row.slope` are the two quantities every gradient of the
attention is a sum of, written with reciprocals as a kernel multiplies by them. The lemmas at the end are the same
quantities written with divisions: they agree as soon as the weights' total is positive, which finite scores give.
-/

@[expose] public section

noncomputable section

namespace Cert.Fox

open Idealize.ShloMosaic

/-- The reciprocal, as the ideal division has it. -/
abbrev recip (x : EReal) : EReal := Ideal.div 1 x

/-- What one query of one head sees: its own 64 lanes, its decay, its place among the keys, the gradient of its output,
and for every key the key's lanes, the key's decay and the value's lanes. -/
@[ext] structure Row (n : ℕ) where
  /-- the query -/
  q : Fin 64 → EReal
  /-- the query's cumulative decay -/
  cq : EReal
  /-- the query's place among the keys -/
  pos : ℕ
  /-- the gradient of the query's output -/
  dy : Fin 64 → EReal
  /-- the keys -/
  key : Fin n → Fin 64 → EReal
  /-- the keys' cumulative decays -/
  ck : Fin n → EReal
  /-- the values -/
  val : Fin n → Fin 64 → EReal

namespace Row

variable {n : ℕ} (R : Row n)

/-- The score of key `k`: `−∞` for a key after the query. -/
def score (k : Fin n) : EReal := if k.val ≤ R.pos then (∑ d, R.q d * R.key k d) + R.cq - R.ck k else ⊥

/-- The greatest score. -/
def peak : EReal := Finset.univ.fold max ⊥ R.score

/-- The weight of key `k`. -/
def wt (k : Fin n) : EReal := Ideal.exp (R.score k - R.peak)

/-- The total of the weights. -/
def tot : EReal := ∑ k, R.wt k

/-- The gradient of the probability of key `k`: the value row against the output's gradient. -/
def dprob (k : Fin n) : EReal := ∑ d, R.dy d * R.val k d

/-- The probability of key `k`. -/
def prob (k : Fin n) : EReal := R.wt k * recip R.tot

/-- The gradient of the score of key `k`, before keys after the query are dropped. -/
def slope' (k : Fin n) : EReal :=
  (R.dprob k * recip R.tot + (0 - (∑ j, R.wt j * R.dprob j) * recip (R.tot * R.tot))) * R.wt k

/-- The gradient of the score of key `k`. -/
def slope (k : Fin n) : EReal := if k.val ≤ R.pos then R.slope' k else 0

/-- Every number the scores are made of is a real number, and the query itself is among the keys. -/
structure Real : Prop where
  q : ∀ d, R.q d ≠ ⊥ ∧ R.q d ≠ ⊤
  cq : R.cq ≠ ⊥ ∧ R.cq ≠ ⊤
  key : ∀ k d, R.key k d ≠ ⊥ ∧ R.key k d ≠ ⊤
  ck : ∀ k, R.ck k ≠ ⊥ ∧ R.ck k ≠ ⊤
  pos : 0 < n

end Row

/-! ## Finite sums of extended reals -/

/-- A constant that is nonnegative and not `⊤` comes out of a sum. -/
theorem sum_mul_const {ι : Type} (s : Finset ι) (f : ι → EReal) {c : EReal} (h0 : 0 ≤ c) (ht : c ≠ ⊤) :
    ∑ i ∈ s, f i * c = (∑ i ∈ s, f i) * c := by
  classical
  induction s using Finset.induction_on with
  | empty => simp
  | insert a s ha ih =>
    rw [Finset.sum_insert ha, Finset.sum_insert ha, ih, EReal.right_distrib_of_nonneg_of_ne_top h0 ht]

/-- A sum of real numbers is a real number. -/
theorem sum_real {ι : Type} (s : Finset ι) (f : ι → EReal) (h : ∀ i, f i ≠ ⊥ ∧ f i ≠ ⊤) :
    (∑ i ∈ s, f i) ≠ ⊥ ∧ (∑ i ∈ s, f i) ≠ ⊤ := by
  classical
  induction s using Finset.induction_on with
  | empty => simp
  | insert a s ha ih =>
    rw [Finset.sum_insert ha]
    have h1 := h a
    exact ⟨by simp [EReal.add_eq_bot_iff, h1.1, ih.1], EReal.add_ne_top h1.2 ih.2⟩

/-- A product of real numbers is a real number. -/
theorem mul_real {x y : EReal} (hx : x ≠ ⊥ ∧ x ≠ ⊤) (hy : y ≠ ⊥ ∧ y ≠ ⊤) : x * y ≠ ⊥ ∧ x * y ≠ ⊤ := by
  lift x to ℝ using ⟨hx.2, hx.1⟩
  lift y to ℝ using ⟨hy.2, hy.1⟩
  rw [← EReal.coe_mul]
  exact ⟨EReal.coe_ne_bot _, EReal.coe_ne_top _⟩

/-! ## The reciprocal against the division -/

theorem recip_eq {x : EReal} (h : x ≠ 0) : recip x = x⁻¹ := by
  simp [recip, Ideal.div, h]

theorem div_eq {x y : EReal} (h : y ≠ 0) : Ideal.div x y = x * recip y := by
  rw [recip_eq h]; simp [Ideal.div, h]

theorem recip_nonneg {x : EReal} (h : 0 < x) : 0 ≤ recip x := by
  rw [recip_eq h.ne']; exact EReal.inv_nonneg_of_nonneg h.le

theorem recip_ne_top {x : EReal} (h : 0 < x) : recip x ≠ ⊤ := by
  rw [recip_eq h.ne']
  induction x with
  | bot => simp
  | top => simp
  | coe x => rw [← EReal.coe_inv]; exact EReal.coe_ne_top _

/-- The exponential is nonnegative. -/
theorem exp_nonneg (x : EReal) : 0 ≤ Ideal.exp x := by
  induction x with
  | bot => exact le_refl _
  | top => exact le_top
  | coe x => exact EReal.coe_nonneg.mpr (Real.exp_pos x).le

/-- The exponential is positive but at `⊥`. -/
theorem exp_pos {x : EReal} (h : x ≠ ⊥) : 0 < Ideal.exp x := by
  induction x with
  | bot => exact absurd rfl h
  | top => exact EReal.zero_lt_top
  | coe x => exact EReal.coe_pos.mpr (Real.exp_pos x)

namespace Row

variable {n : ℕ} {R : Row n}

/-- The first key is always seen; its score is a real number. -/
theorem score_first (h : R.Real) : R.score ⟨0, h.pos⟩ ≠ ⊥ := by
  have hs := sum_real Finset.univ (fun d => R.q d * R.key ⟨0, h.pos⟩ d) fun d => mul_real (h.q d) (h.key _ d)
  rw [score, if_pos (Nat.zero_le _), sub_eq_add_neg]
  simp [EReal.add_eq_bot_iff, hs.1, h.cq.1, (h.ck _).2]

/-- No score is `⊤`. -/
theorem score_ne_top (h : R.Real) (k : Fin n) : R.score k ≠ ⊤ := by
  have hs := sum_real Finset.univ (fun d => R.q d * R.key k d) fun d => mul_real (h.q d) (h.key _ d)
  rw [score]
  split
  · rw [sub_eq_add_neg]
    exact EReal.add_ne_top (EReal.add_ne_top hs.2 h.cq.2) (by simp [(h.ck k).1])
  · exact bot_ne_top

theorem peak_ne_top (h : R.Real) : R.peak ≠ ⊤ := by
  rw [peak]
  refine ne_of_lt ((Finset.fold_max_lt (c := ⊤)).mpr ⟨bot_lt_top, fun k _ => ?_⟩)
  exact lt_top_iff_ne_top.mpr (score_ne_top h k)

/-- The total of the weights is positive. -/
theorem tot_pos (h : R.Real) : 0 < R.tot := by
  have hp : 0 < R.wt ⟨0, h.pos⟩ := by
    rw [wt]
    refine exp_pos ?_
    rw [sub_eq_add_neg]
    simp [EReal.add_eq_bot_iff, score_first h, peak_ne_top h]
  have hn : ∀ k, 0 ≤ R.wt k := fun k => exp_nonneg _
  exact lt_of_lt_of_le hp (Finset.single_le_sum (fun k _ => hn k) (Finset.mem_univ _))

/-- The probability as a quotient. -/
theorem prob_eq (h : R.Real) (k : Fin n) : Ideal.div (R.wt k) R.tot = R.prob k := div_eq (tot_pos h).ne'

/-- The gradient of the scores with the divisions left where the quotient's derivative has them. -/
theorem slope'_eq (h : R.Real) (k : Fin n) :
    (Ideal.div (R.dprob k) R.tot + -(∑ j, R.dprob j * recip (R.tot * R.tot) * R.wt j)) * R.wt k = R.slope' k := by
  have ht := tot_pos h
  have h2 : 0 < R.tot * R.tot := EReal.mul_pos ht ht
  rw [slope', div_eq ht.ne', ← sum_mul_const _ _ (recip_nonneg h2) (recip_ne_top h2), zero_sub]
  congr 4
  funext j
  rw [mul_right_comm, mul_comm (R.dprob j)]

end Row

end Cert.Fox

end
-- ==== Proof.Words.lean ====
module

public import Idealize.ShloMosaic.PureOps.Ideal.Laws
public import Idealize.ShloMosaic.Lib.Affine
public import Idealize.ShloMosaic.Lib.Pointwise

/-! # The integer words a mask compares, read as numbers -/

@[expose] public section

namespace Cert.Fox

open Idealize.ShloMosaic

theorem toInt_ofNat_small {a : ℕ} (h : a < 2 ^ 31) : (BitVec.ofNat 32 a).toInt = a := by
  rw [BitVec.toInt_eq_toNat_of_lt] <;> rw [BitVec.toNat_ofNat, Nat.mod_eq_of_lt (by omega)]
  omega

/-- A choice on `a ≥ b` of two small words is the choice on the numbers. -/
theorem select_sge {α : Type} {a b : ℕ} (ha : a < 2 ^ 31) (hb : b < 2 ^ 31) (x y : α) :
    Scalar.select (IntOp.cmpi .sge (BitVec.ofNat 32 a) (BitVec.ofNat 32 b)) x y = if b ≤ a then x else y := by
  unfold Scalar.select
  have : (IntOp.cmpi .sge (BitVec.ofNat 32 a) (BitVec.ofNat 32 b) = 1) ↔ b ≤ a := by
    refine IntOp.cmpi_sge.trans ?_
    rw [toInt_ofNat_small ha, toInt_ofNat_small hb]
    exact Int.ofNat_le
  simp only [this]

/-- A choice on `a < b` of two small words is the choice on the numbers. -/
theorem select_slt {α : Type} {a b : ℕ} (ha : a < 2 ^ 31) (hb : b < 2 ^ 31) (x y : α) :
    Scalar.select (IntOp.cmpi .slt (BitVec.ofNat 32 a) (BitVec.ofNat 32 b)) x y = if a < b then x else y := by
  unfold Scalar.select
  have : (IntOp.cmpi .slt (BitVec.ofNat 32 a) (BitVec.ofNat 32 b) = 1) ↔ a < b := by
    refine IntOp.cmpi_slt.trans ?_
    rw [toInt_ofNat_small ha, toInt_ofNat_small hb]
    exact Int.ofNat_lt
  simp only [this]

/-- Of a block's 128 lanes the first 64 are the first head's. -/
theorem select_lane {α : Type} (l : Fin 128) (x y : α) :
    Scalar.select (IntOp.cmpi .slt (BitVec.ofNat 32 l.val) 64#32) x y = if l.val < 64 then x else y :=
  select_slt (by have := l.isLt; omega) (by omega) x y

/-- Row `r` of query block `p` sees key `k`: the kernel's comparison of the two places. -/
theorem select_seen {α : Type} (p r k : ℕ) (hp : p < 2 ^ 16) (hr : r < 2 ^ 16) (hk : k < 2 ^ 16) (x y : α) :
    Scalar.select (IntOp.cmpi .sge (IntOp.addi (Scalar.muli (BitVec.ofNat 32 p) 128#32) (BitVec.ofNat 32 r))
      (BitVec.ofNat 32 k)) x y = if k ≤ p * 128 + r then x else y := by
  have : IntOp.addi (Scalar.muli (BitVec.ofNat 32 p) 128#32) (BitVec.ofNat 32 r) = BitVec.ofNat 32 (p * 128 + r) := by
    rw [BitVec.ofNat_add, BitVec.ofNat_mul]; rfl
  rw [this, select_sge (by omega) (by omega)]

/-- The first 64 lanes of a block. -/
def laneA (d : Fin 64) : Fin 128 := ⟨d.val, by omega⟩

/-- The last 64 lanes of a block. -/
def laneB (d : Fin 64) : Fin 128 := ⟨64 + d.val, by omega⟩

end Cert.Fox
-- ==== Proof.Block.lean ====
module

public import proofs.«01_k».proof.Proof.Gen.KernelIdeal.Skeleton
public import proofs.«01_k».proof.Proof.Row
public import proofs.«01_k».proof.Proof.Words
public import Idealize.ShloMosaic.Lib.ValueIdx

/-!
# What one grid point of the backward kernel computes from its blocks

A grid point holds 128 queries of two heads — the first in the block's lanes 0–63, the second in lanes 64–127 — against
all 2048 keys. Each matrix of the point, read at one entry, is a quantity of that query's row (`Cert.Fox.Row`).
-/

@[expose] public section

set_option maxRecDepth 16384

noncomputable section

namespace Cert.KernelIdeal.Block

open Cert.KernelIdeal Cert.KernelIdeal.Gen Cert.Fox Idealize.ShloMosaic Idealize.ShloMosaic.TcCoe Idealize.SL.Sem

/-- Query `r` of query block `p`, of the head in the lanes `lane`, as the point's blocks hold it. -/
def row (lane : Fin 64 → Fin 128) (p : ℕ) (x0 : FVec Ideal S128x128 .bf16) (x1 : FVec Ideal S2048x128 .bf16)
    (x2 : FVec Ideal S2048x128 .f32) (xc : FVec Ideal S1x128x1 .f32) (xk : FVec Ideal S1x1x2048 .f32)
    (x7 : FVec Ideal S128x128 .f32) (r : Fin 128) : Row 2048 where
  q d := x0 (ix2 r (lane d))
  cq := xc (ix3 0 r 0)
  pos := p * 128 + r.val
  dy d := x7 (ix2 r (lane d))
  key k d := x1 (ix2 k (lane d))
  ck k := xk (ix3 0 0 k)
  val k d := x2 (ix2 k (lane d))

/-- The mask the kernel names is `−∞`. -/
theorem mask_value : (Named.named (F := Ideal) κ "mask" 0xF149F2CA#32 : Ideal .f32) = (⊥ : EReal) :=
  IdealRules.named_const.ideal_named_scalar _ _ _ _ rfl

/-- The least float is `−∞`. -/
theorem bits_neg_inf : Ideal.ofBits .f32 0xFF800000#32 = ⊥ := by simp [Ideal.ofBits, Ideal.ieee]

variable (i : grid0.Coords) (x0 : FVec Ideal S128x128 .bf16) (x1 : FVec Ideal S2048x128 .bf16)
    (x2 : FVec Ideal S2048x128 .f32) (x3 x4 : FVec Ideal S1x128x1 .f32) (x5 x6 : FVec Ideal S1x1x2048 .f32)
    (x7 : FVec Ideal S128x128 .f32)

/-- The point's mask: a key at or before the query. -/
theorem seen (i : grid0.Coords) (r : Fin 128) (k : Fin 2048) (x y : EReal) :
    Scalar.select (IntOp.cmpi .sge (IntOp.addi (Scalar.muli (Scalar.addi 12#32 (BitVec.ofNat 32 (i 1).val)) 128#32)
      (BitVec.ofNat 32 r.val)) (BitVec.ofNat 32 k.val)) x y = if k.val ≤ (12 + (i 1).val) * 128 + r.val then x else y := by
  have h : (i 1).val < 4 := (i 1).isLt
  have : Scalar.addi 12#32 (BitVec.ofNat 32 (i 1).val) = BitVec.ofNat 32 (12 + (i 1).val) := by
    rw [BitVec.ofNat_add]; rfl
  rw [this]
  exact select_seen _ _ _ (by omega) (by omega) (by omega) x y

/-- The point's lane mask: the first 64 lanes. -/
theorem lane (r l : Fin 128) (x y : EReal) : Scalar.select (k0_pay15 (ix2 r l)) x y = if l.val < 64 then x else y := by
  pointwise [k0_pay15, select_lane]

/-- A lane of the second head is not one of the first 64. -/
theorem not_first (d : Fin 64) : ¬ 64 + d.val < 64 := by omega

/-- The row of the first head at this point. -/
abbrev rowA (r : Fin 128) : Row 2048 := row laneA (12 + (i 1).val) x0 x1 x2 x3 x5 x7 r
/-- The row of the second head at this point. -/
abbrev rowB (r : Fin 128) : Row 2048 := row laneB (12 + (i 1).val) x0 x1 x2 x4 x6 x7 r

/-- The first head's weights. -/
abbrev eA : FVec Ideal S128x2048 .f32 := k0_pay19 (F := Ideal) (k0_pay10 x1) (k0_pay11 x3) (k0_pay13 x5) (k0_pay16 i) (k0_pay17 x0)
/-- The second head's weights. -/
abbrev eB : FVec Ideal S128x2048 .f32 := k0_pay20 (F := Ideal) (k0_pay9 x0) (k0_pay10 x1) (k0_pay12 x4) (k0_pay14 x6) k0_pay15 (k0_pay16 i)

theorem eA_apply (r : Fin 128) (k : Fin 2048) : eA i x0 x1 x3 x5 (ix2 r k) = (rowA i x0 x1 x2 x3 x5 x7 r).wt k := by
  pointwise [k0_pay19, k0_pay10, k0_pay11, k0_pay13, k0_pay16, k0_pay17, k0_pay9, lane, seen, mask_value, bits_neg_inf, zero_mul, Finset.sum_const_zero, zero_add, add_zero]
  rfl

theorem eB_apply (r : Fin 128) (k : Fin 2048) : eB i x0 x1 x4 x6 (ix2 r k) = (rowB i x0 x1 x2 x4 x6 x7 r).wt k := by
  pointwise [k0_pay20, k0_pay18, k0_pay10, k0_pay12, k0_pay14, k0_pay16, k0_pay9, lane, seen, mask_value, bits_neg_inf, zero_mul, Finset.sum_const_zero, zero_add, add_zero]
  rfl

/-- The first head's reciprocal totals. -/
theorem rA_apply (r : Fin 128) (u : Fin 1) : k0_pay22 (F := Ideal) (k0_pay10 x1) (k0_pay11 x3) (k0_pay13 x5) (k0_pay16 i) (k0_pay17 x0) (ix2 r u)
    = recip (rowA i x0 x1 x2 x3 x5 x7 r).tot := by
  pointwise [k0_pay22, k0_pay21, eA_apply i x0 x1 x2 x3 x5 x7]
  rfl

theorem rA2_apply (r : Fin 128) (u : Fin 1) : k0_pay23 (F := Ideal) (k0_pay10 x1) (k0_pay11 x3) (k0_pay13 x5) (k0_pay16 i) (k0_pay17 x0) (ix2 r u)
    = recip ((rowA i x0 x1 x2 x3 x5 x7 r).tot * (rowA i x0 x1 x2 x3 x5 x7 r).tot) := by
  pointwise [k0_pay23, k0_pay21, eA_apply i x0 x1 x2 x3 x5 x7]
  rfl

theorem pA_apply (r : Fin 128) (k : Fin 2048) :
    k0_pay24 (F := Ideal) (k0_pay10 x1) (k0_pay11 x3) (k0_pay13 x5) (k0_pay16 i) (k0_pay17 x0) (ix2 r k)
    = (rowA i x0 x1 x2 x3 x5 x7 r).prob k := by
  pointwise [k0_pay24, rA_apply i x0 x1 x2 x3 x5 x7, eA_apply i x0 x1 x2 x3 x5 x7]
  rfl

/-- The second head's reciprocal totals. -/
theorem rB_apply (r : Fin 128) (u : Fin 1) : k0_pay26 (F := Ideal) (k0_pay9 x0) (k0_pay10 x1) (k0_pay12 x4) (k0_pay14 x6) k0_pay15 (k0_pay16 i) (ix2 r u)
    = recip (rowB i x0 x1 x2 x4 x6 x7 r).tot := by
  pointwise [k0_pay26, k0_pay25, eB_apply i x0 x1 x2 x4 x6 x7]
  rfl

theorem rB2_apply (r : Fin 128) (u : Fin 1) : k0_pay27 (F := Ideal) (k0_pay9 x0) (k0_pay10 x1) (k0_pay12 x4) (k0_pay14 x6) k0_pay15 (k0_pay16 i) (ix2 r u)
    = recip ((rowB i x0 x1 x2 x4 x6 x7 r).tot * (rowB i x0 x1 x2 x4 x6 x7 r).tot) := by
  pointwise [k0_pay27, k0_pay25, eB_apply i x0 x1 x2 x4 x6 x7]
  rfl

/-- The second head's reciprocal totals, spread over the keys. -/
theorem rBk_apply (r : Fin 128) (k : Fin 2048) :
    k0_pay28 (F := Ideal) (k0_pay9 x0) (k0_pay10 x1) (k0_pay12 x4) (k0_pay14 x6) k0_pay15 (k0_pay16 i) (ix2 r k)
    = recip (rowB i x0 x1 x2 x4 x6 x7 r).tot := by
  pointwise [k0_pay28, rB_apply i x0 x1 x2 x4 x6 x7]

/-- The part of `dv` this point adds: the probabilities against the output's gradient. -/
abbrev dvPart : FVec Ideal S2048x128 .f32 :=
  k0_pay32 (F := Ideal) x7 k0_pay15 (eB i x0 x1 x4 x6)
    (k0_pay24 (F := Ideal) (k0_pay10 x1) (k0_pay11 x3) (k0_pay13 x5) (k0_pay16 i) (k0_pay17 x0))
    (k0_pay28 (F := Ideal) (k0_pay9 x0) (k0_pay10 x1) (k0_pay12 x4) (k0_pay14 x6) k0_pay15 (k0_pay16 i))

theorem dvPart_A (k : Fin 2048) (d : Fin 64) : dvPart i x0 x1 x3 x4 x5 x6 x7 (ix2 k (laneA d))
    = ∑ r, (rowA i x0 x1 x2 x3 x5 x7 r).prob k * (rowA i x0 x1 x2 x3 x5 x7 r).dy d := by
  pointwise [dvPart, k0_pay32, k0_pay31, k0_pay30, k0_pay29, lane, pA_apply i x0 x1 x2 x3 x5 x7, laneA]
  simp only [zero_mul, mul_zero, Finset.sum_const_zero, zero_add, add_zero, Finset.univ_unique, Finset.sum_singleton]
  rfl

theorem dvPart_B (k : Fin 2048) (d : Fin 64) : dvPart i x0 x1 x3 x4 x5 x6 x7 (ix2 k (laneB d))
    = ∑ r, (rowB i x0 x1 x2 x4 x6 x7 r).prob k * (rowB i x0 x1 x2 x4 x6 x7 r).dy d := by
  pointwise [dvPart, k0_pay32, k0_pay31, k0_pay30, k0_pay29, lane, rBk_apply i x0 x1 x2 x4 x6 x7, eB_apply i x0 x1 x2 x4 x6 x7, laneB]
  simp only [zero_mul, mul_zero, Finset.sum_const_zero, zero_add, add_zero, Finset.univ_unique, Finset.sum_singleton]
  rfl

/-- The gradients of the first head's scores, before the mask. -/
abbrev sA : FVec Ideal S128x2048 .f32 := k0_pay34 (F := Ideal) x2 x7 k0_pay15 (eA i x0 x1 x3 x5)
  (k0_pay22 (F := Ideal) (k0_pay10 x1) (k0_pay11 x3) (k0_pay13 x5) (k0_pay16 i) (k0_pay17 x0))
  (k0_pay23 (F := Ideal) (k0_pay10 x1) (k0_pay11 x3) (k0_pay13 x5) (k0_pay16 i) (k0_pay17 x0))
/-- The gradients of the second head's scores, before the mask. -/
abbrev sB : FVec Ideal S128x2048 .f32 := k0_pay33 (F := Ideal) x2 x7 k0_pay15 (eB i x0 x1 x4 x6)
  (k0_pay26 (F := Ideal) (k0_pay9 x0) (k0_pay10 x1) (k0_pay12 x4) (k0_pay14 x6) k0_pay15 (k0_pay16 i))
  (k0_pay27 (F := Ideal) (k0_pay9 x0) (k0_pay10 x1) (k0_pay12 x4) (k0_pay14 x6) k0_pay15 (k0_pay16 i))

theorem sA_apply (r : Fin 128) (k : Fin 2048) : sA i x0 x1 x2 x3 x5 x7 (ix2 r k) = (rowA i x0 x1 x2 x3 x5 x7 r).slope' k := by
  pointwise [sA, k0_pay34, k0_pay31, k0_pay29, lane, eA_apply i x0 x1 x2 x3 x5 x7, rA_apply i x0 x1 x2 x3 x5 x7, rA2_apply i x0 x1 x2 x3 x5 x7]
  simp only [zero_mul, mul_zero, Finset.sum_const_zero, zero_add, add_zero, Finset.univ_unique, Finset.sum_singleton]
  rfl

theorem sB_apply (r : Fin 128) (k : Fin 2048) : sB i x0 x1 x2 x4 x6 x7 (ix2 r k) = (rowB i x0 x1 x2 x4 x6 x7 r).slope' k := by
  pointwise [sB, k0_pay33, k0_pay30, k0_pay29, lane, eB_apply i x0 x1 x2 x4 x6 x7, rB_apply i x0 x1 x2 x4 x6 x7, rB2_apply i x0 x1 x2 x4 x6 x7]
  simp only [zero_mul, mul_zero, Finset.sum_const_zero, zero_add, add_zero, Finset.univ_unique, Finset.sum_singleton]
  rfl

theorem mA_apply (r : Fin 128) (k : Fin 2048) : k0_pay38 (F := Ideal) (k0_pay16 i) (sA i x0 x1 x2 x3 x5 x7) (ix2 r k)
    = (rowA i x0 x1 x2 x3 x5 x7 r).slope k := by
  pointwise [k0_pay38, k0_pay16, seen, sA_apply i x0 x1 x2 x3 x5 x7]
  rfl

theorem mB_apply (r : Fin 128) (k : Fin 2048) : k0_pay35 (F := Ideal) (k0_pay16 i) (sB i x0 x1 x2 x4 x6 x7) (ix2 r k)
    = (rowB i x0 x1 x2 x4 x6 x7 r).slope k := by
  pointwise [k0_pay35, k0_pay16, seen, sB_apply i x0 x1 x2 x4 x6 x7]
  rfl

/-- The gradient of the first head's query decays, its sum over the keys. -/
theorem dcqA_apply (r : Fin 128) : k0_pay3 (F := Ideal) (k0_pay40 (k0_pay16 i) (sA i x0 x1 x2 x3 x5 x7)) (ix3 0 r 0)
    = ∑ k, (rowA i x0 x1 x2 x3 x5 x7 r).slope k := by
  pointwise [k0_pay3, k0_pay40, mA_apply i x0 x1 x2 x3 x5 x7]

theorem dcqB_apply (r : Fin 128) : k0_pay4 (F := Ideal) (k0_pay37 (k0_pay16 i) (sB i x0 x1 x2 x4 x6 x7)) (ix3 0 r 0)
    = ∑ k, (rowB i x0 x1 x2 x4 x6 x7 r).slope k := by
  pointwise [k0_pay4, k0_pay37, mB_apply i x0 x1 x2 x4 x6 x7]

/-- The part of the gradient of the key decays this point adds. -/
theorem dckA_apply (k : Fin 2048) : k0_pay39 (F := Ideal) (k0_pay16 i) (sA i x0 x1 x2 x3 x5 x7) (ix2 0 k)
    = ∑ r, (0 - (rowA i x0 x1 x2 x3 x5 x7 r).slope k) := by
  pointwise [k0_pay39, mA_apply i x0 x1 x2 x3 x5 x7]

theorem dckB_apply (k : Fin 2048) : k0_pay36 (F := Ideal) (k0_pay16 i) (sB i x0 x1 x2 x4 x6 x7) (ix2 0 k)
    = ∑ r, (0 - (rowB i x0 x1 x2 x4 x6 x7 r).slope k) := by
  pointwise [k0_pay36, mB_apply i x0 x1 x2 x4 x6 x7]

/-- The part of `dk` this point adds. -/
abbrev dkPart : FVec Ideal S2048x128 .f32 :=
  k0_pay41 (F := Ideal) (k0_pay16 i) (k0_pay17 x0) (k0_pay18 (k0_pay9 x0) k0_pay15) (sB i x0 x1 x2 x4 x6 x7) (sA i x0 x1 x2 x3 x5 x7)

theorem dkPart_A (k : Fin 2048) (d : Fin 64) : dkPart i x0 x1 x2 x3 x4 x5 x6 x7 (ix2 k (laneA d))
    = ∑ r, (rowA i x0 x1 x2 x3 x5 x7 r).slope k * (rowA i x0 x1 x2 x3 x5 x7 r).q d := by
  pointwise [dkPart, k0_pay41, k0_pay17, k0_pay18, k0_pay9, lane, mA_apply i x0 x1 x2 x3 x5 x7, mB_apply i x0 x1 x2 x4 x6 x7, laneA]
  simp only [zero_mul, mul_zero, Finset.sum_const_zero, zero_add, add_zero, Finset.univ_unique, Finset.sum_singleton]
  rfl

theorem dkPart_B (k : Fin 2048) (d : Fin 64) : dkPart i x0 x1 x2 x3 x4 x5 x6 x7 (ix2 k (laneB d))
    = ∑ r, (rowB i x0 x1 x2 x4 x6 x7 r).slope k * (rowB i x0 x1 x2 x4 x6 x7 r).q d := by
  pointwise [dkPart, k0_pay41, k0_pay17, k0_pay18, k0_pay9, lane, mA_apply i x0 x1 x2 x3 x5 x7, mB_apply i x0 x1 x2 x4 x6 x7, laneB]
  simp only [zero_mul, mul_zero, Finset.sum_const_zero, zero_add, add_zero, Finset.univ_unique, Finset.sum_singleton]
  rfl

/-- The point's block of `dq`. -/
abbrev dqBlk : FVec Ideal S128x128 .f32 :=
  k0_pay42 (F := Ideal) (k0_pay10 x1) k0_pay15 (k0_pay16 i) (sB i x0 x1 x2 x4 x6 x7) (sA i x0 x1 x2 x3 x5 x7)

theorem dqBlk_A (r : Fin 128) (d : Fin 64) : dqBlk i x0 x1 x2 x3 x4 x5 x6 x7 (ix2 r (laneA d))
    = ∑ k, (rowA i x0 x1 x2 x3 x5 x7 r).slope k * (rowA i x0 x1 x2 x3 x5 x7 r).key k d := by
  pointwise [dqBlk, k0_pay42, k0_pay10, lane, mA_apply i x0 x1 x2 x3 x5 x7, mB_apply i x0 x1 x2 x4 x6 x7, laneA]
  rfl

theorem dqBlk_B (r : Fin 128) (d : Fin 64) : dqBlk i x0 x1 x2 x3 x4 x5 x6 x7 (ix2 r (laneB d))
    = ∑ k, (rowB i x0 x1 x2 x4 x6 x7 r).slope k * (rowB i x0 x1 x2 x4 x6 x7 r).key k d := by
  pointwise [dqBlk, k0_pay42, k0_pay10, lane, mA_apply i x0 x1 x2 x3 x5 x7, mB_apply i x0 x1 x2 x4 x6 x7, laneB]
  rfl

end Cert.KernelIdeal.Block
end
-- ==== Proof.Heads.lean ====
module

public import proofs.«01_k».proof.Proof.Row
public import Idealize.ShloMosaic.Lib.Pointwise

/-!
# The gradients of a group of 512 queries of the eight heads, as sums of its rows' quantities

Lane `c` of the 512 lanes of the eight heads is lane `c % 64` of head `c / 64`.
-/

@[expose] public section

noncomputable section

namespace Cert.Fox

open Idealize.ShloMosaic

/-- The rows of a group: its 512 queries for each of the eight heads. -/
abbrev Group (n : ℕ) := Fin 8 → Fin 512 → Row n

/-- The head of a lane. -/
def head (c : Fin 512) : Fin 8 := ⟨c.val / 64, by omega⟩

/-- The lane within its head. -/
def sub (c : Fin 512) : Fin 64 := ⟨c.val % 64, by omega⟩

/-- Lane `d` of head `h`. -/
def lane512 (h : Fin 8) (d : Fin 64) : Fin 512 := ⟨h.val * 64 + d.val, by omega⟩

theorem lane_head_sub (c : Fin 512) : lane512 (head c) (sub c) = c := by
  apply Fin.ext; simp only [lane512, head, sub]; omega

/-- Head `2 p`. -/
def even (p : Fin 4) : Fin 8 := ⟨2 * p.val, by omega⟩
/-- Head `2 p + 1`. -/
def odd (p : Fin 4) : Fin 8 := ⟨2 * p.val + 1, by omega⟩

/-- Every row of the group has real scores. -/
def Real {n : ℕ} (G : Group n) : Prop := ∀ h r, (G h r).Real

namespace Grad

variable {n : ℕ} (G : Group n)

/-- The gradient of the queries. -/
def q (r c : Fin 512) : EReal := ∑ k, (G (head c) r).slope k * (G (head c) r).key k (sub c)

/-- The gradient of the keys. -/
def k (j : Fin n) (c : Fin 512) : EReal := ∑ r, (G (head c) r).slope j * (G (head c) r).q (sub c)

/-- The gradient of the values. -/
def v (j : Fin n) (c : Fin 512) : EReal := ∑ r, (G (head c) r).prob j * (G (head c) r).dy (sub c)

/-- The gradient of the queries' cumulative decays. -/
def cq (h : Fin 8) (r : Fin 512) : EReal := ∑ j, (G h r).slope j

/-- The gradient of the keys' cumulative decays. -/
def ck (h : Fin 8) (j : Fin n) : EReal := ∑ r, (0 - (G h r).slope j)

end Grad

/-- Four blocks of 128 queries are the group's 512. -/
theorem gather {F : Fin 4 → Fin 128 → EReal} {f : Fin 512 → EReal}
    (h : ∀ s r, F s r = f ⟨s.val * 128 + r.val, by omega⟩) : ∑ s, ∑ r, F s r = ∑ l, f l := by
  rw [Fin.sum_univ_tiles 4 128 rfl f]
  exact Finset.sum_congr rfl fun s _ => Finset.sum_congr rfl fun r _ => h s r

end Cert.Fox

end
-- ==== Proof.Value.lean ====
module

public import proofs.«01_k».proof.Proof.Gen.KernelIdeal.Value
public import proofs.«01_k».proof.Proof.Block
public import proofs.«01_k».proof.Proof.Heads
public import Idealize.ShloMosaic.Lib.Pipeline.ValueKit

/-!
# What the backward kernel leaves in its seven results

Grid point `t` works on the heads `2 p` and `2 p + 1`, `p = t / 4`, and on query block `t % 4`. The gradients of the
queries are written once per point; those of the keys, of the values and of the keys' decays gather the four query
blocks of their two heads.
-/

@[expose] public section

set_option maxRecDepth 16384

noncomputable section

namespace Cert.KernelIdeal.Val

open Cert.KernelIdeal Cert.KernelIdeal.Gen Cert.KernelIdeal.Block Cert.Fox
open Idealize.ShloMosaic Idealize.ShloMosaic.TcCoe Idealize.SL.Sem

variable (m : (ℓ : Loc nD τ sig) → Buf (Elt Ideal) ℓ)

theorem idx0 : ∀ t : Fin cfg0.N, win0_0.index t = ![12 + t.val % 4, t.val / 4] := (by decide +kernel : ∀ t : Fin grid0.N, _)
theorem idx1 : ∀ t : Fin cfg0.N, win0_1.index t = ![0, t.val / 4] := (by decide +kernel : ∀ t : Fin grid0.N, _)
theorem idx2 : ∀ t : Fin cfg0.N, win0_2.index t = ![0, 8 + t.val / 4] := (by decide +kernel : ∀ t : Fin grid0.N, _)
theorem idx3 : ∀ t : Fin cfg0.N, win0_3.index t = ![2 * (t.val / 4), 12 + t.val % 4, 0] := (by decide +kernel : ∀ t : Fin grid0.N, _)
theorem idx4 : ∀ t : Fin cfg0.N, win0_4.index t = ![2 * (t.val / 4) + 1, 12 + t.val % 4, 0] := (by decide +kernel : ∀ t : Fin grid0.N, _)
theorem idx5 : ∀ t : Fin cfg0.N, win0_5.index t = ![2 * (t.val / 4), 0, 0] := (by decide +kernel : ∀ t : Fin grid0.N, _)
theorem idx6 : ∀ t : Fin cfg0.N, win0_6.index t = ![2 * (t.val / 4) + 1, 0, 0] := (by decide +kernel : ∀ t : Fin grid0.N, _)
theorem idx7 : ∀ t : Fin cfg0.N, win0_7.index t = ![12 + t.val % 4, t.val / 4] := (by decide +kernel : ∀ t : Fin grid0.N, _)
theorem idx8 : ∀ t : Fin cfg0.N, win0_8.index t = ![t.val % 4, t.val / 4] := (by decide +kernel : ∀ t : Fin grid0.N, _)
theorem idx9 : ∀ t : Fin cfg0.N, win0_9.index t = ![0, t.val / 4] := (by decide +kernel : ∀ t : Fin grid0.N, _)
theorem idx10 : ∀ t : Fin cfg0.N, win0_10.index t = ![0, t.val / 4] := (by decide +kernel : ∀ t : Fin grid0.N, _)
theorem idx11 : ∀ t : Fin cfg0.N, win0_11.index t = ![t.val / 4, t.val % 4, 0] := (by decide +kernel : ∀ t : Fin grid0.N, _)
theorem idx12 : ∀ t : Fin cfg0.N, win0_12.index t = ![t.val / 4, t.val % 4, 0] := (by decide +kernel : ∀ t : Fin grid0.N, _)
theorem idx13 : ∀ t : Fin cfg0.N, win0_13.index t = ![t.val / 4, 0, 0] := (by decide +kernel : ∀ t : Fin grid0.N, _)
theorem idx14 : ∀ t : Fin cfg0.N, win0_14.index t = ![t.val / 4, 0, 0] := (by decide +kernel : ∀ t : Fin grid0.N, _)
theorem coord : ∀ t : Fin cfg0.N, (grid0.coords t 1).val = t.val % 4 := (by decide +kernel : ∀ t : Fin grid0.N, _)
theorem pts (t : Fin cfg0.N) : t.val < 16 := lt_of_lt_of_eq t.isLt (by decide +kernel)

/-- The queries, keys, values, decays and the output's gradient of the memory `m`, as the group's rows. -/
def group (c : Dev nD) : Group 2048 := fun h r =>
  { q := fun d => m ((c : Thread nD τ).loc main_arg0) (ix2 ⟨1536 + r.val, by omega⟩ (lane512 h d))
    cq := m ((c : Thread nD τ).loc main_arg3) (ix3 h ⟨1536 + r.val, by omega⟩ 0)
    pos := 1536 + r.val
    dy := fun d => m ((c : Thread nD τ).loc main_arg5) (ix2 ⟨1536 + r.val, by omega⟩ (lane512 h d))
    key := fun k d => m ((c : Thread nD τ).loc main_arg1) (ix2 k (lane512 h d))
    ck := fun k => m ((c : Thread nD τ).loc main_arg4) (ix3 h 0 k)
    val := fun k d => m ((c : Thread nD τ).loc main_arg2) (ix2 k ⟨1024 + (lane512 h d).val, by omega⟩) }

/-- The first head of point `t`. -/
def headA (t : Fin cfg0.N) : Fin 8 := ⟨2 * (t.val / 4), by have := pts t; omega⟩
/-- The second head of point `t`. -/
def headB (t : Fin cfg0.N) : Fin 8 := ⟨2 * (t.val / 4) + 1, by have := pts t; omega⟩
/-- Query `r` of point `t` within the group. -/
def at' (t : Fin cfg0.N) (r : Fin 128) : Fin 512 := ⟨t.val % 4 * 128 + r.val, by omega⟩

abbrev bA (c : Dev nD) (t : Fin cfg0.N) (r : Fin 128) : Row 2048 :=
  rowA (grid0.coords t) (iblk m c 0 t) (iblk m c 1 t) (iblk m c 2 t) (iblk m c 3 t) (iblk m c 5 t) (iblk m c 7 t) r
abbrev bB (c : Dev nD) (t : Fin cfg0.N) (r : Fin 128) : Row 2048 :=
  rowB (grid0.coords t) (iblk m c 0 t) (iblk m c 1 t) (iblk m c 2 t) (iblk m c 4 t) (iblk m c 6 t) (iblk m c 7 t) r

theorem bA_eq (c : Dev nD) (t : Fin cfg0.N) (r : Fin 128) : bA m c t r = group m c (headA t) (at' t r) := by
  have ht := pts t
  have hc := coord t
  refine Row.ext ?_ ?_ ?_ ?_ ?_ ?_ ?_
  · funext d
    simp only [row, group, headA, at', lane512, laneA]
    blk_ext [iblk, V, idx0 t]
  · simp only [row, group, headA, at']
    blk_ext [iblk, V, idx3 t]
  · simp only [row, group, at']; omega
  · funext d
    simp only [row, group, headA, at', lane512, laneA]
    blk_ext [iblk, V, idx7 t]
  · funext k d
    simp only [row, group, headA, lane512, laneA]
    blk_ext [iblk, V, idx1 t]
  · funext k
    simp only [row, group, headA]
    blk_ext [iblk, V, idx5 t]
  · funext k d
    simp only [row, group, headA, lane512, laneA]
    blk_ext [iblk, V, idx2 t]

theorem bB_eq (c : Dev nD) (t : Fin cfg0.N) (r : Fin 128) : bB m c t r = group m c (headB t) (at' t r) := by
  have ht := pts t
  have hc := coord t
  refine Row.ext ?_ ?_ ?_ ?_ ?_ ?_ ?_
  · funext d
    simp only [row, group, headB, at', lane512, laneB]
    blk_ext [iblk, V, idx0 t]
  · simp only [row, group, headB, at']
    blk_ext [iblk, V, idx4 t]
  · simp only [row, group, at']; omega
  · funext d
    simp only [row, group, headB, at', lane512, laneB]
    blk_ext [iblk, V, idx7 t]
  · funext k d
    simp only [row, group, headB, lane512, laneB]
    blk_ext [iblk, V, idx1 t]
  · funext k
    simp only [row, group, headB]
    blk_ext [iblk, V, idx6 t]
  · funext k d
    simp only [row, group, headB, lane512, laneB]
    blk_ext [iblk, V, idx2 t]

theorem firstPt {t : Fin cfg0.N} (h : t.val % 4 = 0) : ¬ 1 ≤ t.val % 4 := by omega
theorem laterPt {t : Fin cfg0.N} (h : ¬ t.val % 4 = 0) : 1 ≤ t.val % 4 := by omega

/-- Each lane of a block is a lane of its first head or of its second. -/
theorem lanes (l : Fin 128) : (∃ d, l = laneA d) ∨ ∃ d, l = laneB d := by
  rcases Nat.lt_or_ge l.val 64 with h | h
  · exact Or.inl ⟨⟨l.val, h⟩, rfl⟩
  · exact Or.inr ⟨⟨l.val - 64, by omega⟩, Fin.ext (by simp [laneB]; omega)⟩

/-- The point of query block `s` with the heads of point `t`. -/
def pt (t : Fin cfg0.N) (s : Fin 4) : Fin cfg0.N := ⟨4 * (t.val / 4) + s.val, by have := pts t; show _ < 16; omega⟩

/-- Lane `l` of point `t`'s heads among all lanes. -/
def col (t : Fin cfg0.N) (l : Fin 128) : Fin 512 := ⟨t.val / 4 * 128 + l.val, by have := pts t; omega⟩

theorem bA_pt (c : Dev nD) (t : Fin cfg0.N) (s : Fin 4) (r : Fin 128) :
    bA m c (pt t s) r = group m c (headA t) ⟨s.val * 128 + r.val, by omega⟩ := by
  rw [bA_eq]
  congr 1 <;> (apply Fin.ext; simp only [headA, at', pt]; omega)

theorem bB_pt (c : Dev nD) (t : Fin cfg0.N) (s : Fin 4) (r : Fin 128) :
    bB m c (pt t s) r = group m c (headB t) ⟨s.val * 128 + r.val, by omega⟩ := by
  rw [bB_eq]
  congr 1 <;> (apply Fin.ext; simp only [headB, at', pt]; omega)

theorem head_colA (t : Fin cfg0.N) (d : Fin 64) : head (col t (laneA d)) = headA t := by
  apply Fin.ext; simp only [head, col, laneA, headA]; omega
theorem head_colB (t : Fin cfg0.N) (d : Fin 64) : head (col t (laneB d)) = headB t := by
  apply Fin.ext; simp only [head, col, laneB, headB]; omega
theorem sub_colA (t : Fin cfg0.N) (d : Fin 64) : sub (col t (laneA d)) = d := by
  apply Fin.ext; simp only [sub, col, laneA]; omega
theorem sub_colB (t : Fin cfg0.N) (d : Fin 64) : sub (col t (laneB d)) = d := by
  apply Fin.ext; simp only [sub, col, laneB]; omega

/-- What point `t` adds to its heads' value gradients. -/
def vPart (c : Dev nD) (t : Fin cfg0.N) : S2048x128.Idx → EReal :=
  dvPart (grid0.coords t) (iblk m c 0 t) (iblk m c 1 t) (iblk m c 3 t) (iblk m c 4 t) (iblk m c 5 t) (iblk m c 6 t) (iblk m c 7 t)

/-- The four query blocks' parts are the gradient of the values. -/
theorem sum_v (c : Dev nD) (t : Fin cfg0.N) (y : S2048x128.Idx) :
    ∑ s, vPart m c (pt t s) y = Grad.v (group m c) (y 0) (col t (y 1)) := by
  obtain ⟨k, l, rfl⟩ : ∃ k l, y = ix2 k l := ⟨y 0, y 1, eq_ix2 y⟩
  show _ = Grad.v (group m c) k (col t l)
  rw [Grad.v]
  obtain ⟨d, rfl⟩ | ⟨d, rfl⟩ := lanes l
  · rw [head_colA, sub_colA]
    refine Eq.trans (Finset.sum_congr rfl fun s _ => dvPart_A _ _ _ (iblk m c 2 (pt t s)) _ _ _ _ _ k d) (gather fun s r => ?_)
    rw [← bA_pt]
  · rw [head_colB, sub_colB]
    refine Eq.trans (Finset.sum_congr rfl fun s _ => dvPart_B _ _ _ (iblk m c 2 (pt t s)) _ _ _ _ _ k d) (gather fun s r => ?_)
    rw [← bB_pt]

theorem arr_v (c : Dev nD) : (dats m 0 c).arrAt 10 cfg0.N = fun y : S2048x512.Idx => Grad.v (group m c) (y 0) (y 1) := by
  refine (dats m 0 c).arrAt_eq_of_covers 10 _ (by decide +kernel) fun t hf y => ?_
  blk_simp
  rw [after0_10, Pipeline.eq_sum_fin_of_reset_step_apply_of_flush (fun n h => (outsAt0 m c n h).2.2.1) 4 (fun _ => 0) (vPart m c)
    (fun t h j => by rw [outsAt0_A m c t h (firstPt h) h (firstPt h) h (firstPt h) h (firstPt h)]; frame_out; exact (zero_add _).symm)
    (fun t h j => by rw [outsAt0_B m c t h (laterPt h) h (laterPt h) h (laterPt h) h (laterPt h)]; frame_out; pointwise [k0_pay2]; rfl)
    t ((flush0_10 t).mp hf) _, zero_add]
  have hb := idx10 t
  have h0 : (win0_10.blk t).view.emb y 0 = (y 0 : Fin 2048) := by
    apply Fin.ext; blk_simp [hb]
  have h1 : (win0_10.blk t).view.emb y 1 = (col t (y 1) : Fin 512) := by
    apply Fin.ext; blk_simp [hb, col]
  exact (sum_v m c t y).trans (congrArg₂ (Grad.v (group m c)) h0 h1).symm

/-- What point `t` adds to its heads' key gradients. -/
def kPart (c : Dev nD) (t : Fin cfg0.N) : S2048x128.Idx → EReal :=
  dkPart (grid0.coords t) (iblk m c 0 t) (iblk m c 1 t) (iblk m c 2 t) (iblk m c 3 t) (iblk m c 4 t) (iblk m c 5 t) (iblk m c 6 t) (iblk m c 7 t)

/-- The four query blocks' parts are the gradient of the keys. -/
theorem sum_k (c : Dev nD) (t : Fin cfg0.N) (y : S2048x128.Idx) :
    ∑ s, kPart m c (pt t s) y = Grad.k (group m c) (y 0) (col t (y 1)) := by
  obtain ⟨k, l, rfl⟩ : ∃ k l, y = ix2 k l := ⟨y 0, y 1, eq_ix2 y⟩
  show _ = Grad.k (group m c) k (col t l)
  rw [Grad.k]
  obtain ⟨d, rfl⟩ | ⟨d, rfl⟩ := lanes l
  · rw [head_colA, sub_colA]
    refine Eq.trans (Finset.sum_congr rfl fun s _ => dkPart_A _ _ _ _ _ _ _ _ _ k d) (gather fun s r => ?_)
    rw [← bA_pt]
  · rw [head_colB, sub_colB]
    refine Eq.trans (Finset.sum_congr rfl fun s _ => dkPart_B _ _ _ _ _ _ _ _ _ k d) (gather fun s r => ?_)
    rw [← bB_pt]

theorem arr_k (c : Dev nD) : (dats m 0 c).arrAt 9 cfg0.N = fun y : S2048x512.Idx => Grad.k (group m c) (y 0) (y 1) := by
  refine (dats m 0 c).arrAt_eq_of_covers 9 _ (by decide +kernel) fun t hf y => ?_
  blk_simp
  rw [after0_9, Pipeline.eq_sum_fin_of_reset_step_apply_of_flush (fun n h => (outsAt0 m c n h).2.1) 4 (fun _ => 0) (kPart m c)
    (fun t h j => by rw [outsAt0_A m c t h (firstPt h) h (firstPt h) h (firstPt h) h (firstPt h)]; frame_out; exact (zero_add _).symm)
    (fun t h j => by rw [outsAt0_B m c t h (laterPt h) h (laterPt h) h (laterPt h) h (laterPt h)]; frame_out; pointwise [k0_pay1]; rfl)
    t ((flush0_9 t).mp hf) _, zero_add]
  have hb := idx9 t
  have h0 : (win0_9.blk t).view.emb y 0 = (y 0 : Fin 2048) := by
    apply Fin.ext; blk_simp [hb]
  have h1 : (win0_9.blk t).view.emb y 1 = (col t (y 1) : Fin 512) := by
    apply Fin.ext; blk_simp [hb, col]
  exact (sum_k m c t y).trans (congrArg₂ (Grad.k (group m c)) h0 h1).symm

/-- What point `t` adds to its first head's key-decay gradients. -/
def ckPartA (c : Dev nD) (t : Fin cfg0.N) (y : S1x1x2048.Idx) : EReal :=
  k0_pay39 (F := Ideal) (k0_pay16 (grid0.coords t)) (sA (grid0.coords t) (iblk m c 0 t) (iblk m c 1 t) (iblk m c 2 t) (iblk m c 3 t) (iblk m c 5 t) (iblk m c 7 t)) (ix2 0 (y 2 : Fin 2048))

/-- What point `t` adds to its second head's key-decay gradients. -/
def ckPartB (c : Dev nD) (t : Fin cfg0.N) (y : S1x1x2048.Idx) : EReal :=
  k0_pay36 (F := Ideal) (k0_pay16 (grid0.coords t)) (sB (grid0.coords t) (iblk m c 0 t) (iblk m c 1 t) (iblk m c 2 t) (iblk m c 4 t) (iblk m c 6 t) (iblk m c 7 t)) (ix2 0 (y 2 : Fin 2048))

theorem sum_ckA (c : Dev nD) (t : Fin cfg0.N) (y : S1x1x2048.Idx) :
    ∑ s, ckPartA m c (pt t s) y = Grad.ck (group m c) (headA t) (y 2) := by
  obtain ⟨k, hk⟩ : ∃ k : Fin 2048, k = y 2 := ⟨_, rfl⟩
  show _ = Grad.ck (group m c) (headA t) (y 2 : Fin 2048)
  rw [← hk, Grad.ck]
  refine Eq.trans (Finset.sum_congr rfl fun s _ => (congrArg _ (congrArg (ix2 0) hk.symm)).trans (dckA_apply _ _ _ _ _ _ _ k)) (gather fun s r => ?_)
  rw [← bA_pt]

theorem sum_ckB (c : Dev nD) (t : Fin cfg0.N) (y : S1x1x2048.Idx) :
    ∑ s, ckPartB m c (pt t s) y = Grad.ck (group m c) (headB t) (y 2) := by
  obtain ⟨k, hk⟩ : ∃ k : Fin 2048, k = y 2 := ⟨_, rfl⟩
  show _ = Grad.ck (group m c) (headB t) (y 2 : Fin 2048)
  rw [← hk, Grad.ck]
  refine Eq.trans (Finset.sum_congr rfl fun s _ => (congrArg _ (congrArg (ix2 0) hk.symm)).trans (dckB_apply _ _ _ _ _ _ _ k)) (gather fun s r => ?_)
  rw [← bB_pt]

theorem arr_ckA (c : Dev nD) : (dats m 0 c).arrAt 13 cfg0.N = fun y : S4x1x2048.Idx => Grad.ck (group m c) (even (y 0)) (y 2) := by
  refine (dats m 0 c).arrAt_eq_of_covers 13 _ (by decide +kernel) fun t hf y => ?_
  blk_simp
  rw [after0_13, Pipeline.eq_sum_fin_of_reset_step_apply_of_flush (fun n h => (outsAt0 m c n h).2.2.2.2.2.1) 4 (fun _ => 0) (ckPartA m c)
    (fun t h j => by rw [outsAt0_A m c t h (firstPt h) h (firstPt h) h (firstPt h) h (firstPt h)]; frame_out; idx_vars j; pointwise [k0_pay5, ckPartA])
    (fun t h j => by rw [outsAt0_B m c t h (laterPt h) h (laterPt h) h (laterPt h) h (laterPt h)]; frame_out; idx_vars j; pointwise [k0_pay6, k0_pay5, ckPartA])
    t ((flush0_13 t).mp hf) _, zero_add]
  have hb := idx13 t
  have h0 : even ((win0_13.blk t).view.emb y 0) = headA t := by
    apply Fin.ext; simp only [even, headA]; blk_simp [hb]
  have h1 : (win0_13.blk t).view.emb y 2 = (y 2 : Fin 2048) := by
    apply Fin.ext; blk_simp [hb]
  exact (sum_ckA m c t y).trans (congrArg₂ (Grad.ck (group m c)) h0 h1).symm

theorem arr_ckB (c : Dev nD) : (dats m 0 c).arrAt 14 cfg0.N = fun y : S4x1x2048.Idx => Grad.ck (group m c) (odd (y 0)) (y 2) := by
  refine (dats m 0 c).arrAt_eq_of_covers 14 _ (by decide +kernel) fun t hf y => ?_
  blk_simp
  rw [after0_14, Pipeline.eq_sum_fin_of_reset_step_apply_of_flush (fun n h => (outsAt0 m c n h).2.2.2.2.2.2) 4 (fun _ => 0) (ckPartB m c)
    (fun t h j => by rw [outsAt0_A m c t h (firstPt h) h (firstPt h) h (firstPt h) h (firstPt h)]; frame_out; idx_vars j; pointwise [k0_pay7, ckPartB])
    (fun t h j => by rw [outsAt0_B m c t h (laterPt h) h (laterPt h) h (laterPt h) h (laterPt h)]; frame_out; idx_vars j; pointwise [k0_pay8, k0_pay7, ckPartB])
    t ((flush0_14 t).mp hf) _, zero_add]
  have hb := idx14 t
  have h0 : odd ((win0_14.blk t).view.emb y 0) = headB t := by
    apply Fin.ext; simp only [odd, headB]; blk_simp [hb]
  have h1 : (win0_14.blk t).view.emb y 2 = (y 2 : Fin 2048) := by
    apply Fin.ext; blk_simp [hb]
  exact (sum_ckB m c t y).trans (congrArg₂ (Grad.ck (group m c)) h0 h1).symm

/-- Point `t`'s block of the query gradient. -/
theorem blk_q (c : Dev nD) (t : Fin cfg0.N) (y : S128x128.Idx) :
    dqBlk (grid0.coords t) (iblk m c 0 t) (iblk m c 1 t) (iblk m c 2 t) (iblk m c 3 t) (iblk m c 4 t) (iblk m c 5 t) (iblk m c 6 t) (iblk m c 7 t) y
      = Grad.q (group m c) (at' t (y 0)) (col t (y 1)) := by
  obtain ⟨r, l, rfl⟩ : ∃ r l, y = ix2 r l := ⟨y 0, y 1, eq_ix2 y⟩
  show _ = Grad.q (group m c) (at' t r) (col t l)
  rw [Grad.q]
  obtain ⟨d, rfl⟩ | ⟨d, rfl⟩ := lanes l
  · rw [head_colA, sub_colA, ← bA_eq]
    exact dqBlk_A _ _ _ _ _ _ _ _ _ r d
  · rw [head_colB, sub_colB, ← bB_eq]
    exact dqBlk_B _ _ _ _ _ _ _ _ _ r d

theorem arr_q (c : Dev nD) : (dats m 0 c).arrAt 8 cfg0.N = fun y : S512x512.Idx => Grad.q (group m c) (y 0) (y 1) := by
  refine (dats m 0 c).arrAt_eq_of_covers 8 _ (by decide +kernel) fun t hf y => ?_
  blk_simp
  have hb := idx8 t
  have h0 : (win0_8.blk t).view.emb y 0 = (at' t (y 0) : Fin 512) := by
    apply Fin.ext; blk_simp [hb, at']
  have h1 : (win0_8.blk t).view.emb y 1 = (col t (y 1) : Fin 512) := by
    apply Fin.ext; blk_simp [hb, col]
  refine Eq.trans ?_ ((blk_q m c t y).trans (congrArg₂ (Grad.q (group m c)) h0 h1).symm)
  rw [after0_8]
  by_cases h : t.val % 4 = 0
  · rw [outsAt0_A m c t h (firstPt h) h (firstPt h) h (firstPt h) h (firstPt h)]; frame_out
  · rw [outsAt0_B m c t h (laterPt h) h (laterPt h) h (laterPt h) h (laterPt h)]; frame_out

/-- Point `t`'s block of its first head's query-decay gradient. -/
theorem blk_cqA (c : Dev nD) (t : Fin cfg0.N) (y : S1x128x1.Idx) :
    k0_pay3 (F := Ideal) (k0_pay40 (k0_pay16 (grid0.coords t)) (sA (grid0.coords t) (iblk m c 0 t) (iblk m c 1 t) (iblk m c 2 t) (iblk m c 3 t) (iblk m c 5 t) (iblk m c 7 t))) y
      = Grad.cq (group m c) (headA t) (at' t (y 1)) := by
  idx_vars y
  show _ = Grad.cq (group m c) (headA t) (at' t y1)
  rw [Grad.cq, ← bA_eq, Subsingleton.elim y0 0, Subsingleton.elim y2 0]
  exact dcqA_apply _ _ _ _ _ _ _ y1

theorem arr_cqA (c : Dev nD) : (dats m 0 c).arrAt 11 cfg0.N = fun y : S4x512x1.Idx => Grad.cq (group m c) (even (y 0)) (y 1) := by
  refine (dats m 0 c).arrAt_eq_of_covers 11 _ (by decide +kernel) fun t hf y => ?_
  blk_simp
  have hb := idx11 t
  have h0 : even ((win0_11.blk t).view.emb y 0) = headA t := by
    apply Fin.ext; simp only [even, headA]; blk_simp [hb]
  have h1 : (win0_11.blk t).view.emb y 1 = (at' t (y 1) : Fin 512) := by
    apply Fin.ext; blk_simp [hb, at']
  refine Eq.trans ?_ ((blk_cqA m c t y).trans (congrArg₂ (Grad.cq (group m c)) h0 h1).symm)
  rw [after0_11]
  by_cases h : t.val % 4 = 0
  · rw [outsAt0_A m c t h (firstPt h) h (firstPt h) h (firstPt h) h (firstPt h)]; frame_out
  · rw [outsAt0_B m c t h (laterPt h) h (laterPt h) h (laterPt h) h (laterPt h)]; frame_out

/-- Point `t`'s block of its second head's query-decay gradient. -/
theorem blk_cqB (c : Dev nD) (t : Fin cfg0.N) (y : S1x128x1.Idx) :
    k0_pay4 (F := Ideal) (k0_pay37 (k0_pay16 (grid0.coords t)) (sB (grid0.coords t) (iblk m c 0 t) (iblk m c 1 t) (iblk m c 2 t) (iblk m c 4 t) (iblk m c 6 t) (iblk m c 7 t))) y
      = Grad.cq (group m c) (headB t) (at' t (y 1)) := by
  idx_vars y
  show _ = Grad.cq (group m c) (headB t) (at' t y1)
  rw [Grad.cq, ← bB_eq, Subsingleton.elim y0 0, Subsingleton.elim y2 0]
  exact dcqB_apply _ _ _ _ _ _ _ y1

theorem arr_cqB (c : Dev nD) : (dats m 0 c).arrAt 12 cfg0.N = fun y : S4x512x1.Idx => Grad.cq (group m c) (odd (y 0)) (y 1) := by
  refine (dats m 0 c).arrAt_eq_of_covers 12 _ (by decide +kernel) fun t hf y => ?_
  blk_simp
  have hb := idx12 t
  have h0 : odd ((win0_12.blk t).view.emb y 0) = headB t := by
    apply Fin.ext; simp only [odd, headB]; blk_simp [hb]
  have h1 : (win0_12.blk t).view.emb y 1 = (at' t (y 1) : Fin 512) := by
    apply Fin.ext; blk_simp [hb, at']
  refine Eq.trans ?_ ((blk_cqB m c t y).trans (congrArg₂ (Grad.cq (group m c)) h0 h1).symm)
  rw [after0_12]
  by_cases h : t.val % 4 = 0
  · rw [outsAt0_A m c t h (firstPt h) h (firstPt h) h (firstPt h) h (firstPt h)]; frame_out
  · rw [outsAt0_B m c t h (laterPt h) h (laterPt h) h (laterPt h) h (laterPt h)]; frame_out

end Cert.KernelIdeal.Val
end
-- ==== Proof.Ref.lean ====
module

public import proofs.«01_k».proof.Proof.Gen.ReferenceIdeal.Run
public import proofs.«01_k».proof.Proof.Gen.ReferenceIdeal.Read
public import proofs.«01_k».proof.Proof.Heads
public import proofs.«01_k».proof.Proof.Words
public import Idealize.ShloMosaic.Lib.ValueIdx

/-!
# What the reference computes
-/

@[expose] public section

set_option maxRecDepth 16384

noncomputable section

namespace Cert.ReferenceIdeal.Ref

open Cert.ReferenceIdeal Cert.ReferenceIdeal.Gen Cert.ReferenceIdeal.Read Cert.Fox
open Idealize.ShloMosaic Idealize.ShloMosaic.TcCoe Idealize.SL.Sem

variable (x0 x1 : FVec Ideal S2048x512 .bf16) (x2 : FVec Ideal S2048x8192 .f32) (x3 : FVec Ideal S8x2048x1 .f32)
  (x4 : FVec Ideal S8x1x2048 .f32) (x5 : FVec Ideal S2048x512 .f32)

/-- The group's rows, from the six arguments. -/
def rows : Group 2048 := fun h r =>
  { q := fun d => x0 (ix2 ⟨1536 + r.val, by omega⟩ (lane512 h d))
    cq := x3 (ix3 h ⟨1536 + r.val, by omega⟩ 0)
    pos := 1536 + r.val
    dy := fun d => x5 (ix2 ⟨1536 + r.val, by omega⟩ (lane512 h d))
    key := fun k d => x1 (ix2 k (lane512 h d))
    ck := fun k => x4 (ix3 h 0 k)
    val := fun k d => x2 (ix2 k ⟨1024 + (lane512 h d).val, by omega⟩) }

/-- The least float is `−∞`. -/
theorem bits_neg_inf : Ideal.ofBits .f32 0xFF800000#32 = ⊥ := by simp [Ideal.ofBits, Ideal.ieee]

/-- Query `r` of the group sees key `k`. -/
theorem seen (r : Fin 512) (k : Fin 2048) (x y : EReal) :
    Scalar.select (val_main_v24 (F := Ideal) (ix2 r k)) x y = if k.val ≤ 1536 + r.val then x else y := by
  pointwise [val_main_v24, val_main_v23, val_main_v22, val_main_v21, val_main_v20, val_main_v19, val_main_v18, val_main_v17, val_main_v16, val_main_c]
  have h1 : IntOp.addi 1536#32 (BitVec.ofNat 32 r.val) = BitVec.ofNat 32 (1536 + r.val) := by
    rw [BitVec.ofNat_add]; rfl
  rw [h1, select_sge (by omega) (by omega)]

theorem score_at (h : Fin 8) (r : Fin 512) (k : Fin 2048) :
    val_main_v25_0 (F := Ideal) x0 x1 x3 x4 (ix3 h r k) = (rows x0 x1 x2 x3 x4 x5 h r).score k := by
  pointwise [val_main_v25_0, val_main_v25_1, val_main_v15, val_main_v14, val_main_v13, val_main_v12, val_main_v11, val_main_v8, val_main_v7, val_main_v6, val_main_v5, val_main_v4, val_main_v3, val_main_v2, val_main_v1,
    val_main_call0_v2, val_main_call0_v0, val_main_cst, seen, bits_neg_inf]
  rfl

theorem max_at (v : FVec Ideal S8x512x2048 .f32) (c : FVec Ideal S_ .f32) (h : Fin 8) (r : Fin 512) :
    Host.reduce FloatOps.maximumf v c reducesTo_S8x512x2048_S8x512_d2 h_S_ (ix2 h r)
      = Finset.univ.fold max (c (Shape.Idx.first h_S_)) fun k : Fin 2048 => v (ix3 h r k) := by
  simp only [pointwise]

theorem peak_at (h : Fin 8) (r : Fin 512) :
    val_main_v33 (F := Ideal) x0 x1 x3 x4 (ix2 h r) = (rows x0 x1 x2 x3 x4 x5 h r).peak := by
  have h26 : val_main_v26 (F := Ideal) x0 x1 x3 x4 (ix2 h r) = (rows x0 x1 x2 x3 x4 x5 h r).peak := by
    rw [val_main_v26, max_at, val_main_cst_0_apply, Row.peak]
    have hs : (fun k : Fin 2048 => val_main_v25_0 (F := Ideal) x0 x1 x3 x4 (ix3 h r k)) = (rows x0 x1 x2 x3 x4 x5 h r).score :=
      funext fun k => score_at x0 x1 x2 x3 x4 x5 h r k
    rw [hs]
    exact congrArg (fun b => Finset.univ.fold max b (rows x0 x1 x2 x3 x4 x5 h r).score) bits_neg_inf
  rw [val_main_v33_apply, val_main_v32_apply, h26]
  show max (Ideal.ofBits .f32 0xFF800000#32) _ = _
  rw [bits_neg_inf, max_bot_left]

theorem wt_at (h : Fin 8) (r : Fin 512) (k : Fin 2048) :
    val_main_v46 (F := Ideal) x0 x1 x3 x4 (ix3 h r k) = (rows x0 x1 x2 x3 x4 x5 h r).wt k := by
  pointwise [val_main_v46, val_main_v45, val_main_v44, val_main_v34, val_main_v43, score_at x0 x1 x2 x3 x4 x5, peak_at x0 x1 x2 x3 x4 x5]
  rfl

theorem tot_at (h : Fin 8) (r : Fin 512) :
    val_main_v47 (F := Ideal) x0 x1 x3 x4 (ix2 h r) = (rows x0 x1 x2 x3 x4 x5 h r).tot := by
  pointwise [val_main_v47, wt_at x0 x1 x2 x3 x4 x5, val_main_cst_8]
  rfl

theorem prob_at (h : Fin 8) (r : Fin 512) (k : Fin 2048) (hR : (rows x0 x1 x2 x3 x4 x5 h r).Real) :
    val_main_v50 (F := Ideal) x0 x1 x3 x4 (ix3 h r k) = (rows x0 x1 x2 x3 x4 x5 h r).prob k := by
  pointwise [val_main_v50, val_main_v49, val_main_v48, wt_at x0 x1 x2 x3 x4 x5, tot_at x0 x1 x2 x3 x4 x5, Row.prob_eq hR]

theorem dprob_at (h : Fin 8) (r : Fin 512) (k : Fin 2048) :
    val_main_v60 (F := Ideal) x2 x5 (ix3 h r k) = (rows x0 x1 x2 x3 x4 x5 h r).dprob k := by
  pointwise [val_main_v60, val_main_v59, val_main_v58, val_main_v57, val_main_v56, val_main_v55, val_main_v10, val_main_v9, val_main_v0]
  rfl

theorem slope'_at (h : Fin 8) (r : Fin 512) (k : Fin 2048) (hR : (rows x0 x1 x2 x3 x4 x5 h r).Real) :
    val_main_v74 (F := Ideal) x0 x1 x2 x3 x4 x5 (ix3 h r k) = (rows x0 x1 x2 x3 x4 x5 h r).slope' k := by
  pointwise [val_main_v74, val_main_v73, val_main_v72, val_main_v71, val_main_v70, val_main_v69, val_main_v68, val_main_v67, val_main_v66, val_main_v65, val_main_v64, val_main_v63,
    val_main_v53, val_main_v52, val_main_v51, val_main_v48, val_main_cst_9, val_main_cst_10, val_main_cst_11, wt_at x0 x1 x2 x3 x4 x5, tot_at x0 x1 x2 x3 x4 x5, dprob_at x0 x1 x2 x3 x4 x5]
  simp only [Finset.univ_unique, Finset.sum_singleton]
  exact Row.slope'_eq hR k

theorem slope_at (h : Fin 8) (r : Fin 512) (k : Fin 2048) (hR : (rows x0 x1 x2 x3 x4 x5 h r).Real) :
    val_main_v75 (F := Ideal) x0 x1 x2 x3 x4 x5 (ix3 h r k) = (rows x0 x1 x2 x3 x4 x5 h r).slope k := by
  pointwise [val_main_v75, val_main_v25_1, seen, slope'_at x0 x1 x2 x3 x4 x5 h r k hR, val_main_call1_v0, val_main_call1_cst]
  rfl

/-- The reference's query gradient. -/
theorem q_at (hR : Real (rows x0 x1 x2 x3 x4 x5)) (r c : Fin 512) :
    val_main_v88 (F := Ideal) x0 x1 x2 x3 x4 x5 (ix2 r c) = Grad.q (rows x0 x1 x2 x3 x4 x5) r c := by
  pointwise [val_main_v88, val_main_v87, val_main_v82, val_main_v8, val_main_v7, val_main_v3, slope_at x0 x1 x2 x3 x4 x5 _ _ _ (hR _ _)]
  exact Finset.sum_congr rfl fun k _ => congrArg (fun l => _ * x1 (ix2 k l)) (lane_head_sub c).symm

/-- Its key gradient. -/
theorem k_at (hR : Real (rows x0 x1 x2 x3 x4 x5)) (k : Fin 2048) (c : Fin 512) :
    val_main_v86 (F := Ideal) x0 x1 x2 x3 x4 x5 (ix2 k c) = Grad.k (rows x0 x1 x2 x3 x4 x5) k c := by
  pointwise [val_main_v86, val_main_v85, val_main_v81, val_main_v6, val_main_v5, val_main_v2, val_main_v1, slope_at x0 x1 x2 x3 x4 x5 _ _ _ (hR _ _)]
  exact Finset.sum_congr rfl fun r _ => congrArg (fun l => _ * x0 (ix2 _ l)) (lane_head_sub c).symm

/-- Its value gradient. -/
theorem v_at (hR : Real (rows x0 x1 x2 x3 x4 x5)) (k : Fin 2048) (c : Fin 512) :
    val_main_v84 (F := Ideal) x0 x1 x3 x4 x5 (ix2 k c) = Grad.v (rows x0 x1 x2 x3 x4 x5) k c := by
  pointwise [val_main_v84, val_main_v83, val_main_v62, val_main_v61, val_main_v59, val_main_v58, val_main_v57, prob_at x0 x1 x2 x3 x4 x5 _ _ _ (hR _ _)]
  refine Finset.sum_congr rfl fun r _ => ?_
  rw [mul_comm]
  exact congrArg (fun l => _ * x5 (ix2 _ l)) (lane_head_sub c).symm

/-- Its gradient of the even heads' query decays. -/
theorem cqA_at (hR : Real (rows x0 x1 x2 x3 x4 x5)) (p : Fin 4) (r : Fin 512) (u : Fin 1) :
    val_main_v89 (F := Ideal) x0 x1 x2 x3 x4 x5 (ix3 p r u) = Grad.cq (rows x0 x1 x2 x3 x4 x5) (even p) r := by
  pointwise [val_main_v89, val_main_v80, val_main_v79, val_main_cst_13, slope_at x0 x1 x2 x3 x4 x5 _ _ _ (hR _ _)]
  have he : (⟨2 * p.val, by omega⟩ : Fin 8) = even p := Fin.ext (by simp only [even])
  rw [he]
  rfl

/-- Its gradient of the odd heads' query decays. -/
theorem cqB_at (hR : Real (rows x0 x1 x2 x3 x4 x5)) (p : Fin 4) (r : Fin 512) (u : Fin 1) :
    val_main_v90 (F := Ideal) x0 x1 x2 x3 x4 x5 (ix3 p r u) = Grad.cq (rows x0 x1 x2 x3 x4 x5) (odd p) r := by
  pointwise [val_main_v90, val_main_v80, val_main_v79, val_main_cst_13, slope_at x0 x1 x2 x3 x4 x5 _ _ _ (hR _ _)]
  have he : (⟨1 + 2 * p.val, by omega⟩ : Fin 8) = odd p := Fin.ext (by simp only [odd]; omega)
  rw [he]
  rfl

/-- Its gradient of the even heads' key decays. -/
theorem ckA_at (hR : Real (rows x0 x1 x2 x3 x4 x5)) (p : Fin 4) (k : Fin 2048) (u : Fin 1) :
    val_main_v91 (F := Ideal) x0 x1 x2 x3 x4 x5 (ix3 p u k) = Grad.ck (rows x0 x1 x2 x3 x4 x5) (even p) k := by
  pointwise [val_main_v91, val_main_v78, val_main_v77, val_main_v76, val_main_cst_12, slope_at x0 x1 x2 x3 x4 x5 _ _ _ (hR _ _)]
  have he : (⟨2 * p.val, by omega⟩ : Fin 8) = even p := Fin.ext (by simp only [even])
  rw [he]
  exact Finset.sum_congr rfl fun r _ => (zero_sub _).symm

/-- Its gradient of the odd heads' key decays. -/
theorem ckB_at (hR : Real (rows x0 x1 x2 x3 x4 x5)) (p : Fin 4) (k : Fin 2048) (u : Fin 1) :
    val_main_v92 (F := Ideal) x0 x1 x2 x3 x4 x5 (ix3 p u k) = Grad.ck (rows x0 x1 x2 x3 x4 x5) (odd p) k := by
  pointwise [val_main_v92, val_main_v78, val_main_v77, val_main_v76, val_main_cst_12, slope_at x0 x1 x2 x3 x4 x5 _ _ _ (hR _ _)]
  have he : (⟨1 + 2 * p.val, by omega⟩ : Fin 8) = odd p := Fin.ext (by simp only [odd]; omega)
  rw [he]
  exact Finset.sum_congr rfl fun r _ => (zero_sub _).symm

end Cert.ReferenceIdeal.Ref
end
-- ==== Proof.Pre.lean ====
module

public import proofs.«01_k».proof.Proof.Gen.Pre_finite
public import proofs.«01_k».proof.Defs
public import proofs.«01_k».proof.Proof.Value
public import Idealize.ShloMosaic.Lib.ReduceAll
public import Idealize.ShloMosaic.Lib.ValueIdx

/-!
# What the precondition gives

The printed precondition is the conjunction of four reductions; each says that every element of one argument has an
absolute value below `⊤`. An extended real whose absolute value is below `⊤` is neither `⊤` nor `⊥`.
-/

@[expose] public section

set_option maxRecDepth 16384

noncomputable section

namespace Cert.Finite

open Cert.Fox Idealize.ShloMosaic Idealize.ShloMosaic.TcCoe Idealize.SL.Sem

/-- The word of infinity is `⊤`. -/
theorem bits_inf : Ideal.ofBits .f32 0x7F800000#32 = ⊤ := by simp [Ideal.ofBits, Ideal.ieee]

/-- Below `⊤` in absolute value is finite. -/
theorem of_cmp {x : EReal} (h : Ideal.cmp .olt (max x (-x)) (Ideal.ofBits .f32 0x7F800000#32) = 1#1) :
    x ≠ ⊥ ∧ x ≠ ⊤ := by
  rw [bits_inf] at h
  constructor <;> rintro rfl <;> simp [Ideal.cmp] at h

variable (x0 x1 : FVec Ideal Cert.Pre_finite.S2048x512 .bf16) (x2 : FVec Ideal Cert.Pre_finite.S2048x8192 .f32)
  (x3 : FVec Ideal Cert.Pre_finite.S8x2048x1 .f32) (x4 : FVec Ideal Cert.Pre_finite.S8x1x2048 .f32)
  (x5 : FVec Ideal Cert.Pre_finite.S2048x512 .f32)

/-- The precondition says that the queries, the keys and the two forms of the decays are finite. -/
theorem finite (h : Cert.Pre_finite.fn (F := Ideal) x0 x1 x2 x3 x4 x5 = fun _ => 1#1) :
    (∀ i, (x0 i : EReal) ≠ ⊥ ∧ (x0 i : EReal) ≠ ⊤) ∧ (∀ i, (x1 i : EReal) ≠ ⊥ ∧ (x1 i : EReal) ≠ ⊤)
    ∧ (∀ i, (x3 i : EReal) ≠ ⊥ ∧ (x3 i : EReal) ≠ ⊤) ∧ (∀ i, (x4 i : EReal) ≠ ⊥ ∧ (x4 i : EReal) ≠ ⊤) := by
  have j : Cert.Pre_finite.S_.Idx := fun k => k.elim0
  have h := congrFun h j
  obtain ⟨h, h4⟩ := IntOp.andi_eq_one.1 h
  obtain ⟨h, h3⟩ := IntOp.andi_eq_one.1 h
  obtain ⟨h0, h1⟩ := IntOp.andi_eq_one.1 h
  haveI : Subsingleton Cert.Pre_finite.S_.Idx := ⟨fun a b => funext fun k => k.elim0⟩
  exact ⟨fun i => of_cmp (Host.reduce_andi_all _ _ _ _ j h0 i), fun i => of_cmp (Host.reduce_andi_all _ _ _ _ j h1 i),
    fun i => of_cmp (Host.reduce_andi_all _ _ _ _ j h3 i), fun i => of_cmp (Host.reduce_andi_all _ _ _ _ j h4 i)⟩

end Cert.Finite

end
-- ==== Proof.Gradient.lean ====
module

public import proofs.«01_k».proof.Defs
public import proofs.«01_k».proof.Proof.Value
public import proofs.«01_k».proof.Proof.Ref
public import proofs.«01_k».proof.Proof.Pre

/-!
# The kernel computes the reference's gradient

Both programs' results are the gradients of `Heads.lean` at the rows the arguments give.
-/

@[expose] public section

set_option maxRecDepth 16384

noncomputable section

namespace Cert.Gradient

open Cert.Fox Idealize.ShloMosaic Idealize.ShloMosaic.TcCoe Idealize.SL.Sem
open Cert.ReferenceIdeal.Read Cert.ReferenceIdeal.Ref

/-- The kernel's arguments meet the precondition: the rows are real. -/
theorem real (m : (ℓ : Loc Cert.KernelIdeal.nD Cert.KernelIdeal.τ Cert.KernelIdeal.sig) → Buf (Elt Ideal) ℓ)
    (h : Cert.Pre_KernelIdeal_finite m) (c : Dev Cert.KernelIdeal.nD) : Fox.Real (Cert.KernelIdeal.Val.group m c) := by
  obtain ⟨h0, h1, h3, h4⟩ := Cert.Finite.finite _ _ _ _ _ _ (h c)
  intro a r
  exact ⟨fun d => h0 _, h3 _, fun k d => h1 _, fun k => h4 _, Nat.succ_pos _⟩

section
variable (x0 x1 : FVec Ideal Cert.ReferenceIdeal.S2048x512 .bf16) (x2 : FVec Ideal Cert.ReferenceIdeal.S2048x8192 .f32)
  (x3 : FVec Ideal Cert.ReferenceIdeal.S8x2048x1 .f32) (x4 : FVec Ideal Cert.ReferenceIdeal.S8x1x2048 .f32)
  (x5 : FVec Ideal Cert.ReferenceIdeal.S2048x512 .f32) (G : Group 2048) (hG : rows x0 x1 x2 x3 x4 x5 = G) (h : Fox.Real G)
include hG h

theorem q_eq : val_main_v88 (F := Ideal) x0 x1 x2 x3 x4 x5 = fun y : Cert.ReferenceIdeal.S512x512.Idx => Grad.q G (y 0) (y 1) := by
  subst hG; funext y; obtain ⟨a, b, rfl⟩ : ∃ a b, y = ix2 a b := ⟨y 0, y 1, eq_ix2 y⟩; exact q_at _ _ _ _ _ _ h a b
theorem k_eq : val_main_v86 (F := Ideal) x0 x1 x2 x3 x4 x5 = fun y : Cert.ReferenceIdeal.S2048x512.Idx => Grad.k G (y 0) (y 1) := by
  subst hG; funext y; obtain ⟨a, b, rfl⟩ : ∃ a b, y = ix2 a b := ⟨y 0, y 1, eq_ix2 y⟩; exact k_at _ _ _ _ _ _ h a b
theorem v_eq : val_main_v84 (F := Ideal) x0 x1 x3 x4 x5 = fun y : Cert.ReferenceIdeal.S2048x512.Idx => Grad.v G (y 0) (y 1) := by
  subst hG; funext y; obtain ⟨a, b, rfl⟩ : ∃ a b, y = ix2 a b := ⟨y 0, y 1, eq_ix2 y⟩; exact v_at _ _ _ _ _ _ h a b
theorem cqA_eq : val_main_v89 (F := Ideal) x0 x1 x2 x3 x4 x5 = fun y : Cert.ReferenceIdeal.S4x512x1.Idx => Grad.cq G (even (y 0)) (y 1) := by
  subst hG; funext y; obtain ⟨a, b, u, rfl⟩ : ∃ a b u, y = ix3 a b u := ⟨y 0, y 1, y 2, eq_ix3 y⟩; exact cqA_at _ _ _ _ _ _ h a b u
theorem cqB_eq : val_main_v90 (F := Ideal) x0 x1 x2 x3 x4 x5 = fun y : Cert.ReferenceIdeal.S4x512x1.Idx => Grad.cq G (odd (y 0)) (y 1) := by
  subst hG; funext y; obtain ⟨a, b, u, rfl⟩ : ∃ a b u, y = ix3 a b u := ⟨y 0, y 1, y 2, eq_ix3 y⟩; exact cqB_at _ _ _ _ _ _ h a b u
theorem ckA_eq : val_main_v91 (F := Ideal) x0 x1 x2 x3 x4 x5 = fun y : Cert.ReferenceIdeal.S4x1x2048.Idx => Grad.ck G (even (y 0)) (y 2) := by
  subst hG; funext y; obtain ⟨a, u, b, rfl⟩ : ∃ a u b, y = ix3 a u b := ⟨y 0, y 1, y 2, eq_ix3 y⟩; exact ckA_at _ _ _ _ _ _ h a b u
theorem ckB_eq : val_main_v92 (F := Ideal) x0 x1 x2 x3 x4 x5 = fun y : Cert.ReferenceIdeal.S4x1x2048.Idx => Grad.ck G (odd (y 0)) (y 2) := by
  subst hG; funext y; obtain ⟨a, u, b, rfl⟩ : ∃ a u b, y = ix3 a u b := ⟨y 0, y 1, y 2, eq_ix3 y⟩; exact ckB_at _ _ _ _ _ _ h a b u
end

/-- The algebraic claim. -/
theorem algebraic : Cert.algebraic_KernelIdeal_ReferenceIdeal_pre_finite := by
  intro m g m' g' hpre hag
  have hR := real m hpre
  have hG : ∀ c : Dev Cert.KernelIdeal.nD, rows
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      = Cert.KernelIdeal.Val.group m c := fun c => by
    obtain ⟨h0, h1, h2, h3, h4, h5⟩ := hag c
    rw [h0, h1, h2, h3, h4, h5]
    rfl
  refine ⟨_, _, _, _, _, _, _, Cert.KernelIdeal.Value.run_blocks m g, (θ_run _ _ _).mono (fun r h c => ?_) (Cert.ReferenceIdeal.Value.run m' g')⟩
  obtain ⟨h0, h1, h2, h3, h4, h5, h6, hk⟩ := h c
  exact ⟨h0.trans ((val_main_v88_eq m' c).trans ((q_eq _ _ _ _ _ _ _ (hG c) (hR c)).trans (Cert.KernelIdeal.Val.arr_q m c).symm)),
    h1.trans ((val_main_v86_eq m' c).trans ((k_eq _ _ _ _ _ _ _ (hG c) (hR c)).trans (Cert.KernelIdeal.Val.arr_k m c).symm)),
    h2.trans ((val_main_v84_eq m' c).trans ((v_eq _ _ _ _ _ _ _ (hG c) (hR c)).trans (Cert.KernelIdeal.Val.arr_v m c).symm)),
    h3.trans ((val_main_v89_eq m' c).trans ((cqA_eq _ _ _ _ _ _ _ (hG c) (hR c)).trans (Cert.KernelIdeal.Val.arr_cqA m c).symm)),
    h4.trans ((val_main_v90_eq m' c).trans ((cqB_eq _ _ _ _ _ _ _ (hG c) (hR c)).trans (Cert.KernelIdeal.Val.arr_cqB m c).symm)),
    h5.trans ((val_main_v91_eq m' c).trans ((ckA_eq _ _ _ _ _ _ _ (hG c) (hR c)).trans (Cert.KernelIdeal.Val.arr_ckA m c).symm)),
    h6.trans ((val_main_v92_eq m' c).trans ((ckB_eq _ _ _ _ _ _ _ (hG c) (hR c)).trans (Cert.KernelIdeal.Val.arr_ckB m c).symm)), hk⟩

end Cert.Gradient

end
-- ==== Proof.Product.lean ====
module

public import Idealize.ShloMosaic.PureOps.Ideal
public import Idealize.ShloMosaic.Lib.Pointwise

/-!
# Sums of products

The entries of a matrix product on extended reals.
-/

@[expose] public section

namespace Cert.Product

open Idealize.ShloMosaic

/-- Two sums of products agree where their factors do. -/
theorem congr {n : ℕ} {a b a' b' : Fin n → EReal} (ha : ∀ k, a k = a' k) (hb : ∀ k, b k = b' k) :
    ∑ k, a k * b k = ∑ k, a' k * b' k :=
  Finset.sum_congr rfl fun k _ => congrArg₂ (· * ·) (ha k) (hb k)

/-- A sum of products taken in `J` runs of `T`. -/
theorem gather (J T : ℕ) {N : ℕ} (hN : J * T = N) {p : Fin J → EReal} {a b : Fin J → Fin T → EReal} {a' b' : Fin N → EReal}
    (hp : ∀ s, p s = ∑ r, a s r * b s r) (ha : ∀ s r (hk : s.val * T + r.val < N), a s r = a' ⟨s.val * T + r.val, hk⟩)
    (hb : ∀ s r (hk : s.val * T + r.val < N), b s r = b' ⟨s.val * T + r.val, hk⟩) : ∑ s, p s = ∑ l, a' l * b' l := by
  rw [Fin.sum_univ_tiles J T hN]
  exact Finset.sum_congr rfl fun s _ => (hp s).trans (congr (fun r => ha s r _) fun r => hb s r _)

end Cert.Product
-- ==== Proof.InProjWeight.lean ====
module

public import proofs.«01_k».proof.Defs
public import proofs.«01_k».proof.Proof.Gen.Kernel2Ideal.Value
public import proofs.«01_k».proof.Proof.Gen.Reference2Ideal.Run
public import proofs.«01_k».proof.Proof.Gen.Reference2Ideal.Read
public import proofs.«01_k».proof.Proof.Product
public import Idealize.ShloMosaic.Lib.Pipeline.ValueKit
public import Idealize.ShloMosaic.Lib.ValueIdx

/-!
# The gradient of the input projection's weight

Entry `(i, j)` is the sum over the 2048 tokens of the projections' gradient at column `i` times the layer's input at
column `j`. Grid point `t` computes columns `1024 t` to `1024 (t + 1)` of the projections in one product.
-/

@[expose] public section

set_option maxRecDepth 16384

noncomputable section

namespace Cert.InProjWeight

open Cert.Kernel2Ideal Cert.Kernel2Ideal.Gen Cert.Reference2Ideal.Read
open Idealize.ShloMosaic Idealize.ShloMosaic.TcCoe Idealize.SL.Sem

/-- The product of the transposed `a` with `b`. -/
def spec (a : FVec Ideal S2048x8192 .bf16) (b : FVec Ideal S2048x1024 .bf16) : FVec Ideal S8192x1024 .f32 := fun y =>
  ∑ k : Fin 2048, a (ix2 k (y 0)) * b (ix2 k (y 1))

/-- What one grid point computes. -/
theorem block_apply (x0 x1 : Vec Ideal S2048x1024 .bf16) (i j : Fin 1024) :
    k0_pay2 (F := Ideal) x0 x1 (ix2 i j) = ∑ k : Fin 2048, x0 (ix2 k i) * x1 (ix2 k j) := by
  pointwise [k0_pay2, k0_pay1]

variable (m : (ℓ : Loc nD τ sig) → Buf (Elt Ideal) ℓ)

theorem idx0 : ∀ t : Fin cfg0.N, win0_0.index t = ![0, t.val] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)
theorem pts (t : Fin cfg0.N) : t.val < 8 := lt_of_lt_of_eq t.isLt (by decide +kernel)

/-- The kernel's result. -/
theorem arr (c : Dev nD) : (dats m 0 c).arrAt 2 cfg0.N
    = spec (m ((c : Thread nD τ).loc main_arg0)) (m ((c : Thread nD τ).loc main_arg1)) := by
  refine (dats m 0 c).arrAt_eq_of_covers 2 _ (by decide +kernel) fun t hf y => ?_
  blk_simp
  have ht := pts t
  rw [after0_2, outsAt0]
  frame_out
  obtain ⟨i, j, rfl⟩ : ∃ i j, y = ix2 i j := ⟨y 0, y 1, eq_ix2 y⟩
  rw [block_apply]
  refine Product.congr (fun k => ?_) fun k => ?_
  · blk_ext [iblk, V, idx0 t, idx2 t]
  · blk_ext [iblk, V, idx1 t, idx2 t]

/-- The reference's result. -/
theorem ref (a : FVec Ideal S2048x8192 .bf16) (b : FVec Ideal S2048x1024 .bf16) :
    Cert.Reference2Ideal.Read.val_main_v7 (F := Ideal) a b = spec a b := by
  funext y
  obtain ⟨i, j, rfl⟩ : ∃ i j, y = ix2 i j := ⟨y 0, y 1, eq_ix2 y⟩
  pointwise [val_main_v7, val_main_v6, val_main_v5, val_main_v4]
  exact Finset.sum_congr rfl fun k _ => rfl

theorem algebraic : Cert.algebraic_Kernel2Ideal_Reference2Ideal := by
  intro m g m' g' _ hag
  refine ⟨_, Cert.Kernel2Ideal.Value.run_blocks m g, (θ_run _ _ _).mono (fun r h c => ?_) (Cert.Reference2Ideal.Value.run m' g')⟩
  obtain ⟨h0, hk⟩ := h c
  obtain ⟨a0, a1⟩ := hag c
  refine ⟨h0.trans ((val_main_v7_eq _ _).trans ?_), hk⟩
  rw [ref, arr, a0, a1]

end Cert.InProjWeight

end
-- ==== Proof.InProjInput.lean ====
module

public import Idealize.ShloMosaic.Lib.Pipeline.ReadBack
public import proofs.«01_k».proof.Defs
public import proofs.«01_k».proof.Proof.Gen.Kernel3Ideal.Value
public import proofs.«01_k».proof.Proof.Gen.Reference3Ideal.Run
public import proofs.«01_k».proof.Proof.Gen.Reference3Ideal.Read
public import proofs.«01_k».proof.Proof.Product
public import Idealize.ShloMosaic.Lib.Pipeline.ValueKit
public import Idealize.ShloMosaic.Lib.ValueIdx

/-!
# The gradient of the input projection's input

Entry `(i, j)` is the sum over the 8192 columns of the projections' gradient at token `i` times the weight of row `j`.
Grid point `t` adds the products of columns `2048 (t % 4)` to `2048 (t % 4 + 1)` for the tokens of block `t / 4`.
-/

@[expose] public section

set_option maxRecDepth 16384

noncomputable section

namespace Cert.InProjInput

open Cert.Kernel3Ideal Cert.Kernel3Ideal.Gen Cert.Reference3Ideal.Read
open Idealize.ShloMosaic Idealize.ShloMosaic.TcCoe Idealize.SL.Sem

/-- The product of `a` with the transposed `b`. -/
def spec (a : FVec Ideal S2048x8192 .bf16) (b : FVec Ideal S1024x8192 .bf16) : FVec Ideal S2048x1024 .f32 := fun y =>
  ∑ k : Fin 8192, a (ix2 (y 0) k) * b (ix2 (y 1) k)

/-- What one grid point computes. -/
theorem part_apply (x0 x1 : Vec Ideal S1024x2048 .bf16) (i j : Fin 1024) :
    k0_pay2 (F := Ideal) x0 x1 (ix2 i j) = ∑ k : Fin 2048, x0 (ix2 i k) * x1 (ix2 j k) := by
  pointwise [k0_pay2, k0_pay1]

/-- And what it adds to. -/
theorem step_apply (x0 x1 : Vec Ideal S1024x2048 .bf16) (x : Vec Ideal S1024x1024 .f32) (i j : Fin 1024) :
    k0_pay3 (F := Ideal) x0 x1 x (ix2 i j) = x (ix2 i j) + k0_pay2 (F := Ideal) x0 x1 (ix2 i j) := by
  pointwise [k0_pay3, k0_pay2]

variable (m : (ℓ : Loc nD τ sig) → Buf (Elt Ideal) ℓ)

theorem idx0 : ∀ t : Fin cfg0.N, win0_0.index t = ![t.val / 4, t.val % 4] := (by decide +kernel : ∀ t : Fin grid0.N, _)
theorem idx1 : ∀ t : Fin cfg0.N, win0_1.index t = ![0, t.val % 4] := (by decide +kernel : ∀ t : Fin grid0.N, _)
theorem idx2 : ∀ t : Fin cfg0.N, win0_2.index t = ![t.val / 4, 0] := (by decide +kernel : ∀ t : Fin grid0.N, _)
theorem pts (t : Fin cfg0.N) : t.val < 8 := lt_of_lt_of_eq t.isLt (by decide +kernel)

/-- What point `t` adds. -/
def part (c : Dev nD) (t : Fin cfg0.N) (y : S1024x1024.Idx) : EReal := k0_pay2 (F := Ideal) (iblk m c 0 t) (iblk m c 1 t) y

/-- The accumulator where a block is written back. -/
theorem acc (c : Dev nD) (t : Fin cfg0.N) (h : t.val % 4 = 3) (y : S1024x1024.Idx) : (outsAt0 m c t.val t.isLt).2 y
    = 0 + ∑ s : Fin 4, part m c ⟨4 * (t.val / 4) + s.val, by have := pts t; show _ < 8; omega⟩ y := by
  refine Pipeline.eq_sum_fin_of_reset_step_apply_of_flush (fun n h => (outsAt0 m c n h).2) 4 (fun _ => 0) (part m c)
    (fun t h j => ?_) (fun t h j => ?_) t h y
  · rw [outsAt0_A m c t h (by omega) (by omega)]
    frame_out
    exact (zero_add _).symm
  · have h1 : 1 ≤ t.val % 4 := by omega
    by_cases h2 : t.val % 4 = 3
    · rw [outsAt0_C m c t h h1 h2]
      frame_out
      idx_vars j
      exact (step_apply _ _ _ _ _).trans (congrArg (· + part m c t _) (congrFun (read_unread_whole _ _ _) _))
    · rw [outsAt0_B m c t h h1 h2]
      frame_out
      idx_vars j
      exact (step_apply _ _ _ _ _).trans (congrArg (· + part m c t _) (congrFun (read_unread_whole _ _ _) _))

/-- The kernel's result. -/
theorem arr (c : Dev nD) : (dats m 0 c).arrAt 2 cfg0.N
    = spec (m ((c : Thread nD τ).loc main_arg0)) (m ((c : Thread nD τ).loc main_arg1)) := by
  refine (dats m 0 c).arrAt_eq_of_covers 2 _ (by decide +kernel) fun t hf y => ?_
  blk_simp
  have ht := pts t
  have h3 := (flush0_2 t).mp hf
  have ho : (outsAt0 m c t.val t.isLt).1 = (outsAt0 m c t.val t.isLt).2 := by
    rw [outsAt0_C m c t (by omega) (by omega) h3]
    frame_out
  rw [after0_2, ho, acc m c t h3, zero_add]
  obtain ⟨i, j, rfl⟩ : ∃ i j, y = ix2 i j := ⟨y 0, y 1, eq_ix2 y⟩
  refine Product.gather 4 2048 rfl (fun s => part_apply _ _ _ _) (fun s r _ => ?_) fun s r _ => ?_
  · blk_ext [iblk, V, idx0, idx2 t]
  · blk_ext [iblk, V, idx1, idx2 t]

/-- The reference's result. -/
theorem ref (a : FVec Ideal S2048x8192 .bf16) (b : FVec Ideal S1024x8192 .bf16) : val_main_v5 (F := Ideal) a b = spec a b := by
  funext y
  obtain ⟨i, j, rfl⟩ : ∃ i j, y = ix2 i j := ⟨y 0, y 1, eq_ix2 y⟩
  pointwise [val_main_v5, val_main_v4, val_main_v1]
  exact Finset.sum_congr rfl fun k _ => rfl

theorem algebraic : Cert.algebraic_Kernel3Ideal_Reference3Ideal := by
  intro m g m' g' _ hag
  refine ⟨_, Cert.Kernel3Ideal.Value.run_blocks m g, (θ_run _ _ _).mono (fun r h c => ?_) (Cert.Reference3Ideal.Value.run m' g')⟩
  obtain ⟨h0, hk⟩ := h c
  obtain ⟨a0, a1⟩ := hag c
  refine ⟨h0.trans ((val_main_v5_eq _ _).trans ?_), hk⟩
  rw [ref, arr, a0, a1]

end Cert.InProjInput

end
-- ==== Proof.InProj.lean ====
module

public import proofs.«01_k».proof.Defs
public import proofs.«01_k».proof.Proof.Gen.Kernel4Ideal.Value
public import proofs.«01_k».proof.Proof.Gen.Reference4Ideal.Run
public import proofs.«01_k».proof.Proof.Gen.Reference4Ideal.Read
public import proofs.«01_k».proof.Proof.Product
public import Idealize.ShloMosaic.Lib.Pipeline.ValueKit
public import Idealize.ShloMosaic.Lib.Pipeline.ReadBack
public import Idealize.ShloMosaic.Lib.ValueIdx

/-!
# The input projection

Entry `(i, j)` is the sum over the 1024 columns of the layer's input of the input at token `i` times the weight's column
`j`. Grid point `t` computes columns `1024 t` to `1024 (t + 1)` for all tokens in one product.
-/

@[expose] public section

set_option maxRecDepth 16384

noncomputable section

namespace Cert.InProj

open Cert.Kernel4Ideal Cert.Kernel4Ideal.Gen Cert.Reference4Ideal.Read
open Idealize.ShloMosaic Idealize.ShloMosaic.TcCoe Idealize.SL.Sem

/-- The product of `a` with `b`. -/
def spec (a : FVec Ideal S2048x1024 .bf16) (b : FVec Ideal S1024x8192 .bf16) : FVec Ideal S2048x8192 .f32 := fun y =>
  ∑ k : Fin 1024, a (ix2 (y 0) k) * b (ix2 k (y 1))

/-- What one grid point computes. -/
theorem block_apply (x0 : Vec Ideal S2048x1024 .bf16) (x1 : Vec Ideal S1024x1024 .bf16) (i : Fin 2048) (j : Fin 1024) :
    k0_pay2 (F := Ideal) x0 x1 (ix2 i j) = ∑ k : Fin 1024, x0 (ix2 i k) * x1 (ix2 k j) := by
  pointwise [k0_pay2, k0_pay1]

variable (m : (ℓ : Loc nD τ sig) → Buf (Elt Ideal) ℓ)

theorem idx0 : ∀ t : Fin cfg0.N, win0_0.index t = ![0, 0] := (by decide +kernel : ∀ t : Fin grid0.N, _)
theorem idx1 : ∀ t : Fin cfg0.N, win0_1.index t = ![0, t.val] := (by decide +kernel : ∀ t : Fin grid0.N, _)
theorem idx2 : ∀ t : Fin cfg0.N, win0_2.index t = ![0, t.val] := (by decide +kernel : ∀ t : Fin grid0.N, _)
theorem pts (t : Fin cfg0.N) : t.val < 8 := lt_of_lt_of_eq t.isLt (by decide +kernel)

/-- The kernel's result. -/
theorem arr (c : Dev nD) : (dats m 0 c).arrAt 2 cfg0.N
    = spec (m ((c : Thread nD τ).loc main_arg0)) (m ((c : Thread nD τ).loc main_arg1)) := by
  refine (dats m 0 c).arrAt_eq_of_covers 2 _ (by decide +kernel) fun t hf y => ?_
  blk_simp
  have ht := pts t
  rw [after0_2, outsAt0]
  frame_out
  obtain ⟨i, j, rfl⟩ : ∃ i j, y = ix2 i j := ⟨y 0, y 1, eq_ix2 y⟩
  rw [block_apply]
  refine Product.congr (fun k => ?_) fun k => ?_
  · blk_ext [iblk, V, idx0 t, idx2 t]
  · blk_ext [iblk, V, idx1 t, idx2 t]

/-- The reference's result. -/
theorem ref (a : FVec Ideal S2048x1024 .bf16) (b : FVec Ideal S1024x8192 .bf16) : val_main_v2 (F := Ideal) a b = spec a b := by
  funext y
  obtain ⟨i, j, rfl⟩ : ∃ i j, y = ix2 i j := ⟨y 0, y 1, eq_ix2 y⟩
  pointwise [val_main_v2, val_main_v1, val_main_v0]
  exact Finset.sum_congr rfl fun k _ => rfl

theorem algebraic : Cert.algebraic_Kernel4Ideal_Reference4Ideal := by
  intro m g m' g' _ hag
  refine ⟨_, Cert.Kernel4Ideal.Value.run_blocks m g, (θ_run _ _ _).mono (fun r h c => ?_) (Cert.Reference4Ideal.Value.run m' g')⟩
  obtain ⟨h0, hk⟩ := h c
  obtain ⟨a0, a1⟩ := hag c
  refine ⟨h0.trans ((val_main_v2_eq _ _).trans ?_), hk⟩
  rw [ref, arr, a0, a1]

end Cert.InProj

end
-- ==== Proof.UpGate.lean ====
module

public import proofs.«01_k».proof.Defs
public import proofs.«01_k».proof.Proof.Gen.Kernel5Ideal.Value
public import proofs.«01_k».proof.Proof.Gen.Reference5Ideal.Run
public import proofs.«01_k».proof.Proof.Gen.Reference5Ideal.Read
public import proofs.«01_k».proof.Proof.Product
public import Idealize.ShloMosaic.Lib.Pipeline.ValueKit
public import Idealize.ShloMosaic.Lib.Pipeline.ReadBack
public import Idealize.ShloMosaic.Lib.ValueIdx

/-!
# The up projection: the gate's columns

Entry `(i, j)` is the sum over the 1024 columns of the layer's input of the input at token `i` times the weight's column
`j`, which is column `j % 1408` of piece `j / 1408`. Grid point `t` computes tokens `1024 (t / 2)` to `1024 (t / 2 + 1)`
of the columns of piece `t % 2`.
-/

@[expose] public section

set_option maxRecDepth 16384

noncomputable section

namespace Cert.UpGate

open Cert.Kernel5Ideal Cert.Kernel5Ideal.Gen Cert.Reference5Ideal.Read
open Idealize.ShloMosaic Idealize.ShloMosaic.TcCoe Idealize.SL.Sem

/-- The product of `a` with the first two pieces of `b`. -/
def spec (a : FVec Ideal S2048x1024 .bf16) (b : FVec Ideal S4x1024x1408 .bf16) : FVec Ideal S2048x2816 .f32 := fun y =>
  ∑ k : Fin 1024, a (ix2 (y 0) k) * b (ix3 ⟨(y 1).val / 1408, by have := (y 1).isLt; simp at this; omega⟩ k ⟨(y 1).val % 1408, Nat.mod_lt _ (by decide)⟩)

/-- What one grid point computes. -/
theorem block_apply (x0 : Vec Ideal S1024x1024 .bf16) (x1 : Vec Ideal S1x1024x1408 .bf16) (i : Fin 1024) (j : Fin 1408) :
    k0_pay2 (F := Ideal) x0 x1 (ix2 i j) = ∑ k : Fin 1024, x0 (ix2 i k) * x1 (ix3 0 k j) := by
  pointwise [k0_pay2, k0_pay1]

variable (m : (ℓ : Loc nD τ sig) → Buf (Elt Ideal) ℓ)

theorem idx0 : ∀ t : Fin cfg0.N, win0_0.index t = ![t.val / 2, 0] := (by decide +kernel : ∀ t : Fin grid0.N, _)
theorem idx1 : ∀ t : Fin cfg0.N, win0_1.index t = ![t.val % 2, 0, 0] := (by decide +kernel : ∀ t : Fin grid0.N, _)
theorem idx2 : ∀ t : Fin cfg0.N, win0_2.index t = ![t.val / 2, t.val % 2] := (by decide +kernel : ∀ t : Fin grid0.N, _)
theorem pts (t : Fin cfg0.N) : t.val < 4 := lt_of_lt_of_eq t.isLt (by decide +kernel)

/-- The kernel's result. -/
theorem arr (c : Dev nD) : (dats m 0 c).arrAt 2 cfg0.N
    = spec (m ((c : Thread nD τ).loc main_arg0)) (m ((c : Thread nD τ).loc main_arg1)) := by
  refine (dats m 0 c).arrAt_eq_of_covers 2 _ (by decide +kernel) fun t hf y => ?_
  blk_simp
  have ht := pts t
  rw [after0_2, outsAt0]
  frame_out
  obtain ⟨i, j, rfl⟩ : ∃ i j, y = ix2 i j := ⟨y 0, y 1, eq_ix2 y⟩
  rw [block_apply]
  refine Product.congr (fun k => ?_) fun k => ?_
  · blk_ext [iblk, V, idx0 t, idx2 t]
  · blk_ext [iblk, V, idx1 t, idx2 t]

/-- The reference's result. -/
theorem ref (a : FVec Ideal S2048x1024 .bf16) (b : FVec Ideal S4x1024x1408 .bf16) : val_main_v5 (F := Ideal) a b = spec a b := by
  funext y
  obtain ⟨i, j, rfl⟩ : ∃ i j, y = ix2 i j := ⟨y 0, y 1, eq_ix2 y⟩
  pointwise [val_main_v5, val_main_v4, val_main_v3, val_main_v2, val_main_v1, val_main_v0]
  exact Finset.sum_congr rfl fun k _ => rfl

theorem algebraic : Cert.algebraic_Kernel5Ideal_Reference5Ideal := by
  intro m g m' g' _ hag
  refine ⟨_, Cert.Kernel5Ideal.Value.run_blocks m g, (θ_run _ _ _).mono (fun r h c => ?_) (Cert.Reference5Ideal.Value.run m' g')⟩
  obtain ⟨h0, hk⟩ := h c
  obtain ⟨a0, a1⟩ := hag c
  refine ⟨h0.trans ((val_main_v5_eq _ _).trans ?_), hk⟩
  rw [ref, arr, a0, a1]

end Cert.UpGate

end
-- ==== Proof.UpValue.lean ====
module

public import proofs.«01_k».proof.Defs
public import proofs.«01_k».proof.Proof.Gen.Kernel6Ideal.Value
public import proofs.«01_k».proof.Proof.Gen.Reference6Ideal.Run
public import proofs.«01_k».proof.Proof.Gen.Reference6Ideal.Read
public import proofs.«01_k».proof.Proof.Product
public import Idealize.ShloMosaic.Lib.Pipeline.ValueKit
public import Idealize.ShloMosaic.Lib.Pipeline.ReadBack
public import Idealize.ShloMosaic.Lib.ValueIdx

/-!
# The up projection: the value's columns

Entry `(i, j)` is the sum over the 1024 columns of the layer's input of the input at token `i` times the weight's column
`2816 + j`, which is column `j % 1408` of piece `2 + j / 1408`. Grid point `t` computes tokens `1024 (t / 2)` to `1024 (t / 2 + 1)`
of the columns of piece `2 + t % 2`.
-/

@[expose] public section

set_option maxRecDepth 16384

noncomputable section

namespace Cert.UpValue

open Cert.Kernel6Ideal Cert.Kernel6Ideal.Gen Cert.Reference6Ideal.Read
open Idealize.ShloMosaic Idealize.ShloMosaic.TcCoe Idealize.SL.Sem

/-- The product of `a` with the last two pieces of `b`. -/
def spec (a : FVec Ideal S2048x1024 .bf16) (b : FVec Ideal S4x1024x1408 .bf16) : FVec Ideal S2048x2816 .f32 := fun y =>
  ∑ k : Fin 1024, a (ix2 (y 0) k) * b (ix3 ⟨2 + (y 1).val / 1408, by have := (y 1).isLt; simp at this; omega⟩ k ⟨(y 1).val % 1408, Nat.mod_lt _ (by decide)⟩)

/-- What one grid point computes. -/
theorem block_apply (x0 : Vec Ideal S1024x1024 .bf16) (x1 : Vec Ideal S1x1024x1408 .bf16) (i : Fin 1024) (j : Fin 1408) :
    k0_pay2 (F := Ideal) x0 x1 (ix2 i j) = ∑ k : Fin 1024, x0 (ix2 i k) * x1 (ix3 0 k j) := by
  pointwise [k0_pay2, k0_pay1]

variable (m : (ℓ : Loc nD τ sig) → Buf (Elt Ideal) ℓ)

theorem idx0 : ∀ t : Fin cfg0.N, win0_0.index t = ![t.val / 2, 0] := (by decide +kernel : ∀ t : Fin grid0.N, _)
theorem idx1 : ∀ t : Fin cfg0.N, win0_1.index t = ![2 + t.val % 2, 0, 0] := (by decide +kernel : ∀ t : Fin grid0.N, _)
theorem idx2 : ∀ t : Fin cfg0.N, win0_2.index t = ![t.val / 2, t.val % 2] := (by decide +kernel : ∀ t : Fin grid0.N, _)
theorem pts (t : Fin cfg0.N) : t.val < 4 := lt_of_lt_of_eq t.isLt (by decide +kernel)

/-- The kernel's result. -/
theorem arr (c : Dev nD) : (dats m 0 c).arrAt 2 cfg0.N
    = spec (m ((c : Thread nD τ).loc main_arg0)) (m ((c : Thread nD τ).loc main_arg1)) := by
  refine (dats m 0 c).arrAt_eq_of_covers 2 _ (by decide +kernel) fun t hf y => ?_
  blk_simp
  have ht := pts t
  rw [after0_2, outsAt0]
  frame_out
  obtain ⟨i, j, rfl⟩ : ∃ i j, y = ix2 i j := ⟨y 0, y 1, eq_ix2 y⟩
  rw [block_apply]
  refine Product.congr (fun k => ?_) fun k => ?_
  · blk_ext [iblk, V, idx0 t, idx2 t]
  · blk_ext [iblk, V, idx1 t, idx2 t]

/-- The reference's result. -/
theorem ref (a : FVec Ideal S2048x1024 .bf16) (b : FVec Ideal S4x1024x1408 .bf16) : val_main_v6 (F := Ideal) a b = spec a b := by
  funext y
  obtain ⟨i, j, rfl⟩ : ∃ i j, y = ix2 i j := ⟨y 0, y 1, eq_ix2 y⟩
  pointwise [val_main_v6, val_main_v4, val_main_v3, val_main_v2, val_main_v1, val_main_v0]
  exact Finset.sum_congr rfl fun k _ => congrArg (a (ix2 i k) * ·) (congrArg₂ (fun p q => b (ix3 p k q))
    (Fin.ext (by show (2816 + j.val) / 1408 = 2 + j.val / 1408; omega))
    (Fin.ext (by show (2816 + j.val) % 1408 = j.val % 1408; omega)))

theorem algebraic : Cert.algebraic_Kernel6Ideal_Reference6Ideal := by
  intro m g m' g' _ hag
  refine ⟨_, Cert.Kernel6Ideal.Value.run_blocks m g, (θ_run _ _ _).mono (fun r h c => ?_) (Cert.Reference6Ideal.Value.run m' g')⟩
  obtain ⟨h0, hk⟩ := h c
  obtain ⟨a0, a1⟩ := hag c
  refine ⟨h0.trans ((val_main_v6_eq _ _).trans ?_), hk⟩
  rw [ref, arr, a0, a1]

end Cert.UpValue

end
-- ==== Proof.UpInputGate.lean ====
module

public import proofs.«01_k».proof.Defs
public import proofs.«01_k».proof.Proof.Gen.Kernel7Ideal.Value
public import proofs.«01_k».proof.Proof.Gen.Reference7Ideal.Run
public import proofs.«01_k».proof.Proof.Gen.Reference7Ideal.Read
public import proofs.«01_k».proof.Proof.Product
public import Idealize.ShloMosaic.Lib.Pipeline.ValueKit
public import Idealize.ShloMosaic.Lib.Pipeline.ReadBack
public import Idealize.ShloMosaic.Lib.ValueIdx

/-!
# The gradient of the up projection's input: the gate's part

Entry `(i, j)` is the sum over the gate's 2816 columns of the gate's gradient at token `i` times the weight's row `j`,
whose column `k` is column `k % 1408` of piece `k / 1408`. Grid point `t` adds the products of piece `t % 2` for the
tokens of block `t / 2`.
-/

@[expose] public section

set_option maxRecDepth 16384

noncomputable section

namespace Cert.UpInputGate

open Cert.Kernel7Ideal Cert.Kernel7Ideal.Gen Cert.Reference7Ideal.Read
open Idealize.ShloMosaic Idealize.ShloMosaic.TcCoe Idealize.SL.Sem

/-- The product of `a` with the transposed first two pieces of `b`. -/
def spec (a : FVec Ideal S2048x2816 .bf16) (b : FVec Ideal S4x1024x1408 .bf16) : FVec Ideal S2048x1024 .f32 := fun y =>
  ∑ k : Fin 2816, a (ix2 (y 0) k) * b (ix3 ⟨k.val / 1408, by omega⟩ (y 1) ⟨k.val % 1408, Nat.mod_lt _ (by decide)⟩)

/-- What one grid point computes. -/
theorem part_apply (x0 : Vec Ideal S1024x1408 .bf16) (x1 : Vec Ideal S1x1024x1408 .bf16) (i j : Fin 1024) :
    k0_pay2 (F := Ideal) x0 x1 (ix2 i j) = ∑ k : Fin 1408, x0 (ix2 i k) * x1 (ix3 0 j k) := by
  pointwise [k0_pay2, k0_pay1]

/-- And what it adds to. -/
theorem step_apply (x0 : Vec Ideal S1024x1408 .bf16) (x1 : Vec Ideal S1x1024x1408 .bf16) (x : Vec Ideal S1024x1024 .f32)
    (i j : Fin 1024) : k0_pay3 (F := Ideal) x0 x1 x (ix2 i j) = x (ix2 i j) + k0_pay2 (F := Ideal) x0 x1 (ix2 i j) := by
  pointwise [k0_pay3, k0_pay2]

variable (m : (ℓ : Loc nD τ sig) → Buf (Elt Ideal) ℓ)

theorem idx0 : ∀ t : Fin cfg0.N, win0_0.index t = ![t.val / 2, t.val % 2] := (by decide +kernel : ∀ t : Fin grid0.N, _)
theorem idx1 : ∀ t : Fin cfg0.N, win0_1.index t = ![t.val % 2, 0, 0] := (by decide +kernel : ∀ t : Fin grid0.N, _)
theorem idx2 : ∀ t : Fin cfg0.N, win0_2.index t = ![t.val / 2, 0] := (by decide +kernel : ∀ t : Fin grid0.N, _)
theorem pts (t : Fin cfg0.N) : t.val < 4 := lt_of_lt_of_eq t.isLt (by decide +kernel)

/-- What point `t` adds. -/
def part (c : Dev nD) (t : Fin cfg0.N) (y : S1024x1024.Idx) : EReal := k0_pay2 (F := Ideal) (iblk m c 0 t) (iblk m c 1 t) y

/-- The accumulator where a block is written back. -/
theorem acc (c : Dev nD) (t : Fin cfg0.N) (h : t.val % 2 = 1) (y : S1024x1024.Idx) : (outsAt0 m c t.val t.isLt).2 y
    = 0 + ∑ s : Fin 2, part m c ⟨2 * (t.val / 2) + s.val, by have := pts t; show _ < 4; omega⟩ y := by
  refine Pipeline.eq_sum_fin_of_reset_step_apply_of_flush (fun n h => (outsAt0 m c n h).2) 2 (fun _ => 0) (part m c)
    (fun t h j => ?_) (fun t h j => ?_) t h y
  · rw [outsAt0_A m c t h (by omega) (by omega)]
    frame_out
    exact (zero_add _).symm
  · rw [outsAt0_B m c t h (by omega) (by omega)]
    frame_out
    idx_vars j
    exact (step_apply _ _ _ _ _).trans (congrArg (· + part m c t _) (congrFun (read_unread_whole _ _ _) _))

/-- The kernel's result. -/
theorem arr (c : Dev nD) : (dats m 0 c).arrAt 2 cfg0.N
    = spec (m ((c : Thread nD τ).loc main_arg0)) (m ((c : Thread nD τ).loc main_arg1)) := by
  refine (dats m 0 c).arrAt_eq_of_covers 2 _ (by decide +kernel) fun t hf y => ?_
  blk_simp
  have ht := pts t
  have h3 := (flush0_2 t).mp hf
  have ho : (outsAt0 m c t.val t.isLt).1 = (outsAt0 m c t.val t.isLt).2 := by
    rw [outsAt0_B m c t (by omega) h3 h3]
    frame_out
  rw [after0_2, ho, acc m c t h3, zero_add]
  obtain ⟨i, j, rfl⟩ : ∃ i j, y = ix2 i j := ⟨y 0, y 1, eq_ix2 y⟩
  refine Product.gather 2 1408 rfl (fun s => part_apply _ _ _ _) (fun s r _ => ?_) fun s r _ => ?_
  · blk_ext [iblk, V, idx0, idx2 t]
  · blk_ext [iblk, V, idx1, idx2 t]

/-- The reference's result: the other half of its sum is of zeros. -/
theorem ref (a : FVec Ideal S2048x2816 .bf16) (b : FVec Ideal S4x1024x1408 .bf16) : val_main_v10 (F := Ideal) a b = spec a b := by
  funext y
  obtain ⟨i, j, rfl⟩ : ∃ i j, y = ix2 i j := ⟨y 0, y 1, eq_ix2 y⟩
  pointwise [val_main_v10, val_main_v9, val_main_v8, val_main_v7, val_main_v3, val_main_v2, val_main_v1, val_main_cst_0]
  simp only [zero_mul, Finset.sum_const_zero, add_zero]
  exact Finset.sum_congr rfl fun k _ => rfl

theorem algebraic : Cert.algebraic_Kernel7Ideal_Reference7Ideal := by
  intro m g m' g' _ hag
  refine ⟨_, Cert.Kernel7Ideal.Value.run_blocks m g, (θ_run _ _ _).mono (fun r h c => ?_) (Cert.Reference7Ideal.Value.run m' g')⟩
  obtain ⟨h0, hk⟩ := h c
  obtain ⟨a0, a1⟩ := hag c
  refine ⟨h0.trans ((val_main_v10_eq _ _).trans ?_), hk⟩
  rw [ref, arr, a0, a1]

end Cert.UpInputGate

end
-- ==== Proof.UpInputValue.lean ====
module

public import proofs.«01_k».proof.Defs
public import proofs.«01_k».proof.Proof.Gen.Kernel8Ideal.Value
public import proofs.«01_k».proof.Proof.Gen.Reference8Ideal.Run
public import proofs.«01_k».proof.Proof.Gen.Reference8Ideal.Read
public import proofs.«01_k».proof.Proof.Product
public import Idealize.ShloMosaic.Lib.Pipeline.ValueKit
public import Idealize.ShloMosaic.Lib.Pipeline.ReadBack
public import Idealize.ShloMosaic.Lib.ValueIdx

/-!
# The gradient of the up projection's input: the value's part

Entry `(i, j)` is the gate's part plus the sum over the value's 2816 columns of the value's gradient at token `i` times
the weight's row `j`, whose column `2816 + k` is column `k % 1408` of piece `2 + k / 1408`. Grid point `t` adds the products
of piece `2 + t % 2` for the tokens of block `t / 2`; the second point of a block adds the gate's part to the sum.
-/

@[expose] public section

set_option maxRecDepth 16384

noncomputable section

namespace Cert.UpInputValue

open Cert.Kernel8Ideal Cert.Kernel8Ideal.Gen Cert.Reference8Ideal.Read
open Idealize.ShloMosaic Idealize.ShloMosaic.TcCoe Idealize.SL.Sem

/-- `x` plus the product of `a` with the transposed last two pieces of `b`. -/
def spec (a : FVec Ideal S2048x2816 .bf16) (b : FVec Ideal S4x1024x1408 .bf16) (x : FVec Ideal S2048x1024 .f32) :
    FVec Ideal S2048x1024 .f32 := fun y =>
  x y + ∑ k : Fin 2816, a (ix2 (y 0) k) * b (ix3 ⟨2 + k.val / 1408, by omega⟩ (y 1) ⟨k.val % 1408, Nat.mod_lt _ (by decide)⟩)

/-- What one grid point computes. -/
theorem part_apply (x0 : Vec Ideal S1024x1408 .bf16) (x1 : Vec Ideal S1x1024x1408 .bf16) (i j : Fin 1024) :
    k0_pay2 (F := Ideal) x0 x1 (ix2 i j) = ∑ k : Fin 1408, x0 (ix2 i k) * x1 (ix3 0 j k) := by
  pointwise [k0_pay2, k0_pay1]

/-- What it adds to. -/
theorem step_apply (x0 : Vec Ideal S1024x1408 .bf16) (x1 : Vec Ideal S1x1024x1408 .bf16) (x : Vec Ideal S1024x1024 .f32)
    (i j : Fin 1024) : k0_pay3 (F := Ideal) x0 x1 x (ix2 i j) = x (ix2 i j) + k0_pay2 (F := Ideal) x0 x1 (ix2 i j) := by
  pointwise [k0_pay3, k0_pay2]

/-- And the gate's part. -/
theorem out_apply (x x' : Vec Ideal S1024x1024 .f32) (i j : Fin 1024) :
    k0_pay4 (F := Ideal) x x' (ix2 i j) = x (ix2 i j) + x' (ix2 i j) := by
  pointwise [k0_pay4]

variable (m : (ℓ : Loc nD τ sig) → Buf (Elt Ideal) ℓ)

theorem idx0 : ∀ t : Fin cfg0.N, win0_0.index t = ![t.val / 2, t.val % 2] := (by decide +kernel : ∀ t : Fin grid0.N, _)
theorem idx1 : ∀ t : Fin cfg0.N, win0_1.index t = ![2 + t.val % 2, 0, 0] := (by decide +kernel : ∀ t : Fin grid0.N, _)
theorem idx2 : ∀ t : Fin cfg0.N, win0_2.index t = ![t.val / 2, 0] := (by decide +kernel : ∀ t : Fin grid0.N, _)
theorem idx3 : ∀ t : Fin cfg0.N, win0_3.index t = ![t.val / 2, 0] := (by decide +kernel : ∀ t : Fin grid0.N, _)
theorem pts (t : Fin cfg0.N) : t.val < 4 := lt_of_lt_of_eq t.isLt (by decide +kernel)

/-- What point `t` adds. -/
def part (c : Dev nD) (t : Fin cfg0.N) (y : S1024x1024.Idx) : EReal := k0_pay2 (F := Ideal) (iblk m c 0 t) (iblk m c 1 t) y

/-- The accumulator where a block is written back. -/
theorem acc (c : Dev nD) (t : Fin cfg0.N) (h : t.val % 2 = 1) (y : S1024x1024.Idx) : (outsAt0 m c t.val t.isLt).2 y
    = 0 + ∑ s : Fin 2, part m c ⟨2 * (t.val / 2) + s.val, by have := pts t; show _ < 4; omega⟩ y := by
  refine Pipeline.eq_sum_fin_of_reset_step_apply_of_flush (fun n h => (outsAt0 m c n h).2) 2 (fun _ => 0) (part m c)
    (fun t h j => ?_) (fun t h j => ?_) t h y
  · rw [outsAt0_A m c t h (by omega) (by omega)]
    frame_out
    exact (zero_add _).symm
  · rw [outsAt0_B m c t h (by omega) (by omega)]
    frame_out
    idx_vars j
    exact (step_apply _ _ _ _ _).trans (congrArg (· + part m c t _) (congrFun (read_unread_whole _ _ _) _))

/-- The block written back. -/
theorem out (c : Dev nD) (t : Fin cfg0.N) (h : t.val % 2 = 1) (y : S1024x1024.Idx) : (outsAt0 m c t.val t.isLt).1 y
    = (outsAt0 m c t.val t.isLt).2 y + (iblk m c 2 t : Vec Ideal S1024x1024 .f32) y := by
  rw [outsAt0_B m c t (by omega) h h]
  frame_out
  idx_vars y
  exact out_apply _ _ _ _

/-- The kernel's result. -/
theorem arr (c : Dev nD) : (dats m 0 c).arrAt 3 cfg0.N
    = spec (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  have ht := pts t
  have h3 := (flush0_3 t).mp hf
  rw [after0_3, out m c t h3, acc m c t h3, zero_add, add_comm]
  obtain ⟨i, j, rfl⟩ : ∃ i j, y = ix2 i j := ⟨y 0, y 1, eq_ix2 y⟩
  refine congrArg₂ (· + ·) ?_ (Product.gather 2 1408 rfl (fun s => part_apply _ _ _ _) (fun s r _ => ?_) fun s r _ => ?_)
  · blk_ext [iblk, V, idx2 t, idx3 t]
  · blk_ext [iblk, V, idx0, idx3 t]
  · blk_ext [iblk, V, idx1, idx3 t]

/-- The reference's result: the first half of its sum is of zeros. -/
theorem ref (a : FVec Ideal S2048x2816 .bf16) (b : FVec Ideal S4x1024x1408 .bf16) (x : FVec Ideal S2048x1024 .f32) :
    val_main_v11 (F := Ideal) a b x = spec a b x := by
  funext y
  obtain ⟨i, j, rfl⟩ : ∃ i j, y = ix2 i j := ⟨y 0, y 1, eq_ix2 y⟩
  pointwise [val_main_v11, val_main_v10, val_main_v9, val_main_v8, val_main_v7, val_main_v3, val_main_v2, val_main_v1, val_main_cst_0]
  simp only [zero_mul, Finset.sum_const_zero, zero_add]
  exact congrArg (x (ix2 i j) + ·) (Finset.sum_congr rfl fun k _ => congrArg (a (ix2 i k) * ·) (congrArg₂ (fun p q => b (ix3 p j q))
    (Fin.ext (by show (2816 + k.val) / 1408 = 2 + k.val / 1408; omega))
    (Fin.ext (by show (2816 + k.val) % 1408 = k.val % 1408; omega))))

theorem algebraic : Cert.algebraic_Kernel8Ideal_Reference8Ideal := by
  intro m g m' g' _ hag
  refine ⟨_, Cert.Kernel8Ideal.Value.run_blocks m g, (θ_run _ _ _).mono (fun r h c => ?_) (Cert.Reference8Ideal.Value.run m' g')⟩
  obtain ⟨h0, hk⟩ := h c
  obtain ⟨a0, a1, a2⟩ := hag c
  refine ⟨h0.trans ((val_main_v11_eq _ _ _).trans ?_), hk⟩
  rw [ref, arr, a0, a1, a2]

end Cert.UpInputValue

end
-- ==== Proof.UpWeightValue.lean ====
module

public import proofs.«01_k».proof.Defs
public import proofs.«01_k».proof.Proof.Gen.Kernel9Ideal.Value
public import proofs.«01_k».proof.Proof.Gen.Reference9Ideal.Run
public import proofs.«01_k».proof.Proof.Gen.Reference9Ideal.Read
public import proofs.«01_k».proof.Proof.Product
public import Idealize.ShloMosaic.Lib.Pipeline.ValueKit
public import Idealize.ShloMosaic.Lib.Pipeline.ReadBack
public import Idealize.ShloMosaic.Lib.ValueIdx

/-!
# The gradient of the up projection's weight: the value's part

Entry `(i, j)` of piece `p` is, for the last two pieces, the sum over the 2048 tokens of the layer's input at column `i`
times the value's gradient at column `1408 (p - 2) + j`; the first two pieces are left as they are. Grid point `t` computes
piece `2 + t` in one product.
-/

@[expose] public section

set_option maxRecDepth 16384

noncomputable section

namespace Cert.UpWeightValue

open Cert.Kernel9Ideal Cert.Kernel9Ideal.Gen Cert.Reference9Ideal.Read
open Idealize.ShloMosaic Idealize.ShloMosaic.TcCoe Idealize.SL.Sem

/-- The first two pieces of `g`, then the product of the transposed `a` with `b` in two pieces. -/
def spec (a : FVec Ideal S2048x1024 .bf16) (b : FVec Ideal S2048x2816 .bf16) (g : FVec Ideal S4x1024x1408 .f32) :
    FVec Ideal S4x1024x1408 .f32 := fun y =>
  if (y 0).val < 2 then g y else ∑ k : Fin 2048, a (ix2 k (y 1)) * b (ix2 k ⟨((y 0).val - 2) * 1408 + (y 2).val, by
    have h0 := (y 0).isLt; have h2 := (y 2).isLt; simp at h0 h2; omega⟩)

/-- What one grid point computes. -/
theorem block_apply (x0 : Vec Ideal S2048x1024 .bf16) (x1 : Vec Ideal S2048x1408 .bf16) (i : Fin 1024) (j : Fin 1408) :
    k0_pay4 (F := Ideal) (k0_pay2 (F := Ideal) x0 x1) (ix3 0 i j) = ∑ k : Fin 2048, x0 (ix2 k i) * x1 (ix2 k j) := by
  pointwise [k0_pay4, k0_pay2, k0_pay1]

variable (m : (ℓ : Loc nD τ sig) → Buf (Elt Ideal) ℓ)

theorem idx0 : ∀ t : Fin cfg0.N, win0_0.index t = ![0, 0] := (by decide +kernel : ∀ t : Fin grid0.N, _)
theorem idx1 : ∀ t : Fin cfg0.N, win0_1.index t = ![0, t.val] := (by decide +kernel : ∀ t : Fin grid0.N, _)
theorem idx2 : ∀ t : Fin cfg0.N, win0_2.index t = ![2 + t.val, 0, 0] := (by decide +kernel : ∀ t : Fin grid0.N, _)
theorem pts (t : Fin cfg0.N) : t.val < 2 := lt_of_lt_of_eq t.isLt (by decide +kernel)

/-- The kernel's result. -/
theorem arr (c : Dev nD) : (dats m 0 c).arrAt 2 cfg0.N
    = spec (m ((c : Thread nD τ).loc main_arg0)) (m ((c : Thread nD τ).loc main_arg1)) (m ((c : Thread nD τ).loc main_arg2)) := by
  refine (dats m 0 c).arrAt_eq_of_coversWhere_of_agree 2 _ (fun β => 2 ≤ β (0 : Fin _)) (by decide +kernel) (fun t hf y => ?_) (fun j hj => ?_)
  · blk_simp
    have ht := pts t
    rw [after0_2, outsAt0]
    frame_out
    obtain ⟨o, i, j, rfl⟩ : ∃ o i j, y = ix3 o i j := ⟨y 0, y 1, y 2, eq_ix3 y⟩
    obtain rfl : o = 0 := Subsingleton.elim _ _
    rw [block_apply]
    refine Eq.trans ?_ (if_neg ?_).symm
    · refine Product.congr (fun k => ?_) fun k => ?_
      · blk_ext [iblk, V, idx0 t, idx2 t]
      · blk_ext [iblk, V, idx1 t, idx2 t]
    · blk_simp [idx2 t]
      simp only [Nat.not_lt]
      omega
  · blk_simp [Pipeline.Window.cell_apply] at hj
    have h : ((cfg0.win 2).arr.view.emb j 0).val < 2 := by
      blk_simp
      omega
    refine Eq.trans ?_ (if_pos h).symm
    rw [A_eq]
    have hv : V m c (Pipeline.arrRef spec0 2) = m ((c : Thread nD τ).loc main_arg2) := by
      show StableHlo.after hostOps0 (fun b => m (c, b)) main_v0 = _
      simp only [hostOps0]
      after_results
      rfl
    rw [hv]

/-- The reference's result. -/
theorem ref (a : FVec Ideal S2048x1024 .bf16) (b : FVec Ideal S2048x2816 .bf16) (g : FVec Ideal S4x1024x1408 .f32) :
    val_main_v16 (F := Ideal) a b g = spec a b g := by
  funext y
  obtain ⟨p, i, j, rfl⟩ : ∃ p i j, y = ix3 p i j := ⟨y 0, y 1, y 2, eq_ix3 y⟩
  pointwise [val_main_v16, val_main_v15, val_main_v14, val_main_v13, val_main_v12, val_main_v11, val_main_v10, val_main_v9, val_main_v8, val_main_v7, val_main_v1, val_main_cst_0]
  by_cases hp : p.val < 2
  · exact (dif_pos hp).trans (if_pos hp).symm
  refine (dif_neg hp).trans (Eq.trans ?_ (if_neg hp).symm)
  refine Finset.sum_congr (M := EReal) rfl fun k _ => ?_
  have hn : ¬(2 + (p.val - 2)) * 1408 + j.val < 2816 := by omega
  rw [dif_neg hn, mul_comm]
  exact congrArg (a (ix2 k i) * ·) (congrArg (fun q => b (ix2 k q)) (Fin.ext (by
    show (2 + (p.val - 2)) * 1408 + j.val - 2816 = (p.val - 2) * 1408 + j.val; omega)))

theorem algebraic : Cert.algebraic_Kernel9Ideal_Reference9Ideal := by
  intro m g m' g' _ hag
  refine ⟨_, Cert.Kernel9Ideal.Value.run_blocks m g, (θ_run _ _ _).mono (fun r h c => ?_) (Cert.Reference9Ideal.Value.run m' g')⟩
  obtain ⟨h0, hk⟩ := h c
  obtain ⟨a0, a1, a2⟩ := hag c
  refine ⟨h0.trans ((val_main_v16_eq _ _ _).trans ?_), hk⟩
  rw [ref, arr, a0, a1, a2]

end Cert.UpWeightValue

end
-- ==== Proof.Down.lean ====
module

public import proofs.«01_k».proof.Defs
public import proofs.«01_k».proof.Proof.Gen.Kernel10Ideal.Value
public import proofs.«01_k».proof.Proof.Gen.Reference10Ideal.Run
public import proofs.«01_k».proof.Proof.Gen.Reference10Ideal.Read
public import proofs.«01_k».proof.Proof.Product
public import Idealize.ShloMosaic.Lib.Pipeline.ValueKit
public import Idealize.ShloMosaic.Lib.Pipeline.ReadBack
public import Idealize.ShloMosaic.Lib.ValueIdx

/-!
# The down projection and its residual

Entry `(i, j)` is the residual plus the sum over the 2816 columns of the activation at token `i` times the weight's column
`j`. Grid point `t` adds the products of columns `1408 (t % 2)` to `1408 (t % 2 + 1)` for the tokens of block `t / 2`; the
second point of a block adds the residual to the sum.
-/

@[expose] public section

set_option maxRecDepth 16384

noncomputable section

namespace Cert.Down

open Cert.Kernel10Ideal Cert.Kernel10Ideal.Gen Cert.Reference10Ideal.Read
open Idealize.ShloMosaic Idealize.ShloMosaic.TcCoe Idealize.SL.Sem

/-- `x` plus the product of `a` with `b`. -/
def spec (a : FVec Ideal S2048x2816 .bf16) (b : FVec Ideal S2816x1024 .bf16) (x : FVec Ideal S2048x1024 .f32) :
    FVec Ideal S2048x1024 .f32 := fun y => x y + ∑ k : Fin 2816, a (ix2 (y 0) k) * b (ix2 k (y 1))

/-- What one grid point computes. -/
theorem part_apply (x0 : Vec Ideal S1024x1408 .bf16) (x1 : Vec Ideal S1408x1024 .bf16) (i j : Fin 1024) :
    k0_pay2 (F := Ideal) x0 x1 (ix2 i j) = ∑ k : Fin 1408, x0 (ix2 i k) * x1 (ix2 k j) := by
  pointwise [k0_pay2, k0_pay1]

/-- What it adds to. -/
theorem step_apply (x0 : Vec Ideal S1024x1408 .bf16) (x1 : Vec Ideal S1408x1024 .bf16) (x : Vec Ideal S1024x1024 .f32)
    (i j : Fin 1024) : k0_pay3 (F := Ideal) x0 x1 x (ix2 i j) = x (ix2 i j) + k0_pay2 (F := Ideal) x0 x1 (ix2 i j) := by
  pointwise [k0_pay3, k0_pay2]

/-- And the residual. -/
theorem out_apply (x x' : Vec Ideal S1024x1024 .f32) (i j : Fin 1024) :
    k0_pay4 (F := Ideal) x x' (ix2 i j) = x (ix2 i j) + x' (ix2 i j) := by
  pointwise [k0_pay4]

variable (m : (ℓ : Loc nD τ sig) → Buf (Elt Ideal) ℓ)

theorem idx0 : ∀ t : Fin cfg0.N, win0_0.index t = ![t.val / 2, t.val % 2] := (by decide +kernel : ∀ t : Fin grid0.N, _)
theorem idx1 : ∀ t : Fin cfg0.N, win0_1.index t = ![t.val % 2, 0] := (by decide +kernel : ∀ t : Fin grid0.N, _)
theorem idx2 : ∀ t : Fin cfg0.N, win0_2.index t = ![t.val / 2, 0] := (by decide +kernel : ∀ t : Fin grid0.N, _)
theorem idx3 : ∀ t : Fin cfg0.N, win0_3.index t = ![t.val / 2, 0] := (by decide +kernel : ∀ t : Fin grid0.N, _)
theorem pts (t : Fin cfg0.N) : t.val < 4 := lt_of_lt_of_eq t.isLt (by decide +kernel)

/-- What point `t` adds. -/
def part (c : Dev nD) (t : Fin cfg0.N) (y : S1024x1024.Idx) : EReal := k0_pay2 (F := Ideal) (iblk m c 0 t) (iblk m c 1 t) y

/-- The accumulator where a block is written back. -/
theorem acc (c : Dev nD) (t : Fin cfg0.N) (h : t.val % 2 = 1) (y : S1024x1024.Idx) : (outsAt0 m c t.val t.isLt).2 y
    = 0 + ∑ s : Fin 2, part m c ⟨2 * (t.val / 2) + s.val, by have := pts t; show _ < 4; omega⟩ y := by
  refine Pipeline.eq_sum_fin_of_reset_step_apply_of_flush (fun n h => (outsAt0 m c n h).2) 2 (fun _ => 0) (part m c)
    (fun t h j => ?_) (fun t h j => ?_) t h y
  · rw [outsAt0_A m c t h (by omega) (by omega)]
    frame_out
    exact (zero_add _).symm
  · rw [outsAt0_B m c t h (by omega) (by omega)]
    frame_out
    idx_vars j
    exact (step_apply _ _ _ _ _).trans (congrArg (· + part m c t _) (congrFun (read_unread_whole _ _ _) _))

/-- The block written back. -/
theorem out (c : Dev nD) (t : Fin cfg0.N) (h : t.val % 2 = 1) (y : S1024x1024.Idx) : (outsAt0 m c t.val t.isLt).1 y
    = (outsAt0 m c t.val t.isLt).2 y + (iblk m c 2 t : Vec Ideal S1024x1024 .f32) y := by
  rw [outsAt0_B m c t (by omega) h h]
  frame_out
  idx_vars y
  exact out_apply _ _ _ _

/-- The kernel's result. -/
theorem arr (c : Dev nD) : (dats m 0 c).arrAt 3 cfg0.N
    = spec (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  have ht := pts t
  have h3 := (flush0_3 t).mp hf
  rw [after0_3, out m c t h3, acc m c t h3, zero_add, add_comm]
  obtain ⟨i, j, rfl⟩ : ∃ i j, y = ix2 i j := ⟨y 0, y 1, eq_ix2 y⟩
  refine congrArg₂ (· + ·) ?_ (Product.gather 2 1408 rfl (fun s => part_apply _ _ _ _) (fun s r _ => ?_) fun s r _ => ?_)
  · blk_ext [iblk, V, idx2 t, idx3 t]
  · blk_ext [iblk, V, idx0, idx3 t]
  · blk_ext [iblk, V, idx1, idx3 t]

/-- The reference's result. -/
theorem ref (a : FVec Ideal S2048x2816 .bf16) (b : FVec Ideal S2816x1024 .bf16) (x : FVec Ideal S2048x1024 .f32) :
    val_main_v3 (F := Ideal) a b x = spec a b x := by
  funext y
  obtain ⟨i, j, rfl⟩ : ∃ i j, y = ix2 i j := ⟨y 0, y 1, eq_ix2 y⟩
  pointwise [val_main_v3, val_main_v2, val_main_v1, val_main_v0]
  exact congrArg (x (ix2 i j) + ·) (Finset.sum_congr rfl fun k _ => rfl)

theorem algebraic : Cert.algebraic_Kernel10Ideal_Reference10Ideal := by
  intro m g m' g' _ hag
  refine ⟨_, Cert.Kernel10Ideal.Value.run_blocks m g, (θ_run _ _ _).mono (fun r h c => ?_) (Cert.Reference10Ideal.Value.run m' g')⟩
  obtain ⟨h0, hk⟩ := h c
  obtain ⟨a0, a1, a2⟩ := hag c
  refine ⟨h0.trans ((val_main_v3_eq _ _ _).trans ?_), hk⟩
  rw [ref, arr, a0, a1, a2]

end Cert.Down

end
-- ==== Proof.DownInput.lean ====
module

public import proofs.«01_k».proof.Defs
public import proofs.«01_k».proof.Proof.Gen.Kernel11Ideal.Value
public import proofs.«01_k».proof.Proof.Gen.Reference11Ideal.Run
public import proofs.«01_k».proof.Proof.Gen.Reference11Ideal.Read
public import proofs.«01_k».proof.Proof.Product
public import Idealize.ShloMosaic.Lib.Pipeline.ValueKit
public import Idealize.ShloMosaic.Lib.Pipeline.ReadBack
public import Idealize.ShloMosaic.Lib.ValueIdx

/-!
# The gradient of the down projection's input

Entry `(i, j)` is the sum over the 1024 columns of the output's gradient at token `i` times row `j` of the weight. Grid
point `t` computes tokens `1024 (t / 2)` to `1024 (t / 2 + 1)` of columns `1408 (t % 2)` to `1408 (t % 2 + 1)`.
-/

@[expose] public section

set_option maxRecDepth 16384

noncomputable section

namespace Cert.DownInput

open Cert.Kernel11Ideal Cert.Kernel11Ideal.Gen Cert.Reference11Ideal.Read
open Idealize.ShloMosaic Idealize.ShloMosaic.TcCoe Idealize.SL.Sem

/-- The product of `a` with the transposed `b`. -/
def spec (a : FVec Ideal S2048x1024 .f32) (b : FVec Ideal S2816x1024 .bf16) : FVec Ideal S2048x2816 .f32 := fun y =>
  ∑ k : Fin 1024, a (ix2 (y 0) k) * b (ix2 (y 1) k)

/-- What one grid point computes. -/
theorem block_apply (x0 : Vec Ideal S1024x1024 .f32) (x1 : Vec Ideal S1408x1024 .bf16) (i : Fin 1024) (j : Fin 1408) :
    k0_pay2 (F := Ideal) x0 x1 (ix2 i j) = ∑ k : Fin 1024, x0 (ix2 i k) * x1 (ix2 j k) := by
  pointwise [k0_pay2, k0_pay1]

variable (m : (ℓ : Loc nD τ sig) → Buf (Elt Ideal) ℓ)

theorem idx0 : ∀ t : Fin cfg0.N, win0_0.index t = ![t.val / 2, 0] := (by decide +kernel : ∀ t : Fin grid0.N, _)
theorem idx1 : ∀ t : Fin cfg0.N, win0_1.index t = ![t.val % 2, 0] := (by decide +kernel : ∀ t : Fin grid0.N, _)
theorem idx2 : ∀ t : Fin cfg0.N, win0_2.index t = ![t.val / 2, t.val % 2] := (by decide +kernel : ∀ t : Fin grid0.N, _)
theorem pts (t : Fin cfg0.N) : t.val < 4 := lt_of_lt_of_eq t.isLt (by decide +kernel)

/-- The kernel's result. -/
theorem arr (c : Dev nD) : (dats m 0 c).arrAt 2 cfg0.N
    = spec (m ((c : Thread nD τ).loc main_arg0)) (m ((c : Thread nD τ).loc main_arg1)) := by
  refine (dats m 0 c).arrAt_eq_of_covers 2 _ (by decide +kernel) fun t hf y => ?_
  blk_simp
  have ht := pts t
  rw [after0_2, outsAt0]
  frame_out
  obtain ⟨i, j, rfl⟩ : ∃ i j, y = ix2 i j := ⟨y 0, y 1, eq_ix2 y⟩
  rw [block_apply]
  refine Product.congr (fun k => ?_) fun k => ?_
  · blk_ext [iblk, V, idx0 t, idx2 t]
  · blk_ext [iblk, V, idx1 t, idx2 t]

/-- The reference's result. -/
theorem ref (a : FVec Ideal S2048x1024 .f32) (b : FVec Ideal S2816x1024 .bf16) : val_main_v5 (F := Ideal) a b = spec a b := by
  funext y
  obtain ⟨i, j, rfl⟩ : ∃ i j, y = ix2 i j := ⟨y 0, y 1, eq_ix2 y⟩
  pointwise [val_main_v5, val_main_v2]
  exact Finset.sum_congr rfl fun k _ => rfl

theorem algebraic : Cert.algebraic_Kernel11Ideal_Reference11Ideal := by
  intro m g m' g' _ hag
  refine ⟨_, Cert.Kernel11Ideal.Value.run_blocks m g, (θ_run _ _ _).mono (fun r h c => ?_) (Cert.Reference11Ideal.Value.run m' g')⟩
  obtain ⟨h0, hk⟩ := h c
  obtain ⟨a0, a1⟩ := hag c
  refine ⟨h0.trans ((val_main_v5_eq _ _).trans ?_), hk⟩
  rw [ref, arr, a0, a1]

end Cert.DownInput

end
-- ==== Proof.DownWeight.lean ====
module

public import proofs.«01_k».proof.Defs
public import proofs.«01_k».proof.Proof.Gen.Kernel12Ideal.Value
public import proofs.«01_k».proof.Proof.Gen.Reference12Ideal.Run
public import proofs.«01_k».proof.Proof.Gen.Reference12Ideal.Read
public import proofs.«01_k».proof.Proof.Product
public import Idealize.ShloMosaic.Lib.Pipeline.ValueKit
public import Idealize.ShloMosaic.Lib.Pipeline.ReadBack
public import Idealize.ShloMosaic.Lib.ValueIdx

/-!
# The gradient of the down projection's weight

Entry `(i, j)` is the sum over the 2048 tokens of the projection's input at column `i` times the output's gradient at
column `j`. Grid point `t` computes rows `1408 t` to `1408 (t + 1)` in one product.
-/

@[expose] public section

set_option maxRecDepth 16384

noncomputable section

namespace Cert.DownWeight

open Cert.Kernel12Ideal Cert.Kernel12Ideal.Gen Cert.Reference12Ideal.Read
open Idealize.ShloMosaic Idealize.ShloMosaic.TcCoe Idealize.SL.Sem

/-- The product of the transposed `a` with `b`. -/
def spec (a : FVec Ideal S2048x2816 .bf16) (b : FVec Ideal S2048x1024 .f32) : FVec Ideal S2816x1024 .f32 := fun y =>
  ∑ k : Fin 2048, a (ix2 k (y 0)) * b (ix2 k (y 1))

/-- What one grid point computes. -/
theorem block_apply (x0 : Vec Ideal S2048x1408 .bf16) (x1 : Vec Ideal S2048x1024 .f32) (i : Fin 1408) (j : Fin 1024) :
    k0_pay2 (F := Ideal) x0 x1 (ix2 i j) = ∑ k : Fin 2048, x0 (ix2 k i) * x1 (ix2 k j) := by
  pointwise [k0_pay2, k0_pay1]

variable (m : (ℓ : Loc nD τ sig) → Buf (Elt Ideal) ℓ)

theorem idx0 : ∀ t : Fin cfg0.N, win0_0.index t = ![0, t.val] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)
theorem pts (t : Fin cfg0.N) : t.val < 2 := lt_of_lt_of_eq t.isLt (by decide +kernel)

/-- The kernel's result. -/
theorem arr (c : Dev nD) : (dats m 0 c).arrAt 2 cfg0.N
    = spec (m ((c : Thread nD τ).loc main_arg0)) (m ((c : Thread nD τ).loc main_arg1)) := by
  refine (dats m 0 c).arrAt_eq_of_covers 2 _ (by decide +kernel) fun t hf y => ?_
  blk_simp
  have ht := pts t
  rw [after0_2, outsAt0]
  frame_out
  obtain ⟨i, j, rfl⟩ : ∃ i j, y = ix2 i j := ⟨y 0, y 1, eq_ix2 y⟩
  rw [block_apply]
  refine Product.congr (fun k => ?_) fun k => ?_
  · blk_ext [iblk, V, idx0 t, idx2 t]
  · blk_ext [iblk, V, idx1 t, idx2 t]

/-- The reference's result: its products have the factors the other way round. -/
theorem ref (a : FVec Ideal S2048x2816 .bf16) (b : FVec Ideal S2048x1024 .f32) : val_main_v6 (F := Ideal) a b = spec a b := by
  funext y
  obtain ⟨i, j, rfl⟩ : ∃ i j, y = ix2 i j := ⟨y 0, y 1, eq_ix2 y⟩
  pointwise [val_main_v6, val_main_v5, val_main_v2]
  exact Finset.sum_congr rfl fun k _ => mul_comm _ _

theorem algebraic : Cert.algebraic_Kernel12Ideal_Reference12Ideal := by
  intro m g m' g' _ hag
  refine ⟨_, Cert.Kernel12Ideal.Value.run_blocks m g, (θ_run _ _ _).mono (fun r h c => ?_) (Cert.Reference12Ideal.Value.run m' g')⟩
  obtain ⟨h0, hk⟩ := h c
  obtain ⟨a0, a1⟩ := hag c
  refine ⟨h0.trans ((val_main_v6_eq _ _).trans ?_), hk⟩
  rw [ref, arr, a0, a1]

end Cert.DownWeight

end
-- ==== Proof.MergeOut.lean ====
module

public import proofs.«01_k».proof.Defs
public import proofs.«01_k».proof.Proof.Gen.Kernel13Ideal.Value
public import proofs.«01_k».proof.Proof.Gen.Reference13Ideal.Run
public import proofs.«01_k».proof.Proof.Gen.Reference13Ideal.Read
public import proofs.«01_k».proof.Proof.Product
public import Idealize.ShloMosaic.Lib.Pipeline.ValueKit
public import Idealize.ShloMosaic.Lib.Pipeline.ReadBack
public import Idealize.ShloMosaic.Lib.ValueIdx

/-!
# The output projection and its residual

Entry `(i, j)` is the residual plus the sum over the 1024 columns of the merged branches at token `i` times the weight's
column `j`. Grid point `t` computes tokens `1024 t` to `1024 (t + 1)`.
-/

@[expose] public section

set_option maxRecDepth 16384

noncomputable section

namespace Cert.MergeOut

open Cert.Kernel13Ideal Cert.Kernel13Ideal.Gen Cert.Reference13Ideal.Read
open Idealize.ShloMosaic Idealize.ShloMosaic.TcCoe Idealize.SL.Sem

/-- `x` plus the product of `a` with `b`. -/
def spec (a : FVec Ideal S2048x1024 .bf16) (b : FVec Ideal S1024x1024 .bf16) (x : FVec Ideal S2048x1024 .f32) :
    FVec Ideal S2048x1024 .f32 := fun y => x y + ∑ k : Fin 1024, a (ix2 (y 0) k) * b (ix2 k (y 1))

/-- What one grid point computes. -/
theorem block_apply (x0 x1 : Vec Ideal S1024x1024 .bf16) (x2 : Vec Ideal S1024x1024 .f32) (i j : Fin 1024) :
    k0_pay4 (F := Ideal) (k0_pay2 (F := Ideal) x0 x1) x2 (ix2 i j) = x2 (ix2 i j) + ∑ k : Fin 1024, x0 (ix2 i k) * x1 (ix2 k j) := by
  pointwise [k0_pay4, k0_pay2, k0_pay1]
  exact add_comm _ _

variable (m : (ℓ : Loc nD τ sig) → Buf (Elt Ideal) ℓ)

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem pts (t : Fin cfg0.N) : t.val < 2 := lt_of_lt_of_eq t.isLt (by decide +kernel)

/-- The kernel's result. -/
theorem arr (c : Dev nD) : (dats m 0 c).arrAt 3 cfg0.N
    = spec (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  have ht := pts t
  rw [after0_3, outsAt0]
  frame_out
  obtain ⟨i, j, rfl⟩ : ∃ i j, y = ix2 i j := ⟨y 0, y 1, eq_ix2 y⟩
  rw [block_apply]
  refine congrArg₂ (· + ·) ?_ (Product.congr (fun k => ?_) fun k => ?_)
  · blk_ext [iblk, V, idx2 t, idx3 t]
  · blk_ext [iblk, V, idx0 t, idx3 t]
  · blk_ext [iblk, V, idx1 t, idx3 t]

/-- The reference's result. -/
theorem ref (a : FVec Ideal S2048x1024 .bf16) (b : FVec Ideal S1024x1024 .bf16) (x : FVec Ideal S2048x1024 .f32) :
    val_main_v3 (F := Ideal) a b x = spec a b x := by
  funext y
  obtain ⟨i, j, rfl⟩ : ∃ i j, y = ix2 i j := ⟨y 0, y 1, eq_ix2 y⟩
  pointwise [val_main_v3, val_main_v2, val_main_v1, val_main_v0]
  exact congrArg (x (ix2 i j) + ·) (Finset.sum_congr rfl fun k _ => rfl)

theorem algebraic : Cert.algebraic_Kernel13Ideal_Reference13Ideal := by
  intro m g m' g' _ hag
  refine ⟨_, Cert.Kernel13Ideal.Value.run_blocks m g, (θ_run _ _ _).mono (fun r h c => ?_) (Cert.Reference13Ideal.Value.run m' g')⟩
  obtain ⟨h0, hk⟩ := h c
  obtain ⟨a0, a1, a2⟩ := hag c
  refine ⟨h0.trans ((val_main_v3_eq _ _ _).trans ?_), hk⟩
  rw [ref, arr, a0, a1, a2]

end Cert.MergeOut

end
-- ==== Proof.MergeOutInput.lean ====
module

public import proofs.«01_k».proof.Defs
public import proofs.«01_k».proof.Proof.Gen.Kernel14Ideal.Value
public import proofs.«01_k».proof.Proof.Gen.Reference14Ideal.Run
public import proofs.«01_k».proof.Proof.Gen.Reference14Ideal.Read
public import proofs.«01_k».proof.Proof.Product
public import Idealize.ShloMosaic.Lib.Pipeline.ValueKit
public import Idealize.ShloMosaic.Lib.Pipeline.ReadBack
public import Idealize.ShloMosaic.Lib.ValueIdx

/-!
# The gradient of the output projection's input

Entry `(i, j)` is the sum over the 1024 columns of the output's gradient at token `i` times row `j` of the weight. Grid
point `t` computes tokens `1024 t` to `1024 (t + 1)`.
-/

@[expose] public section

set_option maxRecDepth 16384

noncomputable section

namespace Cert.MergeOutInput

open Cert.Kernel14Ideal Cert.Kernel14Ideal.Gen Cert.Reference14Ideal.Read
open Idealize.ShloMosaic Idealize.ShloMosaic.TcCoe Idealize.SL.Sem

/-- The product of `a` with the transposed `b`. -/
def spec (a : FVec Ideal S2048x1024 .f32) (b : FVec Ideal S1024x1024 .bf16) : FVec Ideal S2048x1024 .f32 := fun y =>
  ∑ k : Fin 1024, a (ix2 (y 0) k) * b (ix2 (y 1) k)

/-- What one grid point computes. -/
theorem block_apply (x0 : Vec Ideal S1024x1024 .f32) (x1 : Vec Ideal S1024x1024 .bf16) (i j : Fin 1024) :
    k0_pay2 (F := Ideal) x0 x1 (ix2 i j) = ∑ k : Fin 1024, x0 (ix2 i k) * x1 (ix2 j k) := by
  pointwise [k0_pay2, k0_pay1]

variable (m : (ℓ : Loc nD τ sig) → Buf (Elt Ideal) ℓ)

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)
theorem pts (t : Fin cfg0.N) : t.val < 2 := lt_of_lt_of_eq t.isLt (by decide +kernel)

/-- The kernel's result. -/
theorem arr (c : Dev nD) : (dats m 0 c).arrAt 2 cfg0.N
    = spec (m ((c : Thread nD τ).loc main_arg0)) (m ((c : Thread nD τ).loc main_arg1)) := by
  refine (dats m 0 c).arrAt_eq_of_covers 2 _ (by decide +kernel) fun t hf y => ?_
  blk_simp
  have ht := pts t
  rw [after0_2, outsAt0]
  frame_out
  obtain ⟨i, j, rfl⟩ : ∃ i j, y = ix2 i j := ⟨y 0, y 1, eq_ix2 y⟩
  rw [block_apply]
  refine Product.congr (fun k => ?_) fun k => ?_
  · blk_ext [iblk, V, idx0 t, idx2 t]
  · blk_ext [iblk, V, idx1 t, idx2 t]

/-- The reference's result. -/
theorem ref (a : FVec Ideal S2048x1024 .f32) (b : FVec Ideal S1024x1024 .bf16) : val_main_v4 (F := Ideal) a b = spec a b := by
  funext y
  obtain ⟨i, j, rfl⟩ : ∃ i j, y = ix2 i j := ⟨y 0, y 1, eq_ix2 y⟩
  pointwise [val_main_v4, val_main_v1]
  exact Finset.sum_congr rfl fun k _ => rfl

theorem algebraic : Cert.algebraic_Kernel14Ideal_Reference14Ideal := by
  intro m g m' g' _ hag
  refine ⟨_, Cert.Kernel14Ideal.Value.run_blocks m g, (θ_run _ _ _).mono (fun r h c => ?_) (Cert.Reference14Ideal.Value.run m' g')⟩
  obtain ⟨h0, hk⟩ := h c
  obtain ⟨a0, a1⟩ := hag c
  refine ⟨h0.trans ((val_main_v4_eq _ _).trans ?_), hk⟩
  rw [ref, arr, a0, a1]

end Cert.MergeOutInput

end
-- ==== Proof.MergeOutWeight.lean ====
module

public import proofs.«01_k».proof.Defs
public import proofs.«01_k».proof.Proof.Gen.Kernel15Ideal.Value
public import proofs.«01_k».proof.Proof.Gen.Reference15Ideal.Run
public import proofs.«01_k».proof.Proof.Gen.Reference15Ideal.Read
public import proofs.«01_k».proof.Proof.Product
public import Idealize.ShloMosaic.Lib.Pipeline.ValueKit
public import Idealize.ShloMosaic.Lib.Pipeline.ReadBack
public import Idealize.ShloMosaic.Lib.ValueIdx

/-!
# The gradient of the output projection's weight

Entry `(i, j)` is the sum over the 2048 tokens of the projection's input at column `i` times the output's gradient at
column `j`, computed in one product.
-/

@[expose] public section

set_option maxRecDepth 16384

noncomputable section

namespace Cert.MergeOutWeight

open Cert.Kernel15Ideal Cert.Kernel15Ideal.Gen Cert.Reference15Ideal.Read
open Idealize.ShloMosaic Idealize.ShloMosaic.TcCoe Idealize.SL.Sem

/-- The product of the transposed `a` with `b`. -/
def spec (a : FVec Ideal S2048x1024 .bf16) (b : FVec Ideal S2048x1024 .f32) : FVec Ideal S1024x1024 .f32 := fun y =>
  ∑ k : Fin 2048, a (ix2 k (y 0)) * b (ix2 k (y 1))

/-- What one grid point computes. -/
theorem block_apply (x0 : Vec Ideal S2048x1024 .bf16) (x1 : Vec Ideal S2048x1024 .f32) (i j : Fin 1024) :
    k0_pay2 (F := Ideal) x0 x1 (ix2 i j) = ∑ k : Fin 2048, x0 (ix2 k i) * x1 (ix2 k j) := by
  pointwise [k0_pay2, k0_pay1]

variable (m : (ℓ : Loc nD τ sig) → Buf (Elt Ideal) ℓ)

theorem idx0 : ∀ t : Fin cfg0.N, win0_0.index t = ![0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem pts (t : Fin cfg0.N) : t.val < 1 := lt_of_lt_of_eq t.isLt (by decide +kernel)

/-- The kernel's result. -/
theorem arr (c : Dev nD) : (dats m 0 c).arrAt 2 cfg0.N
    = spec (m ((c : Thread nD τ).loc main_arg0)) (m ((c : Thread nD τ).loc main_arg1)) := by
  refine (dats m 0 c).arrAt_eq_of_covers 2 _ (by decide +kernel) fun t hf y => ?_
  blk_simp
  have ht := pts t
  rw [after0_2, outsAt0]
  frame_out
  obtain ⟨i, j, rfl⟩ : ∃ i j, y = ix2 i j := ⟨y 0, y 1, eq_ix2 y⟩
  rw [block_apply]
  refine Product.congr (fun k => ?_) fun k => ?_
  · blk_ext [iblk, V, idx0 t, idx2 t]
  · blk_ext [iblk, V, idx1 t, idx2 t]

/-- The reference's result: its products have the factors the other way round. -/
theorem ref (a : FVec Ideal S2048x1024 .bf16) (b : FVec Ideal S2048x1024 .f32) : val_main_v6 (F := Ideal) a b = spec a b := by
  funext y
  obtain ⟨i, j, rfl⟩ : ∃ i j, y = ix2 i j := ⟨y 0, y 1, eq_ix2 y⟩
  pointwise [val_main_v6, val_main_v5, val_main_v2]
  exact Finset.sum_congr rfl fun k _ => mul_comm _ _

theorem algebraic : Cert.algebraic_Kernel15Ideal_Reference15Ideal := by
  intro m g m' g' _ hag
  refine ⟨_, Cert.Kernel15Ideal.Value.run_blocks m g, (θ_run _ _ _).mono (fun r h c => ?_) (Cert.Reference15Ideal.Value.run m' g')⟩
  obtain ⟨h0, hk⟩ := h c
  obtain ⟨a0, a1⟩ := hag c
  refine ⟨h0.trans ((val_main_v6_eq _ _).trans ?_), hk⟩
  rw [ref, arr, a0, a1]

end Cert.MergeOutWeight

end
-- ==== Proof.Gate.lean ====
module

public import proofs.«01_k».proof.Defs
public import proofs.«01_k».proof.Proof.Gen.Kernel16Ideal.Value
public import proofs.«01_k».proof.Proof.Gen.Reference16Ideal.Run
public import proofs.«01_k».proof.Proof.Gen.Reference16Ideal.Read
public import proofs.«01_k».proof.Proof.Product
public import Idealize.ShloMosaic.Lib.Pipeline.ValueKit
public import Idealize.ShloMosaic.Lib.Pipeline.ReadBack
public import Idealize.ShloMosaic.Lib.ValueIdx

/-!
# The embedding's gate

Entry `(i, j)` is the sum over the 1024 columns of the layer's input of the input at token `i` times the weight's column
`j`. Grid point `t` computes tokens `1024 t` to `1024 (t + 1)` in one product.
-/

@[expose] public section

set_option maxRecDepth 16384

noncomputable section

namespace Cert.Gate

open Cert.Kernel16Ideal Cert.Kernel16Ideal.Gen Cert.Reference16Ideal.Read
open Idealize.ShloMosaic Idealize.ShloMosaic.TcCoe Idealize.SL.Sem

/-- The product of `a` with `b`. -/
def spec (a : FVec Ideal S2048x1024 .bf16) (b : FVec Ideal S1024x1024 .bf16) : FVec Ideal S2048x1024 .f32 := fun y =>
  ∑ k : Fin 1024, a (ix2 (y 0) k) * b (ix2 k (y 1))

/-- What one grid point computes. -/
theorem block_apply (x0 : Vec Ideal S1024x1024 .bf16) (x1 : Vec Ideal S1024x1024 .bf16) (i j : Fin 1024) :
    k0_pay2 (F := Ideal) x0 x1 (ix2 i j) = ∑ k : Fin 1024, x0 (ix2 i k) * x1 (ix2 k j) := by
  pointwise [k0_pay2, k0_pay1]

variable (m : (ℓ : Loc nD τ sig) → Buf (Elt Ideal) ℓ)

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)
theorem pts (t : Fin cfg0.N) : t.val < 2 := lt_of_lt_of_eq t.isLt (by decide +kernel)

/-- The kernel's result. -/
theorem arr (c : Dev nD) : (dats m 0 c).arrAt 2 cfg0.N
    = spec (m ((c : Thread nD τ).loc main_arg0)) (m ((c : Thread nD τ).loc main_arg1)) := by
  refine (dats m 0 c).arrAt_eq_of_covers 2 _ (by decide +kernel) fun t hf y => ?_
  blk_simp
  have ht := pts t
  rw [after0_2, outsAt0]
  frame_out
  obtain ⟨i, j, rfl⟩ : ∃ i j, y = ix2 i j := ⟨y 0, y 1, eq_ix2 y⟩
  rw [block_apply]
  refine Product.congr (fun k => ?_) fun k => ?_
  · blk_ext [iblk, V, idx0 t, idx2 t]
  · blk_ext [iblk, V, idx1 t, idx2 t]

/-- The reference's result. -/
theorem ref (a : FVec Ideal S2048x1024 .bf16) (b : FVec Ideal S1024x1024 .bf16) : val_main_v2 (F := Ideal) a b = spec a b := by
  funext y
  obtain ⟨i, j, rfl⟩ : ∃ i j, y = ix2 i j := ⟨y 0, y 1, eq_ix2 y⟩
  pointwise [val_main_v2, val_main_v1, val_main_v0]
  exact Finset.sum_congr rfl fun k _ => rfl

theorem algebraic : Cert.algebraic_Kernel16Ideal_Reference16Ideal := by
  intro m g m' g' _ hag
  refine ⟨_, Cert.Kernel16Ideal.Value.run_blocks m g, (θ_run _ _ _).mono (fun r h c => ?_) (Cert.Reference16Ideal.Value.run m' g')⟩
  obtain ⟨h0, hk⟩ := h c
  obtain ⟨a0, a1⟩ := hag c
  refine ⟨h0.trans ((val_main_v2_eq _ _).trans ?_), hk⟩
  rw [ref, arr, a0, a1]

end Cert.Gate

end
-- ==== Proof.GateInput.lean ====
module

public import proofs.«01_k».proof.Defs
public import proofs.«01_k».proof.Proof.Gen.Kernel17Ideal.Value
public import proofs.«01_k».proof.Proof.Gen.Reference17Ideal.Run
public import proofs.«01_k».proof.Proof.Gen.Reference17Ideal.Read
public import proofs.«01_k».proof.Proof.Product
public import Idealize.ShloMosaic.Lib.Pipeline.ValueKit
public import Idealize.ShloMosaic.Lib.Pipeline.ReadBack
public import Idealize.ShloMosaic.Lib.ValueIdx

/-!
# The gradient of the embedding gate's input

Entry `(i, j)` is the sum over the gate's 1024 columns of the gate's gradient at token `i` times row `j` of the weight.
Grid point `t` computes tokens `1024 t` to `1024 (t + 1)`.
-/

@[expose] public section

set_option maxRecDepth 16384

noncomputable section

namespace Cert.GateInput

open Cert.Kernel17Ideal Cert.Kernel17Ideal.Gen Cert.Reference17Ideal.Read
open Idealize.ShloMosaic Idealize.ShloMosaic.TcCoe Idealize.SL.Sem

/-- The product of `a` with the transposed `b`. -/
def spec (a : FVec Ideal S2048x1024 .bf16) (b : FVec Ideal S1024x1024 .bf16) : FVec Ideal S2048x1024 .f32 := fun y =>
  ∑ k : Fin 1024, a (ix2 (y 0) k) * b (ix2 (y 1) k)

/-- What one grid point computes. -/
theorem block_apply (x0 : Vec Ideal S1024x1024 .bf16) (x1 : Vec Ideal S1024x1024 .bf16) (i j : Fin 1024) :
    k0_pay2 (F := Ideal) x0 x1 (ix2 i j) = ∑ k : Fin 1024, x0 (ix2 i k) * x1 (ix2 j k) := by
  pointwise [k0_pay2, k0_pay1]

variable (m : (ℓ : Loc nD τ sig) → Buf (Elt Ideal) ℓ)

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)
theorem pts (t : Fin cfg0.N) : t.val < 2 := lt_of_lt_of_eq t.isLt (by decide +kernel)

/-- The kernel's result. -/
theorem arr (c : Dev nD) : (dats m 0 c).arrAt 2 cfg0.N
    = spec (m ((c : Thread nD τ).loc main_arg0)) (m ((c : Thread nD τ).loc main_arg1)) := by
  refine (dats m 0 c).arrAt_eq_of_covers 2 _ (by decide +kernel) fun t hf y => ?_
  blk_simp
  have ht := pts t
  rw [after0_2, outsAt0]
  frame_out
  obtain ⟨i, j, rfl⟩ : ∃ i j, y = ix2 i j := ⟨y 0, y 1, eq_ix2 y⟩
  rw [block_apply]
  refine Product.congr (fun k => ?_) fun k => ?_
  · blk_ext [iblk, V, idx0 t, idx2 t]
  · blk_ext [iblk, V, idx1 t, idx2 t]

/-- The reference's result. -/
theorem ref (a : FVec Ideal S2048x1024 .bf16) (b : FVec Ideal S1024x1024 .bf16) : val_main_v4 (F := Ideal) a b = spec a b := by
  funext y
  obtain ⟨i, j, rfl⟩ : ∃ i j, y = ix2 i j := ⟨y 0, y 1, eq_ix2 y⟩
  pointwise [val_main_v4, val_main_v3, val_main_v1]
  exact Finset.sum_congr rfl fun k _ => rfl

theorem algebraic : Cert.algebraic_Kernel17Ideal_Reference17Ideal := by
  intro m g m' g' _ hag
  refine ⟨_, Cert.Kernel17Ideal.Value.run_blocks m g, (θ_run _ _ _).mono (fun r h c => ?_) (Cert.Reference17Ideal.Value.run m' g')⟩
  obtain ⟨h0, hk⟩ := h c
  obtain ⟨a0, a1⟩ := hag c
  refine ⟨h0.trans ((val_main_v4_eq _ _).trans ?_), hk⟩
  rw [ref, arr, a0, a1]

end Cert.GateInput

end
-- ==== Proof.GateWeight.lean ====
module

public import proofs.«01_k».proof.Defs
public import proofs.«01_k».proof.Proof.Gen.Kernel18Ideal.Value
public import proofs.«01_k».proof.Proof.Gen.Reference18Ideal.Run
public import proofs.«01_k».proof.Proof.Gen.Reference18Ideal.Read
public import proofs.«01_k».proof.Proof.Product
public import Idealize.ShloMosaic.Lib.Pipeline.ValueKit
public import Idealize.ShloMosaic.Lib.Pipeline.ReadBack
public import Idealize.ShloMosaic.Lib.ValueIdx

/-!
# The gradient of the embedding gate's weight

Entry `(i, j)` is the sum over the 2048 tokens of the gate's input at column `i` times the gate's gradient at column `j`,
computed in one product.
-/

@[expose] public section

set_option maxRecDepth 16384

noncomputable section

namespace Cert.GateWeight

open Cert.Kernel18Ideal Cert.Kernel18Ideal.Gen Cert.Reference18Ideal.Read
open Idealize.ShloMosaic Idealize.ShloMosaic.TcCoe Idealize.SL.Sem

/-- The product of the transposed `a` with `b`. -/
def spec (a : FVec Ideal S2048x1024 .bf16) (b : FVec Ideal S2048x1024 .bf16) : FVec Ideal S1024x1024 .f32 := fun y =>
  ∑ k : Fin 2048, a (ix2 k (y 0)) * b (ix2 k (y 1))

/-- What one grid point computes. -/
theorem block_apply (x0 : Vec Ideal S2048x1024 .bf16) (x1 : Vec Ideal S2048x1024 .bf16) (i j : Fin 1024) :
    k0_pay2 (F := Ideal) x0 x1 (ix2 i j) = ∑ k : Fin 2048, x0 (ix2 k i) * x1 (ix2 k j) := by
  pointwise [k0_pay2, k0_pay1]

variable (m : (ℓ : Loc nD τ sig) → Buf (Elt Ideal) ℓ)

theorem idx0 : ∀ t : Fin cfg0.N, win0_0.index t = ![0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem pts (t : Fin cfg0.N) : t.val < 1 := lt_of_lt_of_eq t.isLt (by decide +kernel)

/-- The kernel's result. -/
theorem arr (c : Dev nD) : (dats m 0 c).arrAt 2 cfg0.N
    = spec (m ((c : Thread nD τ).loc main_arg0)) (m ((c : Thread nD τ).loc main_arg1)) := by
  refine (dats m 0 c).arrAt_eq_of_covers 2 _ (by decide +kernel) fun t hf y => ?_
  blk_simp
  have ht := pts t
  rw [after0_2, outsAt0]
  frame_out
  obtain ⟨i, j, rfl⟩ : ∃ i j, y = ix2 i j := ⟨y 0, y 1, eq_ix2 y⟩
  rw [block_apply]
  refine Product.congr (fun k => ?_) fun k => ?_
  · blk_ext [iblk, V, idx0 t, idx2 t]
  · blk_ext [iblk, V, idx1 t, idx2 t]

/-- The reference's result: its products have the factors the other way round. -/
theorem ref (a : FVec Ideal S2048x1024 .bf16) (b : FVec Ideal S2048x1024 .bf16) : val_main_v5 (F := Ideal) a b = spec a b := by
  funext y
  obtain ⟨i, j, rfl⟩ : ∃ i j, y = ix2 i j := ⟨y 0, y 1, eq_ix2 y⟩
  pointwise [val_main_v5, val_main_v4, val_main_v3, val_main_v1]
  exact Finset.sum_congr rfl fun k _ => mul_comm _ _

theorem algebraic : Cert.algebraic_Kernel18Ideal_Reference18Ideal := by
  intro m g m' g' _ hag
  refine ⟨_, Cert.Kernel18Ideal.Value.run_blocks m g, (θ_run _ _ _).mono (fun r h c => ?_) (Cert.Reference18Ideal.Value.run m' g')⟩
  obtain ⟨h0, hk⟩ := h c
  obtain ⟨a0, a1⟩ := hag c
  refine ⟨h0.trans ((val_main_v5_eq _ _).trans ?_), hk⟩
  rw [ref, arr, a0, a1]

end Cert.GateWeight

end
-- ==== Proof.Branch.lean ====
module

public import proofs.«01_k».proof.Defs
public import proofs.«01_k».proof.Proof.Gen.Kernel19Ideal.Value
public import proofs.«01_k».proof.Proof.Gen.Reference19Ideal.Run
public import proofs.«01_k».proof.Proof.Gen.Reference19Ideal.Read
public import proofs.«01_k».proof.Proof.Product
public import Idealize.ShloMosaic.Lib.Pipeline.ValueKit
public import Idealize.ShloMosaic.Lib.Pipeline.ReadBack
public import Idealize.ShloMosaic.Lib.ValueIdx

/-!
# A branch's projection

Entry `(i, j)` is the sum over the branch's 512 columns of the branch's output at token `i` times the weight's column `j`,
which is column `j % 256` of piece `j / 256`. Grid point `t` computes the columns of piece `t` for all tokens.
-/

@[expose] public section

set_option maxRecDepth 16384

noncomputable section

namespace Cert.Branch

open Cert.Kernel19Ideal Cert.Kernel19Ideal.Gen Cert.Reference19Ideal.Read
open Idealize.ShloMosaic Idealize.ShloMosaic.TcCoe Idealize.SL.Sem

/-- The product of `a` with the four pieces of `b` side by side. -/
def spec (a : FVec Ideal S2048x512 .bf16) (b : FVec Ideal S4x512x256 .bf16) : FVec Ideal S2048x1024 .f32 := fun y =>
  ∑ k : Fin 512, a (ix2 (y 0) k) * b (ix3 ⟨(y 1).val / 256, by have := (y 1).isLt; simp at this; omega⟩ k ⟨(y 1).val % 256, Nat.mod_lt _ (by decide)⟩)

/-- What one grid point computes. -/
theorem block_apply (x0 : Vec Ideal S2048x512 .bf16) (x1 : Vec Ideal S1x512x256 .bf16) (i : Fin 2048) (j : Fin 256) :
    k0_pay2 (F := Ideal) x0 x1 (ix2 i j) = ∑ k : Fin 512, x0 (ix2 i k) * x1 (ix3 0 k j) := by
  pointwise [k0_pay2, k0_pay1]

variable (m : (ℓ : Loc nD τ sig) → Buf (Elt Ideal) ℓ)

theorem idx0 : ∀ t : Fin cfg0.N, win0_0.index t = ![0, 0] := (by decide +kernel : ∀ t : Fin grid0.N, _)
theorem idx1 : ∀ t : Fin cfg0.N, win0_1.index t = ![t.val, 0, 0] := (by decide +kernel : ∀ t : Fin grid0.N, _)
theorem idx2 : ∀ t : Fin cfg0.N, win0_2.index t = ![0, t.val] := (by decide +kernel : ∀ t : Fin grid0.N, _)
theorem pts (t : Fin cfg0.N) : t.val < 4 := lt_of_lt_of_eq t.isLt (by decide +kernel)

/-- The kernel's result. -/
theorem arr (c : Dev nD) : (dats m 0 c).arrAt 2 cfg0.N
    = spec (m ((c : Thread nD τ).loc main_arg0)) (m ((c : Thread nD τ).loc main_arg1)) := by
  refine (dats m 0 c).arrAt_eq_of_covers 2 _ (by decide +kernel) fun t hf y => ?_
  blk_simp
  have ht := pts t
  rw [after0_2, outsAt0]
  frame_out
  obtain ⟨i, j, rfl⟩ : ∃ i j, y = ix2 i j := ⟨y 0, y 1, eq_ix2 y⟩
  rw [block_apply]
  refine Product.congr (fun k => ?_) fun k => ?_
  · blk_ext [iblk, V, idx0 t, idx2 t]
  · blk_ext [iblk, V, idx1 t, idx2 t]

/-- The reference's result. -/
theorem ref (a : FVec Ideal S2048x512 .bf16) (b : FVec Ideal S4x512x256 .bf16) : val_main_v4 (F := Ideal) a b = spec a b := by
  funext y
  obtain ⟨i, j, rfl⟩ : ∃ i j, y = ix2 i j := ⟨y 0, y 1, eq_ix2 y⟩
  pointwise [val_main_v4, val_main_v3, val_main_v2, val_main_v1, val_main_v0]
  exact Finset.sum_congr rfl fun k _ => rfl

theorem algebraic : Cert.algebraic_Kernel19Ideal_Reference19Ideal := by
  intro m g m' g' _ hag
  refine ⟨_, Cert.Kernel19Ideal.Value.run_blocks m g, (θ_run _ _ _).mono (fun r h c => ?_) (Cert.Reference19Ideal.Value.run m' g')⟩
  obtain ⟨h0, hk⟩ := h c
  obtain ⟨a0, a1⟩ := hag c
  refine ⟨h0.trans ((val_main_v4_eq _ _).trans ?_), hk⟩
  rw [ref, arr, a0, a1]

end Cert.Branch

end
-- ==== Proof.BranchInput.lean ====
module

public import Idealize.ShloMosaic.Lib.Pipeline.ReadBack
public import proofs.«01_k».proof.Defs
public import proofs.«01_k».proof.Proof.Gen.Kernel20Ideal.Value
public import proofs.«01_k».proof.Proof.Gen.Reference20Ideal.Run
public import proofs.«01_k».proof.Proof.Gen.Reference20Ideal.Read
public import proofs.«01_k».proof.Proof.Product
public import Idealize.ShloMosaic.Lib.Pipeline.ValueKit
public import Idealize.ShloMosaic.Lib.ValueIdx

/-!
# The gradient of a branch's projection's input

Entry `(i, j)` is the sum over the projection's 1024 columns of the gradient at token `i` times the weight's row `j`, whose
column `k` is column `k % 256` of piece `k / 256`. Grid point `t` adds the products of piece `t`, for all tokens.
-/

@[expose] public section

set_option maxRecDepth 16384

noncomputable section

namespace Cert.BranchInput

open Cert.Kernel20Ideal Cert.Kernel20Ideal.Gen Cert.Reference20Ideal.Read
open Idealize.ShloMosaic Idealize.ShloMosaic.TcCoe Idealize.SL.Sem

/-- The product of `a` with the four transposed pieces of `b`. -/
def spec (a : FVec Ideal S2048x1024 .bf16) (b : FVec Ideal S4x512x256 .bf16) : FVec Ideal S2048x512 .f32 := fun y =>
  ∑ k : Fin 1024, a (ix2 (y 0) k) * b (ix3 ⟨k.val / 256, by omega⟩ (y 1) ⟨k.val % 256, Nat.mod_lt _ (by decide)⟩)

/-- What one grid point computes. -/
theorem part_apply (x0 : Vec Ideal S2048x256 .bf16) (x1 : Vec Ideal S1x512x256 .bf16)
    (i : Fin 2048) (j : Fin 512) :
    k0_pay2 (F := Ideal) x0 x1 (ix2 i j) = ∑ k : Fin 256, x0 (ix2 i k) * x1 (ix3 0 j k) := by
  pointwise [k0_pay2, k0_pay1]

/-- And what it adds to. -/
theorem step_apply (x0 : Vec Ideal S2048x256 .bf16) (x1 : Vec Ideal S1x512x256 .bf16) (x : Vec Ideal S2048x512 .f32)
    (i : Fin 2048) (j : Fin 512) :
    k0_pay3 (F := Ideal) x0 x1 x (ix2 i j) = x (ix2 i j) + k0_pay2 (F := Ideal) x0 x1 (ix2 i j) := by
  pointwise [k0_pay3, k0_pay2]

variable (m : (ℓ : Loc nD τ sig) → Buf (Elt Ideal) ℓ)

theorem idx0 : ∀ t : Fin cfg0.N, win0_0.index t = ![0, t.val] := (by decide +kernel : ∀ t : Fin grid0.N, _)
theorem idx1 : ∀ t : Fin cfg0.N, win0_1.index t = ![t.val, 0, 0] := (by decide +kernel : ∀ t : Fin grid0.N, _)
theorem idx2 : ∀ t : Fin cfg0.N, win0_2.index t = ![0, 0] := (by decide +kernel : ∀ t : Fin grid0.N, _)
theorem pts (t : Fin cfg0.N) : t.val < 4 := lt_of_lt_of_eq t.isLt (by decide +kernel)

/-- What point `t` adds. -/
def part (c : Dev nD) (t : Fin cfg0.N) (y : S2048x512.Idx) : EReal := k0_pay2 (F := Ideal) (iblk m c 0 t) (iblk m c 1 t) y

/-- The accumulator where a block is written back. -/
theorem acc (c : Dev nD) (t : Fin cfg0.N) (h : t.val % 4 = 3) (y : S2048x512.Idx) : (outsAt0 m c t.val t.isLt).2 y
    = 0 + ∑ s : Fin 4, part m c ⟨4 * (t.val / 4) + s.val, by have := pts t; show _ < 4; omega⟩ y := by
  refine Pipeline.eq_sum_fin_of_reset_step_apply_of_flush (fun n h => (outsAt0 m c n h).2) 4 (fun _ => 0) (part m c)
    (fun t h j => ?_) (fun t h j => ?_) t h y
  · have ht := pts t
    rw [outsAt0_A m c t h (by omega) (by omega)]
    frame_out
    exact (zero_add _).symm
  · have h1 : 1 ≤ t.val := by omega
    by_cases h2 : t.val % 4 = 3
    · rw [outsAt0_C m c t h h1 h2]
      frame_out
      idx_vars j
      exact (step_apply _ _ _ _ _).trans (congrArg (· + part m c t _) (congrFun (read_unread_whole _ _ _) _))
    · rw [outsAt0_B m c t h h1 h2]
      frame_out
      idx_vars j
      exact (step_apply _ _ _ _ _).trans (congrArg (· + part m c t _) (congrFun (read_unread_whole _ _ _) _))

/-- The kernel's result. -/
theorem arr (c : Dev nD) : (dats m 0 c).arrAt 2 cfg0.N
    = spec (m ((c : Thread nD τ).loc main_arg0)) (m ((c : Thread nD τ).loc main_arg1)) := by
  refine (dats m 0 c).arrAt_eq_of_covers 2 _ (by decide +kernel) fun t hf y => ?_
  blk_simp
  have ht := pts t
  have h3 := (flush0_2 t).mp hf
  have ho : (outsAt0 m c t.val t.isLt).1 = (outsAt0 m c t.val t.isLt).2 := by
    rw [outsAt0_C m c t (by omega) (by omega) h3]
    frame_out
  rw [after0_2, ho, acc m c t h3, zero_add]
  obtain ⟨i, j, rfl⟩ : ∃ i j, y = ix2 i j := ⟨y 0, y 1, eq_ix2 y⟩
  refine Product.gather 4 256 rfl (fun s => part_apply _ _ _ _) (fun s r _ => ?_) fun s r _ => ?_
  · blk_ext [iblk, V, idx0, idx2 t]
  · blk_ext [iblk, V, idx1, idx2 t]

/-- The reference's result. -/
theorem ref (a : FVec Ideal S2048x1024 .bf16) (b : FVec Ideal S4x512x256 .bf16) : val_main_v6 (F := Ideal) a b = spec a b := by
  funext y
  obtain ⟨i, j, rfl⟩ : ∃ i j, y = ix2 i j := ⟨y 0, y 1, eq_ix2 y⟩
  pointwise [val_main_v6, val_main_v5, val_main_v3, val_main_v2, val_main_v1]
  exact Finset.sum_congr rfl fun k _ => rfl

theorem algebraic : Cert.algebraic_Kernel20Ideal_Reference20Ideal := by
  intro m g m' g' _ hag
  refine ⟨_, Cert.Kernel20Ideal.Value.run_blocks m g, (θ_run _ _ _).mono (fun r h c => ?_) (Cert.Reference20Ideal.Value.run m' g')⟩
  obtain ⟨h0, hk⟩ := h c
  obtain ⟨a0, a1⟩ := hag c
  refine ⟨h0.trans ((val_main_v6_eq _ _).trans ?_), hk⟩
  rw [ref, arr, a0, a1]

end Cert.BranchInput

end
-- ==== Proof.BranchWeight.lean ====
module

public import proofs.«01_k».proof.Defs
public import proofs.«01_k».proof.Proof.Gen.Kernel21Ideal.Value
public import proofs.«01_k».proof.Proof.Gen.Reference21Ideal.Run
public import proofs.«01_k».proof.Proof.Gen.Reference21Ideal.Read
public import proofs.«01_k».proof.Proof.Product
public import Idealize.ShloMosaic.Lib.Pipeline.ValueKit
public import Idealize.ShloMosaic.Lib.Pipeline.ReadBack
public import Idealize.ShloMosaic.Lib.ValueIdx

/-!
# The gradient of a branch's projection's weight

Entry `(i, j)` of piece `p` is the sum over the 2048 tokens of the branch's output at column `i` times the projection's
gradient at column `256 p + j`. Grid point `t` computes piece `t` in one product.
-/

@[expose] public section

set_option maxRecDepth 16384

noncomputable section

namespace Cert.BranchWeight

open Cert.Kernel21Ideal Cert.Kernel21Ideal.Gen Cert.Reference21Ideal.Read
open Idealize.ShloMosaic Idealize.ShloMosaic.TcCoe Idealize.SL.Sem

/-- The product of the transposed `a` with `b`, in four pieces. -/
def spec (a : FVec Ideal S2048x512 .bf16) (b : FVec Ideal S2048x1024 .bf16) : FVec Ideal S4x512x256 .f32 := fun y =>
  ∑ k : Fin 2048, a (ix2 k (y 1)) * b (ix2 k ⟨(y 0).val * 256 + (y 2).val, by
    have h0 := (y 0).isLt; have h2 := (y 2).isLt; simp at h0 h2; omega⟩)

/-- What one grid point computes. -/
theorem block_apply (x0 : Vec Ideal S2048x512 .bf16) (x1 : Vec Ideal S2048x256 .bf16) (i : Fin 512) (j : Fin 256) :
    k0_pay4 (F := Ideal) (k0_pay2 (F := Ideal) x0 x1) (ix3 0 i j) = ∑ k : Fin 2048, x0 (ix2 k i) * x1 (ix2 k j) := by
  pointwise [k0_pay4, k0_pay2, k0_pay1]

variable (m : (ℓ : Loc nD τ sig) → Buf (Elt Ideal) ℓ)

theorem idx0 : ∀ t : Fin cfg0.N, win0_0.index t = ![0, 0] := (by decide +kernel : ∀ t : Fin grid0.N, _)
theorem idx1 : ∀ t : Fin cfg0.N, win0_1.index t = ![0, t.val] := (by decide +kernel : ∀ t : Fin grid0.N, _)
theorem idx2 : ∀ t : Fin cfg0.N, win0_2.index t = ![t.val, 0, 0] := (by decide +kernel : ∀ t : Fin grid0.N, _)
theorem pts (t : Fin cfg0.N) : t.val < 4 := lt_of_lt_of_eq t.isLt (by decide +kernel)

/-- The kernel's result. -/
theorem arr (c : Dev nD) : (dats m 0 c).arrAt 2 cfg0.N
    = spec (m ((c : Thread nD τ).loc main_arg0)) (m ((c : Thread nD τ).loc main_arg1)) := by
  refine (dats m 0 c).arrAt_eq_of_covers 2 _ (by decide +kernel) fun t hf y => ?_
  blk_simp
  have ht := pts t
  rw [after0_2, outsAt0]
  frame_out
  obtain ⟨o, i, j, rfl⟩ : ∃ o i j, y = ix3 o i j := ⟨y 0, y 1, y 2, eq_ix3 y⟩
  obtain rfl : o = 0 := Subsingleton.elim _ _
  rw [block_apply]
  refine Product.congr (fun k => ?_) fun k => ?_
  · blk_ext [iblk, V, idx0 t, idx2 t]
  · blk_ext [iblk, V, idx1 t, idx2 t]

/-- The reference's result: its products have the factors the other way round. -/
theorem ref (a : FVec Ideal S2048x512 .bf16) (b : FVec Ideal S2048x1024 .bf16) : val_main_v9 (F := Ideal) a b = spec a b := by
  funext y
  obtain ⟨p, i, j, rfl⟩ : ∃ p i j, y = ix3 p i j := ⟨y 0, y 1, y 2, eq_ix3 y⟩
  pointwise [val_main_v9, val_main_v8, val_main_v7, val_main_v6, val_main_v5, val_main_v1]
  exact Finset.sum_congr rfl fun k _ => mul_comm _ _

theorem algebraic : Cert.algebraic_Kernel21Ideal_Reference21Ideal := by
  intro m g m' g' _ hag
  refine ⟨_, Cert.Kernel21Ideal.Value.run_blocks m g, (θ_run _ _ _).mono (fun r h c => ?_) (Cert.Reference21Ideal.Value.run m' g')⟩
  obtain ⟨h0, hk⟩ := h c
  obtain ⟨a0, a1⟩ := hag c
  refine ⟨h0.trans ((val_main_v9_eq _ _).trans ?_), hk⟩
  rw [ref, arr, a0, a1]

end Cert.BranchWeight

end
-- ==== Proof.UpWeightGate.lean ====
module

public import proofs.«01_k».proof.Defs
public import proofs.«01_k».proof.Proof.Gen.Kernel22Ideal.Frame
public import proofs.«01_k».proof.Proof.Gen.Reference22Ideal.Run
public import proofs.«01_k».proof.Proof.Gen.Reference22Ideal.Read
public import proofs.«01_k».proof.Proof.Product
public import Idealize.ShloMosaic.Lib.Pipeline.ValueKit
public import Idealize.ShloMosaic.Lib.Pipeline.ReadBack
public import Idealize.ShloMosaic.Lib.ValueIdx

/-!
# The gradient of the up projection's weight: the value's part

Entry `(i, j)` of piece `p` is, for the last two pieces, the sum over the 2048 tokens of the layer's input at column `i`
times the value's gradient at column `1408 (p - 2) + j`; the first two pieces are left as they are. Grid point `t` computes
piece `2 + t` in one product.
-/

@[expose] public section

set_option maxRecDepth 16384

noncomputable section

namespace Cert.UpWeightGate

open Cert.Kernel22Ideal Cert.Kernel22Ideal.Gen Cert.Reference22Ideal.Read
open Idealize.ShloMosaic Idealize.ShloMosaic.TcCoe Idealize.SL.Sem

/-- The product of the transposed `a` with `b`, in two pieces. -/
def spec (a : FVec Ideal S2048x1024 .bf16) (b : FVec Ideal S2048x2816 .bf16) : FVec Ideal S2x1024x1408 .f32 := fun y =>
  ∑ k : Fin 2048, a (ix2 k (y 1)) * b (ix2 k ⟨(y 0).val * 1408 + (y 2).val, by
    have h0 := (y 0).isLt; have h2 := (y 2).isLt; simp at h0 h2; omega⟩)

/-- What one grid point computes. -/
theorem block_apply (x0 : Vec Ideal S2048x1024 .bf16) (x1 : Vec Ideal S2048x1408 .bf16) (i : Fin 1024) (j : Fin 1408) :
    k0_pay4 (F := Ideal) (k0_pay2 (F := Ideal) x0 x1) (ix3 0 i j) = ∑ k : Fin 2048, x0 (ix2 k i) * x1 (ix2 k j) := by
  pointwise [k0_pay4, k0_pay2, k0_pay1]

variable (m : (ℓ : Loc nD τ sig) → Buf (Elt Ideal) ℓ)

theorem idx0 : ∀ t : Fin cfg0.N, win0_0.index t = ![0, 0] := (by decide +kernel : ∀ t : Fin grid0.N, _)
theorem idx1 : ∀ t : Fin cfg0.N, win0_1.index t = ![0, t.val] := (by decide +kernel : ∀ t : Fin grid0.N, _)
theorem idx2 : ∀ t : Fin cfg0.N, win0_2.index t = ![t.val, 0, 0] := (by decide +kernel : ∀ t : Fin grid0.N, _)
theorem pts (t : Fin cfg0.N) : t.val < 2 := lt_of_lt_of_eq t.isLt (by decide +kernel)

/-- What the call writes in the first two pieces, and the others as they were. -/
def whole (c : Dev nD) (x : FVec Ideal S4x1024x1408 .f32) : FVec Ideal S4x1024x1408 .f32 := fun y =>
  if (y 0).val < 2 then spec (m ((c : Thread nD τ).loc main_arg0)) (m ((c : Thread nD τ).loc main_arg1))
    (ix3 ⟨(y 0).val % 2, Nat.mod_lt _ (by decide)⟩ (y 1) (y 2))
  else x y

/-- The array the call leaves. -/
theorem arr (c : Dev nD) : (dats m 0 c).arrAt 2 cfg0.N = whole m c ((dats m 0 c).A 2) := by
  refine (dats m 0 c).arrAt_eq_of_coversWhere_of_agree 2 _ (fun β => β (0 : Fin _) < 2) (by decide +kernel) (fun t hf y => ?_) (fun j hj => ?_)
  · blk_simp
    have ht := pts t
    rw [after0_2, outsAt0]
    frame_out
    obtain ⟨o, i, j, rfl⟩ : ∃ o i j, y = ix3 o i j := ⟨y 0, y 1, y 2, eq_ix3 y⟩
    obtain rfl : o = 0 := Subsingleton.elim _ _
    rw [block_apply]
    refine Eq.trans ?_ (if_pos ?_).symm
    · refine Product.congr (fun k => ?_) fun k => ?_
      · blk_ext [iblk, V, idx0 t, idx2 t]
      · blk_ext [iblk, V, idx1 t, idx2 t]
    · blk_simp [idx2 t]
      show _ < 2
      omega
  · blk_simp [Pipeline.Window.cell_apply] at hj
    have h : ¬((cfg0.win 2).arr.view.emb j 0).val < 2 := by
      blk_simp
      omega
    exact (if_neg h).symm

/-- The kernel's result: the two pieces written, cut out on the host. -/
theorem res (c : Dev nD) : Pipeline.afterTail₀ cfgs (dats m) 0 (V0 m) [hostOps1] c main_v1
    = spec (m ((c : Thread nD τ).loc main_arg0)) (m ((c : Thread nD τ).loc main_arg1)) := by
  unfold Pipeline.afterTail₀
  simp only [List.flatten_cons, List.flatten_nil, List.append_nil, hostOps1]
  after_results
  erw [Pipeline.withArrays_arr spec0 launch0.win.arr_inj c _ _ 2]
  rw [arr]
  funext y
  obtain ⟨p, i, j, rfl⟩ : ∃ p i j, y = ix3 p i j := ⟨y 0, y 1, y 2, eq_ix3 y⟩
  pointwise []
  refine (if_pos p.isLt).trans (congrArg _ ?_)
  exact congrArg (fun q => ix3 q i j) (Fin.ext (Nat.mod_eq_of_lt p.isLt))

/-- The run, with the cut. -/
theorem run (g : Dev nD → PrngReg) : θ_run defs (onTc (τ := τ) (main (F := Ideal))) ⟨m, fun _ => 0, g⟩ fun r => ∀ c : Dev nD,
      r.2.mem ((c : Thread nD τ).loc main_v1) = Pipeline.afterTail₀ cfgs (dats m) 0 (V0 m) [hostOps1] c main_v1
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h.1 c).2 main_v1 (Pipeline.mem_restRefs_of main_v1 (by decide) (by decide)), h.2 c⟩)
    (θ_run_and (run_main m g) (unchanged m g))

/-- The reference's result. -/
theorem ref (a : FVec Ideal S2048x1024 .bf16) (b : FVec Ideal S2048x2816 .bf16) :
    val_main_v14 (F := Ideal) a b = spec a b := by
  funext y
  obtain ⟨p, i, j, rfl⟩ : ∃ p i j, y = ix3 p i j := ⟨y 0, y 1, y 2, eq_ix3 y⟩
  pointwise [val_main_v14, val_main_v13, val_main_v12, val_main_v11, val_main_v10, val_main_v9, val_main_v8, val_main_v7, val_main_v1, val_main_cst_0]
  refine Finset.sum_congr (M := EReal) rfl fun k _ => ?_
  have hn : p.val * 1408 + j.val < 2816 := by omega
  rw [dif_pos hn, mul_comm]
  rfl

theorem algebraic : Cert.algebraic_Kernel22Ideal_Reference22Ideal := by
  intro m g m' g' _ hag
  refine ⟨_, run m g, (θ_run _ _ _).mono (fun r h c => ?_) (Cert.Reference22Ideal.Value.run m' g')⟩
  obtain ⟨h0, hk⟩ := h c
  obtain ⟨a0, a1⟩ := hag c
  refine ⟨h0.trans ((val_main_v14_eq _ _).trans ?_), hk⟩
  rw [ref, res, a0, a1]

end Cert.UpWeightGate

end
-- ==== Proof.Embedding.lean ====
module

public import proofs.«01_k».proof.Defs
public import proofs.«01_k».proof.Proof.Gen.Kernel23Ideal.Value
public import proofs.«01_k».proof.Proof.Gen.Reference23Ideal.Run
public import proofs.«01_k».proof.Proof.Gen.Reference23Ideal.Read
public import proofs.«01_k».proof.Proof.Product
public import Idealize.ShloMosaic.Lib.Pipeline.ValueKit
public import Idealize.ShloMosaic.Lib.Pipeline.ReadBack
public import Idealize.ShloMosaic.Lib.ValueIdx

/-!
# The embedding's projection

Entry `(i, j)` is the sum over the embedding's 256 columns of the embedding at token `i` times the weight's column `j`,
which is column `j % 256` of piece `j / 256`. Grid point `t` computes the columns of piece `t` for all tokens.
-/

@[expose] public section

set_option maxRecDepth 16384

noncomputable section

namespace Cert.Embedding

open Cert.Kernel23Ideal Cert.Kernel23Ideal.Gen Cert.Reference23Ideal.Read
open Idealize.ShloMosaic Idealize.ShloMosaic.TcCoe Idealize.SL.Sem

/-- The product of `a` with the four pieces of `b` side by side. -/
def spec (a : FVec Ideal S2048x256 .f32) (b : FVec Ideal S4x256x256 .bf16) : FVec Ideal S2048x1024 .f32 := fun y =>
  ∑ k : Fin 256, a (ix2 (y 0) k) * b (ix3 ⟨(y 1).val / 256, by have := (y 1).isLt; simp at this; omega⟩ k ⟨(y 1).val % 256, Nat.mod_lt _ (by decide)⟩)

/-- What one grid point computes. -/
theorem block_apply (x0 : Vec Ideal S2048x256 .f32) (x1 : Vec Ideal S1x256x256 .bf16) (i : Fin 2048) (j : Fin 256) :
    k0_pay2 (F := Ideal) x0 x1 (ix2 i j) = ∑ k : Fin 256, x0 (ix2 i k) * x1 (ix3 0 k j) := by
  pointwise [k0_pay2, k0_pay1]

variable (m : (ℓ : Loc nD τ sig) → Buf (Elt Ideal) ℓ)

theorem idx0 : ∀ t : Fin cfg0.N, win0_0.index t = ![0, 0] := (by decide +kernel : ∀ t : Fin grid0.N, _)
theorem idx1 : ∀ t : Fin cfg0.N, win0_1.index t = ![t.val, 0, 0] := (by decide +kernel : ∀ t : Fin grid0.N, _)
theorem idx2 : ∀ t : Fin cfg0.N, win0_2.index t = ![0, t.val] := (by decide +kernel : ∀ t : Fin grid0.N, _)
theorem pts (t : Fin cfg0.N) : t.val < 4 := lt_of_lt_of_eq t.isLt (by decide +kernel)

/-- The kernel's result. -/
theorem arr (c : Dev nD) : (dats m 0 c).arrAt 2 cfg0.N
    = spec (m ((c : Thread nD τ).loc main_arg0)) (m ((c : Thread nD τ).loc main_arg1)) := by
  refine (dats m 0 c).arrAt_eq_of_covers 2 _ (by decide +kernel) fun t hf y => ?_
  blk_simp
  have ht := pts t
  rw [after0_2, outsAt0]
  frame_out
  obtain ⟨i, j, rfl⟩ : ∃ i j, y = ix2 i j := ⟨y 0, y 1, eq_ix2 y⟩
  rw [block_apply]
  refine Product.congr (fun k => ?_) fun k => ?_
  · blk_ext [iblk, V, idx0 t, idx2 t]
  · blk_ext [iblk, V, idx1 t, idx2 t]

/-- The reference's result. -/
theorem ref (a : FVec Ideal S2048x256 .f32) (b : FVec Ideal S4x256x256 .bf16) : val_main_v3 (F := Ideal) a b = spec a b := by
  funext y
  obtain ⟨i, j, rfl⟩ : ∃ i j, y = ix2 i j := ⟨y 0, y 1, eq_ix2 y⟩
  pointwise [val_main_v3, val_main_v2, val_main_v1, val_main_v0]
  exact Finset.sum_congr rfl fun k _ => rfl

theorem algebraic : Cert.algebraic_Kernel23Ideal_Reference23Ideal := by
  intro m g m' g' _ hag
  refine ⟨_, Cert.Kernel23Ideal.Value.run_blocks m g, (θ_run _ _ _).mono (fun r h c => ?_) (Cert.Reference23Ideal.Value.run m' g')⟩
  obtain ⟨h0, hk⟩ := h c
  obtain ⟨a0, a1⟩ := hag c
  refine ⟨h0.trans ((val_main_v3_eq _ _).trans ?_), hk⟩
  rw [ref, arr, a0, a1]

end Cert.Embedding

end
-- ==== Proof.EmbeddingWeight.lean ====
module

public import proofs.«01_k».proof.Defs
public import proofs.«01_k».proof.Proof.Gen.Kernel24Ideal.Value
public import proofs.«01_k».proof.Proof.Gen.Reference24Ideal.Run
public import proofs.«01_k».proof.Proof.Gen.Reference24Ideal.Read
public import proofs.«01_k».proof.Proof.Product
public import Idealize.ShloMosaic.Lib.Pipeline.ValueKit
public import Idealize.ShloMosaic.Lib.Pipeline.ReadBack
public import Idealize.ShloMosaic.Lib.ValueIdx

/-!
# The gradient of the embedding's projection's weight

Entry `(i, j)` of piece `p` is the sum over the 2048 tokens of the embedding at column `i` times the projection's gradient
at column `256 p + j`. Grid point `t` computes piece `t` in one product.
-/

@[expose] public section

set_option maxRecDepth 16384

noncomputable section

namespace Cert.EmbeddingWeight

open Cert.Kernel24Ideal Cert.Kernel24Ideal.Gen Cert.Reference24Ideal.Read
open Idealize.ShloMosaic Idealize.ShloMosaic.TcCoe Idealize.SL.Sem

/-- The product of the transposed `a` with `b`, in four pieces. -/
def spec (a : FVec Ideal S2048x256 .f32) (b : FVec Ideal S2048x1024 .bf16) : FVec Ideal S4x256x256 .f32 := fun y =>
  ∑ k : Fin 2048, a (ix2 k (y 1)) * b (ix2 k ⟨(y 0).val * 256 + (y 2).val, by
    have h0 := (y 0).isLt; have h2 := (y 2).isLt; simp at h0 h2; omega⟩)

/-- What one grid point computes. -/
theorem block_apply (x0 : Vec Ideal S2048x256 .f32) (x1 : Vec Ideal S2048x256 .bf16) (i j : Fin 256) :
    k0_pay4 (F := Ideal) (k0_pay2 (F := Ideal) x0 x1) (ix3 0 i j) = ∑ k : Fin 2048, x0 (ix2 k i) * x1 (ix2 k j) := by
  pointwise [k0_pay4, k0_pay2, k0_pay1]

variable (m : (ℓ : Loc nD τ sig) → Buf (Elt Ideal) ℓ)

theorem idx0 : ∀ t : Fin cfg0.N, win0_0.index t = ![0, 0] := (by decide +kernel : ∀ t : Fin grid0.N, _)
theorem idx1 : ∀ t : Fin cfg0.N, win0_1.index t = ![0, t.val] := (by decide +kernel : ∀ t : Fin grid0.N, _)
theorem idx2 : ∀ t : Fin cfg0.N, win0_2.index t = ![t.val, 0, 0] := (by decide +kernel : ∀ t : Fin grid0.N, _)
theorem pts (t : Fin cfg0.N) : t.val < 4 := lt_of_lt_of_eq t.isLt (by decide +kernel)

/-- The kernel's result. -/
theorem arr (c : Dev nD) : (dats m 0 c).arrAt 2 cfg0.N
    = spec (m ((c : Thread nD τ).loc main_arg0)) (m ((c : Thread nD τ).loc main_arg1)) := by
  refine (dats m 0 c).arrAt_eq_of_covers 2 _ (by decide +kernel) fun t hf y => ?_
  blk_simp
  have ht := pts t
  rw [after0_2, outsAt0]
  frame_out
  obtain ⟨o, i, j, rfl⟩ : ∃ o i j, y = ix3 o i j := ⟨y 0, y 1, y 2, eq_ix3 y⟩
  obtain rfl : o = 0 := Subsingleton.elim _ _
  rw [block_apply]
  refine Product.congr (fun k => ?_) fun k => ?_
  · blk_ext [iblk, V, idx0 t, idx2 t]
  · blk_ext [iblk, V, idx1 t, idx2 t]

/-- The reference's result: its products have the factors the other way round. -/
theorem ref (a : FVec Ideal S2048x256 .f32) (b : FVec Ideal S2048x1024 .bf16) : val_main_v8 (F := Ideal) a b = spec a b := by
  funext y
  obtain ⟨p, i, j, rfl⟩ : ∃ p i j, y = ix3 p i j := ⟨y 0, y 1, y 2, eq_ix3 y⟩
  pointwise [val_main_v8, val_main_v7, val_main_v6, val_main_v5, val_main_v4]
  exact Finset.sum_congr rfl fun k _ => mul_comm _ _

theorem algebraic : Cert.algebraic_Kernel24Ideal_Reference24Ideal := by
  intro m g m' g' _ hag
  refine ⟨_, Cert.Kernel24Ideal.Value.run_blocks m g, (θ_run _ _ _).mono (fun r h c => ?_) (Cert.Reference24Ideal.Value.run m' g')⟩
  obtain ⟨h0, hk⟩ := h c
  obtain ⟨a0, a1⟩ := hag c
  refine ⟨h0.trans ((val_main_v8_eq _ _).trans ?_), hk⟩
  rw [ref, arr, a0, a1]

end Cert.EmbeddingWeight

end
-- ==== Proof.InSmall.lean ====
module

public import proofs.«01_k».proof.Defs
public import proofs.«01_k».proof.Proof.Gen.Kernel25Ideal.Value
public import proofs.«01_k».proof.Proof.Gen.Reference25Ideal.Run
public import proofs.«01_k».proof.Proof.Gen.Reference25Ideal.Read
public import proofs.«01_k».proof.Proof.Product
public import Idealize.ShloMosaic.Lib.Pipeline.ValueKit
public import Idealize.ShloMosaic.Lib.Pipeline.ReadBack
public import Idealize.ShloMosaic.Lib.ValueIdx

/-!
# The input projection's few columns

Entry `(i, j)` is the sum over the 1024 columns of the normalised input at token `i` times the weight's column `j`, of 128.
Grid point `t` computes tokens `1024 t` to `1024 (t + 1)` in one product.
-/

@[expose] public section

set_option maxRecDepth 16384

noncomputable section

namespace Cert.InSmall

open Cert.Kernel25Ideal Cert.Kernel25Ideal.Gen Cert.Reference25Ideal.Read
open Idealize.ShloMosaic Idealize.ShloMosaic.TcCoe Idealize.SL.Sem

/-- The product of `a` with `b`. -/
def spec (a : FVec Ideal S2048x1024 .bf16) (b : FVec Ideal S1024x128 .bf16) : FVec Ideal S2048x128 .f32 := fun y =>
  ∑ k : Fin 1024, a (ix2 (y 0) k) * b (ix2 k (y 1))

/-- What one grid point computes. -/
theorem block_apply (x0 : Vec Ideal S1024x1024 .bf16) (x1 : Vec Ideal S1024x128 .bf16) (i : Fin 1024) (j : Fin 128) :
    k0_pay2 (F := Ideal) x0 x1 (ix2 i j) = ∑ k : Fin 1024, x0 (ix2 i k) * x1 (ix2 k j) := by
  pointwise [k0_pay2, k0_pay1]

variable (m : (ℓ : Loc nD τ sig) → Buf (Elt Ideal) ℓ)

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)
theorem pts (t : Fin cfg0.N) : t.val < 2 := lt_of_lt_of_eq t.isLt (by decide +kernel)

/-- The kernel's result. -/
theorem arr (c : Dev nD) : (dats m 0 c).arrAt 2 cfg0.N
    = spec (m ((c : Thread nD τ).loc main_arg0)) (m ((c : Thread nD τ).loc main_arg1)) := by
  refine (dats m 0 c).arrAt_eq_of_covers 2 _ (by decide +kernel) fun t hf y => ?_
  blk_simp
  have ht := pts t
  rw [after0_2, outsAt0]
  frame_out
  obtain ⟨i, j, rfl⟩ : ∃ i j, y = ix2 i j := ⟨y 0, y 1, eq_ix2 y⟩
  rw [block_apply]
  refine Product.congr (fun k => ?_) fun k => ?_
  · blk_ext [iblk, V, idx0 t, idx2 t]
  · blk_ext [iblk, V, idx1 t, idx2 t]

/-- The reference's result. -/
theorem ref (a : FVec Ideal S2048x1024 .bf16) (b : FVec Ideal S1024x128 .bf16) : val_main_v2 (F := Ideal) a b = spec a b := by
  funext y
  obtain ⟨i, j, rfl⟩ : ∃ i j, y = ix2 i j := ⟨y 0, y 1, eq_ix2 y⟩
  pointwise [val_main_v2, val_main_v1, val_main_v0]
  exact Finset.sum_congr rfl fun k _ => rfl

theorem algebraic : Cert.algebraic_Kernel25Ideal_Reference25Ideal := by
  intro m g m' g' _ hag
  refine ⟨_, Cert.Kernel25Ideal.Value.run_blocks m g, (θ_run _ _ _).mono (fun r h c => ?_) (Cert.Reference25Ideal.Value.run m' g')⟩
  obtain ⟨h0, hk⟩ := h c
  obtain ⟨a0, a1⟩ := hag c
  refine ⟨h0.trans ((val_main_v2_eq _ _).trans ?_), hk⟩
  rw [ref, arr, a0, a1]

end Cert.InSmall

end
-- ==== Proof.InSmallWeight.lean ====
module

public import proofs.«01_k».proof.Defs
public import proofs.«01_k».proof.Proof.Gen.Kernel26Ideal.Value
public import proofs.«01_k».proof.Proof.Gen.Reference26Ideal.Run
public import proofs.«01_k».proof.Proof.Gen.Reference26Ideal.Read
public import proofs.«01_k».proof.Proof.Product
public import Idealize.ShloMosaic.Lib.Pipeline.ValueKit
public import Idealize.ShloMosaic.Lib.Pipeline.ReadBack
public import Idealize.ShloMosaic.Lib.ValueIdx

/-!
# The gradient of the input projection's few columns

Entry `(i, j)` is the sum over the 2048 tokens of the projection's gradient at column `i` times the input at column `j`,
computed in one product.
-/

@[expose] public section

set_option maxRecDepth 16384

noncomputable section

namespace Cert.InSmallWeight

open Cert.Kernel26Ideal Cert.Kernel26Ideal.Gen Cert.Reference26Ideal.Read
open Idealize.ShloMosaic Idealize.ShloMosaic.TcCoe Idealize.SL.Sem

/-- The product of the transposed `a` with `b`. -/
def spec (a : FVec Ideal S2048x128 .f32) (b : FVec Ideal S2048x1024 .bf16) : FVec Ideal S128x1024 .f32 := fun y =>
  ∑ k : Fin 2048, a (ix2 k (y 0)) * b (ix2 k (y 1))

/-- What one grid point computes. -/
theorem block_apply (x0 : Vec Ideal S2048x128 .f32) (x1 : Vec Ideal S2048x1024 .bf16) (i : Fin 128) (j : Fin 1024) :
    k0_pay2 (F := Ideal) x0 x1 (ix2 i j) = ∑ k : Fin 2048, x0 (ix2 k i) * x1 (ix2 k j) := by
  pointwise [k0_pay2, k0_pay1]

variable (m : (ℓ : Loc nD τ sig) → Buf (Elt Ideal) ℓ)

theorem idx0 : ∀ t : Fin cfg0.N, win0_0.index t = ![0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem pts (t : Fin cfg0.N) : t.val < 1 := lt_of_lt_of_eq t.isLt (by decide +kernel)

/-- The kernel's result. -/
theorem arr (c : Dev nD) : (dats m 0 c).arrAt 2 cfg0.N
    = spec (m ((c : Thread nD τ).loc main_arg0)) (m ((c : Thread nD τ).loc main_arg1)) := by
  refine (dats m 0 c).arrAt_eq_of_covers 2 _ (by decide +kernel) fun t hf y => ?_
  blk_simp
  have ht := pts t
  rw [after0_2, outsAt0]
  frame_out
  obtain ⟨i, j, rfl⟩ : ∃ i j, y = ix2 i j := ⟨y 0, y 1, eq_ix2 y⟩
  rw [block_apply]
  refine Product.congr (fun k => ?_) fun k => ?_
  · blk_ext [iblk, V, idx0 t, idx2 t]
  · blk_ext [iblk, V, idx1 t, idx2 t]

/-- The reference's result. -/
theorem ref (a : FVec Ideal S2048x128 .f32) (b : FVec Ideal S2048x1024 .bf16) : val_main_v5 (F := Ideal) a b = spec a b := by
  funext y
  obtain ⟨i, j, rfl⟩ : ∃ i j, y = ix2 i j := ⟨y 0, y 1, eq_ix2 y⟩
  pointwise [val_main_v5, val_main_v4, val_main_v3, val_main_v1]
  exact Finset.sum_congr rfl fun k _ => rfl

theorem algebraic : Cert.algebraic_Kernel26Ideal_Reference26Ideal := by
  intro m g m' g' _ hag
  refine ⟨_, Cert.Kernel26Ideal.Value.run_blocks m g, (θ_run _ _ _).mono (fun r h c => ?_) (Cert.Reference26Ideal.Value.run m' g')⟩
  obtain ⟨h0, hk⟩ := h c
  obtain ⟨a0, a1⟩ := hag c
  refine ⟨h0.trans ((val_main_v5_eq _ _).trans ?_), hk⟩
  rw [ref, arr, a0, a1]

end Cert.InSmallWeight

end
-- ==== Proof.InSmallInput.lean ====
module

public import proofs.«01_k».proof.Defs
public import proofs.«01_k».proof.Proof.Gen.Kernel27Ideal.Value
public import proofs.«01_k».proof.Proof.Gen.Reference27Ideal.Run
public import proofs.«01_k».proof.Proof.Gen.Reference27Ideal.Read
public import proofs.«01_k».proof.Proof.Product
public import Idealize.ShloMosaic.Lib.Pipeline.ValueKit
public import Idealize.ShloMosaic.Lib.Pipeline.ReadBack
public import Idealize.ShloMosaic.Lib.ValueIdx

/-!
# The input projection's few columns' part of its input's gradient

Entry `(i, j)` is the main columns' part plus the sum over the 128 columns of the gradient at token `i` times row `j` of
the weight. Grid point `t` computes tokens `1024 t` to `1024 (t + 1)`.
-/

@[expose] public section

set_option maxRecDepth 16384

noncomputable section

namespace Cert.InSmallInput

open Cert.Kernel27Ideal Cert.Kernel27Ideal.Gen Cert.Reference27Ideal.Read
open Idealize.ShloMosaic Idealize.ShloMosaic.TcCoe Idealize.SL.Sem

/-- `x` plus the product of `a` with the transposed `b`. -/
def spec (a : FVec Ideal S2048x128 .f32) (b : FVec Ideal S1024x128 .bf16) (x : FVec Ideal S2048x1024 .f32) :
    FVec Ideal S2048x1024 .f32 := fun y => x y + ∑ k : Fin 128, a (ix2 (y 0) k) * b (ix2 (y 1) k)

/-- What one grid point computes. -/
theorem block_apply (x0 : Vec Ideal S1024x128 .f32) (x1 : Vec Ideal S1024x128 .bf16) (x2 : Vec Ideal S1024x1024 .f32) (i j : Fin 1024) :
    k0_pay4 (F := Ideal) (k0_pay2 (F := Ideal) x0 x1) x2 (ix2 i j) = x2 (ix2 i j) + ∑ k : Fin 128, x0 (ix2 i k) * x1 (ix2 j k) := by
  pointwise [k0_pay4, k0_pay2, k0_pay1]
  exact add_comm _ _

variable (m : (ℓ : Loc nD τ sig) → Buf (Elt Ideal) ℓ)

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem pts (t : Fin cfg0.N) : t.val < 2 := lt_of_lt_of_eq t.isLt (by decide +kernel)

/-- The kernel's result. -/
theorem arr (c : Dev nD) : (dats m 0 c).arrAt 3 cfg0.N
    = spec (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  have ht := pts t
  rw [after0_3, outsAt0]
  frame_out
  obtain ⟨i, j, rfl⟩ : ∃ i j, y = ix2 i j := ⟨y 0, y 1, eq_ix2 y⟩
  rw [block_apply]
  refine congrArg₂ (· + ·) ?_ (Product.congr (fun k => ?_) fun k => ?_)
  · blk_ext [iblk, V, idx2 t, idx3 t]
  · blk_ext [iblk, V, idx0 t, idx3 t]
  · blk_ext [iblk, V, idx1 t, idx3 t]

/-- The reference's result. -/
theorem ref (a : FVec Ideal S2048x128 .f32) (b : FVec Ideal S1024x128 .bf16) (x : FVec Ideal S2048x1024 .f32) :
    val_main_v4 (F := Ideal) a b x = spec a b x := by
  funext y
  obtain ⟨i, j, rfl⟩ : ∃ i j, y = ix2 i j := ⟨y 0, y 1, eq_ix2 y⟩
  pointwise [val_main_v4, val_main_v3, val_main_v1]
  exact congrArg (x (ix2 i j) + ·) (Finset.sum_congr rfl fun k _ => rfl)

theorem algebraic : Cert.algebraic_Kernel27Ideal_Reference27Ideal := by
  intro m g m' g' _ hag
  refine ⟨_, Cert.Kernel27Ideal.Value.run_blocks m g, (θ_run _ _ _).mono (fun r h c => ?_) (Cert.Reference27Ideal.Value.run m' g')⟩
  obtain ⟨h0, hk⟩ := h c
  obtain ⟨a0, a1, a2⟩ := hag c
  refine ⟨h0.trans ((val_main_v4_eq _ _ _).trans ?_), hk⟩
  rw [ref, arr, a0, a1, a2]

end Cert.InSmallInput

end
-- ==== Proof.Group.lean ====
module

public import proofs.«01_k».proof.Proof.Heads
public import proofs.«01_k».proof.Proof.Words
public import Idealize.ShloMosaic.Lib.StableHlo
public import Idealize.ShloMosaic.Lib.ValueIdx

/-!
# The rows of any group of 512 queries, and the attention they give

The four groups of the sequence's 2048 queries differ in two numbers: the place `lo` of their first query, and the
number `n` of keys their queries may see. `groupOf` reads the rows of such a group off the arguments; the attention's
own result is the sum of the value rows times the probabilities.
-/

@[expose] public section

noncomputable section

namespace Cert.Fox

open Idealize.ShloMosaic

/-- The rows of the 512 queries from `lo` on against the first `n` keys. -/
def groupOf (n lo : ℕ) (hn : n ≤ 2048) (hlo : lo + 512 ≤ 2048) (q k : Fin 2048 → Fin 512 → EReal)
    (v : Fin 2048 → Fin 8192 → EReal) (cq ck : Fin 8 → Fin 2048 → EReal) (dy : Fin 2048 → Fin 512 → EReal) : Group n :=
  fun h r =>
    { q := fun d => q ⟨lo + r.val, by omega⟩ (lane512 h d)
      cq := cq h ⟨lo + r.val, by omega⟩
      pos := lo + r.val
      dy := fun d => dy ⟨lo + r.val, by omega⟩ (lane512 h d)
      key := fun j d => k ⟨j.val, by omega⟩ (lane512 h d)
      ck := fun j => ck h ⟨j.val, by omega⟩
      val := fun j d => v ⟨j.val, by omega⟩ ⟨1024 + (lane512 h d).val, by omega⟩ }

/-- Finite queries, keys and decays make real rows. -/
theorem groupOf_real {n lo : ℕ} (h0 : 0 < n) {hn : n ≤ 2048} {hlo : lo + 512 ≤ 2048} {q k : Fin 2048 → Fin 512 → EReal}
    {v : Fin 2048 → Fin 8192 → EReal} {cq ck : Fin 8 → Fin 2048 → EReal} {dy : Fin 2048 → Fin 512 → EReal}
    (hq : ∀ i l, q i l ≠ ⊥ ∧ q i l ≠ ⊤) (hk : ∀ i l, k i l ≠ ⊥ ∧ k i l ≠ ⊤)
    (hcq : ∀ h i, cq h i ≠ ⊥ ∧ cq h i ≠ ⊤) (hck : ∀ h i, ck h i ≠ ⊥ ∧ ck h i ≠ ⊤) :
    Real (groupOf n lo hn hlo q k v cq ck dy) :=
  fun _ _ => ⟨fun _ => hq _ _, hcq _ _, fun _ _ => hk _ _, fun _ => hck _ _, h0⟩

/-- The attention: the value rows times the probabilities, summed over the keys. -/
def attention {n : ℕ} (G : Group n) (r c : Fin 512) : EReal := ∑ j, (G (head c) r).prob j * (G (head c) r).val j (sub c)

/-- The word of the least float is `−∞`. -/
theorem word_neg_inf : Ideal.ofBits .f32 0xFF800000#32 = ⊥ := by simp [Ideal.ofBits, Ideal.ieee]

/-- A reference's reduction to the greatest score, at one query. -/
theorem greatest {n : ℕ} (v : FVec Ideal (⟨3, ![8, 512, n]⟩ : Shape) .f32) (c : FVec Ideal (⟨0, ![]⟩ : Shape) .f32)
    (hr : (⟨3, ![8, 512, n]⟩ : Shape).ReducesTo [2] ⟨2, ![8, 512]⟩) (h0 : 0 < (⟨0, ![]⟩ : Shape).numel) (h : Fin 8)
    (r : Fin 512) : Host.reduce FloatOps.maximumf v c hr h0 (ix2 h r)
      = Finset.univ.fold max (c (Shape.Idx.first h0)) fun k : Fin n => v (ix3 h r k) := by
  simp only [pointwise]

/-- So the reduction of a query's scores from `−∞` on, kept above `−∞`, is the row's greatest score. -/
theorem peak_of {n : ℕ} (R : Row n) (v : FVec Ideal (⟨3, ![8, 512, n]⟩ : Shape) .f32)
    (c : FVec Ideal (⟨0, ![]⟩ : Shape) .f32) (hr : (⟨3, ![8, 512, n]⟩ : Shape).ReducesTo [2] ⟨2, ![8, 512]⟩)
    (h0 : 0 < (⟨0, ![]⟩ : Shape).numel) (h : Fin 8) (r : Fin 512) (hc : ∀ i, c i = Ideal.ofBits .f32 0xFF800000#32)
    (hv : ∀ k, v (ix3 h r k) = R.score k) :
    max (Ideal.ofBits .f32 0xFF800000#32) (Host.reduce FloatOps.maximumf v c hr h0 (ix2 h r)) = R.peak := by
  rw [greatest, hc, word_neg_inf, max_bot_left, funext hv, Row.peak]

/-! ## The sixteen grid points: pairs of heads, and blocks of 128 queries -/

/-- The first head of point `t`. -/
def pairA (t : Fin 16) : Fin 8 := ⟨2 * (t.val / 4), by omega⟩
/-- The second head of point `t`. -/
def pairB (t : Fin 16) : Fin 8 := ⟨2 * (t.val / 4) + 1, by omega⟩
/-- Query `r` of point `t` within its group. -/
def query (t : Fin 16) (r : Fin 128) : Fin 512 := ⟨t.val % 4 * 128 + r.val, by omega⟩
/-- Lane `l` of point `t`'s heads among all lanes. -/
def lane (t : Fin 16) (l : Fin 128) : Fin 512 := ⟨t.val / 4 * 128 + l.val, by omega⟩

/-- Each lane of a block is a lane of its first head or of its second. -/
theorem lane_cases (l : Fin 128) : (∃ d, l = laneA d) ∨ ∃ d, l = laneB d := by
  rcases Nat.lt_or_ge l.val 64 with h | h
  · exact Or.inl ⟨⟨l.val, h⟩, rfl⟩
  · exact Or.inr ⟨⟨l.val - 64, by omega⟩, Fin.ext (by simp [laneB]; omega)⟩

theorem head_laneA (t : Fin 16) (d : Fin 64) : head (lane t (laneA d)) = pairA t := by
  apply Fin.ext; simp only [head, lane, laneA, pairA]; omega
theorem head_laneB (t : Fin 16) (d : Fin 64) : head (lane t (laneB d)) = pairB t := by
  apply Fin.ext; simp only [head, lane, laneB, pairB]; omega
theorem sub_laneA (t : Fin 16) (d : Fin 64) : sub (lane t (laneA d)) = d := by
  apply Fin.ext; simp only [sub, lane, laneA]; omega
theorem sub_laneB (t : Fin 16) (d : Fin 64) : sub (lane t (laneB d)) = d := by
  apply Fin.ext; simp only [sub, lane, laneB]; omega

/-- A block's entry that is each head's attention is the group's attention at its lane. -/
theorem attention_of_heads {n : ℕ} (G : Group n) (t : Fin 16) (r : Fin 128) (f : Fin 128 → EReal)
    (hA : ∀ d, f (laneA d) = ∑ j, (G (pairA t) (query t r)).prob j * (G (pairA t) (query t r)).val j d)
    (hB : ∀ d, f (laneB d) = ∑ j, (G (pairB t) (query t r)).prob j * (G (pairB t) (query t r)).val j d) (l : Fin 128) :
    f l = attention G (query t r) (lane t l) := by
  rw [attention]
  obtain ⟨d, rfl⟩ | ⟨d, rfl⟩ := lane_cases l
  · rw [head_laneA, sub_laneA]; exact hA d
  · rw [head_laneB, sub_laneB]; exact hB d

/-- One query's row as a block holds it: its lanes `lane` of the block of queries, of keys and of values. -/
def blockRow {n : ℕ} (ln : Fin 64 → Fin 128) (pos : ℕ) (q : Fin 128 → EReal) (cq : EReal) (dy : Fin 128 → EReal)
    (k v : Fin n → Fin 128 → EReal) (ck : Fin n → EReal) : Row n where
  q d := q (ln d)
  cq := cq
  pos := pos
  dy d := dy (ln d)
  key j d := k j (ln d)
  ck := ck
  val j d := v j (ln d)

end Cert.Fox

end
-- ==== Proof.Scores.lean ====
module

public import proofs.«01_k».proof.Proof.Gen.Pre_finite_scores
public import proofs.«01_k».proof.Proof.Pre

/-! # The precondition of the attention says what the gradient's says -/

@[expose] public section

set_option maxRecDepth 16384

noncomputable section

namespace Cert.Finite

open Idealize.ShloMosaic

/-- The queries, the keys and the two forms of the decays are finite. -/
theorem scores (x0 x1 : FVec Ideal Cert.Pre_finite.S2048x512 .bf16) (x2 : FVec Ideal Cert.Pre_finite.S2048x8192 .f32)
    (x3 : FVec Ideal Cert.Pre_finite.S8x2048x1 .f32) (x4 : FVec Ideal Cert.Pre_finite.S8x1x2048 .f32)
    (h : Cert.Pre_finite_scores.fn (F := Ideal) x0 x1 x2 x3 x4 = fun _ => 1#1) :
    (∀ i, (x0 i : EReal) ≠ ⊥ ∧ (x0 i : EReal) ≠ ⊤) ∧ (∀ i, (x1 i : EReal) ≠ ⊥ ∧ (x1 i : EReal) ≠ ⊤)
    ∧ (∀ i, (x3 i : EReal) ≠ ⊥ ∧ (x3 i : EReal) ≠ ⊤) ∧ (∀ i, (x4 i : EReal) ≠ ⊥ ∧ (x4 i : EReal) ≠ ⊤) :=
  finite x0 x1 x2 x3 x4 (fun _ => (0 : EReal)) h

end Cert.Finite

end
-- ==== Proof.Attend3.lean ====
module

public import proofs.«01_k».proof.Defs
public import proofs.«01_k».proof.Proof.Gen.Kernel28Ideal.Value
public import proofs.«01_k».proof.Proof.Gen.Reference28Ideal.Run
public import proofs.«01_k».proof.Proof.Gen.Reference28Ideal.Read
public import proofs.«01_k».proof.Proof.Group
public import proofs.«01_k».proof.Proof.Scores
public import Idealize.ShloMosaic.Lib.Pipeline.ValueKit
public import Idealize.ShloMosaic.Lib.Pipeline.ReadBack
public import Idealize.ShloMosaic.Lib.ValueIdx

/-!
# The forgetting attention of queries 1536 to 2047

Grid point `t` works on the heads `2 p` and `2 p + 1`, `p = t / 4`, and on query block `t % 4` of the group, against the
2048 keys its queries may see.
-/

@[expose] public section

set_option maxRecDepth 16384

noncomputable section

namespace Cert.Attend3

open Cert.Kernel28Ideal Cert.Kernel28Ideal.Gen Cert.Reference28Ideal.Read Cert.Fox
open Idealize.ShloMosaic Idealize.ShloMosaic.TcCoe Idealize.SL.Sem

/-! ## One block -/

/-- The mask the kernel names is `−∞`. -/
theorem mask_value : (Named.named (F := Ideal) κ "mask" 0xF149F2CA#32 : Ideal .f32) = (⊥ : EReal) :=
  IdealRules.named_const.ideal_named_scalar _ _ _ _ rfl

/-- The point's mask: a key at or before the query. -/
theorem seen (i : grid0.Coords) (r : Fin 128) (k : Fin 2048) (x y : EReal) :
    Scalar.select (k0_pay5 i (ix2 r k)) x y = if k.val ≤ (12 + (i 1).val) * 128 + r.val then x else y := by
  have h : (i 1).val < 4 := (i 1).isLt
  have h1 : Scalar.addi 12#32 (BitVec.ofNat 32 (i 1).val) = BitVec.ofNat 32 (12 + (i 1).val) := by
    rw [BitVec.ofNat_add]; rfl
  pointwise [k0_pay5]
  rw [h1]
  exact select_seen _ _ _ (by omega) (by omega) (by omega) x y

/-- The point's lane mask: the first 64 lanes. -/
theorem first (r l : Fin 128) (x y : EReal) : Scalar.select (k0_pay4 (ix2 r l)) x y = if l.val < 64 then x else y := by
  pointwise [k0_pay4, select_lane]

section
variable (i : grid0.Coords) (x0 : FVec Ideal S128x128 .bf16) (x1 : FVec Ideal S2048x128 .bf16)
    (x2 : FVec Ideal S2048x128 .f32) (x3 x4 : FVec Ideal S1x128x1 .f32) (x5 x6 : FVec Ideal S1x1x2048 .f32)

/-- Query `r`'s row, of the head in the lanes `ln`. -/
abbrev row (ln : Fin 64 → Fin 128) (xc : FVec Ideal S1x128x1 .f32) (xk : FVec Ideal S1x1x2048 .f32) (r : Fin 128) : Row 2048 :=
  blockRow ln ((12 + (i 1).val) * 128 + r.val) (fun l => x0 (ix2 r l)) (xc (ix3 0 r 0)) (fun _ => 0)
    (fun k l => x1 (ix2 k l)) (fun k l => x2 (ix2 k l)) (fun k => xk (ix3 0 0 k))

theorem score_A (r : Fin 128) (k : Fin 2048) : Scalar.select (k0_pay5 i (ix2 r k)) (k0_pay7 (F := Ideal) x0 x1 x3 x5 (ix2 r k)) (k0_pay8 (F := Ideal) (ix2 r k))
    = (row i x0 x1 x2 laneA x3 x5 r).score k := by
  pointwise [k0_pay7, k0_pay8, first, seen, mask_value, zero_mul, Finset.sum_const_zero, zero_add, add_zero]
  rfl

/-- The point's block of the result. -/
abbrev blk : FVec Ideal S128x128 .bf16 := k0_pay1 (F := Ideal) x1 x2 (k0_pay2 x4) (k0_pay3 x6) k0_pay4 (k0_pay5 i) (k0_pay6 x0) (k0_pay7 x0 x1 x3 x5) k0_pay8

theorem blk_A (r : Fin 128) (d : Fin 64) : blk i x0 x1 x2 x3 x4 x5 x6 (ix2 r (laneA d))
    = ∑ k, (row i x0 x1 x2 laneA x3 x5 r).prob k * (row i x0 x1 x2 laneA x3 x5 r).val k d := by
  pointwise [blk, k0_pay1, first, score_A i x0 x1 x2 x3 x5, word_neg_inf, laneA]
  rfl

theorem blk_B (r : Fin 128) (d : Fin 64) : blk i x0 x1 x2 x3 x4 x5 x6 (ix2 r (laneB d))
    = ∑ k, (row i x0 x1 x2 laneB x4 x6 r).prob k * (row i x0 x1 x2 laneB x4 x6 r).val k d := by
  pointwise [blk, k0_pay1, k0_pay2, k0_pay3, k0_pay6, first, seen, mask_value, word_neg_inf, laneB, zero_mul, Finset.sum_const_zero, zero_add, add_zero]
  rfl

end

/-! ## The array -/

variable (m : (ℓ : Loc nD τ sig) → Buf (Elt Ideal) ℓ)

theorem idx0 : ∀ t : Fin cfg0.N, win0_0.index t = ![12 + t.val % 4, t.val / 4] := (by decide +kernel : ∀ t : Fin grid0.N, _)
theorem idx1 : ∀ t : Fin cfg0.N, win0_1.index t = ![0, t.val / 4] := (by decide +kernel : ∀ t : Fin grid0.N, _)
theorem idx2 : ∀ t : Fin cfg0.N, win0_2.index t = ![0, 8 + t.val / 4] := (by decide +kernel : ∀ t : Fin grid0.N, _)
theorem idx3 : ∀ t : Fin cfg0.N, win0_3.index t = ![2 * (t.val / 4), 12 + t.val % 4, 0] := (by decide +kernel : ∀ t : Fin grid0.N, _)
theorem idx4 : ∀ t : Fin cfg0.N, win0_4.index t = ![2 * (t.val / 4) + 1, 12 + t.val % 4, 0] := (by decide +kernel : ∀ t : Fin grid0.N, _)
theorem idx5 : ∀ t : Fin cfg0.N, win0_5.index t = ![2 * (t.val / 4), 0, 0] := (by decide +kernel : ∀ t : Fin grid0.N, _)
theorem idx6 : ∀ t : Fin cfg0.N, win0_6.index t = ![2 * (t.val / 4) + 1, 0, 0] := (by decide +kernel : ∀ t : Fin grid0.N, _)
theorem idx7 : ∀ t : Fin cfg0.N, win0_7.index t = ![t.val % 4, t.val / 4] := (by decide +kernel : ∀ t : Fin grid0.N, _)
theorem coord : ∀ t : Fin cfg0.N, (grid0.coords t 1).val = t.val % 4 := (by decide +kernel : ∀ t : Fin grid0.N, _)
theorem pts (t : Fin cfg0.N) : t.val < 16 := lt_of_lt_of_eq t.isLt (by decide +kernel)

/-- The group's rows, from the five arguments. -/
abbrev group (x0 x1 : FVec Ideal S2048x512 .bf16) (x2 : FVec Ideal S2048x8192 .f32) (x3 : FVec Ideal S8x2048x1 .f32)
    (x4 : FVec Ideal S8x1x2048 .f32) : Group 2048 :=
  groupOf 2048 1536 (by omega) (by omega) (fun i l => x0 (ix2 i l)) (fun i l => x1 (ix2 i l)) (fun i l => x2 (ix2 i l))
    (fun h i => x3 (ix3 h i 0)) (fun h i => x4 (ix3 h 0 i)) (fun _ _ => 0)

/-- The group's rows, from the kernel's memory. -/
abbrev held (c : Dev nD) : Group 2048 :=
  group (m ((c : Thread nD τ).loc main_arg0)) (m ((c : Thread nD τ).loc main_arg1)) (m ((c : Thread nD τ).loc main_arg2))
    (m ((c : Thread nD τ).loc main_arg3)) (m ((c : Thread nD τ).loc main_arg4))

theorem row_A (c : Dev nD) (t : Fin cfg0.N) (r : Fin 128) :
    row (grid0.coords t) (iblk m c 0 t) (iblk m c 1 t) (iblk m c 2 t) laneA (iblk m c 3 t) (iblk m c 5 t) r
      = held m c (pairA ⟨t.val, pts t⟩) (query ⟨t.val, pts t⟩ r) := by
  have ht := pts t
  have hc := coord t
  refine Row.ext ?_ ?_ ?_ ?_ ?_ ?_ ?_
  · funext d
    simp only [blockRow, groupOf, pairA, query, lane512, laneA]
    blk_ext [iblk, V, idx0 t]
  · simp only [blockRow, groupOf, pairA, query]
    blk_ext [iblk, V, idx3 t]
  · simp only [blockRow, groupOf, query]; omega
  · rfl
  · funext k d
    simp only [blockRow, groupOf, pairA, lane512, laneA]
    blk_ext [iblk, V, idx1 t]
  · funext k
    simp only [blockRow, groupOf, pairA]
    blk_ext [iblk, V, idx5 t]
  · funext k d
    simp only [blockRow, groupOf, pairA, lane512, laneA]
    blk_ext [iblk, V, idx2 t]

theorem row_B (c : Dev nD) (t : Fin cfg0.N) (r : Fin 128) :
    row (grid0.coords t) (iblk m c 0 t) (iblk m c 1 t) (iblk m c 2 t) laneB (iblk m c 4 t) (iblk m c 6 t) r
      = held m c (pairB ⟨t.val, pts t⟩) (query ⟨t.val, pts t⟩ r) := by
  have ht := pts t
  have hc := coord t
  refine Row.ext ?_ ?_ ?_ ?_ ?_ ?_ ?_
  · funext d
    simp only [blockRow, groupOf, pairB, query, lane512, laneB]
    blk_ext [iblk, V, idx0 t]
  · simp only [blockRow, groupOf, pairB, query]
    blk_ext [iblk, V, idx4 t]
  · simp only [blockRow, groupOf, query]; omega
  · rfl
  · funext k d
    simp only [blockRow, groupOf, pairB, lane512, laneB]
    blk_ext [iblk, V, idx1 t]
  · funext k
    simp only [blockRow, groupOf, pairB]
    blk_ext [iblk, V, idx6 t]
  · funext k d
    simp only [blockRow, groupOf, pairB, lane512, laneB]
    blk_ext [iblk, V, idx2 t]

/-- The kernel's result. -/
theorem arr (c : Dev nD) : (dats m 0 c).arrAt 7 cfg0.N = fun y : S512x512.Idx => attention (held m c) (y 0) (y 1) := by
  refine (dats m 0 c).arrAt_eq_of_covers 7 _ (by decide +kernel) fun t hf y => ?_
  blk_simp
  have ht := pts t
  have hb := idx7 t
  have h0 : (win0_7.blk t).view.emb y 0 = (query ⟨t.val, ht⟩ (y 0) : Fin 512) := by
    apply Fin.ext; blk_simp [hb, query]
  have h1 : (win0_7.blk t).view.emb y 1 = (lane ⟨t.val, ht⟩ (y 1) : Fin 512) := by
    apply Fin.ext; blk_simp [hb, lane]
  refine Eq.trans ?_ (congrArg₂ (attention (held m c)) h0 h1).symm
  rw [after0_7]
  frame_out
  obtain ⟨r, l, rfl⟩ : ∃ r l, y = ix2 r l := ⟨y 0, y 1, eq_ix2 y⟩
  refine attention_of_heads (held m c) ⟨t.val, ht⟩ r (fun l => blk (grid0.coords t) (iblk m c 0 t) (iblk m c 1 t)
    (iblk m c 2 t) (iblk m c 3 t) (iblk m c 4 t) (iblk m c 5 t) (iblk m c 6 t) (ix2 r l)) (fun d => ?_) (fun d => ?_) l
  · rw [← row_A]; exact blk_A _ _ _ _ _ _ _ _ r d
  · rw [← row_B]; exact blk_B _ _ _ _ _ _ _ _ r d

/-! ## The reference -/

section
variable (x0 x1 : FVec Ideal S2048x512 .bf16) (x2 : FVec Ideal S2048x8192 .f32) (x3 : FVec Ideal S8x2048x1 .f32)
  (x4 : FVec Ideal S8x1x2048 .f32)

/-- Query `r` of the group sees key `k`. -/
theorem ref_seen (r : Fin 512) (k : Fin 2048) (x y : EReal) :
    Scalar.select (val_main_v24 (F := Ideal) (ix2 r k)) x y = if k.val ≤ 1536 + r.val then x else y := by
  pointwise [val_main_v24, val_main_v23, val_main_v22, val_main_v21, val_main_v20, val_main_v19, val_main_v18, val_main_v17, val_main_v16, val_main_c]
  have h1 : IntOp.addi 1536#32 (BitVec.ofNat 32 r.val) = BitVec.ofNat 32 (1536 + r.val) := by
    rw [BitVec.ofNat_add]; rfl
  rw [h1, select_sge (by omega) (by omega)]

theorem ref_score (h : Fin 8) (r : Fin 512) (k : Fin 2048) :
    val_main_v25 (F := Ideal) x0 x1 x3 x4 (ix3 h r k) = (group x0 x1 x2 x3 x4 h r).score k := by
  pointwise [val_main_v25, val_main_v15, val_main_v14, val_main_v13, val_main_v12, val_main_v11, val_main_v8, val_main_v7, val_main_v6, val_main_v5, val_main_v4, val_main_v2, val_main_v1, val_main_v0,
    val_main_call0_v2, val_main_call0_v1, val_main_call0_v0, val_main_cst, ref_seen, word_neg_inf]
  rfl

theorem ref_peak (h : Fin 8) (r : Fin 512) :
    val_main_v28 (F := Ideal) x0 x1 x3 x4 (ix2 h r) = (group x0 x1 x2 x3 x4 h r).peak := by
  rw [val_main_v28_apply, val_main_v27_apply, val_main_v26]
  exact peak_of _ _ _ _ _ h r (fun _ => rfl) (ref_score x0 x1 x2 x3 x4 h r)

theorem ref_wt (h : Fin 8) (r : Fin 512) (k : Fin 2048) :
    val_main_v32 (F := Ideal) x0 x1 x3 x4 (ix3 h r k) = (group x0 x1 x2 x3 x4 h r).wt k := by
  pointwise [val_main_v32, val_main_v31, val_main_v30, val_main_v29, ref_score x0 x1 x2 x3 x4, ref_peak x0 x1 x2 x3 x4]
  rfl

theorem ref_prob (h : Fin 8) (r : Fin 512) (k : Fin 2048) (hR : (group x0 x1 x2 x3 x4 h r).Real) :
    val_main_v36 (F := Ideal) x0 x1 x3 x4 (ix3 h r k) = (group x0 x1 x2 x3 x4 h r).prob k := by
  pointwise [val_main_v36, val_main_v35, val_main_v34, val_main_v33, val_main_cst_2, ref_wt x0 x1 x2 x3 x4]
  exact Row.prob_eq hR k

/-- The reference's result. -/
theorem ref (hR : Real (group x0 x1 x2 x3 x4)) :
    val_main_v40 (F := Ideal) x0 x1 x2 x3 x4 = fun y : S512x512.Idx => attention (group x0 x1 x2 x3 x4) (y 0) (y 1) := by
  funext y
  obtain ⟨r, c, rfl⟩ : ∃ r c, y = ix2 r c := ⟨y 0, y 1, eq_ix2 y⟩
  show _ = attention (group x0 x1 x2 x3 x4) r c
  pointwise [val_main_v40, val_main_v39, val_main_v38, val_main_v37, val_main_v10, val_main_v9, val_main_v3, ref_prob x0 x1 x2 x3 x4 _ _ _ (hR _ _)]
  refine Finset.sum_congr rfl fun k _ => ?_
  rw [mul_comm]
  exact congrArg (fun l : Fin 512 => _ * x2 (ix2 k ⟨1024 + l.val, by omega⟩)) (lane_head_sub c).symm

end

/-- The algebraic claim. -/
theorem algebraic : Cert.algebraic_Kernel28Ideal_Reference28Ideal_pre_finite_scores := by
  intro m g m' g' hpre hag
  refine ⟨_, Cert.Kernel28Ideal.Value.run_blocks m g, (θ_run _ _ _).mono (fun r h c => ?_) (Cert.Reference28Ideal.Value.run m' g')⟩
  obtain ⟨h0, hk⟩ := h c
  obtain ⟨a0, a1, a2, a3, a4⟩ := hag c
  obtain ⟨f0, f1, f3, f4⟩ := Cert.Finite.scores _ _ _ _ _ (hpre c)
  refine ⟨h0.trans ((val_main_v40_eq _ _).trans ?_), hk⟩
  rw [a0, a1, a2, a3, a4, arr]
  exact ref _ _ _ _ _ (groupOf_real (by omega) (fun _ _ => f0 _) (fun _ _ => f1 _) (fun _ _ => f3 _) (fun _ _ => f4 _))

end Cert.Attend3

end
-- ==== Proof.Attend2.lean ====
module

public import proofs.«01_k».proof.Defs
public import proofs.«01_k».proof.Proof.Gen.Kernel29Ideal.Value
public import proofs.«01_k».proof.Proof.Gen.Reference29Ideal.Run
public import proofs.«01_k».proof.Proof.Gen.Reference29Ideal.Read
public import proofs.«01_k».proof.Proof.Group
public import proofs.«01_k».proof.Proof.Scores
public import Idealize.ShloMosaic.Lib.Pipeline.ValueKit
public import Idealize.ShloMosaic.Lib.Pipeline.ReadBack
public import Idealize.ShloMosaic.Lib.ValueIdx

/-!
# The forgetting attention of queries 1024 to 1535

Grid point `t` works on the heads `2 p` and `2 p + 1`, `p = t / 4`, and on query block `t % 4` of the group, against the
1536 keys its queries may see.
-/

@[expose] public section

set_option maxRecDepth 16384

noncomputable section

namespace Cert.Attend2

open Cert.Kernel29Ideal Cert.Kernel29Ideal.Gen Cert.Reference29Ideal.Read Cert.Fox
open Idealize.ShloMosaic Idealize.ShloMosaic.TcCoe Idealize.SL.Sem

/-! ## One block -/

/-- The mask the kernel names is `−∞`. -/
theorem mask_value : (Named.named (F := Ideal) κ "mask" 0xF149F2CA#32 : Ideal .f32) = (⊥ : EReal) :=
  IdealRules.named_const.ideal_named_scalar _ _ _ _ rfl

/-- The point's mask: a key at or before the query. -/
theorem seen (i : grid0.Coords) (r : Fin 128) (k : Fin 1536) (x y : EReal) :
    Scalar.select (k0_pay5 i (ix2 r k)) x y = if k.val ≤ (8 + (i 1).val) * 128 + r.val then x else y := by
  have h : (i 1).val < 4 := (i 1).isLt
  have h1 : Scalar.addi 8#32 (BitVec.ofNat 32 (i 1).val) = BitVec.ofNat 32 (8 + (i 1).val) := by
    rw [BitVec.ofNat_add]; rfl
  pointwise [k0_pay5]
  rw [h1]
  exact select_seen _ _ _ (by omega) (by omega) (by omega) x y

/-- The point's lane mask: the first 64 lanes. -/
theorem first (r l : Fin 128) (x y : EReal) : Scalar.select (k0_pay4 (ix2 r l)) x y = if l.val < 64 then x else y := by
  pointwise [k0_pay4, select_lane]

section
variable (i : grid0.Coords) (x0 : FVec Ideal S128x128 .bf16) (x1 : FVec Ideal S1536x128 .bf16)
    (x2 : FVec Ideal S1536x128 .f32) (x3 x4 : FVec Ideal S1x128x1 .f32) (x5 x6 : FVec Ideal S1x1x1536 .f32)

/-- Query `r`'s row, of the head in the lanes `ln`. -/
abbrev row (ln : Fin 64 → Fin 128) (xc : FVec Ideal S1x128x1 .f32) (xk : FVec Ideal S1x1x1536 .f32) (r : Fin 128) : Row 1536 :=
  blockRow ln ((8 + (i 1).val) * 128 + r.val) (fun l => x0 (ix2 r l)) (xc (ix3 0 r 0)) (fun _ => 0)
    (fun k l => x1 (ix2 k l)) (fun k l => x2 (ix2 k l)) (fun k => xk (ix3 0 0 k))

theorem score_A (r : Fin 128) (k : Fin 1536) : Scalar.select (k0_pay5 i (ix2 r k)) (k0_pay7 (F := Ideal) x0 x1 x3 x5 (ix2 r k)) (k0_pay8 (F := Ideal) (ix2 r k))
    = (row i x0 x1 x2 laneA x3 x5 r).score k := by
  pointwise [k0_pay7, k0_pay8, first, seen, mask_value, zero_mul, Finset.sum_const_zero, zero_add, add_zero]
  rfl

/-- The point's block of the result. -/
abbrev blk : FVec Ideal S128x128 .bf16 := k0_pay1 (F := Ideal) x1 x2 (k0_pay2 x4) (k0_pay3 x6) k0_pay4 (k0_pay5 i) (k0_pay6 x0) (k0_pay7 x0 x1 x3 x5) k0_pay8

theorem blk_A (r : Fin 128) (d : Fin 64) : blk i x0 x1 x2 x3 x4 x5 x6 (ix2 r (laneA d))
    = ∑ k, (row i x0 x1 x2 laneA x3 x5 r).prob k * (row i x0 x1 x2 laneA x3 x5 r).val k d := by
  pointwise [blk, k0_pay1, first, score_A i x0 x1 x2 x3 x5, word_neg_inf, laneA]
  rfl

theorem blk_B (r : Fin 128) (d : Fin 64) : blk i x0 x1 x2 x3 x4 x5 x6 (ix2 r (laneB d))
    = ∑ k, (row i x0 x1 x2 laneB x4 x6 r).prob k * (row i x0 x1 x2 laneB x4 x6 r).val k d := by
  pointwise [blk, k0_pay1, k0_pay2, k0_pay3, k0_pay6, first, seen, mask_value, word_neg_inf, laneB, zero_mul, Finset.sum_const_zero, zero_add, add_zero]
  rfl

end

/-! ## The array -/

variable (m : (ℓ : Loc nD τ sig) → Buf (Elt Ideal) ℓ)

theorem idx0 : ∀ t : Fin cfg0.N, win0_0.index t = ![8 + t.val % 4, t.val / 4] := (by decide +kernel : ∀ t : Fin grid0.N, _)
theorem idx1 : ∀ t : Fin cfg0.N, win0_1.index t = ![0, t.val / 4] := (by decide +kernel : ∀ t : Fin grid0.N, _)
theorem idx2 : ∀ t : Fin cfg0.N, win0_2.index t = ![0, 8 + t.val / 4] := (by decide +kernel : ∀ t : Fin grid0.N, _)
theorem idx3 : ∀ t : Fin cfg0.N, win0_3.index t = ![2 * (t.val / 4), 8 + t.val % 4, 0] := (by decide +kernel : ∀ t : Fin grid0.N, _)
theorem idx4 : ∀ t : Fin cfg0.N, win0_4.index t = ![2 * (t.val / 4) + 1, 8 + t.val % 4, 0] := (by decide +kernel : ∀ t : Fin grid0.N, _)
theorem idx5 : ∀ t : Fin cfg0.N, win0_5.index t = ![2 * (t.val / 4), 0, 0] := (by decide +kernel : ∀ t : Fin grid0.N, _)
theorem idx6 : ∀ t : Fin cfg0.N, win0_6.index t = ![2 * (t.val / 4) + 1, 0, 0] := (by decide +kernel : ∀ t : Fin grid0.N, _)
theorem idx7 : ∀ t : Fin cfg0.N, win0_7.index t = ![t.val % 4, t.val / 4] := (by decide +kernel : ∀ t : Fin grid0.N, _)
theorem coord : ∀ t : Fin cfg0.N, (grid0.coords t 1).val = t.val % 4 := (by decide +kernel : ∀ t : Fin grid0.N, _)
theorem pts (t : Fin cfg0.N) : t.val < 16 := lt_of_lt_of_eq t.isLt (by decide +kernel)

/-- The group's rows, from the five arguments. -/
abbrev group (x0 x1 : FVec Ideal S2048x512 .bf16) (x2 : FVec Ideal S2048x8192 .f32) (x3 : FVec Ideal S8x2048x1 .f32)
    (x4 : FVec Ideal S8x1x2048 .f32) : Group 1536 :=
  groupOf 1536 1024 (by omega) (by omega) (fun i l => x0 (ix2 i l)) (fun i l => x1 (ix2 i l)) (fun i l => x2 (ix2 i l))
    (fun h i => x3 (ix3 h i 0)) (fun h i => x4 (ix3 h 0 i)) (fun _ _ => 0)

/-- The group's rows, from the kernel's memory. -/
abbrev held (c : Dev nD) : Group 1536 :=
  group (m ((c : Thread nD τ).loc main_arg0)) (m ((c : Thread nD τ).loc main_arg1)) (m ((c : Thread nD τ).loc main_arg2))
    (m ((c : Thread nD τ).loc main_arg3)) (m ((c : Thread nD τ).loc main_arg4))

theorem row_A (c : Dev nD) (t : Fin cfg0.N) (r : Fin 128) :
    row (grid0.coords t) (iblk m c 0 t) (X0_1 m c t) (X0_2 m c t) laneA (iblk m c 3 t) (X0_5 m c t) r
      = held m c (pairA ⟨t.val, pts t⟩) (query ⟨t.val, pts t⟩ r) := by
  have ht := pts t
  have hc := coord t
  refine Row.ext ?_ ?_ ?_ ?_ ?_ ?_ ?_
  · funext d
    simp only [blockRow, groupOf, pairA, query, lane512, laneA]
    blk_ext [iblk, V, idx0 t]
  · simp only [blockRow, groupOf, pairA, query]
    blk_ext [iblk, V, idx3 t]
  · simp only [blockRow, groupOf, query]; omega
  · rfl
  · funext k d
    simp only [blockRow, groupOf, pairA, lane512, laneA]
    rw [X0_1, Pipeline.Window.fill, dif_pos (moved0_1 t _)]
    blk_ext [iblk, V, idx1 t]
  · funext k
    simp only [blockRow, groupOf, pairA]
    rw [X0_5, Pipeline.Window.fill, dif_pos (moved0_5 t _)]
    blk_ext [iblk, V, idx5 t]
  · funext k d
    simp only [blockRow, groupOf, pairA, lane512, laneA]
    rw [X0_2, Pipeline.Window.fill, dif_pos (moved0_2 t _)]
    blk_ext [iblk, V, idx2 t]

theorem row_B (c : Dev nD) (t : Fin cfg0.N) (r : Fin 128) :
    row (grid0.coords t) (iblk m c 0 t) (X0_1 m c t) (X0_2 m c t) laneB (iblk m c 4 t) (X0_6 m c t) r
      = held m c (pairB ⟨t.val, pts t⟩) (query ⟨t.val, pts t⟩ r) := by
  have ht := pts t
  have hc := coord t
  refine Row.ext ?_ ?_ ?_ ?_ ?_ ?_ ?_
  · funext d
    simp only [blockRow, groupOf, pairB, query, lane512, laneB]
    blk_ext [iblk, V, idx0 t]
  · simp only [blockRow, groupOf, pairB, query]
    blk_ext [iblk, V, idx4 t]
  · simp only [blockRow, groupOf, query]; omega
  · rfl
  · funext k d
    simp only [blockRow, groupOf, pairB, lane512, laneB]
    rw [X0_1, Pipeline.Window.fill, dif_pos (moved0_1 t _)]
    blk_ext [iblk, V, idx1 t]
  · funext k
    simp only [blockRow, groupOf, pairB]
    rw [X0_6, Pipeline.Window.fill, dif_pos (moved0_6 t _)]
    blk_ext [iblk, V, idx6 t]
  · funext k d
    simp only [blockRow, groupOf, pairB, lane512, laneB]
    rw [X0_2, Pipeline.Window.fill, dif_pos (moved0_2 t _)]
    blk_ext [iblk, V, idx2 t]

/-- The kernel's result. -/
theorem arr (c : Dev nD) : (dats m 0 c).arrAt 7 cfg0.N = fun y : S512x512.Idx => attention (held m c) (y 0) (y 1) := by
  refine (dats m 0 c).arrAt_eq_of_covers 7 _ (by decide +kernel) fun t hf y => ?_
  blk_simp
  have ht := pts t
  have hb := idx7 t
  have h0 : (win0_7.blk t).view.emb y 0 = (query ⟨t.val, ht⟩ (y 0) : Fin 512) := by
    apply Fin.ext; blk_simp [hb, query]
  have h1 : (win0_7.blk t).view.emb y 1 = (lane ⟨t.val, ht⟩ (y 1) : Fin 512) := by
    apply Fin.ext; blk_simp [hb, lane]
  refine Eq.trans ?_ (congrArg₂ (attention (held m c)) h0 h1).symm
  rw [after0_7, outsAt0]
  frame_out
  obtain ⟨r, l, rfl⟩ : ∃ r l, y = ix2 r l := ⟨y 0, y 1, eq_ix2 y⟩
  refine attention_of_heads (held m c) ⟨t.val, ht⟩ r (fun l => blk (grid0.coords t) (iblk m c 0 t) (X0_1 m c t)
    (X0_2 m c t) (iblk m c 3 t) (iblk m c 4 t) (X0_5 m c t) (X0_6 m c t) (ix2 r l)) (fun d => ?_) (fun d => ?_) l
  · rw [← row_A]; exact blk_A _ _ _ _ _ _ _ _ r d
  · rw [← row_B]; exact blk_B _ _ _ _ _ _ _ _ r d

/-! ## The reference -/

section
variable (x0 x1 : FVec Ideal S2048x512 .bf16) (x2 : FVec Ideal S2048x8192 .f32) (x3 : FVec Ideal S8x2048x1 .f32)
  (x4 : FVec Ideal S8x1x2048 .f32)

/-- Query `r` of the group sees key `k`. -/
theorem ref_seen (r : Fin 512) (k : Fin 1536) (x y : EReal) :
    Scalar.select (val_main_v26 (F := Ideal) (ix2 r k)) x y = if k.val ≤ 1024 + r.val then x else y := by
  pointwise [val_main_v26, val_main_v25, val_main_v24, val_main_v23, val_main_v22, val_main_v21, val_main_v20, val_main_v19, val_main_v18, val_main_c]
  have h1 : IntOp.addi 1024#32 (BitVec.ofNat 32 r.val) = BitVec.ofNat 32 (1024 + r.val) := by
    rw [BitVec.ofNat_add]; rfl
  rw [h1, select_sge (by omega) (by omega)]

theorem ref_score (h : Fin 8) (r : Fin 512) (k : Fin 1536) :
    val_main_v27 (F := Ideal) x0 x1 x3 x4 (ix3 h r k) = (group x0 x1 x2 x3 x4 h r).score k := by
  pointwise [val_main_v27, val_main_v17, val_main_v16, val_main_v15, val_main_v14, val_main_v13, val_main_v10, val_main_v9, val_main_v8, val_main_v7, val_main_v5, val_main_v3, val_main_v2, val_main_v1, val_main_v0, val_main_v6,
    val_main_call0_v2, val_main_call0_v1, val_main_call0_v0, val_main_cst, ref_seen, word_neg_inf]
  rfl

theorem ref_peak (h : Fin 8) (r : Fin 512) :
    val_main_v30 (F := Ideal) x0 x1 x3 x4 (ix2 h r) = (group x0 x1 x2 x3 x4 h r).peak := by
  rw [val_main_v30_apply, val_main_v29_apply, val_main_v28]
  exact peak_of _ _ _ _ _ h r (fun _ => rfl) (ref_score x0 x1 x2 x3 x4 h r)

theorem ref_wt (h : Fin 8) (r : Fin 512) (k : Fin 1536) :
    val_main_v34 (F := Ideal) x0 x1 x3 x4 (ix3 h r k) = (group x0 x1 x2 x3 x4 h r).wt k := by
  pointwise [val_main_v34, val_main_v33, val_main_v32, val_main_v31, ref_score x0 x1 x2 x3 x4, ref_peak x0 x1 x2 x3 x4]
  rfl

theorem ref_prob (h : Fin 8) (r : Fin 512) (k : Fin 1536) (hR : (group x0 x1 x2 x3 x4 h r).Real) :
    val_main_v38 (F := Ideal) x0 x1 x3 x4 (ix3 h r k) = (group x0 x1 x2 x3 x4 h r).prob k := by
  pointwise [val_main_v38, val_main_v37, val_main_v36, val_main_v35, val_main_cst_2, ref_wt x0 x1 x2 x3 x4]
  exact Row.prob_eq hR k

/-- The reference's result. -/
theorem ref (hR : Real (group x0 x1 x2 x3 x4)) :
    val_main_v42 (F := Ideal) x0 x1 x2 x3 x4 = fun y : S512x512.Idx => attention (group x0 x1 x2 x3 x4) (y 0) (y 1) := by
  funext y
  obtain ⟨r, c, rfl⟩ : ∃ r c, y = ix2 r c := ⟨y 0, y 1, eq_ix2 y⟩
  show _ = attention (group x0 x1 x2 x3 x4) r c
  pointwise [val_main_v42, val_main_v41, val_main_v40, val_main_v39, val_main_v12, val_main_v11, val_main_v4, ref_prob x0 x1 x2 x3 x4 _ _ _ (hR _ _)]
  refine Finset.sum_congr rfl fun k _ => ?_
  rw [mul_comm]
  exact congrArg (fun l : Fin 512 => _ * x2 (ix2 ⟨k.val, by omega⟩ ⟨1024 + l.val, by omega⟩)) (lane_head_sub c).symm

end

/-- The algebraic claim. -/
theorem algebraic : Cert.algebraic_Kernel29Ideal_Reference29Ideal_pre_finite_scores := by
  intro m g m' g' hpre hag
  refine ⟨_, Cert.Kernel29Ideal.Value.run_blocks m g, (θ_run _ _ _).mono (fun r h c => ?_) (Cert.Reference29Ideal.Value.run m' g')⟩
  obtain ⟨h0, hk⟩ := h c
  obtain ⟨a0, a1, a2, a3, a4⟩ := hag c
  obtain ⟨f0, f1, f3, f4⟩ := Cert.Finite.scores _ _ _ _ _ (hpre c)
  refine ⟨h0.trans ((val_main_v42_eq _ _).trans ?_), hk⟩
  rw [a0, a1, a2, a3, a4, arr]
  exact ref _ _ _ _ _ (groupOf_real (by omega) (fun _ _ => f0 _) (fun _ _ => f1 _) (fun _ _ => f3 _) (fun _ _ => f4 _))

end Cert.Attend2

end
-- ==== Proof.Attend1.lean ====
module

public import proofs.«01_k».proof.Defs
public import proofs.«01_k».proof.Proof.Gen.Kernel30Ideal.Value
public import proofs.«01_k».proof.Proof.Gen.Reference30Ideal.Run
public import proofs.«01_k».proof.Proof.Gen.Reference30Ideal.Read
public import proofs.«01_k».proof.Proof.Group
public import proofs.«01_k».proof.Proof.Scores
public import Idealize.ShloMosaic.Lib.Pipeline.ValueKit
public import Idealize.ShloMosaic.Lib.Pipeline.ReadBack
public import Idealize.ShloMosaic.Lib.ValueIdx

/-!
# The forgetting attention of queries 512 to 1023

Grid point `t` works on the heads `2 p` and `2 p + 1`, `p = t / 4`, and on query block `t % 4` of the group, against the
1024 keys its queries may see.
-/

@[expose] public section

set_option maxRecDepth 16384

noncomputable section

namespace Cert.Attend1

open Cert.Kernel30Ideal Cert.Kernel30Ideal.Gen Cert.Reference30Ideal.Read Cert.Fox
open Idealize.ShloMosaic Idealize.ShloMosaic.TcCoe Idealize.SL.Sem

/-! ## One block -/

/-- The mask the kernel names is `−∞`. -/
theorem mask_value : (Named.named (F := Ideal) κ "mask" 0xF149F2CA#32 : Ideal .f32) = (⊥ : EReal) :=
  IdealRules.named_const.ideal_named_scalar _ _ _ _ rfl

/-- The point's mask: a key at or before the query. -/
theorem seen (i : grid0.Coords) (r : Fin 128) (k : Fin 1024) (x y : EReal) :
    Scalar.select (k0_pay5 i (ix2 r k)) x y = if k.val ≤ (4 + (i 1).val) * 128 + r.val then x else y := by
  have h : (i 1).val < 4 := (i 1).isLt
  have h1 : Scalar.addi 4#32 (BitVec.ofNat 32 (i 1).val) = BitVec.ofNat 32 (4 + (i 1).val) := by
    rw [BitVec.ofNat_add]; rfl
  pointwise [k0_pay5]
  rw [h1]
  exact select_seen _ _ _ (by omega) (by omega) (by omega) x y

/-- The point's lane mask: the first 64 lanes. -/
theorem first (r l : Fin 128) (x y : EReal) : Scalar.select (k0_pay4 (ix2 r l)) x y = if l.val < 64 then x else y := by
  pointwise [k0_pay4, select_lane]

section
variable (i : grid0.Coords) (x0 : FVec Ideal S128x128 .bf16) (x1 : FVec Ideal S1024x128 .bf16)
    (x2 : FVec Ideal S1024x128 .f32) (x3 x4 : FVec Ideal S1x128x1 .f32) (x5 x6 : FVec Ideal S1x1x1024 .f32)

/-- Query `r`'s row, of the head in the lanes `ln`. -/
abbrev row (ln : Fin 64 → Fin 128) (xc : FVec Ideal S1x128x1 .f32) (xk : FVec Ideal S1x1x1024 .f32) (r : Fin 128) : Row 1024 :=
  blockRow ln ((4 + (i 1).val) * 128 + r.val) (fun l => x0 (ix2 r l)) (xc (ix3 0 r 0)) (fun _ => 0)
    (fun k l => x1 (ix2 k l)) (fun k l => x2 (ix2 k l)) (fun k => xk (ix3 0 0 k))

theorem score_A (r : Fin 128) (k : Fin 1024) : Scalar.select (k0_pay5 i (ix2 r k)) (k0_pay7 (F := Ideal) x0 x1 x3 x5 (ix2 r k)) (k0_pay8 (F := Ideal) (ix2 r k))
    = (row i x0 x1 x2 laneA x3 x5 r).score k := by
  pointwise [k0_pay7, k0_pay8, first, seen, mask_value, zero_mul, Finset.sum_const_zero, zero_add, add_zero]
  rfl

/-- The point's block of the result. -/
abbrev blk : FVec Ideal S128x128 .bf16 := k0_pay1 (F := Ideal) x1 x2 (k0_pay2 x4) (k0_pay3 x6) k0_pay4 (k0_pay5 i) (k0_pay6 x0) (k0_pay7 x0 x1 x3 x5) k0_pay8

theorem blk_A (r : Fin 128) (d : Fin 64) : blk i x0 x1 x2 x3 x4 x5 x6 (ix2 r (laneA d))
    = ∑ k, (row i x0 x1 x2 laneA x3 x5 r).prob k * (row i x0 x1 x2 laneA x3 x5 r).val k d := by
  pointwise [blk, k0_pay1, first, score_A i x0 x1 x2 x3 x5, word_neg_inf, laneA]
  rfl

theorem blk_B (r : Fin 128) (d : Fin 64) : blk i x0 x1 x2 x3 x4 x5 x6 (ix2 r (laneB d))
    = ∑ k, (row i x0 x1 x2 laneB x4 x6 r).prob k * (row i x0 x1 x2 laneB x4 x6 r).val k d := by
  pointwise [blk, k0_pay1, k0_pay2, k0_pay3, k0_pay6, first, seen, mask_value, word_neg_inf, laneB, zero_mul, Finset.sum_const_zero, zero_add, add_zero]
  rfl

end

/-! ## The array -/

variable (m : (ℓ : Loc nD τ sig) → Buf (Elt Ideal) ℓ)

theorem idx0 : ∀ t : Fin cfg0.N, win0_0.index t = ![4 + t.val % 4, t.val / 4] := (by decide +kernel : ∀ t : Fin grid0.N, _)
theorem idx1 : ∀ t : Fin cfg0.N, win0_1.index t = ![0, t.val / 4] := (by decide +kernel : ∀ t : Fin grid0.N, _)
theorem idx2 : ∀ t : Fin cfg0.N, win0_2.index t = ![0, 8 + t.val / 4] := (by decide +kernel : ∀ t : Fin grid0.N, _)
theorem idx3 : ∀ t : Fin cfg0.N, win0_3.index t = ![2 * (t.val / 4), 4 + t.val % 4, 0] := (by decide +kernel : ∀ t : Fin grid0.N, _)
theorem idx4 : ∀ t : Fin cfg0.N, win0_4.index t = ![2 * (t.val / 4) + 1, 4 + t.val % 4, 0] := (by decide +kernel : ∀ t : Fin grid0.N, _)
theorem idx5 : ∀ t : Fin cfg0.N, win0_5.index t = ![2 * (t.val / 4), 0, 0] := (by decide +kernel : ∀ t : Fin grid0.N, _)
theorem idx6 : ∀ t : Fin cfg0.N, win0_6.index t = ![2 * (t.val / 4) + 1, 0, 0] := (by decide +kernel : ∀ t : Fin grid0.N, _)
theorem idx7 : ∀ t : Fin cfg0.N, win0_7.index t = ![t.val % 4, t.val / 4] := (by decide +kernel : ∀ t : Fin grid0.N, _)
theorem coord : ∀ t : Fin cfg0.N, (grid0.coords t 1).val = t.val % 4 := (by decide +kernel : ∀ t : Fin grid0.N, _)
theorem pts (t : Fin cfg0.N) : t.val < 16 := lt_of_lt_of_eq t.isLt (by decide +kernel)

/-- The group's rows, from the five arguments. -/
abbrev group (x0 x1 : FVec Ideal S2048x512 .bf16) (x2 : FVec Ideal S2048x8192 .f32) (x3 : FVec Ideal S8x2048x1 .f32)
    (x4 : FVec Ideal S8x1x2048 .f32) : Group 1024 :=
  groupOf 1024 512 (by omega) (by omega) (fun i l => x0 (ix2 i l)) (fun i l => x1 (ix2 i l)) (fun i l => x2 (ix2 i l))
    (fun h i => x3 (ix3 h i 0)) (fun h i => x4 (ix3 h 0 i)) (fun _ _ => 0)

/-- The group's rows, from the kernel's memory. -/
abbrev held (c : Dev nD) : Group 1024 :=
  group (m ((c : Thread nD τ).loc main_arg0)) (m ((c : Thread nD τ).loc main_arg1)) (m ((c : Thread nD τ).loc main_arg2))
    (m ((c : Thread nD τ).loc main_arg3)) (m ((c : Thread nD τ).loc main_arg4))

theorem row_A (c : Dev nD) (t : Fin cfg0.N) (r : Fin 128) :
    row (grid0.coords t) (iblk m c 0 t) (iblk m c 1 t) (iblk m c 2 t) laneA (iblk m c 3 t) (iblk m c 5 t) r
      = held m c (pairA ⟨t.val, pts t⟩) (query ⟨t.val, pts t⟩ r) := by
  have ht := pts t
  have hc := coord t
  refine Row.ext ?_ ?_ ?_ ?_ ?_ ?_ ?_
  · funext d
    simp only [blockRow, groupOf, pairA, query, lane512, laneA]
    blk_ext [iblk, V, idx0 t]
  · simp only [blockRow, groupOf, pairA, query]
    blk_ext [iblk, V, idx3 t]
  · simp only [blockRow, groupOf, query]; omega
  · rfl
  · funext k d
    simp only [blockRow, groupOf, pairA, lane512, laneA]
    blk_ext [iblk, V, idx1 t]
  · funext k
    simp only [blockRow, groupOf, pairA]
    blk_ext [iblk, V, idx5 t]
  · funext k d
    simp only [blockRow, groupOf, pairA, lane512, laneA]
    blk_ext [iblk, V, idx2 t]

theorem row_B (c : Dev nD) (t : Fin cfg0.N) (r : Fin 128) :
    row (grid0.coords t) (iblk m c 0 t) (iblk m c 1 t) (iblk m c 2 t) laneB (iblk m c 4 t) (iblk m c 6 t) r
      = held m c (pairB ⟨t.val, pts t⟩) (query ⟨t.val, pts t⟩ r) := by
  have ht := pts t
  have hc := coord t
  refine Row.ext ?_ ?_ ?_ ?_ ?_ ?_ ?_
  · funext d
    simp only [blockRow, groupOf, pairB, query, lane512, laneB]
    blk_ext [iblk, V, idx0 t]
  · simp only [blockRow, groupOf, pairB, query]
    blk_ext [iblk, V, idx4 t]
  · simp only [blockRow, groupOf, query]; omega
  · rfl
  · funext k d
    simp only [blockRow, groupOf, pairB, lane512, laneB]
    blk_ext [iblk, V, idx1 t]
  · funext k
    simp only [blockRow, groupOf, pairB]
    blk_ext [iblk, V, idx6 t]
  · funext k d
    simp only [blockRow, groupOf, pairB, lane512, laneB]
    blk_ext [iblk, V, idx2 t]

/-- The kernel's result. -/
theorem arr (c : Dev nD) : (dats m 0 c).arrAt 7 cfg0.N = fun y : S512x512.Idx => attention (held m c) (y 0) (y 1) := by
  refine (dats m 0 c).arrAt_eq_of_covers 7 _ (by decide +kernel) fun t hf y => ?_
  blk_simp
  have ht := pts t
  have hb := idx7 t
  have h0 : (win0_7.blk t).view.emb y 0 = (query ⟨t.val, ht⟩ (y 0) : Fin 512) := by
    apply Fin.ext; blk_simp [hb, query]
  have h1 : (win0_7.blk t).view.emb y 1 = (lane ⟨t.val, ht⟩ (y 1) : Fin 512) := by
    apply Fin.ext; blk_simp [hb, lane]
  refine Eq.trans ?_ (congrArg₂ (attention (held m c)) h0 h1).symm
  rw [after0_7]
  frame_out
  obtain ⟨r, l, rfl⟩ : ∃ r l, y = ix2 r l := ⟨y 0, y 1, eq_ix2 y⟩
  refine attention_of_heads (held m c) ⟨t.val, ht⟩ r (fun l => blk (grid0.coords t) (iblk m c 0 t) (iblk m c 1 t)
    (iblk m c 2 t) (iblk m c 3 t) (iblk m c 4 t) (iblk m c 5 t) (iblk m c 6 t) (ix2 r l)) (fun d => ?_) (fun d => ?_) l
  · rw [← row_A]; exact blk_A _ _ _ _ _ _ _ _ r d
  · rw [← row_B]; exact blk_B _ _ _ _ _ _ _ _ r d

/-! ## The reference -/

section
variable (x0 x1 : FVec Ideal S2048x512 .bf16) (x2 : FVec Ideal S2048x8192 .f32) (x3 : FVec Ideal S8x2048x1 .f32)
  (x4 : FVec Ideal S8x1x2048 .f32)

/-- Query `r` of the group sees key `k`. -/
theorem ref_seen (r : Fin 512) (k : Fin 1024) (x y : EReal) :
    Scalar.select (val_main_v26 (F := Ideal) (ix2 r k)) x y = if k.val ≤ 512 + r.val then x else y := by
  pointwise [val_main_v26, val_main_v25, val_main_v24, val_main_v23, val_main_v22, val_main_v21, val_main_v20, val_main_v19, val_main_v18, val_main_c]
  have h1 : IntOp.addi 512#32 (BitVec.ofNat 32 r.val) = BitVec.ofNat 32 (512 + r.val) := by
    rw [BitVec.ofNat_add]; rfl
  rw [h1, select_sge (by omega) (by omega)]

theorem ref_score (h : Fin 8) (r : Fin 512) (k : Fin 1024) :
    val_main_v27 (F := Ideal) x0 x1 x3 x4 (ix3 h r k) = (group x0 x1 x2 x3 x4 h r).score k := by
  pointwise [val_main_v27, val_main_v17, val_main_v16, val_main_v15, val_main_v14, val_main_v13, val_main_v10, val_main_v9, val_main_v8, val_main_v7, val_main_v5, val_main_v3, val_main_v2, val_main_v1, val_main_v0, val_main_v6,
    val_main_call0_v2, val_main_call0_v1, val_main_call0_v0, val_main_cst, ref_seen, word_neg_inf]
  rfl

theorem ref_peak (h : Fin 8) (r : Fin 512) :
    val_main_v30 (F := Ideal) x0 x1 x3 x4 (ix2 h r) = (group x0 x1 x2 x3 x4 h r).peak := by
  rw [val_main_v30_apply, val_main_v29_apply, val_main_v28]
  exact peak_of _ _ _ _ _ h r (fun _ => rfl) (ref_score x0 x1 x2 x3 x4 h r)

theorem ref_wt (h : Fin 8) (r : Fin 512) (k : Fin 1024) :
    val_main_v34 (F := Ideal) x0 x1 x3 x4 (ix3 h r k) = (group x0 x1 x2 x3 x4 h r).wt k := by
  pointwise [val_main_v34, val_main_v33, val_main_v32, val_main_v31, ref_score x0 x1 x2 x3 x4, ref_peak x0 x1 x2 x3 x4]
  rfl

theorem ref_prob (h : Fin 8) (r : Fin 512) (k : Fin 1024) (hR : (group x0 x1 x2 x3 x4 h r).Real) :
    val_main_v38 (F := Ideal) x0 x1 x3 x4 (ix3 h r k) = (group x0 x1 x2 x3 x4 h r).prob k := by
  pointwise [val_main_v38, val_main_v37, val_main_v36, val_main_v35, val_main_cst_2, ref_wt x0 x1 x2 x3 x4]
  exact Row.prob_eq hR k

/-- The reference's result. -/
theorem ref (hR : Real (group x0 x1 x2 x3 x4)) :
    val_main_v42 (F := Ideal) x0 x1 x2 x3 x4 = fun y : S512x512.Idx => attention (group x0 x1 x2 x3 x4) (y 0) (y 1) := by
  funext y
  obtain ⟨r, c, rfl⟩ : ∃ r c, y = ix2 r c := ⟨y 0, y 1, eq_ix2 y⟩
  show _ = attention (group x0 x1 x2 x3 x4) r c
  pointwise [val_main_v42, val_main_v41, val_main_v40, val_main_v39, val_main_v12, val_main_v11, val_main_v4, ref_prob x0 x1 x2 x3 x4 _ _ _ (hR _ _)]
  refine Finset.sum_congr rfl fun k _ => ?_
  rw [mul_comm]
  exact congrArg (fun l : Fin 512 => _ * x2 (ix2 ⟨k.val, by omega⟩ ⟨1024 + l.val, by omega⟩)) (lane_head_sub c).symm

end

/-- The algebraic claim. -/
theorem algebraic : Cert.algebraic_Kernel30Ideal_Reference30Ideal_pre_finite_scores := by
  intro m g m' g' hpre hag
  refine ⟨_, Cert.Kernel30Ideal.Value.run_blocks m g, (θ_run _ _ _).mono (fun r h c => ?_) (Cert.Reference30Ideal.Value.run m' g')⟩
  obtain ⟨h0, hk⟩ := h c
  obtain ⟨a0, a1, a2, a3, a4⟩ := hag c
  obtain ⟨f0, f1, f3, f4⟩ := Cert.Finite.scores _ _ _ _ _ (hpre c)
  refine ⟨h0.trans ((val_main_v42_eq _ _).trans ?_), hk⟩
  rw [a0, a1, a2, a3, a4, arr]
  exact ref _ _ _ _ _ (groupOf_real (by omega) (fun _ _ => f0 _) (fun _ _ => f1 _) (fun _ _ => f3 _) (fun _ _ => f4 _))

end Cert.Attend1

end
-- ==== Proof.Attend0.lean ====
module

public import proofs.«01_k».proof.Defs
public import proofs.«01_k».proof.Proof.Gen.Kernel31Ideal.Value
public import proofs.«01_k».proof.Proof.Gen.Reference31Ideal.Run
public import proofs.«01_k».proof.Proof.Gen.Reference31Ideal.Read
public import proofs.«01_k».proof.Proof.Group
public import proofs.«01_k».proof.Proof.Scores
public import Idealize.ShloMosaic.Lib.Pipeline.ValueKit
public import Idealize.ShloMosaic.Lib.Pipeline.ReadBack
public import Idealize.ShloMosaic.Lib.ValueIdx

/-!
# The forgetting attention of queries 0 to 511

Grid point `t` works on the heads `2 p` and `2 p + 1`, `p = t / 4`, and on query block `t % 4` of the group, against the
512 keys its queries may see.
-/

@[expose] public section

set_option maxRecDepth 16384

noncomputable section

namespace Cert.Attend0

open Cert.Kernel31Ideal Cert.Kernel31Ideal.Gen Cert.Reference31Ideal.Read Cert.Fox
open Idealize.ShloMosaic Idealize.ShloMosaic.TcCoe Idealize.SL.Sem

/-! ## One block -/

/-- The mask the kernel names is `−∞`. -/
theorem mask_value : (Named.named (F := Ideal) κ "mask" 0xF149F2CA#32 : Ideal .f32) = (⊥ : EReal) :=
  IdealRules.named_const.ideal_named_scalar _ _ _ _ rfl

/-- The point's mask: a key at or before the query. -/
theorem seen (i : grid0.Coords) (r : Fin 128) (k : Fin 512) (x y : EReal) :
    Scalar.select (k0_pay5 i (ix2 r k)) x y = if k.val ≤ (i 1).val * 128 + r.val then x else y := by
  have h : (i 1).val < 4 := (i 1).isLt
  have h1 : Scalar.addi 0#32 (BitVec.ofNat 32 (i 1).val) = BitVec.ofNat 32 (i 1).val := BitVec.zero_add _
  pointwise [k0_pay5]
  rw [h1]
  exact select_seen _ _ _ (by omega) (by omega) (by omega) x y

/-- The point's lane mask: the first 64 lanes. -/
theorem first (r l : Fin 128) (x y : EReal) : Scalar.select (k0_pay4 (ix2 r l)) x y = if l.val < 64 then x else y := by
  pointwise [k0_pay4, select_lane]

section
variable (i : grid0.Coords) (x0 : FVec Ideal S128x128 .bf16) (x1 : FVec Ideal S512x128 .bf16)
    (x2 : FVec Ideal S512x128 .f32) (x3 x4 : FVec Ideal S1x128x1 .f32) (x5 x6 : FVec Ideal S1x1x512 .f32)

/-- Query `r`'s row, of the head in the lanes `ln`. -/
abbrev row (ln : Fin 64 → Fin 128) (xc : FVec Ideal S1x128x1 .f32) (xk : FVec Ideal S1x1x512 .f32) (r : Fin 128) : Row 512 :=
  blockRow ln ((i 1).val * 128 + r.val) (fun l => x0 (ix2 r l)) (xc (ix3 0 r 0)) (fun _ => 0)
    (fun k l => x1 (ix2 k l)) (fun k l => x2 (ix2 k l)) (fun k => xk (ix3 0 0 k))

theorem score_A (r : Fin 128) (k : Fin 512) : Scalar.select (k0_pay5 i (ix2 r k)) (k0_pay7 (F := Ideal) x0 x1 x3 x5 (ix2 r k)) (k0_pay8 (F := Ideal) (ix2 r k))
    = (row i x0 x1 x2 laneA x3 x5 r).score k := by
  pointwise [k0_pay7, k0_pay8, first, seen, mask_value, zero_mul, Finset.sum_const_zero, zero_add, add_zero]
  rfl

/-- The point's block of the result. -/
abbrev blk : FVec Ideal S128x128 .bf16 := k0_pay1 (F := Ideal) x1 x2 (k0_pay2 x4) (k0_pay3 x6) k0_pay4 (k0_pay5 i) (k0_pay6 x0) (k0_pay7 x0 x1 x3 x5) k0_pay8

theorem blk_A (r : Fin 128) (d : Fin 64) : blk i x0 x1 x2 x3 x4 x5 x6 (ix2 r (laneA d))
    = ∑ k, (row i x0 x1 x2 laneA x3 x5 r).prob k * (row i x0 x1 x2 laneA x3 x5 r).val k d := by
  pointwise [blk, k0_pay1, first, score_A i x0 x1 x2 x3 x5, word_neg_inf, laneA]
  rfl

theorem blk_B (r : Fin 128) (d : Fin 64) : blk i x0 x1 x2 x3 x4 x5 x6 (ix2 r (laneB d))
    = ∑ k, (row i x0 x1 x2 laneB x4 x6 r).prob k * (row i x0 x1 x2 laneB x4 x6 r).val k d := by
  pointwise [blk, k0_pay1, k0_pay2, k0_pay3, k0_pay6, first, seen, mask_value, word_neg_inf, laneB, zero_mul, Finset.sum_const_zero, zero_add, add_zero]
  rfl

end

/-! ## The array -/

variable (m : (ℓ : Loc nD τ sig) → Buf (Elt Ideal) ℓ)

theorem idx0 : ∀ t : Fin cfg0.N, win0_0.index t = ![0 + t.val % 4, t.val / 4] := (by decide +kernel : ∀ t : Fin grid0.N, _)
theorem idx1 : ∀ t : Fin cfg0.N, win0_1.index t = ![0, t.val / 4] := (by decide +kernel : ∀ t : Fin grid0.N, _)
theorem idx2 : ∀ t : Fin cfg0.N, win0_2.index t = ![0, 8 + t.val / 4] := (by decide +kernel : ∀ t : Fin grid0.N, _)
theorem idx3 : ∀ t : Fin cfg0.N, win0_3.index t = ![2 * (t.val / 4), 0 + t.val % 4, 0] := (by decide +kernel : ∀ t : Fin grid0.N, _)
theorem idx4 : ∀ t : Fin cfg0.N, win0_4.index t = ![2 * (t.val / 4) + 1, 0 + t.val % 4, 0] := (by decide +kernel : ∀ t : Fin grid0.N, _)
theorem idx5 : ∀ t : Fin cfg0.N, win0_5.index t = ![2 * (t.val / 4), 0, 0] := (by decide +kernel : ∀ t : Fin grid0.N, _)
theorem idx6 : ∀ t : Fin cfg0.N, win0_6.index t = ![2 * (t.val / 4) + 1, 0, 0] := (by decide +kernel : ∀ t : Fin grid0.N, _)
theorem idx7 : ∀ t : Fin cfg0.N, win0_7.index t = ![t.val % 4, t.val / 4] := (by decide +kernel : ∀ t : Fin grid0.N, _)
theorem coord : ∀ t : Fin cfg0.N, (grid0.coords t 1).val = t.val % 4 := (by decide +kernel : ∀ t : Fin grid0.N, _)
theorem pts (t : Fin cfg0.N) : t.val < 16 := lt_of_lt_of_eq t.isLt (by decide +kernel)

/-- The group's rows, from the five arguments. -/
abbrev group (x0 x1 : FVec Ideal S2048x512 .bf16) (x2 : FVec Ideal S2048x8192 .f32) (x3 : FVec Ideal S8x2048x1 .f32)
    (x4 : FVec Ideal S8x1x2048 .f32) : Group 512 :=
  groupOf 512 0 (by omega) (by omega) (fun i l => x0 (ix2 i l)) (fun i l => x1 (ix2 i l)) (fun i l => x2 (ix2 i l))
    (fun h i => x3 (ix3 h i 0)) (fun h i => x4 (ix3 h 0 i)) (fun _ _ => 0)

/-- The group's rows, from the kernel's memory. -/
abbrev held (c : Dev nD) : Group 512 :=
  group (m ((c : Thread nD τ).loc main_arg0)) (m ((c : Thread nD τ).loc main_arg1)) (m ((c : Thread nD τ).loc main_arg2))
    (m ((c : Thread nD τ).loc main_arg3)) (m ((c : Thread nD τ).loc main_arg4))

theorem row_A (c : Dev nD) (t : Fin cfg0.N) (r : Fin 128) :
    row (grid0.coords t) (iblk m c 0 t) (iblk m c 1 t) (iblk m c 2 t) laneA (iblk m c 3 t) (iblk m c 5 t) r
      = held m c (pairA ⟨t.val, pts t⟩) (query ⟨t.val, pts t⟩ r) := by
  have ht := pts t
  have hc := coord t
  refine Row.ext ?_ ?_ ?_ ?_ ?_ ?_ ?_
  · funext d
    simp only [blockRow, groupOf, pairA, query, lane512, laneA]
    blk_ext [iblk, V, idx0 t]
  · simp only [blockRow, groupOf, pairA, query]
    blk_ext [iblk, V, idx3 t]
  · simp only [blockRow, groupOf, query]; omega
  · rfl
  · funext k d
    simp only [blockRow, groupOf, pairA, lane512, laneA]
    blk_ext [iblk, V, idx1 t]
  · funext k
    simp only [blockRow, groupOf, pairA]
    blk_ext [iblk, V, idx5 t]
  · funext k d
    simp only [blockRow, groupOf, pairA, lane512, laneA]
    blk_ext [iblk, V, idx2 t]

theorem row_B (c : Dev nD) (t : Fin cfg0.N) (r : Fin 128) :
    row (grid0.coords t) (iblk m c 0 t) (iblk m c 1 t) (iblk m c 2 t) laneB (iblk m c 4 t) (iblk m c 6 t) r
      = held m c (pairB ⟨t.val, pts t⟩) (query ⟨t.val, pts t⟩ r) := by
  have ht := pts t
  have hc := coord t
  refine Row.ext ?_ ?_ ?_ ?_ ?_ ?_ ?_
  · funext d
    simp only [blockRow, groupOf, pairB, query, lane512, laneB]
    blk_ext [iblk, V, idx0 t]
  · simp only [blockRow, groupOf, pairB, query]
    blk_ext [iblk, V, idx4 t]
  · simp only [blockRow, groupOf, query]; omega
  · rfl
  · funext k d
    simp only [blockRow, groupOf, pairB, lane512, laneB]
    blk_ext [iblk, V, idx1 t]
  · funext k
    simp only [blockRow, groupOf, pairB]
    blk_ext [iblk, V, idx6 t]
  · funext k d
    simp only [blockRow, groupOf, pairB, lane512, laneB]
    blk_ext [iblk, V, idx2 t]

/-- The kernel's result. -/
theorem arr (c : Dev nD) : (dats m 0 c).arrAt 7 cfg0.N = fun y : S512x512.Idx => attention (held m c) (y 0) (y 1) := by
  refine (dats m 0 c).arrAt_eq_of_covers 7 _ (by decide +kernel) fun t hf y => ?_
  blk_simp
  have ht := pts t
  have hb := idx7 t
  have h0 : (win0_7.blk t).view.emb y 0 = (query ⟨t.val, ht⟩ (y 0) : Fin 512) := by
    apply Fin.ext; blk_simp [hb, query]
  have h1 : (win0_7.blk t).view.emb y 1 = (lane ⟨t.val, ht⟩ (y 1) : Fin 512) := by
    apply Fin.ext; blk_simp [hb, lane]
  refine Eq.trans ?_ (congrArg₂ (attention (held m c)) h0 h1).symm
  rw [after0_7]
  frame_out
  obtain ⟨r, l, rfl⟩ : ∃ r l, y = ix2 r l := ⟨y 0, y 1, eq_ix2 y⟩
  refine attention_of_heads (held m c) ⟨t.val, ht⟩ r (fun l => blk (grid0.coords t) (iblk m c 0 t) (iblk m c 1 t)
    (iblk m c 2 t) (iblk m c 3 t) (iblk m c 4 t) (iblk m c 5 t) (iblk m c 6 t) (ix2 r l)) (fun d => ?_) (fun d => ?_) l
  · rw [← row_A]; exact blk_A _ _ _ _ _ _ _ _ r d
  · rw [← row_B]; exact blk_B _ _ _ _ _ _ _ _ r d

/-! ## The reference -/

section
variable (x0 x1 : FVec Ideal S2048x512 .bf16) (x2 : FVec Ideal S2048x8192 .f32) (x3 : FVec Ideal S8x2048x1 .f32)
  (x4 : FVec Ideal S8x1x2048 .f32)

/-- Query `r` of the group sees key `k`. -/
theorem ref_seen (r : Fin 512) (k : Fin 512) (x y : EReal) :
    Scalar.select (val_main_v24 (F := Ideal) (ix2 r k)) x y = if k.val ≤ r.val then x else y := by
  pointwise [val_main_v24, val_main_v23, val_main_v22, val_main_v21, val_main_v20, val_main_v19, val_main_v18]
  rw [select_sge (by omega) (by omega)]

theorem ref_score (h : Fin 8) (r : Fin 512) (k : Fin 512) :
    val_main_v25 (F := Ideal) x0 x1 x3 x4 (ix3 h r k) = (group x0 x1 x2 x3 x4 h r).score k := by
  pointwise [val_main_v25, val_main_v17, val_main_v16, val_main_v15, val_main_v14, val_main_v13, val_main_v10, val_main_v9, val_main_v8, val_main_v7, val_main_v5, val_main_v3, val_main_v2, val_main_v1, val_main_v0, val_main_v6,
    val_main_call0_v2, val_main_call0_v1, val_main_call0_v0, val_main_cst, ref_seen, word_neg_inf]
  simp only [Row.score, groupOf, Nat.zero_add]
  rfl

theorem ref_peak (h : Fin 8) (r : Fin 512) :
    val_main_v28 (F := Ideal) x0 x1 x3 x4 (ix2 h r) = (group x0 x1 x2 x3 x4 h r).peak := by
  rw [val_main_v28_apply, val_main_v27_apply, val_main_v26]
  exact peak_of _ _ _ _ _ h r (fun _ => rfl) (ref_score x0 x1 x2 x3 x4 h r)

theorem ref_wt (h : Fin 8) (r : Fin 512) (k : Fin 512) :
    val_main_v32 (F := Ideal) x0 x1 x3 x4 (ix3 h r k) = (group x0 x1 x2 x3 x4 h r).wt k := by
  pointwise [val_main_v32, val_main_v31, val_main_v30, val_main_v29, ref_score x0 x1 x2 x3 x4, ref_peak x0 x1 x2 x3 x4]
  rfl

theorem ref_prob (h : Fin 8) (r : Fin 512) (k : Fin 512) (hR : (group x0 x1 x2 x3 x4 h r).Real) :
    val_main_v36 (F := Ideal) x0 x1 x3 x4 (ix3 h r k) = (group x0 x1 x2 x3 x4 h r).prob k := by
  pointwise [val_main_v36, val_main_v35, val_main_v34, val_main_v33, val_main_cst_2, ref_wt x0 x1 x2 x3 x4]
  exact Row.prob_eq hR k

/-- The reference's result. -/
theorem ref (hR : Real (group x0 x1 x2 x3 x4)) :
    val_main_v40 (F := Ideal) x0 x1 x2 x3 x4 = fun y : S512x512.Idx => attention (group x0 x1 x2 x3 x4) (y 0) (y 1) := by
  funext y
  obtain ⟨r, c, rfl⟩ : ∃ r c, y = ix2 r c := ⟨y 0, y 1, eq_ix2 y⟩
  show _ = attention (group x0 x1 x2 x3 x4) r c
  pointwise [val_main_v40, val_main_v39, val_main_v38, val_main_v37, val_main_v12, val_main_v11, val_main_v4, ref_prob x0 x1 x2 x3 x4 _ _ _ (hR _ _)]
  refine Finset.sum_congr rfl fun k _ => ?_
  rw [mul_comm]
  exact congrArg (fun l : Fin 512 => _ * x2 (ix2 ⟨k.val, by omega⟩ ⟨1024 + l.val, by omega⟩)) (lane_head_sub c).symm

end

/-- The algebraic claim. -/
theorem algebraic : Cert.algebraic_Kernel31Ideal_Reference31Ideal_pre_finite_scores := by
  intro m g m' g' hpre hag
  refine ⟨_, Cert.Kernel31Ideal.Value.run_blocks m g, (θ_run _ _ _).mono (fun r h c => ?_) (Cert.Reference31Ideal.Value.run m' g')⟩
  obtain ⟨h0, hk⟩ := h c
  obtain ⟨a0, a1, a2, a3, a4⟩ := hag c
  obtain ⟨f0, f1, f3, f4⟩ := Cert.Finite.scores _ _ _ _ _ (hpre c)
  refine ⟨h0.trans ((val_main_v40_eq _ _).trans ?_), hk⟩
  rw [a0, a1, a2, a3, a4, arr]
  exact ref _ _ _ _ _ (groupOf_real (by omega) (fun _ _ => f0 _) (fun _ _ => f1 _) (fun _ _ => f3 _) (fun _ _ => f4 _))

end Cert.Attend0

end
-- ==== Proof.Sums.lean ====
module

public import proofs.«01_k».proof.Proof.Group

/-!
# Gradients gathered over the query blocks, on top of a running sum

A group's four query blocks each add their part to their two heads' gradients of the keys, of the values and of the
keys' decays; the first block also adds what the groups before it have summed. `gather_heads` and `gather_decays` say
that the parts add up to the running sum plus the group's own gradient.
-/

@[expose] public section

noncomputable section

namespace Cert.Fox

open Idealize.ShloMosaic

/-- The point of query block `s` with the heads of point `t`. -/
def blockPt (t : Fin 16) (s : Fin 4) : Fin 16 := ⟨4 * (t.val / 4) + s.val, by omega⟩

theorem pairA_blockPt (t : Fin 16) (s : Fin 4) : pairA (blockPt t s) = pairA t := by
  apply Fin.ext; simp only [pairA, blockPt]; omega
theorem pairB_blockPt (t : Fin 16) (s : Fin 4) : pairB (blockPt t s) = pairB t := by
  apply Fin.ext; simp only [pairB, blockPt]; omega
theorem lane_blockPt (t : Fin 16) (s : Fin 4) (l : Fin 128) : lane (blockPt t s) l = lane t l := by
  apply Fin.ext; simp only [lane, blockPt]; omega
theorem query_blockPt (t : Fin 16) (s : Fin 4) (r : Fin 128) : query (blockPt t s) r = ⟨s.val * 128 + r.val, by omega⟩ := by
  apply Fin.ext; simp only [query, blockPt]; omega

/-- Only the first query block is the first. -/
theorem blockPt_first (t : Fin 16) (s : Fin 4) : (blockPt t s).val % 4 = 0 ↔ s = 0 := by
  rw [Fin.ext_iff]; simp only [blockPt, Fin.val_zero]; omega

/-- Four parts, the first with a running sum: the running sum and the four parts. -/
theorem sum_first (Q : Fin 4 → EReal) (e : EReal) : ∑ s, (Q s + if s = 0 then e else 0) = e + ∑ s, Q s := by
  rw [Finset.sum_add_distrib, Finset.sum_ite_eq' Finset.univ (0 : Fin 4) (fun _ => e), if_pos (Finset.mem_univ _), add_comm]

/-- The parts of a pair of heads over the four query blocks. -/
theorem gather_heads (F : Fin 8 → Fin 512 → Fin 64 → EReal) (E : Fin 512 → EReal) (P : Fin 16 → Fin 128 → EReal)
    (hA : ∀ t d, P t (laneA d) = (∑ r, F (pairA t) (query t r) d) + if t.val % 4 = 0 then E (lane t (laneA d)) else 0)
    (hB : ∀ t d, P t (laneB d) = (∑ r, F (pairB t) (query t r) d) + if t.val % 4 = 0 then E (lane t (laneB d)) else 0)
    (t : Fin 16) (l : Fin 128) :
    ∑ s, P (blockPt t s) l = E (lane t l) + ∑ r, F (head (lane t l)) r (sub (lane t l)) := by
  obtain ⟨d, rfl⟩ | ⟨d, rfl⟩ := lane_cases l
  · simp only [hA, pairA_blockPt, query_blockPt, lane_blockPt, blockPt_first, head_laneA, sub_laneA]
    rw [sum_first]
    exact congrArg _ (gather fun s r => rfl)
  · simp only [hB, pairB_blockPt, query_blockPt, lane_blockPt, blockPt_first, head_laneB, sub_laneB]
    rw [sum_first]
    exact congrArg _ (gather fun s r => rfl)

/-- The parts of one head over the four query blocks. -/
theorem gather_decays (hd : Fin 16 → Fin 8) (hp : ∀ t s, hd (blockPt t s) = hd t) (F : Fin 8 → Fin 512 → EReal)
    (E : Fin 8 → EReal) (P : Fin 16 → EReal)
    (h : ∀ t, P t = (∑ r, F (hd t) (query t r)) + if t.val % 4 = 0 then E (hd t) else 0) (t : Fin 16) :
    ∑ s, P (blockPt t s) = E (hd t) + ∑ r, F (hd t) r := by
  simp only [h, hp, query_blockPt, blockPt_first]
  rw [sum_first]
  exact congrArg _ (gather fun s r => rfl)

/-- A block's entry that is each head's query gradient is the group's query gradient at its lane. -/
theorem queries_of_heads {n : ℕ} (G : Group n) (t : Fin 16) (r : Fin 128) (f : Fin 128 → EReal)
    (hA : ∀ d, f (laneA d) = ∑ j, (G (pairA t) (query t r)).slope j * (G (pairA t) (query t r)).key j d)
    (hB : ∀ d, f (laneB d) = ∑ j, (G (pairB t) (query t r)).slope j * (G (pairB t) (query t r)).key j d) (l : Fin 128) :
    f l = Grad.q G (query t r) (lane t l) := by
  rw [Grad.q]
  obtain ⟨d, rfl⟩ | ⟨d, rfl⟩ := lane_cases l
  · rw [head_laneA, sub_laneA]; exact hA d
  · rw [head_laneB, sub_laneB]; exact hB d

/-- The first visit's flag. -/
theorem select_first {α : Type} {p : ℕ} (hp : p < 2 ^ 31) (x y : α) :
    Scalar.select (Scalar.cmpi .eq (BitVec.ofNat 32 p) 0#32) x y = if p = 0 then x else y := by
  have h : (BitVec.ofNat 32 p = 0#32) ↔ p = 0 := by
    rw [← BitVec.toNat_inj, BitVec.toNat_ofNat, BitVec.toNat_ofNat]; omega
  by_cases h0 : p = 0
  · subst h0; rfl
  · have h1 : (BitVec.ofNat 32 p == 0#32) = false := beq_eq_false_iff_ne.mpr fun e => h0 (h.mp e)
    simp [Scalar.select, Scalar.cmpi, h0, h1, IntOp.cmpi]

end Cert.Fox

end
-- ==== Proof.Back2Block.lean ====
module

public import proofs.«01_k».proof.Proof.Gen.Kernel32Ideal.Skeleton
public import proofs.«01_k».proof.Proof.Sums
public import Idealize.ShloMosaic.Lib.ValueIdx

/-!
# One grid point of the gradient of queries 1024 to 1535

A grid point holds 128 queries of two heads — the first in the block's lanes 0–63, the second in lanes 64–127 — against
the 1536 keys they may see. Each matrix of the point, read at one entry, is a quantity of that query's row.
-/

@[expose] public section

set_option maxRecDepth 16384

noncomputable section

namespace Cert.Back2

open Cert.Kernel32Ideal Cert.Kernel32Ideal.Gen Cert.Fox
open Idealize.ShloMosaic Idealize.ShloMosaic.TcCoe Idealize.SL.Sem

/-- The mask the kernel names is `−∞`. -/
theorem mask_value : (Named.named (F := Ideal) κ "mask" 0xF149F2CA#32 : Ideal .f32) = (⊥ : EReal) :=
  IdealRules.named_const.ideal_named_scalar _ _ _ _ rfl

/-- The point's number among the query blocks, as the word the kernel holds. -/
abbrev word (i : grid0.Coords) : BitVec 32 := BitVec.ofNat 32 (i 1).val

/-- The point's mask: a key at or before the query. -/
theorem seen (i : grid0.Coords) (r : Fin 128) (k : Fin 1536) (x y : EReal) :
    Scalar.select (k0_pay13 (word i) (ix2 r k)) x y = if k.val ≤ (8 + (i 1).val) * 128 + r.val then x else y := by
  have h : (i 1).val < 4 := (i 1).isLt
  have h1 : Scalar.addi 8#32 (BitVec.ofNat 32 (i 1).val) = BitVec.ofNat 32 (8 + (i 1).val) := by
    rw [BitVec.ofNat_add]; rfl
  pointwise [k0_pay13]
  rw [h1]
  exact select_seen _ _ _ (by omega) (by omega) (by omega) x y

/-- The point's lane mask: the first 64 lanes. -/
theorem first (r l : Fin 128) (x y : EReal) : Scalar.select (k0_pay12 (ix2 r l)) x y = if l.val < 64 then x else y := by
  pointwise [k0_pay12, select_lane]

/-- A lane of the second head is not one of the first 64. -/
theorem not_first (d : Fin 64) : ¬ 64 + d.val < 64 := by omega

variable (i : grid0.Coords) (x0 : FVec Ideal S128x128 .bf16) (x1 : FVec Ideal S1536x128 .bf16)
    (x2 : FVec Ideal S1536x128 .f32) (x3 x4 : FVec Ideal S1x128x1 .f32) (x5 x6 : FVec Ideal S1x1x1536 .f32)
    (x7 : FVec Ideal S128x128 .f32)

/-- Query `r`'s row, of the head in the lanes `ln`. -/
abbrev row (ln : Fin 64 → Fin 128) (xc : FVec Ideal S1x128x1 .f32) (xk : FVec Ideal S1x1x1536 .f32) (r : Fin 128) : Row 1536 :=
  blockRow ln ((8 + (i 1).val) * 128 + r.val) (fun l => x0 (ix2 r l)) (xc (ix3 0 r 0)) (fun l => x7 (ix2 r l))
    (fun k l => x1 (ix2 k l)) (fun k l => x2 (ix2 k l)) (fun k => xk (ix3 0 0 k))

/-- The row of the first head. -/
abbrev rowA (r : Fin 128) : Row 1536 := row i x0 x1 x2 x7 laneA x3 x5 r
/-- The row of the second head. -/
abbrev rowB (r : Fin 128) : Row 1536 := row i x0 x1 x2 x7 laneB x4 x6 r

/-! ## The weights, their totals and the gradients of the probabilities -/

/-- The first head's weights. -/
abbrev eA : FVec Ideal S128x1536 .f32 := k0_pay16 (F := Ideal) (word i) (k0_pay4 x0) (k0_pay5 x1) (k0_pay6 x3) (k0_pay8 x5)
/-- The second head's weights. -/
abbrev eB : FVec Ideal S128x1536 .f32 := k0_pay17 (F := Ideal) (word i) (k0_pay4 x0) (k0_pay5 x1) (k0_pay7 x4) (k0_pay9 x6)
/-- The first head's reciprocal totals. -/
abbrev rA : FVec Ideal S128x1 .f32 := k0_pay19 (F := Ideal) (word i) (k0_pay4 x0) (k0_pay5 x1) (k0_pay6 x3) (k0_pay8 x5)
/-- The reciprocals of their squares. -/
abbrev qA : FVec Ideal S128x1 .f32 := k0_pay21 (F := Ideal) (k0_pay20 (word i) (k0_pay4 x0) (k0_pay5 x1) (k0_pay6 x3) (k0_pay8 x5))
/-- The first head's gradients of the probabilities. -/
abbrev gA : FVec Ideal S128x1536 .f32 := k0_pay28 (F := Ideal) x2 x7 k0_pay12
/-- Their sums against the weights. -/
abbrev tA : FVec Ideal S128x1 .f32 := k0_pay30 (F := Ideal) x2 x7 k0_pay12 (eA i x0 x1 x3 x5)
/-- The gradients of the second head's scores, before the weights and the mask. -/
abbrev sB : FVec Ideal S128x1536 .f32 := k0_pay27 (F := Ideal) x2 x7 k0_pay12 (eB i x0 x1 x4 x6)

theorem eA_apply (r : Fin 128) (k : Fin 1536) : eA i x0 x1 x3 x5 (ix2 r k) = (rowA i x0 x1 x2 x3 x5 x7 r).wt k := by
  pointwise [k0_pay16, k0_pay14, k0_pay4, k0_pay5, k0_pay6, k0_pay8, first, seen, mask_value, word_neg_inf, zero_mul, Finset.sum_const_zero, zero_add, add_zero]
  rfl

theorem eB_apply (r : Fin 128) (k : Fin 1536) : eB i x0 x1 x4 x6 (ix2 r k) = (rowB i x0 x1 x2 x4 x6 x7 r).wt k := by
  pointwise [k0_pay17, k0_pay15, k0_pay4, k0_pay5, k0_pay7, k0_pay9, first, seen, mask_value, word_neg_inf, zero_mul, Finset.sum_const_zero, zero_add, add_zero]
  rfl

theorem rA_apply (r : Fin 128) (u : Fin 1) : rA i x0 x1 x3 x5 (ix2 r u) = recip (rowA i x0 x1 x2 x3 x5 x7 r).tot := by
  pointwise [k0_pay19, k0_pay18, eA_apply i x0 x1 x2 x3 x5 x7]
  rfl

theorem qA_apply (r : Fin 128) (u : Fin 1) : qA i x0 x1 x3 x5 (ix2 r u)
    = recip ((rowA i x0 x1 x2 x3 x5 x7 r).tot * (rowA i x0 x1 x2 x3 x5 x7 r).tot) := by
  pointwise [k0_pay21, k0_pay20, k0_pay18, eA_apply i x0 x1 x2 x3 x5 x7]
  rfl

theorem rB_apply (r : Fin 128) (u : Fin 1) : k0_pay23 (F := Ideal) (eB i x0 x1 x4 x6) (ix2 r u) = recip (rowB i x0 x1 x2 x4 x6 x7 r).tot := by
  pointwise [k0_pay23, k0_pay22, eB_apply i x0 x1 x2 x4 x6 x7]
  rfl

theorem gA_apply (r : Fin 128) (k : Fin 1536) : gA x2 x7 (ix2 r k) = (rowA i x0 x1 x2 x3 x5 x7 r).dprob k := by
  pointwise [k0_pay28, k0_pay26, k0_pay24, first, zero_mul, Finset.sum_const_zero, zero_add, add_zero]
  rfl

theorem tA_apply (r : Fin 128) (u : Fin 1) : tA i x0 x1 x2 x3 x5 x7 (ix2 r u)
    = ∑ k, (rowA i x0 x1 x2 x3 x5 x7 r).wt k * (rowA i x0 x1 x2 x3 x5 x7 r).dprob k := by
  pointwise [k0_pay30, eA_apply i x0 x1 x2 x3 x5 x7, gA_apply i x0 x1 x2 x3 x5 x7]

/-! ## The gradients of the scores -/

/-- The gradients of the first head's scores. -/
abbrev mA : FVec Ideal S128x1536 .f32 :=
  k0_pay34 (F := Ideal) (k0_pay13 (word i)) (eA i x0 x1 x3 x5) (rA i x0 x1 x3 x5) (qA i x0 x1 x3 x5) (gA x2 x7) (tA i x0 x1 x2 x3 x5 x7)
/-- The gradients of the second head's scores. -/
abbrev mB : FVec Ideal S128x1536 .f32 := k0_pay31 (F := Ideal) (k0_pay13 (word i)) (eB i x0 x1 x4 x6) (sB i x0 x1 x2 x4 x6 x7)

theorem mA_apply (r : Fin 128) (k : Fin 1536) : mA i x0 x1 x2 x3 x5 x7 (ix2 r k) = (rowA i x0 x1 x2 x3 x5 x7 r).slope k := by
  pointwise [k0_pay34, seen, eA_apply i x0 x1 x2 x3 x5 x7, rA_apply i x0 x1 x2 x3 x5 x7, qA_apply i x0 x1 x2 x3 x5 x7,
    gA_apply i x0 x1 x2 x3 x5 x7, tA_apply i x0 x1 x2 x3 x5 x7]
  simp only [Finset.univ_unique, Finset.sum_singleton]
  rfl

theorem mB_apply (r : Fin 128) (k : Fin 1536) : mB i x0 x1 x2 x4 x6 x7 (ix2 r k) = (rowB i x0 x1 x2 x4 x6 x7 r).slope k := by
  pointwise [k0_pay31, k0_pay27, k0_pay25, k0_pay24, k0_pay22, first, seen, eB_apply i x0 x1 x2 x4 x6 x7, rB_apply i x0 x1 x2 x4 x6 x7]
  simp only [zero_mul, mul_zero, Finset.sum_const_zero, zero_add, add_zero, Finset.univ_unique, Finset.sum_singleton]
  rfl

/-! ## What the point adds, and its block of the query gradient -/

/-- The part of the values' gradient this point adds. -/
abbrev vPart : FVec Ideal S1536x128 .f32 := k0_pay29 (F := Ideal) x7 k0_pay12 (eA i x0 x1 x3 x5) (eB i x0 x1 x4 x6) (rA i x0 x1 x3 x5)

theorem vPart_A (k : Fin 1536) (d : Fin 64) : vPart i x0 x1 x3 x4 x5 x6 x7 (ix2 k (laneA d))
    = ∑ r, (rowA i x0 x1 x2 x3 x5 x7 r).prob k * (rowA i x0 x1 x2 x3 x5 x7 r).dy d := by
  pointwise [k0_pay29, k0_pay25, k0_pay26, k0_pay24, first, eA_apply i x0 x1 x2 x3 x5 x7, rA_apply i x0 x1 x2 x3 x5 x7, laneA]
  simp only [zero_mul, mul_zero, Finset.sum_const_zero, zero_add, add_zero, Finset.univ_unique, Finset.sum_singleton]
  rfl

theorem vPart_B (k : Fin 1536) (d : Fin 64) : vPart i x0 x1 x3 x4 x5 x6 x7 (ix2 k (laneB d))
    = ∑ r, (rowB i x0 x1 x2 x4 x6 x7 r).prob k * (rowB i x0 x1 x2 x4 x6 x7 r).dy d := by
  pointwise [k0_pay29, k0_pay25, k0_pay26, k0_pay24, first, eB_apply i x0 x1 x2 x4 x6 x7, rB_apply i x0 x1 x2 x4 x6 x7, laneB]
  simp only [zero_mul, mul_zero, Finset.sum_const_zero, zero_add, add_zero, Finset.univ_unique, Finset.sum_singleton]
  rfl

/-- The part of the keys' gradient this point adds. -/
abbrev kPart : FVec Ideal S1536x128 .f32 :=
  k0_pay38 (F := Ideal) (k0_pay13 (word i)) (k0_pay14 (k0_pay4 x0)) (k0_pay15 (k0_pay4 x0)) (eA i x0 x1 x3 x5) (eB i x0 x1 x4 x6)
    (rA i x0 x1 x3 x5) (qA i x0 x1 x3 x5) (sB i x0 x1 x2 x4 x6 x7) (gA x2 x7) (tA i x0 x1 x2 x3 x5 x7)

theorem kPart_A (k : Fin 1536) (d : Fin 64) : kPart i x0 x1 x2 x3 x4 x5 x6 x7 (ix2 k (laneA d))
    = ∑ r, (rowA i x0 x1 x2 x3 x5 x7 r).slope k * (rowA i x0 x1 x2 x3 x5 x7 r).q d := by
  pointwise [k0_pay38, k0_pay14, k0_pay15, k0_pay4, first, mA_apply i x0 x1 x2 x3 x5 x7, mB_apply i x0 x1 x2 x4 x6 x7, laneA]
  simp only [zero_mul, mul_zero, Finset.sum_const_zero, zero_add, add_zero, Finset.univ_unique, Finset.sum_singleton]
  rfl

theorem kPart_B (k : Fin 1536) (d : Fin 64) : kPart i x0 x1 x2 x3 x4 x5 x6 x7 (ix2 k (laneB d))
    = ∑ r, (rowB i x0 x1 x2 x4 x6 x7 r).slope k * (rowB i x0 x1 x2 x4 x6 x7 r).q d := by
  pointwise [k0_pay38, k0_pay14, k0_pay15, k0_pay4, first, mA_apply i x0 x1 x2 x3 x5 x7, mB_apply i x0 x1 x2 x4 x6 x7, laneB]
  simp only [zero_mul, mul_zero, Finset.sum_const_zero, zero_add, add_zero, Finset.univ_unique, Finset.sum_singleton]
  rfl

/-- The point's block of the queries' gradient. -/
abbrev qBlk : FVec Ideal S128x128 .f32 :=
  k0_pay40 (F := Ideal) k0_pay12
    (k0_pay37 (k0_pay5 x1) (k0_pay13 (word i)) (eA i x0 x1 x3 x5) (rA i x0 x1 x3 x5) (qA i x0 x1 x3 x5) (gA x2 x7) (tA i x0 x1 x2 x3 x5 x7))
    (k0_pay39 (k0_pay5 x1) k0_pay12 (k0_pay13 (word i)) (eB i x0 x1 x4 x6) (sB i x0 x1 x2 x4 x6 x7))

theorem qBlk_A (r : Fin 128) (d : Fin 64) : qBlk i x0 x1 x2 x3 x4 x5 x6 x7 (ix2 r (laneA d))
    = ∑ k, (rowA i x0 x1 x2 x3 x5 x7 r).slope k * (rowA i x0 x1 x2 x3 x5 x7 r).key k d := by
  pointwise [k0_pay40, k0_pay39, k0_pay37, k0_pay5, first, mA_apply i x0 x1 x2 x3 x5 x7, mB_apply i x0 x1 x2 x4 x6 x7, laneA]
  rfl

theorem qBlk_B (r : Fin 128) (d : Fin 64) : qBlk i x0 x1 x2 x3 x4 x5 x6 x7 (ix2 r (laneB d))
    = ∑ k, (rowB i x0 x1 x2 x4 x6 x7 r).slope k * (rowB i x0 x1 x2 x4 x6 x7 r).key k d := by
  pointwise [k0_pay40, k0_pay39, k0_pay37, k0_pay5, first, mA_apply i x0 x1 x2 x3 x5 x7, mB_apply i x0 x1 x2 x4 x6 x7, laneB]
  rfl

/-- The first head's block of the gradient of the queries' decays. -/
abbrev cqA : FVec Ideal S1x128x1 .f32 := k0_pay46 (F := Ideal) (k0_pay36 (k0_pay13 (word i)) (eA i x0 x1 x3 x5) (rA i x0 x1 x3 x5)
  (qA i x0 x1 x3 x5) (gA x2 x7) (tA i x0 x1 x2 x3 x5 x7))
/-- The second head's. -/
abbrev cqB : FVec Ideal S1x128x1 .f32 := k0_pay47 (F := Ideal) (k0_pay33 (k0_pay13 (word i)) (eB i x0 x1 x4 x6) (sB i x0 x1 x2 x4 x6 x7))

theorem cqA_apply (r : Fin 128) : cqA i x0 x1 x2 x3 x5 x7 (ix3 0 r 0) = ∑ k, (rowA i x0 x1 x2 x3 x5 x7 r).slope k := by
  pointwise [k0_pay46, k0_pay36, mA_apply i x0 x1 x2 x3 x5 x7]

theorem cqB_apply (r : Fin 128) : cqB i x0 x1 x2 x4 x6 x7 (ix3 0 r 0) = ∑ k, (rowB i x0 x1 x2 x4 x6 x7 r).slope k := by
  pointwise [k0_pay47, k0_pay33, mB_apply i x0 x1 x2 x4 x6 x7]

/-- The part of the gradient of the first head's key decays this point adds. -/
abbrev ckA : FVec Ideal S1x1536 .f32 := k0_pay35 (F := Ideal) (k0_pay13 (word i)) (eA i x0 x1 x3 x5) (rA i x0 x1 x3 x5)
  (qA i x0 x1 x3 x5) (gA x2 x7) (tA i x0 x1 x2 x3 x5 x7)
/-- The second head's. -/
abbrev ckB : FVec Ideal S1x1536 .f32 := k0_pay32 (F := Ideal) (k0_pay13 (word i)) (eB i x0 x1 x4 x6) (sB i x0 x1 x2 x4 x6 x7)

theorem ckA_apply (k : Fin 1536) : ckA i x0 x1 x2 x3 x5 x7 (ix2 0 k) = ∑ r, (0 - (rowA i x0 x1 x2 x3 x5 x7 r).slope k) := by
  pointwise [k0_pay35, mA_apply i x0 x1 x2 x3 x5 x7]

theorem ckB_apply (k : Fin 1536) : ckB i x0 x1 x2 x4 x6 x7 (ix2 0 k) = ∑ r, (0 - (rowB i x0 x1 x2 x4 x6 x7 r).slope k) := by
  pointwise [k0_pay32, mB_apply i x0 x1 x2 x4 x6 x7]

/-! ## The first visit adds the running sum -/

theorem with_sum_k (z v : FVec Ideal S1536x128 .f32) (j : S1536x128.Idx) :
    k0_pay41 (F := Ideal) (Scalar.cmpi .eq (word i) 0#32) z v j = v j + if (i 1).val = 0 then z j else 0 := by
  have h : (i 1).val < 4 := (i 1).isLt
  rw [k0_pay41, select_first (by omega)]
  split <;> pointwise []

theorem with_sum_v (z v : FVec Ideal S1536x128 .f32) (j : S1536x128.Idx) :
    k0_pay42 (F := Ideal) (Scalar.cmpi .eq (word i) 0#32) z v j = v j + if (i 1).val = 0 then z j else 0 := by
  have h : (i 1).val < 4 := (i 1).isLt
  rw [k0_pay42, select_first (by omega)]
  split <;> pointwise []

theorem with_sum_ckA (z : FVec Ideal S1x1x1536 .f32) (v : FVec Ideal S1x1536 .f32) (k : Fin 1536) :
    k0_pay48 (F := Ideal) (Scalar.cmpi .eq (word i) 0#32) (k0_pay10 z) v (ix3 0 0 k)
      = v (ix2 0 k) + if (i 1).val = 0 then z (ix3 0 0 k) else 0 := by
  have h : (i 1).val < 4 := (i 1).isLt
  rw [k0_pay48, select_first (by omega)]
  split <;> pointwise [k0_pay10]

theorem with_sum_ckB (z : FVec Ideal S1x1x1536 .f32) (v : FVec Ideal S1x1536 .f32) (k : Fin 1536) :
    k0_pay43 (F := Ideal) (Scalar.cmpi .eq (word i) 0#32) (k0_pay11 z) v (ix2 0 k)
      = v (ix2 0 k) + if (i 1).val = 0 then z (ix3 0 0 k) else 0 := by
  have h : (i 1).val < 4 := (i 1).isLt
  rw [k0_pay43, select_first (by omega)]
  split <;> pointwise [k0_pay11]

end Cert.Back2

end
-- ==== Proof.Back2Array.lean ====
module

public import proofs.«01_k».proof.Proof.Gen.Kernel32Ideal.Value
public import proofs.«01_k».proof.Proof.Back2Block
public import Idealize.ShloMosaic.Lib.Pipeline.ValueKit

/-!
# What the gradient of queries 1024 to 1535 leaves in its seven results

Grid point `t` works on the heads `2 p` and `2 p + 1`, `p = t / 4`, and on query block `t % 4`. The gradients of the
queries are written once per point; those of the keys, of the values and of the keys' decays gather the four query
blocks of their two heads on top of the running sums.
-/

@[expose] public section

set_option maxRecDepth 16384

noncomputable section

namespace Cert.Back2

open Cert.Kernel32Ideal Cert.Kernel32Ideal.Gen Cert.Fox
open Idealize.ShloMosaic Idealize.ShloMosaic.TcCoe Idealize.SL.Sem

variable (m : (ℓ : Loc nD τ sig) → Buf (Elt Ideal) ℓ)

theorem idx0 : ∀ t : Fin cfg0.N, win0_0.index t = ![8 + t.val % 4, t.val / 4] := (by decide +kernel : ∀ t : Fin grid0.N, _)
theorem idx1 : ∀ t : Fin cfg0.N, win0_1.index t = ![0, t.val / 4] := (by decide +kernel : ∀ t : Fin grid0.N, _)
theorem idx2 : ∀ t : Fin cfg0.N, win0_2.index t = ![0, 8 + t.val / 4] := (by decide +kernel : ∀ t : Fin grid0.N, _)
theorem idx3 : ∀ t : Fin cfg0.N, win0_3.index t = ![2 * (t.val / 4), 8 + t.val % 4, 0] := (by decide +kernel : ∀ t : Fin grid0.N, _)
theorem idx4 : ∀ t : Fin cfg0.N, win0_4.index t = ![2 * (t.val / 4) + 1, 8 + t.val % 4, 0] := (by decide +kernel : ∀ t : Fin grid0.N, _)
theorem idx5 : ∀ t : Fin cfg0.N, win0_5.index t = ![2 * (t.val / 4), 0, 0] := (by decide +kernel : ∀ t : Fin grid0.N, _)
theorem idx6 : ∀ t : Fin cfg0.N, win0_6.index t = ![2 * (t.val / 4) + 1, 0, 0] := (by decide +kernel : ∀ t : Fin grid0.N, _)
theorem idx7 : ∀ t : Fin cfg0.N, win0_7.index t = ![8 + t.val % 4, t.val / 4] := (by decide +kernel : ∀ t : Fin grid0.N, _)
theorem idx8 : ∀ t : Fin cfg0.N, win0_8.index t = ![0, t.val / 4] := (by decide +kernel : ∀ t : Fin grid0.N, _)
theorem idx9 : ∀ t : Fin cfg0.N, win0_9.index t = ![0, t.val / 4] := (by decide +kernel : ∀ t : Fin grid0.N, _)
theorem idx10 : ∀ t : Fin cfg0.N, win0_10.index t = ![t.val / 4, 0, 0] := (by decide +kernel : ∀ t : Fin grid0.N, _)
theorem idx11 : ∀ t : Fin cfg0.N, win0_11.index t = ![t.val / 4, 0, 0] := (by decide +kernel : ∀ t : Fin grid0.N, _)
theorem idx12 : ∀ t : Fin cfg0.N, win0_12.index t = ![t.val % 4, t.val / 4] := (by decide +kernel : ∀ t : Fin grid0.N, _)
theorem idx13 : ∀ t : Fin cfg0.N, win0_13.index t = ![0, t.val / 4] := (by decide +kernel : ∀ t : Fin grid0.N, _)
theorem idx14 : ∀ t : Fin cfg0.N, win0_14.index t = ![0, t.val / 4] := (by decide +kernel : ∀ t : Fin grid0.N, _)
theorem idx15 : ∀ t : Fin cfg0.N, win0_15.index t = ![t.val / 4, t.val % 4, 0] := (by decide +kernel : ∀ t : Fin grid0.N, _)
theorem idx16 : ∀ t : Fin cfg0.N, win0_16.index t = ![t.val / 4, t.val % 4, 0] := (by decide +kernel : ∀ t : Fin grid0.N, _)
theorem idx17 : ∀ t : Fin cfg0.N, win0_17.index t = ![t.val / 4, 0, 0] := (by decide +kernel : ∀ t : Fin grid0.N, _)
theorem idx18 : ∀ t : Fin cfg0.N, win0_18.index t = ![t.val / 4, 0, 0] := (by decide +kernel : ∀ t : Fin grid0.N, _)
theorem coord : ∀ t : Fin cfg0.N, (grid0.coords t 1).val = t.val % 4 := (by decide +kernel : ∀ t : Fin grid0.N, _)
theorem pts (t : Fin cfg0.N) : t.val < 16 := lt_of_lt_of_eq t.isLt (by decide +kernel)

/-- Point `t` of the sixteen. -/
abbrev at16 (t : Fin 16) : Fin cfg0.N := ⟨t.val, lt_of_lt_of_eq t.isLt (by decide +kernel)⟩

/-- The group's rows, from the first six arguments. -/
abbrev group (x0 x1 : FVec Ideal S2048x512 .bf16) (x2 : FVec Ideal S2048x8192 .f32) (x3 : FVec Ideal S8x2048x1 .f32)
    (x4 : FVec Ideal S8x1x2048 .f32) (x5 : FVec Ideal S2048x512 .f32) : Group 1536 :=
  groupOf 1536 1024 (by omega) (by omega) (fun i l => x0 (ix2 i l)) (fun i l => x1 (ix2 i l)) (fun i l => x2 (ix2 i l))
    (fun h i => x3 (ix3 h i 0)) (fun h i => x4 (ix3 h 0 i)) (fun i l => x5 (ix2 i l))

/-- The group's rows, from the kernel's memory. -/
abbrev held (c : Dev nD) : Group 1536 :=
  group (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- The running sum of the keys' gradients. -/
abbrev sumK (c : Dev nD) : FVec Ideal S2048x512 .f32 := m ((c : Thread nD τ).loc main_arg6)
/-- The running sum of the values' gradients. -/
abbrev sumV (c : Dev nD) : FVec Ideal S2048x512 .f32 := m ((c : Thread nD τ).loc main_arg7)
/-- The running sum of the even heads' key-decay gradients. -/
abbrev sumA (c : Dev nD) : FVec Ideal S4x1x2048 .f32 := m ((c : Thread nD τ).loc main_arg8)
/-- The running sum of the odd heads' key-decay gradients. -/
abbrev sumB (c : Dev nD) : FVec Ideal S4x1x2048 .f32 := m ((c : Thread nD τ).loc main_arg9)

/-- The keys' result: the running sum and the group's gradient. -/
def outK (c : Dev nD) (k : Fin 1536) (l : Fin 512) : EReal := sumK m c (ix2 ⟨k.val, by omega⟩ l) + Grad.k (held m c) k l
/-- The values' result. -/
def outV (c : Dev nD) (k : Fin 1536) (l : Fin 512) : EReal := sumV m c (ix2 ⟨k.val, by omega⟩ l) + Grad.v (held m c) k l
/-- The result for the key decays of the even heads. -/
def outA (c : Dev nD) (p : Fin 4) (k : Fin 1536) : EReal := sumA m c (ix3 p 0 ⟨k.val, by omega⟩) + Grad.ck (held m c) (even p) k
/-- The result for the key decays of the odd heads. -/
def outB (c : Dev nD) (p : Fin 4) (k : Fin 1536) : EReal := sumB m c (ix3 p 0 ⟨k.val, by omega⟩) + Grad.ck (held m c) (odd p) k

/-! ## The rows of a point's blocks -/

abbrev bA (c : Dev nD) (t : Fin cfg0.N) (r : Fin 128) : Row 1536 :=
  rowA (grid0.coords t) (iblk m c 0 t) (X0_1 m c t) (X0_2 m c t) (iblk m c 3 t) (X0_5 m c t) (iblk m c 7 t) r
abbrev bB (c : Dev nD) (t : Fin cfg0.N) (r : Fin 128) : Row 1536 :=
  rowB (grid0.coords t) (iblk m c 0 t) (X0_1 m c t) (X0_2 m c t) (iblk m c 4 t) (X0_6 m c t) (iblk m c 7 t) r

theorem row_A (c : Dev nD) (t : Fin cfg0.N) (r : Fin 128) :
    bA m c t r = held m c (pairA ⟨t.val, pts t⟩) (query ⟨t.val, pts t⟩ r) := by
  have ht := pts t
  have hc := coord t
  refine Row.ext ?_ ?_ ?_ ?_ ?_ ?_ ?_
  · funext d
    simp only [blockRow, groupOf, pairA, query, lane512, laneA]
    blk_ext [iblk, V, idx0 t]
  · simp only [blockRow, groupOf, pairA, query]
    blk_ext [iblk, V, idx3 t]
  · simp only [blockRow, groupOf, query]; omega
  · funext d
    simp only [blockRow, groupOf, pairA, query, lane512, laneA]
    blk_ext [iblk, V, idx7 t]
  · funext k d
    simp only [blockRow, groupOf, pairA, lane512, laneA]
    rw [X0_1, Pipeline.Window.fill, dif_pos (moved0_1 t _)]
    blk_ext [iblk, V, idx1 t]
  · funext k
    simp only [blockRow, groupOf, pairA]
    rw [X0_5, Pipeline.Window.fill, dif_pos (moved0_5 t _)]
    blk_ext [iblk, V, idx5 t]
  · funext k d
    simp only [blockRow, groupOf, pairA, lane512, laneA]
    rw [X0_2, Pipeline.Window.fill, dif_pos (moved0_2 t _)]
    blk_ext [iblk, V, idx2 t]

theorem row_B (c : Dev nD) (t : Fin cfg0.N) (r : Fin 128) :
    bB m c t r = held m c (pairB ⟨t.val, pts t⟩) (query ⟨t.val, pts t⟩ r) := by
  have ht := pts t
  have hc := coord t
  refine Row.ext ?_ ?_ ?_ ?_ ?_ ?_ ?_
  · funext d
    simp only [blockRow, groupOf, pairB, query, lane512, laneB]
    blk_ext [iblk, V, idx0 t]
  · simp only [blockRow, groupOf, pairB, query]
    blk_ext [iblk, V, idx4 t]
  · simp only [blockRow, groupOf, query]; omega
  · funext d
    simp only [blockRow, groupOf, pairB, query, lane512, laneB]
    blk_ext [iblk, V, idx7 t]
  · funext k d
    simp only [blockRow, groupOf, pairB, lane512, laneB]
    rw [X0_1, Pipeline.Window.fill, dif_pos (moved0_1 t _)]
    blk_ext [iblk, V, idx1 t]
  · funext k
    simp only [blockRow, groupOf, pairB]
    rw [X0_6, Pipeline.Window.fill, dif_pos (moved0_6 t _)]
    blk_ext [iblk, V, idx6 t]
  · funext k d
    simp only [blockRow, groupOf, pairB, lane512, laneB]
    rw [X0_2, Pipeline.Window.fill, dif_pos (moved0_2 t _)]
    blk_ext [iblk, V, idx2 t]

theorem firstPt {t : Fin cfg0.N} (h : t.val % 4 = 0) : ¬ 1 ≤ t.val % 4 := by omega
theorem laterPt {t : Fin cfg0.N} (h : ¬ t.val % 4 = 0) : 1 ≤ t.val % 4 := by omega

/-! ## The keys -/

/-- What point `t` adds to its heads' key gradients. -/
def kTerm (c : Dev nD) (t : Fin cfg0.N) : FVec Ideal S1536x128 .f32 :=
  k0_pay41 (F := Ideal) (Scalar.cmpi .eq (word (grid0.coords t)) 0#32) (X0_8 m c t)
    (kPart (grid0.coords t) (iblk m c 0 t) (X0_1 m c t) (X0_2 m c t) (iblk m c 3 t) (iblk m c 4 t) (X0_5 m c t) (X0_6 m c t) (iblk m c 7 t))

theorem read_k (c : Dev nD) (t : Fin cfg0.N) (k : Fin 1536) (l : Fin 128) :
    X0_8 m c t (ix2 k l) = sumK m c (ix2 ⟨k.val, by omega⟩ (lane ⟨t.val, pts t⟩ l)) := by
  have ht := pts t
  simp only [lane]
  rw [X0_8, Pipeline.Window.fill, dif_pos (moved0_8 t _)]
  blk_ext [iblk, V, idx8 t]

theorem sum_k (c : Dev nD) (t : Fin 16) (k : Fin 1536) (l : Fin 128) :
    ∑ s, kTerm m c (at16 (blockPt t s)) (ix2 k l)
      = outK m c k (lane t l) := by
  refine gather_heads (fun h r d => (held m c h r).slope k * (held m c h r).q d) (fun l => sumK m c (ix2 ⟨k.val, by omega⟩ l))
    (fun t l => kTerm m c (at16 t) (ix2 k l)) (fun t d => ?_) (fun t d => ?_) t l
  · rw [kTerm, with_sum_k, kPart_A, coord, read_k]
    simp only [row_A]
  · rw [kTerm, with_sum_k, kPart_B, coord, read_k]
    simp only [row_B]

theorem arr_k (c : Dev nD) : (dats m 0 c).arrAt 13 cfg0.N = fun y : S1536x512.Idx => outK m c (y 0) (y 1) := by
  refine (dats m 0 c).arrAt_eq_of_covers 13 _ (by decide +kernel) fun t hf y => ?_
  blk_simp
  rw [after0_13, Pipeline.eq_sum_fin_of_reset_step_apply_of_flush (fun n h => (outsAt0 m c n h).2.1) 4 (fun _ => 0) (kTerm m c)
    (fun t h j => by rw [outsAt0_A m c t h (firstPt h) h (firstPt h) h (firstPt h) h (firstPt h)]; frame_out; exact (zero_add _).symm)
    (fun t h j => by rw [outsAt0_B m c t h (laterPt h) h (laterPt h) h (laterPt h) h (laterPt h)]; frame_out; pointwise [k0_pay44]; rfl)
    t ((flush0_13 t).mp hf) _, zero_add]
  have ht := pts t
  have hb := idx13 t
  obtain ⟨k, l, rfl⟩ : ∃ k l, y = ix2 k l := ⟨y 0, y 1, eq_ix2 y⟩
  have h0 : (win0_13.blk t).view.emb (ix2 k l) 0 = (k : Fin 1536) := by
    apply Fin.ext; blk_simp [hb]
  have h1 : (win0_13.blk t).view.emb (ix2 k l) 1 = (lane ⟨t.val, ht⟩ l : Fin 512) := by
    apply Fin.ext; blk_simp [hb, lane]
  refine (sum_k m c ⟨t.val, ht⟩ k l).trans ?_
  exact congrArg₂ (outK m c) h0.symm h1.symm

/-! ## The values -/

/-- What point `t` adds to its heads' value gradients. -/
def vTerm (c : Dev nD) (t : Fin cfg0.N) : FVec Ideal S1536x128 .f32 :=
  k0_pay42 (F := Ideal) (Scalar.cmpi .eq (word (grid0.coords t)) 0#32) (X0_9 m c t)
    (vPart (grid0.coords t) (iblk m c 0 t) (X0_1 m c t) (iblk m c 3 t) (iblk m c 4 t) (X0_5 m c t) (X0_6 m c t) (iblk m c 7 t))

theorem read_v (c : Dev nD) (t : Fin cfg0.N) (k : Fin 1536) (l : Fin 128) :
    X0_9 m c t (ix2 k l) = sumV m c (ix2 ⟨k.val, by omega⟩ (lane ⟨t.val, pts t⟩ l)) := by
  have ht := pts t
  simp only [lane]
  rw [X0_9, Pipeline.Window.fill, dif_pos (moved0_9 t _)]
  blk_ext [iblk, V, idx9 t]

theorem sum_v (c : Dev nD) (t : Fin 16) (k : Fin 1536) (l : Fin 128) :
    ∑ s, vTerm m c (at16 (blockPt t s)) (ix2 k l)
      = outV m c k (lane t l) := by
  refine gather_heads (fun h r d => (held m c h r).prob k * (held m c h r).dy d) (fun l => sumV m c (ix2 ⟨k.val, by omega⟩ l))
    (fun t l => vTerm m c (at16 t) (ix2 k l)) (fun t d => ?_) (fun t d => ?_) t l
  · rw [vTerm, with_sum_v, vPart_A _ _ _ (X0_2 m c (at16 t)), coord, read_v]
    simp only [row_A]
  · rw [vTerm, with_sum_v, vPart_B _ _ _ (X0_2 m c (at16 t)), coord, read_v]
    simp only [row_B]

theorem arr_v (c : Dev nD) : (dats m 0 c).arrAt 14 cfg0.N = fun y : S1536x512.Idx => outV m c (y 0) (y 1) := by
  refine (dats m 0 c).arrAt_eq_of_covers 14 _ (by decide +kernel) fun t hf y => ?_
  blk_simp
  rw [after0_14, Pipeline.eq_sum_fin_of_reset_step_apply_of_flush (fun n h => (outsAt0 m c n h).2.2.1) 4 (fun _ => 0) (vTerm m c)
    (fun t h j => by rw [outsAt0_A m c t h (firstPt h) h (firstPt h) h (firstPt h) h (firstPt h)]; frame_out; exact (zero_add _).symm)
    (fun t h j => by rw [outsAt0_B m c t h (laterPt h) h (laterPt h) h (laterPt h) h (laterPt h)]; frame_out; pointwise [k0_pay45]; rfl)
    t ((flush0_14 t).mp hf) _, zero_add]
  have ht := pts t
  have hb := idx14 t
  obtain ⟨k, l, rfl⟩ : ∃ k l, y = ix2 k l := ⟨y 0, y 1, eq_ix2 y⟩
  have h0 : (win0_14.blk t).view.emb (ix2 k l) 0 = (k : Fin 1536) := by
    apply Fin.ext; blk_simp [hb]
  have h1 : (win0_14.blk t).view.emb (ix2 k l) 1 = (lane ⟨t.val, ht⟩ l : Fin 512) := by
    apply Fin.ext; blk_simp [hb, lane]
  refine (sum_v m c ⟨t.val, ht⟩ k l).trans ?_
  exact congrArg₂ (outV m c) h0.symm h1.symm

/-! ## The keys' decays -/

/-- What point `t` adds to its first head's key-decay gradients. -/
def aTerm (c : Dev nD) (t : Fin cfg0.N) : FVec Ideal S1x1x1536 .f32 :=
  k0_pay48 (F := Ideal) (Scalar.cmpi .eq (word (grid0.coords t)) 0#32) (k0_pay10 (X0_10 m c t))
    (ckA (grid0.coords t) (iblk m c 0 t) (X0_1 m c t) (X0_2 m c t) (iblk m c 3 t) (X0_5 m c t) (iblk m c 7 t))

/-- What point `t` adds to its second head's key-decay gradients. -/
def bTerm (c : Dev nD) (t : Fin cfg0.N) (y : S1x1x1536.Idx) : EReal :=
  k0_pay43 (F := Ideal) (Scalar.cmpi .eq (word (grid0.coords t)) 0#32) (k0_pay11 (X0_11 m c t))
    (ckB (grid0.coords t) (iblk m c 0 t) (X0_1 m c t) (X0_2 m c t) (iblk m c 4 t) (X0_6 m c t) (iblk m c 7 t)) (ix2 0 (y 2 : Fin 1536))

/-- The pair of heads of point `t`. -/
abbrev pair (t : Fin 16) : Fin 4 := ⟨t.val / 4, by omega⟩

theorem read_a (c : Dev nD) (t : Fin cfg0.N) (k : Fin 1536) :
    X0_10 m c t (ix3 0 0 k) = sumA m c (ix3 (pair ⟨t.val, pts t⟩) 0 ⟨k.val, by omega⟩) := by
  have ht := pts t
  rw [X0_10, Pipeline.Window.fill, dif_pos (moved0_10 t _)]
  blk_ext [iblk, V, idx10 t]

theorem read_b (c : Dev nD) (t : Fin cfg0.N) (k : Fin 1536) :
    X0_11 m c t (ix3 0 0 k) = sumB m c (ix3 (pair ⟨t.val, pts t⟩) 0 ⟨k.val, by omega⟩) := by
  have ht := pts t
  rw [X0_11, Pipeline.Window.fill, dif_pos (moved0_11 t _)]
  blk_ext [iblk, V, idx11 t]

theorem sum_a (c : Dev nD) (t : Fin 16) (y : S1x1x1536.Idx) :
    ∑ s, aTerm m c (at16 (blockPt t s)) y = outA m c (pair t) (y 2) := by
  obtain ⟨k, rfl⟩ : ∃ k : Fin 1536, y = ix3 0 0 k := ⟨y 2, by rw [eq_ix3 y]; congr 1 <;> exact Subsingleton.elim _ _⟩
  have hp : ∀ t, (⟨(pairA t).val / 2, by omega⟩ : Fin 4) = pair t := fun t => Fin.ext (by simp only [pairA]; omega)
  refine (gather_decays pairA pairA_blockPt (fun h r => 0 - (held m c h r).slope k)
    (fun h => sumA m c (ix3 ⟨h.val / 2, by omega⟩ 0 ⟨k.val, by omega⟩)) (fun t => aTerm m c (at16 t) (ix3 0 0 k)) (fun t => ?_) t).trans ?_
  · rw [aTerm, with_sum_ckA, ckA_apply, coord, read_a]
    simp only [row_A, hp]
  · rw [hp]; rfl

theorem sum_b (c : Dev nD) (t : Fin 16) (y : S1x1x1536.Idx) :
    ∑ s, bTerm m c (at16 (blockPt t s)) y = outB m c (pair t) (y 2) := by
  obtain ⟨k, rfl⟩ : ∃ k : Fin 1536, y = ix3 0 0 k := ⟨y 2, by rw [eq_ix3 y]; congr 1 <;> exact Subsingleton.elim _ _⟩
  have hp : ∀ t, (⟨(pairB t).val / 2, by omega⟩ : Fin 4) = pair t := fun t => Fin.ext (by simp only [pairB]; omega)
  refine (gather_decays pairB pairB_blockPt (fun h r => 0 - (held m c h r).slope k)
    (fun h => sumB m c (ix3 ⟨h.val / 2, by omega⟩ 0 ⟨k.val, by omega⟩)) (fun t => bTerm m c (at16 t) (ix3 0 0 k)) (fun t => ?_) t).trans ?_
  · refine (with_sum_ckB _ _ _ k).trans ?_
    rw [ckB_apply, coord, read_b]
    simp only [row_B, hp]
  · rw [hp]; rfl

theorem arr_ckA (c : Dev nD) : (dats m 0 c).arrAt 17 cfg0.N = fun y : S4x1x1536.Idx => outA m c (y 0) (y 2) := by
  refine (dats m 0 c).arrAt_eq_of_covers 17 _ (by decide +kernel) fun t hf y => ?_
  blk_simp
  rw [after0_17, Pipeline.eq_sum_fin_of_reset_step_apply_of_flush (fun n h => (outsAt0 m c n h).2.2.2.2.2.1) 4 (fun _ => 0) (aTerm m c)
    (fun t h j => by rw [outsAt0_A m c t h (firstPt h) h (firstPt h) h (firstPt h) h (firstPt h)]; frame_out; exact (zero_add _).symm)
    (fun t h j => by rw [outsAt0_B m c t h (laterPt h) h (laterPt h) h (laterPt h) h (laterPt h)]; frame_out; pointwise [k0_pay1]; rfl)
    t ((flush0_17 t).mp hf) _, zero_add]
  have ht := pts t
  have hb := idx17 t
  have h0 : (win0_17.blk t).view.emb y 0 = (pair ⟨t.val, ht⟩ : Fin 4) := by
    apply Fin.ext; blk_simp [hb]
  have h1 : (win0_17.blk t).view.emb y 2 = (y 2 : Fin 1536) := by
    apply Fin.ext; blk_simp [hb]
  refine (sum_a m c ⟨t.val, ht⟩ y).trans ?_
  exact congrArg₂ (outA m c) h0.symm h1.symm

theorem arr_ckB (c : Dev nD) : (dats m 0 c).arrAt 18 cfg0.N = fun y : S4x1x1536.Idx => outB m c (y 0) (y 2) := by
  refine (dats m 0 c).arrAt_eq_of_covers 18 _ (by decide +kernel) fun t hf y => ?_
  blk_simp
  rw [after0_18, Pipeline.eq_sum_fin_of_reset_step_apply_of_flush (fun n h => (outsAt0 m c n h).2.2.2.2.2.2) 4 (fun _ => 0) (bTerm m c)
    (fun t h j => by rw [outsAt0_A m c t h (firstPt h) h (firstPt h) h (firstPt h) h (firstPt h)]; frame_out; idx_vars j; pointwise [k0_pay2, bTerm])
    (fun t h j => by rw [outsAt0_B m c t h (laterPt h) h (laterPt h) h (laterPt h) h (laterPt h)]; frame_out; idx_vars j; pointwise [k0_pay3, k0_pay2, bTerm])
    t ((flush0_18 t).mp hf) _, zero_add]
  have ht := pts t
  have hb := idx18 t
  have h0 : (win0_18.blk t).view.emb y 0 = (pair ⟨t.val, ht⟩ : Fin 4) := by
    apply Fin.ext; blk_simp [hb]
  have h1 : (win0_18.blk t).view.emb y 2 = (y 2 : Fin 1536) := by
    apply Fin.ext; blk_simp [hb]
  refine (sum_b m c ⟨t.val, ht⟩ y).trans ?_
  exact congrArg₂ (outB m c) h0.symm h1.symm

/-! ## The queries and their decays -/

theorem arr_q (c : Dev nD) : (dats m 0 c).arrAt 12 cfg0.N = fun y : S512x512.Idx => Grad.q (held m c) (y 0) (y 1) := by
  refine (dats m 0 c).arrAt_eq_of_covers 12 _ (by decide +kernel) fun t hf y => ?_
  blk_simp
  have ht := pts t
  have hb := idx12 t
  have h0 : (win0_12.blk t).view.emb y 0 = (query ⟨t.val, ht⟩ (y 0) : Fin 512) := by
    apply Fin.ext; blk_simp [hb, query]
  have h1 : (win0_12.blk t).view.emb y 1 = (lane ⟨t.val, ht⟩ (y 1) : Fin 512) := by
    apply Fin.ext; blk_simp [hb, lane]
  refine Eq.trans ?_ (congrArg₂ (Grad.q (held m c)) h0 h1).symm
  have hq : qBlk (grid0.coords t) (iblk m c 0 t) (X0_1 m c t) (X0_2 m c t) (iblk m c 3 t) (iblk m c 4 t) (X0_5 m c t) (X0_6 m c t) (iblk m c 7 t) y
      = Grad.q (held m c) (query ⟨t.val, ht⟩ (y 0)) (lane ⟨t.val, ht⟩ (y 1)) := by
    obtain ⟨r, l, rfl⟩ : ∃ r l, y = ix2 r l := ⟨y 0, y 1, eq_ix2 y⟩
    refine queries_of_heads (held m c) ⟨t.val, ht⟩ r (fun l => qBlk (grid0.coords t) (iblk m c 0 t) (X0_1 m c t) (X0_2 m c t)
      (iblk m c 3 t) (iblk m c 4 t) (X0_5 m c t) (X0_6 m c t) (iblk m c 7 t) (ix2 r l)) (fun d => ?_) (fun d => ?_) l
    · rw [← row_A]; exact qBlk_A _ _ _ _ _ _ _ _ _ r d
    · rw [← row_B]; exact qBlk_B _ _ _ _ _ _ _ _ _ r d
  refine Eq.trans ?_ hq
  rw [after0_12]
  by_cases h : t.val % 4 = 0
  · rw [outsAt0_A m c t h (firstPt h) h (firstPt h) h (firstPt h) h (firstPt h)]; frame_out
  · rw [outsAt0_B m c t h (laterPt h) h (laterPt h) h (laterPt h) h (laterPt h)]; frame_out

theorem arr_cqA (c : Dev nD) : (dats m 0 c).arrAt 15 cfg0.N = fun y : S4x512x1.Idx => Grad.cq (held m c) (even (y 0)) (y 1) := by
  refine (dats m 0 c).arrAt_eq_of_covers 15 _ (by decide +kernel) fun t hf y => ?_
  blk_simp
  have ht := pts t
  have hb := idx15 t
  have h0 : even ((win0_15.blk t).view.emb y 0) = pairA ⟨t.val, ht⟩ := by
    apply Fin.ext; simp only [even, pairA]; blk_simp [hb]
  have h1 : (win0_15.blk t).view.emb y 1 = (query ⟨t.val, ht⟩ (y 1) : Fin 512) := by
    apply Fin.ext; blk_simp [hb, query]
  refine Eq.trans ?_ (congrArg₂ (Grad.cq (held m c)) h0 h1).symm
  have hq : cqA (grid0.coords t) (iblk m c 0 t) (X0_1 m c t) (X0_2 m c t) (iblk m c 3 t) (X0_5 m c t) (iblk m c 7 t) y
      = Grad.cq (held m c) (pairA ⟨t.val, ht⟩) (query ⟨t.val, ht⟩ (y 1)) := by
    idx_vars y
    show _ = Grad.cq (held m c) (pairA ⟨t.val, ht⟩) (query ⟨t.val, ht⟩ y1)
    rw [Grad.cq, ← row_A, Subsingleton.elim y0 0, Subsingleton.elim y2 0]
    exact cqA_apply _ _ _ _ _ _ _ y1
  refine Eq.trans ?_ hq
  rw [after0_15]
  by_cases h : t.val % 4 = 0
  · rw [outsAt0_A m c t h (firstPt h) h (firstPt h) h (firstPt h) h (firstPt h)]; frame_out
  · rw [outsAt0_B m c t h (laterPt h) h (laterPt h) h (laterPt h) h (laterPt h)]; frame_out

theorem arr_cqB (c : Dev nD) : (dats m 0 c).arrAt 16 cfg0.N = fun y : S4x512x1.Idx => Grad.cq (held m c) (odd (y 0)) (y 1) := by
  refine (dats m 0 c).arrAt_eq_of_covers 16 _ (by decide +kernel) fun t hf y => ?_
  blk_simp
  have ht := pts t
  have hb := idx16 t
  have h0 : odd ((win0_16.blk t).view.emb y 0) = pairB ⟨t.val, ht⟩ := by
    apply Fin.ext; simp only [odd, pairB]; blk_simp [hb]
  have h1 : (win0_16.blk t).view.emb y 1 = (query ⟨t.val, ht⟩ (y 1) : Fin 512) := by
    apply Fin.ext; blk_simp [hb, query]
  refine Eq.trans ?_ (congrArg₂ (Grad.cq (held m c)) h0 h1).symm
  have hq : cqB (grid0.coords t) (iblk m c 0 t) (X0_1 m c t) (X0_2 m c t) (iblk m c 4 t) (X0_6 m c t) (iblk m c 7 t) y
      = Grad.cq (held m c) (pairB ⟨t.val, ht⟩) (query ⟨t.val, ht⟩ (y 1)) := by
    idx_vars y
    show _ = Grad.cq (held m c) (pairB ⟨t.val, ht⟩) (query ⟨t.val, ht⟩ y1)
    rw [Grad.cq, ← row_B, Subsingleton.elim y0 0, Subsingleton.elim y2 0]
    exact cqB_apply _ _ _ _ _ _ _ y1
  refine Eq.trans ?_ hq
  rw [after0_16]
  by_cases h : t.val % 4 = 0
  · rw [outsAt0_A m c t h (firstPt h) h (firstPt h) h (firstPt h) h (firstPt h)]; frame_out
  · rw [outsAt0_B m c t h (laterPt h) h (laterPt h) h (laterPt h) h (laterPt h)]; frame_out

end Cert.Back2

end
-- ==== Proof.Back2.lean ====
module

public import proofs.«01_k».proof.Defs
public import proofs.«01_k».proof.Proof.Back2Array
public import proofs.«01_k».proof.Proof.Gen.Reference32Ideal.Run
public import proofs.«01_k».proof.Proof.Gen.Reference32Ideal.Read
public import proofs.«01_k».proof.Proof.Gen.Pre_finite_sums
public import proofs.«01_k».proof.Proof.Pre

/-!
# The gradient of queries 1024 to 1535 is the reference's
-/

@[expose] public section

set_option maxRecDepth 16384

noncomputable section

namespace Cert.Back2

open Cert.Reference32Ideal Cert.Reference32Ideal.Read Cert.Fox
open Idealize.ShloMosaic Idealize.ShloMosaic.TcCoe Idealize.SL.Sem

section
variable (x0 x1 : FVec Ideal S2048x512 .bf16) (x2 : FVec Ideal S2048x8192 .f32) (x3 : FVec Ideal S8x2048x1 .f32)
  (x4 : FVec Ideal S8x1x2048 .f32) (x5 : FVec Ideal S2048x512 .f32)

/-- Query `r` of the group sees key `k`. -/
theorem ref_seen (r : Fin 512) (k : Fin 1536) (x y : EReal) :
    Scalar.select (val_main_v27 (F := Ideal) (ix2 r k)) x y = if k.val ≤ 1024 + r.val then x else y := by
  pointwise [val_main_v27, val_main_v26, val_main_v25, val_main_v24, val_main_v23, val_main_v22, val_main_v21, val_main_v20, val_main_v19, val_main_c]
  have h1 : IntOp.addi 1024#32 (BitVec.ofNat 32 r.val) = BitVec.ofNat 32 (1024 + r.val) := by
    rw [BitVec.ofNat_add]; rfl
  rw [h1, select_sge (by omega) (by omega)]

theorem ref_score (h : Fin 8) (r : Fin 512) (k : Fin 1536) :
    val_main_v28_0 (F := Ideal) x0 x1 x3 x4 (ix3 h r k) = (group x0 x1 x2 x3 x4 x5 h r).score k := by
  pointwise [val_main_v28_0, val_main_v28_1, val_main_v18, val_main_v17, val_main_v16, val_main_v15, val_main_v14, val_main_v11, val_main_v10, val_main_v9, val_main_v8,
    val_main_v7, val_main_v6, val_main_v4, val_main_v3, val_main_v2, val_main_v1, val_main_call0_v2, val_main_call0_v0, val_main_cst, ref_seen, word_neg_inf]
  rfl

theorem ref_peak (h : Fin 8) (r : Fin 512) :
    val_main_v36 (F := Ideal) x0 x1 x3 x4 (ix2 h r) = (group x0 x1 x2 x3 x4 x5 h r).peak := by
  rw [val_main_v36_apply, val_main_v35_apply, val_main_v29]
  exact peak_of _ _ _ _ _ h r (fun _ => rfl) (ref_score x0 x1 x2 x3 x4 x5 h r)

theorem ref_wt (h : Fin 8) (r : Fin 512) (k : Fin 1536) :
    val_main_v49 (F := Ideal) x0 x1 x3 x4 (ix3 h r k) = (group x0 x1 x2 x3 x4 x5 h r).wt k := by
  pointwise [val_main_v49, val_main_v48, val_main_v47, val_main_v46, ref_score x0 x1 x2 x3 x4 x5, ref_peak x0 x1 x2 x3 x4 x5]
  rfl

theorem ref_tot (h : Fin 8) (r : Fin 512) :
    val_main_v50 (F := Ideal) x0 x1 x3 x4 (ix2 h r) = (group x0 x1 x2 x3 x4 x5 h r).tot := by
  pointwise [val_main_v50, ref_wt x0 x1 x2 x3 x4 x5, val_main_cst_8]
  rfl

theorem ref_prob (h : Fin 8) (r : Fin 512) (k : Fin 1536) (hR : (group x0 x1 x2 x3 x4 x5 h r).Real) :
    val_main_v53 (F := Ideal) x0 x1 x3 x4 (ix3 h r k) = (group x0 x1 x2 x3 x4 x5 h r).prob k := by
  pointwise [val_main_v53, val_main_v52, val_main_v51, ref_wt x0 x1 x2 x3 x4 x5, ref_tot x0 x1 x2 x3 x4 x5]
  exact Row.prob_eq hR k

theorem ref_dprob (h : Fin 8) (r : Fin 512) (k : Fin 1536) :
    val_main_v63 (F := Ideal) x2 x5 (ix3 h r k) = (group x0 x1 x2 x3 x4 x5 h r).dprob k := by
  pointwise [val_main_v63, val_main_v62, val_main_v61, val_main_v60, val_main_v13, val_main_v12, val_main_v5, val_main_v0]
  rfl

theorem ref_slope' (h : Fin 8) (r : Fin 512) (k : Fin 1536) (hR : (group x0 x1 x2 x3 x4 x5 h r).Real) :
    val_main_v77 (F := Ideal) x0 x1 x2 x3 x4 x5 (ix3 h r k) = (group x0 x1 x2 x3 x4 x5 h r).slope' k := by
  pointwise [val_main_v77, val_main_v76, val_main_v75, val_main_v74, val_main_v73, val_main_v72, val_main_v71, val_main_v70, val_main_v69, val_main_v68, val_main_v67, val_main_v66,
    val_main_v56, val_main_v55, val_main_v54, val_main_v51, val_main_cst_9, val_main_cst_10, val_main_cst_11,
    ref_wt x0 x1 x2 x3 x4 x5, ref_tot x0 x1 x2 x3 x4 x5, ref_dprob x0 x1 x2 x3 x4 x5]
  simp only [Finset.univ_unique, Finset.sum_singleton]
  exact Row.slope'_eq hR k

theorem ref_slope (h : Fin 8) (r : Fin 512) (k : Fin 1536) (hR : (group x0 x1 x2 x3 x4 x5 h r).Real) :
    val_main_v78 (F := Ideal) x0 x1 x2 x3 x4 x5 (ix3 h r k) = (group x0 x1 x2 x3 x4 x5 h r).slope k := by
  pointwise [val_main_v78, val_main_v28_1, ref_seen, ref_slope' x0 x1 x2 x3 x4 x5 h r k hR, val_main_call1_v0, val_main_call1_cst]
  rfl

variable (hR : Real (group x0 x1 x2 x3 x4 x5))
include hR

/-- The reference's query gradient. -/
theorem ref_q : val_main_v91 (F := Ideal) x0 x1 x2 x3 x4 x5 = fun y : S512x512.Idx => Grad.q (group x0 x1 x2 x3 x4 x5) (y 0) (y 1) := by
  funext y
  obtain ⟨r, c, rfl⟩ : ∃ r c, y = ix2 r c := ⟨y 0, y 1, eq_ix2 y⟩
  show _ = Grad.q (group x0 x1 x2 x3 x4 x5) r c
  pointwise [val_main_v91, val_main_v90, val_main_v85, val_main_v11, val_main_v10, val_main_v4, val_main_v3, ref_slope x0 x1 x2 x3 x4 x5 _ _ _ (hR _ _)]
  exact Finset.sum_congr rfl fun k _ => congrArg (fun l : Fin 512 => _ * x1 (ix2 ⟨k.val, by omega⟩ l)) (lane_head_sub c).symm

/-- Its key gradient, on top of the running sum. -/
theorem ref_k (x6 : FVec Ideal S2048x512 .f32) : val_main_v93 (F := Ideal) x0 x1 x2 x3 x4 x5 x6
    = fun y : S1536x512.Idx => x6 (ix2 ⟨(y 0).val, lt_of_lt_of_le (y 0).isLt (by decide)⟩ (y 1)) + Grad.k (group x0 x1 x2 x3 x4 x5) (y 0) (y 1) := by
  funext y
  obtain ⟨k, c, rfl⟩ : ∃ k c, y = ix2 k c := ⟨y 0, y 1, eq_ix2 y⟩
  show _ = x6 (ix2 ⟨k.val, by omega⟩ c) + Grad.k (group x0 x1 x2 x3 x4 x5) k c
  pointwise [val_main_v93, val_main_v92, val_main_v89, val_main_v88, val_main_v84, val_main_v9, val_main_v8, val_main_v2, val_main_v1, ref_slope x0 x1 x2 x3 x4 x5 _ _ _ (hR _ _)]
  refine congrArg (_ + ·) ?_
  exact Finset.sum_congr rfl fun r _ => congrArg (fun l : Fin 512 => _ * x0 (ix2 ⟨1024 + r.val, by omega⟩ l)) (lane_head_sub c).symm

/-- Its value gradient, on top of the running sum. -/
theorem ref_v (x7 : FVec Ideal S2048x512 .f32) : val_main_v95 (F := Ideal) x0 x1 x3 x4 x5 x7
    = fun y : S1536x512.Idx => x7 (ix2 ⟨(y 0).val, lt_of_lt_of_le (y 0).isLt (by decide)⟩ (y 1)) + Grad.v (group x0 x1 x2 x3 x4 x5) (y 0) (y 1) := by
  funext y
  obtain ⟨k, c, rfl⟩ : ∃ k c, y = ix2 k c := ⟨y 0, y 1, eq_ix2 y⟩
  show _ = x7 (ix2 ⟨k.val, by omega⟩ c) + Grad.v (group x0 x1 x2 x3 x4 x5) k c
  pointwise [val_main_v95, val_main_v94, val_main_v87, val_main_v86, val_main_v65, val_main_v64, val_main_v62, val_main_v61, val_main_v60, ref_prob x0 x1 x2 x3 x4 x5 _ _ _ (hR _ _)]
  refine congrArg (_ + ·) ?_
  refine Finset.sum_congr rfl fun r _ => ?_
  rw [mul_comm]
  exact congrArg (fun l : Fin 512 => _ * x5 (ix2 ⟨1024 + r.val, by omega⟩ l)) (lane_head_sub c).symm

/-- Its gradient of the even heads' query decays. -/
theorem ref_cqA : val_main_v96 (F := Ideal) x0 x1 x2 x3 x4 x5
    = fun y : S4x512x1.Idx => Grad.cq (group x0 x1 x2 x3 x4 x5) (even (y 0)) (y 1) := by
  funext y
  obtain ⟨p, r, u, rfl⟩ : ∃ p r u, y = ix3 p r u := ⟨y 0, y 1, y 2, eq_ix3 y⟩
  show _ = Grad.cq (group x0 x1 x2 x3 x4 x5) (even p) r
  pointwise [val_main_v96, val_main_v83, val_main_v82, val_main_cst_13, ref_slope x0 x1 x2 x3 x4 x5 _ _ _ (hR _ _)]
  have he : (⟨2 * p.val, by omega⟩ : Fin 8) = even p := Fin.ext (by simp only [even])
  rw [he]
  rfl

/-- Its gradient of the odd heads' query decays. -/
theorem ref_cqB : val_main_v97 (F := Ideal) x0 x1 x2 x3 x4 x5
    = fun y : S4x512x1.Idx => Grad.cq (group x0 x1 x2 x3 x4 x5) (odd (y 0)) (y 1) := by
  funext y
  obtain ⟨p, r, u, rfl⟩ : ∃ p r u, y = ix3 p r u := ⟨y 0, y 1, y 2, eq_ix3 y⟩
  show _ = Grad.cq (group x0 x1 x2 x3 x4 x5) (odd p) r
  pointwise [val_main_v97, val_main_v83, val_main_v82, val_main_cst_13, ref_slope x0 x1 x2 x3 x4 x5 _ _ _ (hR _ _)]
  have he : (⟨1 + 2 * p.val, by omega⟩ : Fin 8) = odd p := Fin.ext (by simp only [odd]; omega)
  rw [he]
  rfl

/-- Its gradient of the even heads' key decays, on top of the running sum. -/
theorem ref_ckA (x8 : FVec Ideal S4x1x2048 .f32) : val_main_v100 (F := Ideal) x0 x1 x2 x3 x4 x5 x8
    = fun y : S4x1x1536.Idx => x8 (ix3 (y 0) 0 ⟨(y 2).val, lt_of_lt_of_le (y 2).isLt (by decide)⟩) + Grad.ck (group x0 x1 x2 x3 x4 x5) (even (y 0)) (y 2) := by
  funext y
  obtain ⟨p, u, k, rfl⟩ : ∃ p u k, y = ix3 p u k := ⟨y 0, y 1, y 2, eq_ix3 y⟩
  show _ = x8 (ix3 p 0 ⟨k.val, by omega⟩) + Grad.ck (group x0 x1 x2 x3 x4 x5) (even p) k
  rw [Subsingleton.elim u 0]
  pointwise [val_main_v100, val_main_v98, val_main_v99, val_main_v81, val_main_v80, val_main_v79, val_main_cst_12, ref_slope x0 x1 x2 x3 x4 x5 _ _ _ (hR _ _)]
  have he : (⟨2 * p.val, by omega⟩ : Fin 8) = even p := Fin.ext (by simp only [even])
  rw [he]
  exact congrArg (_ + ·) (Finset.sum_congr rfl fun r _ => (zero_sub _).symm)

/-- Its gradient of the odd heads' key decays, on top of the running sum. -/
theorem ref_ckB (x9 : FVec Ideal S4x1x2048 .f32) : val_main_v103 (F := Ideal) x0 x1 x2 x3 x4 x5 x9
    = fun y : S4x1x1536.Idx => x9 (ix3 (y 0) 0 ⟨(y 2).val, lt_of_lt_of_le (y 2).isLt (by decide)⟩) + Grad.ck (group x0 x1 x2 x3 x4 x5) (odd (y 0)) (y 2) := by
  funext y
  obtain ⟨p, u, k, rfl⟩ : ∃ p u k, y = ix3 p u k := ⟨y 0, y 1, y 2, eq_ix3 y⟩
  show _ = x9 (ix3 p 0 ⟨k.val, by omega⟩) + Grad.ck (group x0 x1 x2 x3 x4 x5) (odd p) k
  rw [Subsingleton.elim u 0]
  pointwise [val_main_v103, val_main_v101, val_main_v102, val_main_v81, val_main_v80, val_main_v79, val_main_cst_12, ref_slope x0 x1 x2 x3 x4 x5 _ _ _ (hR _ _)]
  have he : (⟨1 + 2 * p.val, by omega⟩ : Fin 8) = odd p := Fin.ext (by simp only [odd]; omega)
  rw [he]
  exact congrArg (_ + ·) (Finset.sum_congr rfl fun r _ => (zero_sub _).symm)

end

/-- The precondition says what program 1's says of the same six arguments. -/
theorem finite_args (x0 x1 : FVec Ideal S2048x512 .bf16) (x2 : FVec Ideal S2048x8192 .f32) (x3 : FVec Ideal S8x2048x1 .f32)
    (x4 : FVec Ideal S8x1x2048 .f32) (x5 : FVec Ideal S2048x512 .f32) (x6 x7 : FVec Ideal S2048x512 .f32) (x8 x9 : FVec Ideal S4x1x2048 .f32)
    (h : Cert.Pre_finite_sums.fn (F := Ideal) x0 x1 x2 x3 x4 x5 x6 x7 x8 x9 = fun _ => 1#1) : Real (group x0 x1 x2 x3 x4 x5) := by
  obtain ⟨f0, f1, f3, f4⟩ := Cert.Finite.finite x0 x1 x2 x3 x4 x5 h
  exact groupOf_real (by omega) (fun _ _ => f0 _) (fun _ _ => f1 _) (fun _ _ => f3 _) (fun _ _ => f4 _)

/-- The algebraic claim. -/
theorem algebraic : Cert.algebraic_Kernel32Ideal_Reference32Ideal_pre_finite_sums := by
  intro m g m' g' hpre hag
  refine ⟨_, _, _, _, _, _, _, Cert.Kernel32Ideal.Value.run_blocks m g, (θ_run _ _ _).mono (fun r h c => ?_) (Cert.Reference32Ideal.Value.run m' g')⟩
  obtain ⟨h0, h1, h2, h3, h4, h5, h6, hk⟩ := h c
  obtain ⟨a0, a1, a2, a3, a4, a5, a6, a7, a8, a9⟩ := hag c
  have hR : Real (held m c) := finite_args _ _ _ _ _ _ _ _ _ _ (hpre c)
  refine ⟨h0.trans ((val_main_v91_eq m' c).trans ?_), h1.trans ((val_main_v93_eq m' c).trans ?_), h2.trans ((val_main_v95_eq m' c).trans ?_),
    h3.trans ((val_main_v96_eq m' c).trans ?_), h4.trans ((val_main_v97_eq m' c).trans ?_), h5.trans ((val_main_v100_eq m' c).trans ?_),
    h6.trans ((val_main_v103_eq m' c).trans ?_), hk⟩
  · rw [a0, a1, a2, a3, a4, a5, arr_q]; exact ref_q _ _ _ _ _ _ hR
  · rw [a0, a1, a2, a3, a4, a5, a6, arr_k]; exact ref_k _ _ _ _ _ _ hR _
  · rw [a0, a1, a3, a4, a5, a7, arr_v]; exact ref_v _ _ _ _ _ _ hR _
  · rw [a0, a1, a2, a3, a4, a5, arr_cqA]; exact ref_cqA _ _ _ _ _ _ hR
  · rw [a0, a1, a2, a3, a4, a5, arr_cqB]; exact ref_cqB _ _ _ _ _ _ hR
  · rw [a0, a1, a2, a3, a4, a5, a8, arr_ckA]; exact ref_ckA _ _ _ _ _ _ hR _
  · rw [a0, a1, a2, a3, a4, a5, a9, arr_ckB]; exact ref_ckB _ _ _ _ _ _ hR _

end Cert.Back2

end
-- ==== Proof.Back1Block.lean ====
module

public import proofs.«01_k».proof.Proof.Gen.Kernel33Ideal.Skeleton
public import proofs.«01_k».proof.Proof.Sums
public import Idealize.ShloMosaic.Lib.ValueIdx

/-!
# One grid point of the gradient of queries 512 to 1023

A grid point holds 128 queries of two heads — the first in the block's lanes 0–63, the second in lanes 64–127 — against
the 1024 keys they may see. Each matrix of the point, read at one entry, is a quantity of that query's row.
-/

@[expose] public section

set_option maxRecDepth 16384

noncomputable section

namespace Cert.Back1

open Cert.Kernel33Ideal Cert.Kernel33Ideal.Gen Cert.Fox
open Idealize.ShloMosaic Idealize.ShloMosaic.TcCoe Idealize.SL.Sem

/-- The mask the kernel names is `−∞`. -/
theorem mask_value : (Named.named (F := Ideal) κ "mask" 0xF149F2CA#32 : Ideal .f32) = (⊥ : EReal) :=
  IdealRules.named_const.ideal_named_scalar _ _ _ _ rfl

/-- The point's number among the query blocks, as the word the kernel holds. -/
abbrev word (i : grid0.Coords) : BitVec 32 := BitVec.ofNat 32 (i 1).val

/-- The point's mask: a key at or before the query. -/
theorem seen (i : grid0.Coords) (r : Fin 128) (k : Fin 1024) (x y : EReal) :
    Scalar.select (k0_pay13 (word i) (ix2 r k)) x y = if k.val ≤ (4 + (i 1).val) * 128 + r.val then x else y := by
  have h : (i 1).val < 4 := (i 1).isLt
  have h1 : Scalar.addi 4#32 (BitVec.ofNat 32 (i 1).val) = BitVec.ofNat 32 (4 + (i 1).val) := by
    rw [BitVec.ofNat_add]; rfl
  pointwise [k0_pay13]
  rw [h1]
  exact select_seen _ _ _ (by omega) (by omega) (by omega) x y

/-- The point's lane mask: the first 64 lanes. -/
theorem first (r l : Fin 128) (x y : EReal) : Scalar.select (k0_pay12 (ix2 r l)) x y = if l.val < 64 then x else y := by
  pointwise [k0_pay12, select_lane]

/-- A lane of the second head is not one of the first 64. -/
theorem not_first (d : Fin 64) : ¬ 64 + d.val < 64 := by omega

variable (i : grid0.Coords) (x0 : FVec Ideal S128x128 .bf16) (x1 : FVec Ideal S1024x128 .bf16)
    (x2 : FVec Ideal S1024x128 .f32) (x3 x4 : FVec Ideal S1x128x1 .f32) (x5 x6 : FVec Ideal S1x1x1024 .f32)
    (x7 : FVec Ideal S128x128 .f32)

/-- Query `r`'s row, of the head in the lanes `ln`. -/
abbrev row (ln : Fin 64 → Fin 128) (xc : FVec Ideal S1x128x1 .f32) (xk : FVec Ideal S1x1x1024 .f32) (r : Fin 128) : Row 1024 :=
  blockRow ln ((4 + (i 1).val) * 128 + r.val) (fun l => x0 (ix2 r l)) (xc (ix3 0 r 0)) (fun l => x7 (ix2 r l))
    (fun k l => x1 (ix2 k l)) (fun k l => x2 (ix2 k l)) (fun k => xk (ix3 0 0 k))

/-- The row of the first head. -/
abbrev rowA (r : Fin 128) : Row 1024 := row i x0 x1 x2 x7 laneA x3 x5 r
/-- The row of the second head. -/
abbrev rowB (r : Fin 128) : Row 1024 := row i x0 x1 x2 x7 laneB x4 x6 r

/-! ## The weights, their totals and the gradients of the probabilities -/

/-- The first head's weights. -/
abbrev eA : FVec Ideal S128x1024 .f32 := k0_pay16 (F := Ideal) (word i) (k0_pay4 x0) (k0_pay5 x1) (k0_pay6 x3) (k0_pay8 x5)
/-- The second head's weights. -/
abbrev eB : FVec Ideal S128x1024 .f32 := k0_pay17 (F := Ideal) (word i) (k0_pay4 x0) (k0_pay5 x1) (k0_pay7 x4) (k0_pay9 x6)
/-- The first head's reciprocal totals. -/
abbrev rA : FVec Ideal S128x1 .f32 := k0_pay19 (F := Ideal) (word i) (k0_pay4 x0) (k0_pay5 x1) (k0_pay6 x3) (k0_pay8 x5)
/-- The reciprocals of their squares. -/
abbrev qA : FVec Ideal S128x1 .f32 := k0_pay21 (F := Ideal) (k0_pay20 (word i) (k0_pay4 x0) (k0_pay5 x1) (k0_pay6 x3) (k0_pay8 x5))
/-- The first head's gradients of the probabilities. -/
abbrev gA : FVec Ideal S128x1024 .f32 := k0_pay28 (F := Ideal) x2 x7 k0_pay12
/-- Their sums against the weights. -/
abbrev tA : FVec Ideal S128x1 .f32 := k0_pay30 (F := Ideal) x2 x7 k0_pay12 (eA i x0 x1 x3 x5)
/-- The gradients of the second head's scores, before the weights and the mask. -/
abbrev sB : FVec Ideal S128x1024 .f32 := k0_pay27 (F := Ideal) x2 x7 k0_pay12 (eB i x0 x1 x4 x6)

theorem eA_apply (r : Fin 128) (k : Fin 1024) : eA i x0 x1 x3 x5 (ix2 r k) = (rowA i x0 x1 x2 x3 x5 x7 r).wt k := by
  pointwise [k0_pay16, k0_pay14, k0_pay4, k0_pay5, k0_pay6, k0_pay8, first, seen, mask_value, word_neg_inf, zero_mul, Finset.sum_const_zero, zero_add, add_zero]
  rfl

theorem eB_apply (r : Fin 128) (k : Fin 1024) : eB i x0 x1 x4 x6 (ix2 r k) = (rowB i x0 x1 x2 x4 x6 x7 r).wt k := by
  pointwise [k0_pay17, k0_pay15, k0_pay4, k0_pay5, k0_pay7, k0_pay9, first, seen, mask_value, word_neg_inf, zero_mul, Finset.sum_const_zero, zero_add, add_zero]
  rfl

theorem rA_apply (r : Fin 128) (u : Fin 1) : rA i x0 x1 x3 x5 (ix2 r u) = recip (rowA i x0 x1 x2 x3 x5 x7 r).tot := by
  pointwise [k0_pay19, k0_pay18, eA_apply i x0 x1 x2 x3 x5 x7]
  rfl

theorem qA_apply (r : Fin 128) (u : Fin 1) : qA i x0 x1 x3 x5 (ix2 r u)
    = recip ((rowA i x0 x1 x2 x3 x5 x7 r).tot * (rowA i x0 x1 x2 x3 x5 x7 r).tot) := by
  pointwise [k0_pay21, k0_pay20, k0_pay18, eA_apply i x0 x1 x2 x3 x5 x7]
  rfl

theorem rB_apply (r : Fin 128) (u : Fin 1) : k0_pay23 (F := Ideal) (eB i x0 x1 x4 x6) (ix2 r u) = recip (rowB i x0 x1 x2 x4 x6 x7 r).tot := by
  pointwise [k0_pay23, k0_pay22, eB_apply i x0 x1 x2 x4 x6 x7]
  rfl

theorem gA_apply (r : Fin 128) (k : Fin 1024) : gA x2 x7 (ix2 r k) = (rowA i x0 x1 x2 x3 x5 x7 r).dprob k := by
  pointwise [k0_pay28, k0_pay26, k0_pay24, first, zero_mul, Finset.sum_const_zero, zero_add, add_zero]
  rfl

theorem tA_apply (r : Fin 128) (u : Fin 1) : tA i x0 x1 x2 x3 x5 x7 (ix2 r u)
    = ∑ k, (rowA i x0 x1 x2 x3 x5 x7 r).wt k * (rowA i x0 x1 x2 x3 x5 x7 r).dprob k := by
  pointwise [k0_pay30, eA_apply i x0 x1 x2 x3 x5 x7, gA_apply i x0 x1 x2 x3 x5 x7]

/-! ## The gradients of the scores -/

/-- The gradients of the first head's scores. -/
abbrev mA : FVec Ideal S128x1024 .f32 :=
  k0_pay34 (F := Ideal) (k0_pay13 (word i)) (eA i x0 x1 x3 x5) (rA i x0 x1 x3 x5) (qA i x0 x1 x3 x5) (gA x2 x7) (tA i x0 x1 x2 x3 x5 x7)
/-- The gradients of the second head's scores. -/
abbrev mB : FVec Ideal S128x1024 .f32 := k0_pay31 (F := Ideal) (k0_pay13 (word i)) (eB i x0 x1 x4 x6) (sB i x0 x1 x2 x4 x6 x7)

theorem mA_apply (r : Fin 128) (k : Fin 1024) : mA i x0 x1 x2 x3 x5 x7 (ix2 r k) = (rowA i x0 x1 x2 x3 x5 x7 r).slope k := by
  pointwise [k0_pay34, seen, eA_apply i x0 x1 x2 x3 x5 x7, rA_apply i x0 x1 x2 x3 x5 x7, qA_apply i x0 x1 x2 x3 x5 x7,
    gA_apply i x0 x1 x2 x3 x5 x7, tA_apply i x0 x1 x2 x3 x5 x7]
  simp only [Finset.univ_unique, Finset.sum_singleton]
  rfl

theorem mB_apply (r : Fin 128) (k : Fin 1024) : mB i x0 x1 x2 x4 x6 x7 (ix2 r k) = (rowB i x0 x1 x2 x4 x6 x7 r).slope k := by
  pointwise [k0_pay31, k0_pay27, k0_pay25, k0_pay24, k0_pay22, first, seen, eB_apply i x0 x1 x2 x4 x6 x7, rB_apply i x0 x1 x2 x4 x6 x7]
  simp only [zero_mul, mul_zero, Finset.sum_const_zero, zero_add, add_zero, Finset.univ_unique, Finset.sum_singleton]
  rfl

/-! ## What the point adds, and its block of the query gradient -/

/-- The part of the values' gradient this point adds. -/
abbrev vPart : FVec Ideal S1024x128 .f32 := k0_pay29 (F := Ideal) x7 k0_pay12 (eA i x0 x1 x3 x5) (eB i x0 x1 x4 x6) (rA i x0 x1 x3 x5)

theorem vPart_A (k : Fin 1024) (d : Fin 64) : vPart i x0 x1 x3 x4 x5 x6 x7 (ix2 k (laneA d))
    = ∑ r, (rowA i x0 x1 x2 x3 x5 x7 r).prob k * (rowA i x0 x1 x2 x3 x5 x7 r).dy d := by
  pointwise [k0_pay29, k0_pay25, k0_pay26, k0_pay24, first, eA_apply i x0 x1 x2 x3 x5 x7, rA_apply i x0 x1 x2 x3 x5 x7, laneA]
  simp only [zero_mul, mul_zero, Finset.sum_const_zero, zero_add, add_zero, Finset.univ_unique, Finset.sum_singleton]
  rfl

theorem vPart_B (k : Fin 1024) (d : Fin 64) : vPart i x0 x1 x3 x4 x5 x6 x7 (ix2 k (laneB d))
    = ∑ r, (rowB i x0 x1 x2 x4 x6 x7 r).prob k * (rowB i x0 x1 x2 x4 x6 x7 r).dy d := by
  pointwise [k0_pay29, k0_pay25, k0_pay26, k0_pay24, first, eB_apply i x0 x1 x2 x4 x6 x7, rB_apply i x0 x1 x2 x4 x6 x7, laneB]
  simp only [zero_mul, mul_zero, Finset.sum_const_zero, zero_add, add_zero, Finset.univ_unique, Finset.sum_singleton]
  rfl

/-- The part of the keys' gradient this point adds. -/
abbrev kPart : FVec Ideal S1024x128 .f32 :=
  k0_pay38 (F := Ideal) (k0_pay13 (word i)) (k0_pay14 (k0_pay4 x0)) (k0_pay15 (k0_pay4 x0)) (eA i x0 x1 x3 x5) (eB i x0 x1 x4 x6)
    (rA i x0 x1 x3 x5) (qA i x0 x1 x3 x5) (sB i x0 x1 x2 x4 x6 x7) (gA x2 x7) (tA i x0 x1 x2 x3 x5 x7)

theorem kPart_A (k : Fin 1024) (d : Fin 64) : kPart i x0 x1 x2 x3 x4 x5 x6 x7 (ix2 k (laneA d))
    = ∑ r, (rowA i x0 x1 x2 x3 x5 x7 r).slope k * (rowA i x0 x1 x2 x3 x5 x7 r).q d := by
  pointwise [k0_pay38, k0_pay14, k0_pay15, k0_pay4, first, mA_apply i x0 x1 x2 x3 x5 x7, mB_apply i x0 x1 x2 x4 x6 x7, laneA]
  simp only [zero_mul, mul_zero, Finset.sum_const_zero, zero_add, add_zero, Finset.univ_unique, Finset.sum_singleton]
  rfl

theorem kPart_B (k : Fin 1024) (d : Fin 64) : kPart i x0 x1 x2 x3 x4 x5 x6 x7 (ix2 k (laneB d))
    = ∑ r, (rowB i x0 x1 x2 x4 x6 x7 r).slope k * (rowB i x0 x1 x2 x4 x6 x7 r).q d := by
  pointwise [k0_pay38, k0_pay14, k0_pay15, k0_pay4, first, mA_apply i x0 x1 x2 x3 x5 x7, mB_apply i x0 x1 x2 x4 x6 x7, laneB]
  simp only [zero_mul, mul_zero, Finset.sum_const_zero, zero_add, add_zero, Finset.univ_unique, Finset.sum_singleton]
  rfl

/-- The point's block of the queries' gradient. -/
abbrev qBlk : FVec Ideal S128x128 .f32 :=
  k0_pay40 (F := Ideal) k0_pay12
    (k0_pay37 (k0_pay5 x1) (k0_pay13 (word i)) (eA i x0 x1 x3 x5) (rA i x0 x1 x3 x5) (qA i x0 x1 x3 x5) (gA x2 x7) (tA i x0 x1 x2 x3 x5 x7))
    (k0_pay39 (k0_pay5 x1) k0_pay12 (k0_pay13 (word i)) (eB i x0 x1 x4 x6) (sB i x0 x1 x2 x4 x6 x7))

theorem qBlk_A (r : Fin 128) (d : Fin 64) : qBlk i x0 x1 x2 x3 x4 x5 x6 x7 (ix2 r (laneA d))
    = ∑ k, (rowA i x0 x1 x2 x3 x5 x7 r).slope k * (rowA i x0 x1 x2 x3 x5 x7 r).key k d := by
  pointwise [k0_pay40, k0_pay39, k0_pay37, k0_pay5, first, mA_apply i x0 x1 x2 x3 x5 x7, mB_apply i x0 x1 x2 x4 x6 x7, laneA]
  rfl

theorem qBlk_B (r : Fin 128) (d : Fin 64) : qBlk i x0 x1 x2 x3 x4 x5 x6 x7 (ix2 r (laneB d))
    = ∑ k, (rowB i x0 x1 x2 x4 x6 x7 r).slope k * (rowB i x0 x1 x2 x4 x6 x7 r).key k d := by
  pointwise [k0_pay40, k0_pay39, k0_pay37, k0_pay5, first, mA_apply i x0 x1 x2 x3 x5 x7, mB_apply i x0 x1 x2 x4 x6 x7, laneB]
  rfl

/-- The first head's block of the gradient of the queries' decays. -/
abbrev cqA : FVec Ideal S1x128x1 .f32 := k0_pay46 (F := Ideal) (k0_pay36 (k0_pay13 (word i)) (eA i x0 x1 x3 x5) (rA i x0 x1 x3 x5)
  (qA i x0 x1 x3 x5) (gA x2 x7) (tA i x0 x1 x2 x3 x5 x7))
/-- The second head's. -/
abbrev cqB : FVec Ideal S1x128x1 .f32 := k0_pay47 (F := Ideal) (k0_pay33 (k0_pay13 (word i)) (eB i x0 x1 x4 x6) (sB i x0 x1 x2 x4 x6 x7))

theorem cqA_apply (r : Fin 128) : cqA i x0 x1 x2 x3 x5 x7 (ix3 0 r 0) = ∑ k, (rowA i x0 x1 x2 x3 x5 x7 r).slope k := by
  pointwise [k0_pay46, k0_pay36, mA_apply i x0 x1 x2 x3 x5 x7]

theorem cqB_apply (r : Fin 128) : cqB i x0 x1 x2 x4 x6 x7 (ix3 0 r 0) = ∑ k, (rowB i x0 x1 x2 x4 x6 x7 r).slope k := by
  pointwise [k0_pay47, k0_pay33, mB_apply i x0 x1 x2 x4 x6 x7]

/-- The part of the gradient of the first head's key decays this point adds. -/
abbrev ckA : FVec Ideal S1x1024 .f32 := k0_pay35 (F := Ideal) (k0_pay13 (word i)) (eA i x0 x1 x3 x5) (rA i x0 x1 x3 x5)
  (qA i x0 x1 x3 x5) (gA x2 x7) (tA i x0 x1 x2 x3 x5 x7)
/-- The second head's. -/
abbrev ckB : FVec Ideal S1x1024 .f32 := k0_pay32 (F := Ideal) (k0_pay13 (word i)) (eB i x0 x1 x4 x6) (sB i x0 x1 x2 x4 x6 x7)

theorem ckA_apply (k : Fin 1024) : ckA i x0 x1 x2 x3 x5 x7 (ix2 0 k) = ∑ r, (0 - (rowA i x0 x1 x2 x3 x5 x7 r).slope k) := by
  pointwise [k0_pay35, mA_apply i x0 x1 x2 x3 x5 x7]

theorem ckB_apply (k : Fin 1024) : ckB i x0 x1 x2 x4 x6 x7 (ix2 0 k) = ∑ r, (0 - (rowB i x0 x1 x2 x4 x6 x7 r).slope k) := by
  pointwise [k0_pay32, mB_apply i x0 x1 x2 x4 x6 x7]

/-! ## The first visit adds the running sum -/

theorem with_sum_k (z v : FVec Ideal S1024x128 .f32) (j : S1024x128.Idx) :
    k0_pay41 (F := Ideal) (Scalar.cmpi .eq (word i) 0#32) z v j = v j + if (i 1).val = 0 then z j else 0 := by
  have h : (i 1).val < 4 := (i 1).isLt
  rw [k0_pay41, select_first (by omega)]
  split <;> pointwise []

theorem with_sum_v (z v : FVec Ideal S1024x128 .f32) (j : S1024x128.Idx) :
    k0_pay42 (F := Ideal) (Scalar.cmpi .eq (word i) 0#32) z v j = v j + if (i 1).val = 0 then z j else 0 := by
  have h : (i 1).val < 4 := (i 1).isLt
  rw [k0_pay42, select_first (by omega)]
  split <;> pointwise []

theorem with_sum_ckA (z : FVec Ideal S1x1x1024 .f32) (v : FVec Ideal S1x1024 .f32) (k : Fin 1024) :
    k0_pay48 (F := Ideal) (Scalar.cmpi .eq (word i) 0#32) (k0_pay10 z) v (ix3 0 0 k)
      = v (ix2 0 k) + if (i 1).val = 0 then z (ix3 0 0 k) else 0 := by
  have h : (i 1).val < 4 := (i 1).isLt
  rw [k0_pay48, select_first (by omega)]
  split <;> pointwise [k0_pay10]

theorem with_sum_ckB (z : FVec Ideal S1x1x1024 .f32) (v : FVec Ideal S1x1024 .f32) (k : Fin 1024) :
    k0_pay43 (F := Ideal) (Scalar.cmpi .eq (word i) 0#32) (k0_pay11 z) v (ix2 0 k)
      = v (ix2 0 k) + if (i 1).val = 0 then z (ix3 0 0 k) else 0 := by
  have h : (i 1).val < 4 := (i 1).isLt
  rw [k0_pay43, select_first (by omega)]
  split <;> pointwise [k0_pay11]

end Cert.Back1

end
-- ==== Proof.Back1Array.lean ====
module

public import proofs.«01_k».proof.Proof.Gen.Kernel33Ideal.Value
public import proofs.«01_k».proof.Proof.Back1Block
public import Idealize.ShloMosaic.Lib.Pipeline.ValueKit

/-!
# What the gradient of queries 512 to 1023 leaves in its seven results

Grid point `t` works on the heads `2 p` and `2 p + 1`, `p = t / 4`, and on query block `t % 4`. The gradients of the
queries are written once per point; those of the keys, of the values and of the keys' decays gather the four query
blocks of their two heads on top of the running sums.
-/

@[expose] public section

set_option maxRecDepth 16384

noncomputable section

namespace Cert.Back1

open Cert.Kernel33Ideal Cert.Kernel33Ideal.Gen Cert.Fox
open Idealize.ShloMosaic Idealize.ShloMosaic.TcCoe Idealize.SL.Sem

variable (m : (ℓ : Loc nD τ sig) → Buf (Elt Ideal) ℓ)

theorem idx0 : ∀ t : Fin cfg0.N, win0_0.index t = ![4 + t.val % 4, t.val / 4] := (by decide +kernel : ∀ t : Fin grid0.N, _)
theorem idx1 : ∀ t : Fin cfg0.N, win0_1.index t = ![0, t.val / 4] := (by decide +kernel : ∀ t : Fin grid0.N, _)
theorem idx2 : ∀ t : Fin cfg0.N, win0_2.index t = ![0, 8 + t.val / 4] := (by decide +kernel : ∀ t : Fin grid0.N, _)
theorem idx3 : ∀ t : Fin cfg0.N, win0_3.index t = ![2 * (t.val / 4), 4 + t.val % 4, 0] := (by decide +kernel : ∀ t : Fin grid0.N, _)
theorem idx4 : ∀ t : Fin cfg0.N, win0_4.index t = ![2 * (t.val / 4) + 1, 4 + t.val % 4, 0] := (by decide +kernel : ∀ t : Fin grid0.N, _)
theorem idx5 : ∀ t : Fin cfg0.N, win0_5.index t = ![2 * (t.val / 4), 0, 0] := (by decide +kernel : ∀ t : Fin grid0.N, _)
theorem idx6 : ∀ t : Fin cfg0.N, win0_6.index t = ![2 * (t.val / 4) + 1, 0, 0] := (by decide +kernel : ∀ t : Fin grid0.N, _)
theorem idx7 : ∀ t : Fin cfg0.N, win0_7.index t = ![4 + t.val % 4, t.val / 4] := (by decide +kernel : ∀ t : Fin grid0.N, _)
theorem idx8 : ∀ t : Fin cfg0.N, win0_8.index t = ![0, t.val / 4] := (by decide +kernel : ∀ t : Fin grid0.N, _)
theorem idx9 : ∀ t : Fin cfg0.N, win0_9.index t = ![0, t.val / 4] := (by decide +kernel : ∀ t : Fin grid0.N, _)
theorem idx10 : ∀ t : Fin cfg0.N, win0_10.index t = ![t.val / 4, 0, 0] := (by decide +kernel : ∀ t : Fin grid0.N, _)
theorem idx11 : ∀ t : Fin cfg0.N, win0_11.index t = ![t.val / 4, 0, 0] := (by decide +kernel : ∀ t : Fin grid0.N, _)
theorem idx12 : ∀ t : Fin cfg0.N, win0_12.index t = ![t.val % 4, t.val / 4] := (by decide +kernel : ∀ t : Fin grid0.N, _)
theorem idx13 : ∀ t : Fin cfg0.N, win0_13.index t = ![0, t.val / 4] := (by decide +kernel : ∀ t : Fin grid0.N, _)
theorem idx14 : ∀ t : Fin cfg0.N, win0_14.index t = ![0, t.val / 4] := (by decide +kernel : ∀ t : Fin grid0.N, _)
theorem idx15 : ∀ t : Fin cfg0.N, win0_15.index t = ![t.val / 4, t.val % 4, 0] := (by decide +kernel : ∀ t : Fin grid0.N, _)
theorem idx16 : ∀ t : Fin cfg0.N, win0_16.index t = ![t.val / 4, t.val % 4, 0] := (by decide +kernel : ∀ t : Fin grid0.N, _)
theorem idx17 : ∀ t : Fin cfg0.N, win0_17.index t = ![t.val / 4, 0, 0] := (by decide +kernel : ∀ t : Fin grid0.N, _)
theorem idx18 : ∀ t : Fin cfg0.N, win0_18.index t = ![t.val / 4, 0, 0] := (by decide +kernel : ∀ t : Fin grid0.N, _)
theorem coord : ∀ t : Fin cfg0.N, (grid0.coords t 1).val = t.val % 4 := (by decide +kernel : ∀ t : Fin grid0.N, _)
theorem pts (t : Fin cfg0.N) : t.val < 16 := lt_of_lt_of_eq t.isLt (by decide +kernel)

/-- Point `t` of the sixteen. -/
abbrev at16 (t : Fin 16) : Fin cfg0.N := ⟨t.val, lt_of_lt_of_eq t.isLt (by decide +kernel)⟩

/-- The group's rows, from the first six arguments. -/
abbrev group (x0 x1 : FVec Ideal S2048x512 .bf16) (x2 : FVec Ideal S2048x8192 .f32) (x3 : FVec Ideal S8x2048x1 .f32)
    (x4 : FVec Ideal S8x1x2048 .f32) (x5 : FVec Ideal S2048x512 .f32) : Group 1024 :=
  groupOf 1024 512 (by omega) (by omega) (fun i l => x0 (ix2 i l)) (fun i l => x1 (ix2 i l)) (fun i l => x2 (ix2 i l))
    (fun h i => x3 (ix3 h i 0)) (fun h i => x4 (ix3 h 0 i)) (fun i l => x5 (ix2 i l))

/-- The group's rows, from the kernel's memory. -/
abbrev held (c : Dev nD) : Group 1024 :=
  group (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- The running sum of the keys' gradients. -/
abbrev sumK (c : Dev nD) : FVec Ideal S1536x512 .f32 := m ((c : Thread nD τ).loc main_arg6)
/-- The running sum of the values' gradients. -/
abbrev sumV (c : Dev nD) : FVec Ideal S1536x512 .f32 := m ((c : Thread nD τ).loc main_arg7)
/-- The running sum of the even heads' key-decay gradients. -/
abbrev sumA (c : Dev nD) : FVec Ideal S4x1x1536 .f32 := m ((c : Thread nD τ).loc main_arg8)
/-- The running sum of the odd heads' key-decay gradients. -/
abbrev sumB (c : Dev nD) : FVec Ideal S4x1x1536 .f32 := m ((c : Thread nD τ).loc main_arg9)

/-- The keys' result: the running sum and the group's gradient. -/
def outK (c : Dev nD) (k : Fin 1024) (l : Fin 512) : EReal := sumK m c (ix2 ⟨k.val, by omega⟩ l) + Grad.k (held m c) k l
/-- The values' result. -/
def outV (c : Dev nD) (k : Fin 1024) (l : Fin 512) : EReal := sumV m c (ix2 ⟨k.val, by omega⟩ l) + Grad.v (held m c) k l
/-- The result for the key decays of the even heads. -/
def outA (c : Dev nD) (p : Fin 4) (k : Fin 1024) : EReal := sumA m c (ix3 p 0 ⟨k.val, by omega⟩) + Grad.ck (held m c) (even p) k
/-- The result for the key decays of the odd heads. -/
def outB (c : Dev nD) (p : Fin 4) (k : Fin 1024) : EReal := sumB m c (ix3 p 0 ⟨k.val, by omega⟩) + Grad.ck (held m c) (odd p) k

/-! ## The rows of a point's blocks -/

abbrev bA (c : Dev nD) (t : Fin cfg0.N) (r : Fin 128) : Row 1024 :=
  rowA (grid0.coords t) (iblk m c 0 t) (iblk m c 1 t) (iblk m c 2 t) (iblk m c 3 t) (iblk m c 5 t) (iblk m c 7 t) r
abbrev bB (c : Dev nD) (t : Fin cfg0.N) (r : Fin 128) : Row 1024 :=
  rowB (grid0.coords t) (iblk m c 0 t) (iblk m c 1 t) (iblk m c 2 t) (iblk m c 4 t) (iblk m c 6 t) (iblk m c 7 t) r

theorem row_A (c : Dev nD) (t : Fin cfg0.N) (r : Fin 128) :
    bA m c t r = held m c (pairA ⟨t.val, pts t⟩) (query ⟨t.val, pts t⟩ r) := by
  have ht := pts t
  have hc := coord t
  refine Row.ext ?_ ?_ ?_ ?_ ?_ ?_ ?_
  · funext d
    simp only [blockRow, groupOf, pairA, query, lane512, laneA]
    blk_ext [iblk, V, idx0 t]
  · simp only [blockRow, groupOf, pairA, query]
    blk_ext [iblk, V, idx3 t]
  · simp only [blockRow, groupOf, query]; omega
  · funext d
    simp only [blockRow, groupOf, pairA, query, lane512, laneA]
    blk_ext [iblk, V, idx7 t]
  · funext k d
    simp only [blockRow, groupOf, pairA, lane512, laneA]
    blk_ext [iblk, V, idx1 t]
  · funext k
    simp only [blockRow, groupOf, pairA]
    blk_ext [iblk, V, idx5 t]
  · funext k d
    simp only [blockRow, groupOf, pairA, lane512, laneA]
    blk_ext [iblk, V, idx2 t]

theorem row_B (c : Dev nD) (t : Fin cfg0.N) (r : Fin 128) :
    bB m c t r = held m c (pairB ⟨t.val, pts t⟩) (query ⟨t.val, pts t⟩ r) := by
  have ht := pts t
  have hc := coord t
  refine Row.ext ?_ ?_ ?_ ?_ ?_ ?_ ?_
  · funext d
    simp only [blockRow, groupOf, pairB, query, lane512, laneB]
    blk_ext [iblk, V, idx0 t]
  · simp only [blockRow, groupOf, pairB, query]
    blk_ext [iblk, V, idx4 t]
  · simp only [blockRow, groupOf, query]; omega
  · funext d
    simp only [blockRow, groupOf, pairB, query, lane512, laneB]
    blk_ext [iblk, V, idx7 t]
  · funext k d
    simp only [blockRow, groupOf, pairB, lane512, laneB]
    blk_ext [iblk, V, idx1 t]
  · funext k
    simp only [blockRow, groupOf, pairB]
    blk_ext [iblk, V, idx6 t]
  · funext k d
    simp only [blockRow, groupOf, pairB, lane512, laneB]
    blk_ext [iblk, V, idx2 t]

theorem firstPt {t : Fin cfg0.N} (h : t.val % 4 = 0) : ¬ 1 ≤ t.val % 4 := by omega
theorem laterPt {t : Fin cfg0.N} (h : ¬ t.val % 4 = 0) : 1 ≤ t.val % 4 := by omega

/-! ## The keys -/

/-- What point `t` adds to its heads' key gradients. -/
def kTerm (c : Dev nD) (t : Fin cfg0.N) : FVec Ideal S1024x128 .f32 :=
  k0_pay41 (F := Ideal) (Scalar.cmpi .eq (word (grid0.coords t)) 0#32) (X0_8 m c t)
    (kPart (grid0.coords t) (iblk m c 0 t) (iblk m c 1 t) (iblk m c 2 t) (iblk m c 3 t) (iblk m c 4 t) (iblk m c 5 t) (iblk m c 6 t) (iblk m c 7 t))

theorem read_k (c : Dev nD) (t : Fin cfg0.N) (k : Fin 1024) (l : Fin 128) :
    X0_8 m c t (ix2 k l) = sumK m c (ix2 ⟨k.val, by omega⟩ (lane ⟨t.val, pts t⟩ l)) := by
  have ht := pts t
  simp only [lane]
  rw [X0_8, Pipeline.Window.fill, dif_pos (moved0_8 t _)]
  blk_ext [iblk, V, idx8 t]

theorem sum_k (c : Dev nD) (t : Fin 16) (k : Fin 1024) (l : Fin 128) :
    ∑ s, kTerm m c (at16 (blockPt t s)) (ix2 k l)
      = outK m c k (lane t l) := by
  refine gather_heads (fun h r d => (held m c h r).slope k * (held m c h r).q d) (fun l => sumK m c (ix2 ⟨k.val, by omega⟩ l))
    (fun t l => kTerm m c (at16 t) (ix2 k l)) (fun t d => ?_) (fun t d => ?_) t l
  · rw [kTerm, with_sum_k, kPart_A, coord, read_k]
    simp only [row_A]
  · rw [kTerm, with_sum_k, kPart_B, coord, read_k]
    simp only [row_B]

theorem arr_k (c : Dev nD) : (dats m 0 c).arrAt 13 cfg0.N = fun y : S1024x512.Idx => outK m c (y 0) (y 1) := by
  refine (dats m 0 c).arrAt_eq_of_covers 13 _ (by decide +kernel) fun t hf y => ?_
  blk_simp
  rw [after0_13, Pipeline.eq_sum_fin_of_reset_step_apply_of_flush (fun n h => (outsAt0 m c n h).2.1) 4 (fun _ => 0) (kTerm m c)
    (fun t h j => by rw [outsAt0_A m c t h (firstPt h) h (firstPt h) h (firstPt h) h (firstPt h)]; frame_out; exact (zero_add _).symm)
    (fun t h j => by rw [outsAt0_B m c t h (laterPt h) h (laterPt h) h (laterPt h) h (laterPt h)]; frame_out; pointwise [k0_pay44]; rfl)
    t ((flush0_13 t).mp hf) _, zero_add]
  have ht := pts t
  have hb := idx13 t
  obtain ⟨k, l, rfl⟩ : ∃ k l, y = ix2 k l := ⟨y 0, y 1, eq_ix2 y⟩
  have h0 : (win0_13.blk t).view.emb (ix2 k l) 0 = (k : Fin 1024) := by
    apply Fin.ext; blk_simp [hb]
  have h1 : (win0_13.blk t).view.emb (ix2 k l) 1 = (lane ⟨t.val, ht⟩ l : Fin 512) := by
    apply Fin.ext; blk_simp [hb, lane]
  refine (sum_k m c ⟨t.val, ht⟩ k l).trans ?_
  exact congrArg₂ (outK m c) h0.symm h1.symm

/-! ## The values -/

/-- What point `t` adds to its heads' value gradients. -/
def vTerm (c : Dev nD) (t : Fin cfg0.N) : FVec Ideal S1024x128 .f32 :=
  k0_pay42 (F := Ideal) (Scalar.cmpi .eq (word (grid0.coords t)) 0#32) (X0_9 m c t)
    (vPart (grid0.coords t) (iblk m c 0 t) (iblk m c 1 t) (iblk m c 3 t) (iblk m c 4 t) (iblk m c 5 t) (iblk m c 6 t) (iblk m c 7 t))

theorem read_v (c : Dev nD) (t : Fin cfg0.N) (k : Fin 1024) (l : Fin 128) :
    X0_9 m c t (ix2 k l) = sumV m c (ix2 ⟨k.val, by omega⟩ (lane ⟨t.val, pts t⟩ l)) := by
  have ht := pts t
  simp only [lane]
  rw [X0_9, Pipeline.Window.fill, dif_pos (moved0_9 t _)]
  blk_ext [iblk, V, idx9 t]

theorem sum_v (c : Dev nD) (t : Fin 16) (k : Fin 1024) (l : Fin 128) :
    ∑ s, vTerm m c (at16 (blockPt t s)) (ix2 k l)
      = outV m c k (lane t l) := by
  refine gather_heads (fun h r d => (held m c h r).prob k * (held m c h r).dy d) (fun l => sumV m c (ix2 ⟨k.val, by omega⟩ l))
    (fun t l => vTerm m c (at16 t) (ix2 k l)) (fun t d => ?_) (fun t d => ?_) t l
  · rw [vTerm, with_sum_v, vPart_A _ _ _ (iblk m c 2 (at16 t)), coord, read_v]
    simp only [row_A]
  · rw [vTerm, with_sum_v, vPart_B _ _ _ (iblk m c 2 (at16 t)), coord, read_v]
    simp only [row_B]

theorem arr_v (c : Dev nD) : (dats m 0 c).arrAt 14 cfg0.N = fun y : S1024x512.Idx => outV m c (y 0) (y 1) := by
  refine (dats m 0 c).arrAt_eq_of_covers 14 _ (by decide +kernel) fun t hf y => ?_
  blk_simp
  rw [after0_14, Pipeline.eq_sum_fin_of_reset_step_apply_of_flush (fun n h => (outsAt0 m c n h).2.2.1) 4 (fun _ => 0) (vTerm m c)
    (fun t h j => by rw [outsAt0_A m c t h (firstPt h) h (firstPt h) h (firstPt h) h (firstPt h)]; frame_out; exact (zero_add _).symm)
    (fun t h j => by rw [outsAt0_B m c t h (laterPt h) h (laterPt h) h (laterPt h) h (laterPt h)]; frame_out; pointwise [k0_pay45]; rfl)
    t ((flush0_14 t).mp hf) _, zero_add]
  have ht := pts t
  have hb := idx14 t
  obtain ⟨k, l, rfl⟩ : ∃ k l, y = ix2 k l := ⟨y 0, y 1, eq_ix2 y⟩
  have h0 : (win0_14.blk t).view.emb (ix2 k l) 0 = (k : Fin 1024) := by
    apply Fin.ext; blk_simp [hb]
  have h1 : (win0_14.blk t).view.emb (ix2 k l) 1 = (lane ⟨t.val, ht⟩ l : Fin 512) := by
    apply Fin.ext; blk_simp [hb, lane]
  refine (sum_v m c ⟨t.val, ht⟩ k l).trans ?_
  exact congrArg₂ (outV m c) h0.symm h1.symm

/-! ## The keys' decays -/

/-- What point `t` adds to its first head's key-decay gradients. -/
def aTerm (c : Dev nD) (t : Fin cfg0.N) : FVec Ideal S1x1x1024 .f32 :=
  k0_pay48 (F := Ideal) (Scalar.cmpi .eq (word (grid0.coords t)) 0#32) (k0_pay10 (X0_10 m c t))
    (ckA (grid0.coords t) (iblk m c 0 t) (iblk m c 1 t) (iblk m c 2 t) (iblk m c 3 t) (iblk m c 5 t) (iblk m c 7 t))

/-- What point `t` adds to its second head's key-decay gradients. -/
def bTerm (c : Dev nD) (t : Fin cfg0.N) (y : S1x1x1024.Idx) : EReal :=
  k0_pay43 (F := Ideal) (Scalar.cmpi .eq (word (grid0.coords t)) 0#32) (k0_pay11 (X0_11 m c t))
    (ckB (grid0.coords t) (iblk m c 0 t) (iblk m c 1 t) (iblk m c 2 t) (iblk m c 4 t) (iblk m c 6 t) (iblk m c 7 t)) (ix2 0 (y 2 : Fin 1024))

/-- The pair of heads of point `t`. -/
abbrev pair (t : Fin 16) : Fin 4 := ⟨t.val / 4, by omega⟩

theorem read_a (c : Dev nD) (t : Fin cfg0.N) (k : Fin 1024) :
    X0_10 m c t (ix3 0 0 k) = sumA m c (ix3 (pair ⟨t.val, pts t⟩) 0 ⟨k.val, by omega⟩) := by
  have ht := pts t
  rw [X0_10, Pipeline.Window.fill, dif_pos (moved0_10 t _)]
  blk_ext [iblk, V, idx10 t]

theorem read_b (c : Dev nD) (t : Fin cfg0.N) (k : Fin 1024) :
    X0_11 m c t (ix3 0 0 k) = sumB m c (ix3 (pair ⟨t.val, pts t⟩) 0 ⟨k.val, by omega⟩) := by
  have ht := pts t
  rw [X0_11, Pipeline.Window.fill, dif_pos (moved0_11 t _)]
  blk_ext [iblk, V, idx11 t]

theorem sum_a (c : Dev nD) (t : Fin 16) (y : S1x1x1024.Idx) :
    ∑ s, aTerm m c (at16 (blockPt t s)) y = outA m c (pair t) (y 2) := by
  obtain ⟨k, rfl⟩ : ∃ k : Fin 1024, y = ix3 0 0 k := ⟨y 2, by rw [eq_ix3 y]; congr 1 <;> exact Subsingleton.elim _ _⟩
  have hp : ∀ t, (⟨(pairA t).val / 2, by omega⟩ : Fin 4) = pair t := fun t => Fin.ext (by simp only [pairA]; omega)
  refine (gather_decays pairA pairA_blockPt (fun h r => 0 - (held m c h r).slope k)
    (fun h => sumA m c (ix3 ⟨h.val / 2, by omega⟩ 0 ⟨k.val, by omega⟩)) (fun t => aTerm m c (at16 t) (ix3 0 0 k)) (fun t => ?_) t).trans ?_
  · rw [aTerm, with_sum_ckA, ckA_apply, coord, read_a]
    simp only [row_A, hp]
  · rw [hp]; rfl

theorem sum_b (c : Dev nD) (t : Fin 16) (y : S1x1x1024.Idx) :
    ∑ s, bTerm m c (at16 (blockPt t s)) y = outB m c (pair t) (y 2) := by
  obtain ⟨k, rfl⟩ : ∃ k : Fin 1024, y = ix3 0 0 k := ⟨y 2, by rw [eq_ix3 y]; congr 1 <;> exact Subsingleton.elim _ _⟩
  have hp : ∀ t, (⟨(pairB t).val / 2, by omega⟩ : Fin 4) = pair t := fun t => Fin.ext (by simp only [pairB]; omega)
  refine (gather_decays pairB pairB_blockPt (fun h r => 0 - (held m c h r).slope k)
    (fun h => sumB m c (ix3 ⟨h.val / 2, by omega⟩ 0 ⟨k.val, by omega⟩)) (fun t => bTerm m c (at16 t) (ix3 0 0 k)) (fun t => ?_) t).trans ?_
  · refine (with_sum_ckB _ _ _ k).trans ?_
    rw [ckB_apply, coord, read_b]
    simp only [row_B, hp]
  · rw [hp]; rfl

theorem arr_ckA (c : Dev nD) : (dats m 0 c).arrAt 17 cfg0.N = fun y : S4x1x1024.Idx => outA m c (y 0) (y 2) := by
  refine (dats m 0 c).arrAt_eq_of_covers 17 _ (by decide +kernel) fun t hf y => ?_
  blk_simp
  rw [after0_17, Pipeline.eq_sum_fin_of_reset_step_apply_of_flush (fun n h => (outsAt0 m c n h).2.2.2.2.2.1) 4 (fun _ => 0) (aTerm m c)
    (fun t h j => by rw [outsAt0_A m c t h (firstPt h) h (firstPt h) h (firstPt h) h (firstPt h)]; frame_out; exact (zero_add _).symm)
    (fun t h j => by rw [outsAt0_B m c t h (laterPt h) h (laterPt h) h (laterPt h) h (laterPt h)]; frame_out; pointwise [k0_pay1]; rfl)
    t ((flush0_17 t).mp hf) _, zero_add]
  have ht := pts t
  have hb := idx17 t
  have h0 : (win0_17.blk t).view.emb y 0 = (pair ⟨t.val, ht⟩ : Fin 4) := by
    apply Fin.ext; blk_simp [hb]
  have h1 : (win0_17.blk t).view.emb y 2 = (y 2 : Fin 1024) := by
    apply Fin.ext; blk_simp [hb]
  refine (sum_a m c ⟨t.val, ht⟩ y).trans ?_
  exact congrArg₂ (outA m c) h0.symm h1.symm

theorem arr_ckB (c : Dev nD) : (dats m 0 c).arrAt 18 cfg0.N = fun y : S4x1x1024.Idx => outB m c (y 0) (y 2) := by
  refine (dats m 0 c).arrAt_eq_of_covers 18 _ (by decide +kernel) fun t hf y => ?_
  blk_simp
  rw [after0_18, Pipeline.eq_sum_fin_of_reset_step_apply_of_flush (fun n h => (outsAt0 m c n h).2.2.2.2.2.2) 4 (fun _ => 0) (bTerm m c)
    (fun t h j => by rw [outsAt0_A m c t h (firstPt h) h (firstPt h) h (firstPt h) h (firstPt h)]; frame_out; idx_vars j; pointwise [k0_pay2, bTerm])
    (fun t h j => by rw [outsAt0_B m c t h (laterPt h) h (laterPt h) h (laterPt h) h (laterPt h)]; frame_out; idx_vars j; pointwise [k0_pay3, k0_pay2, bTerm])
    t ((flush0_18 t).mp hf) _, zero_add]
  have ht := pts t
  have hb := idx18 t
  have h0 : (win0_18.blk t).view.emb y 0 = (pair ⟨t.val, ht⟩ : Fin 4) := by
    apply Fin.ext; blk_simp [hb]
  have h1 : (win0_18.blk t).view.emb y 2 = (y 2 : Fin 1024) := by
    apply Fin.ext; blk_simp [hb]
  refine (sum_b m c ⟨t.val, ht⟩ y).trans ?_
  exact congrArg₂ (outB m c) h0.symm h1.symm

/-! ## The queries and their decays -/

theorem arr_q (c : Dev nD) : (dats m 0 c).arrAt 12 cfg0.N = fun y : S512x512.Idx => Grad.q (held m c) (y 0) (y 1) := by
  refine (dats m 0 c).arrAt_eq_of_covers 12 _ (by decide +kernel) fun t hf y => ?_
  blk_simp
  have ht := pts t
  have hb := idx12 t
  have h0 : (win0_12.blk t).view.emb y 0 = (query ⟨t.val, ht⟩ (y 0) : Fin 512) := by
    apply Fin.ext; blk_simp [hb, query]
  have h1 : (win0_12.blk t).view.emb y 1 = (lane ⟨t.val, ht⟩ (y 1) : Fin 512) := by
    apply Fin.ext; blk_simp [hb, lane]
  refine Eq.trans ?_ (congrArg₂ (Grad.q (held m c)) h0 h1).symm
  have hq : qBlk (grid0.coords t) (iblk m c 0 t) (iblk m c 1 t) (iblk m c 2 t) (iblk m c 3 t) (iblk m c 4 t) (iblk m c 5 t) (iblk m c 6 t) (iblk m c 7 t) y
      = Grad.q (held m c) (query ⟨t.val, ht⟩ (y 0)) (lane ⟨t.val, ht⟩ (y 1)) := by
    obtain ⟨r, l, rfl⟩ : ∃ r l, y = ix2 r l := ⟨y 0, y 1, eq_ix2 y⟩
    refine queries_of_heads (held m c) ⟨t.val, ht⟩ r (fun l => qBlk (grid0.coords t) (iblk m c 0 t) (iblk m c 1 t) (iblk m c 2 t)
      (iblk m c 3 t) (iblk m c 4 t) (iblk m c 5 t) (iblk m c 6 t) (iblk m c 7 t) (ix2 r l)) (fun d => ?_) (fun d => ?_) l
    · rw [← row_A]; exact qBlk_A _ _ _ _ _ _ _ _ _ r d
    · rw [← row_B]; exact qBlk_B _ _ _ _ _ _ _ _ _ r d
  refine Eq.trans ?_ hq
  rw [after0_12]
  by_cases h : t.val % 4 = 0
  · rw [outsAt0_A m c t h (firstPt h) h (firstPt h) h (firstPt h) h (firstPt h)]; frame_out
  · rw [outsAt0_B m c t h (laterPt h) h (laterPt h) h (laterPt h) h (laterPt h)]; frame_out

theorem arr_cqA (c : Dev nD) : (dats m 0 c).arrAt 15 cfg0.N = fun y : S4x512x1.Idx => Grad.cq (held m c) (even (y 0)) (y 1) := by
  refine (dats m 0 c).arrAt_eq_of_covers 15 _ (by decide +kernel) fun t hf y => ?_
  blk_simp
  have ht := pts t
  have hb := idx15 t
  have h0 : even ((win0_15.blk t).view.emb y 0) = pairA ⟨t.val, ht⟩ := by
    apply Fin.ext; simp only [even, pairA]; blk_simp [hb]
  have h1 : (win0_15.blk t).view.emb y 1 = (query ⟨t.val, ht⟩ (y 1) : Fin 512) := by
    apply Fin.ext; blk_simp [hb, query]
  refine Eq.trans ?_ (congrArg₂ (Grad.cq (held m c)) h0 h1).symm
  have hq : cqA (grid0.coords t) (iblk m c 0 t) (iblk m c 1 t) (iblk m c 2 t) (iblk m c 3 t) (iblk m c 5 t) (iblk m c 7 t) y
      = Grad.cq (held m c) (pairA ⟨t.val, ht⟩) (query ⟨t.val, ht⟩ (y 1)) := by
    idx_vars y
    show _ = Grad.cq (held m c) (pairA ⟨t.val, ht⟩) (query ⟨t.val, ht⟩ y1)
    rw [Grad.cq, ← row_A, Subsingleton.elim y0 0, Subsingleton.elim y2 0]
    exact cqA_apply _ _ _ _ _ _ _ y1
  refine Eq.trans ?_ hq
  rw [after0_15]
  by_cases h : t.val % 4 = 0
  · rw [outsAt0_A m c t h (firstPt h) h (firstPt h) h (firstPt h) h (firstPt h)]; frame_out
  · rw [outsAt0_B m c t h (laterPt h) h (laterPt h) h (laterPt h) h (laterPt h)]; frame_out

theorem arr_cqB (c : Dev nD) : (dats m 0 c).arrAt 16 cfg0.N = fun y : S4x512x1.Idx => Grad.cq (held m c) (odd (y 0)) (y 1) := by
  refine (dats m 0 c).arrAt_eq_of_covers 16 _ (by decide +kernel) fun t hf y => ?_
  blk_simp
  have ht := pts t
  have hb := idx16 t
  have h0 : odd ((win0_16.blk t).view.emb y 0) = pairB ⟨t.val, ht⟩ := by
    apply Fin.ext; simp only [odd, pairB]; blk_simp [hb]
  have h1 : (win0_16.blk t).view.emb y 1 = (query ⟨t.val, ht⟩ (y 1) : Fin 512) := by
    apply Fin.ext; blk_simp [hb, query]
  refine Eq.trans ?_ (congrArg₂ (Grad.cq (held m c)) h0 h1).symm
  have hq : cqB (grid0.coords t) (iblk m c 0 t) (iblk m c 1 t) (iblk m c 2 t) (iblk m c 4 t) (iblk m c 6 t) (iblk m c 7 t) y
      = Grad.cq (held m c) (pairB ⟨t.val, ht⟩) (query ⟨t.val, ht⟩ (y 1)) := by
    idx_vars y
    show _ = Grad.cq (held m c) (pairB ⟨t.val, ht⟩) (query ⟨t.val, ht⟩ y1)
    rw [Grad.cq, ← row_B, Subsingleton.elim y0 0, Subsingleton.elim y2 0]
    exact cqB_apply _ _ _ _ _ _ _ y1
  refine Eq.trans ?_ hq
  rw [after0_16]
  by_cases h : t.val % 4 = 0
  · rw [outsAt0_A m c t h (firstPt h) h (firstPt h) h (firstPt h) h (firstPt h)]; frame_out
  · rw [outsAt0_B m c t h (laterPt h) h (laterPt h) h (laterPt h) h (laterPt h)]; frame_out

end Cert.Back1

end
-- ==== Proof.Back1.lean ====
module

public import proofs.«01_k».proof.Defs
public import proofs.«01_k».proof.Proof.Back1Array
public import proofs.«01_k».proof.Proof.Gen.Reference33Ideal.Run
public import proofs.«01_k».proof.Proof.Gen.Reference33Ideal.Read
public import proofs.«01_k».proof.Proof.Gen.Pre_finite_sums_g1
public import proofs.«01_k».proof.Proof.Pre

/-!
# The gradient of queries 512 to 1023 is the reference's
-/

@[expose] public section

set_option maxRecDepth 16384

noncomputable section

namespace Cert.Back1

open Cert.Reference33Ideal Cert.Reference33Ideal.Read Cert.Fox
open Idealize.ShloMosaic Idealize.ShloMosaic.TcCoe Idealize.SL.Sem

section
variable (x0 x1 : FVec Ideal S2048x512 .bf16) (x2 : FVec Ideal S2048x8192 .f32) (x3 : FVec Ideal S8x2048x1 .f32)
  (x4 : FVec Ideal S8x1x2048 .f32) (x5 : FVec Ideal S2048x512 .f32)

/-- Query `r` of the group sees key `k`. -/
theorem ref_seen (r : Fin 512) (k : Fin 1024) (x y : EReal) :
    Scalar.select (val_main_v27 (F := Ideal) (ix2 r k)) x y = if k.val ≤ 512 + r.val then x else y := by
  pointwise [val_main_v27, val_main_v26, val_main_v25, val_main_v24, val_main_v23, val_main_v22, val_main_v21, val_main_v20, val_main_v19, val_main_c]
  have h1 : IntOp.addi 512#32 (BitVec.ofNat 32 r.val) = BitVec.ofNat 32 (512 + r.val) := by
    rw [BitVec.ofNat_add]; rfl
  rw [h1, select_sge (by omega) (by omega)]

theorem ref_score (h : Fin 8) (r : Fin 512) (k : Fin 1024) :
    val_main_v28_0 (F := Ideal) x0 x1 x3 x4 (ix3 h r k) = (group x0 x1 x2 x3 x4 x5 h r).score k := by
  pointwise [val_main_v28_0, val_main_v28_1, val_main_v18, val_main_v17, val_main_v16, val_main_v15, val_main_v14, val_main_v11, val_main_v10, val_main_v9, val_main_v8,
    val_main_v7, val_main_v6, val_main_v4, val_main_v3, val_main_v2, val_main_v1, val_main_call0_v2, val_main_call0_v0, val_main_cst, ref_seen, word_neg_inf]
  rfl

theorem ref_peak (h : Fin 8) (r : Fin 512) :
    val_main_v36 (F := Ideal) x0 x1 x3 x4 (ix2 h r) = (group x0 x1 x2 x3 x4 x5 h r).peak := by
  rw [val_main_v36_apply, val_main_v35_apply, val_main_v29]
  exact peak_of _ _ _ _ _ h r (fun _ => rfl) (ref_score x0 x1 x2 x3 x4 x5 h r)

theorem ref_wt (h : Fin 8) (r : Fin 512) (k : Fin 1024) :
    val_main_v49 (F := Ideal) x0 x1 x3 x4 (ix3 h r k) = (group x0 x1 x2 x3 x4 x5 h r).wt k := by
  pointwise [val_main_v49, val_main_v48, val_main_v47, val_main_v46, ref_score x0 x1 x2 x3 x4 x5, ref_peak x0 x1 x2 x3 x4 x5]
  rfl

theorem ref_tot (h : Fin 8) (r : Fin 512) :
    val_main_v50 (F := Ideal) x0 x1 x3 x4 (ix2 h r) = (group x0 x1 x2 x3 x4 x5 h r).tot := by
  pointwise [val_main_v50, ref_wt x0 x1 x2 x3 x4 x5, val_main_cst_8]
  rfl

theorem ref_prob (h : Fin 8) (r : Fin 512) (k : Fin 1024) (hR : (group x0 x1 x2 x3 x4 x5 h r).Real) :
    val_main_v53 (F := Ideal) x0 x1 x3 x4 (ix3 h r k) = (group x0 x1 x2 x3 x4 x5 h r).prob k := by
  pointwise [val_main_v53, val_main_v52, val_main_v51, ref_wt x0 x1 x2 x3 x4 x5, ref_tot x0 x1 x2 x3 x4 x5]
  exact Row.prob_eq hR k

theorem ref_dprob (h : Fin 8) (r : Fin 512) (k : Fin 1024) :
    val_main_v63 (F := Ideal) x2 x5 (ix3 h r k) = (group x0 x1 x2 x3 x4 x5 h r).dprob k := by
  pointwise [val_main_v63, val_main_v62, val_main_v61, val_main_v60, val_main_v13, val_main_v12, val_main_v5, val_main_v0]
  rfl

theorem ref_slope' (h : Fin 8) (r : Fin 512) (k : Fin 1024) (hR : (group x0 x1 x2 x3 x4 x5 h r).Real) :
    val_main_v77 (F := Ideal) x0 x1 x2 x3 x4 x5 (ix3 h r k) = (group x0 x1 x2 x3 x4 x5 h r).slope' k := by
  pointwise [val_main_v77, val_main_v76, val_main_v75, val_main_v74, val_main_v73, val_main_v72, val_main_v71, val_main_v70, val_main_v69, val_main_v68, val_main_v67, val_main_v66,
    val_main_v56, val_main_v55, val_main_v54, val_main_v51, val_main_cst_9, val_main_cst_10, val_main_cst_11,
    ref_wt x0 x1 x2 x3 x4 x5, ref_tot x0 x1 x2 x3 x4 x5, ref_dprob x0 x1 x2 x3 x4 x5]
  simp only [Finset.univ_unique, Finset.sum_singleton]
  exact Row.slope'_eq hR k

theorem ref_slope (h : Fin 8) (r : Fin 512) (k : Fin 1024) (hR : (group x0 x1 x2 x3 x4 x5 h r).Real) :
    val_main_v78 (F := Ideal) x0 x1 x2 x3 x4 x5 (ix3 h r k) = (group x0 x1 x2 x3 x4 x5 h r).slope k := by
  pointwise [val_main_v78, val_main_v28_1, ref_seen, ref_slope' x0 x1 x2 x3 x4 x5 h r k hR, val_main_call1_v0, val_main_call1_cst]
  rfl

variable (hR : Real (group x0 x1 x2 x3 x4 x5))
include hR

/-- The reference's query gradient. -/
theorem ref_q : val_main_v91 (F := Ideal) x0 x1 x2 x3 x4 x5 = fun y : S512x512.Idx => Grad.q (group x0 x1 x2 x3 x4 x5) (y 0) (y 1) := by
  funext y
  obtain ⟨r, c, rfl⟩ : ∃ r c, y = ix2 r c := ⟨y 0, y 1, eq_ix2 y⟩
  show _ = Grad.q (group x0 x1 x2 x3 x4 x5) r c
  pointwise [val_main_v91, val_main_v90, val_main_v85, val_main_v11, val_main_v10, val_main_v4, val_main_v3, ref_slope x0 x1 x2 x3 x4 x5 _ _ _ (hR _ _)]
  exact Finset.sum_congr rfl fun k _ => congrArg (fun l : Fin 512 => _ * x1 (ix2 ⟨k.val, by omega⟩ l)) (lane_head_sub c).symm

/-- Its key gradient, on top of the running sum. -/
theorem ref_k (x6 : FVec Ideal S1536x512 .f32) : val_main_v93 (F := Ideal) x0 x1 x2 x3 x4 x5 x6
    = fun y : S1024x512.Idx => x6 (ix2 ⟨(y 0).val, lt_of_lt_of_le (y 0).isLt (by decide)⟩ (y 1)) + Grad.k (group x0 x1 x2 x3 x4 x5) (y 0) (y 1) := by
  funext y
  obtain ⟨k, c, rfl⟩ : ∃ k c, y = ix2 k c := ⟨y 0, y 1, eq_ix2 y⟩
  show _ = x6 (ix2 ⟨k.val, by omega⟩ c) + Grad.k (group x0 x1 x2 x3 x4 x5) k c
  pointwise [val_main_v93, val_main_v92, val_main_v89, val_main_v88, val_main_v84, val_main_v9, val_main_v8, val_main_v2, val_main_v1, ref_slope x0 x1 x2 x3 x4 x5 _ _ _ (hR _ _)]
  refine congrArg (_ + ·) ?_
  exact Finset.sum_congr rfl fun r _ => congrArg (fun l : Fin 512 => _ * x0 (ix2 ⟨512 + r.val, by omega⟩ l)) (lane_head_sub c).symm

/-- Its value gradient, on top of the running sum. -/
theorem ref_v (x7 : FVec Ideal S1536x512 .f32) : val_main_v95 (F := Ideal) x0 x1 x3 x4 x5 x7
    = fun y : S1024x512.Idx => x7 (ix2 ⟨(y 0).val, lt_of_lt_of_le (y 0).isLt (by decide)⟩ (y 1)) + Grad.v (group x0 x1 x2 x3 x4 x5) (y 0) (y 1) := by
  funext y
  obtain ⟨k, c, rfl⟩ : ∃ k c, y = ix2 k c := ⟨y 0, y 1, eq_ix2 y⟩
  show _ = x7 (ix2 ⟨k.val, by omega⟩ c) + Grad.v (group x0 x1 x2 x3 x4 x5) k c
  pointwise [val_main_v95, val_main_v94, val_main_v87, val_main_v86, val_main_v65, val_main_v64, val_main_v62, val_main_v61, val_main_v60, ref_prob x0 x1 x2 x3 x4 x5 _ _ _ (hR _ _)]
  refine congrArg (_ + ·) ?_
  refine Finset.sum_congr rfl fun r _ => ?_
  rw [mul_comm]
  exact congrArg (fun l : Fin 512 => _ * x5 (ix2 ⟨512 + r.val, by omega⟩ l)) (lane_head_sub c).symm

/-- Its gradient of the even heads' query decays. -/
theorem ref_cqA : val_main_v96 (F := Ideal) x0 x1 x2 x3 x4 x5
    = fun y : S4x512x1.Idx => Grad.cq (group x0 x1 x2 x3 x4 x5) (even (y 0)) (y 1) := by
  funext y
  obtain ⟨p, r, u, rfl⟩ : ∃ p r u, y = ix3 p r u := ⟨y 0, y 1, y 2, eq_ix3 y⟩
  show _ = Grad.cq (group x0 x1 x2 x3 x4 x5) (even p) r
  pointwise [val_main_v96, val_main_v83, val_main_v82, val_main_cst_13, ref_slope x0 x1 x2 x3 x4 x5 _ _ _ (hR _ _)]
  have he : (⟨2 * p.val, by omega⟩ : Fin 8) = even p := Fin.ext (by simp only [even])
  rw [he]
  rfl

/-- Its gradient of the odd heads' query decays. -/
theorem ref_cqB : val_main_v97 (F := Ideal) x0 x1 x2 x3 x4 x5
    = fun y : S4x512x1.Idx => Grad.cq (group x0 x1 x2 x3 x4 x5) (odd (y 0)) (y 1) := by
  funext y
  obtain ⟨p, r, u, rfl⟩ : ∃ p r u, y = ix3 p r u := ⟨y 0, y 1, y 2, eq_ix3 y⟩
  show _ = Grad.cq (group x0 x1 x2 x3 x4 x5) (odd p) r
  pointwise [val_main_v97, val_main_v83, val_main_v82, val_main_cst_13, ref_slope x0 x1 x2 x3 x4 x5 _ _ _ (hR _ _)]
  have he : (⟨1 + 2 * p.val, by omega⟩ : Fin 8) = odd p := Fin.ext (by simp only [odd]; omega)
  rw [he]
  rfl

/-- Its gradient of the even heads' key decays, on top of the running sum. -/
theorem ref_ckA (x8 : FVec Ideal S4x1x1536 .f32) : val_main_v100 (F := Ideal) x0 x1 x2 x3 x4 x5 x8
    = fun y : S4x1x1024.Idx => x8 (ix3 (y 0) 0 ⟨(y 2).val, lt_of_lt_of_le (y 2).isLt (by decide)⟩) + Grad.ck (group x0 x1 x2 x3 x4 x5) (even (y 0)) (y 2) := by
  funext y
  obtain ⟨p, u, k, rfl⟩ : ∃ p u k, y = ix3 p u k := ⟨y 0, y 1, y 2, eq_ix3 y⟩
  show _ = x8 (ix3 p 0 ⟨k.val, by omega⟩) + Grad.ck (group x0 x1 x2 x3 x4 x5) (even p) k
  rw [Subsingleton.elim u 0]
  pointwise [val_main_v100, val_main_v98, val_main_v99, val_main_v81, val_main_v80, val_main_v79, val_main_cst_12, ref_slope x0 x1 x2 x3 x4 x5 _ _ _ (hR _ _)]
  have he : (⟨2 * p.val, by omega⟩ : Fin 8) = even p := Fin.ext (by simp only [even])
  rw [he]
  exact congrArg (_ + ·) (Finset.sum_congr rfl fun r _ => (zero_sub _).symm)

/-- Its gradient of the odd heads' key decays, on top of the running sum. -/
theorem ref_ckB (x9 : FVec Ideal S4x1x1536 .f32) : val_main_v103 (F := Ideal) x0 x1 x2 x3 x4 x5 x9
    = fun y : S4x1x1024.Idx => x9 (ix3 (y 0) 0 ⟨(y 2).val, lt_of_lt_of_le (y 2).isLt (by decide)⟩) + Grad.ck (group x0 x1 x2 x3 x4 x5) (odd (y 0)) (y 2) := by
  funext y
  obtain ⟨p, u, k, rfl⟩ : ∃ p u k, y = ix3 p u k := ⟨y 0, y 1, y 2, eq_ix3 y⟩
  show _ = x9 (ix3 p 0 ⟨k.val, by omega⟩) + Grad.ck (group x0 x1 x2 x3 x4 x5) (odd p) k
  rw [Subsingleton.elim u 0]
  pointwise [val_main_v103, val_main_v101, val_main_v102, val_main_v81, val_main_v80, val_main_v79, val_main_cst_12, ref_slope x0 x1 x2 x3 x4 x5 _ _ _ (hR _ _)]
  have he : (⟨1 + 2 * p.val, by omega⟩ : Fin 8) = odd p := Fin.ext (by simp only [odd]; omega)
  rw [he]
  exact congrArg (_ + ·) (Finset.sum_congr rfl fun r _ => (zero_sub _).symm)

end

/-- The precondition says what program 1's says of the same six arguments. -/
theorem finite_args (x0 x1 : FVec Ideal S2048x512 .bf16) (x2 : FVec Ideal S2048x8192 .f32) (x3 : FVec Ideal S8x2048x1 .f32)
    (x4 : FVec Ideal S8x1x2048 .f32) (x5 : FVec Ideal S2048x512 .f32) (x6 x7 : FVec Ideal S1536x512 .f32) (x8 x9 : FVec Ideal S4x1x1536 .f32)
    (h : Cert.Pre_finite_sums_g1.fn (F := Ideal) x0 x1 x2 x3 x4 x5 x6 x7 x8 x9 = fun _ => 1#1) : Real (group x0 x1 x2 x3 x4 x5) := by
  obtain ⟨f0, f1, f3, f4⟩ := Cert.Finite.finite x0 x1 x2 x3 x4 x5 h
  exact groupOf_real (by omega) (fun _ _ => f0 _) (fun _ _ => f1 _) (fun _ _ => f3 _) (fun _ _ => f4 _)

/-- The algebraic claim. -/
theorem algebraic : Cert.algebraic_Kernel33Ideal_Reference33Ideal_pre_finite_sums_g1 := by
  intro m g m' g' hpre hag
  refine ⟨_, _, _, _, _, _, _, Cert.Kernel33Ideal.Value.run_blocks m g, (θ_run _ _ _).mono (fun r h c => ?_) (Cert.Reference33Ideal.Value.run m' g')⟩
  obtain ⟨h0, h1, h2, h3, h4, h5, h6, hk⟩ := h c
  obtain ⟨a0, a1, a2, a3, a4, a5, a6, a7, a8, a9⟩ := hag c
  have hR : Real (held m c) := finite_args _ _ _ _ _ _ _ _ _ _ (hpre c)
  refine ⟨h0.trans ((val_main_v91_eq m' c).trans ?_), h1.trans ((val_main_v93_eq m' c).trans ?_), h2.trans ((val_main_v95_eq m' c).trans ?_),
    h3.trans ((val_main_v96_eq m' c).trans ?_), h4.trans ((val_main_v97_eq m' c).trans ?_), h5.trans ((val_main_v100_eq m' c).trans ?_),
    h6.trans ((val_main_v103_eq m' c).trans ?_), hk⟩
  · rw [a0, a1, a2, a3, a4, a5, arr_q]; exact ref_q _ _ _ _ _ _ hR
  · rw [a0, a1, a2, a3, a4, a5, a6, arr_k]; exact ref_k _ _ _ _ _ _ hR _
  · rw [a0, a1, a3, a4, a5, a7, arr_v]; exact ref_v _ _ _ _ _ _ hR _
  · rw [a0, a1, a2, a3, a4, a5, arr_cqA]; exact ref_cqA _ _ _ _ _ _ hR
  · rw [a0, a1, a2, a3, a4, a5, arr_cqB]; exact ref_cqB _ _ _ _ _ _ hR
  · rw [a0, a1, a2, a3, a4, a5, a8, arr_ckA]; exact ref_ckA _ _ _ _ _ _ hR _
  · rw [a0, a1, a2, a3, a4, a5, a9, arr_ckB]; exact ref_ckB _ _ _ _ _ _ hR _

end Cert.Back1

end
-- ==== Proof.Back0Block.lean ====
module

public import proofs.«01_k».proof.Proof.Gen.Kernel34Ideal.Skeleton
public import proofs.«01_k».proof.Proof.Sums
public import Idealize.ShloMosaic.Lib.ValueIdx

/-!
# One grid point of the gradient of queries 0 to 511

A grid point holds 128 queries of two heads — the first in the block's lanes 0–63, the second in lanes 64–127 — against
the 512 keys they may see. Each matrix of the point, read at one entry, is a quantity of that query's row.
-/

@[expose] public section

set_option maxRecDepth 16384

noncomputable section

namespace Cert.Back0

open Cert.Kernel34Ideal Cert.Kernel34Ideal.Gen Cert.Fox
open Idealize.ShloMosaic Idealize.ShloMosaic.TcCoe Idealize.SL.Sem

/-- The mask the kernel names is `−∞`. -/
theorem mask_value : (Named.named (F := Ideal) κ "mask" 0xF149F2CA#32 : Ideal .f32) = (⊥ : EReal) :=
  IdealRules.named_const.ideal_named_scalar _ _ _ _ rfl

/-- The point's number among the query blocks, as the word the kernel holds. -/
abbrev word (i : grid0.Coords) : BitVec 32 := BitVec.ofNat 32 (i 1).val

/-- The point's mask: a key at or before the query. -/
theorem seen (i : grid0.Coords) (r : Fin 128) (k : Fin 512) (x y : EReal) :
    Scalar.select (k0_pay13 (word i) (ix2 r k)) x y = if k.val ≤ (i 1).val * 128 + r.val then x else y := by
  have h : (i 1).val < 4 := (i 1).isLt
  have h1 : Scalar.addi 0#32 (BitVec.ofNat 32 (i 1).val) = BitVec.ofNat 32 (i 1).val := BitVec.zero_add _
  pointwise [k0_pay13]
  rw [h1]
  exact select_seen _ _ _ (by omega) (by omega) (by omega) x y

/-- The point's lane mask: the first 64 lanes. -/
theorem first (r l : Fin 128) (x y : EReal) : Scalar.select (k0_pay12 (ix2 r l)) x y = if l.val < 64 then x else y := by
  pointwise [k0_pay12, select_lane]

/-- A lane of the second head is not one of the first 64. -/
theorem not_first (d : Fin 64) : ¬ 64 + d.val < 64 := by omega

variable (i : grid0.Coords) (x0 : FVec Ideal S128x128 .bf16) (x1 : FVec Ideal S512x128 .bf16)
    (x2 : FVec Ideal S512x128 .f32) (x3 x4 : FVec Ideal S1x128x1 .f32) (x5 x6 : FVec Ideal S1x1x512 .f32)
    (x7 : FVec Ideal S128x128 .f32)

/-- Query `r`'s row, of the head in the lanes `ln`. -/
abbrev row (ln : Fin 64 → Fin 128) (xc : FVec Ideal S1x128x1 .f32) (xk : FVec Ideal S1x1x512 .f32) (r : Fin 128) : Row 512 :=
  blockRow ln ((i 1).val * 128 + r.val) (fun l => x0 (ix2 r l)) (xc (ix3 0 r 0)) (fun l => x7 (ix2 r l))
    (fun k l => x1 (ix2 k l)) (fun k l => x2 (ix2 k l)) (fun k => xk (ix3 0 0 k))

/-- The row of the first head. -/
abbrev rowA (r : Fin 128) : Row 512 := row i x0 x1 x2 x7 laneA x3 x5 r
/-- The row of the second head. -/
abbrev rowB (r : Fin 128) : Row 512 := row i x0 x1 x2 x7 laneB x4 x6 r

/-! ## The weights, their totals and the gradients of the probabilities -/

/-- The first head's weights. -/
abbrev eA : FVec Ideal S128x512 .f32 := k0_pay16 (F := Ideal) (word i) (k0_pay4 x0) (k0_pay5 x1) (k0_pay6 x3) (k0_pay8 x5)
/-- The second head's weights. -/
abbrev eB : FVec Ideal S128x512 .f32 := k0_pay17 (F := Ideal) (word i) (k0_pay4 x0) (k0_pay5 x1) (k0_pay7 x4) (k0_pay9 x6)
/-- The first head's reciprocal totals. -/
abbrev rA : FVec Ideal S128x1 .f32 := k0_pay19 (F := Ideal) (word i) (k0_pay4 x0) (k0_pay5 x1) (k0_pay6 x3) (k0_pay8 x5)
/-- The reciprocals of their squares. -/
abbrev qA : FVec Ideal S128x1 .f32 := k0_pay21 (F := Ideal) (k0_pay20 (word i) (k0_pay4 x0) (k0_pay5 x1) (k0_pay6 x3) (k0_pay8 x5))
/-- The first head's gradients of the probabilities. -/
abbrev gA : FVec Ideal S128x512 .f32 := k0_pay28 (F := Ideal) x2 x7 k0_pay12
/-- Their sums against the weights. -/
abbrev tA : FVec Ideal S128x1 .f32 := k0_pay30 (F := Ideal) x2 x7 k0_pay12 (eA i x0 x1 x3 x5)
/-- The gradients of the second head's scores, before the weights and the mask. -/
abbrev sB : FVec Ideal S128x512 .f32 := k0_pay27 (F := Ideal) x2 x7 k0_pay12 (eB i x0 x1 x4 x6)

theorem eA_apply (r : Fin 128) (k : Fin 512) : eA i x0 x1 x3 x5 (ix2 r k) = (rowA i x0 x1 x2 x3 x5 x7 r).wt k := by
  pointwise [k0_pay16, k0_pay14, k0_pay4, k0_pay5, k0_pay6, k0_pay8, first, seen, mask_value, word_neg_inf, zero_mul, Finset.sum_const_zero, zero_add, add_zero]
  rfl

theorem eB_apply (r : Fin 128) (k : Fin 512) : eB i x0 x1 x4 x6 (ix2 r k) = (rowB i x0 x1 x2 x4 x6 x7 r).wt k := by
  pointwise [k0_pay17, k0_pay15, k0_pay4, k0_pay5, k0_pay7, k0_pay9, first, seen, mask_value, word_neg_inf, zero_mul, Finset.sum_const_zero, zero_add, add_zero]
  rfl

theorem rA_apply (r : Fin 128) (u : Fin 1) : rA i x0 x1 x3 x5 (ix2 r u) = recip (rowA i x0 x1 x2 x3 x5 x7 r).tot := by
  pointwise [k0_pay19, k0_pay18, eA_apply i x0 x1 x2 x3 x5 x7]
  rfl

theorem qA_apply (r : Fin 128) (u : Fin 1) : qA i x0 x1 x3 x5 (ix2 r u)
    = recip ((rowA i x0 x1 x2 x3 x5 x7 r).tot * (rowA i x0 x1 x2 x3 x5 x7 r).tot) := by
  pointwise [k0_pay21, k0_pay20, k0_pay18, eA_apply i x0 x1 x2 x3 x5 x7]
  rfl

theorem rB_apply (r : Fin 128) (u : Fin 1) : k0_pay23 (F := Ideal) (eB i x0 x1 x4 x6) (ix2 r u) = recip (rowB i x0 x1 x2 x4 x6 x7 r).tot := by
  pointwise [k0_pay23, k0_pay22, eB_apply i x0 x1 x2 x4 x6 x7]
  rfl

theorem gA_apply (r : Fin 128) (k : Fin 512) : gA x2 x7 (ix2 r k) = (rowA i x0 x1 x2 x3 x5 x7 r).dprob k := by
  pointwise [k0_pay28, k0_pay26, k0_pay24, first, zero_mul, Finset.sum_const_zero, zero_add, add_zero]
  rfl

theorem tA_apply (r : Fin 128) (u : Fin 1) : tA i x0 x1 x2 x3 x5 x7 (ix2 r u)
    = ∑ k, (rowA i x0 x1 x2 x3 x5 x7 r).wt k * (rowA i x0 x1 x2 x3 x5 x7 r).dprob k := by
  pointwise [k0_pay30, eA_apply i x0 x1 x2 x3 x5 x7, gA_apply i x0 x1 x2 x3 x5 x7]

/-! ## The gradients of the scores -/

/-- The gradients of the first head's scores. -/
abbrev mA : FVec Ideal S128x512 .f32 :=
  k0_pay34 (F := Ideal) (k0_pay13 (word i)) (eA i x0 x1 x3 x5) (rA i x0 x1 x3 x5) (qA i x0 x1 x3 x5) (gA x2 x7) (tA i x0 x1 x2 x3 x5 x7)
/-- The gradients of the second head's scores. -/
abbrev mB : FVec Ideal S128x512 .f32 := k0_pay31 (F := Ideal) (k0_pay13 (word i)) (eB i x0 x1 x4 x6) (sB i x0 x1 x2 x4 x6 x7)

theorem mA_apply (r : Fin 128) (k : Fin 512) : mA i x0 x1 x2 x3 x5 x7 (ix2 r k) = (rowA i x0 x1 x2 x3 x5 x7 r).slope k := by
  pointwise [k0_pay34, seen, eA_apply i x0 x1 x2 x3 x5 x7, rA_apply i x0 x1 x2 x3 x5 x7, qA_apply i x0 x1 x2 x3 x5 x7,
    gA_apply i x0 x1 x2 x3 x5 x7, tA_apply i x0 x1 x2 x3 x5 x7]
  simp only [Finset.univ_unique, Finset.sum_singleton]
  rfl

theorem mB_apply (r : Fin 128) (k : Fin 512) : mB i x0 x1 x2 x4 x6 x7 (ix2 r k) = (rowB i x0 x1 x2 x4 x6 x7 r).slope k := by
  pointwise [k0_pay31, k0_pay27, k0_pay25, k0_pay24, k0_pay22, first, seen, eB_apply i x0 x1 x2 x4 x6 x7, rB_apply i x0 x1 x2 x4 x6 x7]
  simp only [zero_mul, mul_zero, Finset.sum_const_zero, zero_add, add_zero, Finset.univ_unique, Finset.sum_singleton]
  rfl

/-! ## What the point adds, and its block of the query gradient -/

/-- The part of the values' gradient this point adds. -/
abbrev vPart : FVec Ideal S512x128 .f32 := k0_pay29 (F := Ideal) x7 k0_pay12 (eA i x0 x1 x3 x5) (eB i x0 x1 x4 x6) (rA i x0 x1 x3 x5)

theorem vPart_A (k : Fin 512) (d : Fin 64) : vPart i x0 x1 x3 x4 x5 x6 x7 (ix2 k (laneA d))
    = ∑ r, (rowA i x0 x1 x2 x3 x5 x7 r).prob k * (rowA i x0 x1 x2 x3 x5 x7 r).dy d := by
  pointwise [k0_pay29, k0_pay25, k0_pay26, k0_pay24, first, eA_apply i x0 x1 x2 x3 x5 x7, rA_apply i x0 x1 x2 x3 x5 x7, laneA]
  simp only [zero_mul, mul_zero, Finset.sum_const_zero, zero_add, add_zero, Finset.univ_unique, Finset.sum_singleton]
  rfl

theorem vPart_B (k : Fin 512) (d : Fin 64) : vPart i x0 x1 x3 x4 x5 x6 x7 (ix2 k (laneB d))
    = ∑ r, (rowB i x0 x1 x2 x4 x6 x7 r).prob k * (rowB i x0 x1 x2 x4 x6 x7 r).dy d := by
  pointwise [k0_pay29, k0_pay25, k0_pay26, k0_pay24, first, eB_apply i x0 x1 x2 x4 x6 x7, rB_apply i x0 x1 x2 x4 x6 x7, laneB]
  simp only [zero_mul, mul_zero, Finset.sum_const_zero, zero_add, add_zero, Finset.univ_unique, Finset.sum_singleton]
  rfl

/-- The part of the keys' gradient this point adds. -/
abbrev kPart : FVec Ideal S512x128 .f32 :=
  k0_pay38 (F := Ideal) (k0_pay13 (word i)) (k0_pay14 (k0_pay4 x0)) (k0_pay15 (k0_pay4 x0)) (eA i x0 x1 x3 x5) (eB i x0 x1 x4 x6)
    (rA i x0 x1 x3 x5) (qA i x0 x1 x3 x5) (sB i x0 x1 x2 x4 x6 x7) (gA x2 x7) (tA i x0 x1 x2 x3 x5 x7)

theorem kPart_A (k : Fin 512) (d : Fin 64) : kPart i x0 x1 x2 x3 x4 x5 x6 x7 (ix2 k (laneA d))
    = ∑ r, (rowA i x0 x1 x2 x3 x5 x7 r).slope k * (rowA i x0 x1 x2 x3 x5 x7 r).q d := by
  pointwise [k0_pay38, k0_pay14, k0_pay15, k0_pay4, first, mA_apply i x0 x1 x2 x3 x5 x7, mB_apply i x0 x1 x2 x4 x6 x7, laneA]
  simp only [zero_mul, mul_zero, Finset.sum_const_zero, zero_add, add_zero, Finset.univ_unique, Finset.sum_singleton]
  rfl

theorem kPart_B (k : Fin 512) (d : Fin 64) : kPart i x0 x1 x2 x3 x4 x5 x6 x7 (ix2 k (laneB d))
    = ∑ r, (rowB i x0 x1 x2 x4 x6 x7 r).slope k * (rowB i x0 x1 x2 x4 x6 x7 r).q d := by
  pointwise [k0_pay38, k0_pay14, k0_pay15, k0_pay4, first, mA_apply i x0 x1 x2 x3 x5 x7, mB_apply i x0 x1 x2 x4 x6 x7, laneB]
  simp only [zero_mul, mul_zero, Finset.sum_const_zero, zero_add, add_zero, Finset.univ_unique, Finset.sum_singleton]
  rfl

/-- The point's block of the queries' gradient. -/
abbrev qBlk : FVec Ideal S128x128 .f32 :=
  k0_pay40 (F := Ideal) k0_pay12
    (k0_pay37 (k0_pay5 x1) (k0_pay13 (word i)) (eA i x0 x1 x3 x5) (rA i x0 x1 x3 x5) (qA i x0 x1 x3 x5) (gA x2 x7) (tA i x0 x1 x2 x3 x5 x7))
    (k0_pay39 (k0_pay5 x1) k0_pay12 (k0_pay13 (word i)) (eB i x0 x1 x4 x6) (sB i x0 x1 x2 x4 x6 x7))

theorem qBlk_A (r : Fin 128) (d : Fin 64) : qBlk i x0 x1 x2 x3 x4 x5 x6 x7 (ix2 r (laneA d))
    = ∑ k, (rowA i x0 x1 x2 x3 x5 x7 r).slope k * (rowA i x0 x1 x2 x3 x5 x7 r).key k d := by
  pointwise [k0_pay40, k0_pay39, k0_pay37, k0_pay5, first, mA_apply i x0 x1 x2 x3 x5 x7, mB_apply i x0 x1 x2 x4 x6 x7, laneA]
  rfl

theorem qBlk_B (r : Fin 128) (d : Fin 64) : qBlk i x0 x1 x2 x3 x4 x5 x6 x7 (ix2 r (laneB d))
    = ∑ k, (rowB i x0 x1 x2 x4 x6 x7 r).slope k * (rowB i x0 x1 x2 x4 x6 x7 r).key k d := by
  pointwise [k0_pay40, k0_pay39, k0_pay37, k0_pay5, first, mA_apply i x0 x1 x2 x3 x5 x7, mB_apply i x0 x1 x2 x4 x6 x7, laneB]
  rfl

/-- The first head's block of the gradient of the queries' decays. -/
abbrev cqA : FVec Ideal S1x128x1 .f32 := k0_pay46 (F := Ideal) (k0_pay36 (k0_pay13 (word i)) (eA i x0 x1 x3 x5) (rA i x0 x1 x3 x5)
  (qA i x0 x1 x3 x5) (gA x2 x7) (tA i x0 x1 x2 x3 x5 x7))
/-- The second head's. -/
abbrev cqB : FVec Ideal S1x128x1 .f32 := k0_pay47 (F := Ideal) (k0_pay33 (k0_pay13 (word i)) (eB i x0 x1 x4 x6) (sB i x0 x1 x2 x4 x6 x7))

theorem cqA_apply (r : Fin 128) : cqA i x0 x1 x2 x3 x5 x7 (ix3 0 r 0) = ∑ k, (rowA i x0 x1 x2 x3 x5 x7 r).slope k := by
  pointwise [k0_pay46, k0_pay36, mA_apply i x0 x1 x2 x3 x5 x7]

theorem cqB_apply (r : Fin 128) : cqB i x0 x1 x2 x4 x6 x7 (ix3 0 r 0) = ∑ k, (rowB i x0 x1 x2 x4 x6 x7 r).slope k := by
  pointwise [k0_pay47, k0_pay33, mB_apply i x0 x1 x2 x4 x6 x7]

/-- The part of the gradient of the first head's key decays this point adds. -/
abbrev ckA : FVec Ideal S1x512 .f32 := k0_pay35 (F := Ideal) (k0_pay13 (word i)) (eA i x0 x1 x3 x5) (rA i x0 x1 x3 x5)
  (qA i x0 x1 x3 x5) (gA x2 x7) (tA i x0 x1 x2 x3 x5 x7)
/-- The second head's. -/
abbrev ckB : FVec Ideal S1x512 .f32 := k0_pay32 (F := Ideal) (k0_pay13 (word i)) (eB i x0 x1 x4 x6) (sB i x0 x1 x2 x4 x6 x7)

theorem ckA_apply (k : Fin 512) : ckA i x0 x1 x2 x3 x5 x7 (ix2 0 k) = ∑ r, (0 - (rowA i x0 x1 x2 x3 x5 x7 r).slope k) := by
  pointwise [k0_pay35, mA_apply i x0 x1 x2 x3 x5 x7]

theorem ckB_apply (k : Fin 512) : ckB i x0 x1 x2 x4 x6 x7 (ix2 0 k) = ∑ r, (0 - (rowB i x0 x1 x2 x4 x6 x7 r).slope k) := by
  pointwise [k0_pay32, mB_apply i x0 x1 x2 x4 x6 x7]

/-! ## The first visit adds the running sum -/

theorem with_sum_k (z v : FVec Ideal S512x128 .f32) (j : S512x128.Idx) :
    k0_pay41 (F := Ideal) (Scalar.cmpi .eq (word i) 0#32) z v j = v j + if (i 1).val = 0 then z j else 0 := by
  have h : (i 1).val < 4 := (i 1).isLt
  rw [k0_pay41, select_first (by omega)]
  split <;> pointwise []

theorem with_sum_v (z v : FVec Ideal S512x128 .f32) (j : S512x128.Idx) :
    k0_pay42 (F := Ideal) (Scalar.cmpi .eq (word i) 0#32) z v j = v j + if (i 1).val = 0 then z j else 0 := by
  have h : (i 1).val < 4 := (i 1).isLt
  rw [k0_pay42, select_first (by omega)]
  split <;> pointwise []

theorem with_sum_ckA (z : FVec Ideal S1x1x512 .f32) (v : FVec Ideal S1x512 .f32) (k : Fin 512) :
    k0_pay48 (F := Ideal) (Scalar.cmpi .eq (word i) 0#32) (k0_pay10 z) v (ix3 0 0 k)
      = v (ix2 0 k) + if (i 1).val = 0 then z (ix3 0 0 k) else 0 := by
  have h : (i 1).val < 4 := (i 1).isLt
  rw [k0_pay48, select_first (by omega)]
  split <;> pointwise [k0_pay10]

theorem with_sum_ckB (z : FVec Ideal S1x1x512 .f32) (v : FVec Ideal S1x512 .f32) (k : Fin 512) :
    k0_pay43 (F := Ideal) (Scalar.cmpi .eq (word i) 0#32) (k0_pay11 z) v (ix2 0 k)
      = v (ix2 0 k) + if (i 1).val = 0 then z (ix3 0 0 k) else 0 := by
  have h : (i 1).val < 4 := (i 1).isLt
  rw [k0_pay43, select_first (by omega)]
  split <;> pointwise [k0_pay11]

end Cert.Back0

end
-- ==== Proof.Back0Array.lean ====
module

public import proofs.«01_k».proof.Proof.Gen.Kernel34Ideal.Value
public import proofs.«01_k».proof.Proof.Back0Block
public import Idealize.ShloMosaic.Lib.Pipeline.ValueKit

/-!
# What the gradient of queries 0 to 511 leaves in its seven results

Grid point `t` works on the heads `2 p` and `2 p + 1`, `p = t / 4`, and on query block `t % 4`. The gradients of the
queries are written once per point; those of the keys, of the values and of the keys' decays gather the four query
blocks of their two heads on top of the running sums.
-/

@[expose] public section

set_option maxRecDepth 16384

noncomputable section

namespace Cert.Back0

open Cert.Kernel34Ideal Cert.Kernel34Ideal.Gen Cert.Fox
open Idealize.ShloMosaic Idealize.ShloMosaic.TcCoe Idealize.SL.Sem

variable (m : (ℓ : Loc nD τ sig) → Buf (Elt Ideal) ℓ)

theorem idx0 : ∀ t : Fin cfg0.N, win0_0.index t = ![0 + t.val % 4, t.val / 4] := (by decide +kernel : ∀ t : Fin grid0.N, _)
theorem idx1 : ∀ t : Fin cfg0.N, win0_1.index t = ![0, t.val / 4] := (by decide +kernel : ∀ t : Fin grid0.N, _)
theorem idx2 : ∀ t : Fin cfg0.N, win0_2.index t = ![0, 8 + t.val / 4] := (by decide +kernel : ∀ t : Fin grid0.N, _)
theorem idx3 : ∀ t : Fin cfg0.N, win0_3.index t = ![2 * (t.val / 4), 0 + t.val % 4, 0] := (by decide +kernel : ∀ t : Fin grid0.N, _)
theorem idx4 : ∀ t : Fin cfg0.N, win0_4.index t = ![2 * (t.val / 4) + 1, 0 + t.val % 4, 0] := (by decide +kernel : ∀ t : Fin grid0.N, _)
theorem idx5 : ∀ t : Fin cfg0.N, win0_5.index t = ![2 * (t.val / 4), 0, 0] := (by decide +kernel : ∀ t : Fin grid0.N, _)
theorem idx6 : ∀ t : Fin cfg0.N, win0_6.index t = ![2 * (t.val / 4) + 1, 0, 0] := (by decide +kernel : ∀ t : Fin grid0.N, _)
theorem idx7 : ∀ t : Fin cfg0.N, win0_7.index t = ![0 + t.val % 4, t.val / 4] := (by decide +kernel : ∀ t : Fin grid0.N, _)
theorem idx8 : ∀ t : Fin cfg0.N, win0_8.index t = ![0, t.val / 4] := (by decide +kernel : ∀ t : Fin grid0.N, _)
theorem idx9 : ∀ t : Fin cfg0.N, win0_9.index t = ![0, t.val / 4] := (by decide +kernel : ∀ t : Fin grid0.N, _)
theorem idx10 : ∀ t : Fin cfg0.N, win0_10.index t = ![t.val / 4, 0, 0] := (by decide +kernel : ∀ t : Fin grid0.N, _)
theorem idx11 : ∀ t : Fin cfg0.N, win0_11.index t = ![t.val / 4, 0, 0] := (by decide +kernel : ∀ t : Fin grid0.N, _)
theorem idx12 : ∀ t : Fin cfg0.N, win0_12.index t = ![t.val % 4, t.val / 4] := (by decide +kernel : ∀ t : Fin grid0.N, _)
theorem idx13 : ∀ t : Fin cfg0.N, win0_13.index t = ![0, t.val / 4] := (by decide +kernel : ∀ t : Fin grid0.N, _)
theorem idx14 : ∀ t : Fin cfg0.N, win0_14.index t = ![0, t.val / 4] := (by decide +kernel : ∀ t : Fin grid0.N, _)
theorem idx15 : ∀ t : Fin cfg0.N, win0_15.index t = ![t.val / 4, t.val % 4, 0] := (by decide +kernel : ∀ t : Fin grid0.N, _)
theorem idx16 : ∀ t : Fin cfg0.N, win0_16.index t = ![t.val / 4, t.val % 4, 0] := (by decide +kernel : ∀ t : Fin grid0.N, _)
theorem idx17 : ∀ t : Fin cfg0.N, win0_17.index t = ![t.val / 4, 0, 0] := (by decide +kernel : ∀ t : Fin grid0.N, _)
theorem idx18 : ∀ t : Fin cfg0.N, win0_18.index t = ![t.val / 4, 0, 0] := (by decide +kernel : ∀ t : Fin grid0.N, _)
theorem coord : ∀ t : Fin cfg0.N, (grid0.coords t 1).val = t.val % 4 := (by decide +kernel : ∀ t : Fin grid0.N, _)
theorem pts (t : Fin cfg0.N) : t.val < 16 := lt_of_lt_of_eq t.isLt (by decide +kernel)

/-- Point `t` of the sixteen. -/
abbrev at16 (t : Fin 16) : Fin cfg0.N := ⟨t.val, lt_of_lt_of_eq t.isLt (by decide +kernel)⟩

/-- The group's rows, from the first six arguments. -/
abbrev group (x0 x1 : FVec Ideal S2048x512 .bf16) (x2 : FVec Ideal S2048x8192 .f32) (x3 : FVec Ideal S8x2048x1 .f32)
    (x4 : FVec Ideal S8x1x2048 .f32) (x5 : FVec Ideal S2048x512 .f32) : Group 512 :=
  groupOf 512 0 (by omega) (by omega) (fun i l => x0 (ix2 i l)) (fun i l => x1 (ix2 i l)) (fun i l => x2 (ix2 i l))
    (fun h i => x3 (ix3 h i 0)) (fun h i => x4 (ix3 h 0 i)) (fun i l => x5 (ix2 i l))

/-- The group's rows, from the kernel's memory. -/
abbrev held (c : Dev nD) : Group 512 :=
  group (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- The running sum of the keys' gradients. -/
abbrev sumK (c : Dev nD) : FVec Ideal S1024x512 .f32 := m ((c : Thread nD τ).loc main_arg6)
/-- The running sum of the values' gradients. -/
abbrev sumV (c : Dev nD) : FVec Ideal S1024x512 .f32 := m ((c : Thread nD τ).loc main_arg7)
/-- The running sum of the even heads' key-decay gradients. -/
abbrev sumA (c : Dev nD) : FVec Ideal S4x1x1024 .f32 := m ((c : Thread nD τ).loc main_arg8)
/-- The running sum of the odd heads' key-decay gradients. -/
abbrev sumB (c : Dev nD) : FVec Ideal S4x1x1024 .f32 := m ((c : Thread nD τ).loc main_arg9)

/-- The keys' result: the running sum and the group's gradient. -/
def outK (c : Dev nD) (k : Fin 512) (l : Fin 512) : EReal := sumK m c (ix2 ⟨k.val, by omega⟩ l) + Grad.k (held m c) k l
/-- The values' result. -/
def outV (c : Dev nD) (k : Fin 512) (l : Fin 512) : EReal := sumV m c (ix2 ⟨k.val, by omega⟩ l) + Grad.v (held m c) k l
/-- The result for the key decays of the even heads. -/
def outA (c : Dev nD) (p : Fin 4) (k : Fin 512) : EReal := sumA m c (ix3 p 0 ⟨k.val, by omega⟩) + Grad.ck (held m c) (even p) k
/-- The result for the key decays of the odd heads. -/
def outB (c : Dev nD) (p : Fin 4) (k : Fin 512) : EReal := sumB m c (ix3 p 0 ⟨k.val, by omega⟩) + Grad.ck (held m c) (odd p) k

/-! ## The rows of a point's blocks -/

abbrev bA (c : Dev nD) (t : Fin cfg0.N) (r : Fin 128) : Row 512 :=
  rowA (grid0.coords t) (iblk m c 0 t) (iblk m c 1 t) (iblk m c 2 t) (iblk m c 3 t) (iblk m c 5 t) (iblk m c 7 t) r
abbrev bB (c : Dev nD) (t : Fin cfg0.N) (r : Fin 128) : Row 512 :=
  rowB (grid0.coords t) (iblk m c 0 t) (iblk m c 1 t) (iblk m c 2 t) (iblk m c 4 t) (iblk m c 6 t) (iblk m c 7 t) r

theorem row_A (c : Dev nD) (t : Fin cfg0.N) (r : Fin 128) :
    bA m c t r = held m c (pairA ⟨t.val, pts t⟩) (query ⟨t.val, pts t⟩ r) := by
  have ht := pts t
  have hc := coord t
  refine Row.ext ?_ ?_ ?_ ?_ ?_ ?_ ?_
  · funext d
    simp only [blockRow, groupOf, pairA, query, lane512, laneA]
    blk_ext [iblk, V, idx0 t]
  · simp only [blockRow, groupOf, pairA, query]
    blk_ext [iblk, V, idx3 t]
  · simp only [blockRow, groupOf, query]; omega
  · funext d
    simp only [blockRow, groupOf, pairA, query, lane512, laneA]
    blk_ext [iblk, V, idx7 t]
  · funext k d
    simp only [blockRow, groupOf, pairA, lane512, laneA]
    blk_ext [iblk, V, idx1 t]
  · funext k
    simp only [blockRow, groupOf, pairA]
    blk_ext [iblk, V, idx5 t]
  · funext k d
    simp only [blockRow, groupOf, pairA, lane512, laneA]
    blk_ext [iblk, V, idx2 t]

theorem row_B (c : Dev nD) (t : Fin cfg0.N) (r : Fin 128) :
    bB m c t r = held m c (pairB ⟨t.val, pts t⟩) (query ⟨t.val, pts t⟩ r) := by
  have ht := pts t
  have hc := coord t
  refine Row.ext ?_ ?_ ?_ ?_ ?_ ?_ ?_
  · funext d
    simp only [blockRow, groupOf, pairB, query, lane512, laneB]
    blk_ext [iblk, V, idx0 t]
  · simp only [blockRow, groupOf, pairB, query]
    blk_ext [iblk, V, idx4 t]
  · simp only [blockRow, groupOf, query]; omega
  · funext d
    simp only [blockRow, groupOf, pairB, query, lane512, laneB]
    blk_ext [iblk, V, idx7 t]
  · funext k d
    simp only [blockRow, groupOf, pairB, lane512, laneB]
    blk_ext [iblk, V, idx1 t]
  · funext k
    simp only [blockRow, groupOf, pairB]
    blk_ext [iblk, V, idx6 t]
  · funext k d
    simp only [blockRow, groupOf, pairB, lane512, laneB]
    blk_ext [iblk, V, idx2 t]

theorem firstPt {t : Fin cfg0.N} (h : t.val % 4 = 0) : ¬ 1 ≤ t.val % 4 := by omega
theorem laterPt {t : Fin cfg0.N} (h : ¬ t.val % 4 = 0) : 1 ≤ t.val % 4 := by omega

/-! ## The keys -/

/-- What point `t` adds to its heads' key gradients. -/
def kTerm (c : Dev nD) (t : Fin cfg0.N) : FVec Ideal S512x128 .f32 :=
  k0_pay41 (F := Ideal) (Scalar.cmpi .eq (word (grid0.coords t)) 0#32) (iblk m c 8 t)
    (kPart (grid0.coords t) (iblk m c 0 t) (iblk m c 1 t) (iblk m c 2 t) (iblk m c 3 t) (iblk m c 4 t) (iblk m c 5 t) (iblk m c 6 t) (iblk m c 7 t))

theorem read_k (c : Dev nD) (t : Fin cfg0.N) (k : Fin 512) (l : Fin 128) :
    iblk m c 8 t (ix2 k l) = sumK m c (ix2 ⟨k.val, by omega⟩ (lane ⟨t.val, pts t⟩ l)) := by
  have ht := pts t
  simp only [lane]
  blk_ext [iblk, V, idx8 t]

theorem sum_k (c : Dev nD) (t : Fin 16) (k : Fin 512) (l : Fin 128) :
    ∑ s, kTerm m c (at16 (blockPt t s)) (ix2 k l)
      = outK m c k (lane t l) := by
  refine gather_heads (fun h r d => (held m c h r).slope k * (held m c h r).q d) (fun l => sumK m c (ix2 ⟨k.val, by omega⟩ l))
    (fun t l => kTerm m c (at16 t) (ix2 k l)) (fun t d => ?_) (fun t d => ?_) t l
  · rw [kTerm, with_sum_k, kPart_A, coord, read_k]
    simp only [row_A]
  · rw [kTerm, with_sum_k, kPart_B, coord, read_k]
    simp only [row_B]

theorem arr_k (c : Dev nD) : (dats m 0 c).arrAt 13 cfg0.N = fun y : S512x512.Idx => outK m c (y 0) (y 1) := by
  refine (dats m 0 c).arrAt_eq_of_covers 13 _ (by decide +kernel) fun t hf y => ?_
  blk_simp
  rw [after0_13, Pipeline.eq_sum_fin_of_reset_step_apply_of_flush (fun n h => (outsAt0 m c n h).2.1) 4 (fun _ => 0) (kTerm m c)
    (fun t h j => by rw [outsAt0_A m c t h (firstPt h) h (firstPt h) h (firstPt h) h (firstPt h)]; frame_out; exact (zero_add _).symm)
    (fun t h j => by rw [outsAt0_B m c t h (laterPt h) h (laterPt h) h (laterPt h) h (laterPt h)]; frame_out; pointwise [k0_pay44]; rfl)
    t ((flush0_13 t).mp hf) _, zero_add]
  have ht := pts t
  have hb := idx13 t
  obtain ⟨k, l, rfl⟩ : ∃ k l, y = ix2 k l := ⟨y 0, y 1, eq_ix2 y⟩
  have h0 : (win0_13.blk t).view.emb (ix2 k l) 0 = (k : Fin 512) := by
    apply Fin.ext; blk_simp [hb]
  have h1 : (win0_13.blk t).view.emb (ix2 k l) 1 = (lane ⟨t.val, ht⟩ l : Fin 512) := by
    apply Fin.ext; blk_simp [hb, lane]
  refine (sum_k m c ⟨t.val, ht⟩ k l).trans ?_
  exact congrArg₂ (outK m c) h0.symm h1.symm

/-! ## The values -/

/-- What point `t` adds to its heads' value gradients. -/
def vTerm (c : Dev nD) (t : Fin cfg0.N) : FVec Ideal S512x128 .f32 :=
  k0_pay42 (F := Ideal) (Scalar.cmpi .eq (word (grid0.coords t)) 0#32) (iblk m c 9 t)
    (vPart (grid0.coords t) (iblk m c 0 t) (iblk m c 1 t) (iblk m c 3 t) (iblk m c 4 t) (iblk m c 5 t) (iblk m c 6 t) (iblk m c 7 t))

theorem read_v (c : Dev nD) (t : Fin cfg0.N) (k : Fin 512) (l : Fin 128) :
    iblk m c 9 t (ix2 k l) = sumV m c (ix2 ⟨k.val, by omega⟩ (lane ⟨t.val, pts t⟩ l)) := by
  have ht := pts t
  simp only [lane]
  blk_ext [iblk, V, idx9 t]

theorem sum_v (c : Dev nD) (t : Fin 16) (k : Fin 512) (l : Fin 128) :
    ∑ s, vTerm m c (at16 (blockPt t s)) (ix2 k l)
      = outV m c k (lane t l) := by
  refine gather_heads (fun h r d => (held m c h r).prob k * (held m c h r).dy d) (fun l => sumV m c (ix2 ⟨k.val, by omega⟩ l))
    (fun t l => vTerm m c (at16 t) (ix2 k l)) (fun t d => ?_) (fun t d => ?_) t l
  · rw [vTerm, with_sum_v, vPart_A _ _ _ (iblk m c 2 (at16 t)), coord, read_v]
    simp only [row_A]
  · rw [vTerm, with_sum_v, vPart_B _ _ _ (iblk m c 2 (at16 t)), coord, read_v]
    simp only [row_B]

theorem arr_v (c : Dev nD) : (dats m 0 c).arrAt 14 cfg0.N = fun y : S512x512.Idx => outV m c (y 0) (y 1) := by
  refine (dats m 0 c).arrAt_eq_of_covers 14 _ (by decide +kernel) fun t hf y => ?_
  blk_simp
  rw [after0_14, Pipeline.eq_sum_fin_of_reset_step_apply_of_flush (fun n h => (outsAt0 m c n h).2.2.1) 4 (fun _ => 0) (vTerm m c)
    (fun t h j => by rw [outsAt0_A m c t h (firstPt h) h (firstPt h) h (firstPt h) h (firstPt h)]; frame_out; exact (zero_add _).symm)
    (fun t h j => by rw [outsAt0_B m c t h (laterPt h) h (laterPt h) h (laterPt h) h (laterPt h)]; frame_out; pointwise [k0_pay45]; rfl)
    t ((flush0_14 t).mp hf) _, zero_add]
  have ht := pts t
  have hb := idx14 t
  obtain ⟨k, l, rfl⟩ : ∃ k l, y = ix2 k l := ⟨y 0, y 1, eq_ix2 y⟩
  have h0 : (win0_14.blk t).view.emb (ix2 k l) 0 = (k : Fin 512) := by
    apply Fin.ext; blk_simp [hb]
  have h1 : (win0_14.blk t).view.emb (ix2 k l) 1 = (lane ⟨t.val, ht⟩ l : Fin 512) := by
    apply Fin.ext; blk_simp [hb, lane]
  refine (sum_v m c ⟨t.val, ht⟩ k l).trans ?_
  exact congrArg₂ (outV m c) h0.symm h1.symm

/-! ## The keys' decays -/

/-- What point `t` adds to its first head's key-decay gradients. -/
def aTerm (c : Dev nD) (t : Fin cfg0.N) : FVec Ideal S1x1x512 .f32 :=
  k0_pay48 (F := Ideal) (Scalar.cmpi .eq (word (grid0.coords t)) 0#32) (k0_pay10 (iblk m c 10 t))
    (ckA (grid0.coords t) (iblk m c 0 t) (iblk m c 1 t) (iblk m c 2 t) (iblk m c 3 t) (iblk m c 5 t) (iblk m c 7 t))

/-- What point `t` adds to its second head's key-decay gradients. -/
def bTerm (c : Dev nD) (t : Fin cfg0.N) (y : S1x1x512.Idx) : EReal :=
  k0_pay43 (F := Ideal) (Scalar.cmpi .eq (word (grid0.coords t)) 0#32) (k0_pay11 (iblk m c 11 t))
    (ckB (grid0.coords t) (iblk m c 0 t) (iblk m c 1 t) (iblk m c 2 t) (iblk m c 4 t) (iblk m c 6 t) (iblk m c 7 t)) (ix2 0 (y 2 : Fin 512))

/-- The pair of heads of point `t`. -/
abbrev pair (t : Fin 16) : Fin 4 := ⟨t.val / 4, by omega⟩

theorem read_a (c : Dev nD) (t : Fin cfg0.N) (k : Fin 512) :
    iblk m c 10 t (ix3 0 0 k) = sumA m c (ix3 (pair ⟨t.val, pts t⟩) 0 ⟨k.val, by omega⟩) := by
  have ht := pts t
  blk_ext [iblk, V, idx10 t]

theorem read_b (c : Dev nD) (t : Fin cfg0.N) (k : Fin 512) :
    iblk m c 11 t (ix3 0 0 k) = sumB m c (ix3 (pair ⟨t.val, pts t⟩) 0 ⟨k.val, by omega⟩) := by
  have ht := pts t
  blk_ext [iblk, V, idx11 t]

theorem sum_a (c : Dev nD) (t : Fin 16) (y : S1x1x512.Idx) :
    ∑ s, aTerm m c (at16 (blockPt t s)) y = outA m c (pair t) (y 2) := by
  obtain ⟨k, rfl⟩ : ∃ k : Fin 512, y = ix3 0 0 k := ⟨y 2, by rw [eq_ix3 y]; congr 1 <;> exact Subsingleton.elim _ _⟩
  have hp : ∀ t, (⟨(pairA t).val / 2, by omega⟩ : Fin 4) = pair t := fun t => Fin.ext (by simp only [pairA]; omega)
  refine (gather_decays pairA pairA_blockPt (fun h r => 0 - (held m c h r).slope k)
    (fun h => sumA m c (ix3 ⟨h.val / 2, by omega⟩ 0 ⟨k.val, by omega⟩)) (fun t => aTerm m c (at16 t) (ix3 0 0 k)) (fun t => ?_) t).trans ?_
  · rw [aTerm, with_sum_ckA, ckA_apply, coord, read_a]
    simp only [row_A, hp]
  · rw [hp]; rfl

theorem sum_b (c : Dev nD) (t : Fin 16) (y : S1x1x512.Idx) :
    ∑ s, bTerm m c (at16 (blockPt t s)) y = outB m c (pair t) (y 2) := by
  obtain ⟨k, rfl⟩ : ∃ k : Fin 512, y = ix3 0 0 k := ⟨y 2, by rw [eq_ix3 y]; congr 1 <;> exact Subsingleton.elim _ _⟩
  have hp : ∀ t, (⟨(pairB t).val / 2, by omega⟩ : Fin 4) = pair t := fun t => Fin.ext (by simp only [pairB]; omega)
  refine (gather_decays pairB pairB_blockPt (fun h r => 0 - (held m c h r).slope k)
    (fun h => sumB m c (ix3 ⟨h.val / 2, by omega⟩ 0 ⟨k.val, by omega⟩)) (fun t => bTerm m c (at16 t) (ix3 0 0 k)) (fun t => ?_) t).trans ?_
  · refine (with_sum_ckB _ _ _ k).trans ?_
    rw [ckB_apply, coord, read_b]
    simp only [row_B, hp]
  · rw [hp]; rfl

theorem arr_ckA (c : Dev nD) : (dats m 0 c).arrAt 17 cfg0.N = fun y : S4x1x512.Idx => outA m c (y 0) (y 2) := by
  refine (dats m 0 c).arrAt_eq_of_covers 17 _ (by decide +kernel) fun t hf y => ?_
  blk_simp
  rw [after0_17, Pipeline.eq_sum_fin_of_reset_step_apply_of_flush (fun n h => (outsAt0 m c n h).2.2.2.2.2.1) 4 (fun _ => 0) (aTerm m c)
    (fun t h j => by rw [outsAt0_A m c t h (firstPt h) h (firstPt h) h (firstPt h) h (firstPt h)]; frame_out; exact (zero_add _).symm)
    (fun t h j => by rw [outsAt0_B m c t h (laterPt h) h (laterPt h) h (laterPt h) h (laterPt h)]; frame_out; pointwise [k0_pay1]; rfl)
    t ((flush0_17 t).mp hf) _, zero_add]
  have ht := pts t
  have hb := idx17 t
  have h0 : (win0_17.blk t).view.emb y 0 = (pair ⟨t.val, ht⟩ : Fin 4) := by
    apply Fin.ext; blk_simp [hb]
  have h1 : (win0_17.blk t).view.emb y 2 = (y 2 : Fin 512) := by
    apply Fin.ext; blk_simp [hb]
  refine (sum_a m c ⟨t.val, ht⟩ y).trans ?_
  exact congrArg₂ (outA m c) h0.symm h1.symm

theorem arr_ckB (c : Dev nD) : (dats m 0 c).arrAt 18 cfg0.N = fun y : S4x1x512.Idx => outB m c (y 0) (y 2) := by
  refine (dats m 0 c).arrAt_eq_of_covers 18 _ (by decide +kernel) fun t hf y => ?_
  blk_simp
  rw [after0_18, Pipeline.eq_sum_fin_of_reset_step_apply_of_flush (fun n h => (outsAt0 m c n h).2.2.2.2.2.2) 4 (fun _ => 0) (bTerm m c)
    (fun t h j => by rw [outsAt0_A m c t h (firstPt h) h (firstPt h) h (firstPt h) h (firstPt h)]; frame_out; idx_vars j; pointwise [k0_pay2, bTerm])
    (fun t h j => by rw [outsAt0_B m c t h (laterPt h) h (laterPt h) h (laterPt h) h (laterPt h)]; frame_out; idx_vars j; pointwise [k0_pay3, k0_pay2, bTerm])
    t ((flush0_18 t).mp hf) _, zero_add]
  have ht := pts t
  have hb := idx18 t
  have h0 : (win0_18.blk t).view.emb y 0 = (pair ⟨t.val, ht⟩ : Fin 4) := by
    apply Fin.ext; blk_simp [hb]
  have h1 : (win0_18.blk t).view.emb y 2 = (y 2 : Fin 512) := by
    apply Fin.ext; blk_simp [hb]
  refine (sum_b m c ⟨t.val, ht⟩ y).trans ?_
  exact congrArg₂ (outB m c) h0.symm h1.symm

/-! ## The queries and their decays -/

theorem arr_q (c : Dev nD) : (dats m 0 c).arrAt 12 cfg0.N = fun y : S512x512.Idx => Grad.q (held m c) (y 0) (y 1) := by
  refine (dats m 0 c).arrAt_eq_of_covers 12 _ (by decide +kernel) fun t hf y => ?_
  blk_simp
  have ht := pts t
  have hb := idx12 t
  have h0 : (win0_12.blk t).view.emb y 0 = (query ⟨t.val, ht⟩ (y 0) : Fin 512) := by
    apply Fin.ext; blk_simp [hb, query]
  have h1 : (win0_12.blk t).view.emb y 1 = (lane ⟨t.val, ht⟩ (y 1) : Fin 512) := by
    apply Fin.ext; blk_simp [hb, lane]
  refine Eq.trans ?_ (congrArg₂ (Grad.q (held m c)) h0 h1).symm
  have hq : qBlk (grid0.coords t) (iblk m c 0 t) (iblk m c 1 t) (iblk m c 2 t) (iblk m c 3 t) (iblk m c 4 t) (iblk m c 5 t) (iblk m c 6 t) (iblk m c 7 t) y
      = Grad.q (held m c) (query ⟨t.val, ht⟩ (y 0)) (lane ⟨t.val, ht⟩ (y 1)) := by
    obtain ⟨r, l, rfl⟩ : ∃ r l, y = ix2 r l := ⟨y 0, y 1, eq_ix2 y⟩
    refine queries_of_heads (held m c) ⟨t.val, ht⟩ r (fun l => qBlk (grid0.coords t) (iblk m c 0 t) (iblk m c 1 t) (iblk m c 2 t)
      (iblk m c 3 t) (iblk m c 4 t) (iblk m c 5 t) (iblk m c 6 t) (iblk m c 7 t) (ix2 r l)) (fun d => ?_) (fun d => ?_) l
    · rw [← row_A]; exact qBlk_A _ _ _ _ _ _ _ _ _ r d
    · rw [← row_B]; exact qBlk_B _ _ _ _ _ _ _ _ _ r d
  refine Eq.trans ?_ hq
  rw [after0_12]
  by_cases h : t.val % 4 = 0
  · rw [outsAt0_A m c t h (firstPt h) h (firstPt h) h (firstPt h) h (firstPt h)]; frame_out
  · rw [outsAt0_B m c t h (laterPt h) h (laterPt h) h (laterPt h) h (laterPt h)]; frame_out

theorem arr_cqA (c : Dev nD) : (dats m 0 c).arrAt 15 cfg0.N = fun y : S4x512x1.Idx => Grad.cq (held m c) (even (y 0)) (y 1) := by
  refine (dats m 0 c).arrAt_eq_of_covers 15 _ (by decide +kernel) fun t hf y => ?_
  blk_simp
  have ht := pts t
  have hb := idx15 t
  have h0 : even ((win0_15.blk t).view.emb y 0) = pairA ⟨t.val, ht⟩ := by
    apply Fin.ext; simp only [even, pairA]; blk_simp [hb]
  have h1 : (win0_15.blk t).view.emb y 1 = (query ⟨t.val, ht⟩ (y 1) : Fin 512) := by
    apply Fin.ext; blk_simp [hb, query]
  refine Eq.trans ?_ (congrArg₂ (Grad.cq (held m c)) h0 h1).symm
  have hq : cqA (grid0.coords t) (iblk m c 0 t) (iblk m c 1 t) (iblk m c 2 t) (iblk m c 3 t) (iblk m c 5 t) (iblk m c 7 t) y
      = Grad.cq (held m c) (pairA ⟨t.val, ht⟩) (query ⟨t.val, ht⟩ (y 1)) := by
    idx_vars y
    show _ = Grad.cq (held m c) (pairA ⟨t.val, ht⟩) (query ⟨t.val, ht⟩ y1)
    rw [Grad.cq, ← row_A, Subsingleton.elim y0 0, Subsingleton.elim y2 0]
    exact cqA_apply _ _ _ _ _ _ _ y1
  refine Eq.trans ?_ hq
  rw [after0_15]
  by_cases h : t.val % 4 = 0
  · rw [outsAt0_A m c t h (firstPt h) h (firstPt h) h (firstPt h) h (firstPt h)]; frame_out
  · rw [outsAt0_B m c t h (laterPt h) h (laterPt h) h (laterPt h) h (laterPt h)]; frame_out

theorem arr_cqB (c : Dev nD) : (dats m 0 c).arrAt 16 cfg0.N = fun y : S4x512x1.Idx => Grad.cq (held m c) (odd (y 0)) (y 1) := by
  refine (dats m 0 c).arrAt_eq_of_covers 16 _ (by decide +kernel) fun t hf y => ?_
  blk_simp
  have ht := pts t
  have hb := idx16 t
  have h0 : odd ((win0_16.blk t).view.emb y 0) = pairB ⟨t.val, ht⟩ := by
    apply Fin.ext; simp only [odd, pairB]; blk_simp [hb]
  have h1 : (win0_16.blk t).view.emb y 1 = (query ⟨t.val, ht⟩ (y 1) : Fin 512) := by
    apply Fin.ext; blk_simp [hb, query]
  refine Eq.trans ?_ (congrArg₂ (Grad.cq (held m c)) h0 h1).symm
  have hq : cqB (grid0.coords t) (iblk m c 0 t) (iblk m c 1 t) (iblk m c 2 t) (iblk m c 4 t) (iblk m c 6 t) (iblk m c 7 t) y
      = Grad.cq (held m c) (pairB ⟨t.val, ht⟩) (query ⟨t.val, ht⟩ (y 1)) := by
    idx_vars y
    show _ = Grad.cq (held m c) (pairB ⟨t.val, ht⟩) (query ⟨t.val, ht⟩ y1)
    rw [Grad.cq, ← row_B, Subsingleton.elim y0 0, Subsingleton.elim y2 0]
    exact cqB_apply _ _ _ _ _ _ _ y1
  refine Eq.trans ?_ hq
  rw [after0_16]
  by_cases h : t.val % 4 = 0
  · rw [outsAt0_A m c t h (firstPt h) h (firstPt h) h (firstPt h) h (firstPt h)]; frame_out
  · rw [outsAt0_B m c t h (laterPt h) h (laterPt h) h (laterPt h) h (laterPt h)]; frame_out

end Cert.Back0

end
-- ==== Proof.Back0.lean ====
module

public import proofs.«01_k».proof.Defs
public import proofs.«01_k».proof.Proof.Back0Array
public import proofs.«01_k».proof.Proof.Gen.Reference34Ideal.Run
public import proofs.«01_k».proof.Proof.Gen.Reference34Ideal.Read
public import proofs.«01_k».proof.Proof.Gen.Pre_finite_sums_g0
public import proofs.«01_k».proof.Proof.Pre

/-!
# The gradient of queries 0 to 511 is the reference's
-/

@[expose] public section

set_option maxRecDepth 16384

noncomputable section

namespace Cert.Back0

open Cert.Reference34Ideal Cert.Reference34Ideal.Read Cert.Fox
open Idealize.ShloMosaic Idealize.ShloMosaic.TcCoe Idealize.SL.Sem

section
variable (x0 x1 : FVec Ideal S2048x512 .bf16) (x2 : FVec Ideal S2048x8192 .f32) (x3 : FVec Ideal S8x2048x1 .f32)
  (x4 : FVec Ideal S8x1x2048 .f32) (x5 : FVec Ideal S2048x512 .f32)

/-- Query `r` of the group sees key `k`. -/
theorem ref_seen (r : Fin 512) (k : Fin 512) (x y : EReal) :
    Scalar.select (val_main_v25 (F := Ideal) (ix2 r k)) x y = if k.val ≤ r.val then x else y := by
  pointwise [val_main_v25, val_main_v24, val_main_v23, val_main_v22, val_main_v21, val_main_v20, val_main_v19]
  rw [select_sge (by omega) (by omega)]

theorem ref_score (h : Fin 8) (r : Fin 512) (k : Fin 512) :
    val_main_v26_0 (F := Ideal) x0 x1 x3 x4 (ix3 h r k) = (group x0 x1 x2 x3 x4 x5 h r).score k := by
  pointwise [val_main_v26_0, val_main_v26_1, val_main_v18, val_main_v17, val_main_v16, val_main_v15, val_main_v14, val_main_v11, val_main_v10, val_main_v9, val_main_v8,
    val_main_v7, val_main_v6, val_main_v4, val_main_v3, val_main_v2, val_main_v1, val_main_call0_v2, val_main_call0_v0, val_main_cst, ref_seen, word_neg_inf]
  simp only [Row.score, groupOf, Nat.zero_add]
  rfl

theorem ref_peak (h : Fin 8) (r : Fin 512) :
    val_main_v34 (F := Ideal) x0 x1 x3 x4 (ix2 h r) = (group x0 x1 x2 x3 x4 x5 h r).peak := by
  rw [val_main_v34_apply, val_main_v33_apply, val_main_v27]
  exact peak_of _ _ _ _ _ h r (fun _ => rfl) (ref_score x0 x1 x2 x3 x4 x5 h r)

theorem ref_wt (h : Fin 8) (r : Fin 512) (k : Fin 512) :
    val_main_v47 (F := Ideal) x0 x1 x3 x4 (ix3 h r k) = (group x0 x1 x2 x3 x4 x5 h r).wt k := by
  pointwise [val_main_v47, val_main_v46, val_main_v45, val_main_v44, ref_score x0 x1 x2 x3 x4 x5, ref_peak x0 x1 x2 x3 x4 x5]
  rfl

theorem ref_tot (h : Fin 8) (r : Fin 512) :
    val_main_v48 (F := Ideal) x0 x1 x3 x4 (ix2 h r) = (group x0 x1 x2 x3 x4 x5 h r).tot := by
  pointwise [val_main_v48, ref_wt x0 x1 x2 x3 x4 x5, val_main_cst_8]
  rfl

theorem ref_prob (h : Fin 8) (r : Fin 512) (k : Fin 512) (hR : (group x0 x1 x2 x3 x4 x5 h r).Real) :
    val_main_v51 (F := Ideal) x0 x1 x3 x4 (ix3 h r k) = (group x0 x1 x2 x3 x4 x5 h r).prob k := by
  pointwise [val_main_v51, val_main_v50, val_main_v49, ref_wt x0 x1 x2 x3 x4 x5, ref_tot x0 x1 x2 x3 x4 x5]
  exact Row.prob_eq hR k

theorem ref_dprob (h : Fin 8) (r : Fin 512) (k : Fin 512) :
    val_main_v61 (F := Ideal) x2 x5 (ix3 h r k) = (group x0 x1 x2 x3 x4 x5 h r).dprob k := by
  pointwise [val_main_v61, val_main_v60, val_main_v59, val_main_v58, val_main_v13, val_main_v12, val_main_v5, val_main_v0]
  simp only [Row.dprob, groupOf, Nat.zero_add]
  rfl

theorem ref_slope' (h : Fin 8) (r : Fin 512) (k : Fin 512) (hR : (group x0 x1 x2 x3 x4 x5 h r).Real) :
    val_main_v75 (F := Ideal) x0 x1 x2 x3 x4 x5 (ix3 h r k) = (group x0 x1 x2 x3 x4 x5 h r).slope' k := by
  pointwise [val_main_v75, val_main_v74, val_main_v73, val_main_v72, val_main_v71, val_main_v70, val_main_v69, val_main_v68, val_main_v67, val_main_v66, val_main_v65, val_main_v64,
    val_main_v54, val_main_v53, val_main_v52, val_main_v49, val_main_cst_9, val_main_cst_10, val_main_cst_11,
    ref_wt x0 x1 x2 x3 x4 x5, ref_tot x0 x1 x2 x3 x4 x5, ref_dprob x0 x1 x2 x3 x4 x5]
  simp only [Finset.univ_unique, Finset.sum_singleton]
  exact Row.slope'_eq hR k

theorem ref_slope (h : Fin 8) (r : Fin 512) (k : Fin 512) (hR : (group x0 x1 x2 x3 x4 x5 h r).Real) :
    val_main_v76 (F := Ideal) x0 x1 x2 x3 x4 x5 (ix3 h r k) = (group x0 x1 x2 x3 x4 x5 h r).slope k := by
  pointwise [val_main_v76, val_main_v26_1, ref_seen, ref_slope' x0 x1 x2 x3 x4 x5 h r k hR, val_main_call1_v0, val_main_call1_cst]
  simp only [Row.slope, groupOf, Nat.zero_add]

variable (hR : Real (group x0 x1 x2 x3 x4 x5))
include hR

/-- The reference's query gradient. -/
theorem ref_q : val_main_v89 (F := Ideal) x0 x1 x2 x3 x4 x5 = fun y : S512x512.Idx => Grad.q (group x0 x1 x2 x3 x4 x5) (y 0) (y 1) := by
  funext y
  obtain ⟨r, c, rfl⟩ : ∃ r c, y = ix2 r c := ⟨y 0, y 1, eq_ix2 y⟩
  show _ = Grad.q (group x0 x1 x2 x3 x4 x5) r c
  pointwise [val_main_v89, val_main_v88, val_main_v83, val_main_v11, val_main_v10, val_main_v4, val_main_v3, ref_slope x0 x1 x2 x3 x4 x5 _ _ _ (hR _ _)]
  exact Finset.sum_congr rfl fun k _ => congrArg (fun l : Fin 512 => _ * x1 (ix2 ⟨k.val, by omega⟩ l)) (lane_head_sub c).symm

/-- Its key gradient, on top of the running sum. -/
theorem ref_k (x6 : FVec Ideal S1024x512 .f32) : val_main_v91 (F := Ideal) x0 x1 x2 x3 x4 x5 x6
    = fun y : S512x512.Idx => x6 (ix2 ⟨(y 0).val, lt_of_lt_of_le (y 0).isLt (by decide)⟩ (y 1)) + Grad.k (group x0 x1 x2 x3 x4 x5) (y 0) (y 1) := by
  funext y
  obtain ⟨k, c, rfl⟩ : ∃ k c, y = ix2 k c := ⟨y 0, y 1, eq_ix2 y⟩
  show _ = x6 (ix2 ⟨k.val, by omega⟩ c) + Grad.k (group x0 x1 x2 x3 x4 x5) k c
  pointwise [val_main_v91, val_main_v90, val_main_v87, val_main_v86, val_main_v82, val_main_v9, val_main_v8, val_main_v2, val_main_v1, ref_slope x0 x1 x2 x3 x4 x5 _ _ _ (hR _ _)]
  refine congrArg (_ + ·) ?_
  refine Finset.sum_congr rfl fun r _ => ?_
  have hq : (group x0 x1 x2 x3 x4 x5 (head c) r).q (sub c) = x0 (ix2 ⟨r.val, by omega⟩ c) := by
    simp only [groupOf, Nat.zero_add, lane_head_sub]
  exact congrArg (_ * ·) hq.symm

/-- Its value gradient, on top of the running sum. -/
theorem ref_v (x7 : FVec Ideal S1024x512 .f32) : val_main_v93 (F := Ideal) x0 x1 x3 x4 x5 x7
    = fun y : S512x512.Idx => x7 (ix2 ⟨(y 0).val, lt_of_lt_of_le (y 0).isLt (by decide)⟩ (y 1)) + Grad.v (group x0 x1 x2 x3 x4 x5) (y 0) (y 1) := by
  funext y
  obtain ⟨k, c, rfl⟩ : ∃ k c, y = ix2 k c := ⟨y 0, y 1, eq_ix2 y⟩
  show _ = x7 (ix2 ⟨k.val, by omega⟩ c) + Grad.v (group x0 x1 x2 x3 x4 x5) k c
  pointwise [val_main_v93, val_main_v92, val_main_v85, val_main_v84, val_main_v63, val_main_v62, val_main_v60, val_main_v59, val_main_v58, ref_prob x0 x1 x2 x3 x4 x5 _ _ _ (hR _ _)]
  refine congrArg (_ + ·) ?_
  refine Finset.sum_congr rfl fun r _ => ?_
  rw [mul_comm]
  have hy : (group x0 x1 x2 x3 x4 x5 (head c) r).dy (sub c) = x5 (ix2 ⟨r.val, by omega⟩ c) := by
    simp only [groupOf, Nat.zero_add, lane_head_sub]
  exact congrArg (_ * ·) hy.symm

/-- Its gradient of the even heads' query decays. -/
theorem ref_cqA : val_main_v94 (F := Ideal) x0 x1 x2 x3 x4 x5
    = fun y : S4x512x1.Idx => Grad.cq (group x0 x1 x2 x3 x4 x5) (even (y 0)) (y 1) := by
  funext y
  obtain ⟨p, r, u, rfl⟩ : ∃ p r u, y = ix3 p r u := ⟨y 0, y 1, y 2, eq_ix3 y⟩
  show _ = Grad.cq (group x0 x1 x2 x3 x4 x5) (even p) r
  pointwise [val_main_v94, val_main_v81, val_main_v80, val_main_cst_13, ref_slope x0 x1 x2 x3 x4 x5 _ _ _ (hR _ _)]
  have he : (⟨2 * p.val, by omega⟩ : Fin 8) = even p := Fin.ext (by simp only [even])
  rw [he]
  rfl

/-- Its gradient of the odd heads' query decays. -/
theorem ref_cqB : val_main_v95 (F := Ideal) x0 x1 x2 x3 x4 x5
    = fun y : S4x512x1.Idx => Grad.cq (group x0 x1 x2 x3 x4 x5) (odd (y 0)) (y 1) := by
  funext y
  obtain ⟨p, r, u, rfl⟩ : ∃ p r u, y = ix3 p r u := ⟨y 0, y 1, y 2, eq_ix3 y⟩
  show _ = Grad.cq (group x0 x1 x2 x3 x4 x5) (odd p) r
  pointwise [val_main_v95, val_main_v81, val_main_v80, val_main_cst_13, ref_slope x0 x1 x2 x3 x4 x5 _ _ _ (hR _ _)]
  have he : (⟨1 + 2 * p.val, by omega⟩ : Fin 8) = odd p := Fin.ext (by simp only [odd]; omega)
  rw [he]
  rfl

/-- Its gradient of the even heads' key decays, on top of the running sum. -/
theorem ref_ckA (x8 : FVec Ideal S4x1x1024 .f32) : val_main_v98 (F := Ideal) x0 x1 x2 x3 x4 x5 x8
    = fun y : S4x1x512.Idx => x8 (ix3 (y 0) 0 ⟨(y 2).val, lt_of_lt_of_le (y 2).isLt (by decide)⟩) + Grad.ck (group x0 x1 x2 x3 x4 x5) (even (y 0)) (y 2) := by
  funext y
  obtain ⟨p, u, k, rfl⟩ : ∃ p u k, y = ix3 p u k := ⟨y 0, y 1, y 2, eq_ix3 y⟩
  show _ = x8 (ix3 p 0 ⟨k.val, by omega⟩) + Grad.ck (group x0 x1 x2 x3 x4 x5) (even p) k
  rw [Subsingleton.elim u 0]
  pointwise [val_main_v98, val_main_v96, val_main_v97, val_main_v79, val_main_v78, val_main_v77, val_main_cst_12, ref_slope x0 x1 x2 x3 x4 x5 _ _ _ (hR _ _)]
  have he : (⟨2 * p.val, by omega⟩ : Fin 8) = even p := Fin.ext (by simp only [even])
  rw [he]
  exact congrArg (_ + ·) (Finset.sum_congr rfl fun r _ => (zero_sub _).symm)

/-- Its gradient of the odd heads' key decays, on top of the running sum. -/
theorem ref_ckB (x9 : FVec Ideal S4x1x1024 .f32) : val_main_v101 (F := Ideal) x0 x1 x2 x3 x4 x5 x9
    = fun y : S4x1x512.Idx => x9 (ix3 (y 0) 0 ⟨(y 2).val, lt_of_lt_of_le (y 2).isLt (by decide)⟩) + Grad.ck (group x0 x1 x2 x3 x4 x5) (odd (y 0)) (y 2) := by
  funext y
  obtain ⟨p, u, k, rfl⟩ : ∃ p u k, y = ix3 p u k := ⟨y 0, y 1, y 2, eq_ix3 y⟩
  show _ = x9 (ix3 p 0 ⟨k.val, by omega⟩) + Grad.ck (group x0 x1 x2 x3 x4 x5) (odd p) k
  rw [Subsingleton.elim u 0]
  pointwise [val_main_v101, val_main_v99, val_main_v100, val_main_v79, val_main_v78, val_main_v77, val_main_cst_12, ref_slope x0 x1 x2 x3 x4 x5 _ _ _ (hR _ _)]
  have he : (⟨1 + 2 * p.val, by omega⟩ : Fin 8) = odd p := Fin.ext (by simp only [odd]; omega)
  rw [he]
  exact congrArg (_ + ·) (Finset.sum_congr rfl fun r _ => (zero_sub _).symm)

end

/-- The precondition says what program 1's says of the same six arguments. -/
theorem finite_args (x0 x1 : FVec Ideal S2048x512 .bf16) (x2 : FVec Ideal S2048x8192 .f32) (x3 : FVec Ideal S8x2048x1 .f32)
    (x4 : FVec Ideal S8x1x2048 .f32) (x5 : FVec Ideal S2048x512 .f32) (x6 x7 : FVec Ideal S1024x512 .f32) (x8 x9 : FVec Ideal S4x1x1024 .f32)
    (h : Cert.Pre_finite_sums_g0.fn (F := Ideal) x0 x1 x2 x3 x4 x5 x6 x7 x8 x9 = fun _ => 1#1) : Real (group x0 x1 x2 x3 x4 x5) := by
  obtain ⟨f0, f1, f3, f4⟩ := Cert.Finite.finite x0 x1 x2 x3 x4 x5 h
  exact groupOf_real (by omega) (fun _ _ => f0 _) (fun _ _ => f1 _) (fun _ _ => f3 _) (fun _ _ => f4 _)

/-- The algebraic claim. -/
theorem algebraic : Cert.algebraic_Kernel34Ideal_Reference34Ideal_pre_finite_sums_g0 := by
  intro m g m' g' hpre hag
  refine ⟨_, _, _, _, _, _, _, Cert.Kernel34Ideal.Value.run_blocks m g, (θ_run _ _ _).mono (fun r h c => ?_) (Cert.Reference34Ideal.Value.run m' g')⟩
  obtain ⟨h0, h1, h2, h3, h4, h5, h6, hk⟩ := h c
  obtain ⟨a0, a1, a2, a3, a4, a5, a6, a7, a8, a9⟩ := hag c
  have hR : Real (held m c) := finite_args _ _ _ _ _ _ _ _ _ _ (hpre c)
  refine ⟨h0.trans ((val_main_v89_eq m' c).trans ?_), h1.trans ((val_main_v91_eq m' c).trans ?_), h2.trans ((val_main_v93_eq m' c).trans ?_),
    h3.trans ((val_main_v94_eq m' c).trans ?_), h4.trans ((val_main_v95_eq m' c).trans ?_), h5.trans ((val_main_v98_eq m' c).trans ?_),
    h6.trans ((val_main_v101_eq m' c).trans ?_), hk⟩
  · rw [a0, a1, a2, a3, a4, a5, arr_q]; exact ref_q _ _ _ _ _ _ hR
  · rw [a0, a1, a2, a3, a4, a5, a6, arr_k]; exact ref_k _ _ _ _ _ _ hR _
  · rw [a0, a1, a3, a4, a5, a7, arr_v]; exact ref_v _ _ _ _ _ _ hR _
  · rw [a0, a1, a2, a3, a4, a5, arr_cqA]; exact ref_cqA _ _ _ _ _ _ hR
  · rw [a0, a1, a2, a3, a4, a5, arr_cqB]; exact ref_cqB _ _ _ _ _ _ hR
  · rw [a0, a1, a2, a3, a4, a5, a8, arr_ckA]; exact ref_ckA _ _ _ _ _ _ hR _
  · rw [a0, a1, a2, a3, a4, a5, a9, arr_ckB]; exact ref_ckB _ _ _ _ _ _ hR _

end Cert.Back0

end
-- ==== Proof.RowNorm.lean ====
module

public import Idealize.ShloMosaic.PureOps.Ideal
public import Idealize.ShloMosaic.Lib.Pointwise

/-!
# The root-mean-square norm of one row

A row of 1024 entries is divided by the root of its mean square, to which a small constant is added, and multiplied by the gain.
-/

@[expose] public section

noncomputable section

namespace Cert.RowNorm

open Idealize.ShloMosaic

/-- The number of columns, the small constant and the exponent of the root, as they are stored. -/
def columns : EReal := Ideal.ofBits .f32 0x44800000#32
def small : EReal := Ideal.ofBits .f32 0x358637BD#32
def power : EReal := Ideal.ofBits .f32 0xBF000000#32

/-- The mean square plus the small constant. -/
def mean (r : Fin 1024 → EReal) : EReal := Ideal.div (∑ k, r k * r k) columns + small

/-- What the row is multiplied by. -/
def scale (r : Fin 1024 → EReal) : EReal := Ideal.rsqrt (mean r)

/-- The gradient that reaches each entry through the mean square: `d` is what arrives, `g` the gain. -/
def through (r d g : Fin 1024 → EReal) : EReal :=
  Ideal.div ((∑ k, r k * (d k * g k)) * (power * Ideal.div (scale r) (mean r))) columns

/-- The gradient of the row's entry `j`, added to `e`. -/
def grad (r d g : Fin 1024 → EReal) (e : EReal) (j : Fin 1024) : EReal :=
  d j * g j * scale r + r j * through r d g + through r d g * r j + e

end Cert.RowNorm

end
-- ==== Proof.Norm.lean ====
module

public import proofs.«01_k».proof.Defs
public import proofs.«01_k».proof.Proof.Gen.Kernel35Ideal.Value
public import proofs.«01_k».proof.Proof.Gen.Reference35Ideal.Run
public import proofs.«01_k».proof.Proof.Gen.Reference35Ideal.Read
public import proofs.«01_k».proof.Proof.RowNorm
public import Idealize.ShloMosaic.Lib.Pipeline.ValueKit
public import Idealize.ShloMosaic.Lib.ValueIdx

/-!
# The norm

Entry `(i, j)` is the entry times the scale of row `i` times the gain of column `j`. Grid point `t` computes the rows `512 t`
to `512 (t + 1)`.
-/

@[expose] public section

set_option maxRecDepth 16384

noncomputable section

namespace Cert.Norm

open Cert.Kernel35Ideal Cert.Kernel35Ideal.Gen Cert.Reference35Ideal.Read
open Idealize.ShloMosaic Idealize.ShloMosaic.TcCoe Idealize.SL.Sem
open Cert.RowNorm

/-- The norm of every row. -/
def spec (x : FVec Ideal S2048x1024 .f32) (g : FVec Ideal S1x1024 .f32) : FVec Ideal S2048x1024 .bf16 :=
  fun y => x y * scale (fun k => x (ix2 (y 0) k)) * g (ix2 0 (y 1))

/-- What one grid point computes. -/
theorem part_apply (x : Vec Ideal S512x1024 .f32) (g : Vec Ideal S1x1024 .f32) (i : Fin 512) (j : Fin 1024) :
    k0_pay1 (F := Ideal) x g (ix2 i j) = x (ix2 i j) * scale (fun k => x (ix2 i k)) * g (ix2 0 j) := by
  pointwise [k0_pay1]
  rfl

variable (m : (ℓ : Loc nD τ sig) → Buf (Elt Ideal) ℓ)

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)

/-- The kernel's result. -/
theorem arr (c : Dev nD) : (dats m 0 c).arrAt 2 cfg0.N
    = spec (m ((c : Thread nD τ).loc main_arg0)) (m ((c : Thread nD τ).loc main_arg1)) := by
  refine (dats m 0 c).arrAt_eq_of_covers 2 _ (by decide +kernel) fun t hf y => ?_
  blk_simp
  rw [after0_2]
  frame_out
  obtain ⟨i, j, rfl⟩ : ∃ i j, y = ix2 i j := ⟨y 0, y 1, eq_ix2 y⟩
  rw [part_apply]
  refine congrArg₂ (· * ·) (congrArg₂ (· * ·) ?_ (congrArg scale (funext fun k => ?_))) ?_
  · blk_ext [iblk, V, idx0 t, idx2 t]
  · blk_ext [iblk, V, idx0 t, idx2 t]
  · blk_ext [iblk, V, idx1 t, idx2 t]

/-- The sum begins at zero. -/
theorem zero (i : Cert.Reference35Ideal.S_.Idx) : val_main_cst (F := Ideal) i = 0 := Ideal.ofBits_zero_f32

/-- The reference's result. -/
theorem ref (x : FVec Ideal S2048x1024 .f32) (g : FVec Ideal S1x1024 .f32) : val_main_v12 (F := Ideal) x g = spec x g := by
  funext y
  obtain ⟨i, j, rfl⟩ : ∃ i j, y = ix2 i j := ⟨y 0, y 1, eq_ix2 y⟩
  pointwise [val_main_v12, val_main_v11, val_main_v10, val_main_v9, val_main_v8, val_main_v7, val_main_v6, val_main_v5,
    val_main_v4, val_main_v3, val_main_v2, val_main_v1, val_main_v0]
  rw [zero, zero_add]
  rfl

theorem algebraic : Cert.algebraic_Kernel35Ideal_Reference35Ideal := by
  intro m g m' g' _ hag
  refine ⟨_, Cert.Kernel35Ideal.Value.run_blocks m g, (θ_run _ _ _).mono (fun r h c => ?_) (Cert.Reference35Ideal.Value.run m' g')⟩
  obtain ⟨h0, hk⟩ := h c
  obtain ⟨a0, a1⟩ := hag c
  refine ⟨h0.trans ((val_main_v12_eq _ _).trans ?_), hk⟩
  rw [ref, arr, a0, a1]

end Cert.Norm

end
-- ==== Proof.NormGrad.lean ====
module

public import proofs.«01_k».proof.Defs
public import proofs.«01_k».proof.Proof.Gen.Kernel36Ideal.Value
public import proofs.«01_k».proof.Proof.Gen.Reference36Ideal.Run
public import proofs.«01_k».proof.Proof.Gen.Reference36Ideal.Read
public import proofs.«01_k».proof.Proof.RowNorm
public import proofs.«01_k».proof.Proof.Product
public import Idealize.ShloMosaic.Lib.Pipeline.ValueKit
public import Idealize.ShloMosaic.Lib.Pipeline.ReadBack
public import Idealize.ShloMosaic.Lib.ValueIdx

/-!
# The gradient of the norm

The input's gradient is taken row by row and added to the residual's gradient. The gain's is, for each column, the sum over
all rows of the scaled entry times the incoming gradient. Grid point `t` computes the rows `512 t` to `512 (t + 1)` and adds
their part of the gain's gradient to what the points before have left.
-/

@[expose] public section

set_option maxRecDepth 16384

noncomputable section

namespace Cert.NormGrad

open Cert.Kernel36Ideal Cert.Kernel36Ideal.Gen Cert.Reference36Ideal.Read
open Idealize.ShloMosaic Idealize.ShloMosaic.TcCoe Idealize.SL.Sem
open Cert.RowNorm

/-- The gradient of the input, with the residual's. -/
def toInput (x : FVec Ideal S2048x1024 .f32) (g : FVec Ideal S1x1024 .f32) (d e : FVec Ideal S2048x1024 .f32) :
    FVec Ideal S2048x1024 .f32 :=
  fun y => grad (fun k => x (ix2 (y 0) k)) (fun k => d (ix2 (y 0) k)) (fun k => g (ix2 0 k)) (e y) (y 1)

/-- The gradient of the gain. -/
def toGain (x d : FVec Ideal S2048x1024 .f32) : FVec Ideal S1x1024 .f32 :=
  fun y => ∑ i : Fin 2048, x (ix2 i (y 1)) * scale (fun k => x (ix2 i k)) * d (ix2 i (y 1))

section Block

variable (x d e : Vec Ideal S512x1024 .f32) (g : Vec Ideal S1x1024 .f32)

theorem mean_apply (i : Fin 512) : k0_pay2 (F := Ideal) x (ix2 i 0) = mean (fun k => x (ix2 i k)) := by
  pointwise [k0_pay2]
  rfl

theorem scale_apply (i : Fin 512) : k0_pay3 (F := Ideal) x (ix2 i 0) = scale (fun k => x (ix2 i k)) := by
  pointwise [k0_pay3]
  rw [mean_apply]
  rfl

/-- What one grid point adds to the gain's gradient. -/
theorem gain_apply (j : Fin 1024) : k0_pay4 (F := Ideal) x d (ix2 0 j)
    = ∑ r : Fin 512, x (ix2 r j) * scale (fun k => x (ix2 r k)) * d (ix2 r j) := by
  pointwise [k0_pay4]
  exact Finset.sum_congr rfl fun r _ => by rw [scale_apply]

theorem step_apply (a b : Vec Ideal S1x1024 .f32) (j : Fin 1024) :
    k0_pay1 (F := Ideal) a b (ix2 0 j) = b (ix2 0 j) + a (ix2 0 j) := by
  pointwise [k0_pay1]

/-- What it computes of the input's. -/
theorem input_apply (i : Fin 512) (j : Fin 1024) : k0_pay5 (F := Ideal) x g d e (ix2 i j)
    = grad (fun k => x (ix2 i k)) (fun k => d (ix2 i k)) (fun k => g (ix2 0 k)) (e (ix2 i j)) j := by
  pointwise [k0_pay5]
  rw [Fin.sum_univ_one, scale_apply, mean_apply]
  rfl

end Block

variable (m : (ℓ : Loc nD τ sig) → Buf (Elt Ideal) ℓ)

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![0, 0] := (by decide +kernel : ∀ t : Fin grid0.N, _)
theorem pts (t : Fin cfg0.N) : t.val < 4 := lt_of_lt_of_eq t.isLt (by decide +kernel)

/-- What point `t` adds to the gain's gradient. -/
def part (c : Dev nD) (t : Fin cfg0.N) (y : S1x1024.Idx) : EReal := k0_pay4 (F := Ideal) (iblk m c 0 t) (iblk m c 2 t) y

/-- The gain's gradient where it is written back. -/
theorem acc (c : Dev nD) (t : Fin cfg0.N) (h : t.val % 4 = 3) (y : S1x1024.Idx) : (outsAt0 m c t.val t.isLt).2 y
    = 0 + ∑ s : Fin 4, part m c ⟨4 * (t.val / 4) + s.val, by have := pts t; show _ < 4; omega⟩ y := by
  refine Pipeline.eq_sum_fin_of_reset_step_apply_of_flush (fun n h => (outsAt0 m c n h).2) 4 (fun _ => 0) (part m c)
    (fun t h j => ?_) (fun t h j => ?_) t h y
  · rw [outsAt0_A m c t h (by have := pts t; omega)]
    frame_out
    exact (zero_add _).symm
  · rw [outsAt0_B m c t h (by omega)]
    frame_out
    obtain ⟨l, rfl⟩ : ∃ l, j = ix2 0 l := ⟨j 1, by rw [eq_ix2 j]; congr 1; exact Subsingleton.elim _ _⟩
    exact step_apply _ _ _

/-- The block of the input's gradient. -/
theorem out (c : Dev nD) (t : Fin cfg0.N) (i : Fin 512) (j : Fin 1024) : (outsAt0 m c t.val t.isLt).1 (ix2 i j)
    = k0_pay5 (F := Ideal) (iblk m c 0 t) (iblk m c 1 t) (iblk m c 2 t) (iblk m c 3 t) (ix2 i j) := by
  have ht := pts t
  by_cases h : t.val % 4 = 0
  · rw [outsAt0_A m c t h (by omega)]
    frame_out
  · rw [outsAt0_B m c t h (by omega)]
    frame_out

/-- The kernel's first result. -/
theorem arr_input (c : Dev nD) : (dats m 0 c).arrAt 4 cfg0.N
    = toInput (m ((c : Thread nD τ).loc main_arg0)) (m ((c : Thread nD τ).loc main_arg1)) (m ((c : Thread nD τ).loc main_arg2))
      (m ((c : Thread nD τ).loc main_arg3)) := by
  refine (dats m 0 c).arrAt_eq_of_covers 4 _ (by decide +kernel) fun t hf y => ?_
  blk_simp
  obtain ⟨i, j, rfl⟩ : ∃ i j, y = ix2 i j := ⟨y 0, y 1, eq_ix2 y⟩
  rw [after0_4, out, input_apply]
  have hx : (fun k => (iblk m c 0 t : Vec Ideal S512x1024 .f32) (ix2 i k))
      = fun k => m ((c : Thread nD τ).loc main_arg0) (ix2 (((cfg0.win 4).blk t).view.emb (ix2 i j) 0) k) := by
    funext k
    blk_ext [iblk, V, idx0 t, idx4 t]
  have hd : (fun k => (iblk m c 2 t : Vec Ideal S512x1024 .f32) (ix2 i k))
      = fun k => m ((c : Thread nD τ).loc main_arg2) (ix2 (((cfg0.win 4).blk t).view.emb (ix2 i j) 0) k) := by
    funext k
    blk_ext [iblk, V, idx2 t, idx4 t]
  have hg : (fun k => (iblk m c 1 t : Vec Ideal S1x1024 .f32) (ix2 0 k))
      = fun k => m ((c : Thread nD τ).loc main_arg1) (ix2 0 k) := by
    funext k
    blk_ext [iblk, V, idx1 t]
  have he : (iblk m c 3 t : Vec Ideal S512x1024 .f32) (ix2 i j)
      = m ((c : Thread nD τ).loc main_arg3) (((cfg0.win 4).blk t).view.emb (ix2 i j)) := by
    blk_ext [iblk, V, idx3 t, idx4 t]
  have hj : j = ((cfg0.win 4).blk t).view.emb (ix2 i j) 1 := by
    apply Fin.ext
    blk_simp [idx4 t]
  rw [hx, hd, hg, he]
  exact congrArg (grad _ _ _ _) hj

/-- And its second. -/
theorem arr_gain (c : Dev nD) : (dats m 0 c).arrAt 5 cfg0.N
    = toGain (m ((c : Thread nD τ).loc main_arg0)) (m ((c : Thread nD τ).loc main_arg2)) := by
  refine (dats m 0 c).arrAt_eq_of_covers 5 _ (by decide +kernel) fun t hf y => ?_
  blk_simp
  have ht := pts t
  have h3 := (flush0_5 t).mp hf
  obtain ⟨j, rfl⟩ : ∃ j, y = ix2 0 j := ⟨y 1, by rw [eq_ix2 y]; congr 1; exact Subsingleton.elim _ _⟩
  rw [after0_5, acc m c t h3, zero_add]
  refine Product.gather 4 512 rfl (fun s => gain_apply _ _ _) (fun s r _ => congrArg₂ (· * ·) ?_ (congrArg scale (funext fun k => ?_)))
    fun s r _ => ?_
  · blk_ext [iblk, V, idx0, idx5 t]
  · blk_ext [iblk, V, idx0]
  · blk_ext [iblk, V, idx2, idx5 t]

/-- Where the reference's sums begin. -/
theorem zero (i : Cert.Reference36Ideal.S_.Idx) : val_main_cst (F := Ideal) i = 0 := Ideal.ofBits_zero_f32
theorem zero3 (i : Cert.Reference36Ideal.S_.Idx) : val_main_cst_3 (F := Ideal) i = 0 := Ideal.ofBits_zero_f32
theorem zero4 (i : Cert.Reference36Ideal.S_.Idx) : val_main_cst_4 (F := Ideal) i = 0 := Ideal.ofBits_zero_f32
theorem zero6 (i : Cert.Reference36Ideal.S_.Idx) : val_main_cst_6 (F := Ideal) i = 0 := Ideal.ofBits_zero_f32

section Reference

variable (x d e : FVec Ideal S2048x1024 .f32) (g : FVec Ideal S1x1024 .f32)

theorem ref_mean (i : Fin 2048) : val_main_v6 (F := Ideal) x (ix2 i 0) = mean (fun k => x (ix2 i k)) := by
  pointwise [val_main_v6, val_main_v5, val_main_v4, val_main_v3, val_main_v2, val_main_v1, val_main_v0]
  rw [zero, zero_add]
  rfl

/-- The reference's first result. -/
theorem ref_input : val_main_v34 (F := Ideal) x g d e = toInput x g d e := by
  funext y
  obtain ⟨i, j, rfl⟩ : ∃ i j, y = ix2 i j := ⟨y 0, y 1, eq_ix2 y⟩
  pointwise [val_main_v34, val_main_v33, val_main_v32, val_main_v31, val_main_v30, val_main_v29, val_main_v28, val_main_v27,
    val_main_v26, val_main_v25, val_main_v24, val_main_v23, val_main_v22, val_main_v21, val_main_v20, val_main_v19,
    val_main_v18, val_main_v10, val_main_v9, val_main_v8, val_main_v7]
  rw [Fin.sum_univ_one, zero6, zero4, zero_add (M := EReal), zero_add (M := EReal), ref_mean]
  rfl

/-- And its second. -/
theorem ref_gain : val_main_v17 (F := Ideal) x d = toGain x d := by
  funext y
  obtain ⟨j, rfl⟩ : ∃ j, y = ix2 0 j := ⟨y 1, by rw [eq_ix2 y]; congr 1; exact Subsingleton.elim _ _⟩
  pointwise [val_main_v17, val_main_v16, val_main_v15, val_main_v12, val_main_v11, val_main_v7]
  rw [zero3, zero_add]
  exact Finset.sum_congr rfl fun r _ => by rw [ref_mean]; rfl

end Reference

theorem algebraic : Cert.algebraic_Kernel36Ideal_Reference36Ideal := by
  intro m g m' g' _ hag
  refine ⟨_, _, Cert.Kernel36Ideal.Value.run_blocks m g, (θ_run _ _ _).mono (fun r h c => ?_) (Cert.Reference36Ideal.Value.run m' g')⟩
  obtain ⟨h0, h1, hk⟩ := h c
  obtain ⟨a0, a1, a2, a3⟩ := hag c
  refine ⟨h0.trans ((val_main_v34_eq _ _ _ _).trans ?_), h1.trans ((val_main_v17_eq _ _).trans ?_), hk⟩
  · rw [ref_input, arr_input, a0, a1, a2, a3]
  · rw [ref_gain, arr_gain, a0, a2]

end Cert.NormGrad

end
-- ==== Proof.Sigmoid.lean ====
module

public import proofs.«01_k».proof.Defs
public import Idealize.ShloMosaic.Lib.Pipeline.ValueKit
public import Idealize.ShloMosaic.Lib.ValueIdx

/-!
# The logistic function and the hyperbolic tangent

The reference writes the logistic function as `1 / (1 + exp (-x))` and its derivative as `s (1 - s)`. The kernel writes
`(tanh (x / 2) + 1) / 2` and differentiates the hyperbolic tangent: `(1 + t) (1 - t) / 4`. The two agree at every extended
real, the infinities included.
-/

@[expose] public section

noncomputable section

namespace Cert.Sigmoid

open Idealize.ShloMosaic

/-- The logistic function, a real number at every extended real. -/
def real : EReal → ℝ
  | ⊥ => 0
  | ⊤ => 1
  | (r : ℝ) => 1 / (1 + Real.exp (-r))

theorem half : Ideal.ofBits .f32 0x3F000000#32 = ((1 / 2 : ℝ) : EReal) := by
  simp [Ideal.ofBits, Ideal.ieee]
  rw [← EReal.coe_mul]
  norm_num

/-- The reference's formula. -/
def logistic (x : EReal) : EReal := Ideal.div 1 (1 + Ideal.exp (-x))

theorem logistic_eq (x : EReal) : logistic x = (real x : EReal) := by
  unfold logistic
  induction x using EReal.rec with
  | bot =>
    show Ideal.div 1 (1 + ⊤) = ((0 : ℝ) : EReal)
    rw [← EReal.coe_one, EReal.coe_add_top]
    simp [Ideal.div]
  | top =>
    show Ideal.div 1 (1 + 0) = ((1 : ℝ) : EReal)
    simp [Ideal.div]
  | coe r =>
    have h : (1 : ℝ) + Real.exp (-r) ≠ 0 := by positivity
    have e : (1 : EReal) + Ideal.exp (-(r : EReal)) = ((1 + Real.exp (-r) : ℝ) : EReal) := by
      rw [← EReal.coe_neg]
      show 1 + ((Real.exp (-r) : ℝ) : EReal) = _
      push_cast
      rfl
    rw [e, Ideal.div, if_neg (by exact_mod_cast h), one_mul, ← EReal.coe_inv]
    show (((1 + Real.exp (-r))⁻¹ : ℝ) : EReal) = ((1 / (1 + Real.exp (-r)) : ℝ) : EReal)
    rw [one_div]

theorem tanh_eq (x : EReal) : Ideal.tanh (Ideal.ofBits .f32 0x3F000000#32 * x) = ((2 * real x - 1 : ℝ) : EReal) := by
  rw [half]
  induction x using EReal.rec with
  | bot =>
    rw [EReal.coe_mul_bot_of_pos (by norm_num)]
    show (-1 : EReal) = ((2 * 0 - 1 : ℝ) : EReal)
    norm_num
  | top =>
    rw [EReal.coe_mul_top_of_pos (by norm_num)]
    show (1 : EReal) = ((2 * 1 - 1 : ℝ) : EReal)
    norm_num
  | coe r =>
    rw [← EReal.coe_mul]
    show ((Real.tanh (1 / 2 * r) : ℝ) : EReal) = ((2 * (1 / (1 + Real.exp (-r))) - 1 : ℝ) : EReal)
    congr 1
    have e : Real.exp (-r) = Real.exp (-(1 / 2 * r)) * Real.exp (-(1 / 2 * r)) := by rw [← Real.exp_add]; ring_nf
    have p : Real.exp (1 / 2 * r) * Real.exp (-(1 / 2 * r)) = 1 := by rw [← Real.exp_add]; simp
    have := Real.exp_pos (1 / 2 * r)
    have := Real.exp_pos (-(1 / 2 * r))
    rw [Real.tanh_eq_sinh_div_cosh, Real.sinh_eq, Real.cosh_eq, e]
    generalize Real.exp (1 / 2 * r) = a at *
    generalize Real.exp (-(1 / 2 * r)) = b at *
    field_simp
    linear_combination (2 * b) * p

/-- The kernel's value. -/
theorem value (x : EReal) :
    Ideal.ofBits .f32 0x3F000000#32 * (Ideal.tanh (Ideal.ofBits .f32 0x3F000000#32 * x) + 1) = logistic x := by
  rw [tanh_eq, half, logistic_eq, ← EReal.coe_one, ← EReal.coe_add, ← EReal.coe_mul]
  congr 1
  ring

/-- The kernel's derivative, times what arrives from above. -/
theorem slope (x w : EReal) :
    Ideal.ofBits .f32 0x3F000000#32 * (Ideal.ofBits .f32 0x3F000000#32 * w
      * ((1 + Ideal.tanh (Ideal.ofBits .f32 0x3F000000#32 * x)) * (1 - Ideal.tanh (Ideal.ofBits .f32 0x3F000000#32 * x))))
    = w * (logistic x * (1 - logistic x)) := by
  rw [tanh_eq, half, logistic_eq, ← EReal.coe_one, ← EReal.coe_add, ← EReal.coe_sub, ← EReal.coe_sub, ← EReal.coe_mul,
    ← EReal.coe_mul, mul_comm _ w, mul_assoc, mul_left_comm, ← EReal.coe_mul, ← EReal.coe_mul]
  congr 2
  ring

end Cert.Sigmoid

end
-- ==== Proof.Gated.lean ====
module

public import proofs.«01_k».proof.Defs
public import proofs.«01_k».proof.Proof.Gen.Kernel37Ideal.Value
public import proofs.«01_k».proof.Proof.Gen.Reference37Ideal.Run
public import proofs.«01_k».proof.Proof.Gen.Reference37Ideal.Read
public import proofs.«01_k».proof.Proof.Sigmoid
public import Idealize.ShloMosaic.Lib.Pipeline.ValueKit
public import Idealize.ShloMosaic.Lib.ValueIdx

/-!
# The gated embedding added to the residual

Entry `(i, j)` is the residual plus the logistic function of the gate times the embedding. Grid point `t` computes the tokens
`512 t` to `512 (t + 1)`.
-/

@[expose] public section

set_option maxRecDepth 16384

noncomputable section

namespace Cert.Gated

open Cert.Kernel37Ideal Cert.Kernel37Ideal.Gen Cert.Reference37Ideal.Read
open Idealize.ShloMosaic Idealize.ShloMosaic.TcCoe Idealize.SL.Sem
open Cert.Sigmoid (logistic)

/-- The residual plus the gated embedding. -/
def spec (gate e x : FVec Ideal S2048x1024 .f32) : FVec Ideal S2048x1024 .f32 := fun y => x y + logistic (gate y) * e y

/-- What one grid point computes. -/
theorem part_apply (x0 x1 x2 : Vec Ideal S512x1024 .f32) (i : Fin 512) (j : Fin 1024) :
    k0_pay1 (F := Ideal) x0 x1 x2 (ix2 i j) = x2 (ix2 i j) + logistic (x0 (ix2 i j)) * x1 (ix2 i j) := by
  pointwise [k0_pay1]
  rw [Sigmoid.value]

variable (m : (ℓ : Loc nD τ sig) → Buf (Elt Ideal) ℓ)

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)

/-- The kernel's result. -/
theorem arr (c : Dev nD) : (dats m 0 c).arrAt 3 cfg0.N
    = spec (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  obtain ⟨i, j, rfl⟩ : ∃ i j, y = ix2 i j := ⟨y 0, y 1, eq_ix2 y⟩
  rw [part_apply]
  refine congrArg₂ (· + ·) ?_ (congrArg₂ (· * ·) (congrArg logistic ?_) ?_)
  · blk_ext [iblk, V, idx2 t, idx3 t]
  · blk_ext [iblk, V, idx0 t, idx3 t]
  · blk_ext [iblk, V, idx1 t, idx3 t]

/-- The reference's constants are one. -/
theorem one0 : val_main_cst (F := Ideal) ix0 = 1 := Ideal.ofBits_one_f32
theorem one1 : val_main_cst_0 (F := Ideal) ix0 = 1 := Ideal.ofBits_one_f32

/-- The reference's result. -/
theorem ref (gate e x : FVec Ideal S2048x1024 .f32) : val_main_v7 (F := Ideal) gate e x = spec gate e x := by
  funext y
  obtain ⟨i, j, rfl⟩ : ∃ i j, y = ix2 i j := ⟨y 0, y 1, eq_ix2 y⟩
  pointwise [val_main_v7, val_main_v6, val_main_v5, val_main_v4, val_main_v3, val_main_v2, val_main_v1, val_main_v0]
  rw [one0, one1]
  rfl

theorem algebraic : Cert.algebraic_Kernel37Ideal_Reference37Ideal := by
  intro m g m' g' _ hag
  refine ⟨_, Cert.Kernel37Ideal.Value.run_blocks m g, (θ_run _ _ _).mono (fun r h c => ?_) (Cert.Reference37Ideal.Value.run m' g')⟩
  obtain ⟨h0, hk⟩ := h c
  obtain ⟨a0, a1, a2⟩ := hag c
  refine ⟨h0.trans ((val_main_v7_eq _ _ _).trans ?_), hk⟩
  rw [ref, arr, a0, a1, a2]

end Cert.Gated

end
-- ==== Proof.GatedGrad.lean ====
module

public import proofs.«01_k».proof.Defs
public import proofs.«01_k».proof.Proof.Gen.Kernel38Ideal.Value
public import proofs.«01_k».proof.Proof.Gen.Reference38Ideal.Run
public import proofs.«01_k».proof.Proof.Gen.Reference38Ideal.Read
public import proofs.«01_k».proof.Proof.Sigmoid
public import Idealize.ShloMosaic.Lib.Pipeline.ValueKit
public import Idealize.ShloMosaic.Lib.ValueIdx

/-!
# The gradient of the gated embedding

The gate's gradient is the incoming gradient times the embedding times the logistic function's derivative; the embedding's is
the logistic function times the incoming gradient. Grid point `t` computes the tokens `512 t` to `512 (t + 1)`.
-/

@[expose] public section

set_option maxRecDepth 16384

noncomputable section

namespace Cert.GatedGrad

open Cert.Kernel38Ideal Cert.Kernel38Ideal.Gen Cert.Reference38Ideal.Read
open Idealize.ShloMosaic Idealize.ShloMosaic.TcCoe Idealize.SL.Sem
open Cert.Sigmoid (logistic)

/-- The gradient of the gate. -/
def toGate (gate e d : FVec Ideal S2048x1024 .f32) : FVec Ideal S2048x1024 .bf16 :=
  fun y => d y * e y * (logistic (gate y) * (1 - logistic (gate y)))

/-- The gradient of the embedding. -/
def toEmb (gate d : FVec Ideal S2048x1024 .f32) : FVec Ideal S2048x1024 .bf16 := fun y => logistic (gate y) * d y

/-- What one grid point computes for the gate. -/
theorem gate_apply (x0 x1 x2 : Vec Ideal S512x1024 .f32) (i : Fin 512) (j : Fin 1024) :
    k0_pay2 (F := Ideal) x0 x1 x2 (ix2 i j)
      = x2 (ix2 i j) * x1 (ix2 i j) * (logistic (x0 (ix2 i j)) * (1 - logistic (x0 (ix2 i j)))) := by
  pointwise [k0_pay2, k0_pay1]
  rw [Sigmoid.slope]

/-- And for the embedding. -/
theorem emb_apply (x0 x2 : Vec Ideal S512x1024 .f32) (i : Fin 512) (j : Fin 1024) :
    k0_pay3 (F := Ideal) x0 x2 (ix2 i j) = logistic (x0 (ix2 i j)) * x2 (ix2 i j) := by
  pointwise [k0_pay3, k0_pay1]
  rw [Sigmoid.value]

variable (m : (ℓ : Loc nD τ sig) → Buf (Elt Ideal) ℓ)

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)

/-- The kernel's first result. -/
theorem arr_gate (c : Dev nD) : (dats m 0 c).arrAt 4 cfg0.N
    = toGate (m ((c : Thread nD τ).loc main_arg0)) (m ((c : Thread nD τ).loc main_arg1)) (m ((c : Thread nD τ).loc main_arg3)) := by
  refine (dats m 0 c).arrAt_eq_of_covers 4 _ (by decide +kernel) fun t hf y => ?_
  blk_simp
  rw [after0_4]
  frame_out
  obtain ⟨i, j, rfl⟩ : ∃ i j, y = ix2 i j := ⟨y 0, y 1, eq_ix2 y⟩
  rw [gate_apply]
  refine congrArg₂ (· * ·) (congrArg₂ (· * ·) ?_ ?_) (congrArg (fun z => logistic z * (1 - logistic z)) ?_)
  · blk_ext [iblk, V, idx3 t, idx4 t]
  · blk_ext [iblk, V, idx1 t, idx4 t]
  · blk_ext [iblk, V, idx0 t, idx4 t]

/-- And its second. -/
theorem arr_emb (c : Dev nD) : (dats m 0 c).arrAt 5 cfg0.N
    = toEmb (m ((c : Thread nD τ).loc main_arg0)) (m ((c : Thread nD τ).loc main_arg3)) := by
  refine (dats m 0 c).arrAt_eq_of_covers 5 _ (by decide +kernel) fun t hf y => ?_
  blk_simp
  rw [after0_5]
  frame_out
  obtain ⟨i, j, rfl⟩ : ∃ i j, y = ix2 i j := ⟨y 0, y 1, eq_ix2 y⟩
  rw [emb_apply]
  refine congrArg₂ (· * ·) (congrArg logistic ?_) ?_
  · blk_ext [iblk, V, idx0 t, idx5 t]
  · blk_ext [iblk, V, idx3 t, idx5 t]

/-- The reference's constants are one. -/
theorem one0 : val_main_cst (F := Ideal) ix0 = 1 := Ideal.ofBits_one_f32
theorem one1 : val_main_cst_0 (F := Ideal) ix0 = 1 := Ideal.ofBits_one_f32
theorem one2 : val_main_cst_1 (F := Ideal) ix0 = 1 := Ideal.ofBits_one_f32

/-- The reference's first result. -/
theorem ref_gate (gate e d : FVec Ideal S2048x1024 .f32) : val_main_v14 (F := Ideal) gate e d = toGate gate e d := by
  funext y
  obtain ⟨i, j, rfl⟩ : ∃ i j, y = ix2 i j := ⟨y 0, y 1, eq_ix2 y⟩
  pointwise [val_main_v14, val_main_v13, val_main_v12, val_main_v8, val_main_v7, val_main_v6, val_main_v5, val_main_v4,
    val_main_v3, val_main_v2, val_main_v1, val_main_v0]
  rw [one0, one1, one2]
  rfl

/-- And its second. -/
theorem ref_emb (gate d : FVec Ideal S2048x1024 .f32) : val_main_v15 (F := Ideal) gate d = toEmb gate d := by
  funext y
  obtain ⟨i, j, rfl⟩ : ∃ i j, y = ix2 i j := ⟨y 0, y 1, eq_ix2 y⟩
  pointwise [val_main_v15, val_main_v11, val_main_v5, val_main_v4, val_main_v3, val_main_v2, val_main_v1, val_main_v0]
  rw [one0, one1]
  rfl

theorem algebraic : Cert.algebraic_Kernel38Ideal_Reference38Ideal := by
  intro m g m' g' _ hag
  refine ⟨_, _, Cert.Kernel38Ideal.Value.run_blocks m g, (θ_run _ _ _).mono (fun r h c => ?_) (Cert.Reference38Ideal.Value.run m' g')⟩
  obtain ⟨h0, h1, hk⟩ := h c
  obtain ⟨a0, a1, _, a3⟩ := hag c
  refine ⟨h0.trans ((val_main_v14_eq _ _ _).trans ?_), h1.trans ((val_main_v15_eq _ _).trans ?_), hk⟩
  · rw [ref_gate, arr_gate, a0, a1, a3]
  · rw [ref_emb, arr_emb, a0, a3]

end Cert.GatedGrad

end
-- ==== Proof.Merge.lean ====
module

public import proofs.«01_k».proof.Defs
public import proofs.«01_k».proof.Proof.Gen.Kernel39Ideal.Value
public import proofs.«01_k».proof.Proof.Gen.Reference39Ideal.Run
public import proofs.«01_k».proof.Proof.Gen.Reference39Ideal.Read
public import proofs.«01_k».proof.Proof.Sigmoid
public import Idealize.ShloMosaic.Lib.Pipeline.ValueKit
public import Idealize.ShloMosaic.Lib.ValueIdx

/-!
# The merge of three heads under their gates

Entry `(i, j)` is the sum of the three outputs at `(i, j)`, each times the logistic function of its gate. The gates of output
`b` are the columns `5120 + 1024 b` to `5120 + 1024 (b + 1)` of one array. Grid point `t` computes the tokens `512 t` to
`512 (t + 1)`.
-/

@[expose] public section

set_option maxRecDepth 16384

noncomputable section

namespace Cert.Merge

open Cert.Kernel39Ideal Cert.Kernel39Ideal.Gen Cert.Reference39Ideal.Read
open Idealize.ShloMosaic Idealize.ShloMosaic.TcCoe Idealize.SL.Sem
open Cert.Sigmoid (logistic)

/-- The gate of output `b` at token `i`, column `j`. -/
def gate (p : FVec Ideal S2048x8192 .f32) (b : Fin 3) (i : Fin 2048) (j : Fin 1024) : EReal :=
  logistic (p (ix2 i ⟨5120 + (b.val * 1024 + j.val), by omega⟩))

/-- The gated sum. -/
def spec (y0 y1 y2 : FVec Ideal S2048x1024 .f32) (p : FVec Ideal S2048x8192 .f32) : FVec Ideal S2048x1024 .bf16 :=
  fun y => gate p 0 (y 0) (y 1) * y0 y + gate p 1 (y 0) (y 1) * y1 y + gate p 2 (y 0) (y 1) * y2 y

/-- What one grid point computes. -/
theorem part_apply (x0 x1 x2 x3 x4 x5 : Vec Ideal S512x1024 .f32) (i : Fin 512) (j : Fin 1024) :
    k0_pay1 (F := Ideal) x0 x1 x2 x3 x4 x5 (ix2 i j) = logistic (x3 (ix2 i j)) * x0 (ix2 i j)
      + logistic (x4 (ix2 i j)) * x1 (ix2 i j) + logistic (x5 (ix2 i j)) * x2 (ix2 i j) := by
  pointwise [k0_pay1]
  rw [Sigmoid.value, Sigmoid.value, Sigmoid.value]

variable (m : (ℓ : Loc nD τ sig) → Buf (Elt Ideal) ℓ)

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 5] := (by decide +kernel : ∀ t : Fin grid0.N, _)
theorem idx4 : ∀ t : Fin cfg0.N, win0_4.index t = ![t.val, 6] := (by decide +kernel : ∀ t : Fin grid0.N, _)
theorem idx5 : ∀ t : Fin cfg0.N, win0_5.index t = ![t.val, 7] := (by decide +kernel : ∀ t : Fin grid0.N, _)
theorem idx6 : ∀ t : Fin cfg0.N, win0_6.index t = ![t.val, 0] := (by decide +kernel : ∀ t : Fin grid0.N, _)

/-- The kernel's result. -/
theorem arr (c : Dev nD) : (dats m 0 c).arrAt 6 cfg0.N
    = spec (m ((c : Thread nD τ).loc main_arg0)) (m ((c : Thread nD τ).loc main_arg1)) (m ((c : Thread nD τ).loc main_arg2))
      (m ((c : Thread nD τ).loc main_arg3)) := by
  refine (dats m 0 c).arrAt_eq_of_covers 6 _ (by decide +kernel) fun t hf y => ?_
  blk_simp
  rw [after0_6]
  frame_out
  obtain ⟨i, j, rfl⟩ : ∃ i j, y = ix2 i j := ⟨y 0, y 1, eq_ix2 y⟩
  rw [part_apply]
  refine congrArg₂ (· + ·) (congrArg₂ (· + ·) (congrArg₂ (· * ·) (congrArg logistic ?_) ?_)
    (congrArg₂ (· * ·) (congrArg logistic ?_) ?_)) (congrArg₂ (· * ·) (congrArg logistic ?_) ?_)
  · blk_ext [iblk, V, idx3 t, idx6 t]
  · blk_ext [iblk, V, idx0 t, idx6 t]
  · blk_ext [iblk, V, idx4 t, idx6 t]
  · blk_ext [iblk, V, idx1 t, idx6 t]
  · blk_ext [iblk, V, idx5 t, idx6 t]
  · blk_ext [iblk, V, idx2 t, idx6 t]

/-- The reference's constants. -/
theorem one0 : val_main_cst (F := Ideal) ix0 = 1 := Ideal.ofBits_one_f32
theorem one1 : val_main_cst_0 (F := Ideal) ix0 = 1 := Ideal.ofBits_one_f32
theorem zero (i : Cert.Reference39Ideal.S_.Idx) : val_main_cst_1 (F := Ideal) i = 0 := Ideal.ofBits_zero_f32

section Reference

variable (y0 y1 y2 : FVec Ideal S2048x1024 .f32) (p : FVec Ideal S2048x8192 .f32) (i : Fin 2048) (j : Fin 1024)

/-- The stack of the three outputs. -/
theorem stack0 : val_main_v4 (F := Ideal) y0 y1 y2 (ix3 i 0 j) = y0 (ix2 i j) := by
  pointwise [val_main_v4, val_main_v1, val_main_v2, val_main_v3]

theorem stack1 : val_main_v4 (F := Ideal) y0 y1 y2 (ix3 i 1 j) = y1 (ix2 i j) := by
  pointwise [val_main_v4, val_main_v1, val_main_v2, val_main_v3]

theorem stack2 : val_main_v4 (F := Ideal) y0 y1 y2 (ix3 i 2 j) = y2 (ix2 i j) := by
  pointwise [val_main_v4, val_main_v1, val_main_v2, val_main_v3]

/-- The gates. -/
theorem gates (b : Fin 3) : val_main_v11 (F := Ideal) p (ix3 i b j) = gate p b i j := by
  pointwise [val_main_v11, val_main_v10, val_main_v9, val_main_v8, val_main_v7, val_main_v6, val_main_v5, val_main_v0]
  rw [one0, one1]
  rfl

/-- The reference's result. -/
theorem ref : val_main_v14 (F := Ideal) y0 y1 y2 p = spec y0 y1 y2 p := by
  funext y
  obtain ⟨i, j, rfl⟩ : ∃ i j, y = ix2 i j := ⟨y 0, y 1, eq_ix2 y⟩
  pointwise [val_main_v14, val_main_v13, val_main_v12]
  rw [Fin.sum_univ_three, zero, zero_add, stack0, stack1, stack2, gates, gates, gates, mul_comm (y0 _), mul_comm (y1 _),
    mul_comm (y2 _)]
  rfl

end Reference

theorem algebraic : Cert.algebraic_Kernel39Ideal_Reference39Ideal := by
  intro m g m' g' _ hag
  refine ⟨_, Cert.Kernel39Ideal.Value.run_blocks m g, (θ_run _ _ _).mono (fun r h c => ?_) (Cert.Reference39Ideal.Value.run m' g')⟩
  obtain ⟨h0, hk⟩ := h c
  obtain ⟨a0, a1, a2, a3⟩ := hag c
  refine ⟨h0.trans ((val_main_v14_eq _ _ _ _).trans ?_), hk⟩
  rw [ref, arr, a0, a1, a2, a3]

end Cert.Merge

end
-- ==== Proof.MergeGrad.lean ====
module

public import proofs.«01_k».proof.Defs
public import proofs.«01_k».proof.Proof.Gen.Kernel40Ideal.Value
public import proofs.«01_k».proof.Proof.Gen.Reference40Ideal.Run
public import proofs.«01_k».proof.Proof.Gen.Reference40Ideal.Read
public import proofs.«01_k».proof.Proof.Merge
public import Idealize.ShloMosaic.Lib.Pipeline.ValueKit
public import Idealize.ShloMosaic.Lib.ValueIdx

/-!
# The gradient of the merge

The gradient of output `b` is its gate times the incoming gradient. The gradient of its gate is the incoming gradient times
the output times the logistic function's derivative. Grid point `t` computes the tokens `256 t` to `256 (t + 1)`.
-/

@[expose] public section

set_option maxRecDepth 16384

noncomputable section

namespace Cert.MergeGrad

open Cert.Kernel40Ideal Cert.Kernel40Ideal.Gen Cert.Reference40Ideal.Read
open Idealize.ShloMosaic Idealize.ShloMosaic.TcCoe Idealize.SL.Sem
open Cert.Sigmoid (logistic)
open Cert.Merge (gate)

/-- The gradient of output `b`. -/
def toOut (p : FVec Ideal S2048x8192 .f32) (b : Fin 3) (d : FVec Ideal S2048x1024 .f32) : FVec Ideal S2048x1024 .bf16 :=
  fun y => gate p b (y 0) (y 1) * d y

/-- The gradient of the gate of output `b`, which is `o`. -/
def toGate (p : FVec Ideal S2048x8192 .f32) (b : Fin 3) (o d : FVec Ideal S2048x1024 .f32) : FVec Ideal S2048x1024 .bf16 :=
  fun y => d y * o y * (gate p b (y 0) (y 1) * (1 - gate p b (y 0) (y 1)))

section Block

variable (x o d : Vec Ideal S256x1024 .f32) (i : Fin 256) (j : Fin 1024)

/-- What one grid point computes for the outputs. -/
theorem out0 : k0_pay14 (F := Ideal) d (k0_pay5 (F := Ideal) x) (ix2 i j) = logistic (x (ix2 i j)) * d (ix2 i j) := by
  pointwise [k0_pay14, k0_pay10, k0_pay5, k0_pay3]
  rw [Sigmoid.value]

theorem out1 : k0_pay15 (F := Ideal) d (k0_pay8 (F := Ideal) x) (ix2 i j) = logistic (x (ix2 i j)) * d (ix2 i j) := by
  pointwise [k0_pay15, k0_pay10, k0_pay8, k0_pay6]
  rw [Sigmoid.value]

theorem out2 : k0_pay16 (F := Ideal) d (k0_pay9 (F := Ideal) x) (ix2 i j) = logistic (x (ix2 i j)) * d (ix2 i j) := by
  pointwise [k0_pay16, k0_pay11, k0_pay9]
  rw [Sigmoid.value]

/-- And for the gates. -/
theorem gate0 : k0_pay17 (F := Ideal) o d (k0_pay4 (F := Ideal) x) (ix2 i j)
    = d (ix2 i j) * o (ix2 i j) * (logistic (x (ix2 i j)) * (1 - logistic (x (ix2 i j)))) := by
  pointwise [k0_pay17, k0_pay10, k0_pay4, k0_pay3]
  rw [Sigmoid.slope]

theorem gate1 : k0_pay1 (F := Ideal) (k0_pay13 (F := Ideal) o d (k0_pay7 (F := Ideal) x)) (ix2 i j)
    = d (ix2 i j) * o (ix2 i j) * (logistic (x (ix2 i j)) * (1 - logistic (x (ix2 i j)))) := by
  pointwise [k0_pay1, k0_pay13, k0_pay10, k0_pay7, k0_pay6]
  rw [Sigmoid.slope]

theorem gate2 : k0_pay2 (F := Ideal) (k0_pay12 (F := Ideal) o d (k0_pay9 (F := Ideal) x)) (ix2 i j)
    = d (ix2 i j) * o (ix2 i j) * (logistic (x (ix2 i j)) * (1 - logistic (x (ix2 i j)))) := by
  pointwise [k0_pay2, k0_pay12, k0_pay11, k0_pay9]
  rw [Sigmoid.slope]

end Block

variable (m : (ℓ : Loc nD τ sig) → Buf (Elt Ideal) ℓ)

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 5] := (by decide +kernel : ∀ t : Fin grid0.N, _)
theorem idx4 : ∀ t : Fin cfg0.N, win0_4.index t = ![t.val, 6] := (by decide +kernel : ∀ t : Fin grid0.N, _)
theorem idx5 : ∀ t : Fin cfg0.N, win0_5.index t = ![t.val, 7] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![t.val, 0] := (by decide +kernel : ∀ t : Fin grid0.N, _)
theorem idx8 : ∀ t : Fin cfg0.N, win0_8.index t = ![t.val, 0] := (by decide +kernel : ∀ t : Fin grid0.N, _)
theorem idx9 : ∀ t : Fin cfg0.N, win0_9.index t = ![t.val, 0] := (by decide +kernel : ∀ t : Fin grid0.N, _)
theorem idx10 : ∀ t : Fin cfg0.N, win0_10.index t = ![t.val, 0] := (by decide +kernel : ∀ t : Fin grid0.N, _)
theorem idx11 : ∀ t : Fin cfg0.N, win0_11.index t = ![t.val, 0] := (by decide +kernel : ∀ t : Fin grid0.N, _)
theorem idx12 : ∀ t : Fin cfg0.N, win0_12.index t = ![t.val, 0] := (by decide +kernel : ∀ t : Fin grid0.N, _)

/-- Two gradients of an output agree where their parts do. -/
theorem out_congr {x x' d d' : EReal} (hx : x = x') (hd : d = d') : logistic x * d = logistic x' * d' := by rw [hx, hd]

/-- And two of a gate. -/
theorem gate_congr {x x' o o' d d' : EReal} (hx : x = x') (ho : o = o') (hd : d = d') :
    d * o * (logistic x * (1 - logistic x)) = d' * o' * (logistic x' * (1 - logistic x')) := by rw [hx, ho, hd]

/-- The kernel's results, in the order it returns them. -/
theorem arr0 (c : Dev nD) : (dats m 0 c).arrAt 7 cfg0.N
    = toOut (m ((c : Thread nD τ).loc main_arg3)) 0 (m ((c : Thread nD τ).loc main_arg4)) := by
  refine (dats m 0 c).arrAt_eq_of_covers 7 _ (by decide +kernel) fun t hf y => ?_
  blk_simp
  rw [after0_7]
  frame_out
  obtain ⟨i, j, rfl⟩ : ∃ i j, y = ix2 i j := ⟨y 0, y 1, eq_ix2 y⟩
  refine (out0 _ _ i j).trans (out_congr ?_ ?_)
  · blk_ext [iblk, V, idx3 t, idx7 t]
  · blk_ext [iblk, V, idx6 t, idx7 t]

theorem arr1 (c : Dev nD) : (dats m 0 c).arrAt 8 cfg0.N
    = toOut (m ((c : Thread nD τ).loc main_arg3)) 1 (m ((c : Thread nD τ).loc main_arg4)) := by
  refine (dats m 0 c).arrAt_eq_of_covers 8 _ (by decide +kernel) fun t hf y => ?_
  blk_simp
  rw [after0_8]
  frame_out
  obtain ⟨i, j, rfl⟩ : ∃ i j, y = ix2 i j := ⟨y 0, y 1, eq_ix2 y⟩
  refine (out1 _ _ i j).trans (out_congr ?_ ?_)
  · blk_ext [iblk, V, idx4 t, idx8 t]
  · blk_ext [iblk, V, idx6 t, idx8 t]

theorem arr2 (c : Dev nD) : (dats m 0 c).arrAt 9 cfg0.N
    = toOut (m ((c : Thread nD τ).loc main_arg3)) 2 (m ((c : Thread nD τ).loc main_arg4)) := by
  refine (dats m 0 c).arrAt_eq_of_covers 9 _ (by decide +kernel) fun t hf y => ?_
  blk_simp
  rw [after0_9]
  unfold_out out0_9
  frame_out
  obtain ⟨i, j, rfl⟩ : ∃ i j, y = ix2 i j := ⟨y 0, y 1, eq_ix2 y⟩
  refine (out2 _ _ i j).trans (out_congr ?_ ?_)
  · blk_ext [iblk, V, idx5 t, idx9 t]
  · blk_ext [iblk, V, idx6 t, idx9 t]

theorem arr3 (c : Dev nD) : (dats m 0 c).arrAt 10 cfg0.N = toGate (m ((c : Thread nD τ).loc main_arg3)) 0
    (m ((c : Thread nD τ).loc main_arg0)) (m ((c : Thread nD τ).loc main_arg4)) := by
  refine (dats m 0 c).arrAt_eq_of_covers 10 _ (by decide +kernel) fun t hf y => ?_
  blk_simp
  rw [after0_10]
  frame_out
  obtain ⟨i, j, rfl⟩ : ∃ i j, y = ix2 i j := ⟨y 0, y 1, eq_ix2 y⟩
  refine (gate0 _ _ _ i j).trans (gate_congr ?_ ?_ ?_)
  · blk_ext [iblk, V, idx3 t, idx10 t]
  · blk_ext [iblk, V, idx0 t, idx10 t]
  · blk_ext [iblk, V, idx6 t, idx10 t]

theorem arr4 (c : Dev nD) : (dats m 0 c).arrAt 11 cfg0.N = toGate (m ((c : Thread nD τ).loc main_arg3)) 1
    (m ((c : Thread nD τ).loc main_arg1)) (m ((c : Thread nD τ).loc main_arg4)) := by
  refine (dats m 0 c).arrAt_eq_of_covers 11 _ (by decide +kernel) fun t hf y => ?_
  blk_simp
  rw [after0_11]
  frame_out
  obtain ⟨i, j, rfl⟩ : ∃ i j, y = ix2 i j := ⟨y 0, y 1, eq_ix2 y⟩
  refine (gate1 _ _ _ i j).trans (gate_congr ?_ ?_ ?_)
  · blk_ext [iblk, V, idx4 t, idx11 t]
  · blk_ext [iblk, V, idx1 t, idx11 t]
  · blk_ext [iblk, V, idx6 t, idx11 t]

theorem arr5 (c : Dev nD) : (dats m 0 c).arrAt 12 cfg0.N = toGate (m ((c : Thread nD τ).loc main_arg3)) 2
    (m ((c : Thread nD τ).loc main_arg2)) (m ((c : Thread nD τ).loc main_arg4)) := by
  refine (dats m 0 c).arrAt_eq_of_covers 12 _ (by decide +kernel) fun t hf y => ?_
  blk_simp
  rw [after0_12]
  unfold_out out0_12
  frame_out
  obtain ⟨i, j, rfl⟩ : ∃ i j, y = ix2 i j := ⟨y 0, y 1, eq_ix2 y⟩
  refine (gate2 _ _ _ i j).trans (gate_congr ?_ ?_ ?_)
  · blk_ext [iblk, V, idx5 t, idx12 t]
  · blk_ext [iblk, V, idx2 t, idx12 t]
  · blk_ext [iblk, V, idx6 t, idx12 t]

/-- The reference's constants. -/
theorem one0 : val_main_cst (F := Ideal) ix0 = 1 := Ideal.ofBits_one_f32
theorem one1 : val_main_cst_0 (F := Ideal) ix0 = 1 := Ideal.ofBits_one_f32
theorem one2 : val_main_cst_1 (F := Ideal) ix0 = 1 := Ideal.ofBits_one_f32

section Reference

variable (y0 y1 y2 d : FVec Ideal S2048x1024 .f32) (p : FVec Ideal S2048x8192 .f32) (i : Fin 2048) (j : Fin 1024)

/-- The stack of the three outputs. -/
theorem stack0 : val_main_v4 (F := Ideal) y0 y1 y2 (ix3 i 0 j) = y0 (ix2 i j) := by
  pointwise [val_main_v4, val_main_v1, val_main_v2, val_main_v3]

theorem stack1 : val_main_v4 (F := Ideal) y0 y1 y2 (ix3 i 1 j) = y1 (ix2 i j) := by
  pointwise [val_main_v4, val_main_v1, val_main_v2, val_main_v3]

theorem stack2 : val_main_v4 (F := Ideal) y0 y1 y2 (ix3 i 2 j) = y2 (ix2 i j) := by
  pointwise [val_main_v4, val_main_v1, val_main_v2, val_main_v3]

/-- The gates, one column after another. -/
theorem gates (b : Fin 3) : val_main_v10 (F := Ideal) p (ix2 i ⟨b.val * 1024 + j.val, by omega⟩) = gate p b i j := by
  pointwise [val_main_v10, val_main_v9, val_main_v8, val_main_v7, val_main_v6, val_main_v5, val_main_v0]
  rw [one0, one1]
  rfl

/-- The incoming gradient times the gate of output `b`. -/
theorem through (b : Fin 3) : val_main_v19 (F := Ideal) p d (ix3 i b j) = d (ix2 i j) * gate p b i j := by
  pointwise [val_main_v19, val_main_v17, val_main_v14]
  rw [gates]

/-- The gradient of the gates. -/
theorem slopes (b : Fin 3) : val_main_v21 (F := Ideal) y0 y1 y2 p d (ix2 i ⟨b.val * 1024 + j.val, by omega⟩)
    = d (ix2 i j) * val_main_v4 (F := Ideal) y0 y1 y2 (ix3 i b j) * (gate p b i j * (1 - gate p b i j)) := by
  have flat : val_main_v20 (F := Ideal) y0 y1 y2 d (ix2 i ⟨b.val * 1024 + j.val, by omega⟩)
      = val_main_v18 (F := Ideal) y0 y1 y2 d (ix3 i b j) := by
    pointwise [val_main_v20]
  pointwise [val_main_v21, val_main_v13, val_main_v12, val_main_v11]
  rw [flat, gates, one2]
  pointwise [val_main_v18, val_main_v17]
  rw [mul_comm (d _)]

theorem ref0 : val_main_v31 (F := Ideal) p d = toOut p 0 d := by
  funext y
  obtain ⟨i, j, rfl⟩ : ∃ i j, y = ix2 i j := ⟨y 0, y 1, eq_ix2 y⟩
  pointwise [val_main_v31, val_main_v23, val_main_v22]
  exact (through d p i j 0).trans (mul_comm _ _)

theorem ref1 : val_main_v32 (F := Ideal) p d = toOut p 1 d := by
  funext y
  obtain ⟨i, j, rfl⟩ : ∃ i j, y = ix2 i j := ⟨y 0, y 1, eq_ix2 y⟩
  pointwise [val_main_v32, val_main_v25, val_main_v24]
  exact (through d p i j 1).trans (mul_comm _ _)

theorem ref2 : val_main_v33 (F := Ideal) p d = toOut p 2 d := by
  funext y
  obtain ⟨i, j, rfl⟩ : ∃ i j, y = ix2 i j := ⟨y 0, y 1, eq_ix2 y⟩
  pointwise [val_main_v33, val_main_v27, val_main_v26]
  exact (through d p i j 2).trans (mul_comm _ _)

theorem ref3 : val_main_v34 (F := Ideal) y0 y1 y2 p d = toGate p 0 y0 d := by
  funext y
  obtain ⟨i, j, rfl⟩ : ∃ i j, y = ix2 i j := ⟨y 0, y 1, eq_ix2 y⟩
  have e := slopes y0 y1 y2 d p i j 0
  rw [stack0] at e
  refine Eq.trans ?_ e
  pointwise [val_main_v34, val_main_v28]

theorem ref4 : val_main_v35 (F := Ideal) y0 y1 y2 p d = toGate p 1 y1 d := by
  funext y
  obtain ⟨i, j, rfl⟩ : ∃ i j, y = ix2 i j := ⟨y 0, y 1, eq_ix2 y⟩
  have e := slopes y0 y1 y2 d p i j 1
  rw [stack1] at e
  refine Eq.trans ?_ e
  pointwise [val_main_v35, val_main_v29]

theorem ref5 : val_main_v36 (F := Ideal) y0 y1 y2 p d = toGate p 2 y2 d := by
  funext y
  obtain ⟨i, j, rfl⟩ : ∃ i j, y = ix2 i j := ⟨y 0, y 1, eq_ix2 y⟩
  have e := slopes y0 y1 y2 d p i j 2
  rw [stack2] at e
  refine Eq.trans ?_ e
  pointwise [val_main_v36, val_main_v30]

end Reference

theorem algebraic : Cert.algebraic_Kernel40Ideal_Reference40Ideal := by
  intro m g m' g' _ hag
  refine ⟨_, _, _, _, _, _, Cert.Kernel40Ideal.Value.run_blocks m g,
    (θ_run _ _ _).mono (fun r h c => ?_) (Cert.Reference40Ideal.Value.run m' g')⟩
  obtain ⟨h0, h1, h2, h3, h4, h5, hk⟩ := h c
  obtain ⟨a0, a1, a2, a3, a4⟩ := hag c
  refine ⟨h0.trans ((val_main_v31_eq _ _).trans ?_), h1.trans ((val_main_v32_eq _ _).trans ?_),
    h2.trans ((val_main_v33_eq _ _).trans ?_), h3.trans ((val_main_v34_eq _ _ _ _ _).trans ?_),
    h4.trans ((val_main_v35_eq _ _ _ _ _).trans ?_), h5.trans ((val_main_v36_eq _ _ _ _ _).trans ?_), hk⟩
  · rw [ref0, arr0, a3, a4]
  · rw [ref1, arr1, a3, a4]
  · rw [ref2, arr2, a3, a4]
  · rw [ref3, arr3, a0, a3, a4]
  · rw [ref4, arr4, a1, a3, a4]
  · rw [ref5, arr5, a2, a3, a4]

end Cert.MergeGrad

end
-- ==== Proof.lean ====
/-
  The proof of the claim of Defs.lean. The kernel's two frames are generated; the reference's follows from its generated
  run; Proof/Gradient.lean proves the first value claim, and a module of Proof/ each of the others.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Pre_finite
public import proofs.«01_k».proof.Proof.Gradient
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8.Frame
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9.Frame
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel10.Frame
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel11.Frame
public import proofs.«01_k».proof.Proof.Gen.Kernel11Ideal.Value
public import proofs.«01_k».proof.Proof.Gen.Reference11Ideal.Run
public import proofs.«01_k».proof.Proof.Gen.Reference11Ideal.Read
public import proofs.«01_k».proof.Proof.Gen.Kernel12.Frame
public import proofs.«01_k».proof.Proof.Gen.Kernel12Ideal.Value
public import proofs.«01_k».proof.Proof.Gen.Reference12Ideal.Run
public import proofs.«01_k».proof.Proof.Gen.Reference12Ideal.Read
public import proofs.«01_k».proof.Proof.Gen.Kernel13.Frame
public import proofs.«01_k».proof.Proof.Gen.Kernel13Ideal.Value
public import proofs.«01_k».proof.Proof.Gen.Reference13Ideal.Run
public import proofs.«01_k».proof.Proof.Gen.Reference13Ideal.Read
public import proofs.«01_k».proof.Proof.Gen.Kernel14.Frame
public import proofs.«01_k».proof.Proof.Gen.Kernel14Ideal.Value
public import proofs.«01_k».proof.Proof.Gen.Reference14Ideal.Run
public import proofs.«01_k».proof.Proof.Gen.Reference14Ideal.Read
public import proofs.«01_k».proof.Proof.Gen.Kernel15.Frame
public import proofs.«01_k».proof.Proof.Gen.Kernel15Ideal.Value
public import proofs.«01_k».proof.Proof.Gen.Reference15Ideal.Run
public import proofs.«01_k».proof.Proof.Gen.Reference15Ideal.Read
public import proofs.«01_k».proof.Proof.Gen.Kernel16.Frame
public import proofs.«01_k».proof.Proof.Gen.Kernel16Ideal.Value
public import proofs.«01_k».proof.Proof.Gen.Reference16Ideal.Run
public import proofs.«01_k».proof.Proof.Gen.Reference16Ideal.Read
public import proofs.«01_k».proof.Proof.Gen.Kernel17.Frame
public import proofs.«01_k».proof.Proof.Gen.Kernel17Ideal.Value
public import proofs.«01_k».proof.Proof.Gen.Reference17Ideal.Run
public import proofs.«01_k».proof.Proof.Gen.Reference17Ideal.Read
public import proofs.«01_k».proof.Proof.Gen.Kernel18.Frame
public import proofs.«01_k».proof.Proof.Gen.Kernel18Ideal.Value
public import proofs.«01_k».proof.Proof.Gen.Reference18Ideal.Run
public import proofs.«01_k».proof.Proof.Gen.Reference18Ideal.Read
public import proofs.«01_k».proof.Proof.Gen.Kernel19.Frame
public import proofs.«01_k».proof.Proof.Gen.Kernel19Ideal.Value
public import proofs.«01_k».proof.Proof.Gen.Reference19Ideal.Run
public import proofs.«01_k».proof.Proof.Gen.Reference19Ideal.Read
public import proofs.«01_k».proof.Proof.Gen.Kernel20.Frame
public import proofs.«01_k».proof.Proof.Gen.Kernel20Ideal.Value
public import proofs.«01_k».proof.Proof.Gen.Reference20Ideal.Run
public import proofs.«01_k».proof.Proof.Gen.Reference20Ideal.Read
public import proofs.«01_k».proof.Proof.Gen.Kernel21.Frame
public import proofs.«01_k».proof.Proof.Gen.Kernel21Ideal.Value
public import proofs.«01_k».proof.Proof.Gen.Reference21Ideal.Run
public import proofs.«01_k».proof.Proof.Gen.Reference21Ideal.Read
public import proofs.«01_k».proof.Proof.Gen.Kernel22.Frame
public import proofs.«01_k».proof.Proof.Gen.Kernel22Ideal.Frame
public import proofs.«01_k».proof.Proof.Gen.Reference22Ideal.Run
public import proofs.«01_k».proof.Proof.Gen.Reference22Ideal.Read
public import proofs.«01_k».proof.Proof.Gen.Kernel23.Frame
public import proofs.«01_k».proof.Proof.Gen.Kernel23Ideal.Value
public import proofs.«01_k».proof.Proof.Gen.Reference23Ideal.Run
public import proofs.«01_k».proof.Proof.Gen.Reference23Ideal.Read
public import proofs.«01_k».proof.Proof.Gen.Kernel24.Frame
public import proofs.«01_k».proof.Proof.Gen.Kernel24Ideal.Value
public import proofs.«01_k».proof.Proof.Gen.Reference24Ideal.Run
public import proofs.«01_k».proof.Proof.Gen.Reference24Ideal.Read
public import proofs.«01_k».proof.Proof.Gen.Kernel25.Frame
public import proofs.«01_k».proof.Proof.Gen.Kernel25Ideal.Value
public import proofs.«01_k».proof.Proof.Gen.Reference25Ideal.Run
public import proofs.«01_k».proof.Proof.Gen.Reference25Ideal.Read
public import proofs.«01_k».proof.Proof.Gen.Kernel26.Frame
public import proofs.«01_k».proof.Proof.Gen.Kernel26Ideal.Value
public import proofs.«01_k».proof.Proof.Gen.Reference26Ideal.Run
public import proofs.«01_k».proof.Proof.Gen.Reference26Ideal.Read
public import proofs.«01_k».proof.Proof.Gen.Kernel27.Frame
public import proofs.«01_k».proof.Proof.Gen.Kernel27Ideal.Value
public import proofs.«01_k».proof.Proof.Gen.Reference27Ideal.Run
public import proofs.«01_k».proof.Proof.Gen.Reference27Ideal.Read
public import proofs.«01_k».proof.Proof.Gen.Kernel28.Frame
public import proofs.«01_k».proof.Proof.Gen.Kernel28Ideal.Value
public import proofs.«01_k».proof.Proof.Gen.Reference28Ideal.Run
public import proofs.«01_k».proof.Proof.Gen.Reference28Ideal.Read
public import proofs.«01_k».proof.Proof.Gen.Kernel29.Frame
public import proofs.«01_k».proof.Proof.Gen.Kernel29Ideal.Value
public import proofs.«01_k».proof.Proof.Gen.Reference29Ideal.Run
public import proofs.«01_k».proof.Proof.Gen.Reference29Ideal.Read
public import proofs.«01_k».proof.Proof.Gen.Kernel30.Frame
public import proofs.«01_k».proof.Proof.Gen.Kernel30Ideal.Value
public import proofs.«01_k».proof.Proof.Gen.Reference30Ideal.Run
public import proofs.«01_k».proof.Proof.Gen.Reference30Ideal.Read
public import proofs.«01_k».proof.Proof.Gen.Kernel31.Frame
public import proofs.«01_k».proof.Proof.Gen.Kernel31Ideal.Value
public import proofs.«01_k».proof.Proof.Gen.Reference31Ideal.Run
public import proofs.«01_k».proof.Proof.Gen.Reference31Ideal.Read
public import proofs.«01_k».proof.Proof.Gen.Kernel32.Frame
public import proofs.«01_k».proof.Proof.Gen.Kernel32Ideal.Value
public import proofs.«01_k».proof.Proof.Gen.Reference32Ideal.Run
public import proofs.«01_k».proof.Proof.Gen.Reference32Ideal.Read
public import proofs.«01_k».proof.Proof.Gen.Kernel33.Frame
public import proofs.«01_k».proof.Proof.Gen.Kernel33Ideal.Value
public import proofs.«01_k».proof.Proof.Gen.Reference33Ideal.Run
public import proofs.«01_k».proof.Proof.Gen.Reference33Ideal.Read
public import proofs.«01_k».proof.Proof.Gen.Kernel34.Frame
public import proofs.«01_k».proof.Proof.Gen.Kernel34Ideal.Value
public import proofs.«01_k».proof.Proof.Gen.Reference34Ideal.Run
public import proofs.«01_k».proof.Proof.Gen.Reference34Ideal.Read
public import proofs.«01_k».proof.Proof.Gen.Kernel35.Frame
public import proofs.«01_k».proof.Proof.Gen.Kernel35Ideal.Value
public import proofs.«01_k».proof.Proof.Gen.Reference35Ideal.Run
public import proofs.«01_k».proof.Proof.Gen.Reference35Ideal.Read
public import proofs.«01_k».proof.Proof.Gen.Kernel36.Frame
public import proofs.«01_k».proof.Proof.Gen.Kernel36Ideal.Value
public import proofs.«01_k».proof.Proof.Gen.Reference36Ideal.Run
public import proofs.«01_k».proof.Proof.Gen.Reference36Ideal.Read
public import proofs.«01_k».proof.Proof.Gen.Kernel37.Frame
public import proofs.«01_k».proof.Proof.Gen.Kernel37Ideal.Value
public import proofs.«01_k».proof.Proof.Gen.Reference37Ideal.Run
public import proofs.«01_k».proof.Proof.Gen.Reference37Ideal.Read
public import proofs.«01_k».proof.Proof.Gen.Kernel38.Frame
public import proofs.«01_k».proof.Proof.Gen.Kernel38Ideal.Value
public import proofs.«01_k».proof.Proof.Gen.Reference38Ideal.Run
public import proofs.«01_k».proof.Proof.Gen.Reference38Ideal.Read
public import proofs.«01_k».proof.Proof.Gen.Kernel39.Frame
public import proofs.«01_k».proof.Proof.Gen.Kernel39Ideal.Value
public import proofs.«01_k».proof.Proof.Gen.Reference39Ideal.Run
public import proofs.«01_k».proof.Proof.Gen.Reference39Ideal.Read
public import proofs.«01_k».proof.Proof.Gen.Kernel40.Frame
public import proofs.«01_k».proof.Proof.Gen.Kernel40Ideal.Value
public import proofs.«01_k».proof.Proof.Gen.Reference40Ideal.Run
public import proofs.«01_k».proof.Proof.Gen.Reference40Ideal.Read
public import proofs.«01_k».proof.Proof.Gen.Pre_finite_scores
public import proofs.«01_k».proof.Proof.Gen.Pre_finite_sums
public import proofs.«01_k».proof.Proof.Gen.Pre_finite_sums_g1
public import proofs.«01_k».proof.Proof.Gen.Pre_finite_sums_g0
public import proofs.«01_k».proof.Proof.InProjWeight
public import proofs.«01_k».proof.Proof.InProjInput
public import proofs.«01_k».proof.Proof.InProj
public import proofs.«01_k».proof.Proof.UpGate
public import proofs.«01_k».proof.Proof.UpValue
public import proofs.«01_k».proof.Proof.UpInputGate
public import proofs.«01_k».proof.Proof.UpInputValue
public import proofs.«01_k».proof.Proof.UpWeightValue
public import proofs.«01_k».proof.Proof.Down
public import proofs.«01_k».proof.Proof.DownInput
public import proofs.«01_k».proof.Proof.DownWeight
public import proofs.«01_k».proof.Proof.MergeOut
public import proofs.«01_k».proof.Proof.MergeOutInput
public import proofs.«01_k».proof.Proof.MergeOutWeight
public import proofs.«01_k».proof.Proof.Gate
public import proofs.«01_k».proof.Proof.GateInput
public import proofs.«01_k».proof.Proof.GateWeight
public import proofs.«01_k».proof.Proof.Branch
public import proofs.«01_k».proof.Proof.BranchInput
public import proofs.«01_k».proof.Proof.BranchWeight
public import proofs.«01_k».proof.Proof.UpWeightGate
public import proofs.«01_k».proof.Proof.Embedding
public import proofs.«01_k».proof.Proof.EmbeddingWeight
public import proofs.«01_k».proof.Proof.InSmall
public import proofs.«01_k».proof.Proof.InSmallWeight
public import proofs.«01_k».proof.Proof.InSmallInput
public import proofs.«01_k».proof.Proof.Attend3
public import proofs.«01_k».proof.Proof.Attend2
public import proofs.«01_k».proof.Proof.Attend1
public import proofs.«01_k».proof.Proof.Attend0
public import proofs.«01_k».proof.Proof.Back2
public import proofs.«01_k».proof.Proof.Back1
public import proofs.«01_k».proof.Proof.Back0
public import proofs.«01_k».proof.Proof.Norm
public import proofs.«01_k».proof.Proof.NormGrad
public import proofs.«01_k».proof.Proof.Gated
public import proofs.«01_k».proof.Proof.GatedGrad
public import proofs.«01_k».proof.Proof.Merge
public import proofs.«01_k».proof.Proof.MergeGrad
public import Idealize.ShloMosaic.Adequacy
public import Idealize.ShloMosaic.Init

@[expose] public section

noncomputable section

namespace Cert.Proof

open Idealize.ShloMosaic Idealize.SL.Sem Cert.Kernel

/-- The reference's frame: no operation writes an argument, and the program declares no semaphore. -/
theorem frame_reference : Cert.quiescent_ReferenceIdeal := fun m g _ =>
  (θ_run Cert.ReferenceIdeal.defs _ _).mono
    (fun r h => ⟨fun c => (h c).2.2.2.2.2.2.2, sem_eq_zero_of_no_sems (by decide) r.2⟩)
    (Cert.ReferenceIdeal.Value.run (F := Ideal) m g)

theorem frame_reference2 : Cert.quiescent_Reference2Ideal := fun m g _ =>
  (θ_run Cert.Reference2Ideal.defs _ _).mono (fun r h => ⟨fun c => (h c).2, sem_eq_zero_of_no_sems (by decide) r.2⟩)
    (Cert.Reference2Ideal.Value.run (F := Ideal) m g)

theorem frame_reference3 : Cert.quiescent_Reference3Ideal := fun m g _ =>
  (θ_run Cert.Reference3Ideal.defs _ _).mono (fun r h => ⟨fun c => (h c).2, sem_eq_zero_of_no_sems (by decide) r.2⟩)
    (Cert.Reference3Ideal.Value.run (F := Ideal) m g)

theorem frame_reference4 : Cert.quiescent_Reference4Ideal := fun m g _ =>
  (θ_run Cert.Reference4Ideal.defs _ _).mono (fun r h => ⟨fun c => (h c).2, sem_eq_zero_of_no_sems (by decide) r.2⟩)
    (Cert.Reference4Ideal.Value.run (F := Ideal) m g)

theorem frame_reference5 : Cert.quiescent_Reference5Ideal := fun m g _ =>
  (θ_run Cert.Reference5Ideal.defs _ _).mono (fun r h => ⟨fun c => (h c).2, sem_eq_zero_of_no_sems (by decide) r.2⟩)
    (Cert.Reference5Ideal.Value.run (F := Ideal) m g)

theorem frame_reference6 : Cert.quiescent_Reference6Ideal := fun m g _ =>
  (θ_run Cert.Reference6Ideal.defs _ _).mono (fun r h => ⟨fun c => (h c).2, sem_eq_zero_of_no_sems (by decide) r.2⟩)
    (Cert.Reference6Ideal.Value.run (F := Ideal) m g)

theorem frame_reference7 : Cert.quiescent_Reference7Ideal := fun m g _ =>
  (θ_run Cert.Reference7Ideal.defs _ _).mono (fun r h => ⟨fun c => (h c).2, sem_eq_zero_of_no_sems (by decide) r.2⟩)
    (Cert.Reference7Ideal.Value.run (F := Ideal) m g)

theorem frame_reference8 : Cert.quiescent_Reference8Ideal := fun m g _ =>
  (θ_run Cert.Reference8Ideal.defs _ _).mono (fun r h => ⟨fun c => (h c).2, sem_eq_zero_of_no_sems (by decide) r.2⟩)
    (Cert.Reference8Ideal.Value.run (F := Ideal) m g)

theorem frame_reference9 : Cert.quiescent_Reference9Ideal := fun m g _ =>
  (θ_run Cert.Reference9Ideal.defs _ _).mono (fun r h => ⟨fun c => (h c).2, sem_eq_zero_of_no_sems (by decide) r.2⟩)
    (Cert.Reference9Ideal.Value.run (F := Ideal) m g)

theorem frame_reference10 : Cert.quiescent_Reference10Ideal := fun m g _ =>
  (θ_run Cert.Reference10Ideal.defs _ _).mono (fun r h => ⟨fun c => (h c).2, sem_eq_zero_of_no_sems (by decide) r.2⟩)
    (Cert.Reference10Ideal.Value.run (F := Ideal) m g)

theorem frame_reference11 : Cert.quiescent_Reference11Ideal := fun m g _ =>
  (θ_run Cert.Reference11Ideal.defs _ _).mono (fun r h => ⟨fun c => (h c).2, sem_eq_zero_of_no_sems (by decide) r.2⟩)
    (Cert.Reference11Ideal.Value.run (F := Ideal) m g)

theorem frame_reference12 : Cert.quiescent_Reference12Ideal := fun m g _ =>
  (θ_run Cert.Reference12Ideal.defs _ _).mono (fun r h => ⟨fun c => (h c).2, sem_eq_zero_of_no_sems (by decide) r.2⟩)
    (Cert.Reference12Ideal.Value.run (F := Ideal) m g)

theorem frame_reference13 : Cert.quiescent_Reference13Ideal := fun m g _ =>
  (θ_run Cert.Reference13Ideal.defs _ _).mono (fun r h => ⟨fun c => (h c).2, sem_eq_zero_of_no_sems (by decide) r.2⟩)
    (Cert.Reference13Ideal.Value.run (F := Ideal) m g)

theorem frame_reference14 : Cert.quiescent_Reference14Ideal := fun m g _ =>
  (θ_run Cert.Reference14Ideal.defs _ _).mono (fun r h => ⟨fun c => (h c).2, sem_eq_zero_of_no_sems (by decide) r.2⟩)
    (Cert.Reference14Ideal.Value.run (F := Ideal) m g)

theorem frame_reference15 : Cert.quiescent_Reference15Ideal := fun m g _ =>
  (θ_run Cert.Reference15Ideal.defs _ _).mono (fun r h => ⟨fun c => (h c).2, sem_eq_zero_of_no_sems (by decide) r.2⟩)
    (Cert.Reference15Ideal.Value.run (F := Ideal) m g)

theorem frame_reference16 : Cert.quiescent_Reference16Ideal := fun m g _ =>
  (θ_run Cert.Reference16Ideal.defs _ _).mono (fun r h => ⟨fun c => (h c).2, sem_eq_zero_of_no_sems (by decide) r.2⟩)
    (Cert.Reference16Ideal.Value.run (F := Ideal) m g)

theorem frame_reference17 : Cert.quiescent_Reference17Ideal := fun m g _ =>
  (θ_run Cert.Reference17Ideal.defs _ _).mono (fun r h => ⟨fun c => (h c).2, sem_eq_zero_of_no_sems (by decide) r.2⟩)
    (Cert.Reference17Ideal.Value.run (F := Ideal) m g)

theorem frame_reference18 : Cert.quiescent_Reference18Ideal := fun m g _ =>
  (θ_run Cert.Reference18Ideal.defs _ _).mono (fun r h => ⟨fun c => (h c).2, sem_eq_zero_of_no_sems (by decide) r.2⟩)
    (Cert.Reference18Ideal.Value.run (F := Ideal) m g)

theorem frame_reference19 : Cert.quiescent_Reference19Ideal := fun m g _ =>
  (θ_run Cert.Reference19Ideal.defs _ _).mono (fun r h => ⟨fun c => (h c).2, sem_eq_zero_of_no_sems (by decide) r.2⟩)
    (Cert.Reference19Ideal.Value.run (F := Ideal) m g)

theorem frame_reference20 : Cert.quiescent_Reference20Ideal := fun m g _ =>
  (θ_run Cert.Reference20Ideal.defs _ _).mono (fun r h => ⟨fun c => (h c).2, sem_eq_zero_of_no_sems (by decide) r.2⟩)
    (Cert.Reference20Ideal.Value.run (F := Ideal) m g)

theorem frame_reference21 : Cert.quiescent_Reference21Ideal := fun m g _ =>
  (θ_run Cert.Reference21Ideal.defs _ _).mono (fun r h => ⟨fun c => (h c).2, sem_eq_zero_of_no_sems (by decide) r.2⟩)
    (Cert.Reference21Ideal.Value.run (F := Ideal) m g)

theorem frame_reference22 : Cert.quiescent_Reference22Ideal := fun m g _ =>
  (θ_run Cert.Reference22Ideal.defs _ _).mono (fun r h => ⟨fun c => (h c).2, sem_eq_zero_of_no_sems (by decide) r.2⟩)
    (Cert.Reference22Ideal.Value.run (F := Ideal) m g)

theorem frame_reference23 : Cert.quiescent_Reference23Ideal := fun m g _ =>
  (θ_run Cert.Reference23Ideal.defs _ _).mono (fun r h => ⟨fun c => (h c).2, sem_eq_zero_of_no_sems (by decide) r.2⟩)
    (Cert.Reference23Ideal.Value.run (F := Ideal) m g)

theorem frame_reference24 : Cert.quiescent_Reference24Ideal := fun m g _ =>
  (θ_run Cert.Reference24Ideal.defs _ _).mono (fun r h => ⟨fun c => (h c).2, sem_eq_zero_of_no_sems (by decide) r.2⟩)
    (Cert.Reference24Ideal.Value.run (F := Ideal) m g)

theorem frame_reference25 : Cert.quiescent_Reference25Ideal := fun m g _ =>
  (θ_run Cert.Reference25Ideal.defs _ _).mono (fun r h => ⟨fun c => (h c).2, sem_eq_zero_of_no_sems (by decide) r.2⟩)
    (Cert.Reference25Ideal.Value.run (F := Ideal) m g)

theorem frame_reference26 : Cert.quiescent_Reference26Ideal := fun m g _ =>
  (θ_run Cert.Reference26Ideal.defs _ _).mono (fun r h => ⟨fun c => (h c).2, sem_eq_zero_of_no_sems (by decide) r.2⟩)
    (Cert.Reference26Ideal.Value.run (F := Ideal) m g)

theorem frame_reference27 : Cert.quiescent_Reference27Ideal := fun m g _ =>
  (θ_run Cert.Reference27Ideal.defs _ _).mono (fun r h => ⟨fun c => (h c).2, sem_eq_zero_of_no_sems (by decide) r.2⟩)
    (Cert.Reference27Ideal.Value.run (F := Ideal) m g)

theorem frame_reference28 : Cert.quiescent_Reference28Ideal := fun m g _ =>
  (θ_run Cert.Reference28Ideal.defs _ _).mono (fun r h => ⟨fun c => (h c).2, sem_eq_zero_of_no_sems (by decide) r.2⟩)
    (Cert.Reference28Ideal.Value.run (F := Ideal) m g)

theorem frame_reference29 : Cert.quiescent_Reference29Ideal := fun m g _ =>
  (θ_run Cert.Reference29Ideal.defs _ _).mono (fun r h => ⟨fun c => (h c).2, sem_eq_zero_of_no_sems (by decide) r.2⟩)
    (Cert.Reference29Ideal.Value.run (F := Ideal) m g)

theorem frame_reference30 : Cert.quiescent_Reference30Ideal := fun m g _ =>
  (θ_run Cert.Reference30Ideal.defs _ _).mono (fun r h => ⟨fun c => (h c).2, sem_eq_zero_of_no_sems (by decide) r.2⟩)
    (Cert.Reference30Ideal.Value.run (F := Ideal) m g)

theorem frame_reference31 : Cert.quiescent_Reference31Ideal := fun m g _ =>
  (θ_run Cert.Reference31Ideal.defs _ _).mono (fun r h => ⟨fun c => (h c).2, sem_eq_zero_of_no_sems (by decide) r.2⟩)
    (Cert.Reference31Ideal.Value.run (F := Ideal) m g)

theorem frame_reference32 : Cert.quiescent_Reference32Ideal := fun m g _ =>
  (θ_run Cert.Reference32Ideal.defs _ _).mono (fun r h => ⟨fun c => (h c).2.2.2.2.2.2.2, sem_eq_zero_of_no_sems (by decide) r.2⟩)
    (Cert.Reference32Ideal.Value.run (F := Ideal) m g)

theorem frame_reference33 : Cert.quiescent_Reference33Ideal := fun m g _ =>
  (θ_run Cert.Reference33Ideal.defs _ _).mono (fun r h => ⟨fun c => (h c).2.2.2.2.2.2.2, sem_eq_zero_of_no_sems (by decide) r.2⟩)
    (Cert.Reference33Ideal.Value.run (F := Ideal) m g)

theorem frame_reference34 : Cert.quiescent_Reference34Ideal := fun m g _ =>
  (θ_run Cert.Reference34Ideal.defs _ _).mono (fun r h => ⟨fun c => (h c).2.2.2.2.2.2.2, sem_eq_zero_of_no_sems (by decide) r.2⟩)
    (Cert.Reference34Ideal.Value.run (F := Ideal) m g)

theorem frame_reference35 : Cert.quiescent_Reference35Ideal := fun m g _ =>
  (θ_run Cert.Reference35Ideal.defs _ _).mono (fun r h => ⟨fun c => (h c).2, sem_eq_zero_of_no_sems (by decide) r.2⟩)
    (Cert.Reference35Ideal.Value.run (F := Ideal) m g)

theorem frame_reference36 : Cert.quiescent_Reference36Ideal := fun m g _ =>
  (θ_run Cert.Reference36Ideal.defs _ _).mono (fun r h => ⟨fun c => (h c).2.2, sem_eq_zero_of_no_sems (by decide) r.2⟩)
    (Cert.Reference36Ideal.Value.run (F := Ideal) m g)

theorem frame_reference37 : Cert.quiescent_Reference37Ideal := fun m g _ =>
  (θ_run Cert.Reference37Ideal.defs _ _).mono (fun r h => ⟨fun c => (h c).2, sem_eq_zero_of_no_sems (by decide) r.2⟩)
    (Cert.Reference37Ideal.Value.run (F := Ideal) m g)

theorem frame_reference38 : Cert.quiescent_Reference38Ideal := fun m g _ =>
  (θ_run Cert.Reference38Ideal.defs _ _).mono (fun r h => ⟨fun c => (h c).2.2, sem_eq_zero_of_no_sems (by decide) r.2⟩)
    (Cert.Reference38Ideal.Value.run (F := Ideal) m g)

theorem frame_reference39 : Cert.quiescent_Reference39Ideal := fun m g _ =>
  (θ_run Cert.Reference39Ideal.defs _ _).mono (fun r h => ⟨fun c => (h c).2, sem_eq_zero_of_no_sems (by decide) r.2⟩)
    (Cert.Reference39Ideal.Value.run (F := Ideal) m g)

theorem frame_reference40 : Cert.quiescent_Reference40Ideal := fun m g _ =>
  (θ_run Cert.Reference40Ideal.defs _ _).mono (fun r h => ⟨fun c => (h c).2.2.2.2.2.2, sem_eq_zero_of_no_sems (by decide) r.2⟩)
    (Cert.Reference40Ideal.Value.run (F := Ideal) m g)

/-- The claim: for each program the frames of the kernel, of its idealization and of the reference; the idealizations
change nothing except that those of the attention name one constant, the mask's; and they compute what their references
compute. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Kernel23.Gen.facts, Cert.Kernel23Ideal.Gen.facts, Cert.Reference23Ideal.Gen.facts,
  Cert.Kernel24.Gen.facts, Cert.Kernel24Ideal.Gen.facts, Cert.Reference24Ideal.Gen.facts,
  Cert.Kernel25.Gen.facts, Cert.Kernel25Ideal.Gen.facts, Cert.Reference25Ideal.Gen.facts,
  Cert.Kernel26.Gen.facts, Cert.Kernel26Ideal.Gen.facts, Cert.Reference26Ideal.Gen.facts,
  Cert.Kernel27.Gen.facts, Cert.Kernel27Ideal.Gen.facts, Cert.Reference27Ideal.Gen.facts,
  Cert.Kernel28.Gen.facts, Cert.Kernel28Ideal.Gen.facts, Cert.Reference28Ideal.Gen.facts,
  Cert.Kernel29.Gen.facts, Cert.Kernel29Ideal.Gen.facts, Cert.Reference29Ideal.Gen.facts,
  Cert.Kernel30.Gen.facts, Cert.Kernel30Ideal.Gen.facts, Cert.Reference30Ideal.Gen.facts,
  Cert.Kernel31.Gen.facts, Cert.Kernel31Ideal.Gen.facts, Cert.Reference31Ideal.Gen.facts,
  Cert.Kernel32.Gen.facts, Cert.Kernel32Ideal.Gen.facts, Cert.Reference32Ideal.Gen.facts,
  Cert.Kernel33.Gen.facts, Cert.Kernel33Ideal.Gen.facts, Cert.Reference33Ideal.Gen.facts,
  Cert.Kernel34.Gen.facts, Cert.Kernel34Ideal.Gen.facts, Cert.Reference34Ideal.Gen.facts,
  Cert.Kernel35.Gen.facts, Cert.Kernel35Ideal.Gen.facts, Cert.Reference35Ideal.Gen.facts,
  Cert.Kernel36.Gen.facts, Cert.Kernel36Ideal.Gen.facts, Cert.Reference36Ideal.Gen.facts,
  Cert.Kernel37.Gen.facts, Cert.Kernel37Ideal.Gen.facts, Cert.Reference37Ideal.Gen.facts,
  Cert.Kernel38.Gen.facts, Cert.Kernel38Ideal.Gen.facts, Cert.Reference38Ideal.Gen.facts,
  Cert.Kernel39.Gen.facts, Cert.Kernel39Ideal.Gen.facts, Cert.Reference39Ideal.Gen.facts,
  Cert.Kernel40.Gen.facts, Cert.Kernel40Ideal.Gen.facts, Cert.Reference40Ideal.Gen.facts,
  Cert.Pre_finite.Gen.facts, Cert.Pre_finite_scores.Gen.facts, Cert.Pre_finite_sums.Gen.facts, Cert.Pre_finite_sums_g1.Gen.facts, Cert.Pre_finite_sums_g0.Gen.facts,
  fun m g _ => Cert.Kernel.Gen.frame m g, fun m g _ => Cert.KernelIdeal.Gen.frame m g,
  fun m g _ => Cert.KernelIdeal.Gen.frame m g, frame_reference, fun m g _ => frame_reference m g trivial,
  fun m g _ => Cert.Kernel2.Gen.frame m g, fun m g _ => Cert.Kernel2Ideal.Gen.frame m g, frame_reference2,
  fun m g _ => Cert.Kernel3.Gen.frame m g, fun m g _ => Cert.Kernel3Ideal.Gen.frame m g, frame_reference3,
  fun m g _ => Cert.Kernel4.Gen.frame m g, fun m g _ => Cert.Kernel4Ideal.Gen.frame m g, frame_reference4,
  fun m g _ => Cert.Kernel5.Gen.frame m g, fun m g _ => Cert.Kernel5Ideal.Gen.frame m g, frame_reference5,
  fun m g _ => Cert.Kernel6.Gen.frame m g, fun m g _ => Cert.Kernel6Ideal.Gen.frame m g, frame_reference6,
  fun m g _ => Cert.Kernel7.Gen.frame m g, fun m g _ => Cert.Kernel7Ideal.Gen.frame m g, frame_reference7,
  fun m g _ => Cert.Kernel8.Gen.frame m g, fun m g _ => Cert.Kernel8Ideal.Gen.frame m g, frame_reference8,
  fun m g _ => Cert.Kernel9.Gen.frame m g, fun m g _ => Cert.Kernel9Ideal.Gen.frame m g, frame_reference9,
  fun m g _ => Cert.Kernel10.Gen.frame m g, fun m g _ => Cert.Kernel10Ideal.Gen.frame m g, frame_reference10,
  fun m g _ => Cert.Kernel11.Gen.frame m g, fun m g _ => Cert.Kernel11Ideal.Gen.frame m g, frame_reference11,
  fun m g _ => Cert.Kernel12.Gen.frame m g, fun m g _ => Cert.Kernel12Ideal.Gen.frame m g, frame_reference12,
  fun m g _ => Cert.Kernel13.Gen.frame m g, fun m g _ => Cert.Kernel13Ideal.Gen.frame m g, frame_reference13,
  fun m g _ => Cert.Kernel14.Gen.frame m g, fun m g _ => Cert.Kernel14Ideal.Gen.frame m g, frame_reference14,
  fun m g _ => Cert.Kernel15.Gen.frame m g, fun m g _ => Cert.Kernel15Ideal.Gen.frame m g, frame_reference15,
  fun m g _ => Cert.Kernel16.Gen.frame m g, fun m g _ => Cert.Kernel16Ideal.Gen.frame m g, frame_reference16,
  fun m g _ => Cert.Kernel17.Gen.frame m g, fun m g _ => Cert.Kernel17Ideal.Gen.frame m g, frame_reference17,
  fun m g _ => Cert.Kernel18.Gen.frame m g, fun m g _ => Cert.Kernel18Ideal.Gen.frame m g, frame_reference18,
  fun m g _ => Cert.Kernel19.Gen.frame m g, fun m g _ => Cert.Kernel19Ideal.Gen.frame m g, frame_reference19,
  fun m g _ => Cert.Kernel20.Gen.frame m g, fun m g _ => Cert.Kernel20Ideal.Gen.frame m g, frame_reference20,
  fun m g _ => Cert.Kernel21.Gen.frame m g, fun m g _ => Cert.Kernel21Ideal.Gen.frame m g, frame_reference21,
  fun m g _ => Cert.Kernel22.Gen.frame m g, fun m g _ => Cert.Kernel22Ideal.Gen.frame m g, frame_reference22,
  fun m g _ => Cert.Kernel23.Gen.frame m g, fun m g _ => Cert.Kernel23Ideal.Gen.frame m g, frame_reference23,
  fun m g _ => Cert.Kernel24.Gen.frame m g, fun m g _ => Cert.Kernel24Ideal.Gen.frame m g, frame_reference24,
  fun m g _ => Cert.Kernel25.Gen.frame m g, fun m g _ => Cert.Kernel25Ideal.Gen.frame m g, frame_reference25,
  fun m g _ => Cert.Kernel26.Gen.frame m g, fun m g _ => Cert.Kernel26Ideal.Gen.frame m g, frame_reference26,
  fun m g _ => Cert.Kernel27.Gen.frame m g, fun m g _ => Cert.Kernel27Ideal.Gen.frame m g, frame_reference27,
  fun m g _ => Cert.Kernel28.Gen.frame m g, fun m g _ => Cert.Kernel28Ideal.Gen.frame m g,
  fun m g _ => Cert.Kernel28Ideal.Gen.frame m g, frame_reference28, fun m g _ => frame_reference28 m g trivial,
  fun m g _ => Cert.Kernel29.Gen.frame m g, fun m g _ => Cert.Kernel29Ideal.Gen.frame m g,
  fun m g _ => Cert.Kernel29Ideal.Gen.frame m g, frame_reference29, fun m g _ => frame_reference29 m g trivial,
  fun m g _ => Cert.Kernel30.Gen.frame m g, fun m g _ => Cert.Kernel30Ideal.Gen.frame m g,
  fun m g _ => Cert.Kernel30Ideal.Gen.frame m g, frame_reference30, fun m g _ => frame_reference30 m g trivial,
  fun m g _ => Cert.Kernel31.Gen.frame m g, fun m g _ => Cert.Kernel31Ideal.Gen.frame m g,
  fun m g _ => Cert.Kernel31Ideal.Gen.frame m g, frame_reference31, fun m g _ => frame_reference31 m g trivial,
  fun m g _ => Cert.Kernel32.Gen.frame m g, fun m g _ => Cert.Kernel32Ideal.Gen.frame m g,
  fun m g _ => Cert.Kernel32Ideal.Gen.frame m g, frame_reference32, fun m g _ => frame_reference32 m g trivial,
  fun m g _ => Cert.Kernel33.Gen.frame m g, fun m g _ => Cert.Kernel33Ideal.Gen.frame m g,
  fun m g _ => Cert.Kernel33Ideal.Gen.frame m g, frame_reference33, fun m g _ => frame_reference33 m g trivial,
  fun m g _ => Cert.Kernel34.Gen.frame m g, fun m g _ => Cert.Kernel34Ideal.Gen.frame m g,
  fun m g _ => Cert.Kernel34Ideal.Gen.frame m g, frame_reference34, fun m g _ => frame_reference34 m g trivial,
  fun m g _ => Cert.Kernel35.Gen.frame m g, fun m g _ => Cert.Kernel35Ideal.Gen.frame m g, frame_reference35,
  fun m g _ => Cert.Kernel36.Gen.frame m g, fun m g _ => Cert.Kernel36Ideal.Gen.frame m g, frame_reference36,
  fun m g _ => Cert.Kernel37.Gen.frame m g, fun m g _ => Cert.Kernel37Ideal.Gen.frame m g, frame_reference37,
  fun m g _ => Cert.Kernel38.Gen.frame m g, fun m g _ => Cert.Kernel38Ideal.Gen.frame m g, frame_reference38,
  fun m g _ => Cert.Kernel39.Gen.frame m g, fun m g _ => Cert.Kernel39Ideal.Gen.frame m g, frame_reference39,
  fun m g _ => Cert.Kernel40.Gen.frame m g, fun m g _ => Cert.Kernel40Ideal.Gen.frame m g, frame_reference40,
  IdealRules.named_const.statement Cert.KernelIdeal.κ "mask" .f32 0xF149F2CA#32 ⊥ rfl, Cert.Gradient.algebraic,
  trivial, Cert.InProjWeight.algebraic,
  trivial, Cert.InProjInput.algebraic,
  trivial, Cert.InProj.algebraic,
  trivial, Cert.UpGate.algebraic,
  trivial, Cert.UpValue.algebraic,
  trivial, Cert.UpInputGate.algebraic,
  trivial, Cert.UpInputValue.algebraic,
  trivial, Cert.UpWeightValue.algebraic,
  trivial, Cert.Down.algebraic,
  trivial, Cert.DownInput.algebraic,
  trivial, Cert.DownWeight.algebraic,
  trivial, Cert.MergeOut.algebraic,
  trivial, Cert.MergeOutInput.algebraic,
  trivial, Cert.MergeOutWeight.algebraic,
  trivial, Cert.Gate.algebraic,
  trivial, Cert.GateInput.algebraic,
  trivial, Cert.GateWeight.algebraic,
  trivial, Cert.Branch.algebraic,
  trivial, Cert.BranchInput.algebraic,
  trivial, Cert.BranchWeight.algebraic,
  trivial, Cert.UpWeightGate.algebraic,
  trivial, Cert.Embedding.algebraic,
  trivial, Cert.EmbeddingWeight.algebraic,
  trivial, Cert.InSmall.algebraic,
  trivial, Cert.InSmallWeight.algebraic,
  trivial, Cert.InSmallInput.algebraic,
  IdealRules.named_const.statement Cert.Kernel28Ideal.κ "mask" .f32 0xF149F2CA#32 ⊥ rfl, Cert.Attend3.algebraic,
  IdealRules.named_const.statement Cert.Kernel29Ideal.κ "mask" .f32 0xF149F2CA#32 ⊥ rfl, Cert.Attend2.algebraic,
  IdealRules.named_const.statement Cert.Kernel30Ideal.κ "mask" .f32 0xF149F2CA#32 ⊥ rfl, Cert.Attend1.algebraic,
  IdealRules.named_const.statement Cert.Kernel31Ideal.κ "mask" .f32 0xF149F2CA#32 ⊥ rfl, Cert.Attend0.algebraic,
  IdealRules.named_const.statement Cert.Kernel32Ideal.κ "mask" .f32 0xF149F2CA#32 ⊥ rfl, Cert.Back2.algebraic,
  IdealRules.named_const.statement Cert.Kernel33Ideal.κ "mask" .f32 0xF149F2CA#32 ⊥ rfl, Cert.Back1.algebraic,
  IdealRules.named_const.statement Cert.Kernel34Ideal.κ "mask" .f32 0xF149F2CA#32 ⊥ rfl, Cert.Back0.algebraic,
  trivial, Cert.Norm.algebraic,
  trivial, Cert.NormGrad.algebraic,
  trivial, Cert.Gated.algebraic,
  trivial, Cert.GatedGrad.algebraic,
  trivial, Cert.Merge.algebraic,
  trivial, Cert.MergeGrad.algebraic⟩

end Cert.Proof

end
